-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11)) (m ((c.tc : Thread Cert.PostRefIdeal.nD Cert.PostRefIdeal.τ).loc Cert.PostRefIdeal.main_arg12)) (m ((c.tc : Thread Cert.PostRefIdeal.nD Cert.PostRefIdeal.τ).loc Cert.PostRefIdeal.main_arg13))) = (fun _ => 1#1)

def Pre_H0 (m : (ℓ : Loc Cert.H0.nD Cert.H0.τ Cert.H0.sig) → Buf (Elt Bits) ℓ) : Prop :=
  True

def Pre_H0Ideal (m : (ℓ : Loc Cert.H0Ideal.nD Cert.H0Ideal.τ Cert.H0Ideal.sig) → Buf (Elt Ideal) ℓ) : Prop :=
  True

def Pre_H0RefIdeal (m : (ℓ : Loc Cert.H0RefIdeal.nD Cert.H0RefIdeal.τ Cert.H0RefIdeal.sig) → Buf (Elt Ideal) ℓ) : Prop :=
  True

def Pre_Ao (m : (ℓ : Loc Cert.Ao.nD Cert.Ao.τ Cert.Ao.sig) → Buf (Elt Bits) ℓ) : Prop :=
  True

def Pre_AoIdeal (m : (ℓ : Loc Cert.AoIdeal.nD Cert.AoIdeal.τ Cert.AoIdeal.sig) → Buf (Elt Ideal) ℓ) : Prop :=
  True

def Pre_AoRefIdeal (m : (ℓ : Loc Cert.AoRefIdeal.nD Cert.AoRefIdeal.τ Cert.AoRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9)) (m ((c.tc : Thread Cert.FwdIdeal.nD Cert.FwdIdeal.τ).loc Cert.FwdIdeal.main_arg10)) (m ((c.tc : Thread Cert.FwdIdeal.nD Cert.FwdIdeal.τ).loc Cert.FwdIdeal.main_arg11))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9)) (m ((c.tc : Thread Cert.FwdRefIdeal.nD Cert.FwdRefIdeal.τ).loc Cert.FwdRefIdeal.main_arg10)) (m ((c.tc : Thread Cert.FwdRefIdeal.nD Cert.FwdRefIdeal.τ).loc Cert.FwdRefIdeal.main_arg11))) = (fun _ => 1#1)

def Pre_Mlf (m : (ℓ : Loc Cert.Mlf.nD Cert.Mlf.τ Cert.Mlf.sig) → Buf (Elt Bits) ℓ) : Prop :=
  True

def Pre_MlfIdeal (m : (ℓ : Loc Cert.MlfIdeal.nD Cert.MlfIdeal.τ Cert.MlfIdeal.sig) → Buf (Elt Ideal) ℓ) : Prop :=
  True

def Pre_MlfRefIdeal (m : (ℓ : Loc Cert.MlfRefIdeal.nD Cert.MlfRefIdeal.τ Cert.MlfRefIdeal.sig) → Buf (Elt Ideal) ℓ) : Prop :=
  True

def Pre_Prj (m : (ℓ : Loc Cert.Prj.nD Cert.Prj.τ Cert.Prj.sig) → Buf (Elt Bits) ℓ) : Prop :=
  True

def Pre_PrjIdeal (m : (ℓ : Loc Cert.PrjIdeal.nD Cert.PrjIdeal.τ Cert.PrjIdeal.sig) → Buf (Elt Ideal) ℓ) : Prop :=
  True

def Pre_PrjRefIdeal (m : (ℓ : Loc Cert.PrjRefIdeal.nD Cert.PrjRefIdeal.τ Cert.PrjRefIdeal.sig) → Buf (Elt Ideal) ℓ) : Prop :=
  True

def Pre_Scan (m : (ℓ : Loc Cert.Scan.nD Cert.Scan.τ Cert.Scan.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def quiescent_H0 [hH0 : Cert.H0.Facts] : Prop :=
  ∀ (m : (ℓ : Loc Cert.H0.nD Cert.H0.τ Cert.H0.sig) → Buf (Elt Bits) ℓ) (g : Dev Cert.H0.nD → PrngReg), Pre_H0 m →
    θ_run (Cert.H0.defs (F := Bits)) (onTc (τ := Cert.H0.τ) (Cert.H0.main (F := Bits))) ⟨m, fun _ => 0, g⟩ (fun r => (∀ c : Dev Cert.H0.nD,
      r.2.mem ((c.tc : Thread Cert.H0.nD Cert.H0.τ).loc Cert.H0.main_arg0) = m ((c.tc : Thread Cert.H0.nD Cert.H0.τ).loc Cert.H0.main_arg0)
      ∧ r.2.mem ((c.tc : Thread Cert.H0.nD Cert.H0.τ).loc Cert.H0.main_arg1) = m ((c.tc : Thread Cert.H0.nD Cert.H0.τ).loc Cert.H0.main_arg1)
      ∧ r.2.mem ((c.tc : Thread Cert.H0.nD Cert.H0.τ).loc Cert.H0.main_arg2) = m ((c.tc : Thread Cert.H0.nD Cert.H0.τ).loc Cert.H0.main_arg2))
      ∧ r.2.sem = fun _ => 0)

def quiescent_H0Ideal [hH0Ideal : Cert.H0Ideal.Facts] : Prop :=
  ∀ (m : (ℓ : Loc Cert.H0Ideal.nD Cert.H0Ideal.τ Cert.H0Ideal.sig) → Buf (Elt Ideal) ℓ) (g : Dev Cert.H0Ideal.nD → PrngReg), Pre_H0Ideal m →
    θ_run (Cert.H0Ideal.defs (F := Ideal)) (onTc (τ := Cert.H0Ideal.τ) (Cert.H0Ideal.main (F := Ideal))) ⟨m, fun _ => 0, g⟩ (fun r => (∀ c : Dev Cert.H0Ideal.nD,
      r.2.mem ((c.tc : Thread Cert.H0Ideal.nD Cert.H0Ideal.τ).loc Cert.H0Ideal.main_arg0) = m ((c.tc : Thread Cert.H0Ideal.nD Cert.H0Ideal.τ).loc Cert.H0Ideal.main_arg0)
      ∧ r.2.mem ((c.tc : Thread Cert.H0Ideal.nD Cert.H0Ideal.τ).loc Cert.H0Ideal.main_arg1) = m ((c.tc : Thread Cert.H0Ideal.nD Cert.H0Ideal.τ).loc Cert.H0Ideal.main_arg1)
      ∧ r.2.mem ((c.tc : Thread Cert.H0Ideal.nD Cert.H0Ideal.τ).loc Cert.H0Ideal.main_arg2) = m ((c.tc : Thread Cert.H0Ideal.nD Cert.H0Ideal.τ).loc Cert.H0Ideal.main_arg2))
      ∧ r.2.sem = fun _ => 0)

def quiescent_H0RefIdeal [hH0RefIdeal : Cert.H0RefIdeal.Facts] : Prop :=
  ∀ (m : (ℓ : Loc Cert.H0RefIdeal.nD Cert.H0RefIdeal.τ Cert.H0RefIdeal.sig) → Buf (Elt Ideal) ℓ) (g : Dev Cert.H0RefIdeal.nD → PrngReg), Pre_H0RefIdeal m →
    θ_run (Cert.H0RefIdeal.defs (F := Ideal)) (onTc (τ := Cert.H0RefIdeal.τ) (Cert.H0RefIdeal.main (F := Ideal))) ⟨m, fun _ => 0, g⟩ (fun r => (∀ c : Dev Cert.H0RefIdeal.nD,
      r.2.mem ((c.tc : Thread Cert.H0RefIdeal.nD Cert.H0RefIdeal.τ).loc Cert.H0RefIdeal.main_arg0) = m ((c.tc : Thread Cert.H0RefIdeal.nD Cert.H0RefIdeal.τ).loc Cert.H0RefIdeal.main_arg0)
      ∧ r.2.mem ((c.tc : Thread Cert.H0RefIdeal.nD Cert.H0RefIdeal.τ).loc Cert.H0RefIdeal.main_arg1) = m ((c.tc : Thread Cert.H0RefIdeal.nD Cert.H0RefIdeal.τ).loc Cert.H0RefIdeal.main_arg1)
      ∧ r.2.mem ((c.tc : Thread Cert.H0RefIdeal.nD Cert.H0RefIdeal.τ).loc Cert.H0RefIdeal.main_arg2) = m ((c.tc : Thread Cert.H0RefIdeal.nD Cert.H0RefIdeal.τ).loc Cert.H0RefIdeal.main_arg2))
      ∧ r.2.sem = fun _ => 0)

def quiescent_Ao [hAo : Cert.Ao.Facts] : Prop :=
  ∀ (m : (ℓ : Loc Cert.Ao.nD Cert.Ao.τ Cert.Ao.sig) → Buf (Elt Bits) ℓ) (g : Dev Cert.Ao.nD → PrngReg), Pre_Ao m →
    θ_run (Cert.Ao.defs (F := Bits)) (onTc (τ := Cert.Ao.τ) (Cert.Ao.main (F := Bits))) ⟨m, fun _ => 0, g⟩ (fun r => (∀ c : Dev Cert.Ao.nD,
      r.2.mem ((c.tc : Thread Cert.Ao.nD Cert.Ao.τ).loc Cert.Ao.main_arg0) = m ((c.tc : Thread Cert.Ao.nD Cert.Ao.τ).loc Cert.Ao.main_arg0)
      ∧ r.2.mem ((c.tc : Thread Cert.Ao.nD Cert.Ao.τ).loc Cert.Ao.main_arg1) = m ((c.tc : Thread Cert.Ao.nD Cert.Ao.τ).loc Cert.Ao.main_arg1)
      ∧ r.2.mem ((c.tc : Thread Cert.Ao.nD Cert.Ao.τ).loc Cert.Ao.main_arg2) = m ((c.tc : Thread Cert.Ao.nD Cert.Ao.τ).loc Cert.Ao.main_arg2)
      ∧ r.2.mem ((c.tc : Thread Cert.Ao.nD Cert.Ao.τ).loc Cert.Ao.main_arg3) = m ((c.tc : Thread Cert.Ao.nD Cert.Ao.τ).loc Cert.Ao.main_arg3)
      ∧ r.2.mem ((c.tc : Thread Cert.Ao.nD Cert.Ao.τ).loc Cert.Ao.main_arg4) = m ((c.tc : Thread Cert.Ao.nD Cert.Ao.τ).loc Cert.Ao.main_arg4))
      ∧ r.2.sem = fun _ => 0)

def quiescent_AoIdeal [hAoIdeal : Cert.AoIdeal.Facts] : Prop :=
  ∀ (m : (ℓ : Loc Cert.AoIdeal.nD Cert.AoIdeal.τ Cert.AoIdeal.sig) → Buf (Elt Ideal) ℓ) (g : Dev Cert.AoIdeal.nD → PrngReg), Pre_AoIdeal m →
    θ_run (Cert.AoIdeal.defs (F := Ideal)) (onTc (τ := Cert.AoIdeal.τ) (Cert.AoIdeal.main (F := Ideal))) ⟨m, fun _ => 0, g⟩ (fun r => (∀ c : Dev Cert.AoIdeal.nD,
      r.2.mem ((c.tc : Thread Cert.AoIdeal.nD Cert.AoIdeal.τ).loc Cert.AoIdeal.main_arg0) = m ((c.tc : Thread Cert.AoIdeal.nD Cert.AoIdeal.τ).loc Cert.AoIdeal.main_arg0)
      ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
      ∧ r.2.mem ((c.tc : Thread Cert.AoIdeal.nD Cert.AoIdeal.τ).loc Cert.AoIdeal.main_arg2) = m ((c.tc : Thread Cert.AoIdeal.nD Cert.AoIdeal.τ).loc Cert.AoIdeal.main_arg2)
      ∧ r.2.mem ((c.tc : Thread Cert.AoIdeal.nD Cert.AoIdeal.τ).loc Cert.AoIdeal.main_arg3) = m ((c.tc : Thread Cert.AoIdeal.nD Cert.AoIdeal.τ).loc Cert.AoIdeal.main_arg3)
      ∧ r.2.mem ((c.tc : Thread Cert.AoIdeal.nD Cert.AoIdeal.τ).loc Cert.AoIdeal.main_arg4) = m ((c.tc : Thread Cert.AoIdeal.nD Cert.AoIdeal.τ).loc Cert.AoIdeal.main_arg4))
      ∧ r.2.sem = fun _ => 0)

def quiescent_AoRefIdeal [hAoRefIdeal : Cert.AoRefIdeal.Facts] : Prop :=
  ∀ (m : (ℓ : Loc Cert.AoRefIdeal.nD Cert.AoRefIdeal.τ Cert.AoRefIdeal.sig) → Buf (Elt Ideal) ℓ) (g : Dev Cert.AoRefIdeal.nD → PrngReg), Pre_AoRefIdeal m →
    θ_run (Cert.AoRefIdeal.defs (F := Ideal)) (onTc (τ := Cert.AoRefIdeal.τ) (Cert.AoRefIdeal.main (F := Ideal))) ⟨m, fun _ => 0, g⟩ (fun r => (∀ c : Dev Cert.AoRefIdeal.nD,
      r.2.mem ((c.tc : Thread Cert.AoRefIdeal.nD Cert.AoRefIdeal.τ).loc Cert.AoRefIdeal.main_arg0) = m ((c.tc : Thread Cert.AoRefIdeal.nD Cert.AoRefIdeal.τ).loc Cert.AoRefIdeal.main_arg0)
      ∧ r.2.mem ((c.tc : Thread Cert.AoRefIdeal.nD Cert.AoRefIdeal.τ).loc Cert.AoRefIdeal.main_arg1) = m ((c.tc : Thread Cert.AoRefIdeal.nD Cert.AoRefIdeal.τ).loc Cert.AoRefIdeal.main_arg1)
      ∧ r.2.mem ((c.tc : Thread Cert.AoRefIdeal.nD Cert.AoRefIdeal.τ).loc Cert.AoRefIdeal.main_arg2) = m ((c.tc : Thread Cert.AoRefIdeal.nD Cert.AoRefIdeal.τ).loc Cert.AoRefIdeal.main_arg2)
      ∧ r.2.mem ((c.tc : Thread Cert.AoRefIdeal.nD Cert.AoRefIdeal.τ).loc Cert.AoRefIdeal.main_arg3) = m ((c.tc : Thread Cert.AoRefIdeal.nD Cert.AoRefIdeal.τ).loc Cert.AoRefIdeal.main_arg3)
      ∧ r.2.mem ((c.tc : Thread Cert.AoRefIdeal.nD Cert.AoRefIdeal.τ).loc Cert.AoRefIdeal.main_arg4) = m ((c.tc : Thread Cert.AoRefIdeal.nD Cert.AoRefIdeal.τ).loc Cert.AoRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10)
      ∧ r.2.mem ((c.tc : Thread Cert.Fwd.nD Cert.Fwd.τ).loc Cert.Fwd.main_arg11) = m ((c.tc : Thread Cert.Fwd.nD Cert.Fwd.τ).loc Cert.Fwd.main_arg11))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
      ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
      ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10)
      ∧ r.2.mem ((c.tc : Thread Cert.FwdRefIdeal.nD Cert.FwdRefIdeal.τ).loc Cert.FwdRefIdeal.main_arg11) = m ((c.tc : Thread Cert.FwdRefIdeal.nD Cert.FwdRefIdeal.τ).loc Cert.FwdRefIdeal.main_arg11))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10)
      ∧ r.2.mem ((c.tc : Thread Cert.FwdRefIdeal.nD Cert.FwdRefIdeal.τ).loc Cert.FwdRefIdeal.main_arg11) = m ((c.tc : Thread Cert.FwdRefIdeal.nD Cert.FwdRefIdeal.τ).loc Cert.FwdRefIdeal.main_arg11))
      ∧ r.2.sem = fun _ => 0)

def quiescent_Mlf [hMlf : Cert.Mlf.Facts] : Prop :=
  ∀ (m : (ℓ : Loc Cert.Mlf.nD Cert.Mlf.τ Cert.Mlf.sig) → Buf (Elt Bits) ℓ) (g : Dev Cert.Mlf.nD → PrngReg), Pre_Mlf m →
    θ_run (Cert.Mlf.defs (F := Bits)) (onTc (τ := Cert.Mlf.τ) (Cert.Mlf.main (F := Bits))) ⟨m, fun _ => 0, g⟩ (fun r => (∀ c : Dev Cert.Mlf.nD,
      r.2.mem ((c.tc : Thread Cert.Mlf.nD Cert.Mlf.τ).loc Cert.Mlf.main_arg0) = m ((c.tc : Thread Cert.Mlf.nD Cert.Mlf.τ).loc Cert.Mlf.main_arg0)
      ∧ r.2.mem ((c.tc : Thread Cert.Mlf.nD Cert.Mlf.τ).loc Cert.Mlf.main_arg1) = m ((c.tc : Thread Cert.Mlf.nD Cert.Mlf.τ).loc Cert.Mlf.main_arg1)
      ∧ r.2.mem ((c.tc : Thread Cert.Mlf.nD Cert.Mlf.τ).loc Cert.Mlf.main_arg2) = m ((c.tc : Thread Cert.Mlf.nD Cert.Mlf.τ).loc Cert.Mlf.main_arg2)
      ∧ r.2.mem ((c.tc : Thread Cert.Mlf.nD Cert.Mlf.τ).loc Cert.Mlf.main_arg3) = m ((c.tc : Thread Cert.Mlf.nD Cert.Mlf.τ).loc Cert.Mlf.main_arg3)
      ∧ r.2.mem ((c.tc : Thread Cert.Mlf.nD Cert.Mlf.τ).loc Cert.Mlf.main_arg4) = m ((c.tc : Thread Cert.Mlf.nD Cert.Mlf.τ).loc Cert.Mlf.main_arg4))
      ∧ r.2.sem = fun _ => 0)

def quiescent_MlfIdeal [hMlfIdeal : Cert.MlfIdeal.Facts] : Prop :=
  ∀ (m : (ℓ : Loc Cert.MlfIdeal.nD Cert.MlfIdeal.τ Cert.MlfIdeal.sig) → Buf (Elt Ideal) ℓ) (g : Dev Cert.MlfIdeal.nD → PrngReg), Pre_MlfIdeal m →
    θ_run (Cert.MlfIdeal.defs (F := Ideal)) (onTc (τ := Cert.MlfIdeal.τ) (Cert.MlfIdeal.main (F := Ideal))) ⟨m, fun _ => 0, g⟩ (fun r => (∀ c : Dev Cert.MlfIdeal.nD,
      r.2.mem ((c.tc : Thread Cert.MlfIdeal.nD Cert.MlfIdeal.τ).loc Cert.MlfIdeal.main_arg0) = m ((c.tc : Thread Cert.MlfIdeal.nD Cert.MlfIdeal.τ).loc Cert.MlfIdeal.main_arg0)
      ∧ r.2.mem ((c.tc : Thread Cert.MlfIdeal.nD Cert.MlfIdeal.τ).loc Cert.MlfIdeal.main_arg1) = m ((c.tc : Thread Cert.MlfIdeal.nD Cert.MlfIdeal.τ).loc Cert.MlfIdeal.main_arg1)
      ∧ r.2.mem ((c.tc : Thread Cert.MlfIdeal.nD Cert.MlfIdeal.τ).loc Cert.MlfIdeal.main_arg2) = m ((c.tc : Thread Cert.MlfIdeal.nD Cert.MlfIdeal.τ).loc Cert.MlfIdeal.main_arg2)
      ∧ r.2.mem ((c.tc : Thread Cert.MlfIdeal.nD Cert.MlfIdeal.τ).loc Cert.MlfIdeal.main_arg3) = m ((c.tc : Thread Cert.MlfIdeal.nD Cert.MlfIdeal.τ).loc Cert.MlfIdeal.main_arg3)
      ∧ r.2.mem ((c.tc : Thread Cert.MlfIdeal.nD Cert.MlfIdeal.τ).loc Cert.MlfIdeal.main_arg4) = m ((c.tc : Thread Cert.MlfIdeal.nD Cert.MlfIdeal.τ).loc Cert.MlfIdeal.main_arg4))
      ∧ r.2.sem = fun _ => 0)

def quiescent_MlfRefIdeal [hMlfRefIdeal : Cert.MlfRefIdeal.Facts] : Prop :=
  ∀ (m : (ℓ : Loc Cert.MlfRefIdeal.nD Cert.MlfRefIdeal.τ Cert.MlfRefIdeal.sig) → Buf (Elt Ideal) ℓ) (g : Dev Cert.MlfRefIdeal.nD → PrngReg), Pre_MlfRefIdeal m →
    θ_run (Cert.MlfRefIdeal.defs (F := Ideal)) (onTc (τ := Cert.MlfRefIdeal.τ) (Cert.MlfRefIdeal.main (F := Ideal))) ⟨m, fun _ => 0, g⟩ (fun r => (∀ c : Dev Cert.MlfRefIdeal.nD,
      r.2.mem ((c.tc : Thread Cert.MlfRefIdeal.nD Cert.MlfRefIdeal.τ).loc Cert.MlfRefIdeal.main_arg0) = m ((c.tc : Thread Cert.MlfRefIdeal.nD Cert.MlfRefIdeal.τ).loc Cert.MlfRefIdeal.main_arg0)
      ∧ r.2.mem ((c.tc : Thread Cert.MlfRefIdeal.nD Cert.MlfRefIdeal.τ).loc Cert.MlfRefIdeal.main_arg1) = m ((c.tc : Thread Cert.MlfRefIdeal.nD Cert.MlfRefIdeal.τ).loc Cert.MlfRefIdeal.main_arg1)
      ∧ r.2.mem ((c.tc : Thread Cert.MlfRefIdeal.nD Cert.MlfRefIdeal.τ).loc Cert.MlfRefIdeal.main_arg2) = m ((c.tc : Thread Cert.MlfRefIdeal.nD Cert.MlfRefIdeal.τ).loc Cert.MlfRefIdeal.main_arg2)
      ∧ r.2.mem ((c.tc : Thread Cert.MlfRefIdeal.nD Cert.MlfRefIdeal.τ).loc Cert.MlfRefIdeal.main_arg3) = m ((c.tc : Thread Cert.MlfRefIdeal.nD Cert.MlfRefIdeal.τ).loc Cert.MlfRefIdeal.main_arg3)
      ∧ r.2.mem ((c.tc : Thread Cert.MlfRefIdeal.nD Cert.MlfRefIdeal.τ).loc Cert.MlfRefIdeal.main_arg4) = m ((c.tc : Thread Cert.MlfRefIdeal.nD Cert.MlfRefIdeal.τ).loc Cert.MlfRefIdeal.main_arg4))
      ∧ r.2.sem = fun _ => 0)

def quiescent_Prj [hPrj : Cert.Prj.Facts] : Prop :=
  ∀ (m : (ℓ : Loc Cert.Prj.nD Cert.Prj.τ Cert.Prj.sig) → Buf (Elt Bits) ℓ) (g : Dev Cert.Prj.nD → PrngReg), Pre_Prj m →
    θ_run (Cert.Prj.defs (F := Bits)) (onTc (τ := Cert.Prj.τ) (Cert.Prj.main (F := Bits))) ⟨m, fun _ => 0, g⟩ (fun r => (∀ c : Dev Cert.Prj.nD,
      r.2.mem ((c.tc : Thread Cert.Prj.nD Cert.Prj.τ).loc Cert.Prj.main_arg0) = m ((c.tc : Thread Cert.Prj.nD Cert.Prj.τ).loc Cert.Prj.main_arg0)
      ∧ r.2.mem ((c.tc : Thread Cert.Prj.nD Cert.Prj.τ).loc Cert.Prj.main_arg1) = m ((c.tc : Thread Cert.Prj.nD Cert.Prj.τ).loc Cert.Prj.main_arg1)
      ∧ r.2.mem ((c.tc : Thread Cert.Prj.nD Cert.Prj.τ).loc Cert.Prj.main_arg2) = m ((c.tc : Thread Cert.Prj.nD Cert.Prj.τ).loc Cert.Prj.main_arg2)
      ∧ r.2.mem ((c.tc : Thread Cert.Prj.nD Cert.Prj.τ).loc Cert.Prj.main_arg3) = m ((c.tc : Thread Cert.Prj.nD Cert.Prj.τ).loc Cert.Prj.main_arg3))
      ∧ r.2.sem = fun _ => 0)

def quiescent_PrjIdeal [hPrjIdeal : Cert.PrjIdeal.Facts] : Prop :=
  ∀ (m : (ℓ : Loc Cert.PrjIdeal.nD Cert.PrjIdeal.τ Cert.PrjIdeal.sig) → Buf (Elt Ideal) ℓ) (g : Dev Cert.PrjIdeal.nD → PrngReg), Pre_PrjIdeal m →
    θ_run (Cert.PrjIdeal.defs (F := Ideal)) (onTc (τ := Cert.PrjIdeal.τ) (Cert.PrjIdeal.main (F := Ideal))) ⟨m, fun _ => 0, g⟩ (fun r => (∀ c : Dev Cert.PrjIdeal.nD,
      r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
      ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1)
      ∧ r.2.mem ((c.tc : Thread Cert.PrjIdeal.nD Cert.PrjIdeal.τ).loc Cert.PrjIdeal.main_arg2) = m ((c.tc : Thread Cert.PrjIdeal.nD Cert.PrjIdeal.τ).loc Cert.PrjIdeal.main_arg2)
      ∧ r.2.mem ((c.tc : Thread Cert.PrjIdeal.nD Cert.PrjIdeal.τ).loc Cert.PrjIdeal.main_arg3) = m ((c.tc : Thread Cert.PrjIdeal.nD Cert.PrjIdeal.τ).loc Cert.PrjIdeal.main_arg3))
      ∧ r.2.sem = fun _ => 0)

def quiescent_PrjRefIdeal [hPrjRefIdeal : Cert.PrjRefIdeal.Facts] : Prop :=
  ∀ (m : (ℓ : Loc Cert.PrjRefIdeal.nD Cert.PrjRefIdeal.τ Cert.PrjRefIdeal.sig) → Buf (Elt Ideal) ℓ) (g : Dev Cert.PrjRefIdeal.nD → PrngReg), Pre_PrjRefIdeal m →
    θ_run (Cert.PrjRefIdeal.defs (F := Ideal)) (onTc (τ := Cert.PrjRefIdeal.τ) (Cert.PrjRefIdeal.main (F := Ideal))) ⟨m, fun _ => 0, g⟩ (fun r => (∀ c : Dev Cert.PrjRefIdeal.nD,
      r.2.mem ((c.tc : Thread Cert.PrjRefIdeal.nD Cert.PrjRefIdeal.τ).loc Cert.PrjRefIdeal.main_arg0) = m ((c.tc : Thread Cert.PrjRefIdeal.nD Cert.PrjRefIdeal.τ).loc Cert.PrjRefIdeal.main_arg0)
      ∧ r.2.mem ((c.tc : Thread Cert.PrjRefIdeal.nD Cert.PrjRefIdeal.τ).loc Cert.PrjRefIdeal.main_arg1) = m ((c.tc : Thread Cert.PrjRefIdeal.nD Cert.PrjRefIdeal.τ).loc Cert.PrjRefIdeal.main_arg1)
      ∧ r.2.mem ((c.tc : Thread Cert.PrjRefIdeal.nD Cert.PrjRefIdeal.τ).loc Cert.PrjRefIdeal.main_arg2) = m ((c.tc : Thread Cert.PrjRefIdeal.nD Cert.PrjRefIdeal.τ).loc Cert.PrjRefIdeal.main_arg2)
      ∧ r.2.mem ((c.tc : Thread Cert.PrjRefIdeal.nD Cert.PrjRefIdeal.τ).loc Cert.PrjRefIdeal.main_arg3) = m ((c.tc : Thread Cert.PrjRefIdeal.nD Cert.PrjRefIdeal.τ).loc Cert.PrjRefIdeal.main_arg3))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9)
      ∧ r.2.mem ((c.tc : Thread Cert.Scan.nD Cert.Scan.τ).loc Cert.Scan.main_arg10) = m ((c.tc : Thread Cert.Scan.nD Cert.Scan.τ).loc Cert.Scan.main_arg10)
      ∧ r.2.mem ((c.tc : Thread Cert.Scan.nD Cert.Scan.τ).loc Cert.Scan.main_arg11) = m ((c.tc : Thread Cert.Scan.nD Cert.Scan.τ).loc Cert.Scan.main_arg11)
      ∧ r.2.mem ((c.tc : Thread Cert.Scan.nD Cert.Scan.τ).loc Cert.Scan.main_arg12) = m ((c.tc : Thread Cert.Scan.nD Cert.Scan.τ).loc Cert.Scan.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v102)) (v2 : (c : Dev Cert.KernelIdeal.nD) → Buf (Elt Ideal) ((c.tc : Thread Cert.KernelIdeal.nD Cert.KernelIdeal.τ).loc Cert.KernelIdeal.main_v103)) (v3 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v102) = v1 c
          ∧ r.2.mem ((c.tc : Thread Cert.KernelIdeal.nD Cert.KernelIdeal.τ).loc Cert.KernelIdeal.main_v103) = v2 c
          ∧ r.2.mem ((c.tc : Thread Cert.KernelIdeal.nD Cert.KernelIdeal.τ).loc Cert.KernelIdeal.main_v96) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_v163) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v16) = v0 c
          ∧ r.2.mem ((c.tc : Thread Cert.LossRefIdeal.nD Cert.LossRefIdeal.τ).loc Cert.LossRefIdeal.main_v17) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v20)) (v1 : (c : Dev Cert.MlpIdeal.nD) → Buf (Elt Ideal) ((c.tc : Thread Cert.MlpIdeal.nD Cert.MlpIdeal.τ).loc Cert.MlpIdeal.main_v22)) (v2 : (c : Dev Cert.MlpIdeal.nD) → Buf (Elt Ideal) ((c.tc : Thread Cert.MlpIdeal.nD Cert.MlpIdeal.τ).loc Cert.MlpIdeal.main_v23)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v20) = v0 c
          ∧ r.2.mem ((c.tc : Thread Cert.MlpIdeal.nD Cert.MlpIdeal.τ).loc Cert.MlpIdeal.main_v22) = v1 c
          ∧ r.2.mem ((c.tc : Thread Cert.MlpIdeal.nD Cert.MlpIdeal.τ).loc Cert.MlpIdeal.main_v23) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_v16) = v1 c
          ∧ r.2.mem ((c.tc : Thread Cert.MlpRefIdeal.nD Cert.MlpRefIdeal.τ).loc Cert.MlpRefIdeal.main_v8) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v52) = v0 c
          ∧ r.2.mem ((c.tc : Thread Cert.NormRefIdeal.nD Cert.NormRefIdeal.τ).loc Cert.NormRefIdeal.main_v28) = v1 c
          ∧ r.2.mem ((c.tc : Thread Cert.NormRefIdeal.nD Cert.NormRefIdeal.τ).loc Cert.NormRefIdeal.main_v25) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)) (v3 : (c : Dev Cert.OutIdeal.nD) → Buf (Elt Ideal) ((c.tc : Thread Cert.OutIdeal.nD Cert.OutIdeal.τ).loc Cert.OutIdeal.main_v1_3)) (v4 : (c : Dev Cert.OutIdeal.nD) → Buf (Elt Ideal) ((c.tc : Thread Cert.OutIdeal.nD Cert.OutIdeal.τ).loc Cert.OutIdeal.main_v1_4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_v1_3) = v3 c
          ∧ r.2.mem ((c.tc : Thread Cert.OutIdeal.nD Cert.OutIdeal.τ).loc Cert.OutIdeal.main_v1_4) = v4 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v62) = v0 c
          ∧ r.2.mem ((c.tc : Thread Cert.OutRefIdeal.nD Cert.OutRefIdeal.τ).loc Cert.OutRefIdeal.main_v64) = v1 c
          ∧ r.2.mem ((c.tc : Thread Cert.OutRefIdeal.nD Cert.OutRefIdeal.τ).loc Cert.OutRefIdeal.main_v61) = v2 c
          ∧ r.2.mem ((c.tc : Thread Cert.OutRefIdeal.nD Cert.OutRefIdeal.τ).loc Cert.OutRefIdeal.main_v35) = v3 c
          ∧ r.2.mem ((c.tc : Thread Cert.OutRefIdeal.nD Cert.OutRefIdeal.τ).loc Cert.OutRefIdeal.main_v32) = v4 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v42_0)) (v1 : (c : Dev Cert.QkvIdeal.nD) → Buf (Elt Ideal) ((c.tc : Thread Cert.QkvIdeal.nD Cert.QkvIdeal.τ).loc Cert.QkvIdeal.main_v42_1)) (v2 : (c : Dev Cert.QkvIdeal.nD) → Buf (Elt Ideal) ((c.tc : Thread Cert.QkvIdeal.nD Cert.QkvIdeal.τ).loc Cert.QkvIdeal.main_v42_2)) (v3 : (c : Dev Cert.QkvIdeal.nD) → Buf (Elt Ideal) ((c.tc : Thread Cert.QkvIdeal.nD Cert.QkvIdeal.τ).loc Cert.QkvIdeal.main_v42_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v42_0) = v0 c
          ∧ r.2.mem ((c.tc : Thread Cert.QkvIdeal.nD Cert.QkvIdeal.τ).loc Cert.QkvIdeal.main_v42_1) = v1 c
          ∧ r.2.mem ((c.tc : Thread Cert.QkvIdeal.nD Cert.QkvIdeal.τ).loc Cert.QkvIdeal.main_v42_2) = v2 c
          ∧ r.2.mem ((c.tc : Thread Cert.QkvIdeal.nD Cert.QkvIdeal.τ).loc Cert.QkvIdeal.main_v42_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v102) = v0 c
          ∧ r.2.mem ((c.tc : Thread Cert.QkvRefIdeal.nD Cert.QkvRefIdeal.τ).loc Cert.QkvRefIdeal.main_v99) = v1 c
          ∧ r.2.mem ((c.tc : Thread Cert.QkvRefIdeal.nD Cert.QkvRefIdeal.τ).loc Cert.QkvRefIdeal.main_v80) = v2 c
          ∧ r.2.mem ((c.tc : Thread Cert.QkvRefIdeal.nD Cert.QkvRefIdeal.τ).loc Cert.QkvRefIdeal.main_v60) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v9_0)) (v1 : (c : Dev Cert.PostIdeal.nD) → Buf (Elt Ideal) ((c.tc : Thread Cert.PostIdeal.nD Cert.PostIdeal.τ).loc Cert.PostIdeal.main_v9_1)) (v2 : (c : Dev Cert.PostIdeal.nD) → Buf (Elt Ideal) ((c.tc : Thread Cert.PostIdeal.nD Cert.PostIdeal.τ).loc Cert.PostIdeal.main_v9_2)) (v3 : (c : Dev Cert.PostIdeal.nD) → Buf (Elt Ideal) ((c.tc : Thread Cert.PostIdeal.nD Cert.PostIdeal.τ).loc Cert.PostIdeal.main_v9_3)) (v4 : (c : Dev Cert.PostIdeal.nD) → Buf (Elt Ideal) ((c.tc : Thread Cert.PostIdeal.nD Cert.PostIdeal.τ).loc Cert.PostIdeal.main_v9_4)) (v5 : (c : Dev Cert.PostIdeal.nD) → Buf (Elt Ideal) ((c.tc : Thread Cert.PostIdeal.nD Cert.PostIdeal.τ).loc Cert.PostIdeal.main_v9_5)) (v6 : (c : Dev Cert.PostIdeal.nD) → Buf (Elt Ideal) ((c.tc : Thread Cert.PostIdeal.nD Cert.PostIdeal.τ).loc Cert.PostIdeal.main_v9_6)) (v7 : (c : Dev Cert.PostIdeal.nD) → Buf (Elt Ideal) ((c.tc : Thread Cert.PostIdeal.nD Cert.PostIdeal.τ).loc Cert.PostIdeal.main_v9_7)) (v8 : (c : Dev Cert.PostIdeal.nD) → Buf (Elt Ideal) ((c.tc : Thread Cert.PostIdeal.nD Cert.PostIdeal.τ).loc Cert.PostIdeal.main_v9_8)) (v9 : (c : Dev Cert.PostIdeal.nD) → Buf (Elt Ideal) ((c.tc : Thread Cert.PostIdeal.nD Cert.PostIdeal.τ).loc Cert.PostIdeal.main_v9_9)) (v10 : (c : Dev Cert.PostIdeal.nD) → Buf (Elt Ideal) ((c.tc : Thread Cert.PostIdeal.nD Cert.PostIdeal.τ).loc Cert.PostIdeal.main_v9_10)) (v11 : (c : Dev Cert.PostIdeal.nD) → Buf (Elt Ideal) ((c.tc : Thread Cert.PostIdeal.nD Cert.PostIdeal.τ).loc Cert.PostIdeal.main_v9_11)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9_0) = v0 c
          ∧ r.2.mem ((c.tc : Thread Cert.PostIdeal.nD Cert.PostIdeal.τ).loc Cert.PostIdeal.main_v9_1) = v1 c
          ∧ r.2.mem ((c.tc : Thread Cert.PostIdeal.nD Cert.PostIdeal.τ).loc Cert.PostIdeal.main_v9_2) = v2 c
          ∧ r.2.mem ((c.tc : Thread Cert.PostIdeal.nD Cert.PostIdeal.τ).loc Cert.PostIdeal.main_v9_3) = v3 c
          ∧ r.2.mem ((c.tc : Thread Cert.PostIdeal.nD Cert.PostIdeal.τ).loc Cert.PostIdeal.main_v9_4) = v4 c
          ∧ r.2.mem ((c.tc : Thread Cert.PostIdeal.nD Cert.PostIdeal.τ).loc Cert.PostIdeal.main_v9_5) = v5 c
          ∧ r.2.mem ((c.tc : Thread Cert.PostIdeal.nD Cert.PostIdeal.τ).loc Cert.PostIdeal.main_v9_6) = v6 c
          ∧ r.2.mem ((c.tc : Thread Cert.PostIdeal.nD Cert.PostIdeal.τ).loc Cert.PostIdeal.main_v9_7) = v7 c
          ∧ r.2.mem ((c.tc : Thread Cert.PostIdeal.nD Cert.PostIdeal.τ).loc Cert.PostIdeal.main_v9_8) = v8 c
          ∧ r.2.mem ((c.tc : Thread Cert.PostIdeal.nD Cert.PostIdeal.τ).loc Cert.PostIdeal.main_v9_9) = v9 c
          ∧ r.2.mem ((c.tc : Thread Cert.PostIdeal.nD Cert.PostIdeal.τ).loc Cert.PostIdeal.main_v9_10) = v10 c
          ∧ r.2.mem ((c.tc : Thread Cert.PostIdeal.nD Cert.PostIdeal.τ).loc Cert.PostIdeal.main_v9_11) = v11 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v157) = v0 c
          ∧ r.2.mem ((c.tc : Thread Cert.PostRefIdeal.nD Cert.PostRefIdeal.τ).loc Cert.PostRefIdeal.main_v156) = v1 c
          ∧ r.2.mem ((c.tc : Thread Cert.PostRefIdeal.nD Cert.PostRefIdeal.τ).loc Cert.PostRefIdeal.main_v155) = v2 c
          ∧ r.2.mem ((c.tc : Thread Cert.PostRefIdeal.nD Cert.PostRefIdeal.τ).loc Cert.PostRefIdeal.main_v154) = v3 c
          ∧ r.2.mem ((c.tc : Thread Cert.PostRefIdeal.nD Cert.PostRefIdeal.τ).loc Cert.PostRefIdeal.main_v105) = v4 c
          ∧ r.2.mem ((c.tc : Thread Cert.PostRefIdeal.nD Cert.PostRefIdeal.τ).loc Cert.PostRefIdeal.main_v104) = v5 c
          ∧ r.2.mem ((c.tc : Thread Cert.PostRefIdeal.nD Cert.PostRefIdeal.τ).loc Cert.PostRefIdeal.main_v101) = v6 c
          ∧ r.2.mem ((c.tc : Thread Cert.PostRefIdeal.nD Cert.PostRefIdeal.τ).loc Cert.PostRefIdeal.main_v131) = v7 c
          ∧ r.2.mem ((c.tc : Thread Cert.PostRefIdeal.nD Cert.PostRefIdeal.τ).loc Cert.PostRefIdeal.main_v125) = v8 c
          ∧ r.2.mem ((c.tc : Thread Cert.PostRefIdeal.nD Cert.PostRefIdeal.τ).loc Cert.PostRefIdeal.main_v120) = v9 c
          ∧ r.2.mem ((c.tc : Thread Cert.PostRefIdeal.nD Cert.PostRefIdeal.τ).loc Cert.PostRefIdeal.main_v75) = v10 c
          ∧ r.2.mem ((c.tc : Thread Cert.PostRefIdeal.nD Cert.PostRefIdeal.τ).loc Cert.PostRefIdeal.main_v72) = v11 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13))

def preserves_H0_H0Ideal : Prop :=
  True

def algebraic_H0Ideal_H0RefIdeal [hH0Ideal : Cert.H0Ideal.Facts] [hH0RefIdeal : Cert.H0RefIdeal.Facts] : Prop :=
  ∀ (m : (ℓ : Loc Cert.H0Ideal.nD Cert.H0Ideal.τ Cert.H0Ideal.sig) → Buf (Elt Ideal) ℓ) (g : Dev Cert.H0Ideal.nD → PrngReg)
    (m' : (ℓ : Loc Cert.H0RefIdeal.nD Cert.H0RefIdeal.τ Cert.H0RefIdeal.sig) → Buf (Elt Ideal) ℓ) (g' : Dev Cert.H0RefIdeal.nD → PrngReg), Pre_H0Ideal m →
    (∀ c : Dev Cert.H0Ideal.nD,
      m' ((c.tc : Thread Cert.H0RefIdeal.nD Cert.H0RefIdeal.τ).loc Cert.H0RefIdeal.main_arg0) = m ((c.tc : Thread Cert.H0Ideal.nD Cert.H0Ideal.τ).loc Cert.H0Ideal.main_arg0)
      ∧ m' ((c.tc : Thread Cert.H0RefIdeal.nD Cert.H0RefIdeal.τ).loc Cert.H0RefIdeal.main_arg1) = m ((c.tc : Thread Cert.H0Ideal.nD Cert.H0Ideal.τ).loc Cert.H0Ideal.main_arg1)
      ∧ m' ((c.tc : Thread Cert.H0RefIdeal.nD Cert.H0RefIdeal.τ).loc Cert.H0RefIdeal.main_arg2) = m ((c.tc : Thread Cert.H0Ideal.nD Cert.H0Ideal.τ).loc Cert.H0Ideal.main_arg2)) →
    ∃ (v0 : (c : Dev Cert.H0Ideal.nD) → Buf (Elt Ideal) ((c.tc : Thread Cert.H0Ideal.nD Cert.H0Ideal.τ).loc Cert.H0Ideal.main_v0)),
      θ_run (Cert.H0Ideal.defs (F := Ideal)) (onTc (τ := Cert.H0Ideal.τ) (Cert.H0Ideal.main (F := Ideal))) ⟨m, fun _ => 0, g⟩ (fun r => ∀ c : Dev Cert.H0Ideal.nD,
          r.2.mem ((c.tc : Thread Cert.H0Ideal.nD Cert.H0Ideal.τ).loc Cert.H0Ideal.main_v0) = v0 c
          ∧ r.2.mem ((c.tc : Thread Cert.H0Ideal.nD Cert.H0Ideal.τ).loc Cert.H0Ideal.main_arg0) = m ((c.tc : Thread Cert.H0Ideal.nD Cert.H0Ideal.τ).loc Cert.H0Ideal.main_arg0)
          ∧ r.2.mem ((c.tc : Thread Cert.H0Ideal.nD Cert.H0Ideal.τ).loc Cert.H0Ideal.main_arg1) = m ((c.tc : Thread Cert.H0Ideal.nD Cert.H0Ideal.τ).loc Cert.H0Ideal.main_arg1)
          ∧ r.2.mem ((c.tc : Thread Cert.H0Ideal.nD Cert.H0Ideal.τ).loc Cert.H0Ideal.main_arg2) = m ((c.tc : Thread Cert.H0Ideal.nD Cert.H0Ideal.τ).loc Cert.H0Ideal.main_arg2))
      ∧ θ_run (Cert.H0RefIdeal.defs (F := Ideal)) (onTc (τ := Cert.H0RefIdeal.τ) (Cert.H0RefIdeal.main (F := Ideal))) ⟨m', fun _ => 0, g'⟩ (fun r => ∀ c : Dev Cert.H0RefIdeal.nD,
          r.2.mem ((c.tc : Thread Cert.H0RefIdeal.nD Cert.H0RefIdeal.τ).loc Cert.H0RefIdeal.main_v10) = v0 c
          ∧ r.2.mem ((c.tc : Thread Cert.H0RefIdeal.nD Cert.H0RefIdeal.τ).loc Cert.H0RefIdeal.main_arg0) = m' ((c.tc : Thread Cert.H0RefIdeal.nD Cert.H0RefIdeal.τ).loc Cert.H0RefIdeal.main_arg0)
          ∧ r.2.mem ((c.tc : Thread Cert.H0RefIdeal.nD Cert.H0RefIdeal.τ).loc Cert.H0RefIdeal.main_arg1) = m' ((c.tc : Thread Cert.H0RefIdeal.nD Cert.H0RefIdeal.τ).loc Cert.H0RefIdeal.main_arg1)
          ∧ r.2.mem ((c.tc : Thread Cert.H0RefIdeal.nD Cert.H0RefIdeal.τ).loc Cert.H0RefIdeal.main_arg2) = m' ((c.tc : Thread Cert.H0RefIdeal.nD Cert.H0RefIdeal.τ).loc Cert.H0RefIdeal.main_arg2))

def preserves_Ao_AoIdeal : Prop :=
  True

def algebraic_AoIdeal_AoRefIdeal [hAoIdeal : Cert.AoIdeal.Facts] [hAoRefIdeal : Cert.AoRefIdeal.Facts] : Prop :=
  ∀ (m : (ℓ : Loc Cert.AoIdeal.nD Cert.AoIdeal.τ Cert.AoIdeal.sig) → Buf (Elt Ideal) ℓ) (g : Dev Cert.AoIdeal.nD → PrngReg)
    (m' : (ℓ : Loc Cert.AoRefIdeal.nD Cert.AoRefIdeal.τ Cert.AoRefIdeal.sig) → Buf (Elt Ideal) ℓ) (g' : Dev Cert.AoRefIdeal.nD → PrngReg), Pre_AoIdeal m →
    (∀ c : Dev Cert.AoIdeal.nD,
      m' ((c.tc : Thread Cert.AoRefIdeal.nD Cert.AoRefIdeal.τ).loc Cert.AoRefIdeal.main_arg0) = m ((c.tc : Thread Cert.AoIdeal.nD Cert.AoIdeal.τ).loc Cert.AoIdeal.main_arg0)
      ∧ m' ((c.tc : Thread Cert.AoRefIdeal.nD Cert.AoRefIdeal.τ).loc Cert.AoRefIdeal.main_arg1) = m ((c.tc : Thread Cert.AoIdeal.nD Cert.AoIdeal.τ).loc Cert.AoIdeal.main_arg1)
      ∧ m' ((c.tc : Thread Cert.AoRefIdeal.nD Cert.AoRefIdeal.τ).loc Cert.AoRefIdeal.main_arg2) = m ((c.tc : Thread Cert.AoIdeal.nD Cert.AoIdeal.τ).loc Cert.AoIdeal.main_arg2)
      ∧ m' ((c.tc : Thread Cert.AoRefIdeal.nD Cert.AoRefIdeal.τ).loc Cert.AoRefIdeal.main_arg3) = m ((c.tc : Thread Cert.AoIdeal.nD Cert.AoIdeal.τ).loc Cert.AoIdeal.main_arg3)
      ∧ m' ((c.tc : Thread Cert.AoRefIdeal.nD Cert.AoRefIdeal.τ).loc Cert.AoRefIdeal.main_arg4) = m ((c.tc : Thread Cert.AoIdeal.nD Cert.AoIdeal.τ).loc Cert.AoIdeal.main_arg4)) →
    ∃ (v0 : (c : Dev Cert.AoIdeal.nD) → Buf (Elt Ideal) ((c.tc : Thread Cert.AoIdeal.nD Cert.AoIdeal.τ).loc Cert.AoIdeal.main_v1)),
      θ_run (Cert.AoIdeal.defs (F := Ideal)) (onTc (τ := Cert.AoIdeal.τ) (Cert.AoIdeal.main (F := Ideal))) ⟨m, fun _ => 0, g⟩ (fun r => ∀ c : Dev Cert.AoIdeal.nD,
          r.2.mem ((c.tc : Thread Cert.AoIdeal.nD Cert.AoIdeal.τ).loc Cert.AoIdeal.main_v1) = v0 c
          ∧ r.2.mem ((c.tc : Thread Cert.AoIdeal.nD Cert.AoIdeal.τ).loc Cert.AoIdeal.main_arg0) = m ((c.tc : Thread Cert.AoIdeal.nD Cert.AoIdeal.τ).loc Cert.AoIdeal.main_arg0)
          ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
          ∧ r.2.mem ((c.tc : Thread Cert.AoIdeal.nD Cert.AoIdeal.τ).loc Cert.AoIdeal.main_arg2) = m ((c.tc : Thread Cert.AoIdeal.nD Cert.AoIdeal.τ).loc Cert.AoIdeal.main_arg2)
          ∧ r.2.mem ((c.tc : Thread Cert.AoIdeal.nD Cert.AoIdeal.τ).loc Cert.AoIdeal.main_arg3) = m ((c.tc : Thread Cert.AoIdeal.nD Cert.AoIdeal.τ).loc Cert.AoIdeal.main_arg3)
          ∧ r.2.mem ((c.tc : Thread Cert.AoIdeal.nD Cert.AoIdeal.τ).loc Cert.AoIdeal.main_arg4) = m ((c.tc : Thread Cert.AoIdeal.nD Cert.AoIdeal.τ).loc Cert.AoIdeal.main_arg4))
      ∧ θ_run (Cert.AoRefIdeal.defs (F := Ideal)) (onTc (τ := Cert.AoRefIdeal.τ) (Cert.AoRefIdeal.main (F := Ideal))) ⟨m', fun _ => 0, g'⟩ (fun r => ∀ c : Dev Cert.AoRefIdeal.nD,
          r.2.mem ((c.tc : Thread Cert.AoRefIdeal.nD Cert.AoRefIdeal.τ).loc Cert.AoRefIdeal.main_v23) = v0 c
          ∧ r.2.mem ((c.tc : Thread Cert.AoRefIdeal.nD Cert.AoRefIdeal.τ).loc Cert.AoRefIdeal.main_arg0) = m' ((c.tc : Thread Cert.AoRefIdeal.nD Cert.AoRefIdeal.τ).loc Cert.AoRefIdeal.main_arg0)
          ∧ r.2.mem ((c.tc : Thread Cert.AoRefIdeal.nD Cert.AoRefIdeal.τ).loc Cert.AoRefIdeal.main_arg1) = m' ((c.tc : Thread Cert.AoRefIdeal.nD Cert.AoRefIdeal.τ).loc Cert.AoRefIdeal.main_arg1)
          ∧ r.2.mem ((c.tc : Thread Cert.AoRefIdeal.nD Cert.AoRefIdeal.τ).loc Cert.AoRefIdeal.main_arg2) = m' ((c.tc : Thread Cert.AoRefIdeal.nD Cert.AoRefIdeal.τ).loc Cert.AoRefIdeal.main_arg2)
          ∧ r.2.mem ((c.tc : Thread Cert.AoRefIdeal.nD Cert.AoRefIdeal.τ).loc Cert.AoRefIdeal.main_arg3) = m' ((c.tc : Thread Cert.AoRefIdeal.nD Cert.AoRefIdeal.τ).loc Cert.AoRefIdeal.main_arg3)
          ∧ r.2.mem ((c.tc : Thread Cert.AoRefIdeal.nD Cert.AoRefIdeal.τ).loc Cert.AoRefIdeal.main_arg4) = m' ((c.tc : Thread Cert.AoRefIdeal.nD Cert.AoRefIdeal.τ).loc Cert.AoRefIdeal.main_arg4))

def preserves_Fwd_FwdIdeal : Prop :=
  True

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)
      ∧ m' ((c.tc : Thread Cert.FwdRefIdeal.nD Cert.FwdRefIdeal.τ).loc Cert.FwdRefIdeal.main_arg10) = m ((c.tc : Thread Cert.FwdIdeal.nD Cert.FwdIdeal.τ).loc Cert.FwdIdeal.main_arg10)
      ∧ m' ((c.tc : Thread Cert.FwdRefIdeal.nD Cert.FwdRefIdeal.τ).loc Cert.FwdRefIdeal.main_arg11) = m ((c.tc : Thread Cert.FwdIdeal.nD Cert.FwdIdeal.τ).loc Cert.FwdIdeal.main_arg11)) →
    ∃ (v0 : (c : Dev Cert.FwdIdeal.nD) → Buf (Elt Ideal) ((c.tc : Thread Cert.FwdIdeal.nD Cert.FwdIdeal.τ).loc Cert.FwdIdeal.main_v9)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v9) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
          ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v60) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9)
          ∧ r.2.mem ((c.tc : Thread Cert.FwdRefIdeal.nD Cert.FwdRefIdeal.τ).loc Cert.FwdRefIdeal.main_arg10) = m' ((c.tc : Thread Cert.FwdRefIdeal.nD Cert.FwdRefIdeal.τ).loc Cert.FwdRefIdeal.main_arg10)
          ∧ r.2.mem ((c.tc : Thread Cert.FwdRefIdeal.nD Cert.FwdRefIdeal.τ).loc Cert.FwdRefIdeal.main_arg11) = m' ((c.tc : Thread Cert.FwdRefIdeal.nD Cert.FwdRefIdeal.τ).loc Cert.FwdRefIdeal.main_arg11))

def preserves_Mlf_MlfIdeal : Prop :=
  True

def algebraic_MlfIdeal_MlfRefIdeal [hMlfIdeal : Cert.MlfIdeal.Facts] [hMlfRefIdeal : Cert.MlfRefIdeal.Facts] : Prop :=
  ∀ (m : (ℓ : Loc Cert.MlfIdeal.nD Cert.MlfIdeal.τ Cert.MlfIdeal.sig) → Buf (Elt Ideal) ℓ) (g : Dev Cert.MlfIdeal.nD → PrngReg)
    (m' : (ℓ : Loc Cert.MlfRefIdeal.nD Cert.MlfRefIdeal.τ Cert.MlfRefIdeal.sig) → Buf (Elt Ideal) ℓ) (g' : Dev Cert.MlfRefIdeal.nD → PrngReg), Pre_MlfIdeal m →
    (∀ c : Dev Cert.MlfIdeal.nD,
      m' ((c.tc : Thread Cert.MlfRefIdeal.nD Cert.MlfRefIdeal.τ).loc Cert.MlfRefIdeal.main_arg0) = m ((c.tc : Thread Cert.MlfIdeal.nD Cert.MlfIdeal.τ).loc Cert.MlfIdeal.main_arg0)
      ∧ m' ((c.tc : Thread Cert.MlfRefIdeal.nD Cert.MlfRefIdeal.τ).loc Cert.MlfRefIdeal.main_arg1) = m ((c.tc : Thread Cert.MlfIdeal.nD Cert.MlfIdeal.τ).loc Cert.MlfIdeal.main_arg1)
      ∧ m' ((c.tc : Thread Cert.MlfRefIdeal.nD Cert.MlfRefIdeal.τ).loc Cert.MlfRefIdeal.main_arg2) = m ((c.tc : Thread Cert.MlfIdeal.nD Cert.MlfIdeal.τ).loc Cert.MlfIdeal.main_arg2)
      ∧ m' ((c.tc : Thread Cert.MlfRefIdeal.nD Cert.MlfRefIdeal.τ).loc Cert.MlfRefIdeal.main_arg3) = m ((c.tc : Thread Cert.MlfIdeal.nD Cert.MlfIdeal.τ).loc Cert.MlfIdeal.main_arg3)
      ∧ m' ((c.tc : Thread Cert.MlfRefIdeal.nD Cert.MlfRefIdeal.τ).loc Cert.MlfRefIdeal.main_arg4) = m ((c.tc : Thread Cert.MlfIdeal.nD Cert.MlfIdeal.τ).loc Cert.MlfIdeal.main_arg4)) →
    ∃ (v0 : (c : Dev Cert.MlfIdeal.nD) → Buf (Elt Ideal) ((c.tc : Thread Cert.MlfIdeal.nD Cert.MlfIdeal.τ).loc Cert.MlfIdeal.main_v5_0)) (v1 : (c : Dev Cert.MlfIdeal.nD) → Buf (Elt Ideal) ((c.tc : Thread Cert.MlfIdeal.nD Cert.MlfIdeal.τ).loc Cert.MlfIdeal.main_v5_1)) (v2 : (c : Dev Cert.MlfIdeal.nD) → Buf (Elt Ideal) ((c.tc : Thread Cert.MlfIdeal.nD Cert.MlfIdeal.τ).loc Cert.MlfIdeal.main_v5_2)),
      θ_run (Cert.MlfIdeal.defs (F := Ideal)) (onTc (τ := Cert.MlfIdeal.τ) (Cert.MlfIdeal.main (F := Ideal))) ⟨m, fun _ => 0, g⟩ (fun r => ∀ c : Dev Cert.MlfIdeal.nD,
          r.2.mem ((c.tc : Thread Cert.MlfIdeal.nD Cert.MlfIdeal.τ).loc Cert.MlfIdeal.main_v5_0) = v0 c
          ∧ r.2.mem ((c.tc : Thread Cert.MlfIdeal.nD Cert.MlfIdeal.τ).loc Cert.MlfIdeal.main_v5_1) = v1 c
          ∧ r.2.mem ((c.tc : Thread Cert.MlfIdeal.nD Cert.MlfIdeal.τ).loc Cert.MlfIdeal.main_v5_2) = v2 c
          ∧ r.2.mem ((c.tc : Thread Cert.MlfIdeal.nD Cert.MlfIdeal.τ).loc Cert.MlfIdeal.main_arg0) = m ((c.tc : Thread Cert.MlfIdeal.nD Cert.MlfIdeal.τ).loc Cert.MlfIdeal.main_arg0)
          ∧ r.2.mem ((c.tc : Thread Cert.MlfIdeal.nD Cert.MlfIdeal.τ).loc Cert.MlfIdeal.main_arg1) = m ((c.tc : Thread Cert.MlfIdeal.nD Cert.MlfIdeal.τ).loc Cert.MlfIdeal.main_arg1)
          ∧ r.2.mem ((c.tc : Thread Cert.MlfIdeal.nD Cert.MlfIdeal.τ).loc Cert.MlfIdeal.main_arg2) = m ((c.tc : Thread Cert.MlfIdeal.nD Cert.MlfIdeal.τ).loc Cert.MlfIdeal.main_arg2)
          ∧ r.2.mem ((c.tc : Thread Cert.MlfIdeal.nD Cert.MlfIdeal.τ).loc Cert.MlfIdeal.main_arg3) = m ((c.tc : Thread Cert.MlfIdeal.nD Cert.MlfIdeal.τ).loc Cert.MlfIdeal.main_arg3)
          ∧ r.2.mem ((c.tc : Thread Cert.MlfIdeal.nD Cert.MlfIdeal.τ).loc Cert.MlfIdeal.main_arg4) = m ((c.tc : Thread Cert.MlfIdeal.nD Cert.MlfIdeal.τ).loc Cert.MlfIdeal.main_arg4))
      ∧ θ_run (Cert.MlfRefIdeal.defs (F := Ideal)) (onTc (τ := Cert.MlfRefIdeal.τ) (Cert.MlfRefIdeal.main (F := Ideal))) ⟨m', fun _ => 0, g'⟩ (fun r => ∀ c : Dev Cert.MlfRefIdeal.nD,
          r.2.mem ((c.tc : Thread Cert.MlfRefIdeal.nD Cert.MlfRefIdeal.τ).loc Cert.MlfRefIdeal.main_v30) = v0 c
          ∧ r.2.mem ((c.tc : Thread Cert.MlfRefIdeal.nD Cert.MlfRefIdeal.τ).loc Cert.MlfRefIdeal.main_v6) = v1 c
          ∧ r.2.mem ((c.tc : Thread Cert.MlfRefIdeal.nD Cert.MlfRefIdeal.τ).loc Cert.MlfRefIdeal.main_v10) = v2 c
          ∧ r.2.mem ((c.tc : Thread Cert.MlfRefIdeal.nD Cert.MlfRefIdeal.τ).loc Cert.MlfRefIdeal.main_arg0) = m' ((c.tc : Thread Cert.MlfRefIdeal.nD Cert.MlfRefIdeal.τ).loc Cert.MlfRefIdeal.main_arg0)
          ∧ r.2.mem ((c.tc : Thread Cert.MlfRefIdeal.nD Cert.MlfRefIdeal.τ).loc Cert.MlfRefIdeal.main_arg1) = m' ((c.tc : Thread Cert.MlfRefIdeal.nD Cert.MlfRefIdeal.τ).loc Cert.MlfRefIdeal.main_arg1)
          ∧ r.2.mem ((c.tc : Thread Cert.MlfRefIdeal.nD Cert.MlfRefIdeal.τ).loc Cert.MlfRefIdeal.main_arg2) = m' ((c.tc : Thread Cert.MlfRefIdeal.nD Cert.MlfRefIdeal.τ).loc Cert.MlfRefIdeal.main_arg2)
          ∧ r.2.mem ((c.tc : Thread Cert.MlfRefIdeal.nD Cert.MlfRefIdeal.τ).loc Cert.MlfRefIdeal.main_arg3) = m' ((c.tc : Thread Cert.MlfRefIdeal.nD Cert.MlfRefIdeal.τ).loc Cert.MlfRefIdeal.main_arg3)
          ∧ r.2.mem ((c.tc : Thread Cert.MlfRefIdeal.nD Cert.MlfRefIdeal.τ).loc Cert.MlfRefIdeal.main_arg4) = m' ((c.tc : Thread Cert.MlfRefIdeal.nD Cert.MlfRefIdeal.τ).loc Cert.MlfRefIdeal.main_arg4))

def preserves_Prj_PrjIdeal : Prop :=
  True

def algebraic_PrjIdeal_PrjRefIdeal [hPrjIdeal : Cert.PrjIdeal.Facts] [hPrjRefIdeal : Cert.PrjRefIdeal.Facts] : Prop :=
  ∀ (m : (ℓ : Loc Cert.PrjIdeal.nD Cert.PrjIdeal.τ Cert.PrjIdeal.sig) → Buf (Elt Ideal) ℓ) (g : Dev Cert.PrjIdeal.nD → PrngReg)
    (m' : (ℓ : Loc Cert.PrjRefIdeal.nD Cert.PrjRefIdeal.τ Cert.PrjRefIdeal.sig) → Buf (Elt Ideal) ℓ) (g' : Dev Cert.PrjRefIdeal.nD → PrngReg), Pre_PrjIdeal m →
    (∀ c : Dev Cert.PrjIdeal.nD,
      m' ((c.tc : Thread Cert.PrjRefIdeal.nD Cert.PrjRefIdeal.τ).loc Cert.PrjRefIdeal.main_arg0) = m ((c.tc : Thread Cert.PrjIdeal.nD Cert.PrjIdeal.τ).loc Cert.PrjIdeal.main_arg0)
      ∧ m' ((c.tc : Thread Cert.PrjRefIdeal.nD Cert.PrjRefIdeal.τ).loc Cert.PrjRefIdeal.main_arg1) = m ((c.tc : Thread Cert.PrjIdeal.nD Cert.PrjIdeal.τ).loc Cert.PrjIdeal.main_arg1)
      ∧ m' ((c.tc : Thread Cert.PrjRefIdeal.nD Cert.PrjRefIdeal.τ).loc Cert.PrjRefIdeal.main_arg2) = m ((c.tc : Thread Cert.PrjIdeal.nD Cert.PrjIdeal.τ).loc Cert.PrjIdeal.main_arg2)
      ∧ m' ((c.tc : Thread Cert.PrjRefIdeal.nD Cert.PrjRefIdeal.τ).loc Cert.PrjRefIdeal.main_arg3) = m ((c.tc : Thread Cert.PrjIdeal.nD Cert.PrjIdeal.τ).loc Cert.PrjIdeal.main_arg3)) →
    ∃ (v0 : (c : Dev Cert.PrjIdeal.nD) → Buf (Elt Ideal) ((c.tc : Thread Cert.PrjIdeal.nD Cert.PrjIdeal.τ).loc Cert.PrjIdeal.main_v32_0)) (v1 : (c : Dev Cert.PrjIdeal.nD) → Buf (Elt Ideal) ((c.tc : Thread Cert.PrjIdeal.nD Cert.PrjIdeal.τ).loc Cert.PrjIdeal.main_v32_1)) (v2 : (c : Dev Cert.PrjIdeal.nD) → Buf (Elt Ideal) ((c.tc : Thread Cert.PrjIdeal.nD Cert.PrjIdeal.τ).loc Cert.PrjIdeal.main_v32_2)),
      θ_run (Cert.PrjIdeal.defs (F := Ideal)) (onTc (τ := Cert.PrjIdeal.τ) (Cert.PrjIdeal.main (F := Ideal))) ⟨m, fun _ => 0, g⟩ (fun r => ∀ c : Dev Cert.PrjIdeal.nD,
          r.2.mem ((c.tc : Thread Cert.PrjIdeal.nD Cert.PrjIdeal.τ).loc Cert.PrjIdeal.main_v32_0) = v0 c
          ∧ r.2.mem ((c.tc : Thread Cert.PrjIdeal.nD Cert.PrjIdeal.τ).loc Cert.PrjIdeal.main_v32_1) = v1 c
          ∧ r.2.mem ((c.tc : Thread Cert.PrjIdeal.nD Cert.PrjIdeal.τ).loc Cert.PrjIdeal.main_v32_2) = v2 c
          ∧ r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
          ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1)
          ∧ r.2.mem ((c.tc : Thread Cert.PrjIdeal.nD Cert.PrjIdeal.τ).loc Cert.PrjIdeal.main_arg2) = m ((c.tc : Thread Cert.PrjIdeal.nD Cert.PrjIdeal.τ).loc Cert.PrjIdeal.main_arg2)
          ∧ r.2.mem ((c.tc : Thread Cert.PrjIdeal.nD Cert.PrjIdeal.τ).loc Cert.PrjIdeal.main_arg3) = m ((c.tc : Thread Cert.PrjIdeal.nD Cert.PrjIdeal.τ).loc Cert.PrjIdeal.main_arg3))
      ∧ θ_run (Cert.PrjRefIdeal.defs (F := Ideal)) (onTc (τ := Cert.PrjRefIdeal.τ) (Cert.PrjRefIdeal.main (F := Ideal))) ⟨m', fun _ => 0, g'⟩ (fun r => ∀ c : Dev Cert.PrjRefIdeal.nD,
          r.2.mem ((c.tc : Thread Cert.PrjRefIdeal.nD Cert.PrjRefIdeal.τ).loc Cert.PrjRefIdeal.main_v55) = v0 c
          ∧ r.2.mem ((c.tc : Thread Cert.PrjRefIdeal.nD Cert.PrjRefIdeal.τ).loc Cert.PrjRefIdeal.main_v56) = v1 c
          ∧ r.2.mem ((c.tc : Thread Cert.PrjRefIdeal.nD Cert.PrjRefIdeal.τ).loc Cert.PrjRefIdeal.main_v57) = v2 c
          ∧ r.2.mem ((c.tc : Thread Cert.PrjRefIdeal.nD Cert.PrjRefIdeal.τ).loc Cert.PrjRefIdeal.main_arg0) = m' ((c.tc : Thread Cert.PrjRefIdeal.nD Cert.PrjRefIdeal.τ).loc Cert.PrjRefIdeal.main_arg0)
          ∧ r.2.mem ((c.tc : Thread Cert.PrjRefIdeal.nD Cert.PrjRefIdeal.τ).loc Cert.PrjRefIdeal.main_arg1) = m' ((c.tc : Thread Cert.PrjRefIdeal.nD Cert.PrjRefIdeal.τ).loc Cert.PrjRefIdeal.main_arg1)
          ∧ r.2.mem ((c.tc : Thread Cert.PrjRefIdeal.nD Cert.PrjRefIdeal.τ).loc Cert.PrjRefIdeal.main_arg2) = m' ((c.tc : Thread Cert.PrjRefIdeal.nD Cert.PrjRefIdeal.τ).loc Cert.PrjRefIdeal.main_arg2)
          ∧ r.2.mem ((c.tc : Thread Cert.PrjRefIdeal.nD Cert.PrjRefIdeal.τ).loc Cert.PrjRefIdeal.main_arg3) = m' ((c.tc : Thread Cert.PrjRefIdeal.nD Cert.PrjRefIdeal.τ).loc Cert.PrjRefIdeal.main_arg3))

def Claim : Prop :=
  ∃ (hKernel : Cert.Kernel.Facts) (hKernelIdeal : Cert.KernelIdeal.Facts) (hReferenceIdeal : Cert.ReferenceIdeal.Facts) (hLoss : Cert.Loss.Facts) (hLossIdeal : Cert.LossIdeal.Facts) (hLossRefIdeal : Cert.LossRefIdeal.Facts) (hMlp : Cert.Mlp.Facts) (hMlpIdeal : Cert.MlpIdeal.Facts) (hMlpRefIdeal : Cert.MlpRefIdeal.Facts) (hNorm : Cert.Norm.Facts) (hNormIdeal : Cert.NormIdeal.Facts) (hNormRefIdeal : Cert.NormRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hPost : Cert.Post.Facts) (hPostIdeal : Cert.PostIdeal.Facts) (hPostRefIdeal : Cert.PostRefIdeal.Facts) (hH0 : Cert.H0.Facts) (hH0Ideal : Cert.H0Ideal.Facts) (hH0RefIdeal : Cert.H0RefIdeal.Facts) (hAo : Cert.Ao.Facts) (hAoIdeal : Cert.AoIdeal.Facts) (hAoRefIdeal : Cert.AoRefIdeal.Facts) (hFwd : Cert.Fwd.Facts) (hFwdIdeal : Cert.FwdIdeal.Facts) (hFwdRefIdeal : Cert.FwdRefIdeal.Facts) (hMlf : Cert.Mlf.Facts) (hMlfIdeal : Cert.MlfIdeal.Facts) (hMlfRefIdeal : Cert.MlfRefIdeal.Facts) (hPrj : Cert.Prj.Facts) (hPrjIdeal : Cert.PrjIdeal.Facts) (hPrjRefIdeal : Cert.PrjRefIdeal.Facts) (hScan : Cert.Scan.Facts) (hPre_finite : Cert.Pre_finite.Facts) (hPre_finite_post : Cert.Pre_finite_post.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Loss (hLoss := hLoss)
    ∧ quiescent_LossIdeal (hLossIdeal := hLossIdeal)
    ∧ quiescent_LossRefIdeal (hLossRefIdeal := hLossRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Norm (hNorm := hNorm)
    ∧ quiescent_NormIdeal (hNormIdeal := hNormIdeal)
    ∧ quiescent_NormRefIdeal (hNormRefIdeal := hNormRefIdeal)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_H0 (hH0 := hH0)
    ∧ quiescent_H0Ideal (hH0Ideal := hH0Ideal)
    ∧ quiescent_H0RefIdeal (hH0RefIdeal := hH0RefIdeal)
    ∧ quiescent_Ao (hAo := hAo)
    ∧ quiescent_AoIdeal (hAoIdeal := hAoIdeal)
    ∧ quiescent_AoRefIdeal (hAoRefIdeal := hAoRefIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Mlf (hMlf := hMlf)
    ∧ quiescent_MlfIdeal (hMlfIdeal := hMlfIdeal)
    ∧ quiescent_MlfRefIdeal (hMlfRefIdeal := hMlfRefIdeal)
    ∧ quiescent_Prj (hPrj := hPrj)
    ∧ quiescent_PrjIdeal (hPrjIdeal := hPrjIdeal)
    ∧ quiescent_PrjRefIdeal (hPrjRefIdeal := hPrjRefIdeal)
    ∧ quiescent_Scan (hScan := hScan)
    ∧ preserves_Kernel_KernelIdeal
    ∧ algebraic_KernelIdeal_ReferenceIdeal_pre_finite (hKernelIdeal := hKernelIdeal) (hReferenceIdeal := hReferenceIdeal) (hPre_finite := hPre_finite)
    ∧ preserves_Loss_LossIdeal
    ∧ algebraic_LossIdeal_LossRefIdeal (hLossIdeal := hLossIdeal) (hLossRefIdeal := hLossRefIdeal)
    ∧ preserves_Mlp_MlpIdeal
    ∧ algebraic_MlpIdeal_MlpRefIdeal (hMlpIdeal := hMlpIdeal) (hMlpRefIdeal := hMlpRefIdeal)
    ∧ preserves_Norm_NormIdeal
    ∧ algebraic_NormIdeal_NormRefIdeal (hNormIdeal := hNormIdeal) (hNormRefIdeal := hNormRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
    ∧ preserves_Post_PostIdeal
    ∧ algebraic_PostIdeal_PostRefIdeal_pre_finite_post (hPostIdeal := hPostIdeal) (hPostRefIdeal := hPostRefIdeal) (hPre_finite_post := hPre_finite_post)
    ∧ preserves_H0_H0Ideal
    ∧ algebraic_H0Ideal_H0RefIdeal (hH0Ideal := hH0Ideal) (hH0RefIdeal := hH0RefIdeal)
    ∧ preserves_Ao_AoIdeal
    ∧ algebraic_AoIdeal_AoRefIdeal (hAoIdeal := hAoIdeal) (hAoRefIdeal := hAoRefIdeal)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Mlf_MlfIdeal
    ∧ algebraic_MlfIdeal_MlfRefIdeal (hMlfIdeal := hMlfIdeal) (hMlfRefIdeal := hMlfRefIdeal)
    ∧ preserves_Prj_PrjIdeal
    ∧ algebraic_PrjIdeal_PrjRefIdeal (hPrjIdeal := hPrjIdeal) (hPrjRefIdeal := hPrjRefIdeal)
-- ==== Pre_finite.lean ====
abbrev S4224x1024 : Shape := ⟨2, ![4224, 1024]⟩
abbrev S4224x256 : Shape := ⟨2, ![4224, 256]⟩
abbrev S1x16 : Shape := ⟨2, ![1, 16]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S4224x256 : S_.BroadcastsInDim S4224x256 (![] : Fin 0 → Fin S4224x256.rank)
  reducesTo_S4224x256_S_d0_1 : S4224x256.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S4224x1024 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S4224x1024 .f32 := Host.absf main_arg4
  let main_cst_6 : FVec F S_ .f32 := constant S_ .f32 0x7F800000#32
  let main_v20 : FVec F S4224x1024 .f32 := broadcastInDim S4224x1024 ![] bcast_S_S4224x1024 main_cst_6
  let main_v21 : IVec S4224x1024 1 := cmpf .olt main_v19 main_v20
  let main_c_7 : IVec S_ 1 := constantI S_ 1 1#1
  let main_v22 : IVec S_ 1 := (fun x v => Host.reduce IntOp.andi x v reducesTo_S4224x1024_S_d0_1 h_S_) main_v21 main_c_7
  let main_v23 : IVec S_ 1 := andi main_v18 main_v22
  main_v23

def fn {F : FTy → Type} [FloatOps F] (main_arg0 : FVec F S4224x1024 .f32) (main_arg1 : FVec F S4224x256 .f32) (main_arg2 : FVec F S4224x256 .f32) (main_arg3 : FVec F S1x16 .f32) (main_arg4 : FVec F S4224x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S4224x256 .f32 := Host.absf main_arg1
  let main_cst_0 : FVec F S_ .f32 := constant S_ .f32 0x7F800000#32
  let main_v5 : FVec F S4224x256 .f32 := broadcastInDim S4224x256 ![] bcast_S_S4224x256 main_cst_0
  let main_v6 : IVec S4224x256 1 := cmpf .olt main_v4 main_v5
  let main_c_1 : IVec S_ 1 := constantI S_ 1 1#1
  let main_v7 : IVec S_ 1 := (fun x v => Host.reduce IntOp.andi x v reducesTo_S4224x256_S_d0_1 h_S_) main_v6 main_c_1
  let main_v8 : IVec S_ 1 := andi main_v3 main_v7
  let main_v9 : FVec F S4224x256 .f32 := Host.absf main_arg2
  let main_cst_2 : FVec F S_ .f32 := constant S_ .f32 0x7F800000#32
  let main_v10 : FVec F S4224x256 .f32 := broadcastInDim S4224x256 ![] bcast_S_S4224x256 main_cst_2
  let main_v11 : IVec S4224x256 1 := cmpf .olt main_v9 main_v10
  let main_c_3 : IVec S_ 1 := constantI S_ 1 1#1
  let main_v12 : IVec S_ 1 := (fun x v => Host.reduce IntOp.andi x v reducesTo_S4224x256_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_v13 main_v16
-- ==== Pre_finite_fwd.lean ====
abbrev S4224x1024 : Shape := ⟨2, ![4224, 1024]⟩
abbrev S1024x1024 : Shape := ⟨2, ![1024, 1024]⟩
abbrev S1x1024 : Shape := ⟨2, ![1, 1024]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4224x1024 .f32) (main_arg1 : FVec F S4224x1024 .f32) (main_arg2 : FVec F S4224x1024 .f32) (main_arg3 : FVec F S4224x1024 .f32) (main_arg4 : FVec F S4224x1024 .f32) (main_arg5 : FVec F S4224x1024 .f32) (main_arg6 : FVec F S1024x1024 .f32) (main_arg7 : FVec F S1x1024 .f32) (main_arg8 : FVec F S1x1024 .f32) (main_arg9 : FVec F S1x1024 .f32) (main_arg10 : FVec F S1x1024 .f32) (main_arg11 : FVec F S1x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S4224x1024 .f32 := Host.absf main_arg1
  let main_cst_0 : FVec F S_ .f32 := constant S_ .f32 0x7F800000#32
  let main_v5 : FVec F S4224x1024 .f32 := broadcastInDim S4224x1024 ![] bcast_S_S4224x1024 main_cst_0
  let main_v6 : IVec S4224x1024 1 := cmpf .olt main_v4 main_v5
  let main_c_1 : IVec S_ 1 := constantI S_ 1 1#1
  let main_v7 : IVec S_ 1 := (fun x v => Host.reduce IntOp.andi x v reducesTo_S4224x1024_S_d0_1 h_S_) main_v6 main_c_1
  let main_v8 : IVec S_ 1 := andi main_v3 main_v7
  let main_v9 : FVec F S4224x1024 .f32 := Host.absf main_arg2
  let main_cst_2 : FVec F S_ .f32 := constant S_ .f32 0x7F800000#32
  let main_v10 : FVec F S4224x1024 .f32 := broadcastInDim S4224x1024 ![] bcast_S_S4224x1024 main_cst_2
  let main_v11 : IVec S4224x1024 1 := cmpf .olt main_v9 main_v10
  let main_c_3 : IVec S_ 1 := constantI S_ 1 1#1
  let main_v12 : IVec S_ 1 := (fun x v => Host.reduce IntOp.andi x v reducesTo_S4224x1024_S_d0_1 h_S_) main_v11 main_c_3
  let main_v13 : IVec S_ 1 := andi main_v8 main_v12
  let main_v14 : FVec F S1x1024 .f32 := Host.absf main_arg9
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite_post.lean ====
abbrev S4224x1024 : Shape := ⟨2, ![4224, 1024]⟩
abbrev S4x4224x1024 : Shape := ⟨3, ![4, 4224, 1024]⟩
abbrev S1024x1024 : Shape := ⟨2, ![1024, 1024]⟩
abbrev S1x1024 : Shape := ⟨2, ![1, 1024]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S4x4224x1024 : S_.BroadcastsInDim S4x4224x1024 (![] : Fin 0 → Fin S4x4224x1024.rank)
  reducesTo_S4x4224x1024_S_d0_1_2 : S4x4224x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_arg11 : FVec F S1x1024 .f32) (main_arg12 : FVec F S1x1024 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1x1024 .f32 := Host.absf main_arg12
  let main_cst_22 : FVec F S_ .f32 := constant S_ .f32 0x7F800000#32
  let main_v60 : FVec F S1x1024 .f32 := broadcastInDim S1x1024 ![] bcast_S_S1x1024 main_cst_22
  let main_v61 : IVec S1x1024 1 := cmpf .olt main_v59 main_v60
  let main_c_23 : IVec S_ 1 := constantI S_ 1 1#1
  let main_v62 : IVec S_ 1 := (fun x v => Host.reduce IntOp.andi x v reducesTo_S1x1024_S_d0_1 h_S_) main_v61 main_c_23
  let main_v63 : IVec S_ 1 := andi main_v58 main_v62
  main_v63

def fn_part2 {F : FTy → Type} [FloatOps F] (main_arg7 : FVec F S4224x1024 .f32) (main_arg8 : FVec F S1024x1024 .f32) (main_arg9 : FVec F S1x1024 .f32) (main_arg10 : FVec F S1x1024 .f32) (main_arg11 : FVec F S1x1024 .f32) (main_arg12 : FVec F S1x1024 .f32) (main_v33 : IVec S_ 1) : IVec S_ 1 :=
  let main_v34 : FVec F S4224x1024 .f32 := Host.absf main_arg7
  let main_cst_12 : FVec F S_ .f32 := constant S_ .f32 0x7F800000#32
  let main_v35 : FVec F S4224x1024 .f32 := broadcastInDim S4224x1024 ![] bcast_S_S4224x1024 main_cst_12
  let main_v36 : IVec S4224x1024 1 := cmpf .olt main_v34 main_v35
  let main_c_13 : IVec S_ 1 := constantI S_ 1 1#1
  let main_v37 : IVec S_ 1 := (fun x v => Host.reduce IntOp.andi x v reducesTo_S4224x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_v48 main_v49 main_v50

def fn_part1 {F : FTy → Type} [FloatOps F] (main_arg4 : FVec F S4224x1024 .f32) (main_arg5 : FVec F S4224x1024 .f32) (main_arg6 : FVec F S4224x1024 .f32) (main_arg7 : FVec F S4224x1024 .f32) (main_arg8 : FVec F S1024x1024 .f32) (main_arg9 : FVec F S1x1024 .f32) (main_arg10 : FVec F S1x1024 .f32) (main_arg11 : FVec F S1x1024 .f32) (main_arg12 : FVec F S1x1024 .f32) (main_v13 : IVec S_ 1) (main_v16 : IVec S4224x1024 1) : IVec S_ 1 :=
  let main_c_5 : IVec S_ 1 := constantI S_ 1 1#1
  let main_v17 : IVec S_ 1 := (fun x v => Host.reduce IntOp.andi x v reducesTo_S4224x1024_S_d0_1 h_S_) main_v16 main_c_5
  let main_v18 : IVec S_ 1 := andi main_v13 main_v17
  let main_v19 : FVec F S4224x1024 .f32 := Host.absf main_arg4
  let main_cst_6 : FVec F S_ .f32 := constant S_ .f32 0x7F800000#32
  let main_v20 : FVec F S4224x1024 .f32 := broadcastInDim S4224x1024 ![] bcast_S_S4224x1024 main_cst_6
  let main_v21 : IVec S4224x1024 1 := cmpf .olt main_v19 main_v20
  let main_c_7 : IVec S_ 1 := constantI S_ 1 1#1
  let main_v22 : IVec S_ 1 := (fun x v => Host.reduce IntOp.andi x v reducesTo_S4224x1024_S_d0_1 h_S_) main_v21 main_c_7
  let main_v23 : IVec S_ 1 := andi main_v18 main_v22
  let main_v24 : FVec F S4224x1024 .f32 := Host.absf main_arg5
  let main_cst_8 : FVec F S_ .f32 := constant S_ .f32 0x7F800000#32
  let main_v25 : FVec F S4224x1024 .f32 := broadcastInDim S4224x1024 ![] bcast_S_S4224x1024 main_cst_8
  let main_v26 : IVec S4224x1024 1 := cmpf .olt main_v24 main_v25
  let main_c_9 : IVec S_ 1 := constantI S_ 1 1#1
  let main_v27 : IVec S_ 1 := (fun x v => Host.reduce IntOp.andi x v reducesTo_S4224x1024_S_d0_1 h_S_) main_v26 main_c_9
  let main_v28 : IVec S_ 1 := andi main_v23 main_v27
  let main_v29 : FVec F S4224x1024 .f32 := Host.absf main_arg6
  let main_cst_10 : FVec F S_ .f32 := constant S_ .f32 0x7F800000#32
  let main_v30 : FVec F S4224x1024 .f32 := broadcastInDim S4224x1024 ![] bcast_S_S4224x1024 main_cst_10
  let main_v31 : IVec S4224x1024 1 := cmpf .olt main_v29 main_v30
  let main_c_11 : IVec S_ 1 := constantI S_ 1 1#1
  let main_v32 : IVec S_ 1 := (fun x v => Host.reduce IntOp.andi x v reducesTo_S4224x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4224x1024 .f32) (main_arg1 : FVec F S4x4224x1024 .f32) (main_arg2 : FVec F S4224x1024 .f32) (main_arg3 : FVec F S4224x1024 .f32) (main_arg4 : FVec F S4224x1024 .f32) (main_arg5 : FVec F S4224x1024 .f32) (main_arg6 : FVec F S4224x1024 .f32) (main_arg7 : FVec F S4224x1024 .f32) (main_arg8 : FVec F S1024x1024 .f32) (main_arg9 : FVec F S1x1024 .f32) (main_arg10 : FVec F S1x1024 .f32) (main_arg11 : FVec F S1x1024 .f32) (main_arg12 : FVec F S1x1024 .f32) (main_arg13 : FVec F S1x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S4x4224x1024 .f32 := Host.absf main_arg1
  let main_cst_0 : FVec F S_ .f32 := constant S_ .f32 0x7F800000#32
  let main_v5 : FVec F S4x4224x1024 .f32 := broadcastInDim S4x4224x1024 ![] bcast_S_S4x4224x1024 main_cst_0
  let main_v6 : IVec S4x4224x1024 1 := cmpf .olt main_v4 main_v5
  let main_c_1 : IVec S_ 1 := constantI S_ 1 1#1
  let main_v7 : IVec S_ 1 := (fun x v => Host.reduce IntOp.andi x v reducesTo_S4x4224x1024_S_d0_1_2 h_S_) main_v6 main_c_1
  let main_v8 : IVec S_ 1 := andi main_v3 main_v7
  let main_v9 : FVec F S4224x1024 .f32 := Host.absf main_arg2
  let main_cst_2 : FVec F S_ .f32 := constant S_ .f32 0x7F800000#32
  let main_v10 : FVec F S4224x1024 .f32 := broadcastInDim S4224x1024 ![] bcast_S_S4224x1024 main_cst_2
  let main_v11 : IVec S4224x1024 1 := cmpf .olt main_v9 main_v10
  let main_c_3 : IVec S_ 1 := constantI S_ 1 1#1
  let main_v12 : IVec S_ 1 := (fun x v => Host.reduce IntOp.andi x v reducesTo_S4224x1024_S_d0_1 h_S_) main_v11 main_c_3
  let main_v13 : IVec S_ 1 := andi main_v8 main_v12
  let main_v14 : FVec F S4224x1024 .f32 := Host.absf main_arg3
  let main_cst_4 : FVec F S_ .f32 := constant S_ .f32 0x7F800000#32
  let main_v15 : FVec F S4224x1024 .f32 := broadcastInDim S4224x1024 ![] bcast_S_S4224x1024 main_cst_4
  let main_v16 : IVec S4224x1024 1 := cmpf .olt main_v14 main_v15
  fn_part1 (F := F) main_arg4 main_arg5 main_arg6 main_arg7 main_arg8 main_arg9 main_arg10 main_arg11 main_arg12 main_v13 main_v16
-- ==== Kernel.lean ====
abbrev S4224x1024 : Shape := ⟨2, ![4224, 1024]⟩
abbrev S4224x256 : Shape := ⟨2, ![4224, 256]⟩
abbrev S1x16 : Shape := ⟨2, ![1, 16]⟩
abbrev S4112x1024 : Shape := ⟨2, ![4112, 1024]⟩
abbrev S4112x256 : Shape := ⟨2, ![4112, 256]⟩
abbrev S4112x4x64 : Shape := ⟨3, ![4112, 4, 64]⟩
abbrev S_ : Shape := ⟨0, ![]⟩
abbrev S112x4x64 : Shape := ⟨3, ![112, 4, 64]⟩
abbrev S4224x4x64 : Shape := ⟨3, ![4224, 4, 64]⟩
abbrev S33x128x4x64 : Shape := ⟨4, ![33, 128, 4, 64]⟩
abbrev S1x128x4x64 : Shape := ⟨4, ![1, 128, 4, 64]⟩
abbrev S32x128x4x64 : Shape := ⟨4, ![32, 128, 4, 64]⟩
abbrev S33x256x4x64 : Shape := ⟨4, ![33, 256, 4, 64]⟩
abbrev S4112x16x64 : Shape := ⟨3, ![4112, 16, 64]⟩
abbrev S112x16x64 : Shape := ⟨3, ![112, 16, 64]⟩
abbrev S4224x16x64 : Shape := ⟨3, ![4224, 16, 64]⟩
abbrev S33x128x16x64 : Shape := ⟨4, ![33, 128, 16, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S33 : Shape := ⟨1, ![33]⟩
abbrev S33x1 : Shape := ⟨2, ![33, 1]⟩
abbrev S33x256 : Shape := ⟨2, ![33, 256]⟩
abbrev S1x128x256 : Shape := ⟨3, ![1, 128, 256]⟩
abbrev S33x1x256 : Shape := ⟨3, ![33, 1, 256]⟩
abbrev S33x128x256 : Shape := ⟨3, ![33, 128, 256]⟩
abbrev S33x128x4x4x64 : Shape := ⟨5, ![33, 128, 4, 4, 64]⟩
abbrev S33x4x256x128x4 : Shape := ⟨5, ![33, 4, 256, 128, 4]⟩
abbrev S33x4x4x128x256 : Shape := ⟨5, ![33, 4, 4, 128, 256]⟩
abbrev S33x1x1x128x256 : Shape := ⟨5, ![33, 1, 1, 128, 256]⟩
abbrev S16 : Shape := ⟨1, ![16]⟩
abbrev S4x4 : Shape := ⟨2, ![4, 4]⟩
abbrev S1x4x4x1 : Shape := ⟨4, ![1, 4, 4, 1]⟩
abbrev S33x4x4x128 : Shape := ⟨4, ![33, 4, 4, 128]⟩
abbrev S33x4x4x128x1 : Shape := ⟨5, ![33, 4, 4, 128, 1]⟩
abbrev S33x4x512x256 : Shape := ⟨4, ![33, 4, 512, 256]⟩
abbrev S33x4x128x4 : Shape := ⟨4, ![33, 4, 128, 4]⟩
abbrev S33x512x4 : Shape := ⟨3, ![33, 512, 4]⟩
abbrev S33x512x4x32 : Shape := ⟨4, ![33, 512, 4, 32]⟩
abbrev S33x512x128 : Shape := ⟨3, ![33, 512, 128]⟩
abbrev S4x256x256 : Shape := ⟨3, ![4, 256, 256]⟩
abbrev S4x8x128 : Shape := ⟨3, ![4, 8, 128]⟩
abbrev S128x1024 : Shape := ⟨2, ![128, 1024]⟩
abbrev S1x4x512x256 : Shape := ⟨4, ![1, 4, 512, 256]⟩
abbrev S1x512x128 : Shape := ⟨3, ![1, 512, 128]⟩
abbrev S256x256 : Shape := ⟨2, ![256, 256]⟩
abbrev S512x256 : Shape := ⟨2, ![512, 256]⟩
abbrev S1x256x256 : Shape := ⟨3, ![1, 256, 256]⟩
abbrev S1x1x512x256 : Shape := ⟨4, ![1, 1, 512, 256]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x128 : Shape := ⟨2, ![1, 128]⟩
abbrev S4x128 : Shape := ⟨2, ![4, 128]⟩
abbrev S8x128 : Shape := ⟨2, ![8, 128]⟩
abbrev S1x8x128 : Shape := ⟨3, ![1, 8, 128]⟩
abbrev S4x4x1 : Shape := ⟨3, ![4, 4, 1]⟩
abbrev S4096x256 : Shape := ⟨2, ![4096, 256]⟩

abbrev nBuf : Space → Nat
  | .hbm => 137
  | .vmem => 28
  | .smem => 0
  | _ => 0

abbrev hbmTy0_0 (i : Nat) : BufTy := match i % 128 with
  | 0 => ⟨S4224x1024, .f32⟩
  | 1 => ⟨S4224x256, .f32⟩
  | 2 => ⟨S4224x256, .f32⟩
  | 3 => ⟨S1x16, .f32⟩
  | 4 => ⟨S4224x1024, .f32⟩
  | 5 => ⟨S4112x1024, .f32⟩
  | 6 => ⟨S4112x256, .f32⟩
  | 7 => ⟨S4112x4x64, .f32⟩
  | 8 => ⟨S_, .f32⟩
  | 9 => ⟨S112x4x64, .f32⟩
  | 10 => ⟨S4224x4x64, .f32⟩
  | 11 => ⟨S33x128x4x64, .f32⟩
  | 12 => ⟨S1x128x4x64, .f32⟩
  | 13 => ⟨S_, .f32⟩
  | 14 => ⟨S1x128x4x64, .f32⟩
  | 15 => ⟨S32x128x4x64, .f32⟩
  | 16 => ⟨S33x128x4x64, .f32⟩
  | 17 => ⟨S33x256x4x64, .f32⟩
  | 18 => ⟨S4112x16x64, .f32⟩
  | 19 => ⟨S_, .f32⟩
  | 20 => ⟨S112x16x64, .f32⟩
  | 21 => ⟨S4224x16x64, .f32⟩
  | 22 => ⟨S33x128x16x64, .f32⟩
  | 23 => ⟨S128, .i32⟩
  | 24 => ⟨S128x1, .i32⟩
  | 25 => ⟨S256, .i32⟩
  | 26 => ⟨S1x256, .i32⟩
  | 27 => ⟨S_, .i32⟩
  | 28 => ⟨S128x1, .i32⟩
  | 29 => ⟨S128x1, .i32⟩
  | 30 => ⟨S128x256, .i32⟩
  | 31 => ⟨S128x256, .i32⟩
  | 32 => ⟨S128x256, .i32⟩
  | 33 => ⟨S_, .i32⟩
  | 34 => ⟨S128x256, .i32⟩
  | 35 => ⟨S128x256, .i1⟩
  | 36 => ⟨S_, .i32⟩
  | 37 => ⟨S128x256, .i32⟩
  | 38 => ⟨S128x256, .i1⟩
  | 39 => ⟨S128x256, .i1⟩
  | 40 => ⟨S33, .i32⟩
  | 41 => ⟨S33x1, .i32⟩
  | 42 => ⟨S_, .i32⟩
  | 43 => ⟨S33x1, .i32⟩
  | 44 => ⟨S33x1, .i32⟩
  | 45 => ⟨S_, .i32⟩
  | 46 => ⟨S33x1, .i32⟩
  | 47 => ⟨S33x1, .i32⟩
  | 48 => ⟨S256, .i32⟩
  | 49 => ⟨S1x256, .i32⟩
  | 50 => ⟨S33x256, .i32⟩
  | 51 => ⟨S33x256, .i32⟩
  | 52 => ⟨S33x256, .i32⟩
  | 53 => ⟨S_, .i32⟩
  | 54 => ⟨S33x256, .i32⟩
  | 55 => ⟨S33x256, .i1⟩
  | 56 => ⟨S1x128x256, .i1⟩
  | 57 => ⟨S33x1x256, .i1⟩
  | 58 => ⟨S33x128x256, .i1⟩
  | 59 => ⟨S33x128x256, .i1⟩
  | 60 => ⟨S33x128x256, .i1⟩
  | 61 => ⟨S33x128x4x4x64, .f32⟩
  | 62 => ⟨S33x4x256x128x4, .f32⟩
  | 63 => ⟨S33x4x4x128x256, .f32⟩
  | 64 => ⟨S_, .f32⟩
  | 65 => ⟨S33x4x4x128x256, .f32⟩
  | 66 => ⟨S33x4x4x128x256, .f32⟩
  | 67 => ⟨S33x1x1x128x256, .i1⟩
  | 68 => ⟨S_, .f32⟩
  | 69 => ⟨S_, .f32⟩
  | 70 => ⟨S33x4x4x128x256, .i1⟩
  | 71 => ⟨S33x4x4x128x256, .f32⟩
  | 72 => ⟨S33x4x4x128x256, .f32⟩
  | 73 => ⟨S16, .f32⟩
  | 74 => ⟨S4x4, .f32⟩
  | 75 => ⟨S1x4x4x1, .f32⟩
  | 76 => ⟨S_, .f32⟩
  | 77 => ⟨S33x4x4x128, .f32⟩
  | 78 => ⟨S33x4x4x128, .f32⟩
  | 79 => ⟨S33x4x4x128, .f32⟩
  | 80 => ⟨S33x4x4x128x1, .f32⟩
  | 81 => ⟨S33x4x4x128x256, .f32⟩
  | 82 => ⟨S33x4x4x128x256, .f32⟩
  | 83 => ⟨S33x4x4x128x256, .f32⟩
  | 84 => ⟨S_, .f32⟩
  | 85 => ⟨S33x4x4x128, .f32⟩
  | 86 => ⟨S33x4x4x128, .f32⟩
  | 87 => ⟨S33x4x4x128, .f32⟩
  | 88 => ⟨S33x4x4x128, .f32⟩
  | 89 => ⟨S33x4x4x128, .f32⟩
  | 90 => ⟨S33x4x4x128x1, .f32⟩
  | 91 => ⟨S33x4x4x128x256, .f32⟩
  | 92 => ⟨S33x4x4x128x256, .f32⟩
  | 93 => ⟨S33x4x4x128, .f32⟩
  | 94 => ⟨S33x4x4x128, .f32⟩
  | 95 => ⟨S33x4x4x128, .f32⟩
  | 96 => ⟨S33x4x4x128, .f32⟩
  | 97 => ⟨S33x4x512x256, .f32⟩
  | 98 => ⟨S33x4x512x256, .bf16⟩
  | 99 => ⟨S33x4x128x4, .f32⟩
  | 100 => ⟨S33x512x4, .f32⟩
  | 101 => ⟨S33x512x4x32, .f32⟩
  | 102 => ⟨S33x512x128, .f32⟩
  | 103 => ⟨S4x256x256, .i32⟩
  | 104 => ⟨S4x256x256, .i32⟩
  | 105 => ⟨S4x256x256, .i32⟩
  | 106 => ⟨S_, .i32⟩
  | 107 => ⟨S4x256x256, .i32⟩
  | 108 => ⟨S4x256x256, .i32⟩
  | 109 => ⟨S_, .i32⟩
  | 110 => ⟨S4x256x256, .i32⟩
  | 111 => ⟨S4x256x256, .i32⟩
  | 112 => ⟨S4x256x256, .i32⟩
  | 113 => ⟨S4x256x256, .i1⟩
  | 114 => ⟨S_, .f32⟩
  | 115 => ⟨S_, .f32⟩
  | 116 => ⟨S4x256x256, .f32⟩
  | 117 => ⟨S4x256x256, .f32⟩
  | 118 => ⟨S4x256x256, .f32⟩
  | 119 => ⟨S4x256x256, .bf16⟩
  | 120 => ⟨S4224x1024, .f32⟩
  | 121 => ⟨S4224x256, .f32⟩
  | 122 => ⟨S4224x256, .f32⟩
  | 123 => ⟨S4224x256, .f32⟩
  | 124 => ⟨S4224x256, .f32⟩
  | 125 => ⟨S4x8x128, .f32⟩
  | 126 => ⟨S4x4x1, .f32⟩
  | 127 => ⟨S4x4, .f32⟩
  | _ => ⟨S4224x1024, .f32⟩

abbrev hbmTy0_1 (i : Nat) : BufTy := match i % 128 with
  | 0 => ⟨S1x16, .f32⟩
  | 1 => ⟨S_, .f32⟩
  | 2 => ⟨S128x256, .f32⟩
  | 3 => ⟨S4096x256, .f32⟩
  | 4 => ⟨S4224x256, .f32⟩
  | 5 => ⟨S4096x256, .f32⟩
  | 6 => ⟨S4224x256, .f32⟩
  | 7 => ⟨S4224x256, .f32⟩
  | 8 => ⟨S4224x256, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S4x256x256, .bf16⟩
  | .local _ .vmem, ⟨11, _⟩ => ⟨S1x4x512x256, .bf16⟩
  | .local _ .vmem, ⟨12, _⟩ => ⟨S1x4x512x256, .bf16⟩
  | .local _ .vmem, ⟨13, _⟩ => ⟨S1x512x128, .f32⟩
  | .local _ .vmem, ⟨14, _⟩ => ⟨S1x512x128, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S4x8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_c_11 : Ref sig .tc := ⟨.hbm, 106, rfl⟩
abbrev main_v85 : Ref sig .tc := ⟨.hbm, 107, rfl⟩
abbrev main_v86 : Ref sig .tc := ⟨.hbm, 108, rfl⟩
abbrev main_c_12 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_13 : Ref sig .tc := ⟨.hbm, 114, rfl⟩
abbrev main_cst_14 : Ref sig .tc := ⟨.hbm, 115, rfl⟩
abbrev main_call1_v0 : Ref sig .tc := ⟨.hbm, 116, rfl⟩
abbrev main_call1_v1 : Ref sig .tc := ⟨.hbm, 117, rfl⟩
abbrev main_v91 : Ref sig .tc := ⟨.hbm, 118, rfl⟩
abbrev main_v92 : Ref sig .tc := ⟨.hbm, 119, rfl⟩
abbrev main_v93_0 : Ref sig .tc := ⟨.hbm, 120, rfl⟩
abbrev main_v93_1 : Ref sig .tc := ⟨.hbm, 121, rfl⟩
abbrev main_v93_2 : Ref sig .tc := ⟨.hbm, 122, rfl⟩
abbrev main_v93_3 : Ref sig .tc := ⟨.hbm, 123, rfl⟩
abbrev main_v93_4 : Ref sig .tc := ⟨.hbm, 124, rfl⟩
abbrev main_v93_5 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_15 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_241 : BitVec 32 := 0#32
  let v618 : BitVec 1 := Scalar.cmpi .eq arg0 c0_i32_241
  let v619 : BitVec 32 := Scalar.extui v618
  let c0_i32_242 : BitVec 32 := 0#32
  let v620 : BitVec 1 := Scalar.cmpi .ne v619 c0_i32_242
  v620

def k0_cond2 (i : grid0.Coords) : BitVec 1 :=
  let arg0 : BitVec 32 := BitVec.ofNat 32 (i 0).val
  let c0_i32_243 : BitVec 32 := 0#32
  let v621 : BitVec 1 := Scalar.cmpi .sgt arg0 c0_i32_243
  let v622 : BitVec 32 := Scalar.extui v621
  let c0_i32_244 : BitVec 32 := 0#32
  let v623 : BitVec 1 := Scalar.cmpi .ne v622 c0_i32_244
  v623

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4224x1024 : Shape := ⟨2, ![4224, 1024]⟩
abbrev S4224x256 : Shape := ⟨2, ![4224, 256]⟩
abbrev S1x16 : Shape := ⟨2, ![1, 16]⟩
abbrev S4112x1024 : Shape := ⟨2, ![4112, 1024]⟩
abbrev S4112x256 : Shape := ⟨2, ![4112, 256]⟩
abbrev S4112x4x64 : Shape := ⟨3, ![4112, 4, 64]⟩
abbrev S_ : Shape := ⟨0, ![]⟩
abbrev S112x4x64 : Shape := ⟨3, ![112, 4, 64]⟩
abbrev S4224x4x64 : Shape := ⟨3, ![4224, 4, 64]⟩
abbrev S33x128x4x64 : Shape := ⟨4, ![33, 128, 4, 64]⟩
abbrev S1x128x4x64 : Shape := ⟨4, ![1, 128, 4, 64]⟩
abbrev S32x128x4x64 : Shape := ⟨4, ![32, 128, 4, 64]⟩
abbrev S33x256x4x64 : Shape := ⟨4, ![33, 256, 4, 64]⟩
abbrev S4112x16x64 : Shape := ⟨3, ![4112, 16, 64]⟩
abbrev S112x16x64 : Shape := ⟨3, ![112, 16, 64]⟩
abbrev S4224x16x64 : Shape := ⟨3, ![4224, 16, 64]⟩
abbrev S33x128x16x64 : Shape := ⟨4, ![33, 128, 16, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S33 : Shape := ⟨1, ![33]⟩
abbrev S33x1 : Shape := ⟨2, ![33, 1]⟩
abbrev S33x256 : Shape := ⟨2, ![33, 256]⟩
abbrev S1x128x256 : Shape := ⟨3, ![1, 128, 256]⟩
abbrev S33x1x256 : Shape := ⟨3, ![33, 1, 256]⟩
abbrev S33x128x256 : Shape := ⟨3, ![33, 128, 256]⟩
abbrev S33x128x4x4x64 : Shape := ⟨5, ![33, 128, 4, 4, 64]⟩
abbrev S33x4x256x128x4 : Shape := ⟨5, ![33, 4, 256, 128, 4]⟩
abbrev S33x4x4x128x256 : Shape := ⟨5, ![33, 4, 4, 128, 256]⟩
abbrev S33x1x1x128x256 : Shape := ⟨5, ![33, 1, 1, 128, 256]⟩
abbrev S16 : Shape := ⟨1, ![16]⟩
abbrev S4x4 : Shape := ⟨2, ![4, 4]⟩
abbrev S1x4x4x1 : Shape := ⟨4, ![1, 4, 4, 1]⟩
abbrev S33x4x4x128 : Shape := ⟨4, ![33, 4, 4, 128]⟩
abbrev S33x4x4x128x1 : Shape := ⟨5, ![33, 4, 4, 128, 1]⟩
abbrev S33x4x64x4x128 : Shape := ⟨5, ![33, 4, 64, 4, 128]⟩
abbrev S33x4x64x256 : Shape := ⟨4, ![33, 4, 64, 256]⟩
abbrev S33x4x128x4x64 : Shape := ⟨5, ![33, 4, 128, 4, 64]⟩
abbrev S33x4x256x64 : Shape := ⟨4, ![33, 4, 256, 64]⟩

abbrev nBuf : Space → Nat
  | .hbm => 255
  | .vmem => 0
  | .smem => 0
  | _ => 0

abbrev hbmTy0_0 (i : Nat) : BufTy := match i % 128 with
  | 0 => ⟨S4224x1024, .f32⟩
  | 1 => ⟨S4224x256, .f32⟩
  | 2 => ⟨S4224x256, .f32⟩
  | 3 => ⟨S1x16, .f32⟩
  | 4 => ⟨S4224x1024, .f32⟩
  | 5 => ⟨S4112x1024, .f32⟩
  | 6 => ⟨S4112x256, .f32⟩
  | 7 => ⟨S4112x256, .f32⟩
  | 8 => ⟨S4112x4x64, .f32⟩
  | 9 => ⟨S_, .f32⟩
  | 10 => ⟨S112x4x64, .f32⟩
  | 11 => ⟨S4224x4x64, .f32⟩
  | 12 => ⟨S_, .f32⟩
  | 13 => ⟨S112x4x64, .f32⟩
  | 14 => ⟨S33x128x4x64, .f32⟩
  | 15 => ⟨S1x128x4x64, .f32⟩
  | 16 => ⟨S_, .f32⟩
  | 17 => ⟨S1x128x4x64, .f32⟩
  | 18 => ⟨S32x128x4x64, .f32⟩
  | 19 => ⟨S33x128x4x64, .f32⟩
  | 20 => ⟨S_, .f32⟩
  | 21 => ⟨S1x128x4x64, .f32⟩
  | 22 => ⟨S33x256x4x64, .f32⟩
  | 23 => ⟨S4112x4x64, .f32⟩
  | 24 => ⟨S_, .f32⟩
  | 25 => ⟨S112x4x64, .f32⟩
  | 26 => ⟨S4224x4x64, .f32⟩
  | 27 => ⟨S_, .f32⟩
  | 28 => ⟨S112x4x64, .f32⟩
  | 29 => ⟨S33x128x4x64, .f32⟩
  | 30 => ⟨S1x128x4x64, .f32⟩
  | 31 => ⟨S_, .f32⟩
  | 32 => ⟨S1x128x4x64, .f32⟩
  | 33 => ⟨S32x128x4x64, .f32⟩
  | 34 => ⟨S33x128x4x64, .f32⟩
  | 35 => ⟨S_, .f32⟩
  | 36 => ⟨S1x128x4x64, .f32⟩
  | 37 => ⟨S33x256x4x64, .f32⟩
  | 38 => ⟨S4112x16x64, .f32⟩
  | 39 => ⟨S_, .f32⟩
  | 40 => ⟨S112x16x64, .f32⟩
  | 41 => ⟨S4224x16x64, .f32⟩
  | 42 => ⟨S_, .f32⟩
  | 43 => ⟨S112x16x64, .f32⟩
  | 44 => ⟨S33x128x16x64, .f32⟩
  | 45 => ⟨S128, .i32⟩
  | 46 => ⟨S128x1, .i32⟩
  | 47 => ⟨S256, .i32⟩
  | 48 => ⟨S1x256, .i32⟩
  | 49 => ⟨S_, .i32⟩
  | 50 => ⟨S128x1, .i32⟩
  | 51 => ⟨S128x1, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S33, .i32⟩
  | 63 => ⟨S33x1, .i32⟩
  | 64 => ⟨S_, .i32⟩
  | 65 => ⟨S33x1, .i32⟩
  | 66 => ⟨S33x1, .i32⟩
  | 67 => ⟨S_, .i32⟩
  | 68 => ⟨S33x1, .i32⟩
  | 69 => ⟨S33x1, .i32⟩
  | 70 => ⟨S256, .i32⟩
  | 71 => ⟨S1x256, .i32⟩
  | 72 => ⟨S33x256, .i32⟩
  | 73 => ⟨S33x256, .i32⟩
  | 74 => ⟨S33x256, .i32⟩
  | 75 => ⟨S_, .i32⟩
  | 76 => ⟨S33x256, .i32⟩
  | 77 => ⟨S33x256, .i1⟩
  | 78 => ⟨S1x128x256, .i1⟩
  | 79 => ⟨S33x1x256, .i1⟩
  | 80 => ⟨S33x128x256, .i1⟩
  | 81 => ⟨S33x128x256, .i1⟩
  | 82 => ⟨S33x128x256, .i1⟩
  | 83 => ⟨S33x128x4x4x64, .f32⟩
  | 84 => ⟨S33x4x256x128x4, .f32⟩
  | 85 => ⟨S33x4x4x128x256, .f32⟩
  | 86 => ⟨S_, .f32⟩
  | 87 => ⟨S33x4x4x128x256, .f32⟩
  | 88 => ⟨S33x4x4x128x256, .f32⟩
  | 89 => ⟨S33x1x1x128x256, .i1⟩
  | 90 => ⟨S_, .f32⟩
  | 91 => ⟨S_, .f32⟩
  | 92 => ⟨S33x4x4x128x256, .i1⟩
  | 93 => ⟨S33x4x4x128x256, .f32⟩
  | 94 => ⟨S33x4x4x128x256, .f32⟩
  | 95 => ⟨S_, .f32⟩
  | 96 => ⟨S33x4x4x128x256, .f32⟩
  | 97 => ⟨S16, .f32⟩
  | 98 => ⟨S4x4, .f32⟩
  | 99 => ⟨S1x4x4x1, .f32⟩
  | 100 => ⟨S_, .f32⟩
  | 101 => ⟨S33x4x4x128, .f32⟩
  | 102 => ⟨S33x4x4x128x1, .f32⟩
  | 103 => ⟨S33x4x4x128x256, .f32⟩
  | 104 => ⟨S33x4x4x128x256, .i1⟩
  | 105 => ⟨S33x4x4x128x256, .f32⟩
  | 106 => ⟨S_, .f32⟩
  | 107 => ⟨S33x4x4x128, .f32⟩
  | 108 => ⟨S33x4x4x128, .f32⟩
  | 109 => ⟨S33x4x4x128, .f32⟩
  | 110 => ⟨S33x4x4x128, .f32⟩
  | 111 => ⟨S33x4x4x128, .i1⟩
  | 112 => ⟨S33x4x4x128, .f32⟩
  | 113 => ⟨S33x4x4x128, .i1⟩
  | 114 => ⟨S_, .f32⟩
  | 115 => ⟨S33x4x4x128, .f32⟩
  | 116 => ⟨S_, .f32⟩
  | 117 => ⟨S33x4x4x128, .f32⟩
  | 118 => ⟨S_, .f32⟩
  | 119 => ⟨S33x4x4x128, .f32⟩
  | 120 => ⟨S33x4x4x128, .f32⟩
  | 121 => ⟨S33x4x4x128, .f32⟩
  | 122 => ⟨S33x4x4x128, .f32⟩
  | 123 => ⟨S33x4x4x128, .i1⟩
  | 124 => ⟨S33x4x4x128, .f32⟩
  | 125 => ⟨S33x4x4x128, .i1⟩
  | 126 => ⟨S_, .f32⟩
  | 127 => ⟨S33x4x4x128, .f32⟩
  | _ => ⟨S4224x1024, .f32⟩

abbrev hbmTy0_1 (i : Nat) : BufTy := match i % 128 with
  | 0 => ⟨S_, .f32⟩
  | 1 => ⟨S33x4x4x128, .f32⟩
  | 2 => ⟨S_, .f32⟩
  | 3 => ⟨S33x4x4x128, .f32⟩
  | 4 => ⟨S33x4x4x128, .f32⟩
  | 5 => ⟨S33x4x4x128, .f32⟩
  | 6 => ⟨S33x4x4x128x1, .f32⟩
  | 7 => ⟨S33x4x4x128x256, .f32⟩
  | 8 => ⟨S33x4x4x128x256, .f32⟩
  | 9 => ⟨S33x4x4x128x256, .f32⟩
  | 10 => ⟨S_, .f32⟩
  | 11 => ⟨S33x4x4x128, .f32⟩
  | 12 => ⟨S33x4x4x128, .f32⟩
  | 13 => ⟨S33x4x4x128, .f32⟩
  | 14 => ⟨S33x4x4x128, .f32⟩
  | 15 => ⟨S33x4x4x128, .f32⟩
  | 16 => ⟨S33x4x4x128x1, .f32⟩
  | 17 => ⟨S33x4x4x128x256, .f32⟩
  | 18 => ⟨S33x4x4x128x256, .f32⟩
  | 19 => ⟨S33x4x4x128x1, .f32⟩
  | 20 => ⟨S_, .f32⟩
  | 21 => ⟨S33x4x4x128x1, .f32⟩
  | 22 => ⟨S33x4x4x128x1, .f32⟩
  | 23 => ⟨S33x4x4x128, .f32⟩
  | 24 => ⟨S33x4x4x128, .f32⟩
  | 25 => ⟨S33x4x4x128, .f32⟩
  | 26 => ⟨S33x4x4x128, .f32⟩
  | 27 => ⟨S33x4x4x128, .f32⟩
  | 28 => ⟨S_, .f32⟩
  | 29 => ⟨S33x4x4x128, .f32⟩
  | 30 => ⟨S33x4x4x128, .f32⟩
  | 31 => ⟨S33x4x64x4x128, .f32⟩
  | 32 => ⟨S33x128x4x4x64, .f32⟩
  | 33 => ⟨S4224x1024, .f32⟩
  | 34 => ⟨S4112x1024, .f32⟩
  | 35 => ⟨S4112x1024, .f32⟩
  | 36 => ⟨S_, .f32⟩
  | 37 => ⟨S4224x1024, .f32⟩
  | 38 => ⟨S33x128x4x4x64, .f32⟩
  | 39 => ⟨S33x4x64x4x128, .f32⟩
  | 40 => ⟨S33x4x4x128x256, .f32⟩
  | 41 => ⟨S33x4x64x256, .f32⟩
  | 42 => ⟨S33x256x4x64, .f32⟩
  | 43 => ⟨S33x4x4x128x256, .f32⟩
  | 44 => ⟨S33x4x4x128x256, .f32⟩
  | 45 => ⟨S33x4x4x128x256, .f32⟩
  | 46 => ⟨S_, .f32⟩
  | 47 => ⟨S33x4x4x128, .f32⟩
  | 48 => ⟨S33x4x4x128x1, .f32⟩
  | 49 => ⟨S33x4x4x128x1, .f32⟩
  | 50 => ⟨S33x4x4x128x256, .f32⟩
  | 51 => ⟨S33x4x4x128x256, .f32⟩
  | 52 => ⟨S_, .f32⟩
  | 53 => ⟨S33x4x4x128, .f32⟩
  | 54 => ⟨S33x4x4x128, .f32⟩
  | 55 => ⟨S_, .f32⟩
  | 56 => ⟨S4x4, .f32⟩
  | 57 => ⟨S1x4x4x1, .f32⟩
  | 58 => ⟨S33x4x4x128, .f32⟩
  | 59 => ⟨S33x4x4x128x256, .f32⟩
  | 60 => ⟨S33x4x4x128x256, .f32⟩
  | 61 => ⟨S33x4x4x128x256, .f32⟩
  | 62 => ⟨S33x4x4x128x256, .f32⟩
  | 63 => ⟨S_, .f32⟩
  | 64 => ⟨S33x4x4x128, .f32⟩
  | 65 => ⟨S33x4x4x128x1, .f32⟩
  | 66 => ⟨S_, .f32⟩
  | 67 => ⟨S33x4x4x128, .f32⟩
  | 68 => ⟨S33x4x4x128, .f32⟩
  | 69 => ⟨S33x4x4x128, .f32⟩
  | 70 => ⟨S_, .f32⟩
  | 71 => ⟨S4x4, .f32⟩
  | 72 => ⟨S1x4x4x1, .f32⟩
  | 73 => ⟨S1x4x4x1, .f32⟩
  | 74 => ⟨S33x4x4x128, .f32⟩
  | 75 => ⟨S33x4x4x128, .f32⟩
  | 76 => ⟨S33x4x4x128x256, .f32⟩
  | 77 => ⟨S33x4x4x128x256, .f32⟩
  | 78 => ⟨S33x4x4x128x256, .f32⟩
  | 79 => ⟨S_, .f32⟩
  | 80 => ⟨S4x4, .f32⟩
  | 81 => ⟨S16, .f32⟩
  | 82 => ⟨S1x16, .f32⟩
  | 83 => ⟨S_, .f32⟩
  | 84 => ⟨S33x4x4x128x256, .f32⟩
  | 85 => ⟨S33x4x4x128x256, .f32⟩
  | 86 => ⟨S_, .f32⟩
  | 87 => ⟨S33x4x4x128x256, .f32⟩
  | 88 => ⟨S33x4x4x128x256, .f32⟩
  | 89 => ⟨S33x4x256x128x4, .f32⟩
  | 90 => ⟨S33x4x128x4x64, .f32⟩
  | 91 => ⟨S33x128x4x4x64, .f32⟩
  | 92 => ⟨S33x4x256x64, .f32⟩
  | 93 => ⟨S33x256x4x64, .f32⟩
  | 94 => ⟨S33x128x16x64, .f32⟩
  | 95 => ⟨S4224x16x64, .f32⟩
  | 96 => ⟨S112x16x64, .f32⟩
  | 97 => ⟨S4112x16x64, .f32⟩
  | 98 => ⟨S4112x1024, .f32⟩
  | 99 => ⟨S33x128x4x64, .f32⟩
  | 100 => ⟨S33x128x4x64, .f32⟩
  | 101 => ⟨S1x128x4x64, .f32⟩
  | 102 => ⟨S32x128x4x64, .f32⟩
  | 103 => ⟨S_, .f32⟩
  | 104 => ⟨S33x128x4x64, .f32⟩
  | 105 => ⟨S33x128x4x64, .f32⟩
  | 106 => ⟨S4224x4x64, .f32⟩
  | 107 => ⟨S112x4x64, .f32⟩
  | 108 => ⟨S4112x4x64, .f32⟩
  | 109 => ⟨S4112x256, .f32⟩
  | 110 => ⟨S33x128x4x64, .f32⟩
  | 111 => ⟨S33x128x4x64, .f32⟩
  | 112 => ⟨S1x128x4x64, .f32⟩
  | 113 => ⟨S32x128x4x64, .f32⟩
  | 114 => ⟨S_, .f32⟩
  | 115 => ⟨S33x128x4x64, .f32⟩
  | 116 => ⟨S33x128x4x64, .f32⟩
  | 117 => ⟨S4224x4x64, .f32⟩
  | 118 => ⟨S112x4x64, .f32⟩
  | 119 => ⟨S4112x4x64, .f32⟩
  | 120 => ⟨S4112x256, .f32⟩
  | 121 => ⟨S_, .f32⟩
  | 122 => ⟨S4224x256, .f32⟩
  | 123 => ⟨S_, .f32⟩
  | 124 => ⟨S4224x256, .f32⟩
  | 125 => ⟨S_, .f32⟩
  | 126 => ⟨S4224x1024, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_c_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_call0_v0 : Ref sig .tc := ⟨.hbm, 91, rfl⟩
abbrev main_v68_1 : Ref sig .tc := ⟨.hbm, 92, rfl⟩
abbrev main_call0_v2 : Ref sig .tc := ⟨.hbm, 93, rfl⟩
abbrev main_v68_0 : Ref sig .tc := ⟨.hbm, 94, rfl⟩
abbrev main_call0_cst : Ref sig .tc := ⟨.hbm, 95, rfl⟩
abbrev main_v68_2 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_cst_23 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_25 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_27 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_28 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_29 : Ref sig .tc := ⟨.hbm, 180, rfl⟩
abbrev main_v139 : Ref sig .tc := ⟨.hbm, 181, rfl⟩
abbrev main_v140 : Ref sig .tc := ⟨.hbm, 182, rfl⟩
abbrev main_cst_30 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_31 : Ref sig .tc := ⟨.hbm, 191, rfl⟩
abbrev main_v148 : Ref sig .tc := ⟨.hbm, 192, rfl⟩
abbrev main_v149 : Ref sig .tc := ⟨.hbm, 193, rfl⟩
abbrev main_cst_32 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_33 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_34 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_call1_cst : Ref sig .tc := ⟨.hbm, 211, rfl⟩
abbrev main_call1_v0 : Ref sig .tc := ⟨.hbm, 212, rfl⟩
abbrev main_v164 : Ref sig .tc := ⟨.hbm, 213, rfl⟩
abbrev main_cst_35 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_36 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_37 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_38 : Ref sig .tc := ⟨.hbm, 249, rfl⟩
abbrev main_v197 : Ref sig .tc := ⟨.hbm, 250, rfl⟩
abbrev main_cst_39 : Ref sig .tc := ⟨.hbm, 251, rfl⟩
abbrev main_v198 : Ref sig .tc := ⟨.hbm, 252, rfl⟩
abbrev main_cst_40 : Ref sig .tc := ⟨.hbm, 253, rfl⟩
abbrev main_v199 : Ref sig .tc := ⟨.hbm, 254, rfl⟩

abbrev nD : Nat := 1
abbrev τ : Topo := Topo.v7x

variable {F : FTy → Type} [FloatOps F]
-- ==== Loss.lean ====
abbrev S4224x1024 : Shape := ⟨2, ![4224, 1024]⟩
abbrev S4096x1024 : Shape := ⟨2, ![4096, 1024]⟩
abbrev S8x128 : Shape := ⟨2, ![8, 128]⟩
abbrev S384x1024 : Shape := ⟨2, ![384, 1024]⟩
abbrev S128x1024 : Shape := ⟨2, ![128, 1024]⟩
abbrev S384x1 : Shape := ⟨2, ![384, 1]⟩
abbrev S384 : Shape := ⟨1, ![384]⟩
abbrev S1 : Shape := ⟨1, ![1]⟩
abbrev S1x1 : Shape := ⟨2, ![1, 1]⟩

abbrev nBuf : Space → Nat
  | .hbm => 4
  | .vmem => 11
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4224x1024, .f32⟩
  | .hbm, ⟨3, _⟩ => ⟨S8x128, .f32⟩
  | .local _ .vmem, ⟨0, _⟩ => ⟨S384x1024, .f32⟩
  | .local _ .vmem, ⟨1, _⟩ => ⟨S384x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S384x1024, .f32⟩
  | .local _ .vmem, ⟨9, _⟩ => ⟨S384x1024, .f32⟩
  | .local _ .vmem, ⟨10, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v30 : BitVec 1 := Scalar.cmpi .eq arg1 c0_i32
  let arg0 : BitVec 32 := BitVec.ofNat 32 (i 0).val
  let c0_i32_13 : BitVec 32 := 0#32
  let v31 : BitVec 1 := Scalar.cmpi .eq arg0 c0_i32_13
  let v32 : BitVec 1 := Scalar.andi v30 v31
  let v33 : BitVec 32 := Scalar.extui v32
  let c0_i32_14 : BitVec 32 := 0#32
  let v34 : BitVec 1 := Scalar.cmpi .ne v33 c0_i32_14
  v34

def k0_cond2 (i : grid0.Coords) : BitVec 1 :=
  let arg1 : BitVec 32 := BitVec.ofNat 32 (i 1).val
  let c0_i32 : BitVec 32 := 0#32
  let v30 : BitVec 1 := Scalar.cmpi .eq arg1 c0_i32
  let arg0 : BitVec 32 := BitVec.ofNat 32 (i 0).val
  let c0_i32_13 : BitVec 32 := 0#32
  let v31 : BitVec 1 := Scalar.cmpi .eq arg0 c0_i32_13
  let v32 : BitVec 1 := Scalar.andi v30 v31
  let v_true : BitVec 1 := 1#1
  let v35 : BitVec 1 := Scalar.xori v32 v_true
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== LossRefIdeal.lean ====
abbrev S4224x1024 : Shape := ⟨2, ![4224, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 29
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4224x1024, .f32⟩
  | .hbm, ⟨28, _⟩ => ⟨S8x128, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Mlp.lean ====
abbrev S4224x1024 : Shape := ⟨2, ![4224, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4224x4096 : Shape := ⟨2, ![4224, 4096]⟩
abbrev S4224x4x1024 : Shape := ⟨3, ![4224, 4, 1024]⟩
abbrev S4x4224x1024 : Shape := ⟨3, ![4, 4224, 1024]⟩
abbrev S528x1024 : Shape := ⟨2, ![528, 1024]⟩
abbrev S1x1024x1024 : Shape := ⟨3, ![1, 1024, 1024]⟩
abbrev S1x528x1024 : Shape := ⟨3, ![1, 528, 1024]⟩
abbrev S1024x1024 : Shape := ⟨2, ![1024, 1024]⟩
abbrev S1x4224x1024 : Shape := ⟨3, ![1, 4224, 1024]⟩

abbrev nBuf : Space → Nat
  | .hbm => 30
  | .vmem => 16
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024x4096, .f32⟩
  | .hbm, ⟨3, _⟩ => ⟨S4096x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S4x1024x1024, .f32⟩
  | .hbm, ⟨8, _⟩ => ⟨S4x1024x1024, .bf16⟩
  | .hbm, ⟨9, _⟩ => ⟨S4224x4096, .f32⟩
  | .hbm, ⟨10, _⟩ => ⟨S4224x4x1024, .f32⟩
  | .hbm, ⟨11, _⟩ => ⟨S4x4224x1024, .f32⟩
  | .hbm, ⟨12, _⟩ => ⟨S4x4224x1024, .bf16⟩
  | .hbm, ⟨13, _⟩ => ⟨S4x4224x1024, .f32⟩
  | .hbm, ⟨14, _⟩ => ⟨S4x1024x1024, .f32⟩
  | .hbm, ⟨15, _⟩ => ⟨S4x1024x1024, .f32⟩
  | .hbm, ⟨16, _⟩ => ⟨S1x4224x1024, .f32⟩
  | .hbm, ⟨17, _⟩ => ⟨S4224x1024, .f32⟩
  | .hbm, ⟨18, _⟩ => ⟨S1x4224x1024, .f32⟩
  | .hbm, ⟨19, _⟩ => ⟨S4224x1024, .f32⟩
  | .hbm, ⟨20, _⟩ => ⟨S4224x1024, .f32⟩
  | .hbm, ⟨21, _⟩ => ⟨S1x4224x1024, .f32⟩
  | .hbm, ⟨22, _⟩ => ⟨S4224x1024, .f32⟩
  | .hbm, ⟨23, _⟩ => ⟨S4224x1024, .f32⟩
  | .hbm, ⟨24, _⟩ => ⟨S1x4224x1024, .f32⟩
  | .hbm, ⟨25, _⟩ => ⟨S4224x1024, .f32⟩
  | .hbm, ⟨26, _⟩ => ⟨S4224x1024, .f32⟩
  | .hbm, ⟨27, _⟩ => ⟨S1024x4x1024, .f32⟩
  | .hbm, ⟨28, _⟩ => ⟨S1024x4096, .f32⟩
  | .hbm, ⟨29, _⟩ => ⟨S4096x1024, .f32⟩
  | .local _ .vmem, ⟨0, _⟩ => ⟨S528x1024, .f32⟩
  | .local _ .vmem, ⟨1, _⟩ => ⟨S528x1024, .f32⟩
  | .local _ .vmem, ⟨2, _⟩ => ⟨S528x1024, .f32⟩
  | .local _ .vmem, ⟨3, _⟩ => ⟨S528x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x528x1024, .bf16⟩
  | .local _ .vmem, ⟨9, _⟩ => ⟨S1x528x1024, .bf16⟩
  | .local _ .vmem, ⟨10, _⟩ => ⟨S1x528x1024, .f32⟩
  | .local _ .vmem, ⟨11, _⟩ => ⟨S1x528x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v28 : BitVec 1 := Scalar.cmpi .eq arg1 c0_i32
  let v29 : BitVec 32 := Scalar.extui v28
  let c0_i32_20 : BitVec 32 := 0#32
  let v30 : BitVec 1 := Scalar.cmpi .ne v29 c0_i32_20
  v30

def k0_cond2 (i : grid0.Coords) : BitVec 1 :=
  let arg1 : BitVec 32 := BitVec.ofNat 32 (i 1).val
  let c0_i32 : BitVec 32 := 0#32
  let v28 : BitVec 1 := Scalar.cmpi .eq arg1 c0_i32
  let v_true : BitVec 1 := 1#1
  let v31 : BitVec 1 := Scalar.xori v28 v_true
  let v32 : BitVec 32 := Scalar.extui v31
  let c0_i32_21 : BitVec 32 := 0#32
  let v33 : BitVec 1 := Scalar.cmpi .ne v32 c0_i32_21
  v33

def k0_cond3 (i : grid0.Coords) : BitVec 1 :=
  let arg1 : BitVec 32 := BitVec.ofNat 32 (i 1).val
  let c0_i32_22 : BitVec 32 := 0#32
  let v34 : BitVec 1 := Scalar.cmpi .eq arg1 c0_i32_22
  let v35 : BitVec 32 := Scalar.extui v34
  let c0_i32_23 : BitVec 32 := 0#32
  let v36 : BitVec 1 := Scalar.cmpi .ne v35 c0_i32_23
  v36

def k0_cond4 (i : grid0.Coords) : BitVec 1 :=
  let arg1 : BitVec 32 := BitVec.ofNat 32 (i 1).val
  let c0_i32_22 : BitVec 32 := 0#32
  let v34 : BitVec 1 := Scalar.cmpi .eq arg1 c0_i32_22
  let true_24 : BitVec 1 := 1#1
  let v37 : BitVec 1 := Scalar.xori v34 true_24
  let v38 : BitVec 32 := Scalar.extui v37
  let c0_i32_25 : BitVec 32 := 0#32
  let v39 : BitVec 1 := Scalar.cmpi .ne v38 c0_i32_25
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S528x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024x4096, .f32⟩
  | .hbm, ⟨3, _⟩ => ⟨S4096x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .i1⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S4224x1024, .f32⟩
  | .hbm, ⟨15, _⟩ => ⟨S1024x4096, .f32⟩
  | .hbm, ⟨16, _⟩ => ⟨S4096x1024, .f32⟩
  | .hbm, ⟨17, _⟩ => ⟨S4224x4096, .f32⟩
  | .hbm, ⟨18, _⟩ => ⟨S4224x4096, .f32⟩
  | .hbm, ⟨19, _⟩ => ⟨S4224x4096, .f32⟩
  | .hbm, ⟨20, _⟩ => ⟨S4224x4096, .f32⟩
  | .hbm, ⟨21, _⟩ => ⟨S_, .f32⟩
  | .hbm, ⟨22, _⟩ => ⟨S4224x4096, .f32⟩
  | .hbm, ⟨23, _⟩ => ⟨S4224x4096, .f32⟩
  | .hbm, ⟨24, _⟩ => ⟨S4096x1024, .f32⟩
  | .hbm, ⟨25, _⟩ => ⟨S1024x4096, .f32⟩
  | .hbm, ⟨26, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Norm.lean ====
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S4224x1024, .f32⟩
  | .hbm, ⟨5, _⟩ => ⟨S1x1024, .f32⟩
  | .hbm, ⟨6, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S1x1024, .f32⟩
  | .local _ .vmem, ⟨9, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v56 : BitVec 1 := Scalar.cmpi .eq arg1 c0_i32
  let arg0 : BitVec 32 := BitVec.ofNat 32 (i 0).val
  let c0_i32_21 : BitVec 32 := 0#32
  let v57 : BitVec 1 := Scalar.cmpi .eq arg0 c0_i32_21
  let v58 : BitVec 1 := Scalar.andi v56 v57
  let v59 : BitVec 32 := Scalar.extui v58
  let c0_i32_22 : BitVec 32 := 0#32
  let v60 : BitVec 1 := Scalar.cmpi .ne v59 c0_i32_22
  v60

def k0_cond2 (i : grid0.Coords) : BitVec 1 :=
  let arg1 : BitVec 32 := BitVec.ofNat 32 (i 1).val
  let c0_i32 : BitVec 32 := 0#32
  let v56 : BitVec 1 := Scalar.cmpi .eq arg1 c0_i32
  let arg0 : BitVec 32 := BitVec.ofNat 32 (i 0).val
  let c0_i32_21 : BitVec 32 := 0#32
  let v57 : BitVec 1 := Scalar.cmpi .eq arg0 c0_i32_21
  let v58 : BitVec 1 := Scalar.andi v56 v57
  let v_true : BitVec 1 := 1#1
  let v61 : BitVec 1 := Scalar.xori v58 v_true
  let v62 : BitVec 32 := Scalar.extui v61
  let c0_i32_23 : BitVec 32 := 0#32
  let v63 : BitVec 1 := Scalar.cmpi .ne v62 c0_i32_23
  v63

def k0_cond3 (i : grid0.Coords) : BitVec 1 :=
  let arg1 : BitVec 32 := BitVec.ofNat 32 (i 1).val
  let c0_i32_24 : BitVec 32 := 0#32
  let v64 : BitVec 1 := Scalar.cmpi .eq arg1 c0_i32_24
  let arg0 : BitVec 32 := BitVec.ofNat 32 (i 0).val
  let c0_i32_25 : BitVec 32 := 0#32
  let v65 : BitVec 1 := Scalar.cmpi .eq arg0 c0_i32_25
  let v66 : BitVec 1 := Scalar.andi v64 v65
  let v67 : BitVec 32 := Scalar.extui v66
  let c0_i32_26 : BitVec 32 := 0#32
  let v68 : BitVec 1 := Scalar.cmpi .ne v67 c0_i32_26
  v68

def k0_cond4 (i : grid0.Coords) : BitVec 1 :=
  let arg1 : BitVec 32 := BitVec.ofNat 32 (i 1).val
  let c0_i32_24 : BitVec 32 := 0#32
  let v64 : BitVec 1 := Scalar.cmpi .eq arg1 c0_i32_24
  let arg0 : BitVec 32 := BitVec.ofNat 32 (i 0).val
  let c0_i32_25 : BitVec 32 := 0#32
  let v65 : BitVec 1 := Scalar.cmpi .eq arg0 c0_i32_25
  let v66 : BitVec 1 := Scalar.andi v64 v65
  let true_27 : BitVec 1 := 1#1
  let v69 : BitVec 1 := Scalar.xori v66 true_27
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormRefIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S4224x1024, .f32⟩
  | .hbm, ⟨11, _⟩ => ⟨S4224x1024, .f32⟩
  | .hbm, ⟨12, _⟩ => ⟨S4224x1024, .f32⟩
  | .hbm, ⟨13, _⟩ => ⟨S_, .f32⟩
  | .hbm, ⟨14, _⟩ => ⟨S4224, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4224x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S_, .f32⟩
  | .hbm, ⟨45, _⟩ => ⟨S4224, .f32⟩
  | .hbm, ⟨46, _⟩ => ⟨S4224x1, .f32⟩
  | .hbm, ⟨47, _⟩ => ⟨S4224x1024, .f32⟩
  | .hbm, ⟨48, _⟩ => ⟨S4224x1024, .f32⟩
  | .hbm, ⟨49, _⟩ => ⟨S4224x1, .f32⟩
  | .hbm, ⟨50, _⟩ => ⟨S_, .f32⟩
  | .hbm, ⟨51, _⟩ => ⟨S4224x1, .f32⟩
  | .hbm, ⟨52, _⟩ => ⟨S4224x1, .f32⟩
  | .hbm, ⟨53, _⟩ => ⟨S_, .f32⟩
  | .hbm, ⟨54, _⟩ => ⟨S4224, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S_, .f32⟩
  | .hbm, ⟨62, _⟩ => ⟨S4224, .f32⟩
  | .hbm, ⟨63, _⟩ => ⟨S4224x1, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S_, .f32⟩
  | .hbm, ⟨68, _⟩ => ⟨S4224, .f32⟩
  | .hbm, ⟨69, _⟩ => ⟨S4224x1024, .f32⟩
  | .hbm, ⟨70, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Out.lean ====
abbrev S4224x1024 : Shape := ⟨2, ![4224, 1024]⟩
abbrev S4x4224x1024 : Shape := ⟨3, ![4, 4224, 1024]⟩
abbrev S1024x1024 : Shape := ⟨2, ![1024, 1024]⟩
abbrev S1x1024 : Shape := ⟨2, ![1, 1024]⟩
abbrev S384x1024 : Shape := ⟨2, ![384, 1024]⟩
abbrev S4x384x1024 : Shape := ⟨3, ![4, 384, 1024]⟩
abbrev S1x384x1024 : Shape := ⟨3, ![1, 384, 1024]⟩
abbrev S384 : Shape := ⟨1, ![384]⟩
abbrev S384x1 : Shape := ⟨2, ![384, 1]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S4224x1024, .f32⟩
  | .hbm, ⟨1, _⟩ => ⟨S4x4224x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S4224x1024, .f32⟩
  | .hbm, ⟨9, _⟩ => ⟨S4224x1024, .f32⟩
  | .hbm, ⟨10, _⟩ => ⟨S1024x1024, .f32⟩
  | .hbm, ⟨11, _⟩ => ⟨S1x1024, .f32⟩
  | .hbm, ⟨12, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S4x384x1024, .f32⟩
  | .local _ .vmem, ⟨3, _⟩ => ⟨S4x384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v86 : BitVec 1 := Scalar.cmpi .eq arg1 c0_i32
  let arg0 : BitVec 32 := BitVec.ofNat 32 (i 0).val
  let c0_i32_36 : BitVec 32 := 0#32
  let v87 : BitVec 1 := Scalar.cmpi .eq arg0 c0_i32_36
  let v88 : BitVec 1 := Scalar.andi v86 v87
  let v89 : BitVec 32 := Scalar.extui v88
  let c0_i32_37 : BitVec 32 := 0#32
  let v90 : BitVec 1 := Scalar.cmpi .ne v89 c0_i32_37
  v90

def k0_cond2 (i : grid0.Coords) : BitVec 1 :=
  let arg1 : BitVec 32 := BitVec.ofNat 32 (i 1).val
  let c0_i32 : BitVec 32 := 0#32
  let v86 : BitVec 1 := Scalar.cmpi .eq arg1 c0_i32
  let arg0 : BitVec 32 := BitVec.ofNat 32 (i 0).val
  let c0_i32_36 : BitVec 32 := 0#32
  let v87 : BitVec 1 := Scalar.cmpi .eq arg0 c0_i32_36
  let v88 : BitVec 1 := Scalar.andi v86 v87
  let v_true : BitVec 1 := 1#1
  let v91 : BitVec 1 := Scalar.xori v88 v_true
  let v92 : BitVec 32 := Scalar.extui v91
  let c0_i32_38 : BitVec 32 := 0#32
  let v93 : BitVec 1 := Scalar.cmpi .ne v92 c0_i32_38
  v93

def k0_cond3 (i : grid0.Coords) : BitVec 1 :=
  let arg1 : BitVec 32 := BitVec.ofNat 32 (i 1).val
  let c0_i32_39 : BitVec 32 := 0#32
  let v94 : BitVec 1 := Scalar.cmpi .eq arg1 c0_i32_39
  let arg0 : BitVec 32 := BitVec.ofNat 32 (i 0).val
  let c0_i32_40 : BitVec 32 := 0#32
  let v95 : BitVec 1 := Scalar.cmpi .eq arg0 c0_i32_40
  let v96 : BitVec 1 := Scalar.andi v94 v95
  let v97 : BitVec 32 := Scalar.extui v96
  let c0_i32_41 : BitVec 32 := 0#32
  let v98 : BitVec 1 := Scalar.cmpi .ne v97 c0_i32_41
  v98

def k0_cond4 (i : grid0.Coords) : BitVec 1 :=
  let arg1 : BitVec 32 := BitVec.ofNat 32 (i 1).val
  let c0_i32_39 : BitVec 32 := 0#32
  let v94 : BitVec 1 := Scalar.cmpi .eq arg1 c0_i32_39
  let arg0 : BitVec 32 := BitVec.ofNat 32 (i 0).val
  let c0_i32_40 : BitVec 32 := 0#32
  let v95 : BitVec 1 := Scalar.cmpi .eq arg0 c0_i32_40
  let v96 : BitVec 1 := Scalar.andi v94 v95
  let true_42 : BitVec 1 := 1#1
  let v99 : BitVec 1 := Scalar.xori v96 true_42
  let v100 : BitVec 32 := Scalar.extui v99
  let c0_i32_43 : BitVec 32 := 0#32
  let v101 : BitVec 1 := Scalar.cmpi .ne v100 c0_i32_43
  v101

def k0_cond5 (i : grid0.Coords) : BitVec 1 :=
  let arg1 : BitVec 32 := BitVec.ofNat 32 (i 1).val
  let c0_i32_44 : BitVec 32 := 0#32
  let v102 : BitVec 1 := Scalar.cmpi .eq arg1 c0_i32_44
  let arg0 : BitVec 32 := BitVec.ofNat 32 (i 0).val
  let c0_i32_45 : BitVec 32 := 0#32
  let v103 : BitVec 1 := Scalar.cmpi .eq arg0 c0_i32_45
  let v104 : BitVec 1 := Scalar.andi v102 v103
  let v105 : BitVec 32 := Scalar.extui v104
  let c0_i32_46 : BitVec 32 := 0#32
  let v106 : BitVec 1 := Scalar.cmpi .ne v105 c0_i32_46
  v106

def k0_cond6 (i : grid0.Coords) : BitVec 1 :=
  let arg1 : BitVec 32 := BitVec.ofNat 32 (i 1).val
  let c0_i32_44 : BitVec 32 := 0#32
  let v102 : BitVec 1 := Scalar.cmpi .eq arg1 c0_i32_44
  let arg0 : BitVec 32 := BitVec.ofNat 32 (i 0).val
  let c0_i32_45 : BitVec 32 := 0#32
  let v103 : BitVec 1 := Scalar.cmpi .eq arg0 c0_i32_45
  let v104 : BitVec 1 := Scalar.andi v102 v103
  let true_47 : BitVec 1 := 1#1
  let v107 : BitVec 1 := Scalar.xori v104 true_47
  let v108 : BitVec 32 := Scalar.extui v107
  let c0_i32_48 : BitVec 32 := 0#32
  let v109 : BitVec 1 := Scalar.cmpi .ne v108 c0_i32_48
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== OutRefIdeal.lean ====
abbrev S4224x1024 : Shape := ⟨2, ![4224, 1024]⟩
abbrev S4x4224x1024 : Shape := ⟨3, ![4, 4224, 1024]⟩
abbrev S1024x1024 : Shape := ⟨2, ![1024, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4x4224x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S_, .f32⟩
  | .hbm, ⟨22, _⟩ => ⟨S4224, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S4224x1, .f32⟩
  | .hbm, ⟨32, _⟩ => ⟨S_, .f32⟩
  | .hbm, ⟨33, _⟩ => ⟨S4224x1, .f32⟩
  | .hbm, ⟨34, _⟩ => ⟨S4224x1, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224x1024, .f32⟩
  | .hbm, ⟨43, _⟩ => ⟨S4224x1024, .f32⟩
  | .hbm, ⟨44, _⟩ => ⟨S_, .f32⟩
  | .hbm, ⟨45, _⟩ => ⟨S4224x1024, .f32⟩
  | .hbm, ⟨46, _⟩ => ⟨S4224x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4224x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S_, .f32⟩
  | .hbm, ⟨58, _⟩ => ⟨S4224, .f32⟩
  | .hbm, ⟨59, _⟩ => ⟨S4224x1, .f32⟩
  | .hbm, ⟨60, _⟩ => ⟨S4224x1024, .f32⟩
  | .hbm, ⟨61, _⟩ => ⟨S4224x1024, .f32⟩
  | .hbm, ⟨62, _⟩ => ⟨S4224x1, .f32⟩
  | .hbm, ⟨63, _⟩ => ⟨S_, .f32⟩
  | .hbm, ⟨64, _⟩ => ⟨S4224x1, .f32⟩
  | .hbm, ⟨65, _⟩ => ⟨S4224x1, .f32⟩
  | .hbm, ⟨66, _⟩ => ⟨S_, .f32⟩
  | .hbm, ⟨67, _⟩ => ⟨S4224, .f32⟩
  | .hbm, ⟨68, _⟩ => ⟨S4224x1024, .f32⟩
  | .hbm, ⟨69, _⟩ => ⟨S4224x1024, .f32⟩
  | .hbm, ⟨70, _⟩ => ⟨S4224x1024, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S_, .f32⟩
  | .hbm, ⟨75, _⟩ => ⟨S4224, .f32⟩
  | .hbm, ⟨76, _⟩ => ⟨S4224x1, .f32⟩
  | .hbm, ⟨77, _⟩ => ⟨S_, .f32⟩
  | .hbm, ⟨78, _⟩ => ⟨S4224x1, .f32⟩
  | .hbm, ⟨79, _⟩ => ⟨S4224x1, .f32⟩
  | .hbm, ⟨80, _⟩ => ⟨S_, .f32⟩
  | .hbm, ⟨81, _⟩ => ⟨S4224, .f32⟩
  | .hbm, ⟨82, _⟩ => ⟨S4224x1024, .f32⟩
  | .hbm, ⟨83, _⟩ => ⟨S4224x1024, .f32⟩
  | .hbm, ⟨84, _⟩ => ⟨S1024x1024, .f32⟩
  | .hbm, ⟨85, _⟩ => ⟨S1024x1024, .f32⟩
  | .hbm, ⟨86, _⟩ => ⟨S4224x1024, .f32⟩
  | .hbm, ⟨87, _⟩ => ⟨S_, .f32⟩
  | .hbm, ⟨88, _⟩ => ⟨S4224x1024, .f32⟩
  | .hbm, ⟨89, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== Qkv.lean ====
abbrev S4224x1024 : Shape := ⟨2, ![4224, 1024]⟩
abbrev S4112x1024 : Shape := ⟨2, ![4112, 1024]⟩
abbrev S4112x256 : Shape := ⟨2, ![4112, 256]⟩
abbrev S1024x1024 : Shape := ⟨2, ![1024, 1024]⟩
abbrev S1024x256 : Shape := ⟨2, ![1024, 256]⟩
abbrev S4224 : Shape := ⟨1, ![4224]⟩
abbrev S_ : Shape := ⟨0, ![]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S1x4224x1x32 : Shape := ⟨4, ![1, 4224, 1, 32]⟩
abbrev S1x4224x4x32 : Shape := ⟨4, ![1, 4224, 4, 32]⟩
abbrev S4224x128 : Shape := ⟨2, ![4224, 128]⟩
abbrev S112x1024 : Shape := ⟨2, ![112, 1024]⟩
abbrev S112x256 : Shape := ⟨2, ![112, 256]⟩
abbrev S4224x256 : Shape := ⟨2, ![4224, 256]⟩
abbrev S384x1024 : Shape := ⟨2, ![384, 1024]⟩
abbrev S384x128 : Shape := ⟨2, ![384, 128]⟩
abbrev S384x256 : Shape := ⟨2, ![384, 256]⟩

abbrev nBuf : Space → Nat
  | .hbm => 67
  | .vmem => 24
  | .smem => 0
  | _ => 0

abbrev bufTy : (tb : Table) → Fin (tcTables nBuf tb) → BufTy
  | .hbm, ⟨0, _⟩ => ⟨S4224x1024, .f32⟩
  | .hbm, ⟨1, _⟩ => ⟨S4112x1024, .f32⟩
  | .hbm, ⟨2, _⟩ => ⟨S4112x256, .f32⟩
  | .hbm, ⟨3, _⟩ => ⟨S4112x256, .f32⟩
  | .hbm, ⟨4, _⟩ => ⟨S4112x256, .f32⟩
  | .hbm, ⟨5, _⟩ => ⟨S4112x256, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S4224, .f32⟩
  | .hbm, ⟨10, _⟩ => ⟨S_, .f32⟩
  | .hbm, ⟨11, _⟩ => ⟨S4224, .f32⟩
  | .hbm, ⟨12, _⟩ => ⟨S4224, .f32⟩
  | .hbm, ⟨13, _⟩ => ⟨S_, .f32⟩
  | .hbm, ⟨14, _⟩ => ⟨S4224, .f32⟩
  | .hbm, ⟨15, _⟩ => ⟨S4224, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4224x1, .f32⟩
  | .hbm, ⟨33, _⟩ => ⟨S1x32, .f32⟩
  | .hbm, ⟨34, _⟩ => ⟨S4224x32, .f32⟩
  | .hbm, ⟨35, _⟩ => ⟨S4224x32, .f32⟩
  | .hbm, ⟨36, _⟩ => ⟨S4224x32, .f32⟩
  | .hbm, ⟨37, _⟩ => ⟨S4224x32, .f32⟩
  | .hbm, ⟨38, _⟩ => ⟨S1x4224x1x32, .f32⟩
  | .hbm, ⟨39, _⟩ => ⟨S1x4224x4x32, .f32⟩
  | .hbm, ⟨40, _⟩ => ⟨S4224x128, .f32⟩
  | .hbm, ⟨41, _⟩ => ⟨S4224x32, .f32⟩
  | .hbm, ⟨42, _⟩ => ⟨S1x4224x1x32, .f32⟩
  | .hbm, ⟨43, _⟩ => ⟨S1x4224x4x32, .f32⟩
  | .hbm, ⟨44, _⟩ => ⟨S4224x128, .f32⟩
  | .hbm, ⟨45, _⟩ => ⟨S_, .f32⟩
  | .hbm, ⟨46, _⟩ => ⟨S112x1024, .f32⟩
  | .hbm, ⟨47, _⟩ => ⟨S4224x1024, .f32⟩
  | .hbm, ⟨48, _⟩ => ⟨S_, .f32⟩
  | .hbm, ⟨49, _⟩ => ⟨S112x256, .f32⟩
  | .hbm, ⟨50, _⟩ => ⟨S4224x256, .f32⟩
  | .hbm, ⟨51, _⟩ => ⟨S_, .f32⟩
  | .hbm, ⟨52, _⟩ => ⟨S112x256, .f32⟩
  | .hbm, ⟨53, _⟩ => ⟨S4224x256, .f32⟩
  | .hbm, ⟨54, _⟩ => ⟨S_, .f32⟩
  | .hbm, ⟨55, _⟩ => ⟨S112x256, .f32⟩
  | .hbm, ⟨56, _⟩ => ⟨S4224x256, .f32⟩
  | .hbm, ⟨57, _⟩ => ⟨S_, .f32⟩
  | .hbm, ⟨58, _⟩ => ⟨S112x256, .f32⟩
  | .hbm, ⟨59, _⟩ => ⟨S4224x256, .f32⟩
  | .hbm, ⟨60, _⟩ => ⟨S1024x1024, .bf16⟩
  | .hbm, ⟨61, _⟩ => ⟨S1024x256, .bf16⟩
  | .hbm, ⟨62, _⟩ => ⟨S1024x256, .bf16⟩
  | .hbm, ⟨63, _⟩ => ⟨S4224x1024, .f32⟩
  | .hbm, ⟨64, _⟩ => ⟨S1024x1024, .f32⟩
  | .hbm, ⟨65, _⟩ => ⟨S1024x256, .f32⟩
  | .hbm, ⟨66, _⟩ => ⟨S1024x256, .f32⟩
  | .local _ .vmem, ⟨0, _⟩ => ⟨S384x1024, .f32⟩
  | .local _ .vmem, ⟨1, _⟩ => ⟨S384x1024, .f32⟩
  | .local _ .vmem, ⟨2, _⟩ => ⟨S384x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x1024, .f32⟩
  | .local _ .vmem, ⟨7, _⟩ => ⟨S384x1024, .f32⟩
  | .local _ .vmem, ⟨8, _⟩ => ⟨S384x256, .f32⟩
  | .local _ .vmem, ⟨9, _⟩ => ⟨S384x256, .f32⟩
  | .local _ .vmem, ⟨10, _⟩ => ⟨S384x256, .f32⟩
  | .local _ .vmem, ⟨11, _⟩ => ⟨S384x256, .f32⟩
  | .local _ .vmem, ⟨12, _⟩ => ⟨S384x256, .f32⟩
  | .local _ .vmem, ⟨13, _⟩ => ⟨S384x256, .f32⟩
  | .local _ .vmem, ⟨14, _⟩ => ⟨S384x256, .f32⟩
  | .local _ .vmem, ⟨15, _⟩ => ⟨S384x256, .f32⟩
  | .local _ .vmem, ⟨16, _⟩ => ⟨S1024x1024, .bf16⟩
  | .local _ .vmem, ⟨17, _⟩ => ⟨S1024x256, .bf16⟩
  | .local _ .vmem, ⟨18, _⟩ => ⟨S1024x256, .bf16⟩
  | .local _ .vmem, ⟨19, _⟩ => ⟨S384x1024, .f32⟩
  | .local _ .vmem, ⟨20, _⟩ => ⟨S384x1024, .f32⟩
  | .local _ .vmem, ⟨21, _⟩ => ⟨S1024x1024, .f32⟩
  | .local _ .vmem, ⟨22, _⟩ => ⟨S1024x256, .f32⟩
  | .local _ .vmem, ⟨23, _⟩ => ⟨S1024x256, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_v42_2 : Ref sig .tc := ⟨.hbm, 65, rfl⟩
abbrev main_v42_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32_44 : BitVec 32 := 0#32
  let v103 : BitVec 1 := Scalar.cmpi .eq arg1 c0_i32_44
  let arg0 : BitVec 32 := BitVec.ofNat 32 (i 0).val
  let c0_i32_45 : BitVec 32 := 0#32
  let v104 : BitVec 1 := Scalar.cmpi .eq arg0 c0_i32_45
  let v105 : BitVec 1 := Scalar.andi v103 v104
  let v106 : BitVec 32 := Scalar.extui v105
  let c0_i32_46 : BitVec 32 := 0#32
  let v107 : BitVec 1 := Scalar.cmpi .ne v106 c0_i32_46
  v107

def k0_cond2 (i : grid0.Coords) : BitVec 1 :=
  let arg1 : BitVec 32 := BitVec.ofNat 32 (i 1).val
  let c0_i32_44 : BitVec 32 := 0#32
  let v103 : BitVec 1 := Scalar.cmpi .eq arg1 c0_i32_44
  let arg0 : BitVec 32 := BitVec.ofNat 32 (i 0).val
  let c0_i32_45 : BitVec 32 := 0#32
  let v104 : BitVec 1 := Scalar.cmpi .eq arg0 c0_i32_45
  let v105 : BitVec 1 := Scalar.andi v103 v104
  let v_true : BitVec 1 := 1#1
  let v108 : BitVec 1 := Scalar.xori v105 v_true
  let v109 : BitVec 32 := Scalar.extui v108
  let c0_i32_47 : BitVec 32 := 0#32
  let v110 : BitVec 1 := Scalar.cmpi .ne v109 c0_i32_47
  v110

def k0_cond3 (i : grid0.Coords) : BitVec 1 :=
  let arg1 : BitVec 32 := BitVec.ofNat 32 (i 1).val
  let c0_i32_48 : BitVec 32 := 0#32
  let v111 : BitVec 1 := Scalar.cmpi .eq arg1 c0_i32_48
  let arg0 : BitVec 32 := BitVec.ofNat 32 (i 0).val
  let c0_i32_49 : BitVec 32 := 0#32
  let v112 : BitVec 1 := Scalar.cmpi .eq arg0 c0_i32_49
  let v113 : BitVec 1 := Scalar.andi v111 v112
  let v114 : BitVec 32 := Scalar.extui v113
  let c0_i32_50 : BitVec 32 := 0#32
  let v115 : BitVec 1 := Scalar.cmpi .ne v114 c0_i32_50
  v115

def k0_cond4 (i : grid0.Coords) : BitVec 1 :=
  let arg1 : BitVec 32 := BitVec.ofNat 32 (i 1).val
  let c0_i32_48 : BitVec 32 := 0#32
  let v111 : BitVec 1 := Scalar.cmpi .eq arg1 c0_i32_48
  let arg0 : BitVec 32 := BitVec.ofNat 32 (i 0).val
  let c0_i32_49 : BitVec 32 := 0#32
  let v112 : BitVec 1 := Scalar.cmpi .eq arg0 c0_i32_49
  let v113 : BitVec 1 := Scalar.andi v111 v112
  let true_51 : BitVec 1 := 1#1
  let v116 : BitVec 1 := Scalar.xori v113 true_51
  let v117 : BitVec 32 := Scalar.extui v116
  let c0_i32_52 : BitVec 32 := 0#32
  let v118 : BitVec 1 := Scalar.cmpi .ne v117 c0_i32_52
  v118

def k0_cond5 (i : grid0.Coords) : BitVec 1 :=
  let arg1 : BitVec 32 := BitVec.ofNat 32 (i 1).val
  let c0_i32_53 : BitVec 32 := 0#32
  let v119 : BitVec 1 := Scalar.cmpi .eq arg1 c0_i32_53
  let arg0 : BitVec 32 := BitVec.ofNat 32 (i 0).val
  let c0_i32_54 : BitVec 32 := 0#32
  let v120 : BitVec 1 := Scalar.cmpi .eq arg0 c0_i32_54
  let v121 : BitVec 1 := Scalar.andi v119 v120
  let v122 : BitVec 32 := Scalar.extui v121
  let c0_i32_55 : BitVec 32 := 0#32
  let v123 : BitVec 1 := Scalar.cmpi .ne v122 c0_i32_55
  v123

def k0_cond6 (i : grid0.Coords) : BitVec 1 :=
  let arg1 : BitVec 32 := BitVec.ofNat 32 (i 1).val
  let c0_i32_53 : BitVec 32 := 0#32
  let v119 : BitVec 1 := Scalar.cmpi .eq arg1 c0_i32_53
  let arg0 : BitVec 32 := BitVec.ofNat 32 (i 0).val
  let c0_i32_54 : BitVec 32 := 0#32
  let v120 : BitVec 1 := Scalar.cmpi .eq arg0 c0_i32_54
  let v121 : BitVec 1 := Scalar.andi v119 v120
  let true_56 : BitVec 1 := 1#1
  let v124 : BitVec 1 := Scalar.xori v121 true_56
  let v125 : BitVec 32 := Scalar.extui v124
  let c0_i32_57 : BitVec 32 := 0#32
  let v126 : BitVec 1 := Scalar.cmpi .ne v125 c0_i32_57
  v126

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S384x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== QkvRefIdeal.lean ====
abbrev S4224x1024 : Shape := ⟨2, ![4224, 1024]⟩
abbrev S4112x1024 : Shape := ⟨2, ![4112, 1024]⟩
abbrev S4112x256 : Shape := ⟨2, ![4112, 256]⟩
abbrev S1024x1024 : Shape := ⟨2, ![1024, 1024]⟩
abbrev S1024x256 : Shape := ⟨2, ![1024, 256]⟩
abbrev S32 : Shape := ⟨1, ![32]⟩
abbrev S_ : Shape := ⟨0, ![]⟩
abbrev S4112 : Shape := ⟨1, ![4112]⟩
abbrev S4112x1 : Shape := ⟨2, ![4112, 1]⟩
abbrev S1x32 : Shape := ⟨2, ![1, 32]⟩
abbrev S4112x32 : Shape := ⟨2, ![4112, 32]⟩
abbrev S4112x16x64 : Shape := ⟨3, ![4112, 16, 64]⟩
abbrev S4112x16x32 : Shape := ⟨3, ![4112, 16, 32]⟩
abbrev S4112x1x32 : Shape := ⟨3, ![4112, 1, 32]⟩
abbrev S4112x4x64 : Shape := ⟨3, ![4112, 4, 64]⟩
abbrev S4112x4x32 : Shape := ⟨3, ![4112, 4, 32]⟩
abbrev S256x1024 : Shape := ⟨2, ![256, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4112x1024, .f32⟩
  | .hbm, ⟨2, _⟩ => ⟨S4112x256, .f32⟩
  | .hbm, ⟨3, _⟩ => ⟨S4112x256, .f32⟩
  | .hbm, ⟨4, _⟩ => ⟨S4112x256, .f32⟩
  | .hbm, ⟨5, _⟩ => ⟨S4112x256, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S4112x1024, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4112, .f32⟩
  | .hbm, ⟨27, _⟩ => ⟨S4112x1, .f32⟩
  | .hbm, ⟨28, _⟩ => ⟨S1x32, .f32⟩
  | .hbm, ⟨29, _⟩ => ⟨S4112x32, .f32⟩
  | .hbm, ⟨30, _⟩ => ⟨S4112x32, .f32⟩
  | .hbm, ⟨31, _⟩ => ⟨S4112x32, .f32⟩
  | .hbm, ⟨32, _⟩ => ⟨S4112x32, .f32⟩
  | .hbm, ⟨33, _⟩ => ⟨S4112x32, .f32⟩
  | .hbm, ⟨34, _⟩ => ⟨S4112x1024, .f32⟩
  | .hbm, ⟨35, _⟩ => ⟨S4112x16x64, .f32⟩
  | .hbm, ⟨36, _⟩ => ⟨S4112x16x32, .f32⟩
  | .hbm, ⟨37, _⟩ => ⟨S4112x16x32, .f32⟩
  | .hbm, ⟨38, _⟩ => ⟨S4112x1x32, .f32⟩
  | .hbm, ⟨39, _⟩ => ⟨S4112x1x32, .f32⟩
  | .hbm, ⟨40, _⟩ => ⟨S4112x16x32, .f32⟩
  | .hbm, ⟨41, _⟩ => ⟨S4112x16x32, .f32⟩
  | .hbm, ⟨42, _⟩ => ⟨S4112x16x32, .f32⟩
  | .hbm, ⟨43, _⟩ => ⟨S4112x16x32, .f32⟩
  | .hbm, ⟨44, _⟩ => ⟨S4112x16x32, .f32⟩
  | .hbm, ⟨45, _⟩ => ⟨S4112x16x32, .f32⟩
  | .hbm, ⟨46, _⟩ => ⟨S4112x16x32, .f32⟩
  | .hbm, ⟨47, _⟩ => ⟨S4112x16x32, .f32⟩
  | .hbm, ⟨48, _⟩ => ⟨S4112x16x32, .f32⟩
  | .hbm, ⟨49, _⟩ => ⟨S4112x16x32, .f32⟩
  | .hbm, ⟨50, _⟩ => ⟨S4112x16x64, .f32⟩
  | .hbm, ⟨51, _⟩ => ⟨S4112x256, .f32⟩
  | .hbm, ⟨52, _⟩ => ⟨S4112x4x64, .f32⟩
  | .hbm, ⟨53, _⟩ => ⟨S4112x4x32, .f32⟩
  | .hbm, ⟨54, _⟩ => ⟨S4112x4x32, .f32⟩
  | .hbm, ⟨55, _⟩ => ⟨S4112x1x32, .f32⟩
  | .hbm, ⟨56, _⟩ => ⟨S4112x1x32, .f32⟩
  | .hbm, ⟨57, _⟩ => ⟨S4112x4x32, .f32⟩
  | .hbm, ⟨58, _⟩ => ⟨S4112x4x32, .f32⟩
  | .hbm, ⟨59, _⟩ => ⟨S4112x4x32, .f32⟩
  | .hbm, ⟨60, _⟩ => ⟨S4112x4x32, .f32⟩
  | .hbm, ⟨61, _⟩ => ⟨S4112x4x32, .f32⟩
  | .hbm, ⟨62, _⟩ => ⟨S4112x4x32, .f32⟩
  | .hbm, ⟨63, _⟩ => ⟨S4112x4x32, .f32⟩
  | .hbm, ⟨64, _⟩ => ⟨S4112x4x32, .f32⟩
  | .hbm, ⟨65, _⟩ => ⟨S4112x4x32, .f32⟩
  | .hbm, ⟨66, _⟩ => ⟨S4112x4x32, .f32⟩
  | .hbm, ⟨67, _⟩ => ⟨S4112x4x64, .f32⟩
  | .hbm, ⟨68, _⟩ => ⟨S4112x1024, .f32⟩
  | .hbm, ⟨69, _⟩ => ⟨S4112x256, .f32⟩
  | .hbm, ⟨70, _⟩ => ⟨S4112x256, .f32⟩
  | .hbm, ⟨71, _⟩ => ⟨S4112x256, .f32⟩
  | .hbm, ⟨72, _⟩ => ⟨S4112x256, .f32⟩
  | .hbm, ⟨73, _⟩ => ⟨S256x1024, .f32⟩
  | .hbm, ⟨74, _⟩ => ⟨S1024x256, .f32⟩
  | .hbm, ⟨75, _⟩ => ⟨S4112x1024, .f32⟩
  | .hbm, ⟨76, _⟩ => ⟨S4112x4x64, .f32⟩
  | .hbm, ⟨77, _⟩ => ⟨S4112x16x64, .f32⟩
  | .hbm, ⟨78, _⟩ => ⟨S4112x4x32, .f32⟩
  | .hbm, ⟨79, _⟩ => ⟨S4112x4x32, .f32⟩
  | .hbm, ⟨80, _⟩ => ⟨S4112x4x32, .f32⟩
  | .hbm, ⟨81, _⟩ => ⟨S4112x4x32, .f32⟩
  | .hbm, ⟨82, _⟩ => ⟨S4112x4x32, .f32⟩
  | .hbm, ⟨83, _⟩ => ⟨S4112x4x32, .f32⟩
  | .hbm, ⟨84, _⟩ => ⟨S4112x4x32, .f32⟩
  | .hbm, ⟨85, _⟩ => ⟨S4112x4x32, .f32⟩
  | .hbm, ⟨86, _⟩ => ⟨S4112x4x32, .f32⟩
  | .hbm, ⟨87, _⟩ => ⟨S4112x4x32, .f32⟩
  | .hbm, ⟨88, _⟩ => ⟨S4112x4x32, .f32⟩
  | .hbm, ⟨89, _⟩ => ⟨S4112x4x32, .f32⟩
  | .hbm, ⟨90, _⟩ => ⟨S4112x4x32, .f32⟩
  | .hbm, ⟨91, _⟩ => ⟨S4112x4x64, .f32⟩
  | .hbm, ⟨92, _⟩ => ⟨S4112x256, .f32⟩
  | .hbm, ⟨93, _⟩ => ⟨S256x1024, .f32⟩
  | .hbm, ⟨94, _⟩ => ⟨S1024x256, .f32⟩
  | .hbm, ⟨95, _⟩ => ⟨S4112x1024, .f32⟩
  | .hbm, ⟨96, _⟩ => ⟨S4112x1024, .f32⟩
  | .hbm, ⟨97, _⟩ => ⟨S4112x16x32, .f32⟩
  | .hbm, ⟨98, _⟩ => ⟨S4112x16x32, .f32⟩
  | .hbm, ⟨99, _⟩ => ⟨S4112x16x32, .f32⟩
  | .hbm, ⟨100, _⟩ => ⟨S4112x16x32, .f32⟩
  | .hbm, ⟨101, _⟩ => ⟨S4112x16x32, .f32⟩
  | .hbm, ⟨102, _⟩ => ⟨S4112x16x32, .f32⟩
  | .hbm, ⟨103, _⟩ => ⟨S4112x16x32, .f32⟩
  | .hbm, ⟨104, _⟩ => ⟨S4112x16x32, .f32⟩
  | .hbm, ⟨105, _⟩ => ⟨S4112x16x32, .f32⟩
  | .hbm, ⟨106, _⟩ => ⟨S4112x16x32, .f32⟩
  | .hbm, ⟨107, _⟩ => ⟨S4112x16x32, .f32⟩
  | .hbm, ⟨108, _⟩ => ⟨S4112x16x32, .f32⟩
  | .hbm, ⟨109, _⟩ => ⟨S4112x16x32, .f32⟩
  | .hbm, ⟨110, _⟩ => ⟨S4112x16x64, .f32⟩
  | .hbm, ⟨111, _⟩ => ⟨S4112x1024, .f32⟩
  | .hbm, ⟨112, _⟩ => ⟨S1024x1024, .f32⟩
  | .hbm, ⟨113, _⟩ => ⟨S1024x1024, .f32⟩
  | .hbm, ⟨114, _⟩ => ⟨S4112x1024, .f32⟩
  | .hbm, ⟨115, _⟩ => ⟨S4112x1024, .f32⟩
  | .hbm, ⟨116, _⟩ => ⟨S_, .f32⟩
  | .hbm, ⟨117, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_4 : Ref sig .tc := ⟨.hbm, 116, rfl⟩
abbrev main_v102 : Ref sig .tc := ⟨.hbm, 117, rfl⟩

abbrev nD : Nat := 1
abbrev τ : Topo := Topo.v7x

variable {F : FTy → Type} [FloatOps F]
-- ==== Post.lean ====
abbrev S4224x1024 : Shape := ⟨2, ![4224, 1024]⟩
abbrev S4x4224x1024 : Shape := ⟨3, ![4, 4224, 1024]⟩
abbrev S1024x1024 : Shape := ⟨2, ![1024, 1024]⟩
abbrev S1x1024 : Shape := ⟨2, ![1, 1024]⟩
abbrev S1024x16 : Shape := ⟨2, ![1024, 16]⟩
abbrev S_ : Shape := ⟨0, ![]⟩
abbrev S16x1024 : Shape := ⟨2, ![16, 1024]⟩
abbrev S192x1024 : Shape := ⟨2, ![192, 1024]⟩
abbrev S4x192x1024 : Shape := ⟨3, ![4, 192, 1024]⟩
abbrev S1x192x1024 : Shape := ⟨3, ![1, 192, 1024]⟩
abbrev S192x16 : Shape := ⟨2, ![192, 16]⟩
abbrev S192 : Shape := ⟨1, ![192]⟩
abbrev S192x1 : Shape := ⟨2, ![192, 1]⟩
abbrev S1024 : Shape := ⟨1, ![1024]⟩

abbrev nBuf : Space → Nat
  | .hbm => 52
  | .vmem => 42
  | .smem => 0
  | _ => 0

abbrev bufTy : (tb : Table) → Fin (tcTables nBuf tb) → BufTy
  | .hbm, ⟨0, _⟩ => ⟨S4224x1024, .f32⟩
  | .hbm, ⟨1, _⟩ => ⟨S4x4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x16, .i32⟩
  | .hbm, ⟨15, _⟩ => ⟨S_, .i32⟩
  | .hbm, ⟨16, _⟩ => ⟨S_, .i32⟩
  | .hbm, ⟨17, _⟩ => ⟨S1024x16, .i32⟩
  | .hbm, ⟨18, _⟩ => ⟨S1024x16, .i32⟩
  | .hbm, ⟨19, _⟩ => ⟨S1024x16, .i32⟩
  | .hbm, ⟨20, _⟩ => ⟨S_, .i32⟩
  | .hbm, ⟨21, _⟩ => ⟨S1024x16, .i32⟩
  | .hbm, ⟨22, _⟩ => ⟨S1024x16, .i1⟩
  | .hbm, ⟨23, _⟩ => ⟨S1024x16, .i32⟩
  | .hbm, ⟨24, _⟩ => ⟨S1024x16, .i32⟩
  | .hbm, ⟨25, _⟩ => ⟨S_, .i32⟩
  | .hbm, ⟨26, _⟩ => ⟨S1024x16, .i32⟩
  | .hbm, ⟨27, _⟩ => ⟨S1024x16, .i1⟩
  | .hbm, ⟨28, _⟩ => ⟨S1024x16, .i1⟩
  | .hbm, ⟨29, _⟩ => ⟨S_, .i32⟩
  | .hbm, ⟨30, _⟩ => ⟨S1024x16, .i32⟩
  | .hbm, ⟨31, _⟩ => ⟨S1024x16, .i32⟩
  | .hbm, ⟨32, _⟩ => ⟨S1024x16, .i32⟩
  | .hbm, ⟨33, _⟩ => ⟨S1024x16, .i32⟩
  | .hbm, ⟨34, _⟩ => ⟨S1024x16, .i1⟩
  | .hbm, ⟨35, _⟩ => ⟨S1024x16, .f32⟩
  | .hbm, ⟨36, _⟩ => ⟨S1024x16, .bf16⟩
  | .hbm, ⟨37, _⟩ => ⟨S16x1024, .f32⟩
  | .hbm, ⟨38, _⟩ => ⟨S16x1024, .bf16⟩
  | .hbm, ⟨39, _⟩ => ⟨S1024x1024, .bf16⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S1024x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .local _ .vmem, ⟨0, _⟩ => ⟨S192x1024, .f32⟩
  | .local _ .vmem, ⟨1, _⟩ => ⟨S192x1024, .f32⟩
  | .local _ .vmem, ⟨2, _⟩ => ⟨S4x192x1024, .f32⟩
  | .local _ .vmem, ⟨3, _⟩ => ⟨S4x192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | .local _ .vmem, ⟨16, _⟩ => ⟨S1024x16, .bf16⟩
  | .local _ .vmem, ⟨17, _⟩ => ⟨S16x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S192x1024, .f32⟩
  | .local _ .vmem, ⟨25, _⟩ => ⟨S192x1024, .f32⟩
  | .local _ .vmem, ⟨26, _⟩ => ⟨S192x1024, .f32⟩
  | .local _ .vmem, ⟨27, _⟩ => ⟨S192x1024, .f32⟩
  | .local _ .vmem, ⟨28, _⟩ => ⟨S192x1024, .f32⟩
  | .local _ .vmem, ⟨29, _⟩ => ⟨S192x1024, .f32⟩
  | .local _ .vmem, ⟨30, _⟩ => ⟨S192x1024, .f32⟩
  | .local _ .vmem, ⟨31, _⟩ => ⟨S192x1024, .f32⟩
  | .local _ .vmem, ⟨32, _⟩ => ⟨S192x1024, .f32⟩
  | .local _ .vmem, ⟨33, _⟩ => ⟨S192x1024, .f32⟩
  | .local _ .vmem, ⟨34, _⟩ => ⟨S192x1024, .f32⟩
  | .local _ .vmem, ⟨35, _⟩ => ⟨S192x1024, .f32⟩
  | .local _ .vmem, ⟨36, _⟩ => ⟨S1024x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9_0 : Ref sig .tc := ⟨.hbm, 40, rfl⟩
abbrev main_v9_1 : Ref sig .tc := ⟨.hbm, 41, rfl⟩
abbrev main_v9_2 : Ref sig .tc := ⟨.hbm, 42, rfl⟩
abbrev main_v9_3 : Ref sig .tc := ⟨.hbm, 43, rfl⟩
abbrev main_v9_4 : Ref sig .tc := ⟨.hbm, 44, rfl⟩
abbrev main_v9_5 : Ref sig .tc := ⟨.hbm, 45, rfl⟩
abbrev main_v9_6 : Ref sig .tc := ⟨.hbm, 46, rfl⟩
abbrev main_v9_7 : Ref sig .tc := ⟨.hbm, 47, rfl⟩
abbrev main_v9_8 : Ref sig .tc := ⟨.hbm, 48, rfl⟩
abbrev main_v9_9 : Ref sig .tc := ⟨.hbm, 49, rfl⟩
abbrev main_v9_10 : Ref sig .tc := ⟨.hbm, 50, rfl⟩
abbrev main_v9_11 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41

abbrev nD : Nat := 1
abbrev τ : Topo := Topo.v7x

variable {F : FTy → Type} [FloatOps F]

abbrev grid0 : Pipeline.Grid := ⟨2, ![1, 22], ![false, false]⟩

def k0_cond1 (i : grid0.Coords) : BitVec 1 :=
  let arg1 : BitVec 32 := BitVec.ofNat 32 (i 1).val
  let c0_i32 : BitVec 32 := 0#32
  let v240 : BitVec 1 := Scalar.cmpi .eq arg1 c0_i32
  let arg0 : BitVec 32 := BitVec.ofNat 32 (i 0).val
  let c0_i32_96 : BitVec 32 := 0#32
  let v241 : BitVec 1 := Scalar.cmpi .eq arg0 c0_i32_96
  let v242 : BitVec 1 := Scalar.andi v240 v241
  let v243 : BitVec 32 := Scalar.extui v242
  let c0_i32_97 : BitVec 32 := 0#32
  let v244 : BitVec 1 := Scalar.cmpi .ne v243 c0_i32_97
  v244

def k0_cond2 (i : grid0.Coords) : BitVec 1 :=
  let arg1 : BitVec 32 := BitVec.ofNat 32 (i 1).val
  let c0_i32 : BitVec 32 := 0#32
  let v240 : BitVec 1 := Scalar.cmpi .eq arg1 c0_i32
  let arg0 : BitVec 32 := BitVec.ofNat 32 (i 0).val
  let c0_i32_96 : BitVec 32 := 0#32
  let v241 : BitVec 1 := Scalar.cmpi .eq arg0 c0_i32_96
  let v242 : BitVec 1 := Scalar.andi v240 v241
  let v_true : BitVec 1 := 1#1
  let v245 : BitVec 1 := Scalar.xori v242 v_true
  let v246 : BitVec 32 := Scalar.extui v245
  let c0_i32_98 : BitVec 32 := 0#32
  let v247 : BitVec 1 := Scalar.cmpi .ne v246 c0_i32_98
  v247

def k0_cond3 (i : grid0.Coords) : BitVec 1 :=
  let arg1 : BitVec 32 := BitVec.ofNat 32 (i 1).val
  let c0_i32_99 : BitVec 32 := 0#32
  let v248 : BitVec 1 := Scalar.cmpi .eq arg1 c0_i32_99
  let arg0 : BitVec 32 := BitVec.ofNat 32 (i 0).val
  let c0_i32_100 : BitVec 32 := 0#32
  let v249 : BitVec 1 := Scalar.cmpi .eq arg0 c0_i32_100
  let v250 : BitVec 1 := Scalar.andi v248 v249
  let v251 : BitVec 32 := Scalar.extui v250
  let c0_i32_101 : BitVec 32 := 0#32
  let v252 : BitVec 1 := Scalar.cmpi .ne v251 c0_i32_101
  v252

def k0_cond4 (i : grid0.Coords) : BitVec 1 :=
  let arg1 : BitVec 32 := BitVec.ofNat 32 (i 1).val
  let c0_i32_99 : BitVec 32 := 0#32
  let v248 : BitVec 1 := Scalar.cmpi .eq arg1 c0_i32_99
  let arg0 : BitVec 32 := BitVec.ofNat 32 (i 0).val
  let c0_i32_100 : BitVec 32 := 0#32
  let v249 : BitVec 1 := Scalar.cmpi .eq arg0 c0_i32_100
  let v250 : BitVec 1 := Scalar.andi v248 v249
  let true_102 : BitVec 1 := 1#1
  let v253 : BitVec 1 := Scalar.xori v250 true_102
  let v254 : BitVec 32 := Scalar.extui v253
  let c0_i32_103 : BitVec 32 := 0#32
  let v255 : BitVec 1 := Scalar.cmpi .ne v254 c0_i32_103
  v255

def k0_cond5 (i : grid0.Coords) : BitVec 1 :=
  let arg1 : BitVec 32 := BitVec.ofNat 32 (i 1).val
  let c0_i32_104 : BitVec 32 := 0#32
  let v256 : BitVec 1 := Scalar.cmpi .eq arg1 c0_i32_104
  let arg0 : BitVec 32 := BitVec.ofNat 32 (i 0).val
  let c0_i32_105 : BitVec 32 := 0#32
  let v257 : BitVec 1 := Scalar.cmpi .eq arg0 c0_i32_105
  let v258 : BitVec 1 := Scalar.andi v256 v257
  let v259 : BitVec 32 := Scalar.extui v258
  let c0_i32_106 : BitVec 32 := 0#32
  let v260 : BitVec 1 := Scalar.cmpi .ne v259 c0_i32_106
  v260

def k0_cond6 (i : grid0.Coords) : BitVec 1 :=
  let arg1 : BitVec 32 := BitVec.ofNat 32 (i 1).val
  let c0_i32_104 : BitVec 32 := 0#32
  let v256 : BitVec 1 := Scalar.cmpi .eq arg1 c0_i32_104
  let arg0 : BitVec 32 := BitVec.ofNat 32 (i 0).val
  let c0_i32_105 : BitVec 32 := 0#32
  let v257 : BitVec 1 := Scalar.cmpi .eq arg0 c0_i32_105
  let v258 : BitVec 1 := Scalar.andi v256 v257
  let true_107 : BitVec 1 := 1#1
  let v261 : BitVec 1 := Scalar.xori v258 true_107
  let v262 : BitVec 32 := Scalar.extui v261
  let c0_i32_108 : BitVec 32 := 0#32
  let v263 : BitVec 1 := Scalar.cmpi .ne v262 c0_i32_108
  v263

def k0_cond7 (i : grid0.Coords) : BitVec 1 :=
  let arg1 : BitVec 32 := BitVec.ofNat 32 (i 1).val
  let c0_i32_109 : BitVec 32 := 0#32
  let v264 : BitVec 1 := Scalar.cmpi .eq arg1 c0_i32_109
  let arg0 : BitVec 32 := BitVec.ofNat 32 (i 0).val
  let c0_i32_110 : BitVec 32 := 0#32
  let v265 : BitVec 1 := Scalar.cmpi .eq arg0 c0_i32_110
  let v266 : BitVec 1 := Scalar.andi v264 v265
  let v267 : BitVec 32 := Scalar.extui v266
  let c0_i32_111 : BitVec 32 := 0#32
  let v268 : BitVec 1 := Scalar.cmpi .ne v267 c0_i32_111
  v268

def k0_cond8 (i : grid0.Coords) : BitVec 1 :=
  let arg1 : BitVec 32 := BitVec.ofNat 32 (i 1).val
  let c0_i32_109 : BitVec 32 := 0#32
  let v264 : BitVec 1 := Scalar.cmpi .eq arg1 c0_i32_109
  let arg0 : BitVec 32 := BitVec.ofNat 32 (i 0).val
  let c0_i32_110 : BitVec 32 := 0#32
  let v265 : BitVec 1 := Scalar.cmpi .eq arg0 c0_i32_110
  let v266 : BitVec 1 := Scalar.andi v264 v265
  let true_112 : BitVec 1 := 1#1
  let v269 : BitVec 1 := Scalar.xori v266 true_112
  let v270 : BitVec 32 := Scalar.extui v269
  let c0_i32_113 : BitVec 32 := 0#32
  let v271 : BitVec 1 := Scalar.cmpi .ne v270 c0_i32_113
  v271

def k0_cond9 (i : grid0.Coords) : BitVec 1 :=
  let arg1 : BitVec 32 := BitVec.ofNat 32 (i 1).val
  let c0_i32_114 : BitVec 32 := 0#32
  let v272 : BitVec 1 := Scalar.cmpi .eq arg1 c0_i32_114
  let arg0 : BitVec 32 := BitVec.ofNat 32 (i 0).val
  let c0_i32_115 : BitVec 32 := 0#32
  let v273 : BitVec 1 := Scalar.cmpi .eq arg0 c0_i32_115
  let v274 : BitVec 1 := Scalar.andi v272 v273
  let v275 : BitVec 32 := Scalar.extui v274
  let c0_i32_116 : BitVec 32 := 0#32
  let v276 : BitVec 1 := Scalar.cmpi .ne v275 c0_i32_116
  v276

def k0_cond10 (i : grid0.Coords) : BitVec 1 :=
  let arg1 : BitVec 32 := BitVec.ofNat 32 (i 1).val
  let c0_i32_114 : BitVec 32 := 0#32
  let v272 : BitVec 1 := Scalar.cmpi .eq arg1 c0_i32_114
  let arg0 : BitVec 32 := BitVec.ofNat 32 (i 0).val
  let c0_i32_115 : BitVec 32 := 0#32
  let v273 : BitVec 1 := Scalar.cmpi .eq arg0 c0_i32_115
  let v274 : BitVec 1 := Scalar.andi v272 v273
  let true_117 : BitVec 1 := 1#1
  let v277 : BitVec 1 := Scalar.xori v274 true_117
  let v278 : BitVec 32 := Scalar.extui v277
  let c0_i32_118 : BitVec 32 := 0#32
  let v279 : BitVec 1 := Scalar.cmpi .ne v278 c0_i32_118
  v279

def k0_cond11 (i : grid0.Coords) : BitVec 1 :=
  let arg1 : BitVec 32 := BitVec.ofNat 32 (i 1).val
  let c0_i32_119 : BitVec 32 := 0#32
  let v280 : BitVec 1 := Scalar.cmpi .eq arg1 c0_i32_119
  let arg0 : BitVec 32 := BitVec.ofNat 32 (i 0).val
  let c0_i32_120 : BitVec 32 := 0#32
  let v281 : BitVec 1 := Scalar.cmpi .eq arg0 c0_i32_120
  let v282 : BitVec 1 := Scalar.andi v280 v281
  let v283 : BitVec 32 := Scalar.extui v282
  let c0_i32_121 : BitVec 32 := 0#32
  let v284 : BitVec 1 := Scalar.cmpi .ne v283 c0_i32_121
  v284

def k0_cond12 (i : grid0.Coords) : BitVec 1 :=
  let arg1 : BitVec 32 := BitVec.ofNat 32 (i 1).val
  let c0_i32_119 : BitVec 32 := 0#32
  let v280 : BitVec 1 := Scalar.cmpi .eq arg1 c0_i32_119
  let arg0 : BitVec 32 := BitVec.ofNat 32 (i 0).val
  let c0_i32_120 : BitVec 32 := 0#32
  let v281 : BitVec 1 := Scalar.cmpi .eq arg0 c0_i32_120
  let v282 : BitVec 1 := Scalar.andi v280 v281
  let true_122 : BitVec 1 := 1#1
  let v285 : BitVec 1 := Scalar.xori v282 true_122
  let v286 : BitVec 32 := Scalar.extui v285
  let c0_i32_123 : BitVec 32 := 0#32
  let v287 : BitVec 1 := Scalar.cmpi .ne v286 c0_i32_123
  v287

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S192x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S192x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S192x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S192x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S192x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S192x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 1 → Memref sig .tc .vmem S1024x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]
-- ==== PostRefIdeal.lean ====
abbrev S4224x1024 : Shape := ⟨2, ![4224, 1024]⟩
abbrev S4x4224x1024 : Shape := ⟨3, ![4, 4224, 1024]⟩
abbrev S1024x1024 : Shape := ⟨2, ![1024, 1024]⟩
abbrev S1x1024 : Shape := ⟨2, ![1, 1024]⟩
abbrev S4224x16x64 : Shape := ⟨3, ![4224, 16, 64]⟩
abbrev S_ : Shape := ⟨0, ![]⟩
abbrev S4224x16 : Shape := ⟨2, ![4224, 16]⟩
abbrev S4224x16x1 : Shape := ⟨3, ![4224, 16, 1]⟩
abbrev S1x16x64 : Shape := ⟨3, ![1, 16, 64]⟩
abbrev S4224 : Shape := ⟨1, ![4224]⟩
abbrev S4224x1 : Shape := ⟨2, ![4224, 1]⟩
abbrev S1024 : Shape := ⟨1, ![1024]⟩
abbrev S16x64 : Shape := ⟨2, ![16, 64]⟩

abbrev nBuf : Space → Nat
  | .hbm => 208
  | .vmem => 0
  | .smem => 0
  | _ => 0

abbrev hbmTy0_0 (i : Nat) : BufTy := match i % 128 with
  | 0 => ⟨S4224x1024, .f32⟩
  | 1 => ⟨S4x4224x1024, .f32⟩
  | 2 => ⟨S4224x1024, .f32⟩
  | 3 => ⟨S4224x1024, .f32⟩
  | 4 => ⟨S4224x1024, .f32⟩
  | 5 => ⟨S4224x1024, .f32⟩
  | 6 => ⟨S4224x1024, .f32⟩
  | 7 => ⟨S4224x1024, .f32⟩
  | 8 => ⟨S1024x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S4224x16x64, .f32⟩
  | 15 => ⟨S4224x16x64, .f32⟩
  | 16 => ⟨S4224x16x64, .f32⟩
  | 17 => ⟨S4224x16x64, .f32⟩
  | 18 => ⟨S_, .f32⟩
  | 19 => ⟨S4224x16, .f32⟩
  | 20 => ⟨S4224x16x1, .f32⟩
  | 21 => ⟨S_, .f32⟩
  | 22 => ⟨S4224x16x1, .f32⟩
  | 23 => ⟨S4224x16x1, .f32⟩
  | 24 => ⟨S4224x16x64, .f32⟩
  | 25 => ⟨S4224x16x64, .f32⟩
  | 26 => ⟨S4224x16x64, .f32⟩
  | 27 => ⟨S_, .f32⟩
  | 28 => ⟨S4224x16, .f32⟩
  | 29 => ⟨S4224x16x1, .f32⟩
  | 30 => ⟨S_, .f32⟩
  | 31 => ⟨S4224x16x1, .f32⟩
  | 32 => ⟨S4224x16x1, .f32⟩
  | 33 => ⟨S_, .f32⟩
  | 34 => ⟨S4224x16x1, .f32⟩
  | 35 => ⟨S4224x16x1, .f32⟩
  | 36 => ⟨S4224x16x1, .f32⟩
  | 37 => ⟨S4224x16x1, .f32⟩
  | 38 => ⟨S_, .f32⟩
  | 39 => ⟨S4224x16x1, .f32⟩
  | 40 => ⟨S4224x16x1, .f32⟩
  | 41 => ⟨S4224x16x64, .f32⟩
  | 42 => ⟨S4224x16x64, .f32⟩
  | 43 => ⟨S1x16x64, .f32⟩
  | 44 => ⟨S4224x16x64, .f32⟩
  | 45 => ⟨S4224x16x64, .f32⟩
  | 46 => ⟨S1x16x64, .f32⟩
  | 47 => ⟨S4224x16x64, .f32⟩
  | 48 => ⟨S4224x16x64, .f32⟩
  | 49 => ⟨S4224x16x64, .f32⟩
  | 50 => ⟨S1x16x64, .f32⟩
  | 51 => ⟨S4224x16x64, .f32⟩
  | 52 => ⟨S4224x16x64, .f32⟩
  | 53 => ⟨S_, .f32⟩
  | 54 => ⟨S4224x16, .f32⟩
  | 55 => ⟨S4224x16x1, .f32⟩
  | 56 => ⟨S4224x16x64, .f32⟩
  | 57 => ⟨S4224x16x64, .f32⟩
  | 58 => ⟨S4224x16x64, .f32⟩
  | 59 => ⟨S4224x1024, .f32⟩
  | 60 => ⟨S4224x1024, .f32⟩
  | 61 => ⟨S_, .f32⟩
  | 62 => ⟨S4224x1024, .f32⟩
  | 63 => ⟨S4224x1024, .f32⟩
  | 64 => ⟨S4224x1024, .f32⟩
  | 65 => ⟨S4224x1024, .f32⟩
  | 66 => ⟨S_, .f32⟩
  | 67 => ⟨S4224, .f32⟩
  | 68 => ⟨S4224x1, .f32⟩
  | 69 => ⟨S_, .f32⟩
  | 70 => ⟨S4224x1, .f32⟩
  | 71 => ⟨S4224x1, .f32⟩
  | 72 => ⟨S4224x1024, .f32⟩
  | 73 => ⟨S4224x1024, .f32⟩
  | 74 => ⟨S4224x1024, .f32⟩
  | 75 => ⟨S_, .f32⟩
  | 76 => ⟨S4224, .f32⟩
  | 77 => ⟨S4224x1, .f32⟩
  | 78 => ⟨S_, .f32⟩
  | 79 => ⟨S4224x1, .f32⟩
  | 80 => ⟨S4224x1, .f32⟩
  | 81 => ⟨S_, .f32⟩
  | 82 => ⟨S4224x1, .f32⟩
  | 83 => ⟨S4224x1, .f32⟩
  | 84 => ⟨S4224x1, .f32⟩
  | 85 => ⟨S4224x1, .f32⟩
  | 86 => ⟨S_, .f32⟩
  | 87 => ⟨S4224x1, .f32⟩
  | 88 => ⟨S4224x1, .f32⟩
  | 89 => ⟨S4224x1024, .f32⟩
  | 90 => ⟨S4224x1024, .f32⟩
  | 91 => ⟨S4224x1024, .f32⟩
  | 92 => ⟨S4224x1024, .f32⟩
  | 93 => ⟨S4224x1024, .f32⟩
  | 94 => ⟨S4224x1024, .f32⟩
  | 95 => ⟨S_, .f32⟩
  | 96 => ⟨S4224x1024, .f32⟩
  | 97 => ⟨S4224x1024, .f32⟩
  | 98 => ⟨S_, .f32⟩
  | 99 => ⟨S4224x1024, .f32⟩
  | 100 => ⟨S4224x1024, .f32⟩
  | 101 => ⟨S_, .f32⟩
  | 102 => ⟨S1024, .f32⟩
  | 103 => ⟨S1x1024, .f32⟩
  | 104 => ⟨S4224x1024, .f32⟩
  | 105 => ⟨S_, .f32⟩
  | 106 => ⟨S1024, .f32⟩
  | 107 => ⟨S1x1024, .f32⟩
  | 108 => ⟨S4224x1024, .f32⟩
  | 109 => ⟨S4224x1024, .f32⟩
  | 110 => ⟨S4224x1024, .f32⟩
  | 111 => ⟨S_, .f32⟩
  | 112 => ⟨S4224, .f32⟩
  | 113 => ⟨S4224x1, .f32⟩
  | 114 => ⟨S4224x1024, .f32⟩
  | 115 => ⟨S4224x1024, .f32⟩
  | 116 => ⟨S4224x1, .f32⟩
  | 117 => ⟨S_, .f32⟩
  | 118 => ⟨S4224x1, .f32⟩
  | 119 => ⟨S4224x1, .f32⟩
  | 120 => ⟨S_, .f32⟩
  | 121 => ⟨S4224, .f32⟩
  | 122 => ⟨S4224x1024, .f32⟩
  | 123 => ⟨S4224x1024, .f32⟩
  | 124 => ⟨S4224x1024, .f32⟩
  | 125 => ⟨S4224x1024, .f32⟩
  | 126 => ⟨S4224x1024, .f32⟩
  | 127 => ⟨S4224x1024, .f32⟩
  | _ => ⟨S4224x1024, .f32⟩

abbrev hbmTy0_1 (i : Nat) : BufTy := match i % 128 with
  | 0 => ⟨S_, .f32⟩
  | 1 => ⟨S4224, .f32⟩
  | 2 => ⟨S4224x1, .f32⟩
  | 3 => ⟨S_, .f32⟩
  | 4 => ⟨S4224x1, .f32⟩
  | 5 => ⟨S4224x1, .f32⟩
  | 6 => ⟨S_, .f32⟩
  | 7 => ⟨S4224, .f32⟩
  | 8 => ⟨S4224x1024, .f32⟩
  | 9 => ⟨S4224x1024, .f32⟩
  | 10 => ⟨S1024x1024, .f32⟩
  | 11 => ⟨S1024x1024, .f32⟩
  | 12 => ⟨S4224x1024, .f32⟩
  | 13 => ⟨S_, .f32⟩
  | 14 => ⟨S4224x1024, .f32⟩
  | 15 => ⟨S4224x1024, .f32⟩
  | 16 => ⟨S4224x1024, .f32⟩
  | 17 => ⟨S4224x1024, .f32⟩
  | 18 => ⟨S4224x16x64, .f32⟩
  | 19 => ⟨S4224x16x64, .f32⟩
  | 20 => ⟨S4224x16x64, .f32⟩
  | 21 => ⟨S4224x16x64, .f32⟩
  | 22 => ⟨S_, .f32⟩
  | 23 => ⟨S4224x16, .f32⟩
  | 24 => ⟨S4224x16x1, .f32⟩
  | 25 => ⟨S_, .f32⟩
  | 26 => ⟨S4224x16, .f32⟩
  | 27 => ⟨S4224x16x64, .f32⟩
  | 28 => ⟨S4224x16x64, .f32⟩
  | 29 => ⟨S_, .f32⟩
  | 30 => ⟨S16x64, .f32⟩
  | 31 => ⟨S1x16x64, .f32⟩
  | 32 => ⟨S4224x16x64, .f32⟩
  | 33 => ⟨S4224x16x64, .f32⟩
  | 34 => ⟨S1x1024, .f32⟩
  | 35 => ⟨S4224x16x64, .f32⟩
  | 36 => ⟨S4224x16x64, .f32⟩
  | 37 => ⟨S_, .f32⟩
  | 38 => ⟨S16x64, .f32⟩
  | 39 => ⟨S1x16x64, .f32⟩
  | 40 => ⟨S1x1024, .f32⟩
  | 41 => ⟨S4224x16x64, .f32⟩
  | 42 => ⟨S_, .f32⟩
  | 43 => ⟨S16x64, .f32⟩
  | 44 => ⟨S1x16x64, .f32⟩
  | 45 => ⟨S4224x16x64, .f32⟩
  | 46 => ⟨S4224x16x64, .f32⟩
  | 47 => ⟨S1x1024, .f32⟩
  | 48 => ⟨S4224x16x64, .f32⟩
  | 49 => ⟨S_, .f32⟩
  | 50 => ⟨S4224x16, .f32⟩
  | 51 => ⟨S4224x16x1, .f32⟩
  | 52 => ⟨S4224x16x64, .f32⟩
  | 53 => ⟨S4224x16x64, .f32⟩
  | 54 => ⟨S4224x16x1, .f32⟩
  | 55 => ⟨S_, .f32⟩
  | 56 => ⟨S4224x16x1, .f32⟩
  | 57 => ⟨S4224x16x1, .f32⟩
  | 58 => ⟨S_, .f32⟩
  | 59 => ⟨S4224x16, .f32⟩
  | 60 => ⟨S4224x16x64, .f32⟩
  | 61 => ⟨S4224x16x64, .f32⟩
  | 62 => ⟨S4224x16x64, .f32⟩
  | 63 => ⟨S4224x16x64, .f32⟩
  | 64 => ⟨S4224x16x64, .f32⟩
  | 65 => ⟨S4224x16x64, .f32⟩
  | 66 => ⟨S_, .f32⟩
  | 67 => ⟨S4224x16, .f32⟩
  | 68 => ⟨S4224x16x1, .f32⟩
  | 69 => ⟨S_, .f32⟩
  | 70 => ⟨S4224x16x1, .f32⟩
  | 71 => ⟨S4224x16x1, .f32⟩
  | 72 => ⟨S_, .f32⟩
  | 73 => ⟨S4224x16, .f32⟩
  | 74 => ⟨S4224x16x64, .f32⟩
  | 75 => ⟨S4224x16x64, .f32⟩
  | 76 => ⟨S4224x1024, .f32⟩
  | 77 => ⟨S4224x1024, .f32⟩
  | 78 => ⟨S4224x1024, .f32⟩
  | 79 => ⟨S4224x1024, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_20 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_cst_22 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_23 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩
abbrev main_v112 : Ref sig .tc := ⟨.hbm, 152, rfl⟩
abbrev main_cst_25 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_26 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_27 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_28 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_29 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_30 : Ref sig .tc := ⟨.hbm, 183, rfl⟩
abbrev main_v138 : Ref sig .tc := ⟨.hbm, 184, rfl⟩
abbrev main_v139 : Ref sig .tc := ⟨.hbm, 185, rfl⟩
abbrev main_cst_31 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_32 : Ref sig .tc := ⟨.hbm, 194, rfl⟩
abbrev main_v147 : Ref sig .tc := ⟨.hbm, 195, rfl⟩
abbrev main_v148 : Ref sig .tc := ⟨.hbm, 196, rfl⟩
abbrev main_cst_33 : Ref sig .tc := ⟨.hbm, 197, rfl⟩
abbrev main_v149 : Ref sig .tc := ⟨.hbm, 198, rfl⟩
abbrev main_v150 : Ref sig .tc := ⟨.hbm, 199, rfl⟩
abbrev main_cst_34 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩

abbrev nD : Nat := 1
abbrev τ : Topo := Topo.v7x

variable {F : FTy → Type} [FloatOps F]
-- ==== H0.lean ====
abbrev S4224x1024 : Shape := ⟨2, ![4224, 1024]⟩
abbrev S384x1024 : Shape := ⟨2, ![384, 1024]⟩
abbrev S8x1024 : Shape := ⟨2, ![8, 1024]⟩
abbrev S1024 : Shape := ⟨1, ![1024]⟩
abbrev S1x1024 : Shape := ⟨2, ![1, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S8x1024, .f32⟩
  | .local _ .vmem, ⟨7, _⟩ => ⟨S8x1024, .f32⟩
  | .local _ .vmem, ⟨8, _⟩ => ⟨S384x1024, .f32⟩
  | .local _ .vmem, ⟨9, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== H0RefIdeal.lean ====
abbrev S4224x1024 : Shape := ⟨2, ![4224, 1024]⟩
abbrev S_ : Shape := ⟨0, ![]⟩
abbrev S1x1024 : Shape := ⟨2, ![1, 1024]⟩
abbrev S4223x1024 : Shape := ⟨2, ![4223, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S_, .f32⟩
  | .hbm, ⟨4, _⟩ => ⟨S4224x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S4223x1024, .f32⟩
  | .hbm, ⟨9, _⟩ => ⟨S4224x1024, .f32⟩
  | .hbm, ⟨10, _⟩ => ⟨S_, .f32⟩
  | .hbm, ⟨11, _⟩ => ⟨S1x1024, .f32⟩
  | .hbm, ⟨12, _⟩ => ⟨S4224x1024, .f32⟩
  | .hbm, ⟨13, _⟩ => ⟨S1x1024, .f32⟩
  | .hbm, ⟨14, _⟩ => ⟨S4223x1024, .f32⟩
  | .hbm, ⟨15, _⟩ => ⟨S_, .f32⟩
  | .hbm, ⟨16, _⟩ => ⟨S4224x1024, .f32⟩
  | .hbm, ⟨17, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Ao.lean ====
abbrev S4224x1024 : Shape := ⟨2, ![4224, 1024]⟩
abbrev S1024x1024 : Shape := ⟨2, ![1024, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 7
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== AoRefIdeal.lean ====
abbrev S4224x1024 : Shape := ⟨2, ![4224, 1024]⟩
abbrev S1024x1024 : Shape := ⟨2, ![1024, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 35
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S4224x1, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Fwd.lean ====
abbrev S4224x1024 : Shape := ⟨2, ![4224, 1024]⟩
abbrev S1024x1024 : Shape := ⟨2, ![1024, 1024]⟩
abbrev S1x1024 : Shape := ⟨2, ![1, 1024]⟩
abbrev S1024x16 : Shape := ⟨2, ![1024, 16]⟩
abbrev S_ : Shape := ⟨0, ![]⟩
abbrev S16x1024 : Shape := ⟨2, ![16, 1024]⟩
abbrev S384x1024 : Shape := ⟨2, ![384, 1024]⟩
abbrev S384x16 : Shape := ⟨2, ![384, 16]⟩
abbrev S384 : Shape := ⟨1, ![384]⟩
abbrev S384x1 : Shape := ⟨2, ![384, 1]⟩

abbrev nBuf : Space → Nat
  | .hbm => 39
  | .vmem => 22
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x16, .i32⟩
  | .hbm, ⟨13, _⟩ => ⟨S_, .i32⟩
  | .hbm, ⟨14, _⟩ => ⟨S_, .i32⟩
  | .hbm, ⟨15, _⟩ => ⟨S1024x16, .i32⟩
  | .hbm, ⟨16, _⟩ => ⟨S1024x16, .i32⟩
  | .hbm, ⟨17, _⟩ => ⟨S1024x16, .i32⟩
  | .hbm, ⟨18, _⟩ => ⟨S_, .i32⟩
  | .hbm, ⟨19, _⟩ => ⟨S1024x16, .i32⟩
  | .hbm, ⟨20, _⟩ => ⟨S1024x16, .i1⟩
  | .hbm, ⟨21, _⟩ => ⟨S1024x16, .i32⟩
  | .hbm, ⟨22, _⟩ => ⟨S1024x16, .i32⟩
  | .hbm, ⟨23, _⟩ => ⟨S_, .i32⟩
  | .hbm, ⟨24, _⟩ => ⟨S1024x16, .i32⟩
  | .hbm, ⟨25, _⟩ => ⟨S1024x16, .i1⟩
  | .hbm, ⟨26, _⟩ => ⟨S1024x16, .i1⟩
  | .hbm, ⟨27, _⟩ => ⟨S_, .i32⟩
  | .hbm, ⟨28, _⟩ => ⟨S1024x16, .i32⟩
  | .hbm, ⟨29, _⟩ => ⟨S1024x16, .i32⟩
  | .hbm, ⟨30, _⟩ => ⟨S1024x16, .i32⟩
  | .hbm, ⟨31, _⟩ => ⟨S1024x16, .i32⟩
  | .hbm, ⟨32, _⟩ => ⟨S1024x16, .i1⟩
  | .hbm, ⟨33, _⟩ => ⟨S1024x16, .f32⟩
  | .hbm, ⟨34, _⟩ => ⟨S1024x16, .bf16⟩
  | .hbm, ⟨35, _⟩ => ⟨S16x1024, .f32⟩
  | .hbm, ⟨36, _⟩ => ⟨S16x1024, .bf16⟩
  | .hbm, ⟨37, _⟩ => ⟨S1024x1024, .bf16⟩
  | .hbm, ⟨38, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1024x16, .bf16⟩
  | .local _ .vmem, ⟨13, _⟩ => ⟨S16x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S384x1024, .f32⟩
  | .local _ .vmem, ⟨21, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S384x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]
-- ==== FwdRefIdeal.lean ====
abbrev S4224x1024 : Shape := ⟨2, ![4224, 1024]⟩
abbrev S1024x1024 : Shape := ⟨2, ![1024, 1024]⟩
abbrev S1x1024 : Shape := ⟨2, ![1, 1024]⟩
abbrev S4224x16x64 : Shape := ⟨3, ![4224, 16, 64]⟩
abbrev S_ : Shape := ⟨0, ![]⟩
abbrev S4224x16 : Shape := ⟨2, ![4224, 16]⟩
abbrev S4224x16x1 : Shape := ⟨3, ![4224, 16, 1]⟩
abbrev S1x16x64 : Shape := ⟨3, ![1, 16, 64]⟩
abbrev S4224 : Shape := ⟨1, ![4224]⟩
abbrev S4224x1 : Shape := ⟨2, ![4224, 1]⟩

abbrev nBuf : Space → Nat
  | .hbm => 85
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4224x16x64, .f32⟩
  | .hbm, ⟨13, _⟩ => ⟨S4224x16x64, .f32⟩
  | .hbm, ⟨14, _⟩ => ⟨S4224x16x64, .f32⟩
  | .hbm, ⟨15, _⟩ => ⟨S4224x16x64, .f32⟩
  | .hbm, ⟨16, _⟩ => ⟨S_, .f32⟩
  | .hbm, ⟨17, _⟩ => ⟨S4224x16, .f32⟩
  | .hbm, ⟨18, _⟩ => ⟨S4224x16x1, .f32⟩
  | .hbm, ⟨19, _⟩ => ⟨S_, .f32⟩
  | .hbm, ⟨20, _⟩ => ⟨S4224x16x1, .f32⟩
  | .hbm, ⟨21, _⟩ => ⟨S4224x16x1, .f32⟩
  | .hbm, ⟨22, _⟩ => ⟨S4224x16x64, .f32⟩
  | .hbm, ⟨23, _⟩ => ⟨S4224x16x64, .f32⟩
  | .hbm, ⟨24, _⟩ => ⟨S4224x16x64, .f32⟩
  | .hbm, ⟨25, _⟩ => ⟨S_, .f32⟩
  | .hbm, ⟨26, _⟩ => ⟨S4224x16, .f32⟩
  | .hbm, ⟨27, _⟩ => ⟨S4224x16x1, .f32⟩
  | .hbm, ⟨28, _⟩ => ⟨S_, .f32⟩
  | .hbm, ⟨29, _⟩ => ⟨S4224x16x1, .f32⟩
  | .hbm, ⟨30, _⟩ => ⟨S4224x16x1, .f32⟩
  | .hbm, ⟨31, _⟩ => ⟨S_, .f32⟩
  | .hbm, ⟨32, _⟩ => ⟨S4224x16x1, .f32⟩
  | .hbm, ⟨33, _⟩ => ⟨S4224x16x1, .f32⟩
  | .hbm, ⟨34, _⟩ => ⟨S4224x16x1, .f32⟩
  | .hbm, ⟨35, _⟩ => ⟨S4224x16x64, .f32⟩
  | .hbm, ⟨36, _⟩ => ⟨S4224x16x64, .f32⟩
  | .hbm, ⟨37, _⟩ => ⟨S1x16x64, .f32⟩
  | .hbm, ⟨38, _⟩ => ⟨S4224x16x64, .f32⟩
  | .hbm, ⟨39, _⟩ => ⟨S4224x16x64, .f32⟩
  | .hbm, ⟨40, _⟩ => ⟨S1x16x64, .f32⟩
  | .hbm, ⟨41, _⟩ => ⟨S4224x16x64, .f32⟩
  | .hbm, ⟨42, _⟩ => ⟨S4224x16x64, .f32⟩
  | .hbm, ⟨43, _⟩ => ⟨S4224x16x64, .f32⟩
  | .hbm, ⟨44, _⟩ => ⟨S1x16x64, .f32⟩
  | .hbm, ⟨45, _⟩ => ⟨S4224x16x64, .f32⟩
  | .hbm, ⟨46, _⟩ => ⟨S4224x16x64, .f32⟩
  | .hbm, ⟨47, _⟩ => ⟨S_, .f32⟩
  | .hbm, ⟨48, _⟩ => ⟨S4224x16, .f32⟩
  | .hbm, ⟨49, _⟩ => ⟨S4224x16x1, .f32⟩
  | .hbm, ⟨50, _⟩ => ⟨S4224x16x64, .f32⟩
  | .hbm, ⟨51, _⟩ => ⟨S4224x16x64, .f32⟩
  | .hbm, ⟨52, _⟩ => ⟨S4224x16x64, .f32⟩
  | .hbm, ⟨53, _⟩ => ⟨S4224x1024, .f32⟩
  | .hbm, ⟨54, _⟩ => ⟨S4224x1024, .f32⟩
  | .hbm, ⟨55, _⟩ => ⟨S_, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S_, .f32⟩
  | .hbm, ⟨61, _⟩ => ⟨S4224, .f32⟩
  | .hbm, ⟨62, _⟩ => ⟨S4224x1, .f32⟩
  | .hbm, ⟨63, _⟩ => ⟨S_, .f32⟩
  | .hbm, ⟨64, _⟩ => ⟨S4224x1, .f32⟩
  | .hbm, ⟨65, _⟩ => ⟨S4224x1, .f32⟩
  | .hbm, ⟨66, _⟩ => ⟨S4224x1024, .f32⟩
  | .hbm, ⟨67, _⟩ => ⟨S4224x1024, .f32⟩
  | .hbm, ⟨68, _⟩ => ⟨S4224x1024, .f32⟩
  | .hbm, ⟨69, _⟩ => ⟨S_, .f32⟩
  | .hbm, ⟨70, _⟩ => ⟨S4224, .f32⟩
  | .hbm, ⟨71, _⟩ => ⟨S4224x1, .f32⟩
  | .hbm, ⟨72, _⟩ => ⟨S_, .f32⟩
  | .hbm, ⟨73, _⟩ => ⟨S4224x1, .f32⟩
  | .hbm, ⟨74, _⟩ => ⟨S4224x1, .f32⟩
  | .hbm, ⟨75, _⟩ => ⟨S_, .f32⟩
  | .hbm, ⟨76, _⟩ => ⟨S4224x1, .f32⟩
  | .hbm, ⟨77, _⟩ => ⟨S4224x1, .f32⟩
  | .hbm, ⟨78, _⟩ => ⟨S4224x1, .f32⟩
  | .hbm, ⟨79, _⟩ => ⟨S4224x1024, .f32⟩
  | .hbm, ⟨80, _⟩ => ⟨S4224x1024, .f32⟩
  | .hbm, ⟨81, _⟩ => ⟨S4224x1024, .f32⟩
  | .hbm, ⟨82, _⟩ => ⟨S4224x1024, .f32⟩
  | .hbm, ⟨83, _⟩ => ⟨S4224x1024, .f32⟩
  | .hbm, ⟨84, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Mlf.lean ====
abbrev S4224x1024 : Shape := ⟨2, ![4224, 1024]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S4x4224x1024 : Shape := ⟨3, ![4, 4224, 1024]⟩
abbrev S384x1024 : Shape := ⟨2, ![384, 1024]⟩
abbrev S4x384x1024 : Shape := ⟨3, ![4, 384, 1024]⟩
abbrev S1x1024x1024 : Shape := ⟨3, ![1, 1024, 1024]⟩
abbrev S1024x1024 : Shape := ⟨2, ![1024, 1024]⟩
abbrev S384 : Shape := ⟨1, ![384]⟩
abbrev S384x1 : Shape := ⟨2, ![384, 1]⟩
abbrev S1x384x1024 : Shape := ⟨3, ![1, 384, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4x1024x1024, .f32⟩
  | .hbm, ⟨9, _⟩ => ⟨S4x1024x1024, .bf16⟩
  | .hbm, ⟨10, _⟩ => ⟨S4224x1024, .f32⟩
  | .hbm, ⟨11, _⟩ => ⟨S4224x1024, .f32⟩
  | .hbm, ⟨12, _⟩ => ⟨S4x4224x1024, .bf16⟩
  | .local _ .vmem, ⟨0, _⟩ => ⟨S384x1024, .f32⟩
  | .local _ .vmem, ⟨1, _⟩ => ⟨S384x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S1x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S4x384x1024, .bf16⟩
  | .local _ .vmem, ⟨11, _⟩ => ⟨S4x384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== MlfRefIdeal.lean ====
abbrev S4224x1024 : Shape := ⟨2, ![4224, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4224x4096 : Shape := ⟨2, ![4224, 4096]⟩
abbrev S4224x4x1024 : Shape := ⟨3, ![4224, 4, 1024]⟩
abbrev S4x4224x1024 : Shape := ⟨3, ![4, 4224, 1024]⟩
abbrev S4224 : Shape := ⟨1, ![4224]⟩
abbrev S4224x1 : Shape := ⟨2, ![4224, 1]⟩

abbrev nBuf : Space → Nat
  | .hbm => 44
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4224x1024, .f32⟩
  | .hbm, ⟨7, _⟩ => ⟨S4224x1024, .f32⟩
  | .hbm, ⟨8, _⟩ => ⟨S4224x4096, .f32⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S4224x4096, .f32⟩
  | .hbm, ⟨13, _⟩ => ⟨S4224x1024, .f32⟩
  | .hbm, ⟨14, _⟩ => ⟨S4224x1024, .f32⟩
  | .hbm, ⟨15, _⟩ => ⟨S4224x4096, .f32⟩
  | .hbm, ⟨16, _⟩ => ⟨S4224x4x1024, .f32⟩
  | .hbm, ⟨17, _⟩ => ⟨S4x4224x1024, .f32⟩
  | .hbm, ⟨18, _⟩ => ⟨S4x4224x1024, .bf16⟩
  | .hbm, ⟨19, _⟩ => ⟨S_, .f32⟩
  | .hbm, ⟨20, _⟩ => ⟨S4224, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S4224x1024, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224, .f32⟩
  | .hbm, ⟨30, _⟩ => ⟨S4224x1, .f32⟩
  | .hbm, ⟨31, _⟩ => ⟨S_, .f32⟩
  | .hbm, ⟨32, _⟩ => ⟨S4224x1, .f32⟩
  | .hbm, ⟨33, _⟩ => ⟨S4224x1, .f32⟩
  | .hbm, ⟨34, _⟩ => ⟨S_, .f32⟩
  | .hbm, ⟨35, _⟩ => ⟨S4224x1, .f32⟩
  | .hbm, ⟨36, _⟩ => ⟨S4224x1, .f32⟩
  | .hbm, ⟨37, _⟩ => ⟨S4224x1, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Prj.lean ====
abbrev S4224x1024 : Shape := ⟨2, ![4224, 1024]⟩
abbrev S1024x1024 : Shape := ⟨2, ![1024, 1024]⟩
abbrev S1024x256 : Shape := ⟨2, ![1024, 256]⟩
abbrev S4224 : Shape := ⟨1, ![4224]⟩
abbrev S_ : Shape := ⟨0, ![]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S1x4224x1x32 : Shape := ⟨4, ![1, 4224, 1, 32]⟩
abbrev S1x4224x4x32 : Shape := ⟨4, ![1, 4224, 4, 32]⟩
abbrev S4224x128 : Shape := ⟨2, ![4224, 128]⟩
abbrev S4224x256 : Shape := ⟨2, ![4224, 256]⟩
abbrev S384x1024 : Shape := ⟨2, ![384, 1024]⟩
abbrev S384x128 : Shape := ⟨2, ![384, 128]⟩
abbrev S384x256 : Shape := ⟨2, ![384, 256]⟩

abbrev nBuf : Space → Nat
  | .hbm => 46
  | .vmem => 15
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S4224, .f32⟩
  | .hbm, ⟨5, _⟩ => ⟨S_, .f32⟩
  | .hbm, ⟨6, _⟩ => ⟨S4224, .f32⟩
  | .hbm, ⟨7, _⟩ => ⟨S4224, .f32⟩
  | .hbm, ⟨8, _⟩ => ⟨S_, .f32⟩
  | .hbm, ⟨9, _⟩ => ⟨S4224, .f32⟩
  | .hbm, ⟨10, _⟩ => ⟨S4224, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4224x1, .f32⟩
  | .hbm, ⟨28, _⟩ => ⟨S1x32, .f32⟩
  | .hbm, ⟨29, _⟩ => ⟨S4224x32, .f32⟩
  | .hbm, ⟨30, _⟩ => ⟨S4224x32, .f32⟩
  | .hbm, ⟨31, _⟩ => ⟨S4224x32, .f32⟩
  | .hbm, ⟨32, _⟩ => ⟨S4224x32, .f32⟩
  | .hbm, ⟨33, _⟩ => ⟨S1x4224x1x32, .f32⟩
  | .hbm, ⟨34, _⟩ => ⟨S1x4224x4x32, .f32⟩
  | .hbm, ⟨35, _⟩ => ⟨S4224x128, .f32⟩
  | .hbm, ⟨36, _⟩ => ⟨S4224x32, .f32⟩
  | .hbm, ⟨37, _⟩ => ⟨S1x4224x1x32, .f32⟩
  | .hbm, ⟨38, _⟩ => ⟨S1x4224x4x32, .f32⟩
  | .hbm, ⟨39, _⟩ => ⟨S4224x128, .f32⟩
  | .hbm, ⟨40, _⟩ => ⟨S1024x1024, .bf16⟩
  | .hbm, ⟨41, _⟩ => ⟨S1024x256, .bf16⟩
  | .hbm, ⟨42, _⟩ => ⟨S1024x256, .bf16⟩
  | .hbm, ⟨43, _⟩ => ⟨S4224x1024, .f32⟩
  | .hbm, ⟨44, _⟩ => ⟨S4224x256, .f32⟩
  | .hbm, ⟨45, _⟩ => ⟨S4224x256, .f32⟩
  | .local _ .vmem, ⟨0, _⟩ => ⟨S384x1024, .f32⟩
  | .local _ .vmem, ⟨1, _⟩ => ⟨S384x1024, .f32⟩
  | .local _ .vmem, ⟨2, _⟩ => ⟨S384x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S1024x1024, .bf16⟩
  | .local _ .vmem, ⟨7, _⟩ => ⟨S1024x256, .bf16⟩
  | .local _ .vmem, ⟨8, _⟩ => ⟨S1024x256, .bf16⟩
  | .local _ .vmem, ⟨9, _⟩ => ⟨S384x1024, .f32⟩
  | .local _ .vmem, ⟨10, _⟩ => ⟨S384x1024, .f32⟩
  | .local _ .vmem, ⟨11, _⟩ => ⟨S384x256, .f32⟩
  | .local _ .vmem, ⟨12, _⟩ => ⟨S384x256, .f32⟩
  | .local _ .vmem, ⟨13, _⟩ => ⟨S384x256, .f32⟩
  | .local _ .vmem, ⟨14, _⟩ => ⟨S384x256, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== PrjRefIdeal.lean ====
abbrev S4224x1024 : Shape := ⟨2, ![4224, 1024]⟩
abbrev S1024x1024 : Shape := ⟨2, ![1024, 1024]⟩
abbrev S1024x256 : Shape := ⟨2, ![1024, 256]⟩
abbrev S32 : Shape := ⟨1, ![32]⟩
abbrev S_ : Shape := ⟨0, ![]⟩
abbrev S112 : Shape := ⟨1, ![112]⟩
abbrev S4112 : Shape := ⟨1, ![4112]⟩
abbrev S4224 : Shape := ⟨1, ![4224]⟩
abbrev S4224x1 : Shape := ⟨2, ![4224, 1]⟩
abbrev S1x32 : Shape := ⟨2, ![1, 32]⟩
abbrev S4224x32 : Shape := ⟨2, ![4224, 32]⟩
abbrev S4224x16x64 : Shape := ⟨3, ![4224, 16, 64]⟩
abbrev S4224x16x32 : Shape := ⟨3, ![4224, 16, 32]⟩
abbrev S4224x1x32 : Shape := ⟨3, ![4224, 1, 32]⟩
abbrev S4224x256 : Shape := ⟨2, ![4224, 256]⟩
abbrev S4224x4x64 : Shape := ⟨3, ![4224, 4, 64]⟩
abbrev S4224x4x32 : Shape := ⟨3, ![4224, 4, 32]⟩

abbrev nBuf : Space → Nat
  | .hbm => 68
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S112, .f32⟩
  | .hbm, ⟨22, _⟩ => ⟨S4112, .f32⟩
  | .hbm, ⟨23, _⟩ => ⟨S4224, .f32⟩
  | .hbm, ⟨24, _⟩ => ⟨S4224x1, .f32⟩
  | .hbm, ⟨25, _⟩ => ⟨S1x32, .f32⟩
  | .hbm, ⟨26, _⟩ => ⟨S4224x32, .f32⟩
  | .hbm, ⟨27, _⟩ => ⟨S4224x32, .f32⟩
  | .hbm, ⟨28, _⟩ => ⟨S4224x32, .f32⟩
  | .hbm, ⟨29, _⟩ => ⟨S4224x32, .f32⟩
  | .hbm, ⟨30, _⟩ => ⟨S4224x32, .f32⟩
  | .hbm, ⟨31, _⟩ => ⟨S4224x1024, .f32⟩
  | .hbm, ⟨32, _⟩ => ⟨S4224x16x64, .f32⟩
  | .hbm, ⟨33, _⟩ => ⟨S4224x16x32, .f32⟩
  | .hbm, ⟨34, _⟩ => ⟨S4224x16x32, .f32⟩
  | .hbm, ⟨35, _⟩ => ⟨S4224x1x32, .f32⟩
  | .hbm, ⟨36, _⟩ => ⟨S4224x1x32, .f32⟩
  | .hbm, ⟨37, _⟩ => ⟨S4224x16x32, .f32⟩
  | .hbm, ⟨38, _⟩ => ⟨S4224x16x32, .f32⟩
  | .hbm, ⟨39, _⟩ => ⟨S4224x16x32, .f32⟩
  | .hbm, ⟨40, _⟩ => ⟨S4224x16x32, .f32⟩
  | .hbm, ⟨41, _⟩ => ⟨S4224x16x32, .f32⟩
  | .hbm, ⟨42, _⟩ => ⟨S4224x16x32, .f32⟩
  | .hbm, ⟨43, _⟩ => ⟨S4224x16x32, .f32⟩
  | .hbm, ⟨44, _⟩ => ⟨S4224x16x32, .f32⟩
  | .hbm, ⟨45, _⟩ => ⟨S4224x16x32, .f32⟩
  | .hbm, ⟨46, _⟩ => ⟨S4224x16x32, .f32⟩
  | .hbm, ⟨47, _⟩ => ⟨S4224x16x64, .f32⟩
  | .hbm, ⟨48, _⟩ => ⟨S4224x256, .f32⟩
  | .hbm, ⟨49, _⟩ => ⟨S4224x4x64, .f32⟩
  | .hbm, ⟨50, _⟩ => ⟨S4224x4x32, .f32⟩
  | .hbm, ⟨51, _⟩ => ⟨S4224x4x32, .f32⟩
  | .hbm, ⟨52, _⟩ => ⟨S4224x1x32, .f32⟩
  | .hbm, ⟨53, _⟩ => ⟨S4224x1x32, .f32⟩
  | .hbm, ⟨54, _⟩ => ⟨S4224x4x32, .f32⟩
  | .hbm, ⟨55, _⟩ => ⟨S4224x4x32, .f32⟩
  | .hbm, ⟨56, _⟩ => ⟨S4224x4x32, .f32⟩
  | .hbm, ⟨57, _⟩ => ⟨S4224x4x32, .f32⟩
  | .hbm, ⟨58, _⟩ => ⟨S4224x4x32, .f32⟩
  | .hbm, ⟨59, _⟩ => ⟨S4224x4x32, .f32⟩
  | .hbm, ⟨60, _⟩ => ⟨S4224x4x32, .f32⟩
  | .hbm, ⟨61, _⟩ => ⟨S4224x4x32, .f32⟩
  | .hbm, ⟨62, _⟩ => ⟨S4224x4x32, .f32⟩
  | .hbm, ⟨63, _⟩ => ⟨S4224x4x32, .f32⟩
  | .hbm, ⟨64, _⟩ => ⟨S4224x4x64, .f32⟩
  | .hbm, ⟨65, _⟩ => ⟨S4224x1024, .f32⟩
  | .hbm, ⟨66, _⟩ => ⟨S4224x256, .f32⟩
  | .hbm, ⟨67, _⟩ => ⟨S4224x256, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== Scan.lean ====
abbrev S4224x1024 : Shape := ⟨2, ![4224, 1024]⟩
abbrev S66x8x128x128 : Shape := ⟨4, ![66, 8, 128, 128]⟩
abbrev S64x64 : Shape := ⟨2, ![64, 64]⟩
abbrev S128x128 : Shape := ⟨2, ![128, 128]⟩
abbrev S8x128 : Shape := ⟨2, ![8, 128]⟩
abbrev S64x1024 : Shape := ⟨2, ![64, 1024]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S64x128 : Shape := ⟨2, ![64, 128]⟩
abbrev S1x128 : Shape := ⟨2, ![1, 128]⟩
abbrev S256x128 : Shape := ⟨2, ![256, 128]⟩
abbrev S256x256 : Shape := ⟨2, ![256, 256]⟩
abbrev S128x256 : Shape := ⟨2, ![128, 256]⟩
abbrev S1x128x128 : Shape := ⟨3, ![1, 128, 128]⟩
abbrev S128 : Shape := ⟨1, ![128]⟩

abbrev nBuf : Space → Nat
  | .hbm => 24
  | .vmem => 44
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S66x8x128x128, .f32⟩
  | .hbm, ⟨7, _⟩ => ⟨S66x8x128x128, .f32⟩
  | .hbm, ⟨8, _⟩ => ⟨S66x8x128x128, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S4224x1024, .f32⟩
  | .hbm, ⟨13, _⟩ => ⟨S64x64, .bf16⟩
  | .hbm, ⟨14, _⟩ => ⟨S128x128, .f32⟩
  | .hbm, ⟨15, _⟩ => ⟨S128x128, .f32⟩
  | .hbm, ⟨16, _⟩ => ⟨S8x128, .f32⟩
  | .hbm, ⟨17, _⟩ => ⟨S128x128, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .local _ .vmem, ⟨0, _⟩ => ⟨S64x64, .bf16⟩
  | .local _ .vmem, ⟨1, _⟩ => ⟨S128x128, .f32⟩
  | .local _ .vmem, ⟨2, _⟩ => ⟨S128x128, .f32⟩
  | .local _ .vmem, ⟨3, _⟩ => ⟨S8x128, .f32⟩
  | .local _ .vmem, ⟨4, _⟩ => ⟨S128x128, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S1x8x128x128, .f32⟩
  | .local _ .vmem, ⟨18, _⟩ => ⟨S1x8x128x128, .f32⟩
  | .local _ .vmem, ⟨19, _⟩ => ⟨S1x8x128x128, .f32⟩
  | .local _ .vmem, ⟨20, _⟩ => ⟨S1x8x128x128, .f32⟩
  | .local _ .vmem, ⟨21, _⟩ => ⟨S1x8x128x128, .f32⟩
  | .local _ .vmem, ⟨22, _⟩ => ⟨S1x8x128x128, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S8x128x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_cst_3 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev main_v0_5 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_scratch0 : Ref sig .tc := ⟨.vmem, 43, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42

abbrev nD : Nat := 1
abbrev τ : Topo := Topo.v7x

variable {F : FTy → Type} [FloatOps F]

abbrev grid0 : Pipeline.Grid := ⟨2, ![1, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_11 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_17 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_18 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_19 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_20 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_21 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_22 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_23 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

abbrev stage0_0 : Fin 1 → Memref sig .tc .vmem S64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Proof.LossKernel.lean ====
module

public import proofs.«01_k».proof.Proof.Gen.LossIdeal.Value
public import Idealize.ShloMosaic.Lib.Pipeline.ValueKit.Point

@[expose] public section

set_option maxRecDepth 16384

noncomputable section

namespace Cert.Proof.Loss

open Cert.LossIdeal Cert.LossIdeal.Gen Idealize.ShloMosaic Idealize.ShloMosaic.TcCoe Idealize.SL.Sem

variable (m : (ℓ : Loc nD τ sig) → Buf (Elt Ideal) ℓ) (ρ : Dev nD → PrngReg)

/-- The error of one element: the hidden state less the target on a token row, zero on the 128 rows before the tokens. -/
def err (h : Vec Ideal S4224x1024 .f32) (g : Vec Ideal S4096x1024 .f32) (R : Fin 4224) (l : Fin 1024) : EReal :=
  if hR : R.val < 128 then 0 else h (ix2 R l) - g (ix2 ⟨R.val - 128, by omega⟩ l)

/-- The row mask the body computes from its tile number. -/
theorem mask_word : ∀ (a : Fin 11) (r : Fin 384),
    IntOp.cmpi CmpIPredicate.sge (IntOp.addi (Scalar.muli (BitVec.ofNat 32 a.val) 384#32) (BitVec.ofNat 32 r.val)) 128#32
      = if 384 * a.val + r.val < 128 then 0#1 else 1#1 := by decide +kernel

theorem coord1 : ∀ t : Fin cfg0.N, (grid0.coords t 1).val = t.val := (by decide +kernel : ∀ t : Fin grid0.N, _)
theorem idx0 : ∀ t : Fin cfg0.N, win0_0.index t = ![t.val, 0] := (by decide +kernel : ∀ t : Fin grid0.N, _)
theorem idx1 : ∀ t : Fin cfg0.N, win0_1.index t = ![3 * t.val - 1, 0] := (by decide +kernel : ∀ t : Fin grid0.N, _)
theorem idx2 : ∀ t : Fin cfg0.N, win0_2.index t = ![3 * t.val, 0] := (by decide +kernel : ∀ t : Fin grid0.N, _)
theorem idx3 : ∀ t : Fin cfg0.N, win0_3.index t = ![3 * t.val + 1, 0] := (by decide +kernel : ∀ t : Fin grid0.N, _)
theorem idx4 : ∀ t : Fin cfg0.N, win0_4.index t = ![t.val, 0] := (by decide +kernel : ∀ t : Fin grid0.N, _)

theorem lt11 (t : Fin cfg0.N) : t.val < 11 := lt_of_lt_of_eq t.isLt (show cfg0.N = 11 from N_0)

/-- The arguments of device `c`. -/
abbrev argH (c : Dev nD) : Vec Ideal S4224x1024 .f32 := m ((c : Thread nD τ).loc main_arg0)
abbrev argT (c : Dev nD) : Vec Ideal S4096x1024 .f32 := m ((c : Thread nD τ).loc main_arg1)

/-- One tile's masked error is the error of its rows. -/
theorem err_block (c : Dev nD) (t : Fin cfg0.N) (r : Fin 384) (l : Fin 1024) :
    k0_pay2 (grid0.coords t) (iblk m c 0 t) (iblk m c 1 t) (iblk m c 2 t) (iblk m c 3 t) (ix2 r l)
      = err (argH m c) (argT m c) ⟨384 * t.val + r.val, by have := lt11 t; omega⟩ l := by
  have ht := lt11 t
  pointwise [k0_pay2]
  rw [coord1 t, mask_word ⟨t.val, ht⟩ r]
  unfold err
  by_cases h : 384 * t.val + r.val < 128
  · simp only [h, if_true, dif_pos]
    rw [show FloatOps.sitofp (F := Ideal) FTy.f32 (BitVec.setWidth 32 0#1) = (0 : EReal) by
      show (((BitVec.setWidth 32 0#1).toInt : ℝ) : EReal) = 0
      simp]
    exact mul_zero _
  · simp only [h, if_false, dif_neg, not_false_iff]
    rw [show FloatOps.sitofp (F := Ideal) FTy.f32 (BitVec.setWidth 32 1#1) = (1 : EReal) by
      show (((BitVec.setWidth 32 1#1).toInt : ℝ) : EReal) = 1
      simp]
    rw [mul_one]
    congr 1
    · blk_ext! [iblk, V, idx0 t]
    · blk_ext! [iblk, V, idx1 t, idx2 t, idx3 t]

/-- The gradient of the loss: the error over the model width. -/
def dloss (h : Vec Ideal S4224x1024 .f32) (g : Vec Ideal S4096x1024 .f32) : Vec Ideal S4224x1024 .f32 :=
  fun i => err h g (i 0) (i 1) * ((1 / 1024 : ℝ) : EReal)

theorem inv1024 : Ideal.ofBits FTy.f32 0x3A800000#32 = ((1 / 1024 : ℝ) : EReal) := by
  simp [Ideal.ofBits, Ideal.ieee, -EReal.coe_mul]; norm_num

theorem pay3_eq (c : Dev nD) (t : Fin cfg0.N) (r : Fin 384) (l : Fin 1024) :
    k0_pay3 (grid0.coords t) (iblk m c 0 t) (iblk m c 1 t) (iblk m c 2 t) (iblk m c 3 t) (ix2 r l)
      = err (argH m c) (argT m c) ⟨384 * t.val + r.val, by have := lt11 t; omega⟩ l * ((1 / 1024 : ℝ) : EReal) := by
  rw [← err_block, ← inv1024]
  rfl

/-- The first result holds the gradient. -/
theorem final4 (c : Dev nD) : (dats m 0 c).arrAt 4 cfg0.N = dloss (argH m c) (argT m c) := by
  refine (dats m 0 c).arrAt_eq_of_covers 4 _ (by decide +kernel) fun t hf y => ?_
  blk_simp
  have key : k0_pay3 (grid0.coords t) (iblk m c 0 t) (iblk m c 1 t) (iblk m c 2 t) (iblk m c 3 t) y =
      dloss (argH m c) (argT m c) (((View.whole main_v0_0).slice (win0_4.rect t)).emb y) := by
    obtain ⟨r, l, rfl⟩ : ∃ (r : Fin 384) (l : Fin 1024), y = ix2 r l := ⟨_, _, eq_ix2 y⟩
    rw [pay3_eq]
    unfold dloss
    congr 2 <;> apply Fin.ext <;> blk_simp [idx4 t] <;> simp only [ix2_0, ix2_1] <;> omega
  rw [after0_4]
  by_cases h : t.val = 0
  · rw [outsAt0_A m c t (by omega) (by omega)]
    frame_out
    exact key
  · rw [outsAt0_B m c t (by have := lt11 t; omega) (by omega)]
    frame_out
    exact key

/-- A real factor that is not negative goes into a sum. -/
theorem sum_mul_coe {ι : Type*} (s : Finset ι) (f : ι → EReal) {a : ℝ} (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (EReal.coe_nonneg.mpr ha) (EReal.coe_ne_top a)]

/-- The loss: half of the squared errors' sum over the model width. -/
def lossOf (h : Vec Ideal S4224x1024 .f32) (g : Vec Ideal S4096x1024 .f32) : EReal :=
  (∑ R : Fin 4224, ∑ l : Fin 1024, err h g R l * err h g R l) * ((1 / 2048 : ℝ) : EReal)

theorem half : Ideal.ofBits FTy.f32 1056964608#32 = ((1 / 2 : ℝ) : EReal) := by
  simp [Ideal.ofBits, Ideal.ieee, -EReal.coe_mul]; norm_num
theorem lit1024 : Ideal.ofBits FTy.f32 1149239296#32 = ((1024 : ℝ) : EReal) := by
  simp [Ideal.ofBits, Ideal.ieee, -EReal.coe_mul]; norm_num

/-- What one tile adds to the loss. -/
theorem pay4_eq (c : Dev nD) (t : Fin cfg0.N) (j : S8x128.Idx) :
    k0_pay4 (grid0.coords t) (iblk m c 0 t) (iblk m c 1 t) (iblk m c 2 t) (iblk m c 3 t) j
      = (∑ r : Fin 384, ∑ l : Fin 1024, err (argH m c) (argT m c) ⟨384 * t.val + r.val, by have := lt11 t; omega⟩ l
          * err (argH m c) (argT m c) ⟨384 * t.val + r.val, by have := lt11 t; omega⟩ l) * ((1 / 2048 : ℝ) : EReal) := by
  pointwise [k0_pay4]
  rw [half, lit1024, Ideal.div_coe (by norm_num), mul_comm ((1 / 2 : ℝ) : EReal), mul_assoc, ← EReal.coe_mul]
  congr 1
  · exact Finset.sum_congr rfl fun r _ => Finset.sum_congr rfl fun l _ => by rw [err_block]
  · norm_num

/-- The accumulator after the last tile is the sum of what the tiles add. -/
theorem acc_last (c : Dev nD) (j : S8x128.Idx) :
    (outsAt0 m c t0_10.val t0_10.isLt).2 j = ∑ t : Fin cfg0.N,
      (∑ r : Fin 384, ∑ l : Fin 1024, err (argH m c) (argT m c) ⟨384 * t.val + r.val, by have := lt11 t; omega⟩ l
          * err (argH m c) (argT m c) ⟨384 * t.val + r.val, by have := lt11 t; omega⟩ l) * ((1 / 2048 : ℝ) : EReal) := by
  rw [Pipeline.eq_sum_fin_of_reset_step_apply_last (fun n h => (outsAt0 m c n h).2) 11 (fun _ => 0) _
    (fun t h j => by rw [outsAt0_A m c t h (by have := lt11 t; omega)]; frame_out; rw [pay4_eq, zero_add])
    (fun t h j => by
      rw [outsAt0_B m c t h (by omega)]; frame_out; show _ + k0_pay4 _ _ _ _ _ _ = _; rw [pay4_eq, shapeCast_self])
    (le_of_eq N_0) t0_10 N_0.symm j, zero_add]

/-- Eleven tiles of 384 rows are the 4224 rows. -/
theorem sum_rows {N : ℕ} (hN : N = 11) (f : Fin 4224 → EReal) :
    ∑ t : Fin N, ∑ r : Fin 384, f ⟨384 * t.val + r.val, by omega⟩ = ∑ R : Fin 4224, f R := by
  subst hN
  refine Fin.sum_mul_add_congr fun s k hl => congrArg f (Fin.ext ?_)
  show 384 * s.val + k.val = s.val * 384 + k.val
  omega

/-- The tiles' sums are the sum over all rows. -/
theorem sum_tiles (c : Dev nD) : ∑ t : Fin cfg0.N,
      (∑ r : Fin 384, ∑ l : Fin 1024, err (argH m c) (argT m c) ⟨384 * t.val + r.val, by have := lt11 t; omega⟩ l
          * err (argH m c) (argT m c) ⟨384 * t.val + r.val, by have := lt11 t; omega⟩ l) * ((1 / 2048 : ℝ) : EReal)
    = lossOf (argH m c) (argT m c) := by
  have hs := sum_rows (N := cfg0.N) N_0 fun R => ∑ l : Fin 1024, err (argH m c) (argT m c) R l * err (argH m c) (argT m c) R l
  unfold lossOf
  rw [sum_mul_coe _ _ (by norm_num), hs]

theorem whole5 : (cfg0.win 5).WholeAt t0_10 := by decide +kernel

/-- The second result holds the loss, in every element. -/
theorem final5 (c : Dev nD) : (dats m 0 c).arrAt 5 cfg0.N = fun _ => lossOf (argH m c) (argT m c) := by
  refine (dats m 0 c).arrAt_eq_of_after_last 5 t0_10 whole5 _ fun j => ?_
  rw [after0_5]
  blk_simp
  exact (acc_last m c j).trans (sum_tiles m c)

end Cert.Proof.Loss
end
-- ==== Proof.LossReference.lean ====
module

public import proofs.«01_k».proof.Proof.LossKernel
public import proofs.«01_k».proof.Proof.Gen.LossRefIdeal.Read

@[expose] public section

noncomputable section

namespace Cert.Proof.Loss

open Cert.LossRefIdeal Cert.LossRefIdeal.Gen Cert.LossRefIdeal.Read Idealize.ShloMosaic Idealize.ShloMosaic.TcCoe

variable (h : Vec Ideal S4224x1024 .f32) (g : Vec Ideal S4096x1024 .f32)

theorem lit2 : Ideal.ofBits FTy.f32 0x40000000#32 = ((2 : ℝ) : EReal) := by
  simp [Ideal.ofBits, Ideal.ieee, -EReal.coe_mul]; norm_num
theorem lit1 : Ideal.ofBits FTy.f32 0x3F800000#32 = ((1 : ℝ) : EReal) := by
  simp [Ideal.ofBits, Ideal.ieee, -EReal.coe_mul]; norm_num

/-- The reference's gradient is the error over the width, zero on the rows before the tokens. -/
theorem ref_grad : val_main_v16 (F := Ideal) h g = dloss h g := by
  funext j
  obtain ⟨R, l, rfl⟩ : ∃ (R : Fin 4224) (l : Fin 1024), j = ix2 R l := ⟨_, _, eq_ix2 j⟩
  unfold dloss
  pointwise [val_main_v16, val_main_v15, val_main_v14, val_main_v13, val_main_v12, val_main_v11, val_main_v10,
    val_main_cst_4, val_main_cst_5, val_main_cst_6, val_main_cst_7, val_main_v4, val_main_v3, val_main_cst, val_main_v1, val_main_v0]
  unfold err
  by_cases hR : R.val < 128
  · rw [dif_neg (by omega), dif_pos hR, zero_mul]
  · rw [dif_pos (by omega), dif_neg hR, half, lit1024, lit2, Ideal.div_coe (by norm_num), ← mul_assoc, ← EReal.coe_mul,
      ← EReal.coe_mul, mul_comm]
    have e : (⟨128 + (R.val - 128), by omega⟩ : Fin 4224) = R := Fin.ext (by simp only; omega)
    rw [e]
    congr 2
    norm_num

/-- The sum over all rows is the sum over the token rows: the error is zero before them. -/
theorem sum_token_rows : ∑ R : Fin 4224, ∑ l : Fin 1024, err h g R l * err h g R l
    = ∑ r : Fin 4096, ∑ l : Fin 1024, (h (ix2 ⟨128 + r.val, by omega⟩ l) - g (ix2 r l)) * (h (ix2 ⟨128 + r.val, by omega⟩ l) - g (ix2 r l)) := by
  rw [Fin.sum_univ_add (a := 128) (b := 4096) (f := fun R : Fin 4224 => ∑ l : Fin 1024, err h g R l * err h g R l)]
  rw [Finset.sum_eq_zero (fun r _ => Finset.sum_eq_zero fun l _ => by
    unfold err; rw [dif_pos (by show r.val < 128; omega), zero_mul]), zero_add]
  refine Finset.sum_congr rfl fun r _ => Finset.sum_congr rfl fun l _ => ?_
  have e : err h g (Fin.natAdd 128 r) l = h (ix2 ⟨128 + r.val, by omega⟩ l) - g (ix2 r l) := by
    unfold err
    rw [dif_neg (by show ¬128 + r.val < 128; omega)]
    refine congrArg (fun k => h (ix2 ⟨128 + r.val, by omega⟩ l) - g (ix2 k l)) (Fin.ext ?_)
    show 128 + r.val - 128 = r.val
    omega
  rw [e]

/-- The reference's loss, in every element of its result. -/
theorem ref_loss : val_main_v17 (F := Ideal) h g = fun _ => lossOf h g := by
  funext j
  unfold lossOf
  rw [sum_token_rows]
  pointwise [val_main_v17, val_main_v9, val_main_v8, val_main_v7, val_main_v6, val_main_v5, val_main_v2, val_main_v1, val_main_v0,
    val_main_cst_0, val_main_cst_1, val_main_cst_2, val_main_cst_3]
  rw [Finset.sum_congr rfl fun r _ => by rw [lit1024, Ideal.div_coe (by norm_num)], half, sum_mul_coe _ _ (by norm_num),
    mul_comm, mul_assoc, ← EReal.coe_mul]
  congr 2
  norm_num

end Cert.Proof.Loss
end
-- ==== Proof.LossClaims.lean ====
module

public import proofs.«01_k».proof.Defs
public import proofs.«01_k».proof.Proof.LossReference
public import proofs.«01_k».proof.Proof.Gen.Loss.Frame
public import proofs.«01_k».proof.Proof.Gen.LossRefIdeal

@[expose] public section

noncomputable section

namespace Cert.Proof.Loss

open Idealize.ShloMosaic Idealize.SL.Sem

/-- The call, run on any values: it ends without fault, its argument arrays and its counters as they were. -/
theorem frame_kernel : Cert.quiescent_Loss := fun m ρ _ => Cert.Loss.Gen.frame m ρ

theorem frame_ideal : Cert.quiescent_LossIdeal := fun m ρ _ => Cert.LossIdeal.Gen.frame m ρ

theorem frame_reference : Cert.quiescent_LossRefIdeal := fun m ρ _ =>
  (θ_run _ _ _).mono (fun r h => ⟨fun c => (h c).2.2, sem_eq_zero_of_no_sems (by decide) r.2⟩) (Cert.LossRefIdeal.Value.run m ρ)

/-- Call and reference leave the same gradient and the same loss. -/
theorem values : Cert.algebraic_LossIdeal_LossRefIdeal := fun m ρ m' ρ' _ hag =>
  ⟨fun c => dloss (argH m c) (argT m c), fun c => fun _ => lossOf (argH m c) (argT m c),
    (θ_run _ _ _).mono (fun _ h c => ⟨(h c).1.trans (final4 m c), (h c).2.1.trans (final5 m c), (h c).2.2⟩)
      (Cert.LossIdeal.Value.run_blocks m ρ),
    (θ_run _ _ _).mono (fun _ h c => ⟨(h c).1.trans (by
        rw [Cert.LossRefIdeal.Read.val_main_v16_eq, ref_grad, (hag c).1, (hag c).2]),
        (h c).2.1.trans (by rw [Cert.LossRefIdeal.Read.val_main_v17_eq, ref_loss, (hag c).1, (hag c).2]; rfl), (h c).2.2⟩)
      (Cert.LossRefIdeal.Value.run m' ρ')⟩

end Cert.Proof.Loss
end
-- ==== Proof.SwaHost.lean ====
module

public import proofs.«01_k».proof.Proof.Gen.KernelIdeal.Frame.Runs
public import proofs.«01_k».proof.Proof.Gen.ReferenceIdeal.Read
public import Idealize.ShloMosaic.Lib.Claim
public import Idealize.ShloMosaic.Lib.Tactic
public import Idealize.ShloMosaic.Lib.Pointwise

@[expose] public section
set_option maxRecDepth 16384
noncomputable section
namespace Cert.Proof.Swa
open Cert.KernelIdeal Cert.KernelIdeal.Gen Idealize.ShloMosaic Idealize.ShloMosaic.TcCoe Idealize.SL.Sem

open StableHlo in
theorem host_scores (W : Valuation τ sig (Elt Ideal)) :
    after hostOps0 W (Proc.devRef .tc main_v51) = Cert.ReferenceIdeal.Read.val_main_v66 (F := Ideal) (W (Proc.devRef .tc main_arg0)) (W (Proc.devRef .tc main_arg1)) := by
  simp only [hostOps0]
  after_results_simp
  rfl
open StableHlo in
theorem host_mask (W : Valuation τ sig (Elt Ideal)) :
    after hostOps0 W (Proc.devRef .tc main_v52) = Cert.ReferenceIdeal.Read.val_main_v67 (F := Ideal) := by
  simp only [hostOps0]
  after_results_simp
  rfl
open StableHlo in
theorem host_masked (W : Valuation τ sig (Elt Ideal)) :
    after hostOps0_1 (after hostOps0 W) (Proc.devRef .tc main_v53) = Cert.ReferenceIdeal.Read.val_main_v68_0 (F := Ideal) (W (Proc.devRef .tc main_arg0)) (W (Proc.devRef .tc main_arg1)) := by
  have e1 := host_scores W
  have e2 := host_mask W
  have e3 : after hostOps0 W (Proc.devRef .tc main_cst_8) = (constant (F := Ideal) S_ .f32 0xFF800000#32 : (⟨S_, .f32⟩ : BufTy).Contents (Elt Ideal)) := by
    simp only [hostOps0]
    after_results_simp
  generalize after hostOps0 W = W' at e1 e2 e3
  simp only [hostOps0_1]
  after_results_simp
  rw [e1, e2, e3]
  rfl
open StableHlo in
theorem host_probs (W : Valuation τ sig (Elt Ideal)) (q k s) (e : W (Proc.devRef .tc main_v53) = Cert.ReferenceIdeal.Read.val_main_v68_0 (F := Ideal) q k)
    (es : W (Proc.devRef .tc main_arg3) = s) :
    after hostOps0_2 W (Proc.devRef .tc main_v71) = Cert.ReferenceIdeal.Read.val_main_v109 (F := Ideal) q k s := by
  simp only [hostOps0_2]
  after_results_simp
  rw [e, es]
  rfl
open StableHlo in
theorem host_psink (W : Valuation τ sig (Elt Ideal)) (q k s) (e : W (Proc.devRef .tc main_v53) = Cert.ReferenceIdeal.Read.val_main_v68_0 (F := Ideal) q k)
    (es : W (Proc.devRef .tc main_arg3) = s) :
    after hostOps0_2 W (Proc.devRef .tc main_v75) = Cert.ReferenceIdeal.Read.val_main_v116 (F := Ideal) q k s := by
  simp only [hostOps0_2]
  after_results_simp
  rw [e, es]
  rfl

variable (m : (ℓ : Loc nD τ sig) → Buf (Elt Ideal) ℓ) (c : Dev nD)

/-- The arguments of device `c`. -/
abbrev argQ : Vec Ideal S4224x1024 .f32 := m ((c : Thread nD τ).loc main_arg0)
abbrev argK : Vec Ideal S4224x256 .f32 := m ((c : Thread nD τ).loc main_arg1)
abbrev argV : Vec Ideal S4224x256 .f32 := m ((c : Thread nD τ).loc main_arg2)
abbrev argS : Vec Ideal S1x16 .f32 := m ((c : Thread nD τ).loc main_arg3)
abbrev argD : Vec Ideal S4224x1024 .f32 := m ((c : Thread nD τ).loc main_arg4)

/-- What the region finds: the probabilities, the sinks' probabilities, the spread matrices. -/
abbrev entP : Vec Ideal S33x4x512x256 .bf16 := V m c main_v77
abbrev entS : Vec Ideal S33x512x128 .f32 := V m c main_v81
abbrev entR : Vec Ideal S4x256x256 .bf16 := V m c main_v92

theorem V_split (r : Ref sig .tc) : V m c r = StableHlo.after hostOps0_4 (StableHlo.after hostOps0_3 (StableHlo.after hostOps0_2 (StableHlo.after hostOps0_1 (StableHlo.after hostOps0 (fun b => m (c, b)))))) (Proc.devRef .tc r) := by
  show StableHlo.after (List.flatten [hostOps0, hostOps0_1, hostOps0_2, hostOps0_3, hostOps0_4]) (fun b => m (c, b)) (Proc.devRef .tc r) = _
  rw [List.flatten_cons, List.flatten_cons, List.flatten_cons, List.flatten_cons, List.flatten_cons, List.flatten_nil, List.append_nil,
    StableHlo.after_append, StableHlo.after_append, StableHlo.after_append, StableHlo.after_append]

theorem masked_entry : StableHlo.after hostOps0_1 (StableHlo.after hostOps0 (fun b => m (c, b))) (Proc.devRef .tc main_v53)
    = Cert.ReferenceIdeal.Read.val_main_v68_0 (F := Ideal) (argQ m c) (argK m c) := host_masked _
theorem sinks_entry : StableHlo.after hostOps0_1 (StableHlo.after hostOps0 (fun b => m (c, b))) (Proc.devRef .tc main_arg3) = argS m c := by
  simp only [hostOps0, hostOps0_1]; after_results_simp

theorem entP_eq : entP m c = truncf (F := Ideal) .bf16 (shapeCast S33x4x512x256 (Cert.ReferenceIdeal.Read.val_main_v109 (F := Ideal) (argQ m c) (argK m c) (argS m c)) shapeCasts_S33x4x4x128x256_S33x4x512x256) bitsLt_bf16_f32 := by
  rw [← host_probs _ _ _ _ (masked_entry m c) (sinks_entry m c)]
  refine (V_split m c main_v77).trans ?_
  generalize StableHlo.after hostOps0_1 (StableHlo.after hostOps0 (fun b => m (c, b))) = W
  simp only [hostOps0_2, hostOps0_3, hostOps0_4]
  after_results_simp
  rfl

theorem entS_eq : entS m c = shapeCast S33x512x128 (broadcastInDim S33x512x4x32 ![0, 1, 2] bcast_S33x512x4_S33x512x4x32_0_1_2 (shapeCast S33x512x4
    (transpose S33x4x128x4 [0, 2, 3, 1] (Cert.ReferenceIdeal.Read.val_main_v116 (F := Ideal) (argQ m c) (argK m c) (argS m c)) transposes_S33x4x4x128_S33x4x128x4_0_2_3_1)
      shapeCasts_S33x4x128x4_S33x512x4)) shapeCasts_S33x512x4x32_S33x512x128 := by
  rw [← host_psink _ _ _ _ (masked_entry m c) (sinks_entry m c)]
  refine (V_split m c main_v81).trans ?_
  generalize StableHlo.after hostOps0_1 (StableHlo.after hostOps0 (fun b => m (c, b))) = W
  simp only [hostOps0_2, hostOps0_3, hostOps0_4]
  after_results_simp
  rfl

/-- The spread matrices are zeros and ones: a one where the row is channel `column % 64` of the head. -/
theorem entR_eq : entR m c = truncf (F := Ideal) .bf16 (select
    (cmpi .eq (iotaInDim S4x256x256 32 1) (addi (muli (iotaInDim S4x256x256 32 0) (broadcastInDim S4x256x256 ![] bcast_S_S4x256x256 (constantI S_ 32 64#32)))
      (Host.remsi (iotaInDim S4x256x256 32 2) (broadcastInDim S4x256x256 ![] bcast_S_S4x256x256 (constantI S_ 32 64#32)))))
    (broadcastInDim S4x256x256 ![] bcast_S_S4x256x256 (constant S_ .f32 0x3F800000#32)) (broadcastInDim S4x256x256 ![] bcast_S_S4x256x256 (constant S_ .f32 0x00000000#32))) bitsLt_bf16_f32 := by
  refine (V_split m c main_v92).trans ?_
  generalize StableHlo.after hostOps0_1 (StableHlo.after hostOps0 (fun b => m (c, b))) = W
  simp only [hostOps0_2, hostOps0_3, hostOps0_4]
  after_results_simp
  rfl

theorem entP_at (n : Fin 33) (h g : Fin 4) (r : Fin 128) (j : Fin 256) :
    entP m c (ix4 n h ⟨g.val * 128 + r.val, by omega⟩ j)
      = Cert.ReferenceIdeal.Read.val_main_v109 (F := Ideal) (argQ m c) (argK m c) (argS m c) (ix5 n h g r j) := by
  rw [entP_eq]
  generalize Cert.ReferenceIdeal.Read.val_main_v109 (F := Ideal) (argQ m c) (argK m c) (argS m c) = P
  pointwise []

theorem entS_at (n : Fin 33) (h g : Fin 4) (r : Fin 128) :
    entS m c (ix3 n ⟨g.val * 128 + r.val, by omega⟩ ⟨h.val * 32, by omega⟩)
      = Cert.ReferenceIdeal.Read.val_main_v116 (F := Ideal) (argQ m c) (argK m c) (argS m c) (ix4 n h g r) := by
  rw [entS_eq]
  generalize Cert.ReferenceIdeal.Read.val_main_v116 (F := Ideal) (argQ m c) (argK m c) (argS m c) = P
  pointwise []

theorem spread_row : ∀ b : Fin 256, IntOp.remsi .host (BitVec.ofNat 32 b.val) 64#32 = BitVec.ofNat 32 (b.val % 64) := by decide +kernel

theorem spread_cond : ∀ (h : Fin 4) (a : Fin 256) (x : Fin 64), IntOp.cmpi .eq (BitVec.ofNat 32 a.val) (IntOp.addi (IntOp.muli (BitVec.ofNat 32 h.val) 64#32) (BitVec.ofNat 32 x.val))
    = if a.val = 64 * h.val + x.val then 1#1 else 0#1 := by decide +kernel

theorem one_word : (FloatOps.ofBits (F := Ideal) .f32 0x3F800000#32 : Elt Ideal .f32) = 1 := by
  simp [FloatOps.ofBits, Ideal.ofBits, Ideal.ieee, -EReal.coe_mul]
  norm_num

theorem zero_word : (FloatOps.ofBits (F := Ideal) .f32 0x00000000#32 : Elt Ideal .f32) = 0 := by
  simp [FloatOps.ofBits, Ideal.ofBits, Ideal.ieee]

theorem entR_at (h : Fin 4) (a : Fin 256) (b : Fin 256) :
    entR m c (ix3 h a b) = if a.val = 64 * h.val + b.val % 64 then 1 else 0 := by
  rw [entR_eq]
  pointwise []
  rw [spread_row]
  have e := spread_cond h a ⟨b.val % 64, by omega⟩
  simp only [] at e
  rw [e]
  split <;> rfl

end Cert.Proof.Swa
end
-- ==== Proof.SwaRow.lean ====
module

public import Idealize.ShloMosaic.PureOps.Ideal.Laws
public import Idealize.ShloMosaic.Lib.ValueIdx

@[expose] public section

/-! One row of an attention with a sink, over the extended reals: the scores of the row, each real or −∞, and the sink's real score. -/

noncomputable section

namespace Cert.Proof.Swa

open Idealize.ShloMosaic

theorem sum_coe {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

theorem sum_coe_mul {ι : Type} [Fintype ι] (f g : ι → ℝ) : ∑ i, (f i : EReal) * (g i : EReal) = ((∑ i, f i * g i : ℝ) : EReal) := by
  rw [← sum_coe]; simp only [EReal.coe_mul]

theorem div_coe_pos (x : ℝ) {y : ℝ} (hy : 0 < y) : Ideal.div (x : EReal) (y : EReal) = ((x / y : ℝ) : EReal) :=
  by
  rw [Ideal.div_coe hy.ne']; norm_num [div_eq_mul_inv]

/-- The greatest of finitely many extended reals over a nonempty range is one of them. -/
theorem fold_max_mem (s : Fin 256 → EReal) : ∃ j, s j = (Finset.univ : Finset (Fin 256)).fold max ⊥ s := by
  have h : (Finset.univ : Finset (Fin 256)).fold max ⊥ s = Finset.univ.sup s := rfl
  obtain ⟨j, -, hj⟩ := Finset.exists_mem_eq_sup (Finset.univ : Finset (Fin 256)) ⟨0, Finset.mem_univ _⟩ s
  exact ⟨j, by rw [h, hj]⟩

/-- The row's exponentials against its greatest score: all are real, the masked ones are zero, the sink's is positive. -/
theorem row_exp (s : Fin 256 → EReal) (hs : ∀ j, s j = ⊥ ∨ ∃ x : ℝ, s j = (x : EReal)) (t : ℝ) :
    ∃ (e : Fin 256 → ℝ) (es : ℝ), 0 < es ∧ (∀ j, 0 ≤ e j) ∧ (∀ j, s j = ⊥ → e j = 0)
      ∧ (∀ j, Ideal.exp (s j - max ((Finset.univ : Finset (Fin 256)).fold max ⊥ s) (t : EReal)) = (e j : EReal))
      ∧ Ideal.exp ((t : EReal) - max ((Finset.univ : Finset (Fin 256)).fold max ⊥ s) (t : EReal)) = (es : EReal) := by
  obtain ⟨M, hM⟩ : ∃ M : ℝ, max ((Finset.univ : Finset (Fin 256)).fold max ⊥ s) (t : EReal) = (M : EReal) := by
    obtain ⟨j, hj⟩ := fold_max_mem s
    rw [← hj]
    rcases hs j with h | ⟨x, h⟩
    · exact ⟨t, by rw [h]; exact max_eq_right bot_le⟩
    · exact ⟨max x t, by rw [h]; exact (EReal.coe_strictMono.monotone.map_max).symm⟩
  rw [hM]
  refine ⟨fun j => if s j = ⊥ then 0 else Real.exp ((s j).toReal - M), Real.exp (t - M), Real.exp_pos _, fun j => ?_, fun j hj => if_pos hj, fun j => ?_, ?_⟩
  · dsimp only; split
    · exact le_rfl
    · exact (Real.exp_pos _).le
  · dsimp only
    rcases hs j with h | ⟨x, h⟩
    · rw [h, if_pos rfl, EReal.bot_sub, Ideal.exp_bot]; rfl
    · rw [h, if_neg (EReal.coe_ne_bot x), EReal.toReal_coe, ← EReal.coe_sub, Ideal.exp_coe]
  · rw [← EReal.coe_sub, Ideal.exp_coe]

end Cert.Proof.Swa
-- ==== Proof.SwaHead.lean ====
module

public import proofs.«01_k».proof.Proof.SwaRow
public import proofs.«01_k».proof.Proof.Gen.KernelIdeal.Skeleton
public import Idealize.ShloMosaic.Lib.Pointwise
public import Idealize.ShloMosaic.Lib.Pipeline.ValueKit.Acc

@[expose] public section

/-! What the kernel's body computes of one key head, element by element, and the same over real blocks. -/

noncomputable section

namespace Cert.Proof.Swa

open Cert.KernelIdeal Cert.KernelIdeal.Gen Idealize.ShloMosaic Idealize.ShloMosaic.TcCoe

/-! ## The operations -/

/-- The column numbers, and the four masks of the query heads' columns. -/
abbrev cols : IVec S1x256 32 := iota .tc S1x256 32 [1] iota_S1x256_d1_w32
abbrev mask : Fin 4 → FVec Ideal S1x256 .f32
  | 0 => k0_pay9
  | 1 => k0_pay13 cols 64#32 k0_pay10 k0_pay11 k0_pay12
  | 2 => k0_pay15 (k0_pay14 cols)
  | 3 => k0_pay16 cols

/-- The word that says whether column `c` is one of query head `g`, as the body divides. -/
def maskWord (g c : ℕ) : BitVec 1 :=
  IntOp.cmpi .eq
    (Scalar.select
      (IntOp.andi
        (IntOp.cmpi .ne
          (IntOp.subi (BitVec.setWidth 32 (IntOp.cmpi .sgt (BitVec.ofNat 32 c) 0#32)) (BitVec.setWidth 32 (IntOp.cmpi .slt (BitVec.ofNat 32 c) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 c) 64#32) 0#32))
      (IntOp.subi (IntOp.divsi ArithUnit.vector (BitVec.ofNat 32 c) 64#32) 1#32)
      (IntOp.divsi ArithUnit.vector (BitVec.ofNat 32 c) 64#32))
    (BitVec.ofNat 32 g)

theorem maskWord_eq : ∀ (g : Fin 4) (c : Fin 256), maskWord g.val c.val = if c.val / 64 = g.val then 1#1 else 0#1 := by decide +kernel

theorem mask_word_at (g : Fin 4) (c : Fin 256) : mask g (ix2 0 c) = FloatOps.sitofp (F := Ideal) .f32 (BitVec.setWidth 32 (maskWord g.val c.val)) := by
  unfold maskWord
  match g with
  | 0 => unfold mask cols; pointwise [k0_pay9]
  | 1 => unfold mask cols; pointwise [k0_pay13, k0_pay10, k0_pay11, k0_pay12]
  | 2 => unfold mask cols; pointwise [k0_pay14, k0_pay15]
  | 3 => unfold mask cols; pointwise [k0_pay16]

theorem gmask_at (g : Fin 4) (c : Fin 256) : mask g (ix2 0 c) = if c.val / 64 = g.val then 1 else 0 := by
  rw [mask_word_at, maskWord_eq]
  split
  · show (((BitVec.setWidth 32 1#1).toInt : ℝ) : EReal) = 1
    simp
  · show (((BitVec.setWidth 32 0#1).toInt : ℝ) : EReal) = 0
    simp

theorem keys_op (kk : FVec Ideal S256x256 .f32) (rep : Vec Ideal S1x256x256 .bf16) (j c : Fin 256) :
    k0_pay27 kk rep (ix2 j c) = ∑ a : Fin 256, kk (ix2 j a) * rep (ix3 0 a c) := by
  pointwise [k0_pay27]

theorem stack_op (y : Vec Ideal S128x256 .f32) (g : Fin 4) (r : Fin 128) (c : Fin 256) :
    k0_pay43 (mask 0) (mask 1) (mask 2) (mask 3) y y y y (ix2 ⟨g.val * 128 + r.val, by omega⟩ c) = y (ix2 r c) * mask g (ix2 0 c) := by
  generalize mask = m
  pointwise [k0_pay43]
  match g with
  | ⟨0, _⟩ => rw [dif_pos (show 0 * 128 + r.val < 128 by omega)]; congr 3; exact Fin.ext (by dsimp only; omega)
  | ⟨1, _⟩ =>
    rw [dif_neg (show ¬ 1 * 128 + r.val < 128 by omega), dif_pos (show 1 * 128 + r.val - 128 < 128 by omega)]
    congr 3; exact Fin.ext (by dsimp only; omega)
  | ⟨2, _⟩ =>
    rw [dif_neg (show ¬ 2 * 128 + r.val < 128 by omega), dif_neg (show ¬ 2 * 128 + r.val - 128 < 128 by omega),
      dif_pos (show 2 * 128 + r.val - 128 - 128 < 128 by omega)]
    congr 3; exact Fin.ext (by dsimp only; omega)
  | ⟨3, _⟩ =>
    rw [dif_neg (show ¬ 3 * 128 + r.val < 128 by omega), dif_neg (show ¬ 3 * 128 + r.val - 128 < 128 by omega),
      dif_neg (show ¬ 3 * 128 + r.val - 128 - 128 < 128 by omega)]
    congr 3; exact Fin.ext (by dsimp only; omega)

theorem dp_op (vals : FVec Ideal S256x256 .f32) (dos : FVec Ideal S512x256 .f32) (i : Fin 512) (j : Fin 256) :
    k0_pay47 vals dos (ix2 i j) = ∑ c : Fin 256, dos (ix2 i c) * vals (ix2 j c) := by
  pointwise [k0_pay47]

theorem delta_op (vals : FVec Ideal S256x256 .f32) (p dos : FVec Ideal S512x256 .f32) (i : Fin 512) :
    k0_pay51 vals p dos (ix2 i 0) = ∑ j : Fin 256, p (ix2 i j) * k0_pay47 vals dos (ix2 i j) := by
  unfold k0_pay51
  generalize k0_pay47 vals dos = dp
  pointwise []

theorem ds_op (vals : FVec Ideal S256x256 .f32) (p dos : FVec Ideal S512x256 .f32) (i : Fin 512) (j : Fin 256) :
    k0_pay55 vals p dos (ix2 i j)
      = p (ix2 i j) * (k0_pay47 vals dos (ix2 i j) - k0_pay51 vals p dos (ix2 i 0)) * Ideal.ofBits .f32 0x3E000000#32 := by
  unfold k0_pay55
  generalize k0_pay51 vals p dos = de
  generalize k0_pay47 vals dos = dp
  pointwise []

theorem dq_op (keys : FVec Ideal S256x256 .f32) (ds : FVec Ideal S512x256 .f32) (i : Fin 512) (c : Fin 256) :
    k0_pay60 keys ds (ix2 i c) = ∑ j : Fin 256, ds (ix2 i j) * keys (ix2 j c) := by
  pointwise [k0_pay60]

theorem dkeys_op (qs ds : FVec Ideal S512x256 .f32) (j c : Fin 256) :
    k0_pay64 qs ds (ix2 j c) = ∑ i : Fin 512, ds (ix2 i j) * qs (ix2 i c) := by
  pointwise [k0_pay64]

theorem dvals_op (p dos : FVec Ideal S512x256 .f32) (j c : Fin 256) :
    k0_pay68 p dos (ix2 j c) = ∑ i : Fin 512, p (ix2 i j) * dos (ix2 i c) := by
  pointwise [k0_pay68]

theorem back_op (dk : FVec Ideal S256x256 .f32) (rep : Vec Ideal S1x256x256 .bf16) (j a : Fin 256) :
    k0_pay74 dk rep (ix2 j a)
      = ∑ c : Fin 256, dk (ix2 j c) * rep (ix3 0 a c) + ∑ c : Fin 256, (dk (ix2 j c) - dk (ix2 j c)) * rep (ix3 0 a c) := by
  pointwise [k0_pay74]

theorem unstack_op (m0 m1 m2 m3 : FVec Ideal S1x256 .f32) (y : FVec Ideal S512x256 .f32) (r : Fin 128) (c : Fin 256) :
    k0_pay91 m0 m1 m2 m3 y (ix2 r c) = y (ix2 ⟨r.val, by omega⟩ c) * m0 (ix2 0 c) + y (ix2 ⟨128 + r.val, by omega⟩ c) * m1 (ix2 0 c)
      + y (ix2 ⟨256 + r.val, by omega⟩ c) * m2 (ix2 0 c) + y (ix2 ⟨384 + r.val, by omega⟩ c) * m3 (ix2 0 c) := by
  pointwise [k0_pay91]

theorem dsink_op (ps de : FVec Ideal S512x1 .f32) (g : Fin 4) :
    k0_pay105 ps de (ix2 ⟨g.val, by omega⟩ 0)
      = ∑ r : Fin 128, (0 - ps (ix2 ⟨g.val * 128 + r.val, by omega⟩ 0) * de (ix2 ⟨g.val * 128 + r.val, by omega⟩ 0)) := by
  pointwise [k0_pay105]
  match g with
  | ⟨0, _⟩ => rw [dif_pos (show 0 < 1 by omega)]; simp only [Nat.zero_mul, Nat.zero_add]
  | ⟨1, _⟩ => rw [dif_neg (show ¬ 1 < 1 by omega), dif_pos (show 1 - 1 < 1 by omega)]; exact Finset.sum_congr rfl fun r _ => rfl
  | ⟨2, _⟩ => rw [dif_neg (show ¬ 2 < 1 by omega), dif_neg (show ¬ 2 - 1 < 1 by omega), dif_pos (show 2 - 1 - 1 < 1 by omega)]; exact Finset.sum_congr rfl fun r _ => rfl
  | ⟨3, _⟩ =>
    rw [dif_neg (show ¬ 3 < 1 by omega), dif_neg (show ¬ 3 - 1 < 1 by omega), dif_neg (show ¬ 3 - 1 - 1 < 1 by omega),
      dif_pos (show 3 - 1 - 1 - 1 < 1 by omega)]
    exact Finset.sum_congr rfl fun r _ => rfl

/-- The lane of the sinks' block that the body of head `h` reads. -/
abbrev sinkCol : Fin 4 → Vec Ideal S1x512x128 .f32 → FVec Ideal S512x1 .f32
  | 0 => k0_pay39
  | 1 => k0_pay40
  | 2 => k0_pay41
  | 3 => k0_pay42

theorem sink_op (h : Fin 4) (ps : Vec Ideal S1x512x128 .f32) (i : Fin 512) :
    sinkCol h ps (ix2 i 0) = ps (ix3 0 i ⟨h.val * 32, by omega⟩) := by
  have lane : ∀ (h : Fin 4) (l : Fin 128), IntOp.cmpi .eq (BitVec.ofNat 32 l.val) (BitVec.ofNat 32 (h.val * 32)) = if l = ⟨h.val * 32, by omega⟩ then 1#1 else 0#1 := by
    decide +kernel
  have key : sinkCol h ps (ix2 i 0) = ∑ l : Fin 128, Scalar.select (IntOp.cmpi .eq (BitVec.ofNat 32 l.val) (BitVec.ofNat 32 (h.val * 32))) (ps (ix3 0 i l)) 0 := by
    match h with
    | 0 => unfold sinkCol; pointwise [k0_pay39]
    | 1 => unfold sinkCol; pointwise [k0_pay40]
    | 2 => unfold sinkCol; pointwise [k0_pay41]
    | 3 => unfold sinkCol; pointwise [k0_pay42]
  rw [key]
  have e : ∀ l : Fin 128, Scalar.select (IntOp.cmpi .eq (BitVec.ofNat 32 l.val) (BitVec.ofNat 32 (h.val * 32))) (ps (ix3 0 i l)) (0 : EReal)
      = if l = ⟨h.val * 32, by omega⟩ then ps (ix3 0 i l) else 0 := fun l => by
    rw [lane h l]; split <;> rfl
  exact (Finset.sum_congr rfl fun l _ => e l).trans (by rw [Finset.sum_ite_eq' Finset.univ]; simp)

/-! ## Over real blocks -/

theorem sum_heads {M : Type} [AddCommMonoid M] (f : Fin 256 → M) : ∑ c : Fin 256, f c = ∑ g : Fin 4, ∑ x : Fin 64, f ⟨g.val * 64 + x.val, by omega⟩ :=
  (Fin.sum_mul_add_congr (S := 4) (n := 64) fun s k hl => congrArg f (Fin.ext rfl)).symm
theorem sum_stack {M : Type} [AddCommMonoid M] (f : Fin 512 → M) : ∑ c : Fin 512, f c = ∑ g : Fin 4, ∑ r : Fin 128, f ⟨g.val * 128 + r.val, by omega⟩ :=
  (Fin.sum_mul_add_congr (S := 4) (n := 128) fun s k hl => congrArg f (Fin.ext rfl)).symm

/-- The blocks of one key head `h` at one point hold these real numbers: keys, values, spread matrix, probabilities, queries, cotangents. -/
structure HeadReal (h : Fin 4) (kk vv : FVec Ideal S256x256 .f32) (rep : Vec Ideal S1x256x256 .bf16) (p : FVec Ideal S512x256 .f32) (y z : Vec Ideal S128x256 .f32)
    (K V : Fin 256 → Fin 256 → ℝ) (P : Fin 4 → Fin 128 → Fin 256 → ℝ) (Q D : Fin 128 → Fin 256 → ℝ) : Prop where
  keys : ∀ j a, kk (ix2 j a) = (K j a : EReal)
  vals : ∀ j a, vv (ix2 j a) = (V j a : EReal)
  spread : ∀ a (g : Fin 4) (x : Fin 64), rep (ix3 0 a ⟨g.val * 64 + x.val, by omega⟩) = if a = ⟨h.val * 64 + x.val, by omega⟩ then 1 else 0
  probs : ∀ (g : Fin 4) (r : Fin 128) j, p (ix2 ⟨g.val * 128 + r.val, by omega⟩ j) = (P g r j : EReal)
  queries : ∀ r c, y (ix2 r c) = (Q r c : EReal)
  cots : ∀ r c, z (ix2 r c) = (D r c : EReal)

section Head
variable {h : Fin 4} {kk vv : FVec Ideal S256x256 .f32} {rep : Vec Ideal S1x256x256 .bf16} {p : FVec Ideal S512x256 .f32} {y z : Vec Ideal S128x256 .f32}
variable {K V : Fin 256 → Fin 256 → ℝ} {P : Fin 4 → Fin 128 → Fin 256 → ℝ} {Q D : Fin 128 → Fin 256 → ℝ}
variable (H : HeadReal h kk vv rep p y z K V P Q D)
variable (g : Fin 4) (r : Fin 128) (j : Fin 256) (x : Fin 64)

/-- The gradients of the probabilities, their sum with the probabilities, the gradient of the scores. -/
def headDP (h : Fin 4) (V : Fin 256 → Fin 256 → ℝ) (D : Fin 128 → Fin 256 → ℝ) (g : Fin 4) (r : Fin 128) (j : Fin 256) : ℝ :=
  ∑ x : Fin 64, D r ⟨g.val * 64 + x.val, by omega⟩ * V j ⟨h.val * 64 + x.val, by omega⟩
def headDelta (h : Fin 4) (V : Fin 256 → Fin 256 → ℝ) (P : Fin 4 → Fin 128 → Fin 256 → ℝ) (D : Fin 128 → Fin 256 → ℝ) (g : Fin 4) (r : Fin 128) : ℝ :=
  ∑ j : Fin 256, P g r j * headDP h V D g r j
def headDS (h : Fin 4) (V : Fin 256 → Fin 256 → ℝ) (P : Fin 4 → Fin 128 → Fin 256 → ℝ) (D : Fin 128 → Fin 256 → ℝ) (g : Fin 4) (r : Fin 128) (j : Fin 256) : ℝ :=
  P g r j * (headDP h V D g r j - headDelta h V P D g r) * (1 / 8)

/-- The body's stack of masked queries or cotangents. -/
abbrev stacked (y : Vec Ideal S128x256 .f32) : FVec Ideal S512x256 .f32 := k0_pay43 (mask 0) (mask 1) (mask 2) (mask 3) y y y y

theorem stacked_real {y : Vec Ideal S128x256 .f32} {Q : Fin 128 → Fin 256 → ℝ} (hy : ∀ r c, y (ix2 r c) = (Q r c : EReal)) (g g' : Fin 4) (r : Fin 128) (x : Fin 64) :
    stacked y (ix2 ⟨g.val * 128 + r.val, by omega⟩ ⟨g'.val * 64 + x.val, by omega⟩)
      = ((if g' = g then Q r ⟨g'.val * 64 + x.val, by omega⟩ else 0 : ℝ) : EReal) := by
  refine (stack_op y g r _).trans ?_
  rw [gmask_at, hy]
  by_cases e : g' = g
  · subst e
    rw [if_pos (show (g'.val * 64 + x.val) / 64 = g'.val by omega), if_pos rfl, mul_one]
  · rw [if_neg (fun h => e (Fin.ext (by dsimp only at h; omega))), if_neg e, mul_zero, EReal.coe_zero]

theorem spread_sum {rep : Vec Ideal S1x256x256 .bf16} {h : Fin 4}
    (hs : ∀ a (g : Fin 4) (x : Fin 64), rep (ix3 0 a ⟨g.val * 64 + x.val, by omega⟩) = if a = ⟨h.val * 64 + x.val, by omega⟩ then 1 else 0)
    {kk : FVec Ideal S256x256 .f32} {K : Fin 256 → Fin 256 → ℝ} (hk : ∀ j a, kk (ix2 j a) = (K j a : EReal)) (g : Fin 4) (j : Fin 256) (x : Fin 64) :
    k0_pay27 kk rep (ix2 j ⟨g.val * 64 + x.val, by omega⟩) = (K j ⟨h.val * 64 + x.val, by omega⟩ : EReal) := by
  rw [keys_op, ← hk]
  rw [Finset.sum_eq_single ⟨h.val * 64 + x.val, by omega⟩]
  · rw [hs, if_pos rfl, mul_one]
  · intro a _ hne
    rw [hs, if_neg hne, mul_zero]
  · exact fun hn => absurd (Finset.mem_univ _) hn

include H

theorem dp_real' : k0_pay47 (k0_pay27 vv rep) (stacked z) (ix2 ⟨g.val * 128 + r.val, by omega⟩ j) = (headDP h V D g r j : EReal) := by
  rw [dp_op, sum_heads, Finset.sum_eq_single g]
  · unfold headDP
    rw [← sum_coe_mul]
    refine Finset.sum_congr rfl fun x _ => ?_
    rw [stacked_real H.cots, spread_sum H.spread H.vals, if_pos rfl]
  · intro g' _ hne
    refine Finset.sum_eq_zero fun x _ => ?_
    rw [stacked_real H.cots, if_neg hne, EReal.coe_zero, zero_mul]
  · exact fun hn => absurd (Finset.mem_univ _) hn

theorem delta_real : k0_pay51 (k0_pay27 vv rep) p (stacked z) (ix2 ⟨g.val * 128 + r.val, by omega⟩ 0) = (headDelta h V P D g r : EReal) := by
  rw [delta_op]
  unfold headDelta
  rw [← sum_coe_mul]
  exact Finset.sum_congr rfl fun j _ => by rw [H.probs, dp_real' H]

theorem ds_real : k0_pay55 (k0_pay27 vv rep) p (stacked z) (ix2 ⟨g.val * 128 + r.val, by omega⟩ j) = (headDS h V P D g r j : EReal) := by
  have e8 : Ideal.ofBits FTy.f32 0x3E000000#32 = ((1 / 8 : ℝ) : EReal) := by simp [Ideal.ofBits, Ideal.ieee, -EReal.coe_mul]; norm_num
  rw [ds_op, delta_real H, dp_real' H, H.probs, e8, ← EReal.coe_sub, ← EReal.coe_mul, ← EReal.coe_mul]
  rfl

/-- The gradient of the queries. -/
theorem dq_real : k0_pay91 (mask 0) (mask 1) (mask 2) (mask 3) (k0_pay60 (k0_pay27 kk rep) (k0_pay55 (k0_pay27 vv rep) p (stacked z))) (ix2 r ⟨g.val * 64 + x.val, by omega⟩)
    = ((∑ j : Fin 256, headDS h V P D g r j * K j ⟨h.val * 64 + x.val, by omega⟩ : ℝ) : EReal) := by
  have one : ∀ g' : Fin 4, k0_pay60 (k0_pay27 kk rep) (k0_pay55 (k0_pay27 vv rep) p (stacked z)) (ix2 ⟨g'.val * 128 + r.val, by omega⟩ ⟨g.val * 64 + x.val, by omega⟩)
      = ((∑ j : Fin 256, headDS h V P D g' r j * K j ⟨h.val * 64 + x.val, by omega⟩ : ℝ) : EReal) := fun g' => by
    rw [dq_op, ← sum_coe_mul]
    exact Finset.sum_congr rfl fun j _ => by rw [ds_real H, spread_sum H.spread H.keys]
  have rows : ∀ (i : Fin 512) (g' : Fin 4), i.val = g'.val * 128 + r.val →
      k0_pay60 (k0_pay27 kk rep) (k0_pay55 (k0_pay27 vv rep) p (stacked z)) (ix2 i ⟨g.val * 64 + x.val, by omega⟩) * mask g' (ix2 0 ⟨g.val * 64 + x.val, by omega⟩)
      = if g' = g then ((∑ j : Fin 256, headDS h V P D g r j * K j ⟨h.val * 64 + x.val, by omega⟩ : ℝ) : EReal) else 0 := fun i g' hi => by
    have ei : i = ⟨g'.val * 128 + r.val, by omega⟩ := Fin.ext hi
    rw [ei, one g', gmask_at]
    by_cases e : g' = g
    · subst e; rw [if_pos (show (g'.val * 64 + x.val) / 64 = g'.val by omega), if_pos rfl, mul_one]
    · rw [if_neg (fun h => e (Fin.ext (by dsimp only at h; omega))), if_neg e, mul_zero]
  rw [unstack_op, rows ⟨r.val, _⟩ 0 (by simp), rows ⟨128 + r.val, _⟩ 1 (by simp), rows ⟨256 + r.val, _⟩ 2 (by simp), rows ⟨384 + r.val, _⟩ 3 (by simp)]
  match g with
  | 0 => simp
  | 1 => simp
  | 2 => simp
  | 3 => simp

theorem dkeys_real : k0_pay64 (stacked y) (k0_pay55 (k0_pay27 vv rep) p (stacked z)) (ix2 j ⟨g.val * 64 + x.val, by omega⟩)
    = ((∑ r : Fin 128, headDS h V P D g r j * Q r ⟨g.val * 64 + x.val, by omega⟩ : ℝ) : EReal) := by
  rw [dkeys_op, sum_stack, Finset.sum_eq_single g]
  · rw [← sum_coe_mul]
    exact Finset.sum_congr rfl fun r _ => by rw [stacked_real H.queries, ds_real H, if_pos rfl]
  · intro g' _ hne
    refine Finset.sum_eq_zero fun r _ => ?_
    rw [stacked_real H.queries, if_neg (Ne.symm hne), EReal.coe_zero, mul_zero]
  · exact fun hn => absurd (Finset.mem_univ _) hn

theorem dvals_real : k0_pay68 p (stacked z) (ix2 j ⟨g.val * 64 + x.val, by omega⟩)
    = ((∑ r : Fin 128, P g r j * D r ⟨g.val * 64 + x.val, by omega⟩ : ℝ) : EReal) := by
  rw [dvals_op, sum_stack, Finset.sum_eq_single g]
  · rw [← sum_coe_mul]
    exact Finset.sum_congr rfl fun r _ => by rw [stacked_real H.cots, H.probs, if_pos rfl]
  · intro g' _ hne
    refine Finset.sum_eq_zero fun r _ => ?_
    rw [stacked_real H.cots, if_neg (Ne.symm hne), EReal.coe_zero, mul_zero]
  · exact fun hn => absurd (Finset.mem_univ _) hn

omit H in
/-- Spread back, a key's gradients by query heads add up in the key head's columns, and are zero in the others. -/
theorem back_real {dk : FVec Ideal S256x256 .f32} {T : Fin 256 → Fin 4 → Fin 64 → ℝ}
    (hs : ∀ a (g : Fin 4) (x : Fin 64), rep (ix3 0 a ⟨g.val * 64 + x.val, by omega⟩) = if a = ⟨h.val * 64 + x.val, by omega⟩ then 1 else 0)
    (hd : ∀ j (g : Fin 4) (x : Fin 64), dk (ix2 j ⟨g.val * 64 + x.val, by omega⟩) = (T j g x : EReal)) (h' : Fin 4) :
    k0_pay74 dk rep (ix2 j ⟨h'.val * 64 + x.val, by omega⟩) = ((if h' = h then ∑ g : Fin 4, T j g x else 0 : ℝ) : EReal) := by
  rw [back_op, sum_heads, sum_heads]
  have z : ∀ (g : Fin 4) (x' : Fin 64), (dk (ix2 j ⟨g.val * 64 + x'.val, by omega⟩) - dk (ix2 j ⟨g.val * 64 + x'.val, by omega⟩)) * rep (ix3 0 ⟨h'.val * 64 + x.val, by omega⟩ ⟨g.val * 64 + x'.val, by omega⟩) = 0 := fun g x' => by
    rw [hd, ← EReal.coe_sub, sub_self, EReal.coe_zero, zero_mul]
  rw [Finset.sum_eq_zero (fun g _ => Finset.sum_eq_zero fun x' _ => z g x'), add_zero]
  by_cases e : h' = h
  · subst e
    rw [if_pos rfl, ← sum_coe]
    refine Finset.sum_congr rfl fun g _ => ?_
    rw [Finset.sum_eq_single x]
    · rw [hs, if_pos rfl, mul_one, hd]
    · intro x' _ hne
      rw [hs, if_neg (fun hh => hne (Fin.ext (by have := congrArg Fin.val hh; dsimp only at this; omega))), mul_zero]
    · exact fun hn => absurd (Finset.mem_univ _) hn
  · rw [if_neg e, EReal.coe_zero]
    refine Finset.sum_eq_zero fun g _ => Finset.sum_eq_zero fun x' _ => ?_
    rw [hs, if_neg (fun hh => e (Fin.ext (by have := congrArg Fin.val hh; dsimp only at this; omega))), mul_zero]

/-- The gradient of the sinks, of one query head. -/
theorem dsink_real {ps : FVec Ideal S512x1 .f32} {S : Fin 4 → Fin 128 → ℝ} (hp : ∀ (g : Fin 4) (r : Fin 128), ps (ix2 ⟨g.val * 128 + r.val, by omega⟩ 0) = (S g r : EReal)) :
    k0_pay105 ps (k0_pay51 (k0_pay27 vv rep) p (stacked z)) (ix2 ⟨g.val, by omega⟩ 0) = ((∑ r : Fin 128, -(S g r * headDelta h V P D g r) : ℝ) : EReal) := by
  rw [dsink_op, ← sum_coe]
  refine Finset.sum_congr rfl fun r _ => ?_
  rw [hp, delta_real H, ← EReal.coe_mul, zero_sub, EReal.coe_neg]

end Head

end Cert.Proof.Swa
end
-- ==== Proof.SwaRefLayout.lean ====
module

public import proofs.«01_k».proof.Proof.Gen.ReferenceIdeal.Read
public import Idealize.ShloMosaic.Lib.Pointwise
public import Idealize.ShloMosaic.Lib.ValueIdx
public import Idealize.ShloMosaic.Lib.ValueIdxCoords

@[expose] public section

/-! Where the reference's blocks come from: the blocks of queries, of keys and values with the block before, of the cotangent, and the band mask. -/

noncomputable section

namespace Cert.Proof.Swa

open Cert.ReferenceIdeal Cert.ReferenceIdeal.Gen Cert.ReferenceIdeal.Read Idealize.ShloMosaic Idealize.ShloMosaic.TcCoe

variable (q : Vec Ideal S4224x1024 .f32) (k : Vec Ideal S4224x256 .f32) (v : Vec Ideal S4224x256 .f32) (s : Vec Ideal S1x16 .f32) (d : Vec Ideal S4224x1024 .f32)
variable (n : Fin 33) (h g : Fin 4) (r : Fin 128) (j : Fin 256) (x : Fin 64)

/-- A block of keys with the block before it, at a key that is there. -/
theorem key_at (hv : 240 ≤ n.val * 128 + j.val) :
    val_main_v24 (F := Ideal) k (ix4 n j h x) = k (ix2 ⟨n.val * 128 + j.val - 128, by omega⟩ ⟨h.val * 64 + x.val, by omega⟩) := by
  pointwise [val_main_v24, val_main_v22, val_main_v21, val_main_v20, val_main_cst_5, val_main_v19, val_main_v18, val_main_v16, val_main_v15, val_main_cst_3, val_main_v14, val_main_v1]
  split
  · rw [dif_neg (by omega), dif_neg (by omega)]
    congr 2 <;> exact Fin.ext (by dsimp only; omega)
  · rw [dif_neg (by omega)]
    congr 2 <;> exact Fin.ext (by dsimp only; omega)

/-- The same of the values. -/
theorem value_at (hv : 240 ≤ n.val * 128 + j.val) :
    val_main_v13 (F := Ideal) v (ix4 n j h x) = v (ix2 ⟨n.val * 128 + j.val - 128, by omega⟩ ⟨h.val * 64 + x.val, by omega⟩) := by
  pointwise [val_main_v13, val_main_v11, val_main_v10, val_main_v9, val_main_cst_1, val_main_v8, val_main_v7, val_main_v5, val_main_v4, val_main_cst, val_main_v3, val_main_v2]
  split
  · rw [dif_neg (by omega), dif_neg (by omega)]
    congr 2 <;> exact Fin.ext (by dsimp only; omega)
  · rw [dif_neg (by omega)]
    congr 2 <;> exact Fin.ext (by dsimp only; omega)

/-- A value before the sequence is zero. -/
theorem value_pad (hv : n.val * 128 + j.val < 240) :
    val_main_v13 (F := Ideal) v (ix4 n j h x) = (0 : EReal) := by
  pointwise [val_main_v13, val_main_v11, val_main_v10, val_main_v9, val_main_cst_1, val_main_v8, val_main_v7, val_main_v5, val_main_v4, val_main_cst, val_main_v3, val_main_v2]
  split
  · split
    · rfl
    · rw [dif_pos (by omega)]
  · rw [dif_pos (by omega)]

/-- A block of queries: zeros on the rows before the sequence. -/
theorem query_at :
    val_main_v62 (F := Ideal) q (ix5 n r h g x) = if n.val * 128 + r.val < 112 then 0 else q (ix2 ⟨n.val * 128 + r.val, by omega⟩ ⟨(h.val * 4 + g.val) * 64 + x.val, by omega⟩) := by
  pointwise [val_main_v62, val_main_v29, val_main_v27, val_main_v26, val_main_cst_7, val_main_v25, val_main_v0]
  split
  · rfl
  · congr 2 <;> exact Fin.ext (by dsimp only; omega)

/-- A block of the cotangent, with its last axes exchanged. -/
theorem cotangent_at :
    val_main_v127 (F := Ideal) d (ix5 n h x g r) = if n.val * 128 + r.val < 112 then 0 else d (ix2 ⟨n.val * 128 + r.val, by omega⟩ ⟨(h.val * 4 + g.val) * 64 + x.val, by omega⟩) := by
  pointwise [val_main_v127, val_main_v126, val_main_v125, val_main_v124, val_main_cst_27]
  split
  · split
    · omega
    · congr 2 <;> exact Fin.ext (by dsimp only; omega)
  · split
    · rfl
    · omega

theorem window_word : ∀ (r : Fin 128) (j : Fin 256),
    IntOp.andi (IntOp.cmpi CmpIPredicate.sge (IntOp.subi (IntOp.addi 128#32 (BitVec.ofNat 32 r.val)) (BitVec.ofNat 32 j.val)) 0#32)
        (IntOp.cmpi CmpIPredicate.slt (IntOp.subi (IntOp.addi 128#32 (BitVec.ofNat 32 r.val)) (BitVec.ofNat 32 j.val)) 128#32)
      = if j.val ≤ 128 + r.val ∧ r.val < j.val then 1#1 else 0#1 := by decide +kernel

theorem valid_word : ∀ (n : Fin 33) (j : Fin 256),
    IntOp.cmpi CmpIPredicate.sge (IntOp.addi (IntOp.muli (IntOp.subi (BitVec.ofNat 32 n.val) 1#32) 128#32) (BitVec.ofNat 32 j.val)) 112#32
      = if 240 ≤ n.val * 128 + j.val then 1#1 else 0#1 := by decide +kernel

/-- The band mask: a key is seen from its own position for 128 positions, and only where it is a token's. -/
theorem mask_at : val_main_v68_1 (F := Ideal) (ix5 n h g r j) = if j.val ≤ 128 + r.val ∧ r.val < j.val ∧ 240 ≤ n.val * 128 + j.val then 1#1 else 0#1 := by
  pointwise [val_main_v68_1, val_main_v67, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30]
  rw [show val_main_c ix0 = 128#32 from rfl, show val_main_c_9 ix0 = 0#32 from rfl, show val_main_c_10 ix0 = 128#32 from rfl,
    show val_main_c_11 ix0 = 1#32 from rfl, show val_main_c_12 ix0 = 128#32 from rfl, show val_main_c_13 ix0 = 112#32 from rfl]
  rw [window_word r j, valid_word n j]
  by_cases h1 : j.val ≤ 128 + r.val ∧ r.val < j.val <;> by_cases h2 : 240 ≤ n.val * 128 + j.val
  · rw [if_pos h1, if_pos h2, if_pos ⟨h1.1, h1.2, h2⟩]; rfl
  · rw [if_pos h1, if_neg h2, if_neg (by tauto)]; rfl
  · rw [if_neg h1, if_pos h2, if_neg (by tauto)]; rfl
  · rw [if_neg h1, if_neg h2, if_neg (by tauto)]; rfl

/-- A row's greatest score, over its keys. -/
theorem rowmax_at : val_main_v72 (F := Ideal) q k (ix4 n h g r)
    = (Finset.univ : Finset (Fin 256)).fold max ⊥ fun j => val_main_v68_0 (F := Ideal) q k (ix5 n h g r j) := by
  unfold val_main_v72
  generalize val_main_v68_0 (F := Ideal) q k = y
  rw [Host.reduce_eq_fold_single (FloatOps.maximumf (F := Ideal) (φ := .f32)) y _ _ (by decide : S33x4x4x128x256.Reduces [4] S33x4x4x128)]
  have h0 : val_main_cst_16 (F := Ideal) (Shape.Idx.first h_S_) = (⊥ : EReal) := by
    show Ideal.ofBits .f32 0xFF800000#32 = ⊥
    simp [Ideal.ofBits, Ideal.ieee]
  rw [h0]
  show Finset.fold max ⊥ _ _ = _
  congr 1
  funext j
  exact congrArg y (funext fun a => Fin.ext (by
    rw [Shape.Reduces.lift_val]
    match a with
    | ⟨0, _⟩ => rfl
    | ⟨1, _⟩ => rfl
    | ⟨2, _⟩ => rfl
    | ⟨3, _⟩ => rfl
    | ⟨4, _⟩ => rfl))

/-- A score that the mask leaves. -/
theorem score_at : val_main_v68_0 (F := Ideal) q k (ix5 n h g r j)
    = if j.val ≤ 128 + r.val ∧ r.val < j.val ∧ 240 ≤ n.val * 128 + j.val
      then (∑ x : Fin 64, val_main_v24 (F := Ideal) k (ix4 n j h x) * val_main_v62 (F := Ideal) q (ix5 n r h g x)) * Ideal.ofBits .f32 0x3E000000#32 else ⊥ := by
  rw [val_main_v68_0_apply, mask_at]
  pointwise [val_main_v66, val_main_v65, val_main_cst_14, val_main_v64, val_main_v63]
  have hb : val_main_call0_v2 (F := Ideal) (ix5 n h g r j) = (⊥ : EReal) := by
    show Ideal.ofBits .f32 0xFF800000#32 = ⊥
    simp [Ideal.ofBits, Ideal.ieee]
  rw [hb]
  split <;> rfl

end Cert.Proof.Swa
-- ==== Proof.SwaRefRow.lean ====
module

public import proofs.«01_k».proof.Proof.SwaRefLayout
public import proofs.«01_k».proof.Proof.SwaRow
public import Idealize.ShloMosaic.Lib.TwoAxisContraction

@[expose] public section

/-! What the reference computes of one row: the probabilities, and the gradient of the row's scores. -/

noncomputable section

namespace Cert.Proof.Swa

open Cert.ReferenceIdeal Cert.ReferenceIdeal.Gen Cert.ReferenceIdeal.Read Idealize.ShloMosaic Idealize.ShloMosaic.TcCoe

variable (q : Vec Ideal S4224x1024 .f32) (k : Vec Ideal S4224x256 .f32) (v : Vec Ideal S4224x256 .f32) (s : Vec Ideal S1x16 .f32) (d : Vec Ideal S4224x1024 .f32)
variable (n : Fin 33) (h g : Fin 4) (r : Fin 128) (j : Fin 256) (x : Fin 64)

/-- Key `j` of the block pair of block `n` is seen by row `r`. -/
abbrev Vis (n : Fin 33) (r : Fin 128) (j : Fin 256) : Prop := j.val ≤ 128 + r.val ∧ r.val < j.val ∧ 240 ≤ n.val * 128 + j.val

theorem sink_at : val_main_v71 (F := Ideal) s (ix4 0 h g 0) = s (ix2 0 ⟨h.val * 4 + g.val, by omega⟩) := by
  pointwise [val_main_v71, val_main_v70, val_main_v69]

theorem top_at : val_main_v79 (F := Ideal) q k s (ix4 n h g r)
    = max (val_main_v72 (F := Ideal) q k (ix4 n h g r)) (s (ix2 0 ⟨h.val * 4 + g.val, by omega⟩)) := by
  rw [← sink_at s h g, val_main_v79_apply, val_main_v78_apply]
  generalize val_main_v72 (F := Ideal) q k = b
  generalize val_main_v71 (F := Ideal) s = t
  show max _ _ = max _ _
  congr 2
  funext a
  match a with
  | ⟨0, _⟩ => rfl
  | ⟨1, _⟩ => rfl
  | ⟨2, _⟩ => rfl
  | ⟨3, _⟩ => rfl

theorem exp_at : val_main_v101 (F := Ideal) q k s (ix5 n h g r j)
    = Ideal.exp (val_main_v68_0 (F := Ideal) q k (ix5 n h g r j) - val_main_v79 (F := Ideal) q k s (ix4 n h g r)) := by
  unfold val_main_v101 val_main_v100 val_main_v99 val_main_v98
  generalize val_main_v68_0 (F := Ideal) q k = a
  generalize val_main_v79 (F := Ideal) q k s = b
  pointwise []

theorem exp_sink_at : val_main_v105 (F := Ideal) q k s (ix4 n h g r)
    = Ideal.exp (s (ix2 0 ⟨h.val * 4 + g.val, by omega⟩) - val_main_v79 (F := Ideal) q k s (ix4 n h g r)) := by
  unfold val_main_v105 val_main_v104 val_main_v103
  generalize val_main_v79 (F := Ideal) q k s = b
  pointwise [val_main_v71, val_main_v70, val_main_v69]

theorem denom_at : val_main_v106 (F := Ideal) q k s (ix4 n h g r)
    = (0 + ∑ j : Fin 256, val_main_v101 (F := Ideal) q k s (ix5 n h g r j)) + val_main_v105 (F := Ideal) q k s (ix4 n h g r) := by
  pointwise [val_main_v106, val_main_v102, val_main_cst_24]

theorem prob_at : val_main_v109 (F := Ideal) q k s (ix5 n h g r j)
    = Ideal.div (val_main_v101 (F := Ideal) q k s (ix5 n h g r j)) (val_main_v106 (F := Ideal) q k s (ix4 n h g r)) := by
  pointwise [val_main_v109, val_main_v108, val_main_v107]

theorem psink_at : val_main_v116 (F := Ideal) q k s (ix4 n h g r)
    = Ideal.div (val_main_v105 (F := Ideal) q k s (ix4 n h g r)) (val_main_v106 (F := Ideal) q k s (ix4 n h g r)) := by
  pointwise [val_main_v116, val_main_v115, val_main_v114, val_main_v113, val_main_v105, val_main_v104, val_main_v103]

theorem ddenom_at : val_main_v139 (F := Ideal) q k v s d (ix4 n h g r)
    = - ∑ j : Fin 256, (val_main_v128 (F := Ideal) v d (ix5 n h g r j) * Ideal.div 1 (val_main_v106 (F := Ideal) q k s (ix4 n h g r) * val_main_v106 (F := Ideal) q k s (ix4 n h g r))) * val_main_v101 (F := Ideal) q k s (ix5 n h g r j) := by
  pointwise [val_main_v139, val_main_cst_29, val_main_v136, val_main_v135, val_main_v134, val_main_cst_28, val_main_v133, val_main_v132, val_main_v131, val_main_v112, val_main_v111, val_main_cst_25, val_main_v110, val_main_v107]
  exact Fin.sum_univ_one _

theorem dscore_at : val_main_v146 (F := Ideal) q k v s d (ix5 n h g r j)
    = (Ideal.div (val_main_v128 (F := Ideal) v d (ix5 n h g r j)) (val_main_v106 (F := Ideal) q k s (ix4 n h g r)) + val_main_v139 (F := Ideal) q k v s d (ix4 n h g r)) * val_main_v101 (F := Ideal) q k s (ix5 n h g r j) := by
  pointwise [val_main_v146, val_main_v145, val_main_v144, val_main_v138, val_main_v137, val_main_v107]

theorem dmax_at : val_main_v151 (F := Ideal) q k v s d (ix4 n h g r)
    = - (val_main_v139 (F := Ideal) q k v s d (ix4 n h g r) * val_main_v105 (F := Ideal) q k s (ix4 n h g r)) + ∑ j : Fin 256, - val_main_v146 (F := Ideal) q k v s d (ix5 n h g r j) := by
  pointwise [val_main_v151, val_main_v150, val_main_cst_32, val_main_v149, val_main_v148, val_main_cst_31, val_main_v147, val_main_v143, val_main_v140]
  rw [Fin.sum_univ_one]

theorem count_at : val_main_v77 (F := Ideal) q k (ix4 n h g r)
    = ∑ j : Fin 256, if val_main_v68_0 (F := Ideal) q k (ix5 n h g r j) = val_main_v72 (F := Ideal) q k (ix4 n h g r) then (1 : EReal) else 0 := by
  pointwise [val_main_v77, val_main_cst_17, val_main_v76, val_main_v75, val_main_v74, val_main_v73]
  refine Finset.sum_congr rfl fun j _ => ?_
  split
  · rename_i hc
    rw [decide_eq_true hc]
    show (((1#1).toNat : ℝ) : EReal) = 1
    simp
  · rename_i hc
    rw [decide_eq_false hc]
    show (((0#1).toNat : ℝ) : EReal) = 0
    simp

theorem dp_at : val_main_v128 (F := Ideal) v d (ix5 n h g r j)
    = ∑ x : Fin 64, val_main_v127 (F := Ideal) d (ix5 n h x g r) * val_main_v13 (F := Ideal) v (ix4 n j h x) := by
  pointwise [val_main_v128]

theorem dfull_at : val_main_v160 (F := Ideal) q k v s d (ix5 n h g r j)
    = val_main_v146 (F := Ideal) q k v s d (ix5 n h g r j) + Ideal.div (val_main_v151 (F := Ideal) q k v s d (ix4 n h g r) * val_main_v88 (F := Ideal) q k s (ix4 n h g r)) (val_main_v77 (F := Ideal) q k (ix4 n h g r)) * val_main_v76 (F := Ideal) q k (ix5 n h g r j) := by
  pointwise [val_main_v160, val_main_v159, val_main_v158, val_main_v157, val_main_v156]

theorem dsink_at : val_main_v140 (F := Ideal) q k v s d (ix4 n h g r)
    = val_main_v139 (F := Ideal) q k v s d (ix4 n h g r) * val_main_v105 (F := Ideal) q k s (ix4 n h g r) := rfl

theorem ds_at : val_main_v166 (F := Ideal) q k v s d (ix5 n h g r j)
    = (if Vis n r j then val_main_v160 (F := Ideal) q k v s d (ix5 n h g r j) else 0) * Ideal.ofBits .f32 0x3E000000#32 := by
  unfold val_main_v166 val_main_v164
  generalize val_main_v160 (F := Ideal) q k v s d = a
  pointwise [val_main_v165, val_main_cst_35]
  have h0 : val_main_call1_v0 (F := Ideal) (ix5 n h g r j) = (0 : EReal) := by
    show Ideal.ofBits .f32 0x00000000#32 = 0
    simp [Ideal.ofBits, Ideal.ieee]
  rw [mask_at, h0]
  congr 1
  split <;> rfl

theorem dq_at (R : Fin 4224) (C : Fin 1024) : val_main_v199 (F := Ideal) q k v s d (ix2 R C)
    = if h : 112 ≤ R.val ∧ R.val - 112 < 4112 then
        val_main_v168 (F := Ideal) q k v s d (ix5 ⟨(112 + (R.val - 112)) / 128, by omega⟩ ⟨C.val / 64 / 4, by omega⟩ ⟨(112 + (R.val - 112)) % 128, by omega⟩ ⟨C.val / 64 % 4, by omega⟩ ⟨C.val % 64, by omega⟩)
      else (0 : EReal) := by
  unfold val_main_v199 val_main_v176 val_main_v175 val_main_v173 val_main_v172 val_main_v169
  generalize val_main_v168 (F := Ideal) q k v s d = a
  pointwise [val_main_cst_40]

theorem dqb_at : val_main_v168 (F := Ideal) q k v s d (ix5 n h r g x)
    = ∑ j : Fin 256, val_main_v166 (F := Ideal) q k v s d (ix5 n h g r j) * val_main_v24 (F := Ideal) k (ix4 n j h x) := by
  unfold val_main_v168 val_main_v167
  generalize val_main_v166 (F := Ideal) q k v s d = a
  pointwise []

theorem dk_at (R : Fin 4224) (C : Fin 256) : val_main_v198 (F := Ideal) q k v s d (ix2 R C)
    = if h : 112 ≤ R.val ∧ R.val - 112 < 4112 then
        val_main_v170 (F := Ideal) q k v s d (ix4 ⟨(112 + (R.val - 112)) / 128, by omega⟩ ⟨C.val / 64, by omega⟩ ⟨128 + (112 + (R.val - 112)) % 128, by omega⟩ ⟨C.val % 64, by omega⟩)
          + if h' : (112 + (R.val - 112)) / 128 < 32 ∧ (112 + (R.val - 112)) % 128 < 128 ∧ C.val / 64 < 4 ∧ C.val % 64 < 64 then
              val_main_v170 (F := Ideal) q k v s d (ix4 ⟨1 + (112 + (R.val - 112)) / 128, by omega⟩ ⟨C.val / 64, by omega⟩ ⟨(112 + (R.val - 112)) % 128, by omega⟩ ⟨C.val % 64, by omega⟩)
            else (0 : EReal)
      else (0 : EReal) := by
  unfold val_main_v198 val_main_v186 val_main_v185 val_main_v183 val_main_v182 val_main_v181 val_main_v180 val_main_v178 val_main_v177 val_main_v171
  generalize val_main_v170 (F := Ideal) q k v s d = a
  pointwise [val_main_cst_39, val_main_cst_36]

theorem dv_at (R : Fin 4224) (C : Fin 256) : val_main_v197 (F := Ideal) q k s d (ix2 R C)
    = if h : 112 ≤ R.val ∧ R.val - 112 < 4112 then
        val_main_v129 (F := Ideal) q k s d (ix4 ⟨(112 + (R.val - 112)) / 128, by omega⟩ ⟨C.val / 64, by omega⟩ ⟨C.val % 64, by omega⟩ ⟨128 + (112 + (R.val - 112)) % 128, by omega⟩)
          + if h' : (112 + (R.val - 112)) / 128 < 32 ∧ (112 + (R.val - 112)) % 128 < 128 ∧ C.val / 64 < 4 ∧ C.val % 64 < 64 then
              val_main_v129 (F := Ideal) q k s d (ix4 ⟨1 + (112 + (R.val - 112)) / 128, by omega⟩ ⟨C.val / 64, by omega⟩ ⟨C.val % 64, by omega⟩ ⟨(112 + (R.val - 112)) % 128, by omega⟩)
            else (0 : EReal)
      else (0 : EReal) := by
  unfold val_main_v197 val_main_v196 val_main_v195 val_main_v193 val_main_v192 val_main_v191 val_main_v190 val_main_v188 val_main_v187 val_main_v130
  generalize val_main_v129 (F := Ideal) q k s d = a
  pointwise [val_main_cst_38, val_main_cst_37]

theorem dkb_at : val_main_v170 (F := Ideal) q k v s d (ix4 n h j x)
    = ∑ r : Fin 128, ∑ g : Fin 4, val_main_v166 (F := Ideal) q k v s d (ix5 n h g r j) * val_main_v62 (F := Ideal) q (ix5 n r h g x) := by
  unfold val_main_v170 val_main_v167
  generalize val_main_v166 (F := Ideal) q k v s d = a
  pointwise []

theorem dvb_at : val_main_v129 (F := Ideal) q k s d (ix4 n h x j)
    = ∑ g : Fin 4, ∑ r : Fin 128, val_main_v127 (F := Ideal) d (ix5 n h x g r) * val_main_v109 (F := Ideal) q k s (ix5 n h g r j) := by
  unfold val_main_v129
  generalize val_main_v109 (F := Ideal) q k s = a
  pointwise []

/-- A host sum over the first and the last of four axes, read at an index. -/
theorem sum_ends {A D : Nat} (hr : (⟨4, ![A, 4, 4, D]⟩ : Shape).ReducesTo [0, 3] ⟨2, ![4, 4]⟩) (y : (⟨4, ![A, 4, 4, D]⟩ : Shape).Idx → EReal) (z : EReal) (h g : Fin 4) :
    Ideal.hostReduceAdd hr y z (ix2 h g) = z + ∑ n : Fin A, ∑ r : Fin D, y (ix4 n h g r) := by
  unfold Ideal.hostReduceAdd
  congr 1
  rw [← Fintype.sum_prod_type' (f := fun (n : Fin A) (r : Fin D) => y (ix4 n h g r))]
  have hd : ∀ i : (⟨4, ![A, 4, 4, D]⟩ : Shape).Idx, hr.drop i = ix2 (i 1) (i 2) := fun i => funext fun b => Fin.ext (by
    match b with
    | ⟨0, _⟩ => exact Shape.ReducesTo.drop_apply_val hr i 0
    | ⟨1, _⟩ => exact Shape.ReducesTo.drop_apply_val hr i 1)
  refine Finset.sum_nbij' (fun i => (i 0, i 3)) (fun p => ix4 p.1 h g p.2) (fun _ _ => Finset.mem_univ _) (fun p _ => ?_) (fun i hi => ?_) (fun p _ => rfl) (fun i hi => ?_)
  · rw [Finset.mem_filter, hd]; exact ⟨Finset.mem_univ _, rfl⟩
  all_goals
    have h1 := (Finset.mem_filter.mp hi).2
    rw [hd] at h1
    have e1 : i 1 = h := congrFun h1 0
    have e2 : i 2 = g := congrFun h1 1
    have e : i = ix4 (i 0) h g (i 3) := by rw [← e1, ← e2]; exact ValueIdx.eq_ix4 i
  · exact e.symm
  · exact congrArg y e

theorem dsinks_sum : val_main_v141 (F := Ideal) q k v s d (ix2 h g)
    = ∑ n : Fin 33, ∑ r : Fin 128, val_main_v140 (F := Ideal) q k v s d (ix4 n h g r) := by
  unfold val_main_v141
  generalize val_main_v140 (F := Ideal) q k v s d = a
  pointwise [val_main_cst_30]
  exact (sum_ends _ a 0 h g).trans (zero_add _)

theorem dtop_sum : val_main_v153 (F := Ideal) q k v s d (ix2 h g)
    = ∑ n : Fin 33, ∑ r : Fin 128, val_main_v151 (F := Ideal) q k v s d (ix4 n h g r) * val_main_v97 (F := Ideal) q k s (ix4 n h g r) := by
  unfold val_main_v153 val_main_v152
  generalize val_main_v151 (F := Ideal) q k v s d = a
  generalize val_main_v97 (F := Ideal) q k s = b
  pointwise [val_main_cst_33]
  exact (sum_ends _ _ 0 h g).trans (zero_add _)

theorem dsink_total : val_main_v163 (F := Ideal) q k v s d (ix2 0 ⟨h.val * 4 + g.val, by omega⟩)
    = val_main_v141 (F := Ideal) q k v s d (ix2 h g) + val_main_v153 (F := Ideal) q k v s d (ix2 h g) := by
  unfold val_main_v163 val_main_v162 val_main_v161 val_main_v155 val_main_v154 val_main_v142
  generalize val_main_v141 (F := Ideal) q k v s d = a
  generalize val_main_v153 (F := Ideal) q k v s d = b
  pointwise [val_main_cst_34]
  refine (sum_ends _ _ 0 h g).trans ((zero_add _).trans ?_)
  rw [Fin.sum_univ_one, Fin.sum_univ_one]
  pointwise []

end Cert.Proof.Swa
-- ==== Proof.SwaRefGrad.lean ====
module

public import proofs.«01_k».proof.Proof.SwaRefRow

@[expose] public section

/-! The reference's row gradient for real arguments. -/

noncomputable section

namespace Cert.Proof.Swa

open Cert.ReferenceIdeal Cert.ReferenceIdeal.Gen Cert.ReferenceIdeal.Read Idealize.ShloMosaic Idealize.ShloMosaic.TcCoe

/-- Every element of an array is a real number. -/
abbrev IsReal {S : Shape} (a : S.Idx → EReal) : Prop := ∀ i, ∃ x : ℝ, a i = (x : EReal)

variable (q : Vec Ideal S4224x1024 .f32) (k : Vec Ideal S4224x256 .f32) (v : Vec Ideal S4224x256 .f32) (s : Vec Ideal S1x16 .f32) (d : Vec Ideal S4224x1024 .f32)
variable (n : Fin 33) (h g : Fin 4) (r : Fin 128) (j : Fin 256) (x : Fin 64)

/-- The probability of key `j` in a row, and the share of the row that its sink takes. -/
def prob : ℝ := (val_main_v109 (F := Ideal) q k s (ix5 n h g r j)).toReal
def psink : ℝ := (val_main_v116 (F := Ideal) q k s (ix4 n h g r)).toReal

theorem eighth : Ideal.ofBits .f32 0x3E000000#32 = ((1 / 8 : ℝ) : EReal) := by
  simp [Ideal.ofBits, Ideal.ieee, -EReal.coe_mul]; norm_num

/-- A score that is not seen is −∞. -/
theorem score_hidden (hv : ¬ Vis n r j) : val_main_v68_0 (F := Ideal) q k (ix5 n h g r j) = (⊥ : EReal) := by
  rw [score_at, if_neg hv]

/-- A score that is seen is real. -/
theorem score_real (hq : IsReal q) (hk : IsReal k) (hv : Vis n r j) :
    ∃ y : ℝ, val_main_v68_0 (F := Ideal) q k (ix5 n h g r j) = (y : EReal) := by
  rw [score_at, if_pos hv, eighth]
  choose qr hqr using hq
  choose kr hkr using hk
  refine ⟨(∑ x : Fin 64, kr (ix2 ⟨n.val * 128 + j.val - 128, by omega⟩ ⟨h.val * 64 + x.val, by omega⟩) * qr (ix2 ⟨n.val * 128 + r.val, by omega⟩ ⟨(h.val * 4 + g.val) * 64 + x.val, by omega⟩)) * (1 / 8), ?_⟩
  rw [EReal.coe_mul, ← sum_coe_mul]
  congr 1
  refine Finset.sum_congr rfl fun x _ => ?_
  rw [key_at k n h j x hv.2.2, query_at, if_neg (by have := hv; omega), hkr, hqr]

/-- The row: its exponentials, real, with zeros where it does not see. -/
theorem row_data (hq : IsReal q) (hk : IsReal k) (hs : IsReal s) :
    ∃ (e : Fin 256 → ℝ) (es : ℝ), 0 < es ∧ (∀ j, 0 ≤ e j) ∧ (∀ j, ¬ Vis n r j → e j = 0)
      ∧ (∀ j, val_main_v101 (F := Ideal) q k s (ix5 n h g r j) = (e j : EReal))
      ∧ val_main_v105 (F := Ideal) q k s (ix4 n h g r) = (es : EReal)
      ∧ val_main_v106 (F := Ideal) q k s (ix4 n h g r) = ((∑ j, e j + es : ℝ) : EReal) := by
  obtain ⟨t, ht⟩ := hs (ix2 0 ⟨h.val * 4 + g.val, by omega⟩)
  obtain ⟨e, es, h1, h2, h3, h4, h5⟩ := row_exp (fun j => val_main_v68_0 (F := Ideal) q k (ix5 n h g r j)) (fun j => by
    by_cases hv : Vis n r j
    · exact Or.inr (score_real q k n h g r j hq hk hv)
    · exact Or.inl (score_hidden q k n h g r j hv)) t
  have e4 : ∀ j, val_main_v101 (F := Ideal) q k s (ix5 n h g r j) = (e j : EReal) := fun j => by
    rw [exp_at, top_at, rowmax_at, ht]; exact h4 j
  have e5 : val_main_v105 (F := Ideal) q k s (ix4 n h g r) = (es : EReal) := by
    rw [exp_sink_at, top_at, rowmax_at, ht]; exact h5
  refine ⟨e, es, h1, h2, fun j hv => h3 j (score_hidden q k n h g r j hv), e4, e5, ?_⟩
  rw [denom_at, e5, Finset.sum_congr rfl fun j _ => e4 j, sum_coe, zero_add, ← EReal.coe_add]

/-- The row's count of greatest scores is not zero. -/
theorem count_ne : val_main_v77 (F := Ideal) q k (ix4 n h g r) ≠ (0 : EReal) := by
  rw [count_at]
  obtain ⟨j, hj⟩ := fold_max_mem fun j => val_main_v68_0 (F := Ideal) q k (ix5 n h g r j)
  rw [← rowmax_at] at hj
  refine ne_of_gt (lt_of_lt_of_le (zero_lt_one' EReal) ?_)
  refine le_trans (le_of_eq (if_pos hj).symm) (Finset.single_le_sum (f := fun j => if val_main_v68_0 (F := Ideal) q k (ix5 n h g r j) = val_main_v72 (F := Ideal) q k (ix4 n h g r) then (1 : EReal) else 0) (fun i _ => ?_) (Finset.mem_univ j))
  dsimp only
  split
  · exact zero_le_one
  · exact le_rfl

theorem prob_coe (hq : IsReal q) (hk : IsReal k) (hs : IsReal s) :
    val_main_v109 (F := Ideal) q k s (ix5 n h g r j) = (prob q k s n h g r j : EReal) := by
  obtain ⟨e, es, h1, h2, h3, h4, h5, h6⟩ := row_data q k s n h g r hq hk hs
  have hD : 0 < ∑ j, e j + es := add_pos_of_nonneg_of_pos (Finset.sum_nonneg fun j _ => h2 j) h1
  unfold prob
  rw [prob_at, h4, h6, div_coe_pos _ hD, EReal.toReal_coe]

theorem psink_coe (hq : IsReal q) (hk : IsReal k) (hs : IsReal s) :
    val_main_v116 (F := Ideal) q k s (ix4 n h g r) = (psink q k s n h g r : EReal) := by
  obtain ⟨e, es, h1, h2, h3, h4, h5, h6⟩ := row_data q k s n h g r hq hk hs
  have hD : 0 < ∑ j, e j + es := add_pos_of_nonneg_of_pos (Finset.sum_nonneg fun j _ => h2 j) h1
  unfold psink
  rw [psink_at, h5, h6, div_coe_pos _ hD, EReal.toReal_coe]

/-- A key that is not seen has no probability. -/
theorem prob_hidden (hq : IsReal q) (hk : IsReal k) (hs : IsReal s) (hv : ¬ Vis n r j) : prob q k s n h g r j = 0 := by
  obtain ⟨e, es, h1, h2, h3, h4, h5, h6⟩ := row_data q k s n h g r hq hk hs
  have hD : 0 < ∑ j, e j + es := add_pos_of_nonneg_of_pos (Finset.sum_nonneg fun j _ => h2 j) h1
  unfold prob
  rw [prob_at, h4, h6, div_coe_pos _ hD, EReal.toReal_coe, h3 j hv, zero_div]

/-- The row's gradient: of a score, `p (dp − Σ p dp)`; of the sink's score, `−ps Σ p dp`; and of the shift by the greatest score, nothing. -/
theorem row_grad (hq : IsReal q) (hk : IsReal k) (hs : IsReal s) (dp : Fin 256 → ℝ)
    (hdp : ∀ j, val_main_v128 (F := Ideal) v d (ix5 n h g r j) = (dp j : EReal)) :
    (∀ j, val_main_v160 (F := Ideal) q k v s d (ix5 n h g r j)
        = ((prob q k s n h g r j * (dp j - ∑ i, prob q k s n h g r i * dp i) : ℝ) : EReal))
      ∧ val_main_v140 (F := Ideal) q k v s d (ix4 n h g r) = ((-(psink q k s n h g r * ∑ i, prob q k s n h g r i * dp i) : ℝ) : EReal)
      ∧ val_main_v151 (F := Ideal) q k v s d (ix4 n h g r) = (0 : EReal) := by
  obtain ⟨e, es, h1, h2, h3, h4, h5, h6⟩ := row_data q k s n h g r hq hk hs
  set D : ℝ := ∑ j, e j + es with hDdef
  have hD : 0 < D := add_pos_of_nonneg_of_pos (Finset.sum_nonneg fun j _ => h2 j) h1
  have hp : ∀ j, prob q k s n h g r j = e j / D := fun j => by
    unfold prob
    rw [prob_at, h4, h6, div_coe_pos _ hD, EReal.toReal_coe]
  have hps : psink q k s n h g r = es / D := by
    unfold psink
    rw [psink_at, h5, h6, div_coe_pos _ hD, EReal.toReal_coe]
  simp only [hp, hps]
  have h139 : val_main_v139 (F := Ideal) q k v s d (ix4 n h g r) = ((-(∑ i, e i / D * dp i) / D : ℝ) : EReal) := by
    rw [ddenom_at, Finset.sum_congr rfl (fun j _ => show _ = ((dp j * (1 / (D * D)) * e j : ℝ) : EReal) by
      rw [hdp, h6, h4, ← EReal.coe_mul, ← EReal.coe_one, div_coe_pos _ (mul_pos hD hD), ← EReal.coe_mul, ← EReal.coe_mul]), sum_coe, ← EReal.coe_neg]
    congr 1
    rw [neg_div, Finset.sum_div]
    congr 1
    refine Finset.sum_congr rfl fun j _ => ?_
    field_simp
  have h146 : ∀ j, val_main_v146 (F := Ideal) q k v s d (ix5 n h g r j) = ((e j / D * (dp j - ∑ i, e i / D * dp i) : ℝ) : EReal) := fun j => by
    rw [dscore_at, hdp, h6, h4, h139, div_coe_pos _ hD, ← EReal.coe_add, ← EReal.coe_mul]
    congr 1
    field_simp
    ring
  have h140 : val_main_v140 (F := Ideal) q k v s d (ix4 n h g r) = ((-(es / D * ∑ i, e i / D * dp i) : ℝ) : EReal) := by
    rw [dsink_at, h139, h5, ← EReal.coe_mul]
    congr 1
    ring
  have h151 : val_main_v151 (F := Ideal) q k v s d (ix4 n h g r) = (0 : EReal) := by
    rw [dmax_at, ← dsink_at, h140, Finset.sum_congr rfl (fun j _ => show _ = ((-(e j / D * (dp j - ∑ i, e i / D * dp i)) : ℝ) : EReal) by rw [h146, ← EReal.coe_neg]),
      sum_coe, ← EReal.coe_neg, ← EReal.coe_add, ← EReal.coe_zero]
    congr 1
    generalize hδ : ∑ i, e i / D * dp i = δ
    rw [Finset.sum_neg_distrib]
    simp only [mul_sub, Finset.sum_sub_distrib, ← Finset.sum_mul, ← Finset.sum_div]
    have : (∑ i, e i * dp i / D) = δ := by
      rw [← hδ]; refine Finset.sum_congr rfl fun i _ => ?_; ring
    have h2 : ∑ i, e i / D * dp i = δ := hδ
    rw [h2]
    have h3 : ∑ i, e i = D - es := by rw [hDdef]; ring
    rw [h3]
    field_simp
    ring
  refine ⟨fun j => ?_, h140, h151⟩
  rw [dfull_at, h151, h146]
  have hz : Ideal.div ((0 : EReal) * val_main_v88 (F := Ideal) q k s (ix4 n h g r)) (val_main_v77 (F := Ideal) q k (ix4 n h g r)) = 0 := by
    rw [zero_mul]
    unfold Ideal.div
    rw [if_neg (count_ne q k n h g r), zero_mul]
  exact (congrArg _ ((congrArg (· * _) hz).trans (zero_mul _))).trans (add_zero _)

end Cert.Proof.Swa
-- ==== Proof.SwaRefResults.lean ====
module

public import proofs.«01_k».proof.Proof.SwaRefGrad
public import Idealize.ShloMosaic.Lib.TwoAxisContraction

@[expose] public section

/-! The attention's gradients as real numbers, and that the reference computes them. -/

noncomputable section

namespace Cert.Proof.Swa

open Cert.ReferenceIdeal Cert.ReferenceIdeal.Gen Cert.ReferenceIdeal.Read Idealize.ShloMosaic Idealize.ShloMosaic.TcCoe

variable (q : Vec Ideal S4224x1024 .f32) (k : Vec Ideal S4224x256 .f32) (v : Vec Ideal S4224x256 .f32) (s : Vec Ideal S1x16 .f32) (d : Vec Ideal S4224x1024 .f32)
variable (n : Fin 33) (h g : Fin 4) (r : Fin 128) (j : Fin 256) (x : Fin 64)

/-- Row `r` of block `n`; the row of key `j` of the block and the block before; a query head's column; a key head's column. -/
abbrev rowOf (n : Fin 33) (r : Fin 128) : Fin 4224 := ⟨n.val * 128 + r.val, by omega⟩
abbrev keyRow (n : Fin 33) (j : Fin 256) : Fin 4224 := ⟨n.val * 128 + j.val - 128, by omega⟩
abbrev qCol (h g : Fin 4) (x : Fin 64) : Fin 1024 := ⟨(h.val * 4 + g.val) * 64 + x.val, by omega⟩
abbrev kCol (h : Fin 4) (x : Fin 64) : Fin 256 := ⟨h.val * 64 + x.val, by omega⟩

/-- The gradient of one probability, `do · v`. -/
def dprob : ℝ := ∑ x : Fin 64, (d (ix2 (rowOf n r) (qCol h g x))).toReal * (v (ix2 (keyRow n j) (kCol h x))).toReal
/-- A row's sum of the probabilities times their gradients. -/
def delta : ℝ := ∑ j : Fin 256, prob q k s n h g r j * dprob v d n h g r j
/-- The gradient of one product of a query and a key. -/
def dscore : ℝ := prob q k s n h g r j * (dprob v d n h g r j - delta q k v s d n h g r) * (1 / 8)

/-- The gradients: of a query's element; of a key's and of a value's from the queries of block `n`; of a head's sink. -/
def gradQ : ℝ := ∑ j : Fin 256, dscore q k v s d n h g r j * (k (ix2 (keyRow n j) (kCol h x))).toReal
def partK : ℝ := ∑ g : Fin 4, ∑ r : Fin 128, dscore q k v s d n h g r j * (q (ix2 (rowOf n r) (qCol h g x))).toReal
def partV : ℝ := ∑ g : Fin 4, ∑ r : Fin 128, prob q k s n h g r j * (d (ix2 (rowOf n r) (qCol h g x))).toReal
def gradS : ℝ := ∑ n : Fin 33, ∑ r : Fin 128, -(psink q k s n h g r * delta q k v s d n h g r)

/-- The part that the queries of the next block add to a key of block `n`. -/
def nextBlock (f : Fin 33 → ℝ) : ℝ := if hn : n.val + 1 < 33 then f ⟨n.val + 1, hn⟩ else 0

/-- The gradient of the key in row `r` of block `n`: from the queries of its own block and of the next. -/
def gradK : ℝ := partK q k v s d n h ⟨128 + r.val, by omega⟩ x + nextBlock n fun n' => partK q k v s d n' h ⟨r.val, by omega⟩ x
def gradV : ℝ := partV q k s d n h ⟨128 + r.val, by omega⟩ x + nextBlock n fun n' => partV q k s d n' h ⟨r.val, by omega⟩ x

/-- The row is one before the sequence. -/
theorem not_vis (hr : n.val * 128 + r.val < 112) : ¬ Vis n r j := by intro h; omega

theorem coe_toReal {y : EReal} (hy : ∃ x : ℝ, y = (x : EReal)) : y = (y.toReal : EReal) := by
  obtain ⟨x, rfl⟩ := hy; rw [EReal.toReal_coe]

section Real
variable (hq : IsReal q) (hk : IsReal k) (hv : IsReal v) (hs : IsReal s) (hd : IsReal d)
include hq hk hs

theorem dscore_hidden (hvis : ¬ Vis n r j) : dscore q k v s d n h g r j = 0 := by
  unfold dscore; rw [prob_hidden q k s n h g r j hq hk hs hvis]; ring

include hv hd

/-- The reference's gradient of a probability, where the key is seen; it is real anyway. -/
theorem dp_real : ∃ dp : Fin 256 → ℝ, (∀ j, val_main_v128 (F := Ideal) v d (ix5 n h g r j) = (dp j : EReal)) ∧ ∀ j, Vis n r j → dp j = dprob v d n h g r j := by
  have key : ∀ j, ∃ y : ℝ, val_main_v128 (F := Ideal) v d (ix5 n h g r j) = (y : EReal) ∧ (Vis n r j → y = dprob v d n h g r j) := fun j => by
    rw [dp_at]
    have hc : ∀ x, ∃ y : ℝ, val_main_v127 (F := Ideal) d (ix5 n h x g r) = (y : EReal) ∧ (Vis n r j → y = (d (ix2 (rowOf n r) (qCol h g x))).toReal) := fun x => by
      rw [cotangent_at]
      split
      · exact ⟨0, EReal.coe_zero.symm, fun hvis => by omega⟩
      · exact ⟨_, coe_toReal (hd _), fun _ => rfl⟩
    choose dr hdr using hc
    by_cases h240 : 240 ≤ n.val * 128 + j.val
    · refine ⟨∑ x : Fin 64, dr x * (v (ix2 (keyRow n j) (kCol h x))).toReal, ?_, fun hvis => ?_⟩
      · rw [← sum_coe_mul]
        refine Finset.sum_congr rfl fun x _ => ?_
        rw [(hdr x).1, value_at v n h j x h240, ← coe_toReal (hv _)]
      · exact Finset.sum_congr rfl fun x _ => by rw [(hdr x).2 hvis]
    · refine ⟨0, ?_, fun hvis => absurd hvis.2.2 h240⟩
      rw [EReal.coe_zero]
      refine Finset.sum_eq_zero fun x _ => ?_
      rw [value_pad v n h j x (by omega), mul_zero]
  choose dp hdp using key
  exact ⟨dp, fun j => (hdp j).1, fun j => (hdp j).2⟩

theorem row_results :
    (∀ j, val_main_v166 (F := Ideal) q k v s d (ix5 n h g r j) = (dscore q k v s d n h g r j : EReal))
      ∧ val_main_v140 (F := Ideal) q k v s d (ix4 n h g r) = ((-(psink q k s n h g r * delta q k v s d n h g r) : ℝ) : EReal)
      ∧ val_main_v151 (F := Ideal) q k v s d (ix4 n h g r) = (0 : EReal) := by
  obtain ⟨dp, hdp, hvis⟩ := dp_real q k v s d n h g r hq hk hv hs hd
  obtain ⟨g1, g2, g3⟩ := row_grad q k v s d n h g r hq hk hs dp hdp
  have hp : ∀ j, prob q k s n h g r j * dp j = prob q k s n h g r j * dprob v d n h g r j := fun j => by
    by_cases hj : Vis n r j
    · rw [hvis j hj]
    · rw [prob_hidden q k s n h g r j hq hk hs hj, zero_mul, zero_mul]
  have hδ : ∑ i, prob q k s n h g r i * dp i = delta q k v s d n h g r := Finset.sum_congr rfl fun j _ => hp j
  rw [hδ] at g1 g2
  refine ⟨fun j => ?_, g2, g3⟩
  rw [ds_at, g1, eighth]
  by_cases hj : Vis n r j
  · rw [if_pos hj, hvis j hj, ← EReal.coe_mul]; rfl
  · rw [if_neg hj, dscore_hidden q k v s d n h g r j hq hk hs hj, zero_mul, EReal.coe_zero]

/-- The gradient of a query's element. -/
theorem gradQ_block : val_main_v168 (F := Ideal) q k v s d (ix5 n h r g x) = (gradQ q k v s d n h g r x : EReal) := by
  rw [dqb_at]
  unfold gradQ
  rw [← sum_coe_mul]
  refine Finset.sum_congr rfl fun j _ => ?_
  rw [(row_results q k v s d n h g r hq hk hv hs hd).1 j]
  by_cases hj : Vis n r j
  · rw [key_at k n h j x hj.2.2, ← coe_toReal (hk _)]
  · rw [dscore_hidden q k v s d n h g r j hq hk hs hj, EReal.coe_zero, zero_mul, zero_mul]

theorem partK_block : val_main_v170 (F := Ideal) q k v s d (ix4 n h j x) = (partK q k v s d n h j x : EReal) := by
  rw [dkb_at]
  unfold partK
  rw [Finset.sum_comm, ← sum_coe]
  refine Finset.sum_congr rfl fun g _ => ?_
  rw [← sum_coe_mul]
  refine Finset.sum_congr rfl fun r _ => ?_
  rw [(row_results q k v s d n h g r hq hk hv hs hd).1 j]
  by_cases hj : Vis n r j
  · rw [query_at, if_neg (by have := hj; omega), ← coe_toReal (hq _)]
  · rw [dscore_hidden q k v s d n h g r j hq hk hs hj, EReal.coe_zero, zero_mul, zero_mul]

omit hv in
theorem partV_block : val_main_v129 (F := Ideal) q k s d (ix4 n h x j) = (partV q k s d n h j x : EReal) := by
  rw [dvb_at]
  unfold partV
  rw [← sum_coe]
  refine Finset.sum_congr rfl fun g _ => ?_
  rw [← sum_coe_mul]
  refine Finset.sum_congr rfl fun r _ => ?_
  rw [prob_coe q k s n h g r j hq hk hs, mul_comm]
  by_cases hj : Vis n r j
  · rw [cotangent_at, if_neg (by have := hj; omega), ← coe_toReal (hd _)]
  · rw [prob_hidden q k s n h g r j hq hk hs hj, EReal.coe_zero, zero_mul, zero_mul]

/-- The gradient of the sinks. -/
theorem gradS_at : val_main_v163 (F := Ideal) q k v s d (ix2 0 ⟨h.val * 4 + g.val, by omega⟩) = (gradS q k v s d h g : EReal) := by
  rw [dsink_total, dsinks_sum, dtop_sum]
  unfold gradS
  have h2 : ∑ n : Fin 33, ∑ r : Fin 128, val_main_v151 (F := Ideal) q k v s d (ix4 n h g r) * val_main_v97 (F := Ideal) q k s (ix4 n h g r) = 0 :=
    Finset.sum_eq_zero fun n _ => Finset.sum_eq_zero fun r _ => by
      exact (congrArg (· * _) (row_results q k v s d n h g r hq hk hv hs hd).2.2).trans (zero_mul _)
  rw [h2, add_zero, ← sum_coe]
  refine Finset.sum_congr rfl fun n _ => ?_
  rw [← sum_coe]
  exact Finset.sum_congr rfl fun r _ => (row_results q k v s d n h g r hq hk hv hs hd).2.1

omit hv hd in
/-- A row before the sequence has no gradient. -/
theorem gradQ_pad (hr : n.val * 128 + r.val < 112) : gradQ q k v s d n h g r x = 0 :=
  Finset.sum_eq_zero fun j _ => by rw [dscore_hidden q k v s d n h g r j hq hk hs (not_vis n r j hr), zero_mul]

omit hv hd in
theorem partK_pad (hj : n.val * 128 + j.val < 240) : partK q k v s d n h j x = 0 :=
  Finset.sum_eq_zero fun g _ => Finset.sum_eq_zero fun r _ => by rw [dscore_hidden q k v s d n h g r j hq hk hs (by intro hh; omega), zero_mul]

omit hv hd in
theorem partV_pad (hj : n.val * 128 + j.val < 240) : partV q k s d n h j x = 0 :=
  Finset.sum_eq_zero fun g _ => Finset.sum_eq_zero fun r _ => by rw [prob_hidden q k s n h g r j hq hk hs (by intro hh; omega), zero_mul]

/-- The reference's gradient of the queries. -/
theorem reference_gradQ : val_main_v199 (F := Ideal) q k v s d (ix2 (rowOf n r) (qCol h g x)) = (gradQ q k v s d n h g r x : EReal) := by
  rw [dq_at]
  have eR : (rowOf n r).val = n.val * 128 + r.val := rfl
  split
  · rename_i hR
    have e : ∀ i : S33x4x128x4x64.Idx, i = ix5 n h r g x → val_main_v168 (F := Ideal) q k v s d i = (gradQ q k v s d n h g r x : EReal) :=
      fun i hi => hi ▸ gradQ_block q k v s d n h g r x hq hk hv hs hd
    refine e _ ?_
    congr 1 <;> exact Fin.ext (by dsimp only; omega)
  · rename_i hR
    rw [gradQ_pad q k v s d n h g r x hq hk hs (by dsimp only at hR; omega)]
    exact EReal.coe_zero.symm

theorem reference_gradK : val_main_v198 (F := Ideal) q k v s d (ix2 (rowOf n r) (kCol h x)) = (gradK q k v s d n h r x : EReal) := by
  rw [dk_at]
  have eR : (rowOf n r).val = n.val * 128 + r.val := rfl
  unfold gradK nextBlock
  have e : ∀ (i : S33x4x256x64.Idx) (n : Fin 33) (j : Fin 256), i = ix4 n h j x → val_main_v170 (F := Ideal) q k v s d i = (partK q k v s d n h j x : EReal) :=
    fun i n j hi => hi ▸ partK_block q k v s d n h j x hq hk hv hs hd
  split
  · rename_i hR
    rw [EReal.coe_add]
    refine congrArg₂ (· + ·) (e _ _ _ ?_) ?_
    · congr 1 <;> exact Fin.ext (by dsimp only; omega)
    · by_cases hn : n.val + 1 < 33
      · rw [dif_pos hn, dif_pos (by dsimp only; omega)]
        refine e _ _ _ ?_
        congr 1 <;> exact Fin.ext (by dsimp only; omega)
      · rw [dif_neg hn, dif_neg (by dsimp only; omega)]
        exact EReal.coe_zero.symm
  · rename_i hR
    have hr : n.val * 128 + r.val < 112 := by dsimp only at hR; omega
    rw [dif_pos (by omega)]
    beta_reduce
    rw [partK_pad q k v s d n h _ x hq hk hs (by dsimp only; omega), partK_pad q k v s d ⟨n.val + 1, by omega⟩ h ⟨r.val, by omega⟩ x hq hk hs (by dsimp only; omega), add_zero]
    exact EReal.coe_zero.symm

theorem reference_gradV : val_main_v197 (F := Ideal) q k s d (ix2 (rowOf n r) (kCol h x)) = (gradV q k s d n h r x : EReal) := by
  rw [dv_at]
  have eR : (rowOf n r).val = n.val * 128 + r.val := rfl
  unfold gradV nextBlock
  have e : ∀ (i : S33x4x64x256.Idx) (n : Fin 33) (j : Fin 256), i = ix4 n h x j → val_main_v129 (F := Ideal) q k s d i = (partV q k s d n h j x : EReal) :=
    fun i n j hi => hi ▸ partV_block q k s d n h j x hq hk hs hd
  split
  · rename_i hR
    rw [EReal.coe_add]
    refine congrArg₂ (· + ·) (e _ _ _ ?_) ?_
    · congr 1 <;> exact Fin.ext (by dsimp only; omega)
    · by_cases hn : n.val + 1 < 33
      · rw [dif_pos hn, dif_pos (by dsimp only; omega)]
        refine e _ _ _ ?_
        congr 1 <;> exact Fin.ext (by dsimp only; omega)
      · rw [dif_neg hn, dif_neg (by dsimp only; omega)]
        exact EReal.coe_zero.symm
  · rename_i hR
    have hr : n.val * 128 + r.val < 112 := by dsimp only at hR; omega
    rw [dif_pos (by omega)]
    beta_reduce
    rw [partV_pad q k s d n h _ x hq hk hs (by dsimp only; omega), partV_pad q k s d ⟨n.val + 1, by omega⟩ h ⟨r.val, by omega⟩ x hq hk hs (by dsimp only; omega), add_zero]
    exact EReal.coe_zero.symm

end Real

end Cert.Proof.Swa
-- ==== Proof.SwaBlock.lean ====
module

public import proofs.«01_k».proof.Proof.SwaHost
public import proofs.«01_k».proof.Proof.SwaHead
public import proofs.«01_k».proof.Proof.SwaRefResults
public import proofs.«01_k».proof.Proof.Gen.KernelIdeal.Frame
public import Idealize.ShloMosaic.Lib.Pipeline.ValueKit.Point
public import Idealize.ShloMosaic.Lib.Pipeline.ReadBack

@[expose] public section
set_option maxRecDepth 16384
noncomputable section
namespace Cert.Proof.Swa
open Cert.KernelIdeal Cert.KernelIdeal.Gen Idealize.ShloMosaic Idealize.ShloMosaic.TcCoe Idealize.SL.Sem Pipeline

/-- Head `h`'s spread matrix, its rows of the probabilities, its columns of the queries or cotangents. -/
def spreadOf (x5 : Vec Ideal S4x256x256 .bf16) (h : Fin 4) : Vec Ideal S1x256x256 .bf16 := View.ld x5 (Rect.unit ![h.val, 0, 0] ![1, 256, 256] (by revert h; decide))
def probsOf (x6 : Vec Ideal S1x4x512x256 .bf16) (h : Fin 4) : FVec Ideal S512x256 .f32 :=
  k0_pay35 (View.ld x6 (Rect.unit ![0, h.val, 0, 0] ![1, 1, 512, 256] (by revert h; decide)))
def colsOf (x : Vec Ideal S128x1024 .f32) (h : Fin 4) : Vec Ideal S128x256 .f32 := View.ld x (Rect.unit ![0, 256 * h.val] ![128, 256] (by revert h; decide))

section Block
variable (x0 : Vec Ideal S128x1024 .f32) (x1 x2 x3 x4 : Vec Ideal S128x256 .f32) (x5 : Vec Ideal S4x256x256 .bf16) (x6 : Vec Ideal S1x4x512x256 .bf16)
  (x7 : Vec Ideal S1x512x128 .f32) (x8 : Vec Ideal S128x1024 .f32)

/-- Head `h`'s gradient of the scores, as the body computes it. -/
def blockDs (h : Fin 4) : FVec Ideal S512x256 .f32 :=
  k0_pay55 (k0_pay27 (k0_pay18 x3 x4) (spreadOf x5 h)) (probsOf x6 h) (stacked (colsOf x8 h))
/-- Head `h`'s part of the queries' gradient. -/
def blockDq (h : Fin 4) : FVec Ideal S128x256 .f32 :=
  k0_pay91 (mask 0) (mask 1) (mask 2) (mask 3) (k0_pay60 (k0_pay27 (k0_pay17 x1 x2) (spreadOf x5 h)) (blockDs x3 x4 x5 x6 x8 h))
/-- Head `h`'s part of the keys' gradient. -/
def blockDk (h : Fin 4) : FVec Ideal S256x256 .f32 :=
  k0_pay74 (k0_pay64 (stacked (colsOf x0 h)) (blockDs x3 x4 x5 x6 x8 h)) (spreadOf x5 h)
/-- Head `h`'s part of the values' gradient. -/
def blockDv (h : Fin 4) : FVec Ideal S256x256 .f32 :=
  k0_pay74 (k0_pay68 (probsOf x6 h) (stacked (colsOf x8 h))) (spreadOf x5 h)
/-- Head `h`'s part of the sinks' gradient. -/
def blockSink (h : Fin 4) : FVec Ideal S8x128 .f32 :=
  k0_pay105 (sinkCol h x7) (k0_pay51 (k0_pay27 (k0_pay18 x3 x4) (spreadOf x5 h)) (probsOf x6 h) (stacked (colsOf x8 h)))
end Block

/-- The sum of four heads' parts. -/
abbrev fourHeads (f : Fin 4 → FVec Ideal S256x256 .f32) : FVec Ideal S256x256 .f32 := k0_pay86 (f 0) (f 1) (f 2) (f 3)

variable (m : (ℓ : Loc nD τ sig) → Buf (Elt Ideal) ℓ) (c : Dev nD)

abbrev dkAt (t : Fin cfg0.N) (h : Fin 4) := blockDk (iblk m c 0 t) (iblk m c 3 t) (iblk m c 4 t) (iblk m c 5 t) (iblk m c 6 t) (iblk m c 8 t) h
abbrev dvAt (t : Fin cfg0.N) (h : Fin 4) := blockDv (iblk m c 5 t) (iblk m c 6 t) (iblk m c 8 t) h
abbrev dqAt (t : Fin cfg0.N) (h : Fin 4) := blockDq (iblk m c 1 t) (iblk m c 2 t) (iblk m c 3 t) (iblk m c 4 t) (iblk m c 5 t) (iblk m c 6 t) (iblk m c 8 t) h
abbrev sinkAt (t : Fin cfg0.N) (h : Fin 4) := blockSink (iblk m c 3 t) (iblk m c 4 t) (iblk m c 5 t) (iblk m c 6 t) (iblk m c 7 t) (iblk m c 8 t) h

theorem lt33 (t : Fin cfg0.N) : t.val < 33 := lt_of_lt_of_eq t.isLt (show cfg0.N = 33 from N_0)

/-- What a point leaves in the six output blocks. -/
theorem outs_dkc (t : Fin cfg0.N) : (outsAt0 m c t.val t.isLt).2.1 = k0_pay88 (fourHeads (dkAt m c t)) := by
  have := lt33 t
  by_cases h : t.val = 0
  · rw [outsAt0_A m c t (by omega) (by omega)]; frame_out; rfl
  · rw [outsAt0_B m c t (by omega) (by omega)]; frame_out; rfl
theorem outs_dkp (t : Fin cfg0.N) : (outsAt0 m c t.val t.isLt).2.2.1 = k0_pay87 (fourHeads (dkAt m c t)) := by
  have := lt33 t
  by_cases h : t.val = 0
  · rw [outsAt0_A m c t (by omega) (by omega)]; frame_out; rfl
  · rw [outsAt0_B m c t (by omega) (by omega)]; frame_out; rfl
theorem outs_dvc (t : Fin cfg0.N) : (outsAt0 m c t.val t.isLt).2.2.2.1 = k0_pay88 (fourHeads (dvAt m c t)) := by
  have := lt33 t
  by_cases h : t.val = 0
  · rw [outsAt0_A m c t (by omega) (by omega)]; frame_out; rfl
  · rw [outsAt0_B m c t (by omega) (by omega)]; frame_out; rfl
theorem outs_dvp (t : Fin cfg0.N) : (outsAt0 m c t.val t.isLt).2.2.2.2.1 = k0_pay87 (fourHeads (dvAt m c t)) := by
  have := lt33 t
  by_cases h : t.val = 0
  · rw [outsAt0_A m c t (by omega) (by omega)]; frame_out; rfl
  · rw [outsAt0_B m c t (by omega) (by omega)]; frame_out; rfl

/-- The stores of the queries' gradient, a head's columns each. -/
def dqPieces (f : Fin 4 → FVec Ideal S128x256 .f32) : List (View.Piece (Elt Ideal) S128x1024 .f32) :=
  [⟨Rect.unit ![0, 768] ![128, 256] inb_S128x1024_S128x256_0_768, f 3⟩, ⟨Rect.unit ![0, 512] ![128, 256] inb_S128x1024_S128x256_0_512, f 2⟩,
   ⟨Rect.unit ![0, 256] ![128, 256] inb_S128x1024_S128x256_0_256, f 1⟩, ⟨Rect.unit ![0, 0] ![128, 256] inb_S128x1024_S128x256_0_0, f 0⟩]
/-- The stores of the sinks' gradient, a head's slab each. -/
def sinkPieces (f : Fin 4 → FVec Ideal S1x8x128 .f32) : List (View.Piece (Elt Ideal) S4x8x128 .f32) :=
  [⟨Rect.unit ![3, 0, 0] ![1, 8, 128] inb_S4x8x128_S1x8x128_3_0_0, f 3⟩, ⟨Rect.unit ![2, 0, 0] ![1, 8, 128] inb_S4x8x128_S1x8x128_2_0_0, f 2⟩,
   ⟨Rect.unit ![1, 0, 0] ![1, 8, 128] inb_S4x8x128_S1x8x128_1_0_0, f 1⟩, ⟨Rect.unit ![0, 0, 0] ![1, 8, 128] inb_S4x8x128_S1x8x128_0_0_0, f 0⟩]
/-- Head `h`'s slab of an array. -/
def slab (x : Vec Ideal S4x8x128 .f32) (h : Fin 4) : Vec Ideal S1x8x128 .f32 := View.ld x (Rect.unit ![h.val, 0, 0] ![1, 8, 128] (by revert h; decide))

theorem outs_dq (t : Fin cfg0.N) : (outsAt0 m c t.val t.isLt).1 = View.canon (dqPieces (dqAt m c t)) := by
  have := lt33 t
  by_cases h : t.val = 0
  · rw [outsAt0_A m c t (by omega) (by omega)]; frame_out; rfl
  · rw [outsAt0_B m c t (by omega) (by omega)]; frame_out; rfl
theorem outs_sink_A (t : Fin cfg0.N) (h : t.val = 0) :
    (outsAt0 m c t.val t.isLt).2.2.2.2.2 = View.canon (sinkPieces fun h => k0_pay1 (sinkAt m c t h)) := by
  rw [outsAt0_A m c t (by omega) (by omega)]; frame_out; rfl
theorem outs_sink_B (t : Fin cfg0.N) (h : t.val ≠ 0) :
    (outsAt0 m c t.val t.isLt).2.2.2.2.2 = View.canon (sinkPieces fun h => k0_pay5 (sinkAt m c t h) (slab (outsAt0 m c (t.val - 1) (by omega)).2.2.2.2.2 h)) := by
  have := lt33 t
  rw [outsAt0_B m c t (by omega) (by omega)]; frame_out
  rfl

/-- One piece's value is the family's, where the head and the coordinates agree. -/
theorem pick2 (f : Fin 4 → FVec Ideal S128x256 .f32) (k h : Fin 4) (x : S128x256.Idx) (r : Fin 128) (b : Fin 256)
    (e : k.val = h.val) (e0 : (x 0).val = r.val) (e1 : (x 1).val = b.val) : f k x = f h (ix2 r b) := by
  obtain rfl : k = h := Fin.ext e
  obtain ⟨r', b', rfl⟩ : ∃ (r' : Fin 128) (b' : Fin 256), x = ix2 r' b' := ⟨_, _, eq_ix2 x⟩
  obtain rfl : r' = r := Fin.ext e0
  obtain rfl : b' = b := Fin.ext e1
  rfl
theorem pick3 (f : Fin 4 → FVec Ideal S1x8x128 .f32) (k h : Fin 4) (x : S1x8x128.Idx) (r : Fin 8) (b : Fin 128)
    (e : k.val = h.val) (e0 : (x 1).val = r.val) (e1 : (x 2).val = b.val) : f k x = f h (ix3 0 r b) := by
  obtain rfl : k = h := Fin.ext e
  obtain ⟨z, r', b', rfl⟩ : ∃ (z : Fin 1) (r' : Fin 8) (b' : Fin 128), x = ix3 z r' b' := ⟨_, _, _, eq_ix3 x⟩
  obtain rfl : z = 0 := Subsingleton.elim _ _
  obtain rfl : r' = r := Fin.ext e0
  obtain rfl : b' = b := Fin.ext e1
  rfl

theorem dq_canon (f : Fin 4 → FVec Ideal S128x256 .f32) (h : Fin 4) (r : Fin 128) (b : Fin 256) :
    View.canon (dqPieces f) (ix2 r ⟨256 * h.val + b.val, by omega⟩) = f h (ix2 r b) := by
  unfold dqPieces
  canon_tiles x h
  all_goals
    simp only [ix2_0, ix2_1] at h0 h1
    refine pick2 f _ h x r b ?_ ?_ ?_ <;> simp only [Fin.isValue, Fin.val_zero, Fin.val_one, Fin.val_two, show (3 : Fin 4).val = 3 from rfl] <;> omega
theorem sink_canon (f : Fin 4 → FVec Ideal S1x8x128 .f32) (h : Fin 4) (a : Fin 8) (b : Fin 128) :
    View.canon (sinkPieces f) (ix3 h a b) = f h (ix3 0 a b) := by
  unfold sinkPieces
  canon_tiles x h
  all_goals
    simp only [ix3_0, ix3_1, ix3_2] at h0 h1 h2
    refine pick3 f _ h x a b ?_ ?_ ?_ <;> simp only [Fin.isValue, Fin.val_zero, Fin.val_one, Fin.val_two, show (3 : Fin 4).val = 3 from rfl] <;> omega

/-- A point's sinks' rows, at a head and a group: set at the first point, added to afterwards. -/
theorem sink_first (t : Fin cfg0.N) (h : t.val = 0) (k : Fin 4) (a : Fin 8) (b : Fin 128) :
    (outsAt0 m c t.val t.isLt).2.2.2.2.2 (ix3 k a b) = sinkAt m c t k (ix2 a b) := by
  rw [outs_sink_A m c t h, sink_canon]
  generalize sinkAt m c t k = f
  pointwise [k0_pay1]
theorem sink_next (t : Fin cfg0.N) (h : t.val ≠ 0) (k : Fin 4) (a : Fin 8) (b : Fin 128) :
    (outsAt0 m c t.val t.isLt).2.2.2.2.2 (ix3 k a b) = (outsAt0 m c (t.val - 1) (by omega)).2.2.2.2.2 (ix3 k a b) + sinkAt m c t k (ix2 a b) := by
  rw [outs_sink_B m c t h, sink_canon]
  generalize sinkAt m c t k = f
  generalize (outsAt0 m c (t.val - 1) _).2.2.2.2.2 = w
  pointwise [k0_pay5, slab]

end Cert.Proof.Swa
end
-- ==== Proof.SwaPoint.lean ====
module

public import proofs.«01_k».proof.Proof.SwaBlock

@[expose] public section
set_option maxRecDepth 16384
noncomputable section
namespace Cert.Proof.Swa
open Cert.KernelIdeal Cert.KernelIdeal.Gen Idealize.ShloMosaic Idealize.ShloMosaic.TcCoe Idealize.SL.Sem Pipeline

variable (m : (ℓ : Loc nD τ sig) → Buf (Elt Ideal) ℓ) (c : Dev nD)

/-- The windows' blocks. -/
theorem idxRow0 : ∀ t : Fin cfg0.N, win0_0.index t = ![t.val, 0] := (by decide +kernel : ∀ t : Fin grid0.N, _)
theorem idxRow1 : ∀ t : Fin cfg0.N, win0_1.index t = ![t.val - 1, 0] := (by decide +kernel : ∀ t : Fin grid0.N, _)
theorem idxRow2 : ∀ t : Fin cfg0.N, win0_2.index t = ![t.val, 0] := (by decide +kernel : ∀ t : Fin grid0.N, _)
theorem idxRow3 : ∀ t : Fin cfg0.N, win0_3.index t = ![t.val - 1, 0] := (by decide +kernel : ∀ t : Fin grid0.N, _)
theorem idxRow4 : ∀ t : Fin cfg0.N, win0_4.index t = ![t.val, 0] := (by decide +kernel : ∀ t : Fin grid0.N, _)
theorem idxRow5 : ∀ t : Fin cfg0.N, win0_5.index t = ![0, 0, 0] := (by decide +kernel : ∀ t : Fin grid0.N, _)
theorem idxRow6 : ∀ t : Fin cfg0.N, win0_6.index t = ![t.val, 0, 0, 0] := (by decide +kernel : ∀ t : Fin grid0.N, _)
theorem idxRow7 : ∀ t : Fin cfg0.N, win0_7.index t = ![t.val, 0, 0] := (by decide +kernel : ∀ t : Fin grid0.N, _)
theorem idxRow8 : ∀ t : Fin cfg0.N, win0_8.index t = ![t.val, 0] := (by decide +kernel : ∀ t : Fin grid0.N, _)

theorem V_q : V m c main_arg0 = argQ m c := by
  refine (V_split m c _).trans ?_
  simp only [hostOps0, hostOps0_1, hostOps0_2]
  after_results_simp
theorem V_k : V m c main_arg1 = argK m c := by
  refine (V_split m c _).trans ?_
  simp only [hostOps0, hostOps0_1, hostOps0_2]
  after_results_simp
theorem V_v : V m c main_arg2 = argV m c := by
  refine (V_split m c _).trans ?_
  simp only [hostOps0, hostOps0_1, hostOps0_2]
  after_results_simp
theorem V_d : V m c main_arg4 = argD m c := by
  refine (V_split m c _).trans ?_
  simp only [hostOps0, hostOps0_1, hostOps0_2]
  after_results_simp

/-- The block of a point. -/
abbrev blockOf (t : Fin cfg0.N) : Fin 33 := ⟨t.val, lt33 t⟩

variable (t : Fin cfg0.N) (r : Fin 128)

theorem read_q (b : Fin 1024) : iblk m c 0 t (ix2 r b) = argQ m c (ix2 (rowOf (blockOf t) r) b) := by
  rw [← V_q]
  unfold iblk
  show V m c main_arg0 _ = _
  generalize V m c main_arg0 = A
  blk_ext [idxRow0 t]
theorem read_kp (b : Fin 256) : iblk m c 1 t (ix2 r b) = argK m c (ix2 ⟨(t.val - 1) * 128 + r.val, by have := lt33 t; omega⟩ b) := by
  rw [← V_k]
  unfold iblk
  show V m c main_arg1 _ = _
  generalize V m c main_arg1 = A
  blk_ext [idxRow1 t]
theorem read_kc (b : Fin 256) : iblk m c 2 t (ix2 r b) = argK m c (ix2 (rowOf (blockOf t) r) b) := by
  rw [← V_k]
  unfold iblk
  show V m c main_arg1 _ = _
  generalize V m c main_arg1 = A
  blk_ext [idxRow2 t]
theorem read_vp (b : Fin 256) : iblk m c 3 t (ix2 r b) = argV m c (ix2 ⟨(t.val - 1) * 128 + r.val, by have := lt33 t; omega⟩ b) := by
  rw [← V_v]
  unfold iblk
  show V m c main_arg2 _ = _
  generalize V m c main_arg2 = A
  blk_ext [idxRow3 t]
theorem read_vc (b : Fin 256) : iblk m c 4 t (ix2 r b) = argV m c (ix2 (rowOf (blockOf t) r) b) := by
  rw [← V_v]
  unfold iblk
  show V m c main_arg2 _ = _
  generalize V m c main_arg2 = A
  blk_ext [idxRow4 t]
theorem read_d (b : Fin 1024) : iblk m c 8 t (ix2 r b) = argD m c (ix2 (rowOf (blockOf t) r) b) := by
  rw [← V_d]
  unfold iblk
  show V m c main_arg4 _ = _
  generalize V m c main_arg4 = A
  blk_ext [idxRow8 t]
theorem read_rep (h : Fin 4) (a b : Fin 256) : iblk m c 5 t (ix3 h a b) = entR m c (ix3 h a b) := by
  unfold iblk
  show V m c main_v92 _ = _
  unfold entR
  generalize V m c main_v92 = A
  blk_ext [idxRow5 t]
theorem read_blk6 (A : Vec Ideal S33x4x512x256 .bf16) (h : Fin 4) (i : Fin 512) (j : Fin 256) :
    View.read (Elt Ideal) ((cfg0.win 6).blk t).view A (ix4 0 h i j) = A (ix4 (blockOf t) h i j) := by
  blk_simp [idxRow6 t]
  congr 1
  blk_ext [idxRow6 t]
theorem read_p (h : Fin 4) (i : Fin 512) (j : Fin 256) : iblk m c 6 t (ix4 0 h i j) = entP m c (ix4 (blockOf t) h i j) :=
  read_blk6 t (V m c main_v77) h i j
theorem read_ps (i : Fin 512) (b : Fin 128) : iblk m c 7 t (ix3 0 i b) = entS m c (ix3 (blockOf t) i b) := by
  unfold iblk
  show V m c main_v81 _ = _
  unfold entS
  generalize V m c main_v81 = A
  blk_ext [idxRow7 t]

/-- The row of the keys that the body puts at place `j` for a point. -/
def keyAt (j : Fin 256) : Fin 4224 :=
  if h : j.val < 128 then ⟨(t.val - 1) * 128 + j.val, by have := lt33 t; omega⟩ else ⟨t.val * 128 + (j.val - 128), by have := lt33 t; omega⟩

/-- It is the reference's where a query can see it. -/
theorem keyAt_vis (j : Fin 256) (hv : Vis (blockOf t) r j) : keyAt t j = keyRow (blockOf t) j := by
  obtain ⟨h1, h2, h3⟩ := hv
  have e : (blockOf t).val = t.val := rfl
  unfold keyAt
  split <;> apply Fin.ext <;> simp only [] <;> omega

theorem pay17_at (A B : Vec Ideal S128x256 .f32) (j a : Fin 256) :
    k0_pay17 A B (ix2 j a) = if h : j.val < 128 then A (ix2 ⟨j.val, h⟩ a) else B (ix2 ⟨j.val - 128, by omega⟩ a) := by
  pointwise [k0_pay17]

theorem keys_at (j a : Fin 256) : k0_pay17 (iblk m c 1 t) (iblk m c 2 t) (ix2 j a) = argK m c (ix2 (keyAt t j) a) := by
  rw [pay17_at]
  unfold keyAt
  split
  · exact read_kp m c t ⟨j.val, _⟩ a
  · exact read_kc m c t ⟨j.val - 128, _⟩ a
theorem vals_at (j a : Fin 256) : k0_pay18 (iblk m c 3 t) (iblk m c 4 t) (ix2 j a) = argV m c (ix2 (keyAt t j) a) := by
  refine (pay17_at _ _ j a).trans ?_
  unfold keyAt
  split
  · exact read_vp m c t ⟨j.val, _⟩ a
  · exact read_vc m c t ⟨j.val - 128, _⟩ a

theorem spread_ld (x : Vec Ideal S4x256x256 .bf16) (h : Fin 4) (a b : Fin 256) : spreadOf x h (ix3 0 a b) = x (ix3 h a b) := by
  unfold spreadOf
  pointwise []
theorem probs_ld (x : Vec Ideal S1x4x512x256 .bf16) (h : Fin 4) (i : Fin 512) (j : Fin 256) : probsOf x h (ix2 i j) = x (ix4 0 h i j) := by
  unfold probsOf
  pointwise [k0_pay35]
theorem cols_ld (x : Vec Ideal S128x1024 .f32) (h : Fin 4) (r : Fin 128) (b : Fin 256) : colsOf x h (ix2 r b) = x (ix2 r ⟨256 * h.val + b.val, by omega⟩) := by
  unfold colsOf
  pointwise []

section Real
variable (hq : IsReal (argQ m c)) (hk : IsReal (argK m c)) (hv : IsReal (argV m c)) (hs : IsReal (argS m c)) (hd : IsReal (argD m c))
variable (h g : Fin 4) (j : Fin 256) (x : Fin 64)

/-- What the block's numbers are, as real numbers. -/
def keysR (j a : Fin 256) : ℝ := (argK m c (ix2 (keyAt t j) a)).toReal
def valsR (j a : Fin 256) : ℝ := (argV m c (ix2 (keyAt t j) a)).toReal
def probsR (g : Fin 4) (r : Fin 128) (j : Fin 256) : ℝ := prob (argQ m c) (argK m c) (argS m c) (blockOf t) h g r j
def queriesR (r : Fin 128) (b : Fin 256) : ℝ := (argQ m c (ix2 (rowOf (blockOf t) r) ⟨256 * h.val + b.val, by omega⟩)).toReal
def cotsR (r : Fin 128) (b : Fin 256) : ℝ := (argD m c (ix2 (rowOf (blockOf t) r) ⟨256 * h.val + b.val, by omega⟩)).toReal

include hq hk hv hs hd
theorem head_real : HeadReal h (k0_pay17 (iblk m c 1 t) (iblk m c 2 t)) (k0_pay18 (iblk m c 3 t) (iblk m c 4 t)) (spreadOf (iblk m c 5 t) h) (probsOf (iblk m c 6 t) h)
    (colsOf (iblk m c 0 t) h) (colsOf (iblk m c 8 t) h) (keysR m c t) (valsR m c t) (probsR m c t h) (queriesR m c t h) (cotsR m c t h) where
  keys j a := by rw [keys_at]; exact coe_toReal (hk _)
  vals j a := by rw [vals_at]; exact coe_toReal (hv _)
  spread a g x := by
    rw [spread_ld, read_rep, entR_at]
    have e : (g.val * 64 + x.val) % 64 = x.val := by omega
    have e' : (⟨g.val * 64 + x.val, by omega⟩ : Fin 256).val = g.val * 64 + x.val := rfl
    rw [e', e]
    refine if_congr ?_ rfl rfl
    rw [Fin.ext_iff]
    simp only []
    omega
  probs g r j := by
    rw [probs_ld, read_p]
    exact (entP_at m c (blockOf t) h g r j).trans (prob_coe _ _ _ _ _ _ _ _ hq hk hs)
  queries r b := by rw [cols_ld, read_q]; exact coe_toReal (hq _)
  cots r b := by rw [cols_ld, read_d]; exact coe_toReal (hd _)
end Real
end Cert.Proof.Swa
end
-- ==== Proof.SwaParts.lean ====
module

public import proofs.«01_k».proof.Proof.SwaPoint

@[expose] public section
set_option maxRecDepth 16384
noncomputable section
namespace Cert.Proof.Swa
open Cert.KernelIdeal Cert.KernelIdeal.Gen Idealize.ShloMosaic Idealize.ShloMosaic.TcCoe Idealize.SL.Sem Pipeline

section
variable (m : (ℓ : Loc nD τ sig) → Buf (Elt Ideal) ℓ) (c : Dev nD) (t : Fin cfg0.N)
variable (hq : IsReal (argQ m c)) (hk : IsReal (argK m c)) (hv : IsReal (argV m c)) (hs : IsReal (argS m c)) (hd : IsReal (argD m c))
variable (h g : Fin 4) (r : Fin 128) (j : Fin 256) (x : Fin 64)

theorem col_eq : (⟨256 * h.val + (⟨g.val * 64 + x.val, by omega⟩ : Fin 256).val, by simp only []; omega⟩ : Fin 1024) = qCol h g x :=
  Fin.ext (by simp only []; omega)

include hq hk hs
/-- A probability times its gradient: where no query sees the key, both are zero. -/
theorem prob_dp : probsR m c t h g r j * headDP h (valsR m c t) (cotsR m c t h) g r j
    = prob (argQ m c) (argK m c) (argS m c) (blockOf t) h g r j * dprob (argV m c) (argD m c) (blockOf t) h g r j := by
  by_cases hvis : Vis (blockOf t) r j
  · unfold probsR headDP dprob valsR cotsR
    rw [keyAt_vis t r j hvis]
    congr 1
    refine Finset.sum_congr rfl fun x _ => ?_
    rw [col_eq]
  · unfold probsR
    rw [prob_hidden _ _ _ _ _ _ _ _ hq hk hs hvis, zero_mul, zero_mul]

theorem head_delta : headDelta h (valsR m c t) (probsR m c t h) (cotsR m c t h) g r
    = delta (argQ m c) (argK m c) (argV m c) (argS m c) (argD m c) (blockOf t) h g r := by
  unfold headDelta delta
  exact Finset.sum_congr rfl fun j _ => prob_dp m c t hq hk hs h g r j

theorem head_ds : headDS h (valsR m c t) (probsR m c t h) (cotsR m c t h) g r j
    = dscore (argQ m c) (argK m c) (argV m c) (argS m c) (argD m c) (blockOf t) h g r j := by
  unfold headDS dscore
  rw [head_delta m c t hq hk hs, mul_sub, mul_sub, prob_dp m c t hq hk hs]
  rfl

include hv hd
/-- A point's part of the queries' gradient is the reference's. -/
theorem dq_point : dqAt m c t h (ix2 r ⟨g.val * 64 + x.val, by omega⟩)
    = (gradQ (argQ m c) (argK m c) (argV m c) (argS m c) (argD m c) (blockOf t) h g r x : EReal) := by
  unfold dqAt blockDq blockDs
  rw [dq_real (head_real m c t hq hk hv hs hd h)]
  congr 1
  unfold gradQ
  refine Finset.sum_congr rfl fun j _ => ?_
  rw [head_ds m c t hq hk hs]
  by_cases hvis : Vis (blockOf t) r j
  · unfold keysR
    rw [keyAt_vis t r j hvis]
  · rw [dscore_hidden _ _ _ _ _ _ _ _ _ _ hq hk hs hvis, zero_mul, zero_mul]

theorem dk_point (h' : Fin 4) : dkAt m c t h (ix2 j ⟨h'.val * 64 + x.val, by omega⟩)
    = ((if h' = h then partK (argQ m c) (argK m c) (argV m c) (argS m c) (argD m c) (blockOf t) h j x else 0 : ℝ) : EReal) := by
  have H := head_real m c t hq hk hv hs hd h
  unfold dkAt blockDk blockDs
  rw [back_real j x H.spread (fun j g x => dkeys_real H g j x) h']
  congr 2
  unfold partK
  refine Finset.sum_congr rfl fun g _ => Finset.sum_congr rfl fun r _ => ?_
  rw [head_ds m c t hq hk hs]
  unfold queriesR
  rw [col_eq]

theorem dv_point (h' : Fin 4) : dvAt m c t h (ix2 j ⟨h'.val * 64 + x.val, by omega⟩)
    = ((if h' = h then partV (argQ m c) (argK m c) (argS m c) (argD m c) (blockOf t) h j x else 0 : ℝ) : EReal) := by
  have H := head_real m c t hq hk hv hs hd h
  unfold dvAt blockDv
  rw [back_real j x H.spread (fun j g x => dvals_real H g j x) h']
  congr 2
  unfold partV
  refine Finset.sum_congr rfl fun g _ => Finset.sum_congr rfl fun r _ => ?_
  unfold cotsR
  rw [col_eq]
  rfl

theorem sink_point : sinkAt m c t h (ix2 ⟨g.val, by omega⟩ 0)
    = ((∑ r : Fin 128, -(psink (argQ m c) (argK m c) (argS m c) (blockOf t) h g r
        * delta (argQ m c) (argK m c) (argV m c) (argS m c) (argD m c) (blockOf t) h g r) : ℝ) : EReal) := by
  unfold sinkAt blockSink
  rw [dsink_real (head_real m c t hq hk hv hs hd h) g (S := fun g r => psink (argQ m c) (argK m c) (argS m c) (blockOf t) h g r) fun g r => by
    rw [sink_op, read_ps]
    exact (entS_at m c (blockOf t) h g r).trans (psink_coe _ _ _ _ _ _ _ hq hk hs)]
  congr 1
  refine Finset.sum_congr rfl fun r _ => ?_
  rw [head_delta m c t hq hk hs]
end

/-- The sum of the heads' parts, where only one head has one. -/
theorem four_one (f : Fin 4 → FVec Ideal S256x256 .f32) (i : S256x256.Idx) (h : Fin 4) (p : Fin 4 → ℝ)
    (hf : ∀ k, f k i = ((if h = k then p k else 0 : ℝ) : EReal)) : fourHeads f i = (p h : EReal) := by
  have e : fourHeads f i = (f 0 i + f 1 i) + (f 2 i + f 3 i) := by pointwise [k0_pay86]
  rw [e, hf, hf, hf, hf]
  revert h
  intro h
  fin_cases h <;> simp

end Cert.Proof.Swa
end
-- ==== Proof.SwaArrays.lean ====
module

public import proofs.«01_k».proof.Proof.SwaParts

@[expose] public section
set_option maxRecDepth 16384
noncomputable section
namespace Cert.Proof.Swa
open Cert.KernelIdeal Cert.KernelIdeal.Gen Idealize.ShloMosaic Idealize.ShloMosaic.TcCoe Idealize.SL.Sem Pipeline

section
variable (m : (ℓ : Loc nD τ sig) → Buf (Elt Ideal) ℓ) (c : Dev nD)
variable (hq : IsReal (argQ m c)) (hk : IsReal (argK m c)) (hv : IsReal (argV m c)) (hs : IsReal (argS m c)) (hd : IsReal (argD m c))

theorem idxOut9 : ∀ t : Fin cfg0.N, win0_9.index t = ![t.val, 0] := (by decide +kernel : ∀ t : Fin grid0.N, _)
theorem idxOut10 : ∀ t : Fin cfg0.N, win0_10.index t = ![t.val, 0] := (by decide +kernel : ∀ t : Fin grid0.N, _)
theorem idxOut11 : ∀ t : Fin cfg0.N, win0_11.index t = ![t.val, 0] := (by decide +kernel : ∀ t : Fin grid0.N, _)
theorem idxOut12 : ∀ t : Fin cfg0.N, win0_12.index t = ![t.val, 0] := (by decide +kernel : ∀ t : Fin grid0.N, _)
theorem idxOut13 : ∀ t : Fin cfg0.N, win0_13.index t = ![t.val, 0] := (by decide +kernel : ∀ t : Fin grid0.N, _)

/-- An array of the keys' shape, by block, head, row and place. -/
def partArr (f : Fin 33 → Fin 4 → Fin 128 → Fin 64 → ℝ) : Vec Ideal S4224x256 .f32 := fun i =>
  (f ⟨(i 0).val / 128, Nat.div_lt_of_lt_mul (i 0).isLt⟩ ⟨(i 1).val / 64, Nat.div_lt_of_lt_mul (i 1).isLt⟩
    ⟨(i 0).val % 128, Nat.mod_lt _ (by norm_num)⟩ ⟨(i 1).val % 64, Nat.mod_lt _ (by norm_num)⟩ : EReal)

theorem partArr_at (f : Fin 33 → Fin 4 → Fin 128 → Fin 64 → ℝ) (n : Fin 33) (h : Fin 4) (r : Fin 128) (x : Fin 64) :
    partArr f (ix2 (rowOf n r) (kCol h x)) = (f n h r x : EReal) := by
  unfold partArr
  congr 2 <;> first | (apply Fin.ext; simp only [ix2_0, ix2_1]; omega) | skip

theorem kCol_surj (b : Fin 256) : ∃ (h : Fin 4) (x : Fin 64), b = kCol h x :=
  ⟨⟨b.val / 64, by omega⟩, ⟨b.val % 64, by omega⟩, Fin.ext (by simp only []; omega)⟩
theorem qCol_surj (b : Fin 1024) : ∃ (h g : Fin 4) (x : Fin 64), b = qCol h g x :=
  ⟨⟨b.val / 256, by omega⟩, ⟨b.val / 64 % 4, by omega⟩, ⟨b.val % 64, by omega⟩, Fin.ext (by simp only []; omega)⟩

include hq hk hv hs hd

theorem final_dkc : (dats m 0 c).arrAt 10 cfg0.N = partArr fun n h r x => partK (argQ m c) (argK m c) (argV m c) (argS m c) (argD m c) n h ⟨128 + r.val, by omega⟩ x := by
  refine (dats m 0 c).arrAt_eq_of_covers 10 _ (by decide +kernel) fun t hf y => ?_
  have key : k0_pay88 (fourHeads (dkAt m c t)) y = partArr (fun n h r x => partK (argQ m c) (argK m c) (argV m c) (argS m c) (argD m c) n h ⟨128 + r.val, by omega⟩ x) (((View.whole main_v93_1).slice (win0_10.rect t)).emb y) := by
    obtain ⟨r, b, rfl⟩ : ∃ (r : Fin 128) (b : Fin 256), y = ix2 r b := ⟨_, _, eq_ix2 y⟩
    obtain ⟨h, x, rfl⟩ := kCol_surj b
    have ee : ((View.whole main_v93_1).slice (win0_10.rect t)).emb (ix2 r (kCol h x)) = ix2 (rowOf (blockOf t) r) (kCol h x) := by
      blk_ext [idxOut10 t]
    refine Eq.trans ?_ (congrArg (partArr fun n h r x => partK (argQ m c) (argK m c) (argV m c) (argS m c) (argD m c) n h ⟨128 + r.val, by omega⟩ x) ee).symm
    rw [partArr_at]
    refine Eq.trans ?_ (four_one (dkAt m c t) (ix2 ⟨128 + r.val, by omega⟩ (kCol h x)) h (fun k => partK (argQ m c) (argK m c) (argV m c) (argS m c) (argD m c) (blockOf t) k ⟨128 + r.val, by omega⟩ x) fun k => dk_point m c t hq hk hv hs hd k ⟨128 + r.val, by omega⟩ x h)
    generalize fourHeads (dkAt m c t) = X
    pointwise [k0_pay88]
  blk_simp
  rw [after0_10, outs_dkc]
  exact key

theorem final_dkp : (dats m 0 c).arrAt 11 cfg0.N = partArr fun n h r x => partK (argQ m c) (argK m c) (argV m c) (argS m c) (argD m c) n h ⟨r.val, by omega⟩ x := by
  refine (dats m 0 c).arrAt_eq_of_covers 11 _ (by decide +kernel) fun t hf y => ?_
  have key : k0_pay87 (fourHeads (dkAt m c t)) y = partArr (fun n h r x => partK (argQ m c) (argK m c) (argV m c) (argS m c) (argD m c) n h ⟨r.val, by omega⟩ x) (((View.whole main_v93_2).slice (win0_11.rect t)).emb y) := by
    obtain ⟨r, b, rfl⟩ : ∃ (r : Fin 128) (b : Fin 256), y = ix2 r b := ⟨_, _, eq_ix2 y⟩
    obtain ⟨h, x, rfl⟩ := kCol_surj b
    have ee : ((View.whole main_v93_2).slice (win0_11.rect t)).emb (ix2 r (kCol h x)) = ix2 (rowOf (blockOf t) r) (kCol h x) := by
      blk_ext [idxOut11 t]
    refine Eq.trans ?_ (congrArg (partArr fun n h r x => partK (argQ m c) (argK m c) (argV m c) (argS m c) (argD m c) n h ⟨r.val, by omega⟩ x) ee).symm
    rw [partArr_at]
    refine Eq.trans ?_ (four_one (dkAt m c t) (ix2 ⟨r.val, by omega⟩ (kCol h x)) h (fun k => partK (argQ m c) (argK m c) (argV m c) (argS m c) (argD m c) (blockOf t) k ⟨r.val, by omega⟩ x) fun k => dk_point m c t hq hk hv hs hd k ⟨r.val, by omega⟩ x h)
    generalize fourHeads (dkAt m c t) = X
    pointwise [k0_pay87]
  blk_simp
  rw [after0_11, outs_dkp]
  exact key

theorem final_dvc : (dats m 0 c).arrAt 12 cfg0.N = partArr fun n h r x => partV (argQ m c) (argK m c) (argS m c) (argD m c) n h ⟨128 + r.val, by omega⟩ x := by
  refine (dats m 0 c).arrAt_eq_of_covers 12 _ (by decide +kernel) fun t hf y => ?_
  have key : k0_pay88 (fourHeads (dvAt m c t)) y = partArr (fun n h r x => partV (argQ m c) (argK m c) (argS m c) (argD m c) n h ⟨128 + r.val, by omega⟩ x) (((View.whole main_v93_3).slice (win0_12.rect t)).emb y) := by
    obtain ⟨r, b, rfl⟩ : ∃ (r : Fin 128) (b : Fin 256), y = ix2 r b := ⟨_, _, eq_ix2 y⟩
    obtain ⟨h, x, rfl⟩ := kCol_surj b
    have ee : ((View.whole main_v93_3).slice (win0_12.rect t)).emb (ix2 r (kCol h x)) = ix2 (rowOf (blockOf t) r) (kCol h x) := by
      blk_ext [idxOut12 t]
    refine Eq.trans ?_ (congrArg (partArr fun n h r x => partV (argQ m c) (argK m c) (argS m c) (argD m c) n h ⟨128 + r.val, by omega⟩ x) ee).symm
    rw [partArr_at]
    refine Eq.trans ?_ (four_one (dvAt m c t) (ix2 ⟨128 + r.val, by omega⟩ (kCol h x)) h (fun k => partV (argQ m c) (argK m c) (argS m c) (argD m c) (blockOf t) k ⟨128 + r.val, by omega⟩ x) fun k => dv_point m c t hq hk hv hs hd k ⟨128 + r.val, by omega⟩ x h)
    generalize fourHeads (dvAt m c t) = X
    pointwise [k0_pay88]
  blk_simp
  rw [after0_12, outs_dvc]
  exact key

theorem final_dvp : (dats m 0 c).arrAt 13 cfg0.N = partArr fun n h r x => partV (argQ m c) (argK m c) (argS m c) (argD m c) n h ⟨r.val, by omega⟩ x := by
  refine (dats m 0 c).arrAt_eq_of_covers 13 _ (by decide +kernel) fun t hf y => ?_
  have key : k0_pay87 (fourHeads (dvAt m c t)) y = partArr (fun n h r x => partV (argQ m c) (argK m c) (argS m c) (argD m c) n h ⟨r.val, by omega⟩ x) (((View.whole main_v93_4).slice (win0_13.rect t)).emb y) := by
    obtain ⟨r, b, rfl⟩ : ∃ (r : Fin 128) (b : Fin 256), y = ix2 r b := ⟨_, _, eq_ix2 y⟩
    obtain ⟨h, x, rfl⟩ := kCol_surj b
    have ee : ((View.whole main_v93_4).slice (win0_13.rect t)).emb (ix2 r (kCol h x)) = ix2 (rowOf (blockOf t) r) (kCol h x) := by
      blk_ext [idxOut13 t]
    refine Eq.trans ?_ (congrArg (partArr fun n h r x => partV (argQ m c) (argK m c) (argS m c) (argD m c) n h ⟨r.val, by omega⟩ x) ee).symm
    rw [partArr_at]
    refine Eq.trans ?_ (four_one (dvAt m c t) (ix2 ⟨r.val, by omega⟩ (kCol h x)) h (fun k => partV (argQ m c) (argK m c) (argS m c) (argD m c) (blockOf t) k ⟨r.val, by omega⟩ x) fun k => dv_point m c t hq hk hv hs hd k ⟨r.val, by omega⟩ x h)
    generalize fourHeads (dvAt m c t) = X
    pointwise [k0_pay87]
  blk_simp
  rw [after0_13, outs_dvp]
  exact key

/-- The queries' gradient is the reference's. -/
theorem final_dq : (dats m 0 c).arrAt 9 cfg0.N = Cert.ReferenceIdeal.Read.val_main_v199 (F := Ideal) (argQ m c) (argK m c) (argV m c) (argS m c) (argD m c) := by
  refine (dats m 0 c).arrAt_eq_of_covers 9 _ (by decide +kernel) fun t hf y => ?_
  have key : View.canon (dqPieces (dqAt m c t)) y = Cert.ReferenceIdeal.Read.val_main_v199 (F := Ideal) (argQ m c) (argK m c) (argV m c) (argS m c) (argD m c) (((View.whole main_v93_0).slice (win0_9.rect t)).emb y) := by
    obtain ⟨r, b, rfl⟩ : ∃ (r : Fin 128) (b : Fin 1024), y = ix2 r b := ⟨_, _, eq_ix2 y⟩
    obtain ⟨h, g, x, rfl⟩ := qCol_surj b
    have ee : ((View.whole main_v93_0).slice (win0_9.rect t)).emb (ix2 r (qCol h g x)) = ix2 (rowOf (blockOf t) r) (qCol h g x) := by
      blk_ext [idxOut9 t]
    refine Eq.trans ?_ ((congrArg (Cert.ReferenceIdeal.Read.val_main_v199 (F := Ideal) (argQ m c) (argK m c) (argV m c) (argS m c) (argD m c)) ee).trans (reference_gradQ _ _ _ _ _ _ _ _ _ _ hq hk hv hs hd)).symm
    rw [← col_eq, dq_canon]
    exact dq_point m c t hq hk hv hs hd h g r x
  blk_simp
  rw [after0_9, outs_dq]
  exact key

/-- The last point. -/
def lastPt : Fin cfg0.N := ⟨32, by rw [show cfg0.N = 33 from N_0]; norm_num⟩

omit hq hk hv hs hd in
theorem sink_acc (j : S4x8x128.Idx) : (outsAt0 m c lastPt.val lastPt.isLt).2.2.2.2.2 j = ∑ t : Fin cfg0.N, sinkAt m c t (j 0) (ix2 (j 1) (j 2)) := by
  rw [Pipeline.eq_sum_fin_of_reset_step_apply_last (fun n h => (outsAt0 m c n h).2.2.2.2.2) 33 (fun _ => 0) (fun t j => sinkAt m c t (j 0) (ix2 (j 1) (j 2)))
    (fun t h j => by
      have := lt33 t
      obtain ⟨k, a, b, rfl⟩ : ∃ (k : Fin 4) (a : Fin 8) (b : Fin 128), j = ix3 k a b := ⟨_, _, _, eq_ix3 j⟩
      exact (sink_first m c t (by omega) k a b).trans (zero_add _).symm)
    (fun t h j => by
      obtain ⟨k, a, b, rfl⟩ : ∃ (k : Fin 4) (a : Fin 8) (b : Fin 128), j = ix3 k a b := ⟨_, _, _, eq_ix3 j⟩
      exact sink_next m c t (by omega) k a b)
    (le_of_eq N_0) lastPt N_0.symm j, zero_add]

omit hq hk hv hs hd in
theorem wholeSink : (cfg0.win 14).WholeAt lastPt := by decide +kernel

omit hq hk hv hs hd in
theorem final_sink : (dats m 0 c).arrAt 14 cfg0.N = fun j => ∑ t : Fin cfg0.N, sinkAt m c t (j 0) (ix2 (j 1) (j 2)) := by
  refine (dats m 0 c).arrAt_eq_of_after_last 14 lastPt wholeSink _ fun j => ?_
  rw [after0_14]
  blk_simp
  exact sink_acc m c j

omit hq hk hv hs hd in
theorem sum_pts {N : ℕ} (hN : N = 33) (F : Fin N → EReal) (f : Fin 33 → ℝ) (e : ∀ t : Fin N, F t = (f ⟨t.val, by omega⟩ : EReal)) : ∑ t, F t = ((∑ n, f n : ℝ) : EReal) := by
  subst hN
  rw [← sum_coe]
  exact Finset.sum_congr rfl fun t _ => e t

/-- The sums of the sinks' rows over the blocks are the sinks' gradient. -/
theorem sink_total (h g : Fin 4) : (dats m 0 c).arrAt 14 cfg0.N (ix3 h ⟨g.val, by omega⟩ 0) = (gradS (argQ m c) (argK m c) (argV m c) (argS m c) (argD m c) h g : EReal) := by
  rw [final_sink]
  unfold gradS
  exact sum_pts N_0 _ _ fun t => sink_point m c t hq hk hv hs hd h g
end
end Cert.Proof.Swa
end
-- ==== Proof.SwaTail.lean ====
module

public import proofs.«01_k».proof.Proof.SwaArrays

public import Idealize.ShloMosaic.Lib.ReduceAll
public import proofs.«01_k».proof.Pre_finite

@[expose] public section
set_option maxRecDepth 16384
noncomputable section
namespace Cert.Proof.Swa
open Cert.KernelIdeal Cert.KernelIdeal.Gen Idealize.ShloMosaic Idealize.ShloMosaic.TcCoe Idealize.SL.Sem Pipeline

section
variable (m : (ℓ : Loc nD τ sig) → Buf (Elt Ideal) ℓ) (c : Dev nD)

/-- What the lines after the region find. -/
def tailV : Valuation τ sig (Elt Ideal) := withArrays spec0 c (V0 m c) fun w => (dats m 0 c).arrAt w cfg0.N

theorem tail_arr (w : Fin cfg0.W) : tailV m c (Proc.devRef .tc (Pipeline.arrRef spec0 w)) = (dats m 0 c).arrAt w cfg0.N :=
  (dats m 0 c).withArrays_arrAt launch₀0.sharedIn (V0 m c) (fun w => A_eq m c w) w

theorem tail_read (b : Ref sig .tc) : Pipeline.afterTail₀ cfgs (dats m) 0 (V0 m) [hostOps1] c b = StableHlo.after hostOps1 (tailV m c) (Proc.devRef .tc b) := by
  show StableHlo.after (List.flatten [hostOps1]) (tailV m c) (Proc.devRef .tc b) = _
  rw [List.flatten_cons, List.flatten_nil, List.append_nil]

/-- One block's rows and the next block's, added. -/
def shifted (a b : Vec Ideal S4224x256 .f32) : FVec Ideal S4224x256 .f32 :=
  addf a (concatenate S4224x256 0 [⟨S4096x256, extractStridedSlice S4096x256 ![128, 0] b slices_S4224x256_S4096x256_128_0⟩,
    ⟨S128x256, broadcastInDim S128x256 ![] bcast_S_S128x256 (constant (F := Ideal) S_ .f32 0x00000000#32)⟩] concatenates_S4096x256_S128x256_S4224x256_d0)

theorem tail_dk (W : Valuation τ sig (Elt Ideal)) : StableHlo.after hostOps1 W (Proc.devRef .tc main_v102)
    = shifted (W (Proc.devRef .tc main_v93_1)) (W (Proc.devRef .tc main_v93_2)) := by
  simp only [hostOps1]
  after_results_simp
  rfl
theorem tail_dv (W : Valuation τ sig (Elt Ideal)) : StableHlo.after hostOps1 W (Proc.devRef .tc main_v103)
    = shifted (W (Proc.devRef .tc main_v93_3)) (W (Proc.devRef .tc main_v93_4)) := by
  simp only [hostOps1]
  after_results_simp
  rfl
/-- The sinks' row of the sums. -/
def sinkRow (a : Vec Ideal S4x8x128 .f32) : Vec Ideal S1x16 .f32 :=
  shapeCast S1x16 (shapeCast S4x4 (extractStridedSlice S4x4x1 ![0, 0, 0] a slices_S4x8x128_S4x4x1_0_0_0) shapeCasts_S4x4x1_S4x4) shapeCasts_S4x4_S1x16
theorem tail_ds (W : Valuation τ sig (Elt Ideal)) : StableHlo.after hostOps1 W (Proc.devRef .tc main_v96) = sinkRow (W (Proc.devRef .tc main_v93_5)) := by
  simp only [hostOps1]
  after_results_simp
  rfl

theorem rowOf_surj (R : Fin 4224) : ∃ (n : Fin 33) (r : Fin 128), R = rowOf n r :=
  ⟨⟨R.val / 128, by omega⟩, ⟨R.val % 128, by omega⟩, Fin.ext (by simp only []; omega)⟩

theorem shift_at (a b : Vec Ideal S4224x256 .f32) (n : Fin 33) (r : Fin 128) (x : Fin 256) :
    shifted a b (ix2 (rowOf n r) x) = a (ix2 (rowOf n r) x) + if hn : n.val + 1 < 33 then b (ix2 (rowOf ⟨n.val + 1, hn⟩ r) x) else 0 := by
  unfold shifted
  pointwise []
  congr 1
  by_cases hn : n.val + 1 < 33
  · rw [dif_pos hn, dif_pos (by omega)]
    exact congrArg (fun R => b (ix2 R x)) (Fin.ext (by simp only []; omega))
  · rw [dif_neg hn, dif_neg (by omega)]
theorem sinkRow_at (a : Vec Ideal S4x8x128 .f32) (h g : Fin 4) : sinkRow a (ix2 0 ⟨h.val * 4 + g.val, by omega⟩) = a (ix3 h ⟨g.val, by omega⟩ 0) := by
  unfold sinkRow
  pointwise []

section Real
variable (hq : IsReal (argQ m c)) (hk : IsReal (argK m c)) (hv : IsReal (argV m c)) (hs : IsReal (argS m c)) (hd : IsReal (argD m c))
include hq hk hv hs hd

theorem tail_gradK : Pipeline.afterTail₀ cfgs (dats m) 0 (V0 m) [hostOps1] c main_v102 = Cert.ReferenceIdeal.Read.val_main_v198 (F := Ideal) (argQ m c) (argK m c) (argV m c) (argS m c) (argD m c) := by
  refine (tail_read m c main_v102).trans ?_
  funext i
  obtain ⟨R, b, rfl⟩ : ∃ (R : Fin 4224) (b : Fin 256), i = ix2 R b := ⟨_, _, eq_ix2 i⟩
  obtain ⟨n, r, rfl⟩ := rowOf_surj R
  obtain ⟨h, x, rfl⟩ := kCol_surj b
  refine (congrFun (tail_dk _) _).trans ?_
  rw [reference_gradK _ _ _ _ _ n h r x hq hk hv hs hd]
  rw [shift_at]
  have ec : tailV m c (Proc.devRef .tc main_v93_1) = _ := (tail_arr m c 10).trans (final_dkc m c hq hk hv hs hd)
  have ep : tailV m c (Proc.devRef .tc main_v93_2) = _ := (tail_arr m c 11).trans (final_dkp m c hq hk hv hs hd)
  rw [ec, ep, partArr_at]
  unfold gradK nextBlock
  rw [EReal.coe_add]
  congr 1
  split
  · exact partArr_at _ _ _ _ _
  · exact EReal.coe_zero.symm

theorem tail_gradV : Pipeline.afterTail₀ cfgs (dats m) 0 (V0 m) [hostOps1] c main_v103 = Cert.ReferenceIdeal.Read.val_main_v197 (F := Ideal) (argQ m c) (argK m c) (argS m c) (argD m c) := by
  refine (tail_read m c main_v103).trans ?_
  funext i
  obtain ⟨R, b, rfl⟩ : ∃ (R : Fin 4224) (b : Fin 256), i = ix2 R b := ⟨_, _, eq_ix2 i⟩
  obtain ⟨n, r, rfl⟩ := rowOf_surj R
  obtain ⟨h, x, rfl⟩ := kCol_surj b
  refine (congrFun (tail_dv _) _).trans ?_
  rw [reference_gradV _ _ (argV m c) _ _ n h r x hq hk hv hs hd]
  rw [shift_at]
  have ec : tailV m c (Proc.devRef .tc main_v93_3) = _ := (tail_arr m c 12).trans (final_dvc m c hq hk hv hs hd)
  have ep : tailV m c (Proc.devRef .tc main_v93_4) = _ := (tail_arr m c 13).trans (final_dvp m c hq hk hv hs hd)
  rw [ec, ep, partArr_at]
  unfold gradV nextBlock
  rw [EReal.coe_add]
  congr 1
  split
  · exact partArr_at _ _ _ _ _
  · exact EReal.coe_zero.symm

theorem tail_gradS : Pipeline.afterTail₀ cfgs (dats m) 0 (V0 m) [hostOps1] c main_v96 = Cert.ReferenceIdeal.Read.val_main_v163 (F := Ideal) (argQ m c) (argK m c) (argV m c) (argS m c) (argD m c) := by
  refine (tail_read m c main_v96).trans ?_
  funext i
  obtain ⟨z, b, rfl⟩ : ∃ (z : Fin 1) (b : Fin 16), i = ix2 z b := ⟨_, _, eq_ix2 i⟩
  obtain rfl : z = 0 := Subsingleton.elim _ _
  obtain ⟨h, g, rfl⟩ : ∃ (h g : Fin 4), b = ⟨h.val * 4 + g.val, by omega⟩ := ⟨⟨b.val / 4, by omega⟩, ⟨b.val % 4, by omega⟩, Fin.ext (by simp only []; omega)⟩
  refine (congrFun (tail_ds _) _).trans ?_
  rw [gradS_at _ _ _ _ _ h g hq hk hv hs hd, sinkRow_at]
  exact (congrFun (tail_arr m c 14) _).trans (sink_total m c hq hk hv hs hd h g)
end Real
end

/-- The printed precondition's side conditions. -/
theorem pre_facts : Cert.Pre_finite.Facts where
  bcast_S_S4224x1024 := by decide
  reducesTo_S4224x1024_S_d0_1 := by decide
  h_S_ := by decide
  bcast_S_S4224x256 := by decide
  reducesTo_S4224x256_S_d0_1 := by decide
  bcast_S_S1x16 := by decide
  reducesTo_S1x16_S_d0_1 := by decide

theorem inf_word : Ideal.ofBits .f32 0x7F800000#32 = ⊤ := by simp [Ideal.ofBits, Ideal.ieee]
theorem real_of_abs (y : EReal) (h : Ideal.cmp .olt (max y (-y)) (Ideal.ofBits .f32 0x7F800000#32) = 1#1) : ∃ x : ℝ, y = (x : EReal) := by
  rw [inf_word] at h
  induction y using EReal.rec with
  | bot => simp [Ideal.cmp] at h
  | coe x => exact ⟨x, rfl⟩
  | top => simp [Ideal.cmp] at h

theorem and_one : ∀ a b : BitVec 1, a &&& b = 1#1 → a = 1#1 ∧ b = 1#1 := by decide

theorem all_real {S : Shape} (x : FVec Ideal S .f32) {axes : List (Fin S.rank)} (hb : Cert.Pre_finite.S_.BroadcastsInDim S (![] : Fin 0 → Fin S.rank))
    (hr : S.ReducesTo axes Cert.Pre_finite.S_) (hu : 0 < Cert.Pre_finite.S_.numel) (j : Cert.Pre_finite.S_.Idx)
    (h : Host.reduce IntOp.andi (cmpf .olt (Host.absf x) (broadcastInDim S ![] hb (constant (F := Ideal) Cert.Pre_finite.S_ .f32 0x7F800000#32))) (constantI Cert.Pre_finite.S_ 1 1#1) hr hu j = 1#1) : IsReal x :=
  fun i => real_of_abs (x i) (Host.reduce_andi_all _ _ hr hu j h i)

/-- The precondition says that the arguments are real numbers. -/
theorem args_real (a : Vec Ideal S4224x1024 .f32) (b v : Vec Ideal S4224x256 .f32) (s : Vec Ideal S1x16 .f32) (d : Vec Ideal S4224x1024 .f32)
    (h : @Cert.Pre_finite.fn pre_facts Ideal _ a b v s d = fun _ => 1#1) : IsReal a ∧ IsReal b ∧ IsReal v ∧ IsReal s ∧ IsReal d := by
  have h0 := congrFun h (Shape.Idx.first pre_facts.h_S_)
  dsimp only [Cert.Pre_finite.fn, Cert.Pre_finite.fn_part1] at h0
  obtain ⟨h1, hd⟩ := and_one _ _ h0
  obtain ⟨h2, hs⟩ := and_one _ _ h1
  obtain ⟨h3, hv⟩ := and_one _ _ h2
  obtain ⟨ha, hb⟩ := and_one _ _ h3
  exact ⟨all_real _ _ _ _ _ ha, all_real _ _ _ _ _ hb, all_real _ _ _ _ _ hv, all_real _ _ _ _ _ hs, all_real _ _ _ _ _ hd⟩
end Cert.Proof.Swa
end
-- ==== Proof.SwaClaims.lean ====
module

public import proofs.«01_k».proof.Defs
public import proofs.«01_k».proof.Proof.SwaTail
public import proofs.«01_k».proof.Proof.Gen.Kernel.Frame
public import proofs.«01_k».proof.Proof.Gen.ReferenceIdeal.Run

@[expose] public section

set_option maxRecDepth 16384

noncomputable section

namespace Cert.Proof.Swa

open Idealize.ShloMosaic Idealize.SL.Sem

/-- The call with its host lines, run on any values: it ends without fault, its argument arrays and its counters as they were. -/
theorem frame_kernel : Cert.quiescent_Kernel := fun m ρ _ => Cert.Kernel.Gen.frame m ρ

theorem frame_ideal : Cert.quiescent_KernelIdeal := fun m ρ _ => Cert.KernelIdeal.Gen.frame m ρ

/-- The reference ends without fault, its argument arrays and its counters as they were. -/
theorem frame_reference : Cert.quiescent_ReferenceIdeal := fun m ρ _ =>
  (θ_run _ _ _).mono (fun r h => ⟨fun c => (h c).2.2.2.2, sem_eq_zero_of_no_sems (by decide) r.2⟩) (Cert.ReferenceIdeal.Value.run m ρ)

/-- The two frames again, from memories whose arguments are finite. -/
theorem frame_ideal_pre : @Cert.quiescent_KernelIdeal_pre_finite Cert.KernelIdeal.Gen.facts pre_facts := fun m ρ _ => Cert.KernelIdeal.Gen.frame m ρ

theorem frame_reference_pre : @Cert.quiescent_ReferenceIdeal_pre_finite Cert.ReferenceIdeal.Gen.facts pre_facts := fun m ρ _ =>
  frame_reference m ρ trivial

/-- Finite arguments: the call's four gradients are the reference's. -/
theorem values : @Cert.algebraic_KernelIdeal_ReferenceIdeal_pre_finite Cert.KernelIdeal.Gen.facts Cert.ReferenceIdeal.Gen.facts pre_facts := fun m ρ m' ρ' hpre hag => by
  have hreal := fun c => args_real _ _ _ _ _ (hpre c)
  refine ⟨fun c => Cert.ReferenceIdeal.Read.val_main_v199 (F := Ideal) (argQ m c) (argK m c) (argV m c) (argS m c) (argD m c),
    fun c => Cert.ReferenceIdeal.Read.val_main_v198 (F := Ideal) (argQ m c) (argK m c) (argV m c) (argS m c) (argD m c),
    fun c => Cert.ReferenceIdeal.Read.val_main_v197 (F := Ideal) (argQ m c) (argK m c) (argS m c) (argD m c),
    fun c => Cert.ReferenceIdeal.Read.val_main_v163 (F := Ideal) (argQ m c) (argK m c) (argV m c) (argS m c) (argD m c), ?_, ?_⟩
  · refine (θ_run _ _ _).mono (fun r h c => ?_) (θ_run_and (Cert.KernelIdeal.Gen.run_main m ρ) (Cert.KernelIdeal.Gen.unchanged m ρ))
    obtain ⟨hq, hk, hv, hs, hd⟩ := hreal c
    exact ⟨((h.1 c).1 9).trans (final_dq m c hq hk hv hs hd),
      ((h.1 c).2 _ (by decide +kernel)).trans (tail_gradK m c hq hk hv hs hd),
      ((h.1 c).2 _ (by decide +kernel)).trans (tail_gradV m c hq hk hv hs hd),
      ((h.1 c).2 _ (by decide +kernel)).trans (tail_gradS m c hq hk hv hs hd), h.2 c⟩
  · refine (θ_run _ _ _).mono (fun r h c => ?_) (Cert.ReferenceIdeal.Value.run m' ρ')
    obtain ⟨e0, e1, e2, e3, e4⟩ := hag c
    obtain ⟨h0, h1, h2, h3, h4⟩ := h c
    refine ⟨h0.trans ?_, h1.trans ?_, h2.trans ?_, h3.trans ?_, h4⟩
    · rw [Cert.ReferenceIdeal.Read.val_main_v199_eq]; exact congr (congr (congr (congr (congrArg _ e0) e1) e2) e3) e4
    · rw [Cert.ReferenceIdeal.Read.val_main_v198_eq]; exact congr (congr (congr (congr (congrArg _ e0) e1) e2) e3) e4
    · rw [Cert.ReferenceIdeal.Read.val_main_v197_eq]; exact congr (congr (congr (congrArg _ e0) e1) e3) e4
    · rw [Cert.ReferenceIdeal.Read.val_main_v163_eq]; exact congr (congr (congr (congr (congrArg _ e0) e1) e2) e3) e4

end Cert.Proof.Swa
end
-- ==== Proof.MlpTile.lean ====
module

public import proofs.«01_k».proof.Proof.Gen.MlpIdeal.Frame
public import proofs.«01_k».proof.Proof.Gen.MlpRefIdeal.Read
public import Idealize.ShloMosaic.Lib.Claim
public import Idealize.ShloMosaic.Lib.Tactic
public import Idealize.ShloMosaic.Lib.Pointwise
public import Idealize.ShloMosaic.Lib.Pipeline.ValueKit.Point
public import Idealize.ShloMosaic.Lib.Pipeline.ReadBack

@[expose] public section
set_option maxRecDepth 16384
noncomputable section
namespace Cert.Proof.Mlp
open Cert.MlpIdeal Cert.MlpIdeal.Gen Idealize.ShloMosaic Idealize.ShloMosaic.TcCoe Idealize.SL.Sem Pipeline

/-! What one tile's operations compute. -/

theorem relu_at (u : Vec Ideal S1x528x1024 .bf16) (r : Fin 528) (x : Fin 1024) : k0_pay4 u (ix2 r x) = max (u (ix3 0 r x)) 0 := by
  pointwise [k0_pay4]

theorem two_word : Ideal.ofBits .f32 0x40000000#32 = 2 := by
  simp [Ideal.ofBits, Ideal.ieee, -EReal.coe_mul]
  norm_num
  rfl

theorem hidden_at (z : Vec Ideal S528x1024 .f32) (w : Vec Ideal S1x1024x1024 .bf16) (u : Vec Ideal S1x528x1024 .bf16) (r : Fin 528) (x : Fin 1024) :
    k0_pay5 z w u (ix2 r x) = (∑ d : Fin 1024, z (ix2 r d) * w (ix3 0 x d)) * (2 * max (u (ix3 0 r x)) 0) := by
  rw [← relu_at]
  have e := two_word
  unfold k0_pay5
  generalize k0_pay4 u = R
  pointwise []
  rw [e]

theorem input_at (z : Vec Ideal S528x1024 .f32) (wu w : Vec Ideal S1x1024x1024 .bf16) (u : Vec Ideal S1x528x1024 .bf16) (r : Fin 528) (k : Fin 1024) :
    k0_pay8 z wu w u (ix3 0 r k) = ∑ x : Fin 1024, k0_pay5 z w u (ix2 r x) * wu (ix3 0 k x) := by
  unfold k0_pay8
  generalize k0_pay5 z w u = G
  pointwise []

theorem up_at (h z : Vec Ideal S528x1024 .f32) (w : Vec Ideal S1x1024x1024 .bf16) (u : Vec Ideal S1x528x1024 .bf16) (k x : Fin 1024) :
    k0_pay6 h z w u (ix2 k x) = ∑ r : Fin 528, h (ix2 r k) * k0_pay5 z w u (ix2 r x) := by
  unfold k0_pay6
  generalize k0_pay5 z w u = G
  pointwise []

theorem down_at (z : Vec Ideal S528x1024 .f32) (u : Vec Ideal S1x528x1024 .bf16) (x d : Fin 1024) :
    k0_pay7 z u (ix2 x d) = ∑ r : Fin 528, (k0_pay4 u (ix2 r x) * k0_pay4 u (ix2 r x)) * z (ix2 r d) := by
  unfold k0_pay7
  generalize k0_pay4 u = R
  pointwise []

theorem first_at (p : FVec Ideal S1024x1024 .f32) (k x : Fin 1024) : k0_pay2 p (ix3 0 k x) = p (ix2 k x) := by pointwise [k0_pay2]
theorem next_at (p : FVec Ideal S1024x1024 .f32) (a : Vec Ideal S1x1024x1024 .f32) (k x : Fin 1024) :
    k0_pay1 p a (ix3 0 k x) = a (ix3 0 k x) + p (ix2 k x) := by pointwise [k0_pay1]

variable (m : (ℓ : Loc nD τ sig) → Buf (Elt Ideal) ℓ) (c : Dev nD)

/-- The sums over the rows that one tile adds. -/
abbrev upAt (t : Fin cfg0.N) := k0_pay6 (iblk m c 0 t) (iblk m c 1 t) (iblk m c 3 t) (iblk m c 4 t)
abbrev downAt (t : Fin cfg0.N) := k0_pay7 (iblk m c 1 t) (iblk m c 4 t)

theorem outs_input (t : Fin cfg0.N) : (outsAt0 m c t.val t.isLt).1 = k0_pay8 (iblk m c 1 t) (iblk m c 2 t) (iblk m c 3 t) (iblk m c 4 t) := by
  by_cases h : t.val % 8 = 0
  · rw [outsAt0_A m c t (by omega) (by omega) (by omega) (by omega)]; frame_out
  · rw [outsAt0_B m c t (by omega) (by omega) (by omega) (by omega)]; frame_out
theorem outs_up_first (t : Fin cfg0.N) (h : t.val % 8 = 0) : (outsAt0 m c t.val t.isLt).2.1 = k0_pay2 (upAt m c t) := by
  rw [outsAt0_A m c t (by omega) (by omega) (by omega) (by omega)]; frame_out; rfl
theorem outs_down_first (t : Fin cfg0.N) (h : t.val % 8 = 0) : (outsAt0 m c t.val t.isLt).2.2 = k0_pay2 (downAt m c t) := by
  rw [outsAt0_A m c t (by omega) (by omega) (by omega) (by omega)]; frame_out
theorem outs_up_next (t : Fin cfg0.N) (h : ¬t.val % 8 = 0) :
    (outsAt0 m c t.val t.isLt).2.1 = k0_pay1 (upAt m c t) (outsAt0 m c (t.val - 1) (Nat.lt_of_le_of_lt (Nat.sub_le _ _) t.isLt)).2.1 := by
  rw [outsAt0_B m c t (by omega) (by omega) (by omega) (by omega)]; frame_out
theorem outs_down_next (t : Fin cfg0.N) (h : ¬t.val % 8 = 0) :
    (outsAt0 m c t.val t.isLt).2.2 = k0_pay1 (downAt m c t) (outsAt0 m c (t.val - 1) (Nat.lt_of_le_of_lt (Nat.sub_le _ _) t.isLt)).2.2 := by
  rw [outsAt0_B m c t (by omega) (by omega) (by omega) (by omega)]; frame_out; rfl

end Cert.Proof.Mlp
end
-- ==== Proof.Sums.lean ====
module

public import Mathlib.Data.EReal.Basic
public import Mathlib.Algebra.BigOperators.Fin

@[expose] public section
noncomputable section
namespace Cert.Proof

/-- A function of the first `N` numbers, zero beyond them. -/
def ext {N : ℕ} (f : Fin N → EReal) (n : ℕ) : EReal := if h : n < N then f ⟨n, h⟩ else 0

theorem ext_lt {N : ℕ} (f : Fin N → EReal) (n : ℕ) (h : n < N) : ext f n = f ⟨n, h⟩ := dif_pos h

theorem sum_range_tiles (f : ℕ → EReal) (J n : ℕ) : ∑ k ∈ Finset.range J, ∑ r : Fin n, f (n * k + r.val) = ∑ R ∈ Finset.range (J * n), f R := by
  induction J with
  | zero => simp
  | succ J ih =>
    rw [Finset.sum_range_succ, ih, Nat.succ_mul, Finset.sum_range_add, ← Fin.sum_univ_eq_sum_range (fun r => f (J * n + r)) n, mul_comm n J]

/-- The sums over `J` tiles of `n` rows are the sum over all rows. -/
theorem sum_tiles {N : ℕ} (J n : ℕ) (hN : J * n = N) (f : Fin N → EReal) : ∑ k ∈ Finset.range J, ∑ r : Fin n, ext f (n * k + r.val) = ∑ R : Fin N, f R := by
  rw [sum_range_tiles, hN, ← Fin.sum_univ_eq_sum_range]
  exact Finset.sum_congr rfl fun R _ => ext_lt f R.val R.isLt

end Cert.Proof
end
-- ==== Proof.MlpRefSide.lean ====
module

public import proofs.«01_k».proof.Proof.Gen.MlpRefIdeal.Read
public import proofs.«01_k».proof.Proof.Sums
public import Idealize.ShloMosaic.Lib.Claim
public import Idealize.ShloMosaic.Lib.Tactic
public import Idealize.ShloMosaic.Lib.Pointwise

@[expose] public section
set_option maxRecDepth 16384
noncomputable section
namespace Cert.Proof.Mlp
open Cert.MlpRefIdeal Cert.MlpRefIdeal.Gen Idealize.ShloMosaic Idealize.ShloMosaic.TcCoe Idealize.SL.Sem

variable (h z : Vec Ideal S4224x1024 .f32) (wu : Vec Ideal S1024x4096 .f32) (wd : Vec Ideal S4096x1024 .f32)

/-- The hidden layer before its relu, and the gradient by it. -/
def pre (R : Fin 4224) (C : Fin 4096) : EReal := ∑ k : Fin 1024, h (ix2 R k) * wu (ix2 k C)
def hid (R : Fin 4224) (C : Fin 4096) : EReal := (∑ d : Fin 1024, z (ix2 R d) * wd (ix2 C d)) * (2 * max (pre h wu R C) 0)

theorem ref_pre (R : Fin 4224) (C : Fin 4096) : Read.val_main_v0 (F := Ideal) h wu (ix2 R C) = pre h wu R C := by
  pointwise [Read.val_main_v0]
  rfl
theorem ref_relu (R : Fin 4224) (C : Fin 4096) : Read.val_main_v1 (F := Ideal) h wu (ix2 R C) = max (pre h wu R C) 0 := by
  have e := ref_pre h wu R C
  unfold Read.val_main_v1
  generalize Read.val_main_v0 (F := Ideal) h wu = U at *
  pointwise [Read.val_main_call0_v0, Read.val_main_call0_cst]
  rw [e]
theorem ref_back (R : Fin 4224) (C : Fin 4096) : Read.val_main_v9 (F := Ideal) z wd (ix2 R C) = ∑ d : Fin 1024, z (ix2 R d) * wd (ix2 C d) := by
  pointwise [Read.val_main_v9]

theorem two_ways (g p : EReal) : (if 0 < p then max p 0 * g + g * max p 0 else 0) = g * (2 * max p 0) := by
  by_cases hp : 0 < p
  · rw [if_pos hp, mul_comm (max p 0) g, show (2 : EReal) = 1 + 1 by norm_num, EReal.right_distrib_of_nonneg zero_le_one zero_le_one, one_mul,
      EReal.left_distrib_of_nonneg (le_max_right _ _) (le_max_right _ _)]
  · rw [if_neg hp, max_eq_right (not_lt.1 hp), mul_zero, mul_zero]

theorem ref_hid (R : Fin 4224) (C : Fin 4096) : Read.val_main_v14 (F := Ideal) h z wu wd (ix2 R C) = hid h z wu wd R C := by
  have e0 := ref_pre h wu R C
  have e1 := ref_relu h wu R C
  have e2 := ref_back z wd R C
  unfold Read.val_main_v14 Read.val_main_v12 Read.val_main_v10 Read.val_main_v11 Read.val_main_v3
  generalize Read.val_main_v0 (F := Ideal) h wu = U at *
  generalize Read.val_main_v1 (F := Ideal) h wu = P at *
  generalize Read.val_main_v9 (F := Ideal) z wd = G at *
  pointwise [Read.val_main_v13, Read.val_main_v2, Read.val_main_cst, Read.val_main_cst_1]
  rw [e0, e1, e2]
  unfold hid
  rw [← two_ways]

theorem ref_input (R : Fin 4224) (k : Fin 1024) : Read.val_main_v17 (F := Ideal) h z wu wd (ix2 R k) = ∑ C : Fin 4096, hid h z wu wd R C * wu (ix2 k C) := by
  have e := ref_hid h z wu wd R
  unfold Read.val_main_v17
  generalize Read.val_main_v14 (F := Ideal) h z wu wd = G at *
  pointwise []
  exact Finset.sum_congr rfl fun C _ => by rw [e C]
theorem ref_up (k : Fin 1024) (C : Fin 4096) : Read.val_main_v16 (F := Ideal) h z wu wd (ix2 k C) = ∑ R : Fin 4224, h (ix2 R k) * hid h z wu wd R C := by
  have e := fun R => ref_hid h z wu wd R C
  unfold Read.val_main_v16 Read.val_main_v15
  generalize Read.val_main_v14 (F := Ideal) h z wu wd = G at *
  pointwise []
  exact Finset.sum_congr rfl fun R _ => by rw [e R, mul_comm]
theorem ref_down (C : Fin 4096) (d : Fin 1024) :
    Read.val_main_v8 (F := Ideal) h z wu (ix2 C d) = ∑ R : Fin 4224, (max (pre h wu R C) 0 * max (pre h wu R C) 0) * z (ix2 R d) := by
  have e := fun R => ref_relu h wu R C
  unfold Read.val_main_v8 Read.val_main_v7 Read.val_main_v5
  generalize Read.val_main_v1 (F := Ideal) h wu = P at *
  pointwise []
  exact Finset.sum_congr rfl fun R _ => by rw [e R, mul_comm]

end Cert.Proof.Mlp
end
-- ==== Proof.MlpArrays.lean ====
module

public import proofs.«01_k».proof.Proof.MlpTile
public import proofs.«01_k».proof.Proof.MlpRefSide

@[expose] public section
set_option maxRecDepth 16384
noncomputable section
namespace Cert.Proof.Mlp
open Cert.MlpIdeal Cert.MlpIdeal.Gen Idealize.ShloMosaic Idealize.ShloMosaic.TcCoe Idealize.SL.Sem Pipeline

/-- Row `r` of tile `i`, column `x` of chunk `a`. -/
abbrev rowIx (i : Fin 8) (r : Fin 528) : Fin 4224 := ⟨528 * i.val + r.val, by omega⟩
abbrev colIx (a : Fin 4) (x : Fin 1024) : Fin 4096 := ⟨a.val * 1024 + x.val, by omega⟩

variable (m : (ℓ : Loc nD τ sig) → Buf (Elt Ideal) ℓ) (c : Dev nD)

/-- The arguments of device `c`. -/
abbrev argH : Vec Ideal S4224x1024 .f32 := m ((c : Thread nD τ).loc main_arg0)
abbrev argZ : Vec Ideal S4224x1024 .f32 := m ((c : Thread nD τ).loc main_arg1)
abbrev argU : Vec Ideal S1024x4096 .f32 := m ((c : Thread nD τ).loc main_arg2)
abbrev argW : Vec Ideal S4096x1024 .f32 := m ((c : Thread nD τ).loc main_arg3)

theorem V_h : V m c main_arg0 = argH m c := by
  show StableHlo.after hostOps0 (fun b => m (c, b)) (Proc.devRef .tc main_arg0) = _
  simp only [hostOps0]
  after_results_simp
theorem V_z : V m c main_arg1 = argZ m c := by
  show StableHlo.after hostOps0 (fun b => m (c, b)) (Proc.devRef .tc main_arg1) = _
  simp only [hostOps0]
  after_results_simp
theorem V_up : (V m c main_v2 : Vec Ideal S4x1024x1024 .bf16) = truncf (F := Ideal) .bf16 (transpose S4x1024x1024 [1, 0, 2] (shapeCast S1024x4x1024 (argU m c) shapeCasts_S1024x4096_S1024x4x1024) transposes_S1024x4x1024_S4x1024x1024_1_0_2) bitsLt_bf16_f32 := by
  show StableHlo.after hostOps0 (fun b => m (c, b)) (Proc.devRef .tc main_v2) = _
  simp only [hostOps0]
  after_results_simp
  rfl
theorem V_down : (V m c main_v4 : Vec Ideal S4x1024x1024 .bf16) = truncf (F := Ideal) .bf16 (shapeCast S4x1024x1024 (argW m c) shapeCasts_S4096x1024_S4x1024x1024) bitsLt_bf16_f32 := by
  show StableHlo.after hostOps0 (fun b => m (c, b)) (Proc.devRef .tc main_v4) = _
  simp only [hostOps0]
  after_results_simp
  rfl
theorem V_pre : (V m c main_v8 : Vec Ideal S4x4224x1024 .bf16) = truncf (F := Ideal) .bf16 (transpose S4x4224x1024 [1, 0, 2] (shapeCast S4224x4x1024 (Cert.MlpRefIdeal.Read.val_main_v0 (F := Ideal) (argH m c) (argU m c)) shapeCasts_S4224x4096_S4224x4x1024) transposes_S4224x4x1024_S4x4224x1024_1_0_2) bitsLt_bf16_f32 := by
  show StableHlo.after hostOps0 (fun b => m (c, b)) (Proc.devRef .tc main_v8) = _
  simp only [hostOps0]
  after_results_simp
  rfl

theorem up_entry (a : Fin 4) (k x : Fin 1024) : (V m c main_v2 : Vec Ideal S4x1024x1024 .bf16) (ix3 a k x) = argU m c (ix2 k (colIx a x)) := by
  rw [V_up]
  generalize argU m c = A
  pointwise []
theorem down_entry (a : Fin 4) (x d : Fin 1024) : (V m c main_v4 : Vec Ideal S4x1024x1024 .bf16) (ix3 a x d) = argW m c (ix2 (colIx a x) d) := by
  rw [V_down]
  generalize argW m c = A
  pointwise []
theorem pre_entry (a : Fin 4) (R : Fin 4224) (x : Fin 1024) : (V m c main_v8 : Vec Ideal S4x4224x1024 .bf16) (ix3 a R x) = pre (argH m c) (argU m c) R (colIx a x) := by
  rw [V_pre, ← ref_pre]
  generalize Cert.MlpRefIdeal.Read.val_main_v0 (F := Ideal) (argH m c) (argU m c) = A
  pointwise []

/-! The windows' blocks. -/

theorem idxW0 : ∀ t : Fin cfg0.N, win0_0.index t = ![t.val % 8, 0] := (by decide +kernel : ∀ t : Fin grid0.N, _)
theorem idxW1 : ∀ t : Fin cfg0.N, win0_1.index t = ![t.val % 8, 0] := (by decide +kernel : ∀ t : Fin grid0.N, _)
theorem idxW2 : ∀ t : Fin cfg0.N, win0_2.index t = ![t.val / 8, 0, 0] := (by decide +kernel : ∀ t : Fin grid0.N, _)
theorem idxW3 : ∀ t : Fin cfg0.N, win0_3.index t = ![t.val / 8, 0, 0] := (by decide +kernel : ∀ t : Fin grid0.N, _)
theorem idxW4 : ∀ t : Fin cfg0.N, win0_4.index t = ![t.val / 8, t.val % 8, 0] := (by decide +kernel : ∀ t : Fin grid0.N, _)
theorem idxW5 : ∀ t : Fin cfg0.N, win0_5.index t = ![t.val / 8, t.val % 8, 0] := (by decide +kernel : ∀ t : Fin grid0.N, _)
theorem idxW6 : ∀ t : Fin cfg0.N, win0_6.index t = ![t.val / 8, 0, 0] := (by decide +kernel : ∀ t : Fin grid0.N, _)
theorem idxW7 : ∀ t : Fin cfg0.N, win0_7.index t = ![t.val / 8, 0, 0] := (by decide +kernel : ∀ t : Fin grid0.N, _)

theorem lt32 (t : Fin cfg0.N) : t.val < 32 := lt_of_lt_of_eq t.isLt (show cfg0.N = 32 from N_0)

/-- The tile and the chunk of a point. -/
abbrev tileOf (t : Fin cfg0.N) : Fin 8 := ⟨t.val % 8, by omega⟩
abbrev chunkOf (t : Fin cfg0.N) : Fin 4 := ⟨t.val / 8, by have := lt32 t; omega⟩

variable (t : Fin cfg0.N)

theorem read_h (r : Fin 528) (k : Fin 1024) : iblk m c 0 t (ix2 r k) = argH m c (ix2 (rowIx (tileOf t) r) k) := by
  rw [← V_h]
  unfold iblk
  show V m c main_arg0 _ = _
  generalize V m c main_arg0 = A
  blk_ext [idxW0 t]
theorem read_z (r : Fin 528) (k : Fin 1024) : iblk m c 1 t (ix2 r k) = argZ m c (ix2 (rowIx (tileOf t) r) k) := by
  rw [← V_z]
  unfold iblk
  show V m c main_arg1 _ = _
  generalize V m c main_arg1 = A
  blk_ext [idxW1 t]
theorem read_up (k x : Fin 1024) : iblk m c 2 t (ix3 0 k x) = argU m c (ix2 k (colIx (chunkOf t) x)) := by
  rw [← up_entry]
  unfold iblk
  show V m c main_v2 _ = _
  generalize V m c main_v2 = A
  blk_ext [idxW2 t]
theorem read_down (x d : Fin 1024) : iblk m c 3 t (ix3 0 x d) = argW m c (ix2 (colIx (chunkOf t) x) d) := by
  rw [← down_entry]
  unfold iblk
  show V m c main_v4 _ = _
  generalize V m c main_v4 = A
  blk_ext [idxW3 t]
theorem read_pre (r : Fin 528) (x : Fin 1024) : iblk m c 4 t (ix3 0 r x) = pre (argH m c) (argU m c) (rowIx (tileOf t) r) (colIx (chunkOf t) x) := by
  rw [← pre_entry]
  unfold iblk
  show V m c main_v8 _ = _
  generalize V m c main_v8 = A
  blk_ext [idxW4 t]

/-- A point's gradient by the hidden layer. -/
theorem hid_point (r : Fin 528) (x : Fin 1024) : k0_pay5 (iblk m c 1 t) (iblk m c 3 t) (iblk m c 4 t) (ix2 r x)
    = hid (argH m c) (argZ m c) (argU m c) (argW m c) (rowIx (tileOf t) r) (colIx (chunkOf t) x) := by
  rw [hidden_at, read_pre]
  unfold hid
  congr 1
  exact Finset.sum_congr rfl fun d _ => by rw [read_z, read_down]

/-- The part of the input's gradient that one chunk of the hidden columns gives. -/
def inputPart (a : Fin 4) (R : Fin 4224) (k : Fin 1024) : EReal :=
  ∑ x : Fin 1024, hid (argH m c) (argZ m c) (argU m c) (argW m c) R (colIx a x) * argU m c (ix2 k (colIx a x))
/-- One row's term of the weights' gradients. -/
def upTerm (a : Fin 4) (k x : Fin 1024) (R : Fin 4224) : EReal :=
  argH m c (ix2 R k) * hid (argH m c) (argZ m c) (argU m c) (argW m c) R (colIx a x)
def downTerm (a : Fin 4) (x d : Fin 1024) (R : Fin 4224) : EReal :=
  (max (pre (argH m c) (argU m c) R (colIx a x)) 0 * max (pre (argH m c) (argU m c) R (colIx a x)) 0) * argZ m c (ix2 R d)

theorem input_point (r : Fin 528) (k : Fin 1024) : (outsAt0 m c t.val t.isLt).1 (ix3 0 r k) = inputPart m c (chunkOf t) (rowIx (tileOf t) r) k := by
  rw [outs_input, input_at]
  exact Finset.sum_congr rfl fun x _ => by rw [hid_point, read_up]
theorem up_point (k x : Fin 1024) : upAt m c t (ix2 k x) = ∑ r : Fin 528, ext (upTerm m c (chunkOf t) k x) (528 * (t.val % 8) + r.val) := by
  refine (up_at _ _ _ _ k x).trans ?_
  exact Finset.sum_congr rfl fun r _ => by rw [hid_point, read_h, ext_lt _ _ (by omega)]; rfl
theorem down_point (x d : Fin 1024) : downAt m c t (ix2 x d) = ∑ r : Fin 528, ext (downTerm m c (chunkOf t) x d) (528 * (t.val % 8) + r.val) := by
  refine (down_at _ _ x d).trans ?_
  exact Finset.sum_congr rfl fun r _ => by rw [relu_at, read_pre, read_z, ext_lt _ _ (by omega)]; rfl

/-- The last tile of a chunk holds the sums over all rows. -/
theorem up_last (h : t.val % 8 = 7) (k x : Fin 1024) : (outsAt0 m c t.val t.isLt).2.1 (ix3 0 k x) = ∑ R : Fin 4224, upTerm m c (chunkOf t) k x R := by
  have e := Pipeline.eq_sum_of_reset_step_divmod (fun n h => (outsAt0 m c n h).2.1 (ix3 0 k x)) 8 0
    (fun a i => if ha : a < 4 then ∑ r : Fin 528, ext (upTerm m c ⟨a, ha⟩ k x) (528 * i + r.val) else 0)
    (fun t h => by rw [outs_up_first m c t h, first_at, up_point, zero_add, dif_pos (chunkOf t).isLt])
    (fun t h => by rw [outs_up_next m c t h, next_at, up_point, dif_pos (chunkOf t).isLt]) t
  refine e.trans ?_
  rw [zero_add, h]
  simp only [dif_pos (chunkOf t).isLt]
  exact sum_tiles 8 528 rfl _
theorem down_last (h : t.val % 8 = 7) (x d : Fin 1024) : (outsAt0 m c t.val t.isLt).2.2 (ix3 0 x d) = ∑ R : Fin 4224, downTerm m c (chunkOf t) x d R := by
  have e := Pipeline.eq_sum_of_reset_step_divmod (fun n h => (outsAt0 m c n h).2.2 (ix3 0 x d)) 8 0
    (fun a i => if ha : a < 4 then ∑ r : Fin 528, ext (downTerm m c ⟨a, ha⟩ x d) (528 * i + r.val) else 0)
    (fun t h => by rw [outs_down_first m c t h, first_at, down_point, zero_add, dif_pos (chunkOf t).isLt])
    (fun t h => by rw [outs_down_next m c t h, next_at, down_point, dif_pos (chunkOf t).isLt]) t
  refine e.trans ?_
  rw [zero_add, h]
  simp only [dif_pos (chunkOf t).isLt]
  exact sum_tiles 8 528 rfl _

end Cert.Proof.Mlp
end
-- ==== Proof.MlpTail.lean ====
module

public import proofs.«01_k».proof.Proof.MlpArrays

@[expose] public section
set_option maxRecDepth 16384
noncomputable section
namespace Cert.Proof.Mlp
open Cert.MlpIdeal Cert.MlpIdeal.Gen Idealize.ShloMosaic Idealize.ShloMosaic.TcCoe Idealize.SL.Sem Pipeline

variable (m : (ℓ : Loc nD τ sig) → Buf (Elt Ideal) ℓ) (c : Dev nD)

theorem flush6 : ∀ t : Fin cfg0.N, (cfg0.win 6).flush t = true → t.val % 8 = 7 := (by decide +kernel : ∀ t : Fin grid0.N, _)
theorem flush7 : ∀ t : Fin cfg0.N, (cfg0.win 7).flush t = true → t.val % 8 = 7 := (by decide +kernel : ∀ t : Fin grid0.N, _)

/-- What the region leaves: the four parts of the input's gradient, and the weights' gradients in four chunks. -/
def inputArr : Vec Ideal S4x4224x1024 .f32 := fun i => inputPart m c (i 0) (i 1) (i 2)
def upArr : Vec Ideal S4x1024x1024 .f32 := fun i => ∑ R : Fin 4224, upTerm m c (i 0) (i 1) (i 2) R
def downArr : Vec Ideal S4x1024x1024 .f32 := fun i => ∑ R : Fin 4224, downTerm m c (i 0) (i 1) (i 2) R

theorem final_input : (dats m 0 c).arrAt 5 cfg0.N = inputArr m c := by
  refine (dats m 0 c).arrAt_eq_of_covers 5 _ (by decide +kernel) fun t hf y => ?_
  have key : (outsAt0 m c t.val t.isLt).1 y = inputArr m c (((View.whole main_v9_0).slice (win0_5.rect t)).emb y) := by
    obtain ⟨o, r, k, rfl⟩ : ∃ (o : Fin 1) (r : Fin 528) (k : Fin 1024), y = ix3 o r k := ⟨_, _, _, eq_ix3 y⟩
    obtain rfl : o = 0 := Subsingleton.elim _ _
    have ee : ((View.whole main_v9_0).slice (win0_5.rect t)).emb (ix3 0 r k) = ix3 (chunkOf t) (rowIx (tileOf t) r) k := by
      blk_ext [idxW5 t]
    exact (input_point m c t r k).trans (congrArg (inputArr m c) ee).symm
  blk_simp
  rw [after0_5]
  exact key
theorem final_up : (dats m 0 c).arrAt 6 cfg0.N = upArr m c := by
  refine (dats m 0 c).arrAt_eq_of_covers 6 _ (by decide +kernel) fun t hf y => ?_
  have key : (outsAt0 m c t.val t.isLt).2.1 y = upArr m c (((View.whole main_v9_1).slice (win0_6.rect t)).emb y) := by
    obtain ⟨o, k, x, rfl⟩ : ∃ (o : Fin 1) (k x : Fin 1024), y = ix3 o k x := ⟨_, _, _, eq_ix3 y⟩
    obtain rfl : o = 0 := Subsingleton.elim _ _
    have ee : ((View.whole main_v9_1).slice (win0_6.rect t)).emb (ix3 0 k x) = ix3 (chunkOf t) k x := by
      blk_ext [idxW6 t]
    exact (up_last m c t (flush6 t hf) k x).trans (congrArg (upArr m c) ee).symm
  blk_simp
  rw [after0_6]
  exact key
theorem final_down : (dats m 0 c).arrAt 7 cfg0.N = downArr m c := by
  refine (dats m 0 c).arrAt_eq_of_covers 7 _ (by decide +kernel) fun t hf y => ?_
  have key : (outsAt0 m c t.val t.isLt).2.2 y = downArr m c (((View.whole main_v9_2).slice (win0_7.rect t)).emb y) := by
    obtain ⟨o, k, x, rfl⟩ : ∃ (o : Fin 1) (k x : Fin 1024), y = ix3 o k x := ⟨_, _, _, eq_ix3 y⟩
    obtain rfl : o = 0 := Subsingleton.elim _ _
    have ee : ((View.whole main_v9_2).slice (win0_7.rect t)).emb (ix3 0 k x) = ix3 (chunkOf t) k x := by
      blk_ext [idxW7 t]
    exact (down_last m c t (flush7 t hf) k x).trans (congrArg (downArr m c) ee).symm
  blk_simp
  rw [after0_7]
  exact key

/-- What the lines after the region find. -/
def tailV : Valuation τ sig (Elt Ideal) := withArrays spec0 c (V0 m c) fun w => (dats m 0 c).arrAt w cfg0.N

theorem tail_arr (w : Fin cfg0.W) : tailV m c (Proc.devRef .tc (Pipeline.arrRef spec0 w)) = (dats m 0 c).arrAt w cfg0.N :=
  (dats m 0 c).withArrays_arrAt (SharedIn.of_injective winFacts0.arr_inj) (V0 m c) (fun w => A_eq m c w) w

theorem tail_read (b : Ref sig .tc) : Pipeline.afterTail₀ cfgs (dats m) 0 (V0 m) [hostOps1] c b = StableHlo.after hostOps1 (tailV m c) (Proc.devRef .tc b) := by
  show StableHlo.after (List.flatten [hostOps1]) (tailV m c) (Proc.devRef .tc b) = _
  rw [List.flatten_cons, List.flatten_nil, List.append_nil]

/-- Chunk `a` of an array of parts, and the sum of the four. -/
def slabs (A : Vec Ideal S4x4224x1024 .f32) : FVec Ideal S4224x1024 .f32 :=
  addf (addf (addf (shapeCast S4224x1024 (extractStridedSlice S1x4224x1024 ![0, 0, 0] A slices_S4x4224x1024_S1x4224x1024_0_0_0) shapeCasts_S1x4224x1024_S4224x1024)
    (shapeCast S4224x1024 (extractStridedSlice S1x4224x1024 ![1, 0, 0] A slices_S4x4224x1024_S1x4224x1024_1_0_0) shapeCasts_S1x4224x1024_S4224x1024))
    (shapeCast S4224x1024 (extractStridedSlice S1x4224x1024 ![2, 0, 0] A slices_S4x4224x1024_S1x4224x1024_2_0_0) shapeCasts_S1x4224x1024_S4224x1024))
    (shapeCast S4224x1024 (extractStridedSlice S1x4224x1024 ![3, 0, 0] A slices_S4x4224x1024_S1x4224x1024_3_0_0) shapeCasts_S1x4224x1024_S4224x1024)

theorem tail_sum (W : Valuation τ sig (Elt Ideal)) : StableHlo.after hostOps1 W (Proc.devRef .tc main_v20) = slabs (W (Proc.devRef .tc main_v9_0)) := by
  simp only [hostOps1]
  after_results_simp
  rfl
theorem tail_up (W : Valuation τ sig (Elt Ideal)) : StableHlo.after hostOps1 W (Proc.devRef .tc main_v22)
    = shapeCast S1024x4096 (transpose S1024x4x1024 [1, 0, 2] (W (Proc.devRef .tc main_v9_1) : Vec Ideal S4x1024x1024 .f32) transposes_S4x1024x1024_S1024x4x1024_1_0_2) shapeCasts_S1024x4x1024_S1024x4096 := by
  simp only [hostOps1]
  after_results_simp
  rfl
theorem tail_down (W : Valuation τ sig (Elt Ideal)) : StableHlo.after hostOps1 W (Proc.devRef .tc main_v23)
    = shapeCast S4096x1024 (W (Proc.devRef .tc main_v9_2) : Vec Ideal S4x1024x1024 .f32) shapeCasts_S4x1024x1024_S4096x1024 := by
  simp only [hostOps1]
  after_results_simp
  rfl

theorem col_surj (C : Fin 4096) : ∃ (a : Fin 4) (x : Fin 1024), C = colIx a x :=
  ⟨⟨C.val / 1024, by omega⟩, ⟨C.val % 1024, by omega⟩, Fin.ext (by simp only []; omega)⟩

theorem chunk_of (a : Fin 4) (x : Fin 1024) (h : (a.val * 1024 + x.val) / 1024 < 4) : (⟨(a.val * 1024 + x.val) / 1024, h⟩ : Fin 4) = a :=
  Fin.ext (show (a.val * 1024 + x.val) / 1024 = a.val by omega)
theorem lane_of (a : Fin 4) (x : Fin 1024) (h : (a.val * 1024 + x.val) % 1024 < 1024) : (⟨(a.val * 1024 + x.val) % 1024, h⟩ : Fin 1024) = x :=
  Fin.ext (show (a.val * 1024 + x.val) % 1024 = x.val by omega)
theorem sum_cols (f : Fin 4096 → EReal) : ∑ C, f C = (∑ x, f (colIx 0 x)) + (∑ x, f (colIx 1 x)) + (∑ x, f (colIx 2 x)) + ∑ x, f (colIx 3 x) := by
  rw [← sum_tiles 4 1024 rfl f, Finset.sum_range_succ, Finset.sum_range_succ, Finset.sum_range_succ, Finset.sum_range_succ, Finset.sum_range_zero, zero_add]
  refine congr (congrArg _ (congr (congrArg _ (congr (congrArg _ ?_) ?_)) ?_)) ?_ <;>
    exact Finset.sum_congr rfl fun x _ => ext_lt f _ (by omega)

theorem result_input : Pipeline.afterTail₀ cfgs (dats m) 0 (V0 m) [hostOps1] c main_v20
    = Cert.MlpRefIdeal.Read.val_main_v17 (F := Ideal) (argH m c) (argZ m c) (argU m c) (argW m c) := by
  refine (tail_read m c main_v20).trans ((tail_sum _).trans ?_)
  rw [show tailV m c (Proc.devRef .tc main_v9_0) = inputArr m c from (tail_arr m c 5).trans (final_input m c)]
  funext i
  obtain ⟨R, k, rfl⟩ : ∃ (R : Fin 4224) (k : Fin 1024), i = ix2 R k := ⟨_, _, eq_ix2 i⟩
  rw [ref_input, sum_cols]
  generalize hA : inputArr m c = A
  have e : slabs A (ix2 R k) = A (ix3 0 R k) + A (ix3 1 R k) + A (ix3 2 R k) + A (ix3 3 R k) := by
    unfold slabs
    pointwise []
  rw [e, ← hA]
  rfl
theorem result_up : Pipeline.afterTail₀ cfgs (dats m) 0 (V0 m) [hostOps1] c main_v22
    = Cert.MlpRefIdeal.Read.val_main_v16 (F := Ideal) (argH m c) (argZ m c) (argU m c) (argW m c) := by
  refine (tail_read m c main_v22).trans ((tail_up _).trans ?_)
  rw [show tailV m c (Proc.devRef .tc main_v9_1) = upArr m c from (tail_arr m c 6).trans (final_up m c)]
  funext i
  obtain ⟨k, C, rfl⟩ : ∃ (k : Fin 1024) (C : Fin 4096), i = ix2 k C := ⟨_, _, eq_ix2 i⟩
  obtain ⟨a, x, rfl⟩ := col_surj C
  rw [ref_up]
  refine Eq.trans ?_ (show upArr m c (ix3 a k x) = _ from rfl)
  generalize upArr m c = A
  pointwise []
  rw [chunk_of, lane_of]
theorem result_down : Pipeline.afterTail₀ cfgs (dats m) 0 (V0 m) [hostOps1] c main_v23
    = Cert.MlpRefIdeal.Read.val_main_v8 (F := Ideal) (argH m c) (argZ m c) (argU m c) := by
  refine (tail_read m c main_v23).trans ((tail_down _).trans ?_)
  rw [show tailV m c (Proc.devRef .tc main_v9_2) = downArr m c from (tail_arr m c 7).trans (final_down m c)]
  funext i
  obtain ⟨C, d, rfl⟩ : ∃ (C : Fin 4096) (d : Fin 1024), i = ix2 C d := ⟨_, _, eq_ix2 i⟩
  obtain ⟨a, x, rfl⟩ := col_surj C
  rw [ref_down]
  refine Eq.trans ?_ (show downArr m c (ix3 a x d) = _ from rfl)
  generalize downArr m c = A
  pointwise []
  rw [chunk_of, lane_of]

end Cert.Proof.Mlp
end
-- ==== Proof.MlpClaims.lean ====
module

public import proofs.«01_k».proof.Defs
public import proofs.«01_k».proof.Proof.MlpTail
public import proofs.«01_k».proof.Proof.Gen.Mlp.Frame
public import proofs.«01_k».proof.Proof.Gen.MlpRefIdeal.Run

@[expose] public section

set_option maxRecDepth 16384

noncomputable section

namespace Cert.Proof.Mlp

open Idealize.ShloMosaic Idealize.SL.Sem

/-- The squared-relu layer's backward call with its host lines ends without fault, its argument arrays and its counters as they were. -/
theorem frame_kernel : Cert.quiescent_Mlp := fun m ρ _ => Cert.Mlp.Gen.frame m ρ

theorem frame_ideal : Cert.quiescent_MlpIdeal := fun m ρ _ => Cert.MlpIdeal.Gen.frame m ρ

/-- The reference ends without fault, its argument arrays and its counters as they were. -/
theorem frame_reference : Cert.quiescent_MlpRefIdeal := fun m ρ _ =>
  (θ_run _ _ _).mono (fun r h => ⟨fun c => (h c).2.2.2, sem_eq_zero_of_no_sems (by decide) r.2⟩) (Cert.MlpRefIdeal.Value.run m ρ)

/-- The layer's three gradients are the reference's, at all arguments. -/
theorem values : Cert.algebraic_MlpIdeal_MlpRefIdeal := fun m ρ m' ρ' _ hag => by
  refine ⟨fun c => Cert.MlpRefIdeal.Read.val_main_v17 (F := Ideal) (argH m c) (argZ m c) (argU m c) (argW m c),
    fun c => Cert.MlpRefIdeal.Read.val_main_v16 (F := Ideal) (argH m c) (argZ m c) (argU m c) (argW m c),
    fun c => Cert.MlpRefIdeal.Read.val_main_v8 (F := Ideal) (argH m c) (argZ m c) (argU m c), ?_, ?_⟩
  · refine (θ_run _ _ _).mono (fun r h c => ?_) (θ_run_and (Cert.MlpIdeal.Gen.run_main m ρ) (Cert.MlpIdeal.Gen.unchanged m ρ))
    exact ⟨((h.1 c).2 _ (by decide +kernel)).trans (result_input m c), ((h.1 c).2 _ (by decide +kernel)).trans (result_up m c),
      ((h.1 c).2 _ (by decide +kernel)).trans (result_down m c), h.2 c⟩
  · refine (θ_run _ _ _).mono (fun r h c => ?_) (Cert.MlpRefIdeal.Value.run m' ρ')
    obtain ⟨e0, e1, e2, e3⟩ := hag c
    obtain ⟨h0, h1, h2, h3⟩ := h c
    refine ⟨h0.trans ?_, h1.trans ?_, h2.trans ?_, h3⟩
    · rw [Cert.MlpRefIdeal.Read.val_main_v17_eq]; exact congr (congr (congr (congrArg _ e0) e1) e2) e3
    · rw [Cert.MlpRefIdeal.Read.val_main_v16_eq]; exact congr (congr (congr (congrArg _ e0) e1) e2) e3
    · rw [Cert.MlpRefIdeal.Read.val_main_v8_eq]; exact congr (congr (congrArg _ e0) e1) e2

end Cert.Proof.Mlp
end
-- ==== Proof.NormRow.lean ====
module

public import Idealize.ShloMosaic.PureOps.Ideal
public import Idealize.ShloMosaic.Lib.Claim

@[expose] public section
noncomputable section
namespace Cert.Proof.Norm
open Idealize.ShloMosaic

/-! One row of a layer norm backwards: the row `z` before the norm, the gradient `d` of the norm's result and the gain `w`. -/

abbrev width : EReal := Ideal.ofBits .f32 0x44800000#32
abbrev eps : EReal := Ideal.ofBits .f32 0x3727C5AC#32
abbrev minusHalf : EReal := Ideal.ofBits .f32 0xBF000000#32

variable (z d w : Fin 1024 → EReal)

/-- The row less its mean. -/
def cen (l : Fin 1024) : EReal := z l - Ideal.div (∑ x, z x) width
/-- Its mean square, and the inverse of its root. -/
def spread : EReal := Ideal.div (∑ x, cen z x * cen z x) width + eps
def scale : EReal := Ideal.rsqrt (spread z)
/-- The gradient of the mean square, spread over the row's entries. -/
def spreadGrad : EReal := Ideal.div ((∑ x, cen z x * (d x * w x)) * (minusHalf * Ideal.div (scale z) (spread z))) width
/-- The gradient of the centred row. -/
def cenGrad (l : Fin 1024) : EReal := d l * w l * scale z + cen z l * spreadGrad z d w + spreadGrad z d w * cen z l
/-- The gradient of the row. -/
def rowGrad (l : Fin 1024) : EReal := cenGrad z d w l + Ideal.div (∑ x, -cenGrad z d w x) width
/-- The row's term of the gain's gradient. -/
def gainTerm (l : Fin 1024) : EReal := cen z l * scale z * d l

end Cert.Proof.Norm
end
-- ==== Proof.NormTile.lean ====
module

public import proofs.«01_k».proof.Proof.NormRow
public import proofs.«01_k».proof.Proof.Sums
public import proofs.«01_k».proof.Proof.Gen.NormIdeal.Value
public import Idealize.ShloMosaic.Lib.Claim
public import Idealize.ShloMosaic.Lib.Tactic
public import Idealize.ShloMosaic.Lib.Pointwise
public import Idealize.ShloMosaic.Lib.Pipeline.ValueKit.Point
public import Idealize.ShloMosaic.Lib.Pipeline.ReadBack

@[expose] public section
set_option maxRecDepth 16384
noncomputable section
namespace Cert.Proof.Norm
open Cert.NormIdeal Cert.NormIdeal.Gen Idealize.ShloMosaic Idealize.ShloMosaic.TcCoe Idealize.SL.Sem Pipeline

/-! One tile: the operations of a row are the row functions. -/

variable (z d : Vec Ideal S384x1024 .f32) (w : Vec Ideal S1x1024 .f32) (r : Fin 384) (l : Fin 1024)

abbrev tileRow (a : Vec Ideal S384x1024 .f32) (r : Fin 384) (l : Fin 1024) : EReal := a (ix2 r l)
abbrev gain (w : Vec Ideal S1x1024 .f32) (l : Fin 1024) : EReal := w (ix2 0 l)

theorem cen_at : k0_pay4 z (ix2 r l) = cen (tileRow z r) l := by
  pointwise [k0_pay4]
  rfl
theorem spread_at : k0_pay5 z (ix2 r 0) = spread (tileRow z r) := by
  have e := cen_at z r
  unfold k0_pay5
  generalize k0_pay4 z = A at *
  pointwise []
  simp only [e]
  rfl
theorem scale_at : k0_pay6 z (ix2 r 0) = scale (tileRow z r) := by
  have e := spread_at z r
  unfold k0_pay6
  generalize k0_pay5 z = A at *
  pointwise []
  rw [e]
  rfl
theorem gain_at : k0_pay9 z d (ix2 0 l) = ∑ x : Fin 384, gainTerm (tileRow z x) (tileRow d x) l := by
  have e := fun x => cen_at z x l
  have e' := fun x => scale_at z x
  unfold k0_pay9
  generalize k0_pay4 z = A at *
  generalize k0_pay6 z = B at *
  pointwise [k0_pay7]
  simp only [e, e']
  rfl
theorem bias_at : k0_pay8 d (ix2 0 l) = ∑ x : Fin 384, d (ix2 x l) := by
  pointwise [k0_pay8]
theorem up_at : k0_pay11 z d w (ix2 r l) = d (ix2 r l) * w (ix2 0 l) * scale (tileRow z r) := by
  have e' := scale_at z r
  unfold k0_pay11
  generalize k0_pay6 z = B at *
  pointwise [k0_pay10, k0_pay7]
  rw [e']
theorem spreadGrad_at : k0_pay12 z d w (ix2 r l) = spreadGrad (tileRow z r) (tileRow d r) (gain w) := by
  have e := cen_at z r
  have e1 := spread_at z r
  have e2 := scale_at z r
  unfold k0_pay12
  generalize k0_pay4 z = A at *
  generalize k0_pay5 z = B at *
  generalize k0_pay6 z = C at *
  pointwise [k0_pay10, k0_pay7]
  rw [Fin.sum_univ_one]
  simp only [e]
  rw [e1, e2]
  rfl
theorem zero_word : Ideal.ofBits .f32 0x00000000#32 = 0 := by simp [Ideal.ofBits, Ideal.ieee]
theorem row_at (A U G : FVec Ideal S384x1024 .f32) : k0_pay1 A U G (ix2 r l)
    = (U (ix2 r l) + A (ix2 r l) * G (ix2 r l) + G (ix2 r l) * A (ix2 r l))
      + Ideal.div (∑ x, -(U (ix2 r x) + A (ix2 r x) * G (ix2 r x) + G (ix2 r x) * A (ix2 r x))) width := by
  pointwise [k0_pay1]
  rw [Fin.sum_univ_one]
  simp only [zero_sub]
theorem rowGrad_at : k0_pay1 (k0_pay4 z) (k0_pay11 z d w) (k0_pay12 z d w) (ix2 r l) = rowGrad (tileRow z r) (tileRow d r) (gain w) l := by
  rw [row_at]
  simp only [cen_at, up_at, spreadGrad_at]
  rfl

theorem next_gain (p : FVec Ideal S1x1024 .f32) (a : Vec Ideal S1x1024 .f32) : k0_pay2 p a (ix2 0 l) = a (ix2 0 l) + p (ix2 0 l) := by pointwise [k0_pay2]
theorem next_bias (p : FVec Ideal S1x1024 .f32) (a : Vec Ideal S1x1024 .f32) : k0_pay3 p a (ix2 0 l) = a (ix2 0 l) + p (ix2 0 l) := by pointwise [k0_pay3]

variable (m : (ℓ : Loc nD τ sig) → Buf (Elt Ideal) ℓ) (c : Dev nD)

theorem outs_row (t : Fin cfg0.N) : (outsAt0 m c t.val t.isLt).1
    = k0_pay1 (k0_pay4 (iblk m c 0 t)) (k0_pay11 (iblk m c 0 t) (iblk m c 1 t) (iblk m c 2 t)) (k0_pay12 (iblk m c 0 t) (iblk m c 1 t) (iblk m c 2 t)) := by
  have : t.val < 11 := lt_of_lt_of_eq t.isLt (show cfg0.N = 11 from N_0)
  by_cases h : t.val % 11 = 0
  · rw [outsAt0_A m c t (by omega) (by omega) (by omega) (by omega)]; frame_out
  · rw [outsAt0_B m c t (by omega) (by omega) (by omega) (by omega)]; frame_out
theorem outs_gain_first (t : Fin cfg0.N) (h : t.val % 11 = 0) : (outsAt0 m c t.val t.isLt).2.1 = k0_pay9 (iblk m c 0 t) (iblk m c 1 t) := by
  have : t.val < 11 := lt_of_lt_of_eq t.isLt (show cfg0.N = 11 from N_0)
  rw [outsAt0_A m c t (by omega) (by omega) (by omega) (by omega)]; frame_out
theorem outs_bias_first (t : Fin cfg0.N) (h : t.val % 11 = 0) : (outsAt0 m c t.val t.isLt).2.2 = k0_pay8 (iblk m c 1 t) := by
  have : t.val < 11 := lt_of_lt_of_eq t.isLt (show cfg0.N = 11 from N_0)
  rw [outsAt0_A m c t (by omega) (by omega) (by omega) (by omega)]; frame_out
theorem outs_gain_next (t : Fin cfg0.N) (h : ¬t.val % 11 = 0) :
    (outsAt0 m c t.val t.isLt).2.1 = k0_pay2 (k0_pay9 (iblk m c 0 t) (iblk m c 1 t)) (outsAt0 m c (t.val - 1) (Nat.lt_of_le_of_lt (Nat.sub_le _ _) t.isLt)).2.1 := by
  rw [outsAt0_B m c t (by omega) (by omega) (by omega) (by omega)]; frame_out
theorem outs_bias_next (t : Fin cfg0.N) (h : ¬t.val % 11 = 0) :
    (outsAt0 m c t.val t.isLt).2.2 = k0_pay3 (k0_pay8 (iblk m c 1 t)) (outsAt0 m c (t.val - 1) (Nat.lt_of_le_of_lt (Nat.sub_le _ _) t.isLt)).2.2 := by
  rw [outsAt0_B m c t (by omega) (by omega) (by omega) (by omega)]; frame_out

end Cert.Proof.Norm
end
-- ==== Proof.NormArrays.lean ====
module

public import proofs.«01_k».proof.Proof.NormTile

@[expose] public section
set_option maxRecDepth 16384
noncomputable section
namespace Cert.Proof.Norm
open Cert.NormIdeal Cert.NormIdeal.Gen Idealize.ShloMosaic Idealize.ShloMosaic.TcCoe Idealize.SL.Sem Pipeline

variable (m : (ℓ : Loc nD τ sig) → Buf (Elt Ideal) ℓ) (c : Dev nD)

/-- The arguments of device `c`. -/
abbrev argZ : Vec Ideal S4224x1024 .f32 := m ((c : Thread nD τ).loc main_arg0)
abbrev argD : Vec Ideal S4224x1024 .f32 := m ((c : Thread nD τ).loc main_arg1)
abbrev argW : Vec Ideal S1x1024 .f32 := m ((c : Thread nD τ).loc main_arg2)

theorem idxW0 : ∀ t : Fin cfg0.N, win0_0.index t = ![t.val, 0] := (by decide +kernel : ∀ t : Fin grid0.N, _)
theorem idxW1 : ∀ t : Fin cfg0.N, win0_1.index t = ![t.val, 0] := (by decide +kernel : ∀ t : Fin grid0.N, _)
theorem idxW2 : ∀ t : Fin cfg0.N, win0_2.index t = ![0, 0] := (by decide +kernel : ∀ t : Fin grid0.N, _)
theorem idxW4 : ∀ t : Fin cfg0.N, win0_4.index t = ![t.val, 0] := (by decide +kernel : ∀ t : Fin grid0.N, _)
theorem idxW5 : ∀ t : Fin cfg0.N, win0_5.index t = ![0, 0] := (by decide +kernel : ∀ t : Fin grid0.N, _)
theorem idxW6 : ∀ t : Fin cfg0.N, win0_6.index t = ![0, 0] := (by decide +kernel : ∀ t : Fin grid0.N, _)

theorem lt11 (t : Fin cfg0.N) : t.val < 11 := lt_of_lt_of_eq t.isLt (show cfg0.N = 11 from N_0)

/-- Row `r` of tile `t`. -/
abbrev rowIx (t : Fin cfg0.N) (r : Fin 384) : Fin 4224 := ⟨384 * t.val + r.val, by have := lt11 t; omega⟩

variable (t : Fin cfg0.N)

theorem read_z (r : Fin 384) (k : Fin 1024) : iblk m c 0 t (ix2 r k) = argZ m c (ix2 (rowIx t r) k) := by
  rw [show argZ m c = V m c main_arg0 from rfl]
  unfold iblk
  show V m c main_arg0 _ = _
  generalize V m c main_arg0 = A
  blk_ext [idxW0 t]
theorem read_d (r : Fin 384) (k : Fin 1024) : iblk m c 1 t (ix2 r k) = argD m c (ix2 (rowIx t r) k) := by
  rw [show argD m c = V m c main_arg1 from rfl]
  unfold iblk
  show V m c main_arg1 _ = _
  generalize V m c main_arg1 = A
  blk_ext [idxW1 t]
theorem read_w (k : Fin 1024) : iblk m c 2 t (ix2 0 k) = argW m c (ix2 0 k) := by
  rw [show argW m c = V m c main_arg2 from rfl]
  unfold iblk
  show V m c main_arg2 _ = _
  generalize V m c main_arg2 = A
  blk_ext [idxW2 t]

/-- Row `R` of an array. -/
abbrev rowOf (a : Vec Ideal S4224x1024 .f32) (R : Fin 4224) (l : Fin 1024) : EReal := a (ix2 R l)

theorem rows_z (r : Fin 384) : tileRow (iblk m c 0 t) r = rowOf (argZ m c) (rowIx t r) := funext fun k => read_z m c t r k
theorem rows_d (r : Fin 384) : tileRow (iblk m c 1 t) r = rowOf (argD m c) (rowIx t r) := funext fun k => read_d m c t r k
theorem rows_w : gain (iblk m c 2 t) = gain (argW m c) := funext fun k => read_w m c t k

/-- The three gradients, as arrays. -/
def gradZ (z d : Vec Ideal S4224x1024 .f32) (w : Vec Ideal S1x1024 .f32) : Vec Ideal S4224x1024 .f32 := fun i => rowGrad (rowOf z (i 0)) (rowOf d (i 0)) (gain w) (i 1)
def gradW (z d : Vec Ideal S4224x1024 .f32) : Vec Ideal S1x1024 .f32 := fun i => ∑ R : Fin 4224, gainTerm (rowOf z R) (rowOf d R) (i 1)
def gradB (d : Vec Ideal S4224x1024 .f32) : Vec Ideal S1x1024 .f32 := fun i => ∑ R : Fin 4224, d (ix2 R (i 1))

theorem row_point (r : Fin 384) (l : Fin 1024) : (outsAt0 m c t.val t.isLt).1 (ix2 r l) = rowGrad (rowOf (argZ m c) (rowIx t r)) (rowOf (argD m c) (rowIx t r)) (gain (argW m c)) l := by
  rw [outs_row, ← rows_z, ← rows_d, ← rows_w m c t]
  exact rowGrad_at _ _ _ r l
theorem gain_point (l : Fin 1024) : k0_pay9 (iblk m c 0 t) (iblk m c 1 t) (ix2 0 l)
    = ∑ r : Fin 384, ext (fun R => gainTerm (rowOf (argZ m c) R) (rowOf (argD m c) R) l) (384 * t.val + r.val) := by
  refine (gain_at _ _ l).trans ?_
  exact Finset.sum_congr rfl fun r _ => by rw [rows_z, rows_d, ext_lt _ _ (by have := lt11 t; omega)]
theorem bias_point (l : Fin 1024) : k0_pay8 (iblk m c 1 t) (ix2 0 l) = ∑ r : Fin 384, ext (fun R => argD m c (ix2 R l)) (384 * t.val + r.val) := by
  refine (bias_at _ l).trans ?_
  exact Finset.sum_congr rfl fun r _ => by rw [read_d, ext_lt _ _ (by have := lt11 t; omega)]

theorem gain_last (h : t.val = 10) (l : Fin 1024) : (outsAt0 m c t.val t.isLt).2.1 (ix2 0 l) = ∑ R : Fin 4224, gainTerm (rowOf (argZ m c) R) (rowOf (argD m c) R) l := by
  have e := Pipeline.eq_sum_of_reset_step_divmod (fun n h => (outsAt0 m c n h).2.1 (ix2 0 l)) 11 0
    (fun a i => ∑ r : Fin 384, ext (fun R => gainTerm (rowOf (argZ m c) R) (rowOf (argD m c) R) l) (384 * (11 * a + i) + r.val))
    (fun t h => by rw [outs_gain_first m c t h, gain_point, zero_add, show 11 * (t.val / 11) + t.val % 11 = t.val by omega])
    (fun t h => by rw [outs_gain_next m c t h, next_gain, gain_point, show 11 * (t.val / 11) + t.val % 11 = t.val by omega]) t
  refine e.trans ?_
  rw [zero_add, h]
  exact Eq.trans (by norm_num) (sum_tiles 11 384 rfl _)
theorem bias_last (h : t.val = 10) (l : Fin 1024) : (outsAt0 m c t.val t.isLt).2.2 (ix2 0 l) = ∑ R : Fin 4224, argD m c (ix2 R l) := by
  have e := Pipeline.eq_sum_of_reset_step_divmod (fun n h => (outsAt0 m c n h).2.2 (ix2 0 l)) 11 0
    (fun a i => ∑ r : Fin 384, ext (fun R => argD m c (ix2 R l)) (384 * (11 * a + i) + r.val))
    (fun t h => by rw [outs_bias_first m c t h, bias_point, zero_add, show 11 * (t.val / 11) + t.val % 11 = t.val by omega])
    (fun t h => by rw [outs_bias_next m c t h, next_bias, bias_point, show 11 * (t.val / 11) + t.val % 11 = t.val by omega]) t
  refine e.trans ?_
  rw [zero_add, h]
  exact Eq.trans (by norm_num) (sum_tiles 11 384 rfl _)

theorem final4 : (dats m 0 c).arrAt 4 cfg0.N = gradZ (argZ m c) (argD m c) (argW m c) := by
  refine (dats m 0 c).arrAt_eq_of_covers 4 _ (by decide +kernel) fun t hf y => ?_
  blk_simp
  have key : (outsAt0 m c t.val t.isLt).1 y = gradZ (argZ m c) (argD m c) (argW m c) (((View.whole main_v0_0).slice (win0_4.rect t)).emb y) := by
    obtain ⟨r, l, rfl⟩ : ∃ (r : Fin 384) (l : Fin 1024), y = ix2 r l := ⟨_, _, eq_ix2 y⟩
    have ee : (((View.whole main_v0_0).slice (win0_4.rect t)).emb (ix2 r l)) = ix2 (rowIx t r) l := by blk_ext [idxW4 t]
    rw [row_point, ee]
    rfl
  rw [after0_4]
  exact key

def lastPt : Fin cfg0.N := ⟨10, by rw [show cfg0.N = 11 from N_0]; omega⟩
theorem whole5 : (cfg0.win 5).WholeAt lastPt := by decide +kernel
theorem whole6 : (cfg0.win 6).WholeAt lastPt := by decide +kernel

theorem final5 : (dats m 0 c).arrAt 5 cfg0.N = gradW (argZ m c) (argD m c) := by
  refine (dats m 0 c).arrAt_eq_of_after_last 5 lastPt whole5 _ fun j => ?_
  rw [after0_5]
  blk_simp
  obtain ⟨q, l, rfl⟩ : ∃ (q : Fin 1) (l : Fin 1024), j = ix2 q l := ⟨_, _, eq_ix2 j⟩
  rw [Fin.fin_one_eq_zero q]
  exact gain_last m c lastPt rfl l
theorem final6 : (dats m 0 c).arrAt 6 cfg0.N = gradB (argD m c) := by
  refine (dats m 0 c).arrAt_eq_of_after_last 6 lastPt whole6 _ fun j => ?_
  rw [after0_6]
  blk_simp
  obtain ⟨q, l, rfl⟩ : ∃ (q : Fin 1) (l : Fin 1024), j = ix2 q l := ⟨_, _, eq_ix2 j⟩
  rw [Fin.fin_one_eq_zero q]
  exact bias_last m c lastPt rfl l

end Cert.Proof.Norm
end
-- ==== Proof.NormRefSide.lean ====
module

public import proofs.«01_k».proof.Proof.NormRow
public import proofs.«01_k».proof.Proof.Gen.NormRefIdeal.Read
public import Idealize.ShloMosaic.Lib.Claim
public import Idealize.ShloMosaic.Lib.Tactic
public import Idealize.ShloMosaic.Lib.Pointwise

@[expose] public section
set_option maxRecDepth 16384
noncomputable section
namespace Cert.Proof.Norm
open Cert.NormRefIdeal Cert.NormRefIdeal.Gen Idealize.ShloMosaic Idealize.ShloMosaic.TcCoe Idealize.SL.Sem

/-! The reference's operations of a row are the row functions. -/

variable (z d : Vec Ideal S4224x1024 .f32) (w : Vec Ideal S1x1024 .f32) (r : Fin 4224) (l : Fin 1024)

abbrev refRow (a : Vec Ideal S4224x1024 .f32) (r : Fin 4224) (l : Fin 1024) : EReal := a (ix2 r l)
abbrev refGain (w : Vec Ideal S1x1024 .f32) (l : Fin 1024) : EReal := w (ix2 0 l)

theorem ref_cen : Read.val_main_v5 (F := Ideal) z (ix2 r l) = cen (refRow z r) l := by
  pointwise [Read.val_main_v5, Read.val_main_v4, Read.val_main_v3, Read.val_main_v2, Read.val_main_cst_0, Read.val_main_v1, Read.val_main_v0, Read.val_main_cst]
  rfl
theorem ref_spread : Read.val_main_v12 (F := Ideal) z (ix2 r 0) = spread (refRow z r) := by
  have e := ref_cen z r
  unfold Read.val_main_v12 Read.val_main_v10 Read.val_main_v8 Read.val_main_v7 Read.val_main_v6
  generalize Read.val_main_v5 (F := Ideal) z = A at *
  pointwise [Read.val_main_v9, Read.val_main_v11, Read.val_main_cst_1, Read.val_main_cst_2, Read.val_main_cst_3]
  simp only [e]
  rfl
theorem ref_scale : Read.val_main_v13 (F := Ideal) z (ix2 r 0) = scale (refRow z r) := by
  have e := ref_spread z r
  unfold Read.val_main_v13
  generalize Read.val_main_v12 (F := Ideal) z = A at *
  pointwise []
  rw [e]
  rfl
theorem ref_up : Read.val_main_v30 (F := Ideal) d w (ix2 r l) = d (ix2 r l) * w (ix2 0 l) := by
  pointwise [Read.val_main_v30, Read.val_main_v29, Read.val_main_v23]
theorem ref_factor : Read.val_main_v16 (F := Ideal) z (ix2 r 0) = minusHalf * Ideal.div (scale (refRow z r)) (spread (refRow z r)) := by
  have e1 := ref_spread z r
  have e2 := ref_scale z r
  unfold Read.val_main_v16 Read.val_main_v14
  generalize Read.val_main_v12 (F := Ideal) z = A at *
  generalize Read.val_main_v13 (F := Ideal) z = B at *
  pointwise [Read.val_main_v15, Read.val_main_cst_4]
  rw [e1, e2]
theorem ref_spreadGrad : Read.val_main_v40 (F := Ideal) z d w (ix2 r l) = spreadGrad (refRow z r) (refRow d r) (refGain w) := by
  have e := ref_cen z r
  have e1 := ref_up d w r
  have e2 := ref_factor z r
  unfold Read.val_main_v40 Read.val_main_v39 Read.val_main_v38 Read.val_main_v36 Read.val_main_v33 Read.val_main_v32 Read.val_main_v31
  generalize Read.val_main_v5 (F := Ideal) z = A at *
  generalize Read.val_main_v30 (F := Ideal) d w = B at *
  generalize Read.val_main_v16 (F := Ideal) z = C at *
  pointwise [Read.val_main_v37, Read.val_main_cst_7, Read.val_main_cst_8, Read.val_main_cst_9]
  rw [Fin.sum_univ_one]
  simp only [e, e1]
  rw [e2]
  rfl
theorem ref_cenGrad : Read.val_main_v44 (F := Ideal) z d w (ix2 r l) = cenGrad (refRow z r) (refRow d r) (refGain w) l := by
  have e := ref_cen z r
  have e1 := ref_up d w r
  have e2 := ref_scale z r
  have e3 := ref_spreadGrad z d w r
  unfold Read.val_main_v44 Read.val_main_v43 Read.val_main_v42 Read.val_main_v41 Read.val_main_v35
  generalize Read.val_main_v5 (F := Ideal) z = A at *
  generalize Read.val_main_v30 (F := Ideal) d w = B at *
  generalize Read.val_main_v40 (F := Ideal) z d w = C at *
  unfold Read.val_main_v34
  generalize Read.val_main_v13 (F := Ideal) z = D at *
  pointwise []
  simp only [e, e1, e3]
  rw [e2]
  rfl
theorem ref_rowGrad : Read.val_main_v52 (F := Ideal) z d w (ix2 r l) = rowGrad (refRow z r) (refRow d r) (refGain w) l := by
  have e := ref_cenGrad z d w r
  unfold Read.val_main_v52 Read.val_main_v51 Read.val_main_v50 Read.val_main_v49 Read.val_main_v47 Read.val_main_v46 Read.val_main_v45
  generalize Read.val_main_v44 (F := Ideal) z d w = A at *
  pointwise [Read.val_main_v48, Read.val_main_cst_10, Read.val_main_cst_11, Read.val_main_cst_12]
  rw [Fin.sum_univ_one]
  simp only [e]
  rfl
theorem ref_gain : Read.val_main_v28 (F := Ideal) z d (ix2 0 l) = ∑ R : Fin 4224, gainTerm (refRow z R) (refRow d R) l := by
  have e := fun R => ref_cen z R l
  have e2 := fun R => ref_scale z R
  unfold Read.val_main_v28 Read.val_main_v27 Read.val_main_v26 Read.val_main_v18 Read.val_main_v17
  generalize Read.val_main_v5 (F := Ideal) z = A at *
  generalize Read.val_main_v13 (F := Ideal) z = D at *
  pointwise [Read.val_main_v23, Read.val_main_cst_6]
  simp only [e, e2]
  rfl
theorem ref_bias : Read.val_main_v25 (F := Ideal) d (ix2 0 l) = ∑ R : Fin 4224, d (ix2 R l) := by
  pointwise [Read.val_main_v25, Read.val_main_v24, Read.val_main_cst_5]

end Cert.Proof.Norm
end
-- ==== Proof.NormClaims.lean ====
module

public import proofs.«01_k».proof.Defs
public import proofs.«01_k».proof.Proof.NormArrays
public import proofs.«01_k».proof.Proof.NormRefSide
public import proofs.«01_k».proof.Proof.Gen.Norm.Frame
public import proofs.«01_k».proof.Proof.Gen.NormRefIdeal

@[expose] public section
noncomputable section
namespace Cert.Proof.Norm
open Idealize.ShloMosaic Idealize.SL.Sem

/-- The call, run on any values: it ends without fault, its argument arrays and its counters as they were. -/
theorem frame_kernel : Cert.quiescent_Norm := fun m ρ _ => Cert.Norm.Gen.frame m ρ
theorem frame_ideal : Cert.quiescent_NormIdeal := fun m ρ _ => Cert.NormIdeal.Gen.frame m ρ
theorem frame_reference : Cert.quiescent_NormRefIdeal := fun m ρ _ =>
  (θ_run _ _ _).mono (fun r h => ⟨fun c => (h c).2.2.2, sem_eq_zero_of_no_sems (by decide) r.2⟩) (Cert.NormRefIdeal.Value.run m ρ)

theorem ref_gradZ (z d : Vec Ideal Cert.NormRefIdeal.S4224x1024 .f32) (w : Vec Ideal Cert.NormRefIdeal.S1x1024 .f32) :
    Cert.NormRefIdeal.Read.val_main_v52 (F := Ideal) z d w = gradZ z d w := by
  funext i
  obtain ⟨R, l, rfl⟩ : ∃ (R : Fin 4224) (l : Fin 1024), i = ix2 R l := ⟨_, _, eq_ix2 i⟩
  exact ref_rowGrad z d w R l
theorem ref_gradW (z d : Vec Ideal Cert.NormRefIdeal.S4224x1024 .f32) : Cert.NormRefIdeal.Read.val_main_v28 (F := Ideal) z d = gradW z d := by
  funext i
  obtain ⟨q, l, rfl⟩ : ∃ (q : Fin 1) (l : Fin 1024), i = ix2 q l := ⟨_, _, eq_ix2 i⟩
  rw [Fin.fin_one_eq_zero q]
  exact ref_gain z d l
theorem ref_gradB (d : Vec Ideal Cert.NormRefIdeal.S4224x1024 .f32) : Cert.NormRefIdeal.Read.val_main_v25 (F := Ideal) d = gradB d := by
  funext i
  obtain ⟨q, l, rfl⟩ : ∃ (q : Fin 1) (l : Fin 1024), i = ix2 q l := ⟨_, _, eq_ix2 i⟩
  rw [Fin.fin_one_eq_zero q]
  exact ref_bias d l

/-- Call and reference leave the same three gradients. -/
theorem values : Cert.algebraic_NormIdeal_NormRefIdeal := fun m ρ m' ρ' _ hag =>
  ⟨fun c => gradZ (argZ m c) (argD m c) (argW m c), fun c => gradW (argZ m c) (argD m c), fun c => gradB (argD m c),
    (θ_run _ _ _).mono (fun _ h c => ⟨(h c).1.trans (final4 m c), (h c).2.1.trans (final5 m c), (h c).2.2.1.trans (final6 m c), (h c).2.2.2⟩)
      (Cert.NormIdeal.Value.run_blocks m ρ),
    (θ_run _ _ _).mono (fun _ h c => ⟨(h c).1.trans (by
        rw [Cert.NormRefIdeal.Read.val_main_v52_eq, ref_gradZ, (hag c).1, (hag c).2.1, (hag c).2.2.1]),
        (h c).2.1.trans ((Cert.NormRefIdeal.Read.val_main_v28_eq _ _).trans (by rw [ref_gradW, (hag c).1, (hag c).2.1])),
        (h c).2.2.1.trans ((Cert.NormRefIdeal.Read.val_main_v25_eq _).trans (by rw [ref_gradB, (hag c).2.1])), (h c).2.2.2⟩)
      (Cert.NormRefIdeal.Value.run m' ρ')⟩

end Cert.Proof.Norm
end
-- ==== Proof.OutTile.lean ====
module

public import proofs.«01_k».proof.Proof.NormRow
public import proofs.«01_k».proof.Proof.Sums
public import proofs.«01_k».proof.Proof.Gen.OutIdeal.Value
public import Idealize.ShloMosaic.Lib.Claim
public import Idealize.ShloMosaic.Lib.Tactic
public import Idealize.ShloMosaic.Lib.Pointwise
public import Idealize.ShloMosaic.Lib.Pipeline.ValueKit.Point
public import Idealize.ShloMosaic.Lib.Pipeline.ReadBack

@[expose] public section
set_option maxRecDepth 16384
noncomputable section
namespace Cert.Proof.Out
open Cert.OutIdeal Cert.OutIdeal.Gen Cert.Proof.Norm Idealize.ShloMosaic Idealize.ShloMosaic.TcCoe Idealize.SL.Sem Pipeline

/-! One tile: the row before the norm, the gradient that arrives, and the norm's gradient carried through the product. -/

/-- The residual's weight. -/
abbrev alpha : EReal := Ideal.ofBits .f32 0x3FB504F3#32

variable (z : Vec Ideal S384x1024 .f32) (p : Vec Ideal S4x384x1024 .f32) (o h : Vec Ideal S384x1024 .f32) (wo : Vec Ideal S1024x1024 .bf16)
  (w : Vec Ideal S1x1024 .f32) (r : Fin 384) (l : Fin 1024)

abbrev tileRow (a : FVec Ideal S384x1024 .f32) (r : Fin 384) (l : Fin 1024) : EReal := a (ix2 r l)
abbrev gain (w : Vec Ideal S1x1024 .f32) (l : Fin 1024) : EReal := w (ix2 0 l)
/-- The row before the norm. -/
abbrev preTile (r : Fin 384) (l : Fin 1024) : EReal := alpha * h (ix2 r l) + ∑ k : Fin 1024, o (ix2 r k) * wo (ix2 k l)

theorem cot_at : k0_pay5 z p (ix2 r l) = alpha * z (ix2 r l) + ∑ q : Fin 4, p (ix3 q r l) := by
  pointwise [k0_pay5]
  rw [Fin.sum_univ_four]
  simp only [add_assoc]
theorem wo_at (k : Fin 1024) : k0_pay4 wo (ix2 k l) = wo (ix2 k l) := by pointwise [k0_pay4]
theorem cen_at : k0_pay6 o h wo (ix2 r l) = cen (preTile o h wo r) l := by
  have e := fun k l => wo_at wo l k
  unfold k0_pay6
  generalize k0_pay4 wo = A at *
  pointwise []
  simp only [e]
  rfl
theorem spread_at : k0_pay8 (k0_pay7 o h wo) eps (ix2 r 0) = spread (preTile o h wo r) := by
  have e := cen_at o h wo r
  unfold k0_pay8 k0_pay7
  generalize k0_pay6 o h wo = A at *
  pointwise []
  simp only [e]
  rfl
theorem scale_at : k0_pay9 (k0_pay7 o h wo) eps (ix2 r 0) = scale (preTile o h wo r) := by
  have e := spread_at o h wo r
  unfold k0_pay9
  generalize k0_pay8 (k0_pay7 o h wo) eps = A at *
  pointwise []
  rw [e]
  rfl

/-! With the centred tile `A`, its mean square `v` and the gradient `d`. -/
section
variable (d A : FVec Ideal S384x1024 .f32) (v : FVec Ideal S384x1 .f32) (f : Fin 384 → Fin 1024 → EReal)
  (hA : ∀ r l, A (ix2 r l) = cen (f r) l) (hv : ∀ r, k0_pay8 v eps (ix2 r 0) = spread (f r)) (hs : ∀ r, k0_pay9 v eps (ix2 r 0) = scale (f r))
include hA hs

theorem gain_at : k0_pay11 d A v eps (ix2 0 l) = ∑ x : Fin 384, gainTerm (f x) (tileRow d x) l := by
  unfold k0_pay11
  generalize k0_pay9 v eps = B at *
  pointwise []
  simp only [hA, hs]
  rfl
include hv
theorem rowGrad_at : k0_pay12 w d A v eps (ix2 r l) = rowGrad (f r) (tileRow d r) (gain w) l := by
  have e0 := hs r
  have e1 := hv r
  unfold k0_pay12
  generalize k0_pay9 v eps = B at *
  generalize k0_pay8 v eps = C at *
  pointwise []
  simp only [Fin.sum_univ_one, zero_sub, hA]
  rw [e0, e1]
  rfl
end

theorem bias_at (d : FVec Ideal S384x1024 .f32) : k0_pay10 d (ix2 0 l) = ∑ x : Fin 384, d (ix2 x l) := by
  pointwise [k0_pay10]
theorem back_at (wo : FVec Ideal S1024x1024 .bf16) (d A : FVec Ideal S384x1024 .f32) (v : FVec Ideal S384x1 .f32) (e : Ideal .f32) (k : Fin 1024) :
    k0_pay13 wo w d A v e (ix2 r k) = ∑ l : Fin 1024, k0_pay12 w d A v e (ix2 r l) * wo (ix2 k l) := by
  unfold k0_pay13
  generalize k0_pay12 w d A v e = G
  pointwise []
theorem resid_at (d A : FVec Ideal S384x1024 .f32) (v : FVec Ideal S384x1 .f32) (e : Ideal .f32) :
    k0_pay14 w d A v e (ix2 r l) = alpha * k0_pay12 w d A v e (ix2 r l) := by
  unfold k0_pay14
  generalize k0_pay12 w d A v e = G
  pointwise []
theorem weight_at (d A : FVec Ideal S384x1024 .f32) (v : FVec Ideal S384x1 .f32) (e : Ideal .f32) (k : Fin 1024) :
    k0_pay15 o w d A v e (ix2 k l) = ∑ r : Fin 384, o (ix2 r k) * k0_pay12 w d A v e (ix2 r l) := by
  unfold k0_pay15
  generalize k0_pay12 w d A v e = G
  pointwise []

theorem next_weight (q : FVec Ideal S1024x1024 .f32) (a : Vec Ideal S1024x1024 .f32) (k : Fin 1024) : k0_pay1 q a (ix2 k l) = a (ix2 k l) + q (ix2 k l) := by pointwise [k0_pay1]
theorem next_gain (q : FVec Ideal S1x1024 .f32) (a : Vec Ideal S1x1024 .f32) : k0_pay2 q a (ix2 0 l) = a (ix2 0 l) + q (ix2 0 l) := by pointwise [k0_pay2]
theorem next_bias (q : FVec Ideal S1x1024 .f32) (a : Vec Ideal S1x1024 .f32) : k0_pay3 q a (ix2 0 l) = a (ix2 0 l) + q (ix2 0 l) := by pointwise [k0_pay3]

variable (m : (ℓ : Loc nD τ sig) → Buf (Elt Ideal) ℓ) (c : Dev nD) (t : Fin cfg0.N)

/-- A point's values: the gradient that arrives, the centred rows, their mean square, and the sums its rows add. -/
abbrev cotT := k0_pay5 (iblk m c 0 t) (iblk m c 1 t)
abbrev cenT := k0_pay6 (iblk m c 2 t) (iblk m c 3 t) (iblk m c 4 t)
abbrev varT := k0_pay7 (iblk m c 2 t) (iblk m c 3 t) (iblk m c 4 t)
abbrev weightT := k0_pay15 (iblk m c 2 t) (iblk m c 5 t) (cotT m c t) (cenT m c t) (varT m c t) eps
abbrev gainT := k0_pay11 (cotT m c t) (cenT m c t) (varT m c t) eps
abbrev biasT := k0_pay10 (cotT m c t)

theorem lt11 : t.val < 11 := lt_of_lt_of_eq t.isLt (show cfg0.N = 11 from N_0)

theorem outs_back : (outsAt0 m c t.val t.isLt).1 = k0_pay13 (k0_pay4 (iblk m c 4 t)) (iblk m c 5 t) (cotT m c t) (cenT m c t) (varT m c t) eps := by
  have := lt11 t
  by_cases h : t.val % 11 = 0
  · rw [outsAt0_A m c t (by omega) (by omega) (by omega) (by omega) (by omega) (by omega)]; frame_out; rfl
  · rw [outsAt0_B m c t (by omega) (by omega) (by omega) (by omega) (by omega) (by omega)]; frame_out; rfl
theorem outs_resid : (outsAt0 m c t.val t.isLt).2.1 = k0_pay14 (iblk m c 5 t) (cotT m c t) (cenT m c t) (varT m c t) eps := by
  have := lt11 t
  by_cases h : t.val % 11 = 0
  · rw [outsAt0_A m c t (by omega) (by omega) (by omega) (by omega) (by omega) (by omega)]; frame_out; rfl
  · rw [outsAt0_B m c t (by omega) (by omega) (by omega) (by omega) (by omega) (by omega)]; frame_out; rfl
theorem outs_first (h : t.val % 11 = 0) : (outsAt0 m c t.val t.isLt).2.2 = (weightT m c t, gainT m c t, biasT m c t) := by
  have := lt11 t
  rw [outsAt0_A m c t (by omega) (by omega) (by omega) (by omega) (by omega) (by omega)]; frame_out; rfl
theorem outs_next (h : ¬t.val % 11 = 0) : (outsAt0 m c t.val t.isLt).2.2 =
    (k0_pay1 (weightT m c t) (outsAt0 m c (t.val - 1) (Nat.lt_of_le_of_lt (Nat.sub_le _ _) t.isLt)).2.2.1,
      k0_pay2 (gainT m c t) (outsAt0 m c (t.val - 1) (Nat.lt_of_le_of_lt (Nat.sub_le _ _) t.isLt)).2.2.2.1,
      k0_pay3 (biasT m c t) (outsAt0 m c (t.val - 1) (Nat.lt_of_le_of_lt (Nat.sub_le _ _) t.isLt)).2.2.2.2) := by
  rw [outsAt0_B m c t (by omega) (by omega) (by omega) (by omega) (by omega) (by omega)]; frame_out; rfl

end Cert.Proof.Out
end
-- ==== Proof.OutArrays.lean ====
module

public import proofs.«01_k».proof.Proof.OutTile

@[expose] public section
set_option maxRecDepth 16384
noncomputable section
namespace Cert.Proof.Out
open Cert.OutIdeal Cert.OutIdeal.Gen Cert.Proof.Norm Idealize.ShloMosaic Idealize.ShloMosaic.TcCoe Idealize.SL.Sem Pipeline

variable (m : (ℓ : Loc nD τ sig) → Buf (Elt Ideal) ℓ) (c : Dev nD)

/-- The arguments of device `c`. -/
abbrev argZ : Vec Ideal S4224x1024 .f32 := m ((c : Thread nD τ).loc main_arg0)
abbrev argP : Vec Ideal S4x4224x1024 .f32 := m ((c : Thread nD τ).loc main_arg1)
abbrev argO : Vec Ideal S4224x1024 .f32 := m ((c : Thread nD τ).loc main_arg2)
abbrev argH : Vec Ideal S4224x1024 .f32 := m ((c : Thread nD τ).loc main_arg3)
abbrev argM : Vec Ideal S1024x1024 .f32 := m ((c : Thread nD τ).loc main_arg4)
abbrev argW : Vec Ideal S1x1024 .f32 := m ((c : Thread nD τ).loc main_arg5)

theorem V_m : (V m c main_v0 : Vec Ideal S1024x1024 .bf16) = truncf (F := Ideal) .bf16 (argM m c) bitsLt_bf16_f32 := by
  show StableHlo.after hostOps0 (fun b => m (c, b)) (Proc.devRef .tc main_v0) = _
  simp only [hostOps0]
  after_results_simp

theorem idxW0 : ∀ t : Fin cfg0.N, win0_0.index t = ![t.val, 0] := (by decide +kernel : ∀ t : Fin grid0.N, _)
theorem idxW1 : ∀ t : Fin cfg0.N, win0_1.index t = ![0, t.val, 0] := (by decide +kernel : ∀ t : Fin grid0.N, _)
theorem idxW2 : ∀ t : Fin cfg0.N, win0_2.index t = ![t.val, 0] := (by decide +kernel : ∀ t : Fin grid0.N, _)
theorem idxW3 : ∀ t : Fin cfg0.N, win0_3.index t = ![t.val, 0] := (by decide +kernel : ∀ t : Fin grid0.N, _)
theorem idxW4 : ∀ t : Fin cfg0.N, win0_4.index t = ![0, 0] := (by decide +kernel : ∀ t : Fin grid0.N, _)
theorem idxW5 : ∀ t : Fin cfg0.N, win0_5.index t = ![0, 0] := (by decide +kernel : ∀ t : Fin grid0.N, _)
theorem idxW7 : ∀ t : Fin cfg0.N, win0_7.index t = ![t.val, 0] := (by decide +kernel : ∀ t : Fin grid0.N, _)
theorem idxW8 : ∀ t : Fin cfg0.N, win0_8.index t = ![t.val, 0] := (by decide +kernel : ∀ t : Fin grid0.N, _)

variable (t : Fin cfg0.N)

/-- Row `r` of tile `t`. -/
abbrev rowIx (t : Fin cfg0.N) (r : Fin 384) : Fin 4224 := ⟨384 * t.val + r.val, by have := lt11 t; omega⟩

theorem read_z (r : Fin 384) (k : Fin 1024) : iblk m c 0 t (ix2 r k) = argZ m c (ix2 (rowIx t r) k) := by
  rw [show argZ m c = V m c main_arg0 from (V_main_arg0 m c).symm]
  unfold iblk
  show V m c main_arg0 _ = _
  generalize V m c main_arg0 = A
  blk_ext [idxW0 t]
theorem read_p (q : Fin 4) (r : Fin 384) (k : Fin 1024) : iblk m c 1 t (ix3 q r k) = argP m c (ix3 q (rowIx t r) k) := by
  rw [show argP m c = V m c main_arg1 from (V_main_arg1 m c).symm]
  unfold iblk
  show V m c main_arg1 _ = _
  generalize V m c main_arg1 = A
  blk_ext [idxW1 t]
theorem read_o (r : Fin 384) (k : Fin 1024) : iblk m c 2 t (ix2 r k) = argO m c (ix2 (rowIx t r) k) := by
  rw [show argO m c = V m c main_arg2 from (V_main_arg2 m c).symm]
  unfold iblk
  show V m c main_arg2 _ = _
  generalize V m c main_arg2 = A
  blk_ext [idxW2 t]
theorem read_h (r : Fin 384) (k : Fin 1024) : iblk m c 3 t (ix2 r k) = argH m c (ix2 (rowIx t r) k) := by
  rw [show argH m c = V m c main_arg3 from (V_main_arg3 m c).symm]
  unfold iblk
  show V m c main_arg3 _ = _
  generalize V m c main_arg3 = A
  blk_ext [idxW3 t]
theorem read_m (k l : Fin 1024) : iblk m c 4 t (ix2 k l) = argM m c (ix2 k l) := by
  rw [show argM m c (ix2 k l) = (V m c main_v0 : Vec Ideal S1024x1024 .bf16) (ix2 k l) by rw [V_m]; rfl]
  unfold iblk
  show V m c main_v0 _ = _
  generalize V m c main_v0 = A
  blk_ext [idxW4 t]
theorem read_w (k : Fin 1024) : iblk m c 5 t (ix2 0 k) = argW m c (ix2 0 k) := by
  rw [show argW m c = V m c main_arg5 from (V_main_arg5 m c).symm]
  unfold iblk
  show V m c main_arg5 _ = _
  generalize V m c main_arg5 = A
  blk_ext [idxW5 t]

/-- Row `R`: before the norm, the gradient that arrives, and the gradient before the norm. -/
def pre (o h : Vec Ideal S4224x1024 .f32) (w : Vec Ideal S1024x1024 .f32) (R : Fin 4224) (l : Fin 1024) : EReal :=
  alpha * h (ix2 R l) + ∑ k : Fin 1024, o (ix2 R k) * w (ix2 k l)
def cot (z : Vec Ideal S4224x1024 .f32) (p : Vec Ideal S4x4224x1024 .f32) (R : Fin 4224) (l : Fin 1024) : EReal :=
  alpha * z (ix2 R l) + ∑ q : Fin 4, p (ix3 q R l)
abbrev argPre : Fin 4224 → Fin 1024 → EReal := pre (argO m c) (argH m c) (argM m c)
abbrev argCot : Fin 4224 → Fin 1024 → EReal := cot (argZ m c) (argP m c)
abbrev argGrad (R : Fin 4224) : Fin 1024 → EReal := rowGrad (argPre m c R) (argCot m c R) (gain (argW m c))

theorem rows_pre (r : Fin 384) : preTile (iblk m c 2 t) (iblk m c 3 t) (iblk m c 4 t) r = argPre m c (rowIx t r) := by
  funext l
  unfold argPre pre preTile
  rw [read_h]
  congr 1
  exact Finset.sum_congr rfl fun k _ => by rw [read_o, read_m]
theorem rows_cot (r : Fin 384) : tileRow (cotT m c t) r = argCot m c (rowIx t r) := by
  funext l
  refine (cot_at _ _ r l).trans ?_
  unfold argCot cot
  rw [read_z]
  congr 1
  exact Finset.sum_congr rfl fun k _ => by rw [read_p]
theorem rows_w : gain (iblk m c 5 t) = gain (argW m c) := funext fun k => read_w m c t k

theorem cen_point (r : Fin 384) (l : Fin 1024) : cenT m c t (ix2 r l) = cen (argPre m c (rowIx t r)) l :=
  (cen_at _ _ _ r l).trans (by rw [rows_pre])
theorem spread_point (r : Fin 384) : k0_pay8 (varT m c t) eps (ix2 r 0) = spread (argPre m c (rowIx t r)) :=
  (spread_at _ _ _ r).trans (by rw [rows_pre])
theorem scale_point (r : Fin 384) : k0_pay9 (varT m c t) eps (ix2 r 0) = scale (argPre m c (rowIx t r)) :=
  (scale_at _ _ _ r).trans (by rw [rows_pre])
/-- A point's gradient before the norm. -/
theorem grad_point (r : Fin 384) (l : Fin 1024) : k0_pay12 (iblk m c 5 t) (cotT m c t) (cenT m c t) (varT m c t) eps (ix2 r l) = argGrad m c (rowIx t r) l :=
  (rowGrad_at _ r l _ _ _ _ (cen_point m c t) (spread_point m c t) (scale_point m c t)).trans (by rw [rows_cot, rows_w])

theorem back_point (r : Fin 384) (k : Fin 1024) : (outsAt0 m c t.val t.isLt).1 (ix2 r k) = ∑ l : Fin 1024, argGrad m c (rowIx t r) l * argM m c (ix2 k l) := by
  rw [outs_back]
  refine (back_at _ r _ _ _ _ _ k).trans ?_
  exact Finset.sum_congr rfl fun l _ => by rw [grad_point, wo_at, read_m]
theorem resid_point (r : Fin 384) (l : Fin 1024) : (outsAt0 m c t.val t.isLt).2.1 (ix2 r l) = alpha * argGrad m c (rowIx t r) l := by
  rw [outs_resid]
  refine (resid_at _ r l _ _ _ _).trans ?_
  rw [grad_point]

/-- One row's terms of the gradients of the weights, the gain and the bias. -/
def weightTerm (k l : Fin 1024) (R : Fin 4224) : EReal := argO m c (ix2 R k) * argGrad m c R l
def normTerm (l : Fin 1024) (R : Fin 4224) : EReal := gainTerm (argPre m c R) (argCot m c R) l

theorem weight_point (k l : Fin 1024) : weightT m c t (ix2 k l) = ∑ r : Fin 384, ext (weightTerm m c k l) (384 * t.val + r.val) := by
  refine (weight_at _ _ l _ _ _ _ k).trans ?_
  exact Finset.sum_congr rfl fun r _ => by rw [grad_point, read_o, ext_lt _ _ (by have := lt11 t; omega)]; rfl
theorem gain_point (l : Fin 1024) : gainT m c t (ix2 0 l) = ∑ r : Fin 384, ext (normTerm m c l) (384 * t.val + r.val) := by
  refine (gain_at l _ _ _ _ (cen_point m c t) (scale_point m c t)).trans ?_
  exact Finset.sum_congr rfl fun r _ => by rw [rows_cot, ext_lt _ _ (by have := lt11 t; omega)]; rfl
theorem bias_point (l : Fin 1024) : biasT m c t (ix2 0 l) = ∑ r : Fin 384, ext (fun R => argCot m c R l) (384 * t.val + r.val) := by
  refine (bias_at l _).trans ?_
  exact Finset.sum_congr rfl fun r _ => by rw [ext_lt _ _ (by have := lt11 t; omega)]; exact congrFun (rows_cot m c t r) l

/-- What adds one tile's sum at each point holds the sum over all rows at the last. -/
theorem total (g : (n : ℕ) → n < cfg0.N → EReal) (f : Fin 4224 → EReal)
    (h0 : ∀ t : Fin cfg0.N, t.val % 11 = 0 → g t.val t.isLt = ∑ r : Fin 384, ext f (384 * t.val + r.val))
    (hs : ∀ t : Fin cfg0.N, ¬t.val % 11 = 0 → g t.val t.isLt = g (t.val - 1) (Nat.lt_of_le_of_lt (Nat.sub_le _ _) t.isLt) + ∑ r : Fin 384, ext f (384 * t.val + r.val))
    (t : Fin cfg0.N) (h : t.val = 10) : g t.val t.isLt = ∑ R : Fin 4224, f R := by
  have e := Pipeline.eq_sum_of_reset_step_divmod g 11 0 (fun a i => ∑ r : Fin 384, ext f (384 * (11 * a + i) + r.val))
    (fun t h => by rw [h0 t h, zero_add, show 11 * (t.val / 11) + t.val % 11 = t.val by omega])
    (fun t h => by rw [hs t h, show 11 * (t.val / 11) + t.val % 11 = t.val by omega]) t
  refine e.trans ?_
  rw [zero_add, h]
  exact Eq.trans (by norm_num) (sum_tiles 11 384 rfl _)

theorem weight_last (h : t.val = 10) (k l : Fin 1024) : (outsAt0 m c t.val t.isLt).2.2.1 (ix2 k l) = ∑ R : Fin 4224, weightTerm m c k l R :=
  total (fun n h => (outsAt0 m c n h).2.2.1 (ix2 k l)) _ (fun t h => (congrFun (congrArg (fun p => p.1) (outs_first m c t h)) (ix2 k l)).trans (weight_point m c t k l))
    (fun t h => (congrFun (congrArg (fun p => p.1) (outs_next m c t h)) (ix2 k l)).trans ((next_weight l _ _ k).trans (congrArg _ (weight_point m c t k l)))) t h
theorem gain_last (h : t.val = 10) (l : Fin 1024) : (outsAt0 m c t.val t.isLt).2.2.2.1 (ix2 0 l) = ∑ R : Fin 4224, normTerm m c l R :=
  total (fun n h => (outsAt0 m c n h).2.2.2.1 (ix2 0 l)) _ (fun t h => (congrFun (congrArg (fun p => p.2.1) (outs_first m c t h)) (ix2 0 l)).trans (gain_point m c t l))
    (fun t h => (congrFun (congrArg (fun p => p.2.1) (outs_next m c t h)) (ix2 0 l)).trans ((next_gain l _ _).trans (congrArg _ (gain_point m c t l)))) t h
theorem bias_last (h : t.val = 10) (l : Fin 1024) : (outsAt0 m c t.val t.isLt).2.2.2.2 (ix2 0 l) = ∑ R : Fin 4224, argCot m c R l :=
  total (fun n h => (outsAt0 m c n h).2.2.2.2 (ix2 0 l)) _ (fun t h => (congrFun (congrArg (fun p => p.2.2) (outs_first m c t h)) (ix2 0 l)).trans (bias_point m c t l))
    (fun t h => (congrFun (congrArg (fun p => p.2.2) (outs_next m c t h)) (ix2 0 l)).trans ((next_bias l _ _).trans (congrArg _ (bias_point m c t l)))) t h

/-- The five gradients, as arrays. -/
def gradO : Vec Ideal S4224x1024 .f32 := fun i => ∑ l : Fin 1024, argGrad m c (i 0) l * argM m c (ix2 (i 1) l)
def gradH : Vec Ideal S4224x1024 .f32 := fun i => alpha * argGrad m c (i 0) (i 1)
def gradM : Vec Ideal S1024x1024 .f32 := fun i => ∑ R : Fin 4224, weightTerm m c (i 0) (i 1) R
def gradW : Vec Ideal S1x1024 .f32 := fun i => ∑ R : Fin 4224, normTerm m c (i 1) R
def gradB : Vec Ideal S1x1024 .f32 := fun i => ∑ R : Fin 4224, argCot m c R (i 1)

theorem final7 : (dats m 0 c).arrAt 7 cfg0.N = gradO m c := by
  refine (dats m 0 c).arrAt_eq_of_covers 7 _ (by decide +kernel) fun t hf y => ?_
  blk_simp
  have key : (outsAt0 m c t.val t.isLt).1 y = gradO m c (((View.whole main_v1_0).slice (win0_7.rect t)).emb y) := by
    obtain ⟨r, l, rfl⟩ : ∃ (r : Fin 384) (l : Fin 1024), y = ix2 r l := ⟨_, _, eq_ix2 y⟩
    have ee : (((View.whole main_v1_0).slice (win0_7.rect t)).emb (ix2 r l)) = ix2 (rowIx t r) l := by blk_ext [idxW7 t]
    rw [back_point, ee]
    rfl
  rw [after0_7]
  exact key
theorem final8 : (dats m 0 c).arrAt 8 cfg0.N = gradH m c := by
  refine (dats m 0 c).arrAt_eq_of_covers 8 _ (by decide +kernel) fun t hf y => ?_
  blk_simp
  have key : (outsAt0 m c t.val t.isLt).2.1 y = gradH m c (((View.whole main_v1_1).slice (win0_8.rect t)).emb y) := by
    obtain ⟨r, l, rfl⟩ : ∃ (r : Fin 384) (l : Fin 1024), y = ix2 r l := ⟨_, _, eq_ix2 y⟩
    have ee : (((View.whole main_v1_1).slice (win0_8.rect t)).emb (ix2 r l)) = ix2 (rowIx t r) l := by blk_ext [idxW8 t]
    rw [resid_point, ee]
    rfl
  rw [after0_8]
  exact key

def lastPt : Fin cfg0.N := ⟨10, by rw [show cfg0.N = 11 from N_0]; omega⟩
theorem whole9 : (cfg0.win 9).WholeAt lastPt := by decide +kernel
theorem whole10 : (cfg0.win 10).WholeAt lastPt := by decide +kernel
theorem whole11 : (cfg0.win 11).WholeAt lastPt := by decide +kernel

theorem final9 : (dats m 0 c).arrAt 9 cfg0.N = gradM m c := by
  refine (dats m 0 c).arrAt_eq_of_after_last 9 lastPt whole9 _ fun j => ?_
  rw [after0_9]
  blk_simp
  obtain ⟨k, l, rfl⟩ : ∃ (k : Fin 1024) (l : Fin 1024), j = ix2 k l := ⟨_, _, eq_ix2 j⟩
  exact weight_last m c lastPt rfl k l
theorem final10 : (dats m 0 c).arrAt 10 cfg0.N = gradW m c := by
  refine (dats m 0 c).arrAt_eq_of_after_last 10 lastPt whole10 _ fun j => ?_
  rw [after0_10]
  blk_simp
  obtain ⟨q, l, rfl⟩ : ∃ (q : Fin 1) (l : Fin 1024), j = ix2 q l := ⟨_, _, eq_ix2 j⟩
  rw [Fin.fin_one_eq_zero q]
  exact gain_last m c lastPt rfl l
theorem final11 : (dats m 0 c).arrAt 11 cfg0.N = gradB m c := by
  refine (dats m 0 c).arrAt_eq_of_after_last 11 lastPt whole11 _ fun j => ?_
  rw [after0_11]
  blk_simp
  obtain ⟨q, l, rfl⟩ : ∃ (q : Fin 1) (l : Fin 1024), j = ix2 q l := ⟨_, _, eq_ix2 j⟩
  rw [Fin.fin_one_eq_zero q]
  exact bias_last m c lastPt rfl l

end Cert.Proof.Out
end
-- ==== Proof.OutRefSide.lean ====
module

public import proofs.«01_k».proof.Proof.NormRow
public import proofs.«01_k».proof.Proof.Gen.OutRefIdeal.Read
public import Idealize.ShloMosaic.Lib.Claim
public import Idealize.ShloMosaic.Lib.Tactic
public import Idealize.ShloMosaic.Lib.Pointwise

@[expose] public section
set_option maxRecDepth 16384
noncomputable section
namespace Cert.Proof.Out
open Cert.OutRefIdeal Cert.OutRefIdeal.Gen Cert.Proof.Norm Idealize.ShloMosaic Idealize.ShloMosaic.TcCoe Idealize.SL.Sem

/-! The reference's operations of a row are the row functions. -/

variable (z : Vec Ideal S4224x1024 .f32) (p : Vec Ideal S4x4224x1024 .f32) (o h : Vec Ideal S4224x1024 .f32) (wo : Vec Ideal S1024x1024 .f32)
  (w : Vec Ideal S1x1024 .f32) (r : Fin 4224) (l : Fin 1024)

abbrev refGain (w : Vec Ideal S1x1024 .f32) (l : Fin 1024) : EReal := w (ix2 0 l)
/-- A row before the norm, and the gradient that arrives there. -/
def refPre (r : Fin 4224) (l : Fin 1024) : EReal := Ideal.ofBits .f32 0x3FB504F3#32 * h (ix2 r l) + ∑ k : Fin 1024, o (ix2 r k) * wo (ix2 k l)
def refCot (r : Fin 4224) (l : Fin 1024) : EReal := Ideal.ofBits .f32 0x3FB504F3#32 * z (ix2 r l) + ∑ q : Fin 4, p (ix3 q r l)

theorem ref_pre : Read.val_main_v3 (F := Ideal) o h wo (ix2 r l) = refPre o h wo r l := by
  pointwise [Read.val_main_v3, Read.val_main_v2, Read.val_main_v1, Read.val_main_v0, Read.val_main_cst]
  rfl
theorem ref_cot : Read.val_main_v30 (F := Ideal) z p (ix2 r l) = refCot z p r l := by
  pointwise [Read.val_main_v30, Read.val_main_v29, Read.val_main_v28, Read.val_main_v27, Read.val_main_cst_6, Read.val_main_cst_7]
  rfl
theorem ref_cen : Read.val_main_v9 (F := Ideal) o h wo (ix2 r l) = cen (refPre o h wo r) l := by
  have e := ref_pre o h wo r
  unfold Read.val_main_v9 Read.val_main_v8 Read.val_main_v7 Read.val_main_v5 Read.val_main_v4
  generalize Read.val_main_v3 (F := Ideal) o h wo = A at *
  pointwise [Read.val_main_v6, Read.val_main_cst_0, Read.val_main_cst_1]
  simp only [e]
  rfl
theorem ref_spread : Read.val_main_v16 (F := Ideal) o h wo (ix2 r 0) = spread (refPre o h wo r) := by
  have e := ref_cen o h wo r
  unfold Read.val_main_v16 Read.val_main_v14 Read.val_main_v12 Read.val_main_v11 Read.val_main_v10
  generalize Read.val_main_v9 (F := Ideal) o h wo = A at *
  pointwise [Read.val_main_v13, Read.val_main_v15, Read.val_main_cst_2, Read.val_main_cst_3, Read.val_main_cst_4]
  simp only [e]
  rfl
theorem ref_scale : Read.val_main_v17 (F := Ideal) o h wo (ix2 r 0) = scale (refPre o h wo r) := by
  have e := ref_spread o h wo r
  unfold Read.val_main_v17
  generalize Read.val_main_v16 (F := Ideal) o h wo = A at *
  pointwise []
  rw [e]
  rfl
theorem ref_up : Read.val_main_v37 (F := Ideal) z p w (ix2 r l) = refCot z p r l * w (ix2 0 l) := by
  have e := ref_cot z p r l
  unfold Read.val_main_v37
  generalize Read.val_main_v30 (F := Ideal) z p = A at *
  pointwise [Read.val_main_v36]
  rw [e]
theorem ref_factor : Read.val_main_v20 (F := Ideal) o h wo (ix2 r 0) = minusHalf * Ideal.div (scale (refPre o h wo r)) (spread (refPre o h wo r)) := by
  have e1 := ref_spread o h wo r
  have e2 := ref_scale o h wo r
  unfold Read.val_main_v20 Read.val_main_v18
  generalize Read.val_main_v16 (F := Ideal) o h wo = A at *
  generalize Read.val_main_v17 (F := Ideal) o h wo = B at *
  pointwise [Read.val_main_v19, Read.val_main_cst_5]
  rw [e1, e2]
theorem ref_spreadGrad : Read.val_main_v47 (F := Ideal) z p o h wo w (ix2 r l) = spreadGrad (refPre o h wo r) (refCot z p r) (refGain w) := by
  have e := ref_cen o h wo r
  have e1 := ref_up z p w r
  have e2 := ref_factor o h wo r
  unfold Read.val_main_v47 Read.val_main_v46 Read.val_main_v45 Read.val_main_v43 Read.val_main_v40 Read.val_main_v39 Read.val_main_v38
  generalize Read.val_main_v9 (F := Ideal) o h wo = A at *
  generalize Read.val_main_v37 (F := Ideal) z p w = B at *
  generalize Read.val_main_v20 (F := Ideal) o h wo = C at *
  pointwise [Read.val_main_v44, Read.val_main_cst_10, Read.val_main_cst_11, Read.val_main_cst_12]
  rw [Fin.sum_univ_one]
  simp only [e, e1]
  rw [e2]
  rfl
theorem ref_cenGrad : Read.val_main_v51 (F := Ideal) z p o h wo w (ix2 r l) = cenGrad (refPre o h wo r) (refCot z p r) (refGain w) l := by
  have e := ref_cen o h wo r
  have e1 := ref_up z p w r
  have e2 := ref_scale o h wo r
  have e3 := ref_spreadGrad z p o h wo w r
  unfold Read.val_main_v51 Read.val_main_v50 Read.val_main_v49 Read.val_main_v48 Read.val_main_v42
  generalize Read.val_main_v9 (F := Ideal) o h wo = A at *
  generalize Read.val_main_v37 (F := Ideal) z p w = B at *
  generalize Read.val_main_v47 (F := Ideal) z p o h wo w = C at *
  unfold Read.val_main_v41
  generalize Read.val_main_v17 (F := Ideal) o h wo = D at *
  pointwise []
  simp only [e, e1, e3]
  rw [e2]
  rfl
/-- The gradient of a row before the norm. -/
theorem ref_rowGrad : Read.val_main_v59 (F := Ideal) z p o h wo w (ix2 r l) = rowGrad (refPre o h wo r) (refCot z p r) (refGain w) l := by
  have e := ref_cenGrad z p o h wo w r
  unfold Read.val_main_v59 Read.val_main_v58 Read.val_main_v57 Read.val_main_v56 Read.val_main_v54 Read.val_main_v53 Read.val_main_v52
  generalize Read.val_main_v51 (F := Ideal) z p o h wo w = A at *
  pointwise [Read.val_main_v55, Read.val_main_cst_13, Read.val_main_cst_14, Read.val_main_cst_15]
  rw [Fin.sum_univ_one]
  simp only [e]
  rfl
theorem ref_gain : Read.val_main_v35 (F := Ideal) z p o h wo (ix2 0 l) = ∑ R : Fin 4224, gainTerm (refPre o h wo R) (refCot z p R) l := by
  have e := fun R => ref_cen o h wo R l
  have e1 := fun R => ref_cot z p R l
  have e2 := fun R => ref_scale o h wo R
  unfold Read.val_main_v35 Read.val_main_v34 Read.val_main_v33 Read.val_main_v22 Read.val_main_v21
  generalize Read.val_main_v9 (F := Ideal) o h wo = A at *
  generalize Read.val_main_v30 (F := Ideal) z p = B at *
  generalize Read.val_main_v17 (F := Ideal) o h wo = D at *
  pointwise [Read.val_main_cst_9]
  simp only [e, e1, e2]
  rfl
theorem ref_bias : Read.val_main_v32 (F := Ideal) z p (ix2 0 l) = ∑ R : Fin 4224, refCot z p R l := by
  have e1 := fun R => ref_cot z p R l
  unfold Read.val_main_v32 Read.val_main_v31
  generalize Read.val_main_v30 (F := Ideal) z p = B at *
  pointwise [Read.val_main_cst_8]
  simp only [e1]
theorem ref_back (k : Fin 1024) : Read.val_main_v62 (F := Ideal) z p o h wo w (ix2 r k) = ∑ l : Fin 1024, rowGrad (refPre o h wo r) (refCot z p r) (refGain w) l * wo (ix2 k l) := by
  have e := ref_rowGrad z p o h wo w r
  unfold Read.val_main_v62
  generalize Read.val_main_v59 (F := Ideal) z p o h wo w = A at *
  pointwise []
  simp only [e]
theorem ref_resid : Read.val_main_v64 (F := Ideal) z p o h wo w (ix2 r l) = Ideal.ofBits .f32 0x3FB504F3#32 * rowGrad (refPre o h wo r) (refCot z p r) (refGain w) l := by
  have e := ref_rowGrad z p o h wo w r l
  unfold Read.val_main_v64
  generalize Read.val_main_v59 (F := Ideal) z p o h wo w = A at *
  pointwise [Read.val_main_v63, Read.val_main_cst_16]
  rw [e]
theorem ref_weight (k : Fin 1024) : Read.val_main_v61 (F := Ideal) z p o h wo w (ix2 k l) = ∑ R : Fin 4224, o (ix2 R k) * rowGrad (refPre o h wo R) (refCot z p R) (refGain w) l := by
  have e := fun R => ref_rowGrad z p o h wo w R l
  unfold Read.val_main_v61 Read.val_main_v60
  generalize Read.val_main_v59 (F := Ideal) z p o h wo w = A at *
  pointwise []
  simp only [e]
  exact Finset.sum_congr rfl fun R _ => mul_comm _ _

end Cert.Proof.Out
end
-- ==== Proof.OutClaims.lean ====
module

public import proofs.«01_k».proof.Defs
public import proofs.«01_k».proof.Proof.OutArrays
public import proofs.«01_k».proof.Proof.OutRefSide
public import proofs.«01_k».proof.Proof.Gen.Out.Frame
public import proofs.«01_k».proof.Proof.Gen.OutRefIdeal

@[expose] public section
noncomputable section
namespace Cert.Proof.Out
open Idealize.ShloMosaic Idealize.SL.Sem

/-- The call, run on any values: it ends without fault, its argument arrays and its counters as they were. -/
theorem frame_kernel : Cert.quiescent_Out := fun m ρ _ => Cert.Out.Gen.frame m ρ
theorem frame_ideal : Cert.quiescent_OutIdeal := fun m ρ _ => Cert.OutIdeal.Gen.frame m ρ
theorem frame_reference : Cert.quiescent_OutRefIdeal := fun m ρ _ =>
  (θ_run _ _ _).mono (fun r h => ⟨fun c => (h c).2.2.2.2.2, sem_eq_zero_of_no_sems (by decide) r.2⟩) (Cert.OutRefIdeal.Value.run m ρ)

variable (m : (ℓ : Loc Cert.OutIdeal.nD Cert.OutIdeal.τ Cert.OutIdeal.sig) → Buf (Elt Ideal) ℓ) (c : Dev Cert.OutIdeal.nD)

/-! The reference's five results, at the kernel's arguments, are the arrays that the call leaves. -/

theorem ref_gradO : Cert.OutRefIdeal.Read.val_main_v62 (F := Ideal) (argZ m c) (argP m c) (argO m c) (argH m c) (argM m c) (argW m c) = gradO m c := by
  funext i
  obtain ⟨R, l, rfl⟩ : ∃ (R : Fin 4224) (l : Fin 1024), i = ix2 R l := ⟨_, _, eq_ix2 i⟩
  exact ref_back _ _ _ _ _ _ R l
theorem ref_gradH : Cert.OutRefIdeal.Read.val_main_v64 (F := Ideal) (argZ m c) (argP m c) (argO m c) (argH m c) (argM m c) (argW m c) = gradH m c := by
  funext i
  obtain ⟨R, l, rfl⟩ : ∃ (R : Fin 4224) (l : Fin 1024), i = ix2 R l := ⟨_, _, eq_ix2 i⟩
  exact ref_resid _ _ _ _ _ _ R l
theorem ref_gradM : Cert.OutRefIdeal.Read.val_main_v61 (F := Ideal) (argZ m c) (argP m c) (argO m c) (argH m c) (argM m c) (argW m c) = gradM m c := by
  funext i
  obtain ⟨k, l, rfl⟩ : ∃ (k : Fin 1024) (l : Fin 1024), i = ix2 k l := ⟨_, _, eq_ix2 i⟩
  exact ref_weight _ _ _ _ _ _ l k
theorem ref_gradW : Cert.OutRefIdeal.Read.val_main_v35 (F := Ideal) (argZ m c) (argP m c) (argO m c) (argH m c) (argM m c) = gradW m c := by
  funext i
  obtain ⟨q, l, rfl⟩ : ∃ (q : Fin 1) (l : Fin 1024), i = ix2 q l := ⟨_, _, eq_ix2 i⟩
  rw [Fin.fin_one_eq_zero q]
  exact ref_gain _ _ _ _ _ l
theorem ref_gradB : Cert.OutRefIdeal.Read.val_main_v32 (F := Ideal) (argZ m c) (argP m c) = gradB m c := by
  funext i
  obtain ⟨q, l, rfl⟩ : ∃ (q : Fin 1) (l : Fin 1024), i = ix2 q l := ⟨_, _, eq_ix2 i⟩
  rw [Fin.fin_one_eq_zero q]
  exact ref_bias _ _ l

/-- Call and reference leave the same five gradients. -/
theorem values : Cert.algebraic_OutIdeal_OutRefIdeal := fun m ρ m' ρ' _ hag =>
  ⟨gradO m, gradH m, gradM m, gradW m, gradB m,
    (θ_run _ _ _).mono (fun _ h c => ⟨(h c).1.trans (final7 m c), (h c).2.1.trans (final8 m c), (h c).2.2.1.trans (final9 m c),
        (h c).2.2.2.1.trans (final10 m c), (h c).2.2.2.2.1.trans (final11 m c), (h c).2.2.2.2.2⟩)
      (Cert.OutIdeal.Value.run_blocks m ρ),
    (θ_run _ _ _).mono (fun _ h c => by
        obtain ⟨h0, h1, h2, h3, h4, h5, h6⟩ := hag c
        obtain ⟨e0, e1, e2, e3, e4, kept⟩ := h c
        refine ⟨e0.trans ((Cert.OutRefIdeal.Read.val_main_v62_eq _ _).trans ?_), e1.trans ((Cert.OutRefIdeal.Read.val_main_v64_eq _ _).trans ?_),
          e2.trans ((Cert.OutRefIdeal.Read.val_main_v61_eq _ _).trans ?_), e3.trans ((Cert.OutRefIdeal.Read.val_main_v35_eq _ _ _ _ _).trans ?_),
          e4.trans ((Cert.OutRefIdeal.Read.val_main_v32_eq _ _).trans ?_), kept⟩
        · rw [h0, h1, h2, h3, h4, h5]; exact ref_gradO m c
        · rw [h0, h1, h2, h3, h4, h5]; exact ref_gradH m c
        · rw [h0, h1, h2, h3, h4, h5]; exact ref_gradM m c
        · rw [h0, h1, h2, h3, h4]; exact ref_gradW m c
        · rw [h0, h1]; exact ref_gradB m c)
      (Cert.OutRefIdeal.Value.run m' ρ')⟩

end Cert.Proof.Out
end
-- ==== Proof.QkvRow.lean ====
module

public import proofs.«01_k».proof.Proof.Sums
public import Mathlib.Data.EReal.Operations

@[expose] public section
noncomputable section
namespace Cert.Proof.Qkv

/-! One row of the rotary embedding backwards: heads of 64 columns, a head's halves turned back by the angles of its 32 columns. -/

/-- The column, of the 32 of half a head, of a lane. -/
abbrev col (n : ℕ) : Fin 32 := ⟨n % 32, Nat.mod_lt _ (by omega)⟩

def turn {n : ℕ} (g : Fin n → EReal) (cs sn : Fin 32 → EReal) (C : Fin n) : EReal :=
  if C.val % 64 < 32 then ext g (C.val + 32) * sn (col C.val) + g C * cs (col C.val)
  else g C * cs (col C.val) + -ext g (C.val - 32) * sn (col C.val)

/-- A row of zeros stays one. -/
theorem turn_zero {n : ℕ} (cs sn : Fin 32 → EReal) (C : Fin n) : turn (fun _ => 0) cs sn C = 0 := by
  have e : ∀ k, ext (fun _ : Fin n => (0 : EReal)) k = 0 := fun k => by unfold ext; split <;> rfl
  unfold turn
  rw [e, e, neg_zero, zero_mul, zero_mul, add_zero, ite_self]

/-- The 112 rows in front of the sequence count nothing where the summand vanishes. -/
theorem sum_front (f : Fin 4224 → EReal) (h : ∀ R : Fin 4224, R.val < 112 → f R = 0) : ∑ R : Fin 4224, f R = ∑ P : Fin 4112, f ⟨112 + P.val, by omega⟩ := by
  refine (Fin.sum_univ_add (a := 112) (b := 4112) f).trans ?_
  rw [Finset.sum_eq_zero fun i _ => h _ i.isLt, zero_add]
  exact Finset.sum_congr rfl fun P _ => congrArg f (Fin.ext rfl)

end Cert.Proof.Qkv
end
-- ==== Proof.QkvTile.lean ====
module

public import proofs.«01_k».proof.Proof.QkvRow
public import proofs.«01_k».proof.Proof.Gen.QkvIdeal.Value
public import Idealize.ShloMosaic.Lib.Claim
public import Idealize.ShloMosaic.Lib.Tactic
public import Idealize.ShloMosaic.Lib.Pointwise
public import Idealize.ShloMosaic.Lib.Pipeline.ValueKit.Point
public import Idealize.ShloMosaic.Lib.Pipeline.ReadBack

@[expose] public section
set_option maxRecDepth 16384
noncomputable section
namespace Cert.Proof.Qkv
open Cert.QkvIdeal Cert.QkvIdeal.Gen Idealize.ShloMosaic Idealize.ShloMosaic.TcCoe Idealize.SL.Sem Pipeline

/-! One tile: a row of the queries' gradient, and of the keys', is turned back; then the products. -/

/-- The half of its head that a lane lies in. -/
theorem halfQ (r : Fin 384) (l : Fin 1024) : k0_pay18 (ix2 r l) = if l.val % 64 < 32 then 1#1 else 0#1 := by
  pointwise [k0_pay18]
  revert l
  decide +kernel

variable (t : Vec Ideal S384x128 .f32) (r : Fin 384)

theorem tileQ_cos (l : Fin 1024) : k0_pay11 t (ix2 r l) = t (ix2 r ⟨l.val % 128, by omega⟩) := by
  have e : ∀ (i j : Fin 128), i = j → t (ix2 r i) = t (ix2 r j) := fun i j h => by rw [h]
  pointwise [k0_pay11, k0_pay3]
  split_ifs <;> exact e _ _ (Fin.ext (by dsimp only; omega))
theorem tileQ_sin (l : Fin 1024) : k0_pay12 t (ix2 r l) = t (ix2 r ⟨l.val % 128, by omega⟩) := by
  have e : ∀ (i j : Fin 128), i = j → t (ix2 r i) = t (ix2 r j) := fun i j h => by rw [h]
  pointwise [k0_pay12, k0_pay4]
  split_ifs <;> exact e _ _ (Fin.ext (by dsimp only; omega))
theorem tileK_cos (l : Fin 256) : k0_pay13 t (ix2 r l) = t (ix2 r ⟨l.val % 128, by omega⟩) := by
  have e : ∀ (i j : Fin 128), i = j → t (ix2 r i) = t (ix2 r j) := fun i j h => by rw [h]
  pointwise [k0_pay13, k0_pay3]
  split_ifs <;> exact e _ _ (Fin.ext (by dsimp only; omega))
theorem tileK_sin (a b : Vec Ideal S384x256 .f32) (l : Fin 256) : k0_pay14 t a b (ix2 r l) = (a (ix2 r l) + b (ix2 r l)) * t (ix2 r ⟨l.val % 128, by omega⟩) := by
  have e : ∀ (i j : Fin 128), i = j → (a (ix2 r l) + b (ix2 r l)) * t (ix2 r i) = (a (ix2 r l) + b (ix2 r l)) * t (ix2 r j) := fun i j h => by rw [h]
  pointwise [k0_pay14, k0_pay9, k0_pay4]
  split_ifs <;> exact e _ _ (Fin.ext (by dsimp only; omega))
theorem sum_at (a b : Vec Ideal S384x256 .f32) (l : Fin 256) : k0_pay9 a b (ix2 r l) = a (ix2 r l) + b (ix2 r l) := by pointwise [k0_pay9]
theorem sumV_at (a b : Vec Ideal S384x256 .f32) (l : Fin 256) : k0_pay10 a b (ix2 r l) = a (ix2 r l) + b (ix2 r l) := by pointwise [k0_pay10]

variable (cs sn : Fin 32 → EReal) (tc ts : Vec Ideal S384x128 .f32) (hc : ∀ l : Fin 128, tc (ix2 r l) = cs (col l.val))
  (hs : ∀ l : Fin 128, ts (ix2 r l) = sn (col l.val))
include hc hs

theorem turnQ (g : FVec Ideal S384x1024 .f32) (l : Fin 1024) :
    k0_pay20 g (k0_pay11 tc) (k0_pay17 g (k0_pay12 ts)) k0_pay18 (k0_pay19 g (k0_pay12 ts)) (ix2 r l) = turn (fun l => g (ix2 r l)) cs sn l := by
  have e0 := halfQ r l
  have ec : ∀ l, k0_pay11 tc (ix2 r l) = cs (col l.val) := fun l => by
    rw [tileQ_cos, hc]; exact congrArg cs (Fin.ext (by dsimp only; omega))
  have es : ∀ l, k0_pay12 ts (ix2 r l) = sn (col l.val) := fun l => by
    rw [tileQ_sin, hs]; exact congrArg sn (Fin.ext (by dsimp only; omega))
  unfold k0_pay20
  generalize k0_pay18 = M at *
  generalize k0_pay11 tc = C at *
  generalize k0_pay12 ts = S at *
  pointwise [k0_pay19, k0_pay17]
  rw [e0, ec, es, es]
  unfold turn
  have ee : ∀ (i j : Fin 1024) (p q : Fin 32), i = j → p = q → g (ix2 r i) * sn p = g (ix2 r j) * sn q := fun _ _ _ _ h h' => by rw [h, h']
  by_cases h : l.val % 64 < 32
  · rw [if_pos h, if_pos h, ext_lt _ _ (by omega)]
    show 0 - (0 - _) + _ = _
    rw [zero_sub, zero_sub, neg_neg]
    exact congrArg (· + _) (ee _ _ _ _ (Fin.ext (by dsimp only; omega)) (Fin.ext (by dsimp only; omega)))
  · rw [if_neg h, if_neg h, ext_lt _ _ (by omega)]
    show 0 - _ + _ = _
    rw [zero_sub, add_comm, neg_mul]
    exact congrArg (fun x => _ + -x) (ee _ _ _ _ (Fin.ext (by dsimp only; omega)) (Fin.ext (by dsimp only; omega)))
omit hc hs in
theorem halfK : ∀ l : Fin 256, IntOp.cmpi CmpIPredicate.slt
    (Scalar.select
      (IntOp.andi
        (IntOp.xori
          (IntOp.cmpi CmpIPredicate.slt
            (IntOp.remsi ArithUnit.vector (BitVec.ofNat 32 l.val) (Scalar.select (Scalar.cmpi CmpIPredicate.eq 64#32 0#32) 1#32 64#32)) 0#32)
          (Scalar.cmpi CmpIPredicate.slt 64#32 0#32))
        (IntOp.cmpi CmpIPredicate.ne
          (IntOp.remsi ArithUnit.vector (BitVec.ofNat 32 l.val) (Scalar.select (Scalar.cmpi CmpIPredicate.eq 64#32 0#32) 1#32 64#32)) 0#32))
      (IntOp.addi (IntOp.remsi ArithUnit.vector (BitVec.ofNat 32 l.val) (Scalar.select (Scalar.cmpi CmpIPredicate.eq 64#32 0#32) 1#32 64#32)) 64#32)
      (IntOp.remsi ArithUnit.vector (BitVec.ofNat 32 l.val) (Scalar.select (Scalar.cmpi CmpIPredicate.eq 64#32 0#32) 1#32 64#32)))
    32#32 = if l.val % 64 < 32 then 1#1 else 0#1 := by decide +kernel
theorem turnK (a b : Vec Ideal S384x256 .f32) (l : Fin 256) :
    k0_pay16 (k0_pay9 a b) (k0_pay13 tc) (k0_pay14 ts a b) 64#32 k0_pay15 (ix2 r l) = turn (fun l => a (ix2 r l) + b (ix2 r l)) cs sn l := by
  have eg := sum_at r a b l
  have ec : ∀ l, k0_pay13 tc (ix2 r l) = cs (col l.val) := fun l => by
    rw [tileK_cos, hc]; exact congrArg cs (Fin.ext (by dsimp only; omega))
  have es : ∀ l, k0_pay14 ts a b (ix2 r l) = (a (ix2 r l) + b (ix2 r l)) * sn (col l.val) := fun l => by
    rw [tileK_sin, hs]; exact congrArg (fun i => _ * sn i) (Fin.ext (by dsimp only; omega))
  unfold k0_pay16
  generalize k0_pay9 a b = G at *
  generalize k0_pay13 tc = C at *
  generalize k0_pay14 ts a b = S at *
  pointwise [k0_pay15]
  rw [halfK, eg, ec, es, es]
  unfold turn
  have ee : ∀ (i j : Fin 256) (p q : Fin 32), i = j → p = q → (a (ix2 r i) + b (ix2 r i)) * sn p = (a (ix2 r j) + b (ix2 r j)) * sn q := fun _ _ _ _ h h' => by rw [h, h']
  by_cases h : l.val % 64 < 32
  · rw [if_pos h, if_pos h, ext_lt _ _ (by omega)]
    show 0 - (0 - _) + _ = _
    rw [zero_sub, zero_sub, neg_neg]
    exact congrArg (· + _) (ee _ _ _ _ (Fin.ext (by dsimp only; omega)) (Fin.ext (by dsimp only; omega)))
  · rw [if_neg h, if_neg h, ext_lt _ _ (by omega)]
    show 0 - _ + _ = _
    rw [zero_sub, add_comm, neg_mul]
    exact congrArg (fun x => _ + -x) (ee _ _ _ _ (Fin.ext (by dsimp only; omega)) (Fin.ext (by dsimp only; omega)))

omit hc hs
variable (h : Vec Ideal S384x1024 .f32) (wq : FVec Ideal S1024x1024 .bf16) (wk wv : FVec Ideal S1024x256 .bf16)
  (g C U W : FVec Ideal S384x1024 .f32) (M : IVec S384x1024 1) (gk gv : FVec Ideal S384x256 .f32)

theorem wq_at (k l : Fin 1024) : k0_pay6 (F := Ideal) wq (ix2 k l) = wq (ix2 k l) := by pointwise [k0_pay6]
theorem wk_at (k : Fin 1024) (l : Fin 256) : k0_pay7 (F := Ideal) wk (ix2 k l) = wk (ix2 k l) := by pointwise [k0_pay7]
theorem wv_at (k : Fin 1024) (l : Fin 256) : k0_pay8 (F := Ideal) wv (ix2 k l) = wv (ix2 k l) := by pointwise [k0_pay8]
theorem dq_at (l : Fin 1024) : k0_pay5 (F := Ideal) g (ix2 r l) = g (ix2 r l) := by pointwise [k0_pay5]
theorem input_at (k : Fin 1024) : k0_pay21 g wq wk wv gv C gk U M W (ix2 r k)
    = ∑ l : Fin 256, gv (ix2 r l) * wv (ix2 k l) + ∑ l : Fin 256, gk (ix2 r l) * wk (ix2 k l) + ∑ l : Fin 1024, k0_pay20 g C U M W (ix2 r l) * wq (ix2 k l) := by
  unfold k0_pay21
  generalize k0_pay20 g C U M W = Q
  pointwise []
theorem weightQ_at (k l : Fin 1024) : k0_pay22 h g C U M W (ix2 k l) = ∑ r : Fin 384, h (ix2 r k) * k0_pay20 g C U M W (ix2 r l) := by
  unfold k0_pay22
  generalize k0_pay20 g C U M W = Q
  pointwise []
theorem weightK_at (k : Fin 1024) (l : Fin 256) : k0_pay23 h gk (ix2 k l) = ∑ r : Fin 384, h (ix2 r k) * gk (ix2 r l) := by pointwise [k0_pay23]
theorem weightV_at (k : Fin 1024) (l : Fin 256) : k0_pay24 h gv (ix2 k l) = ∑ r : Fin 384, h (ix2 r k) * gv (ix2 r l) := by pointwise [k0_pay24]
theorem nextQ (a : Vec Ideal S1024x1024 .f32) (k l : Fin 1024) : k0_pay25 h g C U M W a (ix2 k l) = a (ix2 k l) + k0_pay22 h g C U M W (ix2 k l) := by
  unfold k0_pay25
  generalize k0_pay22 h g C U M W = Q
  pointwise []
theorem nextK (q : FVec Ideal S1024x256 .f32) (a : Vec Ideal S1024x256 .f32) (k : Fin 1024) (l : Fin 256) : k0_pay1 q a (ix2 k l) = a (ix2 k l) + q (ix2 k l) := by pointwise [k0_pay1]
theorem nextV (q : FVec Ideal S1024x256 .f32) (a : Vec Ideal S1024x256 .f32) (k : Fin 1024) (l : Fin 256) : k0_pay2 q a (ix2 k l) = a (ix2 k l) + q (ix2 k l) := by pointwise [k0_pay2]

variable (m : (ℓ : Loc nD τ sig) → Buf (Elt Ideal) ℓ) (c : Dev nD) (t : Fin cfg0.N)

/-- A point's operands of the queries' gradient; the gradients of keys and values; the sums its rows add. -/
abbrev dqT := k0_pay5 (iblk m c 3 t)
abbrev cosT := k0_pay11 (iblk m c 1 t)
abbrev sdqT := k0_pay17 (dqT m c t) (k0_pay12 (iblk m c 2 t))
abbrev rdqT := k0_pay19 (dqT m c t) (k0_pay12 (iblk m c 2 t))
abbrev gkT := k0_pay16 (k0_pay9 (iblk m c 4 t) (iblk m c 5 t)) (k0_pay13 (iblk m c 1 t)) (k0_pay14 (iblk m c 2 t) (iblk m c 4 t) (iblk m c 5 t)) 64#32 k0_pay15
abbrev gvT := k0_pay10 (iblk m c 6 t) (iblk m c 7 t)
abbrev sumQ := k0_pay22 (iblk m c 0 t) (dqT m c t) (cosT m c t) (sdqT m c t) k0_pay18 (rdqT m c t)
abbrev sumK := k0_pay23 (iblk m c 0 t) (gkT m c t)
abbrev sumV := k0_pay24 (iblk m c 0 t) (gvT m c t)

theorem lt11 : t.val < 11 := lt_of_lt_of_eq t.isLt (show cfg0.N = 11 from N_0)

theorem outs_input : (outsAt0 m c t.val t.isLt).1
    = k0_pay21 (dqT m c t) (k0_pay6 (iblk m c 8 t)) (k0_pay7 (iblk m c 9 t)) (k0_pay8 (iblk m c 10 t)) (gvT m c t) (cosT m c t) (gkT m c t) (sdqT m c t) k0_pay18 (rdqT m c t) := by
  have := lt11 t
  by_cases h : t.val % 11 = 0
  · rw [outsAt0_A m c t (by omega) (by omega) (by omega) (by omega) (by omega) (by omega)]; frame_out
  · rw [outsAt0_B m c t (by omega) (by omega) (by omega) (by omega) (by omega) (by omega)]; frame_out
theorem outs_first (h : t.val % 11 = 0) : (outsAt0 m c t.val t.isLt).2 = (sumQ m c t, sumK m c t, sumV m c t) := by
  have := lt11 t
  rw [outsAt0_A m c t (by omega) (by omega) (by omega) (by omega) (by omega) (by omega)]; frame_out
theorem outs_next (h : ¬t.val % 11 = 0) : (outsAt0 m c t.val t.isLt).2 =
    (k0_pay25 (iblk m c 0 t) (dqT m c t) (cosT m c t) (sdqT m c t) k0_pay18 (rdqT m c t) (outsAt0 m c (t.val - 1) (Nat.lt_of_le_of_lt (Nat.sub_le _ _) t.isLt)).2.1,
      k0_pay1 (sumK m c t) (outsAt0 m c (t.val - 1) (Nat.lt_of_le_of_lt (Nat.sub_le _ _) t.isLt)).2.2.1,
      k0_pay2 (sumV m c t) (outsAt0 m c (t.val - 1) (Nat.lt_of_le_of_lt (Nat.sub_le _ _) t.isLt)).2.2.2) := by
  rw [outsAt0_B m c t (by omega) (by omega) (by omega) (by omega) (by omega) (by omega)]; frame_out

end Cert.Proof.Qkv
end
-- ==== Proof.QkvRefSide.lean ====
module

public import proofs.«01_k».proof.Proof.QkvRow
public import proofs.«01_k».proof.Proof.Gen.QkvRefIdeal.Read
public import Idealize.ShloMosaic.Lib.Claim
public import Idealize.ShloMosaic.Lib.Tactic
public import Idealize.ShloMosaic.Lib.Pointwise

@[expose] public section
set_option maxRecDepth 16384
noncomputable section
namespace Cert.Proof.Qkv
open Cert.QkvRefIdeal Cert.QkvRefIdeal.Gen Idealize.ShloMosaic Idealize.ShloMosaic.TcCoe Idealize.SL.Sem

/-! What the reference's operations compute. -/

variable (h : Vec Ideal S4224x1024 .f32) (dq : Vec Ideal S4112x1024 .f32) (kc kp vc vp : Vec Ideal S4112x256 .f32)
  (wq : Vec Ideal S1024x1024 .f32) (wk wv : Vec Ideal S1024x256 .f32)

/-- The angle of a position at a column, its cosine and its sine. -/
def angle (P : ℕ) (j : Fin 32) : EReal := ((P : ℝ) : EReal) * Read.val_main_v11 (F := Ideal) (ix1 j)
def refCos (P : Fin 4112) (j : Fin 32) : EReal := Read.val_main_v18 (F := Ideal) (ix2 P j)
def refSin (P : Fin 4112) (j : Fin 32) : EReal := Read.val_main_v19 (F := Ideal) (ix2 P j)

theorem position (P : ℕ) (hP : P < 4224) : FloatOps.sitofp (F := Ideal) FTy.f32 (BitVec.ofNat 32 P) = ((P : ℝ) : EReal) := by
  show (((BitVec.ofNat 32 P).toInt : ℝ) : EReal) = _
  rw [show (BitVec.ofNat 32 P).toInt = (P : ℤ) by rw [BitVec.toInt_eq_toNat_of_lt (by rw [BitVec.toNat_ofNat]; omega), BitVec.toNat_ofNat, Nat.mod_eq_of_lt (by omega)]]
  rfl
theorem ref_angle (P : Fin 4112) (j : Fin 32) : Read.val_main_v17 (F := Ideal) (ix2 P j) = angle P.val j := by
  pointwise [Read.val_main_v17, Read.val_main_v16, Read.val_main_v15, Read.val_main_v14, Read.val_main_v13, Read.val_main_v12]
  rw [position _ (by omega)]
  rfl

/-- The gradients by the projections' results: of the queries and keys turned back, of the values as they are. -/
def backQ (P : Fin 4112) (C : Fin 1024) : EReal := turn (fun l => dq (ix2 P l)) (refCos P) (refSin P) C
def backK (P : Fin 4112) (C : Fin 256) : EReal := turn (fun l => kc (ix2 P l) + kp (ix2 P l)) (refCos P) (refSin P) C
def backV (P : Fin 4112) (C : Fin 256) : EReal := vc (ix2 P C) + vp (ix2 P C)

theorem ref_backQ (P : Fin 4112) (C : Fin 1024) : Read.val_main_v97 (F := Ideal) dq (ix2 P C) = backQ dq P C := by
  pointwise [Read.val_main_v97, Read.val_main_v96, Read.val_main_v95, Read.val_main_v92, Read.val_main_v94, Read.val_main_v93, Read.val_main_v91, Read.val_main_v90, Read.val_main_v89, Read.val_main_v88, Read.val_main_v87, Read.val_main_v86, Read.val_main_v85, Read.val_main_v84, Read.val_main_v83, Read.val_main_v63, Read.val_main_v25, Read.val_main_v24]
  unfold backQ turn refCos refSin
  by_cases hC : C.val % 64 < 32
  · rw [dif_pos hC, if_pos hC, ext_lt _ _ (by omega)]
    exact congrArg₂ (· + ·) (congrArg₂ (· * ·) (congrArg (fun i : Fin 1024 => dq (ix2 P i)) (Fin.ext (by dsimp only; omega))) (congrArg (fun i => Read.val_main_v19 (F := Ideal) (ix2 P i)) (Fin.ext (by dsimp only; omega))))
      (congrArg₂ (· * ·) rfl (congrArg (fun i => Read.val_main_v18 (F := Ideal) (ix2 P i)) (Fin.ext (by dsimp only; omega))))
  · rw [dif_neg hC, if_neg hC, ext_lt _ _ (by omega)]
    exact congrArg₂ (· + ·) (congrArg₂ (· * ·) (congrArg (fun i : Fin 1024 => dq (ix2 P i)) (Fin.ext (by dsimp only; omega))) (congrArg (fun i => Read.val_main_v18 (F := Ideal) (ix2 P i)) (Fin.ext (by dsimp only; omega))))
      (congrArg₂ (· * ·) (congrArg (fun i : Fin 1024 => -(dq (ix2 P i))) (Fin.ext (by dsimp only; omega))) (congrArg (fun i => Read.val_main_v19 (F := Ideal) (ix2 P i)) (Fin.ext (by dsimp only; omega))))
theorem ref_backK (P : Fin 4112) (C : Fin 256) : Read.val_main_v78 (F := Ideal) kc kp (ix2 P C) = backK kc kp P C := by
  pointwise [Read.val_main_v78, Read.val_main_v77, Read.val_main_v76, Read.val_main_v75, Read.val_main_v74, Read.val_main_v73, Read.val_main_v72, Read.val_main_v71, Read.val_main_v70, Read.val_main_v69, Read.val_main_v68, Read.val_main_v67, Read.val_main_v66, Read.val_main_v65, Read.val_main_v64, Read.val_main_v62, Read.val_main_v57, Read.val_main_v42, Read.val_main_v41]
  unfold backK turn refCos refSin
  by_cases hC : C.val % 64 < 32
  · rw [dif_pos hC, if_pos hC, ext_lt _ _ (by omega)]
    exact congrArg₂ (· + ·) (congrArg₂ (· * ·) (congrArg (fun i : Fin 256 => kc (ix2 P i) + kp (ix2 P i)) (Fin.ext (by dsimp only; omega))) (congrArg (fun i => Read.val_main_v19 (F := Ideal) (ix2 P i)) (Fin.ext (by dsimp only; omega))))
      (congrArg₂ (· * ·) rfl (congrArg (fun i => Read.val_main_v18 (F := Ideal) (ix2 P i)) (Fin.ext (by dsimp only; omega))))
  · rw [dif_neg hC, if_neg hC, ext_lt _ _ (by omega)]
    exact congrArg₂ (· + ·) (congrArg₂ (· * ·) (congrArg (fun i : Fin 256 => kc (ix2 P i) + kp (ix2 P i)) (Fin.ext (by dsimp only; omega))) (congrArg (fun i => Read.val_main_v18 (F := Ideal) (ix2 P i)) (Fin.ext (by dsimp only; omega))))
      (congrArg₂ (· * ·) (congrArg (fun i : Fin 256 => -(kc (ix2 P i) + kp (ix2 P i))) (Fin.ext (by dsimp only; omega))) (congrArg (fun i => Read.val_main_v19 (F := Ideal) (ix2 P i)) (Fin.ext (by dsimp only; omega))))
theorem ref_backV (P : Fin 4112) (C : Fin 256) : Read.val_main_v58 (F := Ideal) vc vp (ix2 P C) = backV vc vp P C := by
  pointwise [Read.val_main_v58]
  rfl

/-- The gradient of the input at a position of the sequence. -/
def inputRow (P : Fin 4112) (k : Fin 1024) : EReal :=
  ∑ C : Fin 256, backV vc vp P C * wv (ix2 k C) + ∑ C : Fin 256, backK kc kp P C * wk (ix2 k C) + ∑ C : Fin 1024, backQ dq P C * wq (ix2 k C)
def inputGrad (R : Fin 4224) (k : Fin 1024) : EReal := if hR : R.val < 112 then 0 else inputRow dq kc kp vc vp wq wk wv ⟨R.val - 112, by omega⟩ k

theorem ref_row (P : Fin 4112) (k : Fin 1024) : Read.val_main_v101 (F := Ideal) dq kc kp vc vp wq wk wv (ix2 P k) = inputRow dq kc kp vc vp wq wk wv P k := by
  have e1 := ref_backQ dq P
  have e2 := ref_backK kc kp P
  have e3 := ref_backV vc vp P
  unfold Read.val_main_v101 Read.val_main_v100 Read.val_main_v82 Read.val_main_v81 Read.val_main_v61
  generalize Read.val_main_v97 (F := Ideal) dq = A at *
  generalize Read.val_main_v78 (F := Ideal) kc kp = B at *
  generalize Read.val_main_v58 (F := Ideal) vc vp = D at *
  pointwise []
  simp only [e1, e2, e3]
  rfl
theorem ref_input (R : Fin 4224) (k : Fin 1024) : Read.val_main_v102 (F := Ideal) dq kc kp vc vp wq wk wv (ix2 R k) = inputGrad dq kc kp vc vp wq wk wv R k := by
  have e := ref_row dq kc kp vc vp wq wk wv
  unfold Read.val_main_v102
  generalize Read.val_main_v101 (F := Ideal) dq kc kp vc vp wq wk wv = A at *
  pointwise [Read.val_main_cst_4]
  unfold inputGrad
  by_cases hR : R.val < 112
  · rw [dif_neg (by omega), dif_pos hR]
  · rw [dif_pos (by omega), dif_neg hR, e]
theorem ref_wq (k C : Fin 1024) : Read.val_main_v99 (F := Ideal) h dq (ix2 k C) = ∑ P : Fin 4112, h (ix2 ⟨112 + P.val, by omega⟩ k) * backQ dq P C := by
  have e1 := fun P => ref_backQ dq P C
  unfold Read.val_main_v99 Read.val_main_v98
  generalize Read.val_main_v97 (F := Ideal) dq = A at *
  pointwise [Read.val_main_v0]
  simp only [e1]
  exact Finset.sum_congr rfl fun P _ => mul_comm _ _
theorem ref_wk (k : Fin 1024) (C : Fin 256) : Read.val_main_v80 (F := Ideal) h kc kp (ix2 k C) = ∑ P : Fin 4112, h (ix2 ⟨112 + P.val, by omega⟩ k) * backK kc kp P C := by
  have e1 := fun P => ref_backK kc kp P C
  unfold Read.val_main_v80 Read.val_main_v79
  generalize Read.val_main_v78 (F := Ideal) kc kp = A at *
  pointwise [Read.val_main_v0]
  simp only [e1]
  exact Finset.sum_congr rfl fun P _ => mul_comm _ _
theorem ref_wv (k : Fin 1024) (C : Fin 256) : Read.val_main_v60 (F := Ideal) h vc vp (ix2 k C) = ∑ P : Fin 4112, h (ix2 ⟨112 + P.val, by omega⟩ k) * backV vc vp P C := by
  have e1 := fun P => ref_backV vc vp P C
  unfold Read.val_main_v60 Read.val_main_v59
  generalize Read.val_main_v58 (F := Ideal) vc vp = A at *
  pointwise [Read.val_main_v0]
  simp only [e1]
  exact Finset.sum_congr rfl fun P _ => mul_comm _ _

end Cert.Proof.Qkv
end
-- ==== Proof.QkvArrays.lean ====
module

public import proofs.«01_k».proof.Proof.QkvTile
public import proofs.«01_k».proof.Proof.QkvRefSide

@[expose] public section
set_option maxRecDepth 16384
noncomputable section
namespace Cert.Proof.Qkv
open Cert.QkvIdeal Cert.QkvIdeal.Gen Idealize.ShloMosaic Idealize.ShloMosaic.TcCoe Idealize.SL.Sem Pipeline

variable (m : (ℓ : Loc nD τ sig) → Buf (Elt Ideal) ℓ) (c : Dev nD)

/-- The arguments of device `c`: the input of the projections, the gradients of queries, keys and values, the weights. -/
abbrev argH : Vec Ideal S4224x1024 .f32 := m ((c : Thread nD τ).loc main_arg0)
abbrev argQ : Vec Ideal S4112x1024 .f32 := m ((c : Thread nD τ).loc main_arg1)
abbrev argKc : Vec Ideal S4112x256 .f32 := m ((c : Thread nD τ).loc main_arg2)
abbrev argKp : Vec Ideal S4112x256 .f32 := m ((c : Thread nD τ).loc main_arg3)
abbrev argVc : Vec Ideal S4112x256 .f32 := m ((c : Thread nD τ).loc main_arg4)
abbrev argVp : Vec Ideal S4112x256 .f32 := m ((c : Thread nD τ).loc main_arg5)
abbrev argWq : Vec Ideal S1024x1024 .f32 := m ((c : Thread nD τ).loc main_arg6)
abbrev argWk : Vec Ideal S1024x256 .f32 := m ((c : Thread nD τ).loc main_arg7)
abbrev argWv : Vec Ideal S1024x256 .f32 := m ((c : Thread nD τ).loc main_arg8)

/-- The host's table of angles: a row's position, none in the 112 rows before the sequence, times the column's frequency. -/
def places : Vec Ideal S4224 .f32 :=
  maximumf (F := Ideal) (subf (F := Ideal) (sitofp (F := Ideal) .f32 (iotaInDim S4224 32 0)) (broadcastInDim S4224 ![] bcast_S_S4224 (constant (F := Ideal) S_ .f32 0x42E00000#32)))
    (broadcastInDim S4224 ![] bcast_S_S4224 (constant (F := Ideal) S_ .f32 0x00000000#32))
def angles : Vec Ideal S4224x32 .f32 :=
  mulf (F := Ideal) (φ := .f32) (broadcastInDim S4224x32 ![0, 1] bcast_S4224x1_S4224x32_0_1 (broadcastInDim S4224x1 ![0] bcast_S4224_S4224x1_0 places))
    (broadcastInDim S4224x32 ![0, 1] bcast_S1x32_S4224x32_0_1 (broadcastInDim S1x32 ![1] bcast_S32_S1x32_1 (Cert.QkvRefIdeal.Read.val_main_v11 (F := Ideal))))
def cosTab : Vec Ideal S4224x32 .f32 := Host.cos (F := Ideal) (φ := .f32) angles
def sinTab : Vec Ideal S4224x32 .f32 := Host.sin (F := Ideal) (φ := .f32) angles
/-- A table written out four times side by side. -/
def four (T : Vec Ideal S4224x32 .f32) : Vec Ideal S4224x128 .f32 :=
  shapeCast S4224x128 (broadcastInDim S1x4224x4x32 ![0, 1, 2, 3] bcast_S1x4224x1x32_S1x4224x4x32_0_1_2_3 (shapeCast S1x4224x1x32 T shapeCasts_S4224x32_S1x4224x1x32)) shapeCasts_S1x4224x4x32_S4224x128

theorem four_at (T : Vec Ideal S4224x32 .f32) (R : Fin 4224) (l : Fin 128) : four T (ix2 R l) = T (ix2 R (col l.val)) := by
  pointwise [four]
theorem place_at (P : Fin 4112) : places (ix1 ⟨112 + P.val, by omega⟩) = ((P.val : ℝ) : EReal) := by
  pointwise [places]
  rw [position _ (by omega), show Ideal.ofBits FTy.f32 1121976320#32 = ((112 : ℝ) : EReal) by simp [Ideal.ofBits, Ideal.ieee, -EReal.coe_mul]; norm_num,
    ← EReal.coe_sub, show ((112 + P.val : ℕ) : ℝ) - 112 = (P.val : ℝ) by push_cast; ring]
  exact max_eq_left (EReal.coe_nonneg.2 (Nat.cast_nonneg _))
theorem angle_at (P : Fin 4112) (j : Fin 32) : angles (ix2 ⟨112 + P.val, by omega⟩ j) = angle P.val j := by
  have e := place_at P
  unfold angles angle
  generalize places = A at *
  generalize Cert.QkvRefIdeal.Read.val_main_v11 (F := Ideal) = B
  pointwise []
  rw [e]
theorem cos_at (P : Fin 4112) (j : Fin 32) : cosTab (ix2 ⟨112 + P.val, by omega⟩ j) = refCos P j := by
  have e := (angle_at P j).trans (ref_angle P j).symm
  unfold refCos cosTab Cert.QkvRefIdeal.Read.val_main_v18
  generalize angles = A at *
  generalize Cert.QkvRefIdeal.Read.val_main_v17 (F := Ideal) = B at *
  pointwise []
  rw [e]
theorem sin_at (P : Fin 4112) (j : Fin 32) : sinTab (ix2 ⟨112 + P.val, by omega⟩ j) = refSin P j := by
  have e := (angle_at P j).trans (ref_angle P j).symm
  unfold refSin sinTab Cert.QkvRefIdeal.Read.val_main_v19
  generalize angles = A at *
  generalize Cert.QkvRefIdeal.Read.val_main_v17 (F := Ideal) = B at *
  pointwise []
  rw [e]

/-- A gradient with 112 rows of zeros before it. -/
def padW (A : Vec Ideal S4112x1024 .f32) : Vec Ideal S4224x1024 .f32 :=
  concatenate S4224x1024 0 [⟨S112x1024, broadcastInDim S112x1024 ![] bcast_S_S112x1024 (constant (F := Ideal) S_ .f32 0x00000000#32)⟩, ⟨S4112x1024, A⟩] concatenates_S112x1024_S4112x1024_S4224x1024_d0
def padN (A : Vec Ideal S4112x256 .f32) : Vec Ideal S4224x256 .f32 :=
  concatenate S4224x256 0 [⟨S112x256, broadcastInDim S112x256 ![] bcast_S_S112x256 (constant (F := Ideal) S_ .f32 0x00000000#32)⟩, ⟨S4112x256, A⟩] concatenates_S112x256_S4112x256_S4224x256_d0
theorem padW_front (A : Vec Ideal S4112x1024 .f32) (R : Fin 4224) (h : R.val < 112) (l : Fin 1024) : padW A (ix2 R l) = 0 := by
  pointwise [padW]
  rw [dif_pos h]
theorem padW_row (A : Vec Ideal S4112x1024 .f32) (R : Fin 4224) (h : ¬R.val < 112) (l : Fin 1024) : padW A (ix2 R l) = A (ix2 ⟨R.val - 112, by omega⟩ l) := by
  pointwise [padW]
  rw [dif_neg h]
theorem padN_front (A : Vec Ideal S4112x256 .f32) (R : Fin 4224) (h : R.val < 112) (l : Fin 256) : padN A (ix2 R l) = 0 := by
  pointwise [padN]
  rw [dif_pos h]
theorem padN_row (A : Vec Ideal S4112x256 .f32) (R : Fin 4224) (h : ¬R.val < 112) (l : Fin 256) : padN A (ix2 R l) = A (ix2 ⟨R.val - 112, by omega⟩ l) := by
  pointwise [padN]
  rw [dif_neg h]

theorem freq : Cert.QkvRefIdeal.Read.val_main_v11 (F := Ideal)
    = Host.divf (F := Ideal) (φ := .f32) (broadcastInDim S32 ![] bcast_S_S32 (constant (F := Ideal) S_ .f32 0x3F800000#32))
        (Host.powf (F := Ideal) (broadcastInDim S32 ![] bcast_S_S32 (constant (F := Ideal) S_ .f32 0x461C4000#32))
          (Host.divf (F := Ideal)
            (addf (F := Ideal) (broadcastInDim S32 ![] bcast_S_S32 (constant (F := Ideal) S_ .f32 0x00000000#32))
              (mulf (F := Ideal) (broadcastInDim S32 ![] bcast_S_S32 (constant (F := Ideal) S_ .f32 0x40000000#32)) (sitofp (F := Ideal) .f32 (iotaInDim S32 32 0))))
            (broadcastInDim S32 ![] bcast_S_S32 (constant (F := Ideal) S_ .f32 0x42800000#32)))) := by
  unfold Cert.QkvRefIdeal.Read.val_main_v11 Cert.QkvRefIdeal.Read.val_main_v10 Cert.QkvRefIdeal.Read.val_main_v9 Cert.QkvRefIdeal.Read.val_main_v8
    Cert.QkvRefIdeal.Read.val_main_v7 Cert.QkvRefIdeal.Read.val_main_v6 Cert.QkvRefIdeal.Read.val_main_v5 Cert.QkvRefIdeal.Read.val_main_v4
    Cert.QkvRefIdeal.Read.val_main_v3 Cert.QkvRefIdeal.Read.val_main_v2 Cert.QkvRefIdeal.Read.val_main_v1
  rfl

/-! What the host leaves for the call. -/

theorem V_cos : (V m c main_v24 : Vec Ideal S4224x128 .f32) = four cosTab := by
  show StableHlo.after hostOps0 (fun b => m (c, b)) (Proc.devRef .tc main_v24) = _
  simp only [hostOps0]
  after_results_simp
  unfold four cosTab angles places
  rw [freq]
  rfl
theorem V_sin : (V m c main_v28 : Vec Ideal S4224x128 .f32) = four sinTab := by
  show StableHlo.after hostOps0 (fun b => m (c, b)) (Proc.devRef .tc main_v28) = _
  simp only [hostOps0]
  after_results_simp
  unfold four sinTab angles places
  rw [freq]
  rfl
theorem V_q : (V m c main_v30 : Vec Ideal S4224x1024 .f32) = padW (argQ m c) := by
  show StableHlo.after hostOps0 (fun b => m (c, b)) (Proc.devRef .tc main_v30) = _
  simp only [hostOps0]
  after_results_simp
  rfl
theorem V_kc : (V m c main_v32 : Vec Ideal S4224x256 .f32) = padN (argKc m c) := by
  show StableHlo.after hostOps0 (fun b => m (c, b)) (Proc.devRef .tc main_v32) = _
  simp only [hostOps0]
  after_results_simp
  rfl
theorem V_kp : (V m c main_v34 : Vec Ideal S4224x256 .f32) = padN (argKp m c) := by
  show StableHlo.after hostOps0 (fun b => m (c, b)) (Proc.devRef .tc main_v34) = _
  simp only [hostOps0]
  after_results_simp
  rfl
theorem V_vc : (V m c main_v36 : Vec Ideal S4224x256 .f32) = padN (argVc m c) := by
  show StableHlo.after hostOps0 (fun b => m (c, b)) (Proc.devRef .tc main_v36) = _
  simp only [hostOps0]
  after_results_simp
  rfl
theorem V_vp : (V m c main_v38 : Vec Ideal S4224x256 .f32) = padN (argVp m c) := by
  show StableHlo.after hostOps0 (fun b => m (c, b)) (Proc.devRef .tc main_v38) = _
  simp only [hostOps0]
  after_results_simp
  rfl
theorem V_wq : (V m c main_v39 : Vec Ideal S1024x1024 .bf16) = truncf (F := Ideal) .bf16 (argWq m c) bitsLt_bf16_f32 := by
  show StableHlo.after hostOps0 (fun b => m (c, b)) (Proc.devRef .tc main_v39) = _
  simp only [hostOps0]
  after_results_simp
theorem V_wk : (V m c main_v40 : Vec Ideal S1024x256 .bf16) = truncf (F := Ideal) .bf16 (argWk m c) bitsLt_bf16_f32 := by
  show StableHlo.after hostOps0 (fun b => m (c, b)) (Proc.devRef .tc main_v40) = _
  simp only [hostOps0]
  after_results_simp
theorem V_wv : (V m c main_v41 : Vec Ideal S1024x256 .bf16) = truncf (F := Ideal) .bf16 (argWv m c) bitsLt_bf16_f32 := by
  show StableHlo.after hostOps0 (fun b => m (c, b)) (Proc.devRef .tc main_v41) = _
  simp only [hostOps0]
  after_results_simp

theorem idxW0 : ∀ t : Fin cfg0.N, win0_0.index t = ![t.val, 0] := (by decide +kernel : ∀ t : Fin grid0.N, _)
theorem idxW1 : ∀ t : Fin cfg0.N, win0_1.index t = ![t.val, 0] := (by decide +kernel : ∀ t : Fin grid0.N, _)
theorem idxW2 : ∀ t : Fin cfg0.N, win0_2.index t = ![t.val, 0] := (by decide +kernel : ∀ t : Fin grid0.N, _)
theorem idxW3 : ∀ t : Fin cfg0.N, win0_3.index t = ![t.val, 0] := (by decide +kernel : ∀ t : Fin grid0.N, _)
theorem idxW4 : ∀ t : Fin cfg0.N, win0_4.index t = ![t.val, 0] := (by decide +kernel : ∀ t : Fin grid0.N, _)
theorem idxW5 : ∀ t : Fin cfg0.N, win0_5.index t = ![t.val, 0] := (by decide +kernel : ∀ t : Fin grid0.N, _)
theorem idxW6 : ∀ t : Fin cfg0.N, win0_6.index t = ![t.val, 0] := (by decide +kernel : ∀ t : Fin grid0.N, _)
theorem idxW7 : ∀ t : Fin cfg0.N, win0_7.index t = ![t.val, 0] := (by decide +kernel : ∀ t : Fin grid0.N, _)
theorem idxW8 : ∀ t : Fin cfg0.N, win0_8.index t = ![0, 0] := (by decide +kernel : ∀ t : Fin grid0.N, _)
theorem idxW9 : ∀ t : Fin cfg0.N, win0_9.index t = ![0, 0] := (by decide +kernel : ∀ t : Fin grid0.N, _)
theorem idxW10 : ∀ t : Fin cfg0.N, win0_10.index t = ![0, 0] := (by decide +kernel : ∀ t : Fin grid0.N, _)
theorem idxW11 : ∀ t : Fin cfg0.N, win0_11.index t = ![t.val, 0] := (by decide +kernel : ∀ t : Fin grid0.N, _)

variable (t : Fin cfg0.N)

/-- Row `r` of tile `t`. -/
abbrev rowIx (t : Fin cfg0.N) (r : Fin 384) : Fin 4224 := ⟨384 * t.val + r.val, by have := lt11 t; omega⟩

theorem read_h (r : Fin 384) (k : Fin 1024) : iblk m c 0 t (ix2 r k) = argH m c (ix2 (rowIx t r) k) := by
  rw [show argH m c = V m c main_arg0 from (V_main_arg0 m c).symm]
  unfold iblk
  show V m c main_arg0 _ = _
  generalize V m c main_arg0 = A
  blk_ext [idxW0 t]
theorem read_cos (r : Fin 384) (l : Fin 128) : iblk m c 1 t (ix2 r l) = cosTab (ix2 (rowIx t r) (col l.val)) := by
  rw [show cosTab (ix2 (rowIx t r) (col l.val)) = _ from (four_at cosTab (rowIx t r) l).symm, ← V_cos m c]
  unfold iblk
  show V m c main_v24 _ = _
  generalize V m c main_v24 = A
  blk_ext [idxW1 t]
theorem read_sin (r : Fin 384) (l : Fin 128) : iblk m c 2 t (ix2 r l) = sinTab (ix2 (rowIx t r) (col l.val)) := by
  rw [show sinTab (ix2 (rowIx t r) (col l.val)) = _ from (four_at sinTab (rowIx t r) l).symm, ← V_sin m c]
  unfold iblk
  show V m c main_v28 _ = _
  generalize V m c main_v28 = A
  blk_ext [idxW2 t]
theorem read_q (r : Fin 384) (l : Fin 1024) : iblk m c 3 t (ix2 r l) = padW (argQ m c) (ix2 (rowIx t r) l) := by
  rw [← V_q]
  unfold iblk
  show V m c main_v30 _ = _
  generalize V m c main_v30 = A
  blk_ext [idxW3 t]
theorem read_kc (r : Fin 384) (l : Fin 256) : iblk m c 4 t (ix2 r l) = padN (argKc m c) (ix2 (rowIx t r) l) := by
  rw [← V_kc]
  unfold iblk
  show V m c main_v32 _ = _
  generalize V m c main_v32 = A
  blk_ext [idxW4 t]
theorem read_kp (r : Fin 384) (l : Fin 256) : iblk m c 5 t (ix2 r l) = padN (argKp m c) (ix2 (rowIx t r) l) := by
  rw [← V_kp]
  unfold iblk
  show V m c main_v34 _ = _
  generalize V m c main_v34 = A
  blk_ext [idxW5 t]
theorem read_vc (r : Fin 384) (l : Fin 256) : iblk m c 6 t (ix2 r l) = padN (argVc m c) (ix2 (rowIx t r) l) := by
  rw [← V_vc]
  unfold iblk
  show V m c main_v36 _ = _
  generalize V m c main_v36 = A
  blk_ext [idxW6 t]
theorem read_vp (r : Fin 384) (l : Fin 256) : iblk m c 7 t (ix2 r l) = padN (argVp m c) (ix2 (rowIx t r) l) := by
  rw [← V_vp]
  unfold iblk
  show V m c main_v38 _ = _
  generalize V m c main_v38 = A
  blk_ext [idxW7 t]
theorem read_wq (k : Fin 1024) (l : Fin 1024) : iblk m c 8 t (ix2 k l) = argWq m c (ix2 k l) := by
  rw [show argWq m c (ix2 k l) = (V m c main_v39 : Vec Ideal S1024x1024 .bf16) (ix2 k l) by rw [V_wq]; rfl]
  unfold iblk
  show V m c main_v39 _ = _
  generalize V m c main_v39 = A
  blk_ext [idxW8 t]
theorem read_wk (k : Fin 1024) (l : Fin 256) : iblk m c 9 t (ix2 k l) = argWk m c (ix2 k l) := by
  rw [show argWk m c (ix2 k l) = (V m c main_v40 : Vec Ideal S1024x256 .bf16) (ix2 k l) by rw [V_wk]; rfl]
  unfold iblk
  show V m c main_v40 _ = _
  generalize V m c main_v40 = A
  blk_ext [idxW9 t]
theorem read_wv (k : Fin 1024) (l : Fin 256) : iblk m c 10 t (ix2 k l) = argWv m c (ix2 k l) := by
  rw [show argWv m c (ix2 k l) = (V m c main_v41 : Vec Ideal S1024x256 .bf16) (ix2 k l) by rw [V_wv]; rfl]
  unfold iblk
  show V m c main_v41 _ = _
  generalize V m c main_v41 = A
  blk_ext [idxW10 t]

/-- Row `R` of the gradients by the projections' results, zero in the rows before the sequence. -/
def rowQ (dq : Vec Ideal S4112x1024 .f32) (R : Fin 4224) (C : Fin 1024) : EReal := if h : R.val < 112 then 0 else backQ dq ⟨R.val - 112, by omega⟩ C
def rowK (kc kp : Vec Ideal S4112x256 .f32) (R : Fin 4224) (C : Fin 256) : EReal := if h : R.val < 112 then 0 else backK kc kp ⟨R.val - 112, by omega⟩ C
def rowV (vc vp : Vec Ideal S4112x256 .f32) (R : Fin 4224) (C : Fin 256) : EReal := if h : R.val < 112 then 0 else backV vc vp ⟨R.val - 112, by omega⟩ C

theorem angle_row (R : Fin 4224) (h : ¬R.val < 112) (f : Vec Ideal S4224x32 .f32) (g : Fin 4112 → Fin 32 → EReal) (e : ∀ (P : Fin 4112) (j : Fin 32), f (ix2 ⟨112 + P.val, by omega⟩ j) = g P j) (j : Fin 32) :
    f (ix2 R j) = g ⟨R.val - 112, by omega⟩ j := by
  rw [← e]
  exact congrArg (fun i => f (ix2 i j)) (Fin.ext (by dsimp only; omega))

theorem q_point (r : Fin 384) (C : Fin 1024) : k0_pay20 (dqT m c t) (cosT m c t) (sdqT m c t) k0_pay18 (rdqT m c t) (ix2 r C) = rowQ (argQ m c) (rowIx t r) C := by
  refine (turnQ r (fun j => cosTab (ix2 (rowIx t r) j)) (fun j => sinTab (ix2 (rowIx t r) j)) _ _ (read_cos m c t r) (read_sin m c t r) _ C).trans ?_
  rw [show (fun l => dqT m c t (ix2 r l)) = fun l => padW (argQ m c) (ix2 (rowIx t r) l) from funext fun l => (dq_at r _ l).trans (read_q m c t r l)]
  unfold rowQ
  by_cases h : (rowIx t r).val < 112
  · rw [dif_pos h, show (fun l => padW (argQ m c) (ix2 (rowIx t r) l)) = fun _ => 0 from funext fun l => padW_front _ _ h l]
    exact turn_zero _ _ _
  · rw [dif_neg h, show (fun l => padW (argQ m c) (ix2 (rowIx t r) l)) = fun l => argQ m c (ix2 ⟨(rowIx t r).val - 112, by omega⟩ l) from funext fun l => padW_row _ _ h l,
      show (fun j => cosTab (ix2 (rowIx t r) j)) = refCos ⟨(rowIx t r).val - 112, by omega⟩ from funext fun j => angle_row _ h _ _ cos_at j,
      show (fun j => sinTab (ix2 (rowIx t r) j)) = refSin ⟨(rowIx t r).val - 112, by omega⟩ from funext fun j => angle_row _ h _ _ sin_at j]
    rfl
theorem k_point (r : Fin 384) (C : Fin 256) : gkT m c t (ix2 r C) = rowK (argKc m c) (argKp m c) (rowIx t r) C := by
  refine (turnK r (fun j => cosTab (ix2 (rowIx t r) j)) (fun j => sinTab (ix2 (rowIx t r) j)) _ _ (read_cos m c t r) (read_sin m c t r) _ _ C).trans ?_
  simp only [read_kc, read_kp]
  unfold rowK
  by_cases h : (rowIx t r).val < 112
  · rw [dif_pos h, show (fun l => padN (argKc m c) (ix2 (rowIx t r) l) + padN (argKp m c) (ix2 (rowIx t r) l)) = fun _ => 0 from funext fun l => by rw [padN_front _ _ h l, padN_front _ _ h l, add_zero]]
    exact turn_zero _ _ _
  · rw [dif_neg h, show (fun l => padN (argKc m c) (ix2 (rowIx t r) l) + padN (argKp m c) (ix2 (rowIx t r) l)) = fun l => argKc m c (ix2 ⟨(rowIx t r).val - 112, by omega⟩ l) + argKp m c (ix2 ⟨(rowIx t r).val - 112, by omega⟩ l) from funext fun l => by rw [padN_row _ _ h l, padN_row _ _ h l],
      show (fun j => cosTab (ix2 (rowIx t r) j)) = refCos ⟨(rowIx t r).val - 112, by omega⟩ from funext fun j => angle_row _ h _ _ cos_at j,
      show (fun j => sinTab (ix2 (rowIx t r) j)) = refSin ⟨(rowIx t r).val - 112, by omega⟩ from funext fun j => angle_row _ h _ _ sin_at j]
    rfl
theorem v_point (r : Fin 384) (C : Fin 256) : gvT m c t (ix2 r C) = rowV (argVc m c) (argVp m c) (rowIx t r) C := by
  refine (sumV_at r _ _ C).trans ?_
  rw [read_vc, read_vp]
  unfold rowV
  by_cases h : (rowIx t r).val < 112
  · rw [dif_pos h, padN_front _ _ h, padN_front _ _ h, add_zero]
  · rw [dif_neg h, padN_row _ _ h, padN_row _ _ h]
    rfl

theorem input_point (r : Fin 384) (k : Fin 1024) : (outsAt0 m c t.val t.isLt).1 (ix2 r k)
    = ∑ C : Fin 256, rowV (argVc m c) (argVp m c) (rowIx t r) C * argWv m c (ix2 k C) + ∑ C : Fin 256, rowK (argKc m c) (argKp m c) (rowIx t r) C * argWk m c (ix2 k C)
      + ∑ C : Fin 1024, rowQ (argQ m c) (rowIx t r) C * argWq m c (ix2 k C) := by
  rw [outs_input]
  refine (input_at r _ _ _ _ _ _ _ _ _ _ k).trans ?_
  refine congrArg₂ (· + ·) (congrArg₂ (· + ·) ?_ ?_) ?_
  · exact Finset.sum_congr rfl fun C _ => by rw [v_point, wv_at, read_wv]
  · exact Finset.sum_congr rfl fun C _ => by rw [k_point, wk_at, read_wk]
  · exact Finset.sum_congr rfl fun C _ => by rw [q_point, wq_at, read_wq]

/-- One row's terms of the gradients of the three weights. -/
def termQ (k C : Fin 1024) (R : Fin 4224) : EReal := argH m c (ix2 R k) * rowQ (argQ m c) R C
def termK (k : Fin 1024) (C : Fin 256) (R : Fin 4224) : EReal := argH m c (ix2 R k) * rowK (argKc m c) (argKp m c) R C
def termV (k : Fin 1024) (C : Fin 256) (R : Fin 4224) : EReal := argH m c (ix2 R k) * rowV (argVc m c) (argVp m c) R C

theorem sumQ_point (k C : Fin 1024) : sumQ m c t (ix2 k C) = ∑ r : Fin 384, ext (termQ m c k C) (384 * t.val + r.val) := by
  refine (weightQ_at _ _ _ _ _ _ k C).trans ?_
  exact Finset.sum_congr rfl fun r _ => by rw [q_point, read_h, ext_lt _ _ (by have := lt11 t; omega)]; rfl
theorem sumK_point (k : Fin 1024) (C : Fin 256) : sumK m c t (ix2 k C) = ∑ r : Fin 384, ext (termK m c k C) (384 * t.val + r.val) := by
  refine (weightK_at _ _ k C).trans ?_
  exact Finset.sum_congr rfl fun r _ => by rw [k_point, read_h, ext_lt _ _ (by have := lt11 t; omega)]; rfl
theorem sumV_point (k : Fin 1024) (C : Fin 256) : sumV m c t (ix2 k C) = ∑ r : Fin 384, ext (termV m c k C) (384 * t.val + r.val) := by
  refine (weightV_at _ _ k C).trans ?_
  exact Finset.sum_congr rfl fun r _ => by rw [v_point, read_h, ext_lt _ _ (by have := lt11 t; omega)]; rfl

/-- What adds one tile's sum at each point holds the sum over all rows at the last. -/
theorem total (g : (n : ℕ) → n < cfg0.N → EReal) (f : Fin 4224 → EReal)
    (h0 : ∀ t : Fin cfg0.N, t.val % 11 = 0 → g t.val t.isLt = ∑ r : Fin 384, ext f (384 * t.val + r.val))
    (hs : ∀ t : Fin cfg0.N, ¬t.val % 11 = 0 → g t.val t.isLt = g (t.val - 1) (Nat.lt_of_le_of_lt (Nat.sub_le _ _) t.isLt) + ∑ r : Fin 384, ext f (384 * t.val + r.val))
    (t : Fin cfg0.N) (h : t.val = 10) : g t.val t.isLt = ∑ R : Fin 4224, f R := by
  have e := Pipeline.eq_sum_of_reset_step_divmod g 11 0 (fun a i => ∑ r : Fin 384, ext f (384 * (11 * a + i) + r.val))
    (fun t h => by rw [h0 t h, zero_add, show 11 * (t.val / 11) + t.val % 11 = t.val by omega])
    (fun t h => by rw [hs t h, show 11 * (t.val / 11) + t.val % 11 = t.val by omega]) t
  refine e.trans ?_
  rw [zero_add, h]
  exact Eq.trans (by norm_num) (sum_tiles 11 384 rfl _)

theorem lastQ (h : t.val = 10) (k C : Fin 1024) : (outsAt0 m c t.val t.isLt).2.1 (ix2 k C) = ∑ R : Fin 4224, termQ m c k C R :=
  total (fun n h => (outsAt0 m c n h).2.1 (ix2 k C)) _ (fun t h => (congrFun (congrArg (fun p => p.1) (outs_first m c t h)) (ix2 k C)).trans (sumQ_point m c t k C))
    (fun t h => (congrFun (congrArg (fun p => p.1) (outs_next m c t h)) (ix2 k C)).trans ((nextQ _ _ _ _ _ _ _ k C).trans (congrArg _ (sumQ_point m c t k C)))) t h
theorem lastK (h : t.val = 10) (k : Fin 1024) (C : Fin 256) : (outsAt0 m c t.val t.isLt).2.2.1 (ix2 k C) = ∑ R : Fin 4224, termK m c k C R :=
  total (fun n h => (outsAt0 m c n h).2.2.1 (ix2 k C)) _ (fun t h => (congrFun (congrArg (fun p => p.2.1) (outs_first m c t h)) (ix2 k C)).trans (sumK_point m c t k C))
    (fun t h => (congrFun (congrArg (fun p => p.2.1) (outs_next m c t h)) (ix2 k C)).trans ((nextK _ _ k C).trans (congrArg _ (sumK_point m c t k C)))) t h
theorem lastV (h : t.val = 10) (k : Fin 1024) (C : Fin 256) : (outsAt0 m c t.val t.isLt).2.2.2 (ix2 k C) = ∑ R : Fin 4224, termV m c k C R :=
  total (fun n h => (outsAt0 m c n h).2.2.2 (ix2 k C)) _ (fun t h => (congrFun (congrArg (fun p => p.2.2) (outs_first m c t h)) (ix2 k C)).trans (sumV_point m c t k C))
    (fun t h => (congrFun (congrArg (fun p => p.2.2) (outs_next m c t h)) (ix2 k C)).trans ((nextV _ _ k C).trans (congrArg _ (sumV_point m c t k C)))) t h

/-- The four gradients, as arrays. -/
def gradH : Vec Ideal S4224x1024 .f32 := fun i => inputGrad (argQ m c) (argKc m c) (argKp m c) (argVc m c) (argVp m c) (argWq m c) (argWk m c) (argWv m c) (i 0) (i 1)
def gradWq : Vec Ideal S1024x1024 .f32 := fun i => ∑ P : Fin 4112, argH m c (ix2 ⟨112 + P.val, by omega⟩ (i 0)) * backQ (argQ m c) P (i 1)
def gradWk : Vec Ideal S1024x256 .f32 := fun i => ∑ P : Fin 4112, argH m c (ix2 ⟨112 + P.val, by omega⟩ (i 0)) * backK (argKc m c) (argKp m c) P (i 1)
def gradWv : Vec Ideal S1024x256 .f32 := fun i => ∑ P : Fin 4112, argH m c (ix2 ⟨112 + P.val, by omega⟩ (i 0)) * backV (argVc m c) (argVp m c) P (i 1)

theorem input_row (R : Fin 4224) (k : Fin 1024) : ∑ C : Fin 256, rowV (argVc m c) (argVp m c) R C * argWv m c (ix2 k C) + ∑ C : Fin 256, rowK (argKc m c) (argKp m c) R C * argWk m c (ix2 k C)
      + ∑ C : Fin 1024, rowQ (argQ m c) R C * argWq m c (ix2 k C) = gradH m c (ix2 R k) := by
  show _ = inputGrad _ _ _ _ _ _ _ _ R k
  unfold inputGrad rowV rowK rowQ
  by_cases h : R.val < 112
  · simp only [dif_pos h, zero_mul, Finset.sum_const_zero, add_zero]
  · simp only [dif_neg h]
    rfl

theorem allQ (k : Fin 1024) (C : Fin 1024) : ∑ R : Fin 4224, termQ m c k C R = gradWq m c (ix2 k C) := by
  refine (sum_front _ fun R h => ?_).trans (Finset.sum_congr rfl fun P _ => ?_)
  · unfold termQ rowQ
    rw [dif_pos h, mul_zero]
  · unfold termQ rowQ
    rw [dif_neg (by dsimp only; omega)]
    exact congrArg (fun p => _ * backQ (argQ m c) p C) (Fin.ext (by dsimp only; omega))
theorem allK (k : Fin 1024) (C : Fin 256) : ∑ R : Fin 4224, termK m c k C R = gradWk m c (ix2 k C) := by
  refine (sum_front _ fun R h => ?_).trans (Finset.sum_congr rfl fun P _ => ?_)
  · unfold termK rowK
    rw [dif_pos h, mul_zero]
  · unfold termK rowK
    rw [dif_neg (by dsimp only; omega)]
    exact congrArg (fun p => _ * backK (argKc m c) (argKp m c) p C) (Fin.ext (by dsimp only; omega))
theorem allV (k : Fin 1024) (C : Fin 256) : ∑ R : Fin 4224, termV m c k C R = gradWv m c (ix2 k C) := by
  refine (sum_front _ fun R h => ?_).trans (Finset.sum_congr rfl fun P _ => ?_)
  · unfold termV rowV
    rw [dif_pos h, mul_zero]
  · unfold termV rowV
    rw [dif_neg (by dsimp only; omega)]
    exact congrArg (fun p => _ * backV (argVc m c) (argVp m c) p C) (Fin.ext (by dsimp only; omega))

theorem final11 : (dats m 0 c).arrAt 11 cfg0.N = gradH m c := by
  refine (dats m 0 c).arrAt_eq_of_covers 11 _ (by decide +kernel) fun t hf y => ?_
  blk_simp
  have key : (outsAt0 m c t.val t.isLt).1 y = gradH m c (((View.whole main_v42_0).slice (win0_11.rect t)).emb y) := by
    obtain ⟨r, l, rfl⟩ : ∃ (r : Fin 384) (l : Fin 1024), y = ix2 r l := ⟨_, _, eq_ix2 y⟩
    have ee : (((View.whole main_v42_0).slice (win0_11.rect t)).emb (ix2 r l)) = ix2 (rowIx t r) l := by blk_ext [idxW11 t]
    rw [input_point, ee]
    exact input_row m c _ l
  rw [after0_11]
  exact key

def lastPt : Fin cfg0.N := ⟨10, by rw [show cfg0.N = 11 from N_0]; omega⟩
theorem whole12 : (cfg0.win 12).WholeAt lastPt := by decide +kernel
theorem final12 : (dats m 0 c).arrAt 12 cfg0.N = gradWq m c := by
  refine (dats m 0 c).arrAt_eq_of_after_last 12 lastPt whole12 _ fun j => ?_
  rw [after0_12]
  blk_simp
  obtain ⟨k, l, rfl⟩ : ∃ (k : Fin 1024) (l : Fin 1024), j = ix2 k l := ⟨_, _, eq_ix2 j⟩
  exact (lastQ m c lastPt rfl k l).trans (allQ m c k l)
theorem whole13 : (cfg0.win 13).WholeAt lastPt := by decide +kernel
theorem final13 : (dats m 0 c).arrAt 13 cfg0.N = gradWk m c := by
  refine (dats m 0 c).arrAt_eq_of_after_last 13 lastPt whole13 _ fun j => ?_
  rw [after0_13]
  blk_simp
  obtain ⟨k, l, rfl⟩ : ∃ (k : Fin 1024) (l : Fin 256), j = ix2 k l := ⟨_, _, eq_ix2 j⟩
  exact (lastK m c lastPt rfl k l).trans (allK m c k l)
theorem whole14 : (cfg0.win 14).WholeAt lastPt := by decide +kernel
theorem final14 : (dats m 0 c).arrAt 14 cfg0.N = gradWv m c := by
  refine (dats m 0 c).arrAt_eq_of_after_last 14 lastPt whole14 _ fun j => ?_
  rw [after0_14]
  blk_simp
  obtain ⟨k, l, rfl⟩ : ∃ (k : Fin 1024) (l : Fin 256), j = ix2 k l := ⟨_, _, eq_ix2 j⟩
  exact (lastV m c lastPt rfl k l).trans (allV m c k l)

end Cert.Proof.Qkv
end
-- ==== Proof.QkvClaims.lean ====
module

public import proofs.«01_k».proof.Defs
public import proofs.«01_k».proof.Proof.QkvArrays
public import proofs.«01_k».proof.Proof.Gen.Qkv.Frame
public import proofs.«01_k».proof.Proof.Gen.QkvRefIdeal

@[expose] public section
noncomputable section
namespace Cert.Proof.Qkv
open Idealize.ShloMosaic Idealize.SL.Sem

/-- The call, run on any values: it ends without fault, its argument arrays and its counters as they were. -/
theorem frame_kernel : Cert.quiescent_Qkv := fun m ρ _ => Cert.Qkv.Gen.frame m ρ
theorem frame_ideal : Cert.quiescent_QkvIdeal := fun m ρ _ => Cert.QkvIdeal.Gen.frame m ρ
theorem frame_reference : Cert.quiescent_QkvRefIdeal := fun m ρ _ =>
  (θ_run _ _ _).mono (fun r h => ⟨fun c => (h c).2.2.2.2, sem_eq_zero_of_no_sems (by decide) r.2⟩) (Cert.QkvRefIdeal.Value.run m ρ)

variable (m : (ℓ : Loc Cert.QkvIdeal.nD Cert.QkvIdeal.τ Cert.QkvIdeal.sig) → Buf (Elt Ideal) ℓ) (c : Dev Cert.QkvIdeal.nD)

/-! The reference's four results, at the kernel's arguments, are the arrays that the call leaves. -/

theorem ref_gradH : Cert.QkvRefIdeal.Read.val_main_v102 (F := Ideal) (argQ m c) (argKc m c) (argKp m c) (argVc m c) (argVp m c) (argWq m c) (argWk m c) (argWv m c) = gradH m c := by
  funext i
  obtain ⟨R, l, rfl⟩ : ∃ (R : Fin 4224) (l : Fin 1024), i = ix2 R l := ⟨_, _, eq_ix2 i⟩
  exact ref_input _ _ _ _ _ _ _ _ R l
theorem ref_gradWq : Cert.QkvRefIdeal.Read.val_main_v99 (F := Ideal) (argH m c) (argQ m c) = gradWq m c := by
  funext i
  obtain ⟨k, l, rfl⟩ : ∃ (k : Fin 1024) (l : Fin 1024), i = ix2 k l := ⟨_, _, eq_ix2 i⟩
  exact ref_wq _ _ k l
theorem ref_gradWk : Cert.QkvRefIdeal.Read.val_main_v80 (F := Ideal) (argH m c) (argKc m c) (argKp m c) = gradWk m c := by
  funext i
  obtain ⟨k, l, rfl⟩ : ∃ (k : Fin 1024) (l : Fin 256), i = ix2 k l := ⟨_, _, eq_ix2 i⟩
  exact ref_wk _ _ _ k l
theorem ref_gradWv : Cert.QkvRefIdeal.Read.val_main_v60 (F := Ideal) (argH m c) (argVc m c) (argVp m c) = gradWv m c := by
  funext i
  obtain ⟨k, l, rfl⟩ : ∃ (k : Fin 1024) (l : Fin 256), i = ix2 k l := ⟨_, _, eq_ix2 i⟩
  exact ref_wv _ _ _ k l

/-- Call and reference leave the same four gradients. -/
theorem values : Cert.algebraic_QkvIdeal_QkvRefIdeal := fun m ρ m' ρ' _ hag =>
  ⟨gradH m, gradWq m, gradWk m, gradWv m,
    (θ_run _ _ _).mono (fun _ h c => ⟨(h c).1.trans (final11 m c), (h c).2.1.trans (final12 m c), (h c).2.2.1.trans (final13 m c),
        (h c).2.2.2.1.trans (final14 m c), (h c).2.2.2.2⟩)
      (Cert.QkvIdeal.Value.run_blocks m ρ),
    (θ_run _ _ _).mono (fun _ h c => by
        obtain ⟨h0, h1, h2, h3, h4, h5, h6, h7, h8⟩ := hag c
        obtain ⟨e0, e1, e2, e3, kept⟩ := h c
        refine ⟨e0.trans ((Cert.QkvRefIdeal.Read.val_main_v102_eq _ _).trans ?_), e1.trans ((Cert.QkvRefIdeal.Read.val_main_v99_eq _ _).trans ?_), e2.trans ((Cert.QkvRefIdeal.Read.val_main_v80_eq _ _).trans ?_), e3.trans ((Cert.QkvRefIdeal.Read.val_main_v60_eq _ _ _).trans ?_), kept⟩
        · rw [h1, h2, h3, h4, h5, h6, h7, h8]; exact ref_gradH m c
        · rw [h0, h1]; exact ref_gradWq m c
        · rw [h0, h2, h3]; exact ref_gradWk m c
        · rw [h0, h4, h5]; exact ref_gradWv m c)
      (Cert.QkvRefIdeal.Value.run m' ρ')⟩

end Cert.Proof.Qkv
end
-- ==== Proof.PostRow.lean ====
module

public import proofs.«01_k».proof.Proof.NormRow
public import proofs.«01_k».proof.Proof.SwaRow

@[expose] public section
noncomputable section
namespace Cert.Proof.Post
open Idealize.ShloMosaic Cert.Proof.Norm

/-! One row of the recurrence's output, backwards: group norm over the heads, bonus, gate, output projection, residual, layer norm. -/

abbrev part : EReal := Ideal.ofBits .f32 0x3C800000#32
abbrev groupEps : EReal := Ideal.ofBits .f32 0x3A27C5AC#32
abbrev alpha : EReal := Ideal.ofBits .f32 0x3FB504F3#32

/-- A real number. -/
abbrev Re (x : EReal) : Prop := ∃ a : ℝ, x = (a : EReal)
/-- Column `j` of head `h`, and the head of a column. -/
abbrev colOf (h : Fin 16) (j : Fin 64) : Fin 1024 := ⟨64 * h.val + j.val, by have := h.isLt; have := j.isLt; omega⟩
abbrev headOf (l : Fin 1024) : Fin 16 := ⟨l.val / 64, by have := l.isLt; omega⟩
theorem headOf_colOf (h : Fin 16) (j : Fin 64) : headOf (colOf h j) = h := Fin.ext (by have := j.isLt; simp only [headOf, colOf]; omega)
/-- A head's sum of a row. -/
def headSum (x : Fin 1024 → EReal) (h : Fin 16) : EReal := ∑ j : Fin 64, x (colOf h j)

/-- What the call reads of one row: the recurrence's output, receptance, key, value, gate, residual and gradient, and the weights. -/
structure Row where
  y : Fin 1024 → EReal
  r : Fin 1024 → EReal
  k : Fin 1024 → EReal
  v : Fin 1024 → EReal
  g : Fin 1024 → EReal
  h : Fin 1024 → EReal
  d : Fin 1024 → EReal
  wo : Fin 1024 → Fin 1024 → EReal
  gw : Fin 1024 → EReal
  gb : Fin 1024 → EReal
  rk : Fin 1024 → EReal
  lg : Fin 1024 → EReal

namespace Row
variable (X : Row) (l : Fin 1024) (h : Fin 16)

/-- The output less its head's mean; its mean square; the inverse of the root. -/
def cy : EReal := X.y l - headSum X.y (headOf l) * part
def vy : EReal := headSum (fun l => X.cy l * X.cy l) h * part + groupEps
def ry : EReal := Ideal.rsqrt (X.vy h)
def hat : EReal := X.cy l * X.ry (headOf l)
/-- The bonus' weight, the sum of both, the gated row and the row before the layer norm. -/
def bon : EReal := headSum (fun l => X.r l * X.k l * X.rk l) (headOf l)
def mix : EReal := X.hat l * X.gw l + X.gb l + X.bon l * X.v l
def out : EReal := X.mix l * X.g l
def pre : EReal := alpha * X.h l + ∑ k : Fin 1024, X.out k * X.wo k l
/-- The gradients of the row before the layer norm, of the gated row, and of the row before the gate. -/
def dz : EReal := rowGrad X.pre X.d X.lg l
def dm : EReal := ∑ k : Fin 1024, X.dz k * X.wo l k
def dmix : EReal := X.dm l * X.g l
/-- The gradient of the bonus' weight. -/
def tb : EReal := headSum (fun l => X.dmix l * X.v l) (headOf l)
/-- The group norm's gradient. -/
def dn : EReal := X.dmix l * X.gw l
def q : EReal := headSum (fun l => X.cy l * X.dn l) h * (minusHalf * Ideal.div (X.ry h) (X.vy h)) * part
def u : EReal := X.dn l * X.ry (headOf l) + X.cy l * X.q (headOf l) + X.q (headOf l) * X.cy l
def dy : EReal := X.u l + headSum (fun l => -X.u l) (headOf l) * part

/-- All entries are real numbers. -/
structure Real : Prop where
  y : ∀ l, Re (X.y l)
  r : ∀ l, Re (X.r l)
  k : ∀ l, Re (X.k l)
  v : ∀ l, Re (X.v l)
  g : ∀ l, Re (X.g l)
  h : ∀ l, Re (X.h l)
  d : ∀ l, Re (X.d l)
  wo : ∀ k l, Re (X.wo k l)
  gw : ∀ l, Re (X.gw l)
  gb : ∀ l, Re (X.gb l)
  rk : ∀ l, Re (X.rk l)
  lg : ∀ l, Re (X.lg l)
end Row

/-! Which values are real numbers. -/

/-- A positive real number. -/
abbrev Pos (x : EReal) : Prop := ∃ a : ℝ, 0 < a ∧ x = (a : EReal)

theorem Re.add {x y : EReal} : Re x → Re y → Re (x + y) := fun ⟨a, ha⟩ ⟨b, hb⟩ => ⟨a + b, by rw [ha, hb, EReal.coe_add]⟩
theorem Re.mul {x y : EReal} : Re x → Re y → Re (x * y) := fun ⟨a, ha⟩ ⟨b, hb⟩ => ⟨a * b, by rw [ha, hb, EReal.coe_mul]⟩
theorem Re.sub {x y : EReal} : Re x → Re y → Re (x - y) := fun ⟨a, ha⟩ ⟨b, hb⟩ => ⟨a - b, by rw [ha, hb, EReal.coe_sub]⟩
theorem Re.neg {x : EReal} : Re x → Re (-x) := fun ⟨a, ha⟩ => ⟨-a, by rw [ha, EReal.coe_neg]⟩
theorem Re.sum {ι : Type} [Fintype ι] {f : ι → EReal} (h : ∀ i, Re (f i)) : Re (∑ i, f i) := by
  choose a ha using h
  exact ⟨∑ i, a i, by rw [← Swa.sum_coe]; exact Finset.sum_congr rfl fun i _ => ha i⟩
theorem Pos.re {x : EReal} : Pos x → Re x := fun ⟨a, _, e⟩ => ⟨a, e⟩
theorem Re.div {x y : EReal} : Re x → Pos y → Re (Ideal.div x y) := fun ⟨a, ha⟩ ⟨b, h0, hb⟩ => ⟨a / b, by rw [ha, hb, Swa.div_coe_pos a h0]⟩
theorem Pos.rsqrt {x : EReal} : Pos x → Re (Ideal.rsqrt x) := fun ⟨a, h0, ha⟩ => ⟨(Real.sqrt a)⁻¹, by
  subst ha
  show (if a < 0 then ⊥ else if a = 0 then ⊤ else (((Real.sqrt a)⁻¹ : ℝ) : EReal)) = _
  rw [if_neg (not_lt.mpr h0.le), if_neg h0.ne']⟩
theorem Re.self {x : EReal} : Re x → x - x = 0 := fun ⟨a, e⟩ => by rw [e, ← EReal.coe_sub, sub_self, EReal.coe_zero]

theorem part_word : part = ((1 / 64 : ℝ) : EReal) := by show Ideal.ofBits FTy.f32 0x3C800000#32 = _; simp [Ideal.ofBits, Ideal.ieee, -EReal.coe_mul]; norm_num
theorem groupEps_word : groupEps = ((10995116 / 2 ^ 34 : ℝ) : EReal) := by show Ideal.ofBits FTy.f32 0x3A27C5AC#32 = _; simp [Ideal.ofBits, Ideal.ieee, -EReal.coe_mul]; norm_num
theorem eps_word : eps = ((10995116 / 2 ^ 40 : ℝ) : EReal) := by show Ideal.ofBits FTy.f32 0x3727C5AC#32 = _; simp [Ideal.ofBits, Ideal.ieee, -EReal.coe_mul]; norm_num
theorem width_word : width = ((1024 : ℝ) : EReal) := by show Ideal.ofBits FTy.f32 0x44800000#32 = _; simp [Ideal.ofBits, Ideal.ieee, -EReal.coe_mul]; norm_num
theorem alpha_word : alpha = ((11863283 / 2 ^ 23 : ℝ) : EReal) := by show Ideal.ofBits FTy.f32 0x3FB504F3#32 = _; simp [Ideal.ofBits, Ideal.ieee, -EReal.coe_mul]; norm_num
theorem minusHalf_word : minusHalf = ((-1 / 2 : ℝ) : EReal) := by show Ideal.ofBits FTy.f32 0xBF000000#32 = _; simp [Ideal.ofBits, Ideal.ieee, -EReal.coe_mul]; norm_num
theorem div64 (x : EReal) : Ideal.div x (Ideal.ofBits .f32 0x42800000#32) = x * part := by
  rw [part_word, show Ideal.ofBits FTy.f32 0x42800000#32 = ((64 : ℝ) : EReal) by simp [Ideal.ofBits, Ideal.ieee, -EReal.coe_mul]; norm_num, Ideal.div_coe (by norm_num)]

theorem part_re : Re part := ⟨_, part_word⟩
theorem alpha_re : Re alpha := ⟨_, alpha_word⟩
theorem minusHalf_re : Re minusHalf := ⟨_, minusHalf_word⟩
theorem width_pos : Pos width := ⟨_, by norm_num, width_word⟩

theorem headSum_re {x : Fin 1024 → EReal} (h : ∀ l, Re (x l)) (i : Fin 16) : Re (headSum x i) := Re.sum fun _ => h _
/-- The mean square plus a positive constant is positive. -/
theorem square_pos {ι : Type} [Fintype ι] {f : ι → EReal} (h : ∀ i, Re (f i)) {c e : ℝ} (hc : 0 ≤ c) (he : 0 < e) : Pos ((∑ i, f i * f i) * (c : EReal) + (e : EReal)) := by
  choose a ha using h
  have hs : ∑ i, f i * f i = ((∑ i, a i * a i : ℝ) : EReal) := by
    rw [← Swa.sum_coe_mul]; exact Finset.sum_congr rfl fun i _ => by rw [ha]
  refine ⟨(∑ i, a i * a i) * c + e, ?_, by rw [hs, EReal.coe_add, EReal.coe_mul]⟩
  have := Finset.sum_nonneg (s := Finset.univ) fun i _ => mul_self_nonneg (a i)
  positivity

section
variable {z d w : Fin 1024 → EReal} (hz : ∀ l, Re (z l)) (hd : ∀ l, Re (d l)) (hw : ∀ l, Re (w l))
include hz
theorem cen_re (l : Fin 1024) : Re (cen z l) := (hz l).sub ((Re.sum hz).div width_pos)
theorem spread_pos : Pos (spread z) := by
  unfold spread
  rw [width_word, Ideal.div_coe (by norm_num), eps_word]
  exact square_pos (cen_re hz) (by norm_num) (by norm_num)
theorem scale_re : Re (scale z) := (spread_pos hz).rsqrt
include hd hw
theorem spreadGrad_re : Re (spreadGrad z d w) :=
  ((Re.sum fun l => (cen_re hz l).mul ((hd l).mul (hw l))).mul (minusHalf_re.mul ((scale_re hz).div (spread_pos hz)))).div width_pos
theorem cenGrad_re (l : Fin 1024) : Re (cenGrad z d w l) :=
  ((((hd l).mul (hw l)).mul (scale_re hz)).add ((cen_re hz l).mul (spreadGrad_re hz hd hw))).add ((spreadGrad_re hz hd hw).mul (cen_re hz l))
theorem rowGrad_re (l : Fin 1024) : Re (rowGrad z d w l) := (cenGrad_re hz hd hw l).add ((Re.sum fun x => (cenGrad_re hz hd hw x).neg).div width_pos)
end

namespace Row.Real
variable {X : Row} (H : X.Real) (l : Fin 1024) (h : Fin 16)
include H
theorem cy_re : Re (X.cy l) := (H.y l).sub ((headSum_re H.y _).mul part_re)
theorem vy_pos : Pos (X.vy h) := by
  unfold vy headSum
  rw [part_word, groupEps_word]
  exact square_pos (fun j => cy_re H (colOf h j)) (by norm_num) (by norm_num)
theorem ry_re : Re (X.ry h) := (vy_pos H h).rsqrt
theorem hat_re : Re (X.hat l) := (cy_re H l).mul (ry_re H _)
theorem weight_re : Re (X.r l * X.k l * X.rk l) := ((H.r l).mul (H.k l)).mul (H.rk l)
theorem bon_re : Re (X.bon l) := headSum_re (weight_re H) _
theorem mix_re : Re (X.mix l) := (((hat_re H l).mul (H.gw l)).add (H.gb l)).add ((bon_re H l).mul (H.v l))
theorem out_re : Re (X.out l) := (mix_re H l).mul (H.g l)
theorem pre_re : Re (X.pre l) := (alpha_re.mul (H.h l)).add (Re.sum fun k => (out_re H k).mul (H.wo k l))
theorem dz_re : Re (X.dz l) := rowGrad_re (pre_re H) H.d H.lg l
theorem dm_re : Re (X.dm l) := Re.sum fun k => (dz_re H k).mul (H.wo l k)
theorem dmix_re : Re (X.dmix l) := (dm_re H l).mul (H.g l)
theorem share_re : Re (X.dmix l * X.v l) := (dmix_re H l).mul (H.v l)
theorem dn_re : Re (X.dn l) := (dmix_re H l).mul (H.gw l)
theorem turn_re : Re (X.cy l * X.dn l) := (cy_re H l).mul (dn_re H l)
theorem q_re : Re (X.q h) := ((headSum_re (turn_re H) h).mul (minusHalf_re.mul ((ry_re H h).div (vy_pos H h)))).mul part_re
theorem u_re : Re (X.u l) := (((dn_re H l).mul (ry_re H _)).add ((cy_re H l).mul (q_re H _))).add ((q_re H _).mul (cy_re H l))
end Row.Real

end Cert.Proof.Post
end
-- ==== Proof.PostTile.lean ====
module

public import proofs.«01_k».proof.Proof.PostRow
public import proofs.«01_k».proof.Proof.Gen.PostIdeal.Skeleton
public import Idealize.ShloMosaic.Lib.Claim
public import Idealize.ShloMosaic.Lib.Tactic
public import Idealize.ShloMosaic.Lib.Pointwise

@[expose] public section
set_option maxRecDepth 16384
noncomputable section
namespace Cert.Proof.Post
open Cert.PostIdeal Cert.PostIdeal.Gen Cert.Proof.Norm Idealize.ShloMosaic Idealize.ShloMosaic.TcCoe

/-! Sums over the heads, by products with 0/1 matrices. -/

theorem sum_heads (F : Fin 1024 → EReal) : ∑ l, F l = ∑ h : Fin 16, ∑ j : Fin 64, F (colOf h j) := by
  rw [← Fintype.sum_prod_type' (f := fun (h : Fin 16) (j : Fin 64) => F (colOf h j))]
  refine (Fintype.sum_equiv (finProdFinEquiv (m := 16) (n := 64)) _ _ fun p => ?_).symm
  exact congrArg F (Fin.ext (by simp [finProdFinEquiv, colOf]; omega))

/-- The matrix whose column `h` marks the columns of head `h`, and its transpose. -/
def Marks (E : FVec Ideal S1024x16 .bf16) : Prop := ∀ l h, E (ix2 l h) = if headOf l = h then 1 else 0
def MarksT (E : FVec Ideal S16x1024 .bf16) : Prop := ∀ h l, E (ix2 h l) = if headOf l = h then 1 else 0

variable (E : FVec Ideal S1024x16 .bf16) (Et : FVec Ideal S16x1024 .bf16)

theorem sum_marks (hE : Marks E) (x : Fin 1024 → EReal) (h : Fin 16) : ∑ l, x l * E (ix2 l h) = headSum x h := by
  simp only [hE _ h]
  rw [sum_heads]
  simp only [headOf_colOf]
  rw [Finset.sum_eq_single h (fun b _ hb => by simp [hb]) (fun hb => absurd (Finset.mem_univ _) hb)]
  simp [headSum]
theorem sum_marksT (hE : MarksT Et) (x : Fin 16 → EReal) (l : Fin 1024) : ∑ h, x h * Et (ix2 h l) = x (headOf l) := by
  simp only [hE _ l]
  rw [Finset.sum_eq_single (headOf l) (fun b _ hb => by simp [hb.symm]) (fun hb => absurd (Finset.mem_univ _) hb)]
  simp

/-- A tile times a 0/1 matrix, in two parts: the tile's bfloat16 part and the rest. -/
def sumT (x : FVec Ideal S192x1024 .f32) : FVec Ideal S192x16 .f32 :=
  addf (matmul dot_S192x1024_S1024x16_S192x16_1_0_0_1_n_n none (truncf .bf16 x bitsLt_bf16_f32) E (constant S192x16 .f32 0x00000000#32))
    (matmul dot_S192x1024_S1024x16_S192x16_1_0_0_1_n_n none
      (truncf .bf16 (subf x (extf .f32 (truncf .bf16 x bitsLt_bf16_f32) bitsLt_bf16_f32)) bitsLt_bf16_f32) E (constant S192x16 .f32 0x00000000#32))
def overT (x : FVec Ideal S192x16 .f32) : FVec Ideal S192x1024 .f32 :=
  addf (matmul dot_S192x16_S16x1024_S192x1024_1_0_0_1_n_n none (truncf .bf16 x bitsLt_bf16_f32) Et (constant S192x1024 .f32 0x00000000#32))
    (matmul dot_S192x16_S16x1024_S192x1024_1_0_0_1_n_n none
      (truncf .bf16 (subf x (extf .f32 (truncf .bf16 x bitsLt_bf16_f32) bitsLt_bf16_f32)) bitsLt_bf16_f32) Et (constant S192x1024 .f32 0x00000000#32))

theorem sumT_at (hE : Marks E) (x : FVec Ideal S192x1024 .f32) (r : Fin 192) {f : Fin 1024 → EReal} (hx : ∀ l, x (ix2 r l) = f l) (hf : ∀ l, Re (f l)) (h : Fin 16) :
    sumT E x (ix2 r h) = headSum f h := by
  pointwise [sumT]
  simp only [hx]
  rw [sum_marks E hE, sum_marks E hE (fun l => f l - f l)]
  simp only [headSum, (hf _).self]
  simp
theorem overT_at (hE : MarksT Et) (x : FVec Ideal S192x16 .f32) (r : Fin 192) {f : Fin 16 → EReal} (hx : ∀ h, x (ix2 r h) = f h) (hf : ∀ h, Re (f h)) (l : Fin 1024) :
    overT Et x (ix2 r l) = f (headOf l) := by
  pointwise [overT]
  simp only [hx]
  rw [sum_marksT Et hE, sum_marksT Et hE (fun l => f l - f l), (hf _).self, add_zero]

variable {E Et} {X : Fin 192 → Row} (H : ∀ r, (X r).Real) (hE : Marks E) (hEt : MarksT Et) (r : Fin 192) (l : Fin 1024) (h : Fin 16)

/-! The group norm and the bonus. -/
section
variable {y : Vec Ideal S192x1024 .f32} (hy : ∀ r l, y (ix2 r l) = (X r).y l)
include H hE hEt hy
theorem cy_at : k0_pay8 y E Et (ix2 r l) = (X r).cy l := by
  show y (ix2 r l) - overT Et (mulf (sumT E y) (broadcast S192x16 part)) (ix2 r l) = _
  rw [overT_at Et hEt _ r (f := fun h => headSum (X r).y h * part) (fun h => ?_) (fun h => (headSum_re (H r).y h).mul part_re), hy]
  · rfl
  · show sumT E y (ix2 r h) * part = _
    rw [sumT_at E hE y r (hy r) (H r).y]
theorem vy_at : k0_pay9 y E Et (ix2 r h) = (X r).vy h := by
  show sumT E (mulf (k0_pay8 y E Et) (k0_pay8 y E Et)) (ix2 r h) * part + groupEps = _
  rw [sumT_at E hE _ r (f := fun l => (X r).cy l * (X r).cy l) (fun l => ?_) (fun l => ((H r).cy_re l).mul ((H r).cy_re l))]
  · rfl
  · show k0_pay8 y E Et (ix2 r l) * k0_pay8 y E Et (ix2 r l) = _
    rw [cy_at H hE hEt r l hy]
theorem ry_at : k0_pay10 y E Et (ix2 r h) = (X r).ry h := by
  show Ideal.rsqrt (k0_pay9 y E Et (ix2 r h)) = _
  rw [vy_at H hE hEt r h hy]; rfl
theorem factor_at : k0_pay11 y E Et (ix2 r h) = minusHalf * Ideal.div ((X r).ry h) ((X r).vy h) := by
  show minusHalf * Ideal.div (k0_pay10 y E Et (ix2 r h)) (k0_pay9 y E Et (ix2 r h)) = _
  rw [vy_at H hE hEt r h hy, ry_at H hE hEt r h hy]
theorem over_at : k0_pay12 y E Et (ix2 r l) = (X r).ry (headOf l) :=
  overT_at Et hEt _ r (fun h => ry_at H hE hEt r h hy) (fun h => (H r).ry_re h) l
theorem hat_at : k0_pay13 y E Et (ix2 r l) = (X r).hat l := by
  show k0_pay8 y E Et (ix2 r l) * k0_pay12 y E Et (ix2 r l) = _
  rw [cy_at H hE hEt r l hy, over_at H hE hEt r l hy]; rfl
end

section
variable {a b : Vec Ideal S192x1024 .f32} {u : Vec Ideal S1x1024 .f32} (ha : ∀ r l, a (ix2 r l) = (X r).r l) (hb : ∀ r l, b (ix2 r l) = (X r).k l)
  (hu : ∀ r l, u (ix2 0 l) = (X r).rk l)
include H hE hEt ha hb hu
theorem bon_at : k0_pay16 a b E Et u (ix2 r l) = (X r).bon l := by
  refine overT_at Et hEt _ r (f := headSum fun l => (X r).r l * (X r).k l * (X r).rk l) (fun h => ?_) (fun h => headSum_re (H r).weight_re h) l
  refine sumT_at E hE (mulf (k0_pay15 a b) (broadcastTo S192x1024 u broadcasts_S1x1024_S192x1024)) r (fun l => ?_) (H r).weight_re h
  rw [← ha, ← hb, ← hu]
  pointwise [k0_pay15]

section
variable {v g hh hat gw : Vec Ideal S192x1024 .f32} {gb : Vec Ideal S1x1024 .f32} {wo : FVec Ideal S1024x1024 .bf16}
  (hv : ∀ r l, v (ix2 r l) = (X r).v l) (hg : ∀ r l, g (ix2 r l) = (X r).g l) (hr : ∀ r l, hh (ix2 r l) = (X r).h l)
  (hhat : ∀ r l, hat (ix2 r l) = (X r).hat l) (hgw : ∀ r l, gw (ix2 r l) = (X r).gw l) (hgb : ∀ r l, gb (ix2 0 l) = (X r).gb l)
  (hwo : ∀ r k l, wo (ix2 k l) = (X r).wo k l)
include hv hhat hgw hgb
theorem mix_at : k0_pay17 a b v E Et gb u hat gw (ix2 r l) = (X r).mix l := by
  have e := bon_at H hE hEt r l ha hb hu
  unfold k0_pay17
  generalize k0_pay16 a b E Et u = A at *
  pointwise []
  rw [e, hhat, hgw, hgb, hv]; rfl
include hg
theorem out_at : k0_pay18 a b v g E Et gb u hat gw (ix2 r l) = (X r).out l := by
  have e := mix_at H hE hEt r l ha hb hu hv hhat hgw hgb
  show k0_pay17 a b v E Et gb u hat gw (ix2 r l) * g (ix2 r l) = _
  rw [e, hg]; rfl
include hr hwo
theorem cen_at : k0_pay19 a b v g hh E Et wo gb u hat gw (ix2 r l) = cen (X r).pre l := by
  have e := fun l => out_at H hE hEt r l ha hb hu hv hg hhat hgw hgb
  unfold k0_pay19
  generalize k0_pay18 a b v g E Et gb u hat gw = A at *
  pointwise []
  simp only [e, hr, hwo r]
  rfl
theorem spread_at : k0_pay20 a b v g hh E Et wo gb u hat gw (ix2 r 0) = spread (X r).pre := by
  have e := fun l => cen_at H hE hEt r l ha hb hu hv hg hr hhat hgw hgb hwo
  unfold k0_pay20
  generalize k0_pay19 a b v g hh E Et wo gb u hat gw = A at *
  pointwise []
  simp only [e]
  rfl
theorem scale_at : k0_pay21 a b v g hh E Et wo gb u hat gw (ix2 r 0) = scale (X r).pre := by
  show Ideal.rsqrt (k0_pay20 a b v g hh E Et wo gb u hat gw (ix2 r 0)) = _
  rw [spread_at H hE hEt r ha hb hu hv hg hr hhat hgw hgb hwo]; rfl
theorem turn_at : k0_pay22 a b v g hh E Et wo gb u hat gw (ix2 r 0) = minusHalf * Ideal.div (scale (X r).pre) (spread (X r).pre) := by
  show minusHalf * Ideal.div (k0_pay21 a b v g hh E Et wo gb u hat gw (ix2 r 0)) (k0_pay20 a b v g hh E Et wo gb u hat gw (ix2 r 0)) = _
  rw [spread_at H hE hEt r ha hb hu hv hg hr hhat hgw hgb hwo, scale_at H hE hEt r ha hb hu hv hg hr hhat hgw hgb hwo]
theorem normed_at : k0_pay23 a b v g hh E Et wo gb u hat gw (ix2 r l) = cen (X r).pre l * scale (X r).pre := by
  have e := cen_at H hE hEt r l ha hb hu hv hg hr hhat hgw hgb hwo
  have e1 := scale_at H hE hEt r ha hb hu hv hg hr hhat hgw hgb hwo
  unfold k0_pay23
  generalize k0_pay19 a b v g hh E Et wo gb u hat gw = A at *
  generalize k0_pay21 a b v g hh E Et wo gb u hat gw = B at *
  pointwise []
  rw [e, e1]
end
end

theorem arrive_at (z : Vec Ideal S192x1024 .f32) (p : Vec Ideal S4x192x1024 .f32) : k0_pay7 p (k0_pay6 z p) (ix2 r l) = alpha * z (ix2 r l) + ∑ q : Fin 4, p (ix3 q r l) := by
  pointwise [k0_pay7, k0_pay6]
  rw [Fin.sum_univ_four]
  simp only [add_assoc]
theorem gainRows_at (w : Vec Ideal S1x1024 .f32) : k0_pay14 w (ix2 r l) = w (ix2 0 l) := by pointwise [k0_pay14]

/-! The sums over a tile's rows. -/
theorem bias_at (d : FVec Ideal S192x1024 .f32) : k0_pay24 d (ix2 0 l) = ∑ r : Fin 192, d (ix2 r l) := by pointwise [k0_pay24]
theorem gain_at (d n : FVec Ideal S192x1024 .f32) : k0_pay25 d n (ix2 0 l) = ∑ r : Fin 192, n (ix2 r l) * d (ix2 r l) := by pointwise [k0_pay25]
theorem gbias_at (d : FVec Ideal S192x1024 .f32) : k0_pay39 d (ix2 0 l) = ∑ r : Fin 192, d (ix2 r l) := by pointwise [k0_pay39]
theorem ggain_at (n d : FVec Ideal S192x1024 .f32) : k0_pay40 n d (ix2 0 l) = ∑ r : Fin 192, n (ix2 r l) * d (ix2 r l) := by pointwise [k0_pay40]
theorem weight_at (a d : FVec Ideal S192x1024 .f32) (k : Fin 1024) : k0_pay46 a d (ix2 k l) = ∑ r : Fin 192, a (ix2 r k) * d (ix2 r l) := by pointwise [k0_pay46]

/-! The gradients, from the layer norm back. -/
section
variable {w : Vec Ideal S1x1024 .f32} {d A : FVec Ideal S192x1024 .f32} {s v : FVec Ideal S192x1 .f32}
  (hw : ∀ r l, w (ix2 0 l) = (X r).lg l) (hd : ∀ r l, d (ix2 r l) = (X r).d l) (hA : ∀ r l, A (ix2 r l) = cen (X r).pre l)
  (hs : ∀ r, s (ix2 r 0) = scale (X r).pre) (hv : ∀ r, v (ix2 r 0) = minusHalf * Ideal.div (scale (X r).pre) (spread (X r).pre))
include hw hd hA hs hv
theorem dz_at : k0_pay26 w d A s v (ix2 r l) = (X r).dz l := by
  unfold k0_pay26
  pointwise []
  simp only [Fin.sum_univ_one, zero_sub, hA, hd, hw r, hs, hv]
  rfl
theorem resid_at : k0_pay27 w d A s v (ix2 r l) = alpha * (X r).dz l := by
  show alpha * k0_pay26 w d A s v (ix2 r l) = _
  rw [dz_at r l hw hd hA hs hv]
variable {wo : FVec Ideal S1024x1024 .bf16} (hwo : ∀ r k l, wo (ix2 k l) = (X r).wo k l)
include hwo
theorem dm_at : k0_pay28 wo w d A s v (ix2 r l) = (X r).dm l := by
  have e := fun l => dz_at r l hw hd hA hs hv
  unfold k0_pay28
  generalize k0_pay26 w d A s v = B at *
  pointwise []
  simp only [e, hwo r]
  rfl
theorem dgate_at {m : FVec Ideal S192x1024 .f32} (hm : ∀ r l, m (ix2 r l) = (X r).mix l) : k0_pay29 wo w d m A s v (ix2 r l) = (X r).mix l * (X r).dm l := by
  show m (ix2 r l) * k0_pay28 wo w d A s v (ix2 r l) = _
  rw [dm_at r l hw hd hA hs hv hwo, hm]
variable {g : Vec Ideal S192x1024 .f32} (hg : ∀ r l, g (ix2 r l) = (X r).g l)
include hg
theorem dmix_at : k0_pay30 g wo w d A s v (ix2 r l) = (X r).dmix l := by
  show k0_pay28 wo w d A s v (ix2 r l) * g (ix2 r l) = _
  rw [dm_at r l hw hd hA hs hv hwo, hg]; rfl
theorem dv_at {b : FVec Ideal S192x1024 .f32} (hb : ∀ r l, b (ix2 r l) = (X r).bon l) : k0_pay31 g wo w d b A s v (ix2 r l) = (X r).bon l * (X r).dmix l := by
  show b (ix2 r l) * k0_pay30 g wo w d A s v (ix2 r l) = _
  rw [dmix_at r l hw hd hA hs hv hwo hg, hb]
include H hE hEt
theorem tb_at {x : Vec Ideal S192x1024 .f32} (hx : ∀ r l, x (ix2 r l) = (X r).v l) :
    k0_pay34 Et (k0_pay32 x g E wo w d A s v) (k0_pay33 x g E wo w d A s v) (ix2 r l) = (X r).tb l := by
  refine overT_at Et hEt (k0_pay32 x g E wo w d A s v) r (f := headSum fun l => (X r).dmix l * (X r).v l) (fun h => ?_) (fun h => headSum_re (H r).share_re h) l
  refine sumT_at E hE (mulf (k0_pay30 g wo w d A s v) x) r (fun l => ?_) (H r).share_re h
  show k0_pay30 g wo w d A s v (ix2 r l) * x (ix2 r l) = _
  rw [dmix_at r l hw hd hA hs hv hwo hg, hx]
end

section
variable {p : FVec Ideal S192x16 .f32} {p' : FVec Ideal S192x16 .bf16} (hp : ∀ r l, k0_pay34 Et p p' (ix2 r l) = (X r).tb l)
include hp
theorem rkey_at (a : FVec Ideal S192x1024 .f32) : k0_pay35 Et a p p' (ix2 0 l) = ∑ r : Fin 192, a (ix2 r l) * (X r).tb l := by
  unfold k0_pay35
  generalize k0_pay34 Et p p' = B at *
  pointwise []
  simp only [hp]
variable {u : Vec Ideal S1x1024 .f32} (hu : ∀ r l, u (ix2 0 l) = (X r).rk l)
include hu
theorem tr_at : k0_pay36 Et u p p' (ix2 r l) = (X r).tb l * (X r).rk l := by
  unfold k0_pay36
  generalize k0_pay34 Et p p' = B at *
  pointwise []
  rw [hp, hu r]
theorem dk_at {a : Vec Ideal S192x1024 .f32} (ha : ∀ r l, a (ix2 r l) = (X r).r l) : k0_pay37 a Et u p p' (ix2 r l) = (X r).r l * ((X r).tb l * (X r).rk l) := by
  show a (ix2 r l) * k0_pay36 Et u p p' (ix2 r l) = _
  rw [tr_at r l hp hu, ha]
theorem dr_at {a : Vec Ideal S192x1024 .f32} (ha : ∀ r l, a (ix2 r l) = (X r).k l) : k0_pay38 a Et u p p' (ix2 r l) = (X r).tb l * (X r).rk l * (X r).k l := by
  show k0_pay36 Et u p p' (ix2 r l) * a (ix2 r l) = _
  rw [tr_at r l hp hu, ha]
end

/-! The group norm's gradient. -/
section
variable {gw : Vec Ideal S1x1024 .f32} {y n d : FVec Ideal S192x1024 .f32} {f : FVec Ideal S192x16 .f32}
  (hgw : ∀ r l, gw (ix2 0 l) = (X r).gw l) (hy : ∀ r l, y (ix2 r l) = (X r).cy l) (hf : ∀ r h, f (ix2 r h) = minusHalf * Ideal.div ((X r).ry h) ((X r).vy h))
  (hn : ∀ r l, n (ix2 r l) = (X r).ry (headOf l)) (hd : ∀ r l, d (ix2 r l) = (X r).dmix l)
include hgw hy hf hn hd hE hEt H
theorem u_at : k0_pay41 E Et gw y f n d (ix2 r l) = (X r).u l := by
  have e : ∀ l, mulf d (broadcastTo S192x1024 gw broadcasts_S1x1024_S192x1024) (ix2 r l) = (X r).dn l := fun l => by
    pointwise []
    rw [hd, hgw r]; rfl
  have e1 : overT Et (mulf (mulf (sumT E (mulf y (mulf d (broadcastTo S192x1024 gw broadcasts_S1x1024_S192x1024)))) f) (broadcast S192x16 part)) (ix2 r l) = (X r).q (headOf l) := by
    refine overT_at Et hEt _ r (fun h => ?_) (fun h => (H r).q_re h) l
    show sumT E _ (ix2 r h) * f (ix2 r h) * part = _
    rw [sumT_at E hE _ r (f := fun l => (X r).cy l * (X r).dn l) (fun l => ?_) (H r).turn_re, hf]
    · rfl
    · show y (ix2 r l) * mulf d _ (ix2 r l) = _
      rw [hy, e]
  show mulf d (broadcastTo S192x1024 gw broadcasts_S1x1024_S192x1024) (ix2 r l) * n (ix2 r l)
    + y (ix2 r l) * overT Et (mulf (mulf (sumT E (mulf y (mulf d (broadcastTo S192x1024 gw broadcasts_S1x1024_S192x1024)))) f) (broadcast S192x16 part)) (ix2 r l)
    + overT Et (mulf (mulf (sumT E (mulf y (mulf d (broadcastTo S192x1024 gw broadcasts_S1x1024_S192x1024)))) f) (broadcast S192x16 part)) (ix2 r l) * y (ix2 r l) = _
  rw [e, e1, hn, hy]; rfl
theorem dy_at : k0_pay45 E Et (k0_pay41 E Et gw y f n d) (k0_pay43 E Et gw y f n d) (k0_pay44 E Et gw y f n d) (ix2 r l) = (X r).dy l := by
  have e := fun l => u_at H hE hEt r l hgw hy hf hn hd
  have e2 : ∀ l, k0_pay42 E Et gw y f n d (ix2 r l) = -(X r).u l := fun l => by
    unfold k0_pay42
    generalize k0_pay41 E Et gw y f n d = B at *
    pointwise []
    rw [e, zero_sub]
  have e3 : overT Et (mulf (sumT E (k0_pay42 E Et gw y f n d)) (broadcast S192x16 part)) (ix2 r l) = headSum (fun l => -(X r).u l) (headOf l) * part := by
    refine overT_at Et hEt _ r (f := fun h => headSum (fun l => -(X r).u l) h * part) (fun h => ?_) (fun h => (headSum_re (fun l => ((H r).u_re l).neg) h).mul part_re) l
    show sumT E _ (ix2 r h) * part = _
    rw [sumT_at E hE _ r e2 (fun l => ((H r).u_re l).neg)]
  show k0_pay41 E Et gw y f n d (ix2 r l) + overT Et (mulf (sumT E (k0_pay42 E Et gw y f n d)) (broadcast S192x16 part)) (ix2 r l) = _
  rw [e, e3]; rfl
end

end Cert.Proof.Post
end
-- ==== Proof.PostBody.lean ====
module

public import proofs.«01_k».proof.Proof.Gen.PostIdeal.Skeleton
public import proofs.«01_k».proof.Proof.Gen.PostIdeal.Frame
public import Idealize.ShloMosaic.Lib.Pipeline.ValueKit

@[expose] public section
set_option maxRecDepth 16384
noncomputable section
namespace Cert.Proof.Post
open Cert.PostIdeal Cert.PostIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-! The body of the call at one grid point, over any float values. -/

variable {F : FTy → Type} [FloatOps F]

local notation "𝕄" => MT nD τ sig Unit (Elt F) ℕ (UR sig nD τ) ℕ

/-- What the sixteen inputs' windows hold at one point. -/
structure Tile (F : FTy → Type) [FloatOps F] where
  x0 : Vec F S192x1024 .f32
  x1 : Vec F S4x192x1024 .f32
  x2 : Vec F S192x1024 .f32
  x3 : Vec F S192x1024 .f32
  x4 : Vec F S192x1024 .f32
  x5 : Vec F S192x1024 .f32
  x6 : Vec F S192x1024 .f32
  x7 : Vec F S192x1024 .f32
  x8 : Vec F S1024x16 .bf16
  x9 : Vec F S16x1024 .bf16
  x10 : Vec F S1024x1024 .bf16
  x11 : Vec F S1x1024 .f32
  x12 : Vec F S1x1024 .f32
  x13 : Vec F S1x1024 .f32
  x14 : Vec F S1x1024 .f32
  x15 : Vec F S1x1024 .f32

namespace Tile
variable (T : Tile F)

/-! What the body computes of the loaded windows, one name for each value it uses again. -/

/-- The columns' heads. -/
def e : FVec F S1024x16 .bf16 := k0_pay3 T.x8
/-- The heads' columns. -/
def et : FVec F S16x1024 .bf16 := k0_pay4 T.x9
/-- The output weights. -/
def w : FVec F S1024x1024 .bf16 := k0_pay5 T.x10
/-- The layer norm's cotangent. -/
def z : FVec F S192x1024 .f32 := k0_pay7 T.x1 (k0_pay6 T.x0 T.x1)
/-- The centred row. -/
def cy : FVec F S192x1024 .f32 := k0_pay8 T.x2 T.e T.et
/-- The heads' inverse deviations. -/
def gv : FVec F S192x16 .f32 := k0_pay11 T.x2 T.e T.et
/-- The same, spread over the columns. -/
def gs : FVec F S192x1024 .f32 := k0_pay12 T.x2 T.e T.et
/-- The normalised row. -/
def n : FVec F S192x1024 .f32 := k0_pay13 T.x2 T.e T.et
/-- The gain, spread over the rows. -/
def ng : FVec F S192x1024 .f32 := k0_pay14 T.x11
/-- The product of r and k. -/
def rk : FVec F S192x1024 .f32 := k0_pay15 T.x3 T.x4
/-- The bonus. -/
def bon : FVec F S192x1024 .f32 := k0_pay16 T.x3 T.x4 T.e T.et T.x13
/-- The row before the gate. -/
def yb : FVec F S192x1024 .f32 := k0_pay17 T.x3 T.x4 T.x5 T.e T.et T.x12 T.x13 T.n T.ng
/-- The gated row. -/
def yg : FVec F S192x1024 .f32 := k0_pay18 T.x3 T.x4 T.x5 T.x6 T.e T.et T.x12 T.x13 T.n T.ng
/-- The centred sum. -/
def hc : FVec F S192x1024 .f32 := k0_pay19 T.x3 T.x4 T.x5 T.x6 T.x7 T.e T.et T.w T.x12 T.x13 T.n T.ng
/-- Its mean square. -/
def hv : FVec F S192x1 .f32 := k0_pay21 T.x3 T.x4 T.x5 T.x6 T.x7 T.e T.et T.w T.x12 T.x13 T.n T.ng
/-- Its inverse deviation. -/
def hs : FVec F S192x1 .f32 := k0_pay22 T.x3 T.x4 T.x5 T.x6 T.x7 T.e T.et T.w T.x12 T.x13 T.n T.ng
/-- The normalised sum. -/
def hn : FVec F S192x1024 .f32 := k0_pay23 T.x3 T.x4 T.x5 T.x6 T.x7 T.e T.et T.w T.x12 T.x13 T.n T.ng
/-- The layer norm's bias. -/
def dlb : FVec F S1x1024 .f32 := k0_pay24 T.z
/-- The layer norm's gain. -/
def dlg : FVec F S1x1024 .f32 := k0_pay25 T.z T.hn
/-- The sum's cotangent. -/
def dm : FVec F S192x1024 .f32 := k0_pay26 T.x14 T.z T.hc T.hv T.hs
/-- The residual's gradient. -/
def dh : FVec F S192x1024 .f32 := k0_pay27 T.x14 T.z T.hc T.hv T.hs
/-- The gate's gradient. -/
def dg : FVec F S192x1024 .f32 := k0_pay29 T.w T.x14 T.z T.yb T.hc T.hv T.hs
/-- The cotangent before the gate. -/
def db : FVec F S192x1024 .f32 := k0_pay30 T.x6 T.w T.x14 T.z T.hc T.hv T.hs
/-- V's gradient. -/
def dv : FVec F S192x1024 .f32 := k0_pay31 T.x6 T.w T.x14 T.z T.bon T.hc T.hv T.hs
/-- The heads' sums for the bonus. -/
def sb : FVec F S192x16 .f32 := k0_pay32 T.x5 T.x6 T.e T.w T.x14 T.z T.hc T.hv T.hs
/-- Their leading parts. -/
def sc : FVec F S192x16 .bf16 := k0_pay33 T.x5 T.x6 T.e T.w T.x14 T.z T.hc T.hv T.hs
/-- The bonus weights. -/
def drk : FVec F S1x1024 .f32 := k0_pay35 T.et T.rk T.sb T.sc
/-- K's gradient. -/
def dk : FVec F S192x1024 .f32 := k0_pay37 T.x3 T.et T.x13 T.sb T.sc
/-- R's gradient. -/
def dr : FVec F S192x1024 .f32 := k0_pay38 T.x4 T.et T.x13 T.sb T.sc
/-- The group norm's bias. -/
def dgb : FVec F S1x1024 .f32 := k0_pay39 T.db
/-- The group norm's gain. -/
def dgw : FVec F S1x1024 .f32 := k0_pay40 T.n T.db
/-- The group norm's backward pass, its parts. -/
def ga : FVec F S192x1024 .f32 := k0_pay41 T.e T.et T.x11 T.cy T.gv T.gs T.db
def gb : FVec F S192x1024 .bf16 := k0_pay43 T.e T.et T.x11 T.cy T.gv T.gs T.db
def gc : FVec F S192x1024 .bf16 := k0_pay44 T.e T.et T.x11 T.cy T.gv T.gs T.db
/-- Y's gradient. -/
def dy : FVec F S192x1024 .f32 := k0_pay45 T.e T.et T.ga T.gb T.gc
/-- The output weights' gradient. -/
def dwo : FVec F S1024x1024 .f32 := k0_pay46 T.yg T.dm
end Tile

/-- A buffer whose last store covers it holds that store's payload. -/
theorem read_piece {S : Shape} {e : EltTy} {sp : Space} (v : View sig .tc sp S e) (f : v.ty.Contents (Elt F)) {off : Fin S.rank → ℕ}
    (inb : ∀ a, off a + S.size a ≤ S.size a) (h : ∀ a, off a = 0) {w w' : S.Idx → Elt F e} (hw : w = w') :
    v.read (Elt F) (v.writes (Elt F) f [⟨Rect.unit off S.size inb, w⟩]) = w' := by
  obtain rfl := View.eq_zero_of_forall h
  exact (View.read_writes_whole v f w).trans hw

/-- A whole window read at its contents. -/
theorem read_whole {S : Shape} {e : EltTy} (a : Memref sig .tc .vmem S e) (h : a.IsWhole) {off : Fin S.rank → ℕ}
    (inb : ∀ a, off a + S.size a ≤ S.size a) (hz : ∀ a, off a = 0) (x : S.Idx → Elt F e) :
    View.readAt (Elt F) a.view (Rect.unit off S.size inb).toLoadRect (h.unread x) = x := by
  rw [View.readAt_eq_ld, Memref.IsWhole.read_unread, View.ld_unit_lit _ _ hz]

set_option maxHeartbeats 4000000 in
/-- The body's run at the first point, which sets the six sums: each output's window ends at its value. -/
theorem run_first (c : Dev nD) (i : grid0.Coords) (a0 : Memref sig .tc .vmem S192x1024 .f32) (h0 : a0.IsWhole) (a1 : Memref sig .tc .vmem S4x192x1024 .f32) (h1 : a1.IsWhole) (a2 : Memref sig .tc .vmem S192x1024 .f32) (h2 : a2.IsWhole) (a3 : Memref sig .tc .vmem S192x1024 .f32) (h3 : a3.IsWhole) (a4 : Memref sig .tc .vmem S192x1024 .f32) (h4 : a4.IsWhole) (a5 : Memref sig .tc .vmem S192x1024 .f32) (h5 : a5.IsWhole) (a6 : Memref sig .tc .vmem S192x1024 .f32) (h6 : a6.IsWhole) (a7 : Memref sig .tc .vmem S192x1024 .f32) (h7 : a7.IsWhole) (a8 : Memref sig .tc .vmem S1024x16 .bf16) (h8 : a8.IsWhole) (a9 : Memref sig .tc .vmem S16x1024 .bf16) (h9 : a9.IsWhole) (a10 : Memref sig .tc .vmem S1024x1024 .bf16) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (a14 : Memref sig .tc .vmem S1x1024 .f32) (h14 : a14.IsWhole) (a15 : Memref sig .tc .vmem S1x1024 .f32) (h15 : a15.IsWhole) (a16 : Memref sig .tc .vmem S192x1024 .f32) (h16 : a16.IsWhole) (a17 : Memref sig .tc .vmem S192x1024 .f32) (h17 : a17.IsWhole) (a18 : Memref sig .tc .vmem S192x1024 .f32) (h18 : a18.IsWhole) (a19 : Memref sig .tc .vmem S192x1024 .f32) (h19 : a19.IsWhole) (a20 : Memref sig .tc .vmem S192x1024 .f32) (h20 : a20.IsWhole) (a21 : Memref sig .tc .vmem S192x1024 .f32) (h21 : a21.IsWhole) (a22 : Memref sig .tc .vmem S1024x1024 .f32) (h22 : a22.IsWhole) (a23 : Memref sig .tc .vmem S1x1024 .f32) (h23 : a23.IsWhole) (a24 : Memref sig .tc .vmem S1x1024 .f32) (h24 : a24.IsWhole) (a25 : Memref sig .tc .vmem S1x1024 .f32) (h25 : a25.IsWhole) (a26 : Memref sig .tc .vmem S1x1024 .f32) (h26 : a26.IsWhole) (a27 : Memref sig .tc .vmem S1x1024 .f32) (h27 : a27.IsWhole)
    (hc1 : k0_cond1 i = 1#1) (hc2 : ¬k0_cond2 i = 1#1) (hc3 : k0_cond3 i = 1#1) (hc4 : ¬k0_cond4 i = 1#1) (hc5 : k0_cond5 i = 1#1) (hc6 : ¬k0_cond6 i = 1#1) (hc7 : k0_cond7 i = 1#1) (hc8 : ¬k0_cond8 i = 1#1) (hc9 : k0_cond9 i = 1#1) (hc10 : ¬k0_cond10 i = 1#1) (hc11 : k0_cond11 i = 1#1) (hc12 : ¬k0_cond12 i = 1#1) (T : Tile F) (E : Set ℕ) (K : PUnit → sProp 𝕄) :
    iprop(owns (c : Thread nD τ) a0 fullShare T.x0
      ∗ owns (c : Thread nD τ) a1 fullShare T.x1
      ∗ owns (c : Thread nD τ) a2 fullShare T.x2
      ∗ owns (c : Thread nD τ) a3 fullShare T.x3
      ∗ owns (c : Thread nD τ) a4 fullShare T.x4
      ∗ owns (c : Thread nD τ) a5 fullShare T.x5
      ∗ owns (c : Thread nD τ) a6 fullShare T.x6
      ∗ owns (c : Thread nD τ) a7 fullShare T.x7
      ∗ owns (c : Thread nD τ) a8 fullShare T.x8
      ∗ owns (c : Thread nD τ) a9 fullShare T.x9
      ∗ owns (c : Thread nD τ) a10 fullShare T.x10
      ∗ owns (c : Thread nD τ) a11 fullShare T.x11
      ∗ owns (c : Thread nD τ) a12 fullShare T.x12
      ∗ owns (c : Thread nD τ) a13 fullShare T.x13
      ∗ owns (c : Thread nD τ) a14 fullShare T.x14
      ∗ owns (c : Thread nD τ) a15 fullShare T.x15
      ∗ (∃ d, owns (c : Thread nD τ) a16 fullShare d)
      ∗ (∃ d, owns (c : Thread nD τ) a17 fullShare d)
      ∗ (∃ d, owns (c : Thread nD τ) a18 fullShare d)
      ∗ (∃ d, owns (c : Thread nD τ) a19 fullShare d)
      ∗ (∃ d, owns (c : Thread nD τ) a20 fullShare d)
      ∗ (∃ d, owns (c : Thread nD τ) a21 fullShare d)
      ∗ (∃ d, owns (c : Thread nD τ) a22 fullShare d)
      ∗ (∃ d, owns (c : Thread nD τ) a23 fullShare d)
      ∗ (∃ d, owns (c : Thread nD τ) a24 fullShare d)
      ∗ (∃ d, owns (c : Thread nD τ) a25 fullShare d)
      ∗ (∃ d, owns (c : Thread nD τ) a26 fullShare d)
      ∗ (∃ d, owns (c : Thread nD τ) a27 fullShare d)
      ∗ (iprop(owns (c : Thread nD τ) a0 fullShare T.x0
        ∗ owns (c : Thread nD τ) a1 fullShare T.x1
        ∗ owns (c : Thread nD τ) a2 fullShare T.x2
        ∗ owns (c : Thread nD τ) a3 fullShare T.x3
        ∗ owns (c : Thread nD τ) a4 fullShare T.x4
        ∗ owns (c : Thread nD τ) a5 fullShare T.x5
        ∗ owns (c : Thread nD τ) a6 fullShare T.x6
        ∗ owns (c : Thread nD τ) a7 fullShare T.x7
        ∗ owns (c : Thread nD τ) a8 fullShare T.x8
        ∗ owns (c : Thread nD τ) a9 fullShare T.x9
        ∗ owns (c : Thread nD τ) a10 fullShare T.x10
        ∗ owns (c : Thread nD τ) a11 fullShare T.x11
        ∗ owns (c : Thread nD τ) a12 fullShare T.x12
        ∗ owns (c : Thread nD τ) a13 fullShare T.x13
        ∗ owns (c : Thread nD τ) a14 fullShare T.x14
        ∗ owns (c : Thread nD τ) a15 fullShare T.x15
        ∗ owns (c : Thread nD τ) a16 fullShare T.dy
        ∗ owns (c : Thread nD τ) a17 fullShare T.dr
        ∗ owns (c : Thread nD τ) a18 fullShare T.dk
        ∗ owns (c : Thread nD τ) a19 fullShare T.dv
        ∗ owns (c : Thread nD τ) a20 fullShare T.dg
        ∗ owns (c : Thread nD τ) a21 fullShare T.dh
        ∗ owns (c : Thread nD τ) a22 fullShare T.dwo
        ∗ owns (c : Thread nD τ) a23 fullShare T.dgw
        ∗ owns (c : Thread nD τ) a24 fullShare T.dgb
        ∗ owns (c : Thread nD τ) a25 fullShare T.drk
        ∗ owns (c : Thread nD τ) a26 fullShare T.dlg
        ∗ owns (c : Thread nD τ) a27 fullShare T.dlb) -∗ K ⟨⟩))
    ⊢ wp frame (wpE (defs₀ (F := F)) Variants.none c none) E (cc0_rwkv_post_bwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27) K := by
  simp only [cc0_rwkv_post_bwd_eq_skeleton]; unfold cc0_rwkv_post_bwd_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12)
  sl_step
  have hL : (⟨View.readAt (Elt F) a0.view (Rect.unit (s := S192x1024) ![0, 0] S192x1024.size inb_S192x1024_S192x1024_0_0).toLoadRect (h0.unread T.x0),
      View.readAt (Elt F) a1.view (Rect.unit (s := S4x192x1024) ![0, 0, 0] S4x192x1024.size inb_S4x192x1024_S4x192x1024_0_0_0).toLoadRect (h1.unread T.x1),
      View.readAt (Elt F) a2.view (Rect.unit (s := S192x1024) ![0, 0] S192x1024.size inb_S192x1024_S192x1024_0_0).toLoadRect (h2.unread T.x2),
      View.readAt (Elt F) a3.view (Rect.unit (s := S192x1024) ![0, 0] S192x1024.size inb_S192x1024_S192x1024_0_0).toLoadRect (h3.unread T.x3),
      View.readAt (Elt F) a4.view (Rect.unit (s := S192x1024) ![0, 0] S192x1024.size inb_S192x1024_S192x1024_0_0).toLoadRect (h4.unread T.x4),
      View.readAt (Elt F) a5.view (Rect.unit (s := S192x1024) ![0, 0] S192x1024.size inb_S192x1024_S192x1024_0_0).toLoadRect (h5.unread T.x5),
      View.readAt (Elt F) a6.view (Rect.unit (s := S192x1024) ![0, 0] S192x1024.size inb_S192x1024_S192x1024_0_0).toLoadRect (h6.unread T.x6),
      View.readAt (Elt F) a7.view (Rect.unit (s := S192x1024) ![0, 0] S192x1024.size inb_S192x1024_S192x1024_0_0).toLoadRect (h7.unread T.x7),
      View.readAt (Elt F) a8.view (Rect.unit (s := S1024x16) ![0, 0] S1024x16.size inb_S1024x16_S1024x16_0_0).toLoadRect (h8.unread T.x8),
      View.readAt (Elt F) a9.view (Rect.unit (s := S16x1024) ![0, 0] S16x1024.size inb_S16x1024_S16x1024_0_0).toLoadRect (h9.unread T.x9),
      View.readAt (Elt F) a10.view (Rect.unit (s := S1024x1024) ![0, 0] S1024x1024.size inb_S1024x1024_S1024x1024_0_0).toLoadRect (h10.unread T.x10),
      View.readAt (Elt F) a11.view (Rect.unit (s := S1x1024) ![0, 0] S1x1024.size inb_S1x1024_S1x1024_0_0).toLoadRect (h11.unread T.x11),
      View.readAt (Elt F) a12.view (Rect.unit (s := S1x1024) ![0, 0] S1x1024.size inb_S1x1024_S1x1024_0_0).toLoadRect (h12.unread T.x12),
      View.readAt (Elt F) a13.view (Rect.unit (s := S1x1024) ![0, 0] S1x1024.size inb_S1x1024_S1x1024_0_0).toLoadRect (h13.unread T.x13),
      View.readAt (Elt F) a14.view (Rect.unit (s := S1x1024) ![0, 0] S1x1024.size inb_S1x1024_S1x1024_0_0).toLoadRect (h14.unread T.x14),
      View.readAt (Elt F) a15.view (Rect.unit (s := S1x1024) ![0, 0] S1x1024.size inb_S1x1024_S1x1024_0_0).toLoadRect (h15.unread T.x15)⟩ : Tile F) = T := by
    cases T; congr 1 <;> exact read_whole _ _ _ (by decide) _
  iapply Hk
  isplitl [H0]
  · iexists _; isplitr
    · ipureintro; exact h0.read_unread _
    · iexact H0
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists _; isplitr
    · ipureintro; exact h7.read_unread _
    · iexact H7
  isplitl [H8]
  · iexists _; isplitr
    · ipureintro; exact h8.read_unread _
    · iexact H8
  isplitl [H9]
  · iexists _; isplitr
    · ipureintro; exact h9.read_unread _
    · iexact H9
  isplitl [H10]
  · iexists _; isplitr
    · ipureintro; exact h10.read_unread _
    · iexact H10
  isplitl [H11]
  · iexists _; isplitr
    · ipureintro; exact h11.read_unread _
    · iexact H11
  isplitl [H12]
  · iexists _; isplitr
    · ipureintro; exact h12.read_unread _
    · iexact H12
  isplitl [H13]
  · iexists _; isplitr
    · ipureintro; exact h13.read_unread _
    · iexact H13
  isplitl [H14]
  · iexists _; isplitr
    · ipureintro; exact h14.read_unread _
    · iexact H14
  isplitl [H15]
  · iexists _; isplitr
    · ipureintro; exact h15.read_unread _
    · iexact H15
  have e16 := congrArg Tile.dy hL
  have e17 := congrArg Tile.dr hL
  have e18 := congrArg Tile.dk hL
  have e19 := congrArg Tile.dv hL
  have e20 := congrArg Tile.dg hL
  have e21 := congrArg Tile.dh hL
  have e22 := congrArg Tile.dwo hL
  have e23 := congrArg Tile.dgw hL
  have e24 := congrArg Tile.dgb hL
  have e25 := congrArg Tile.drk hL
  have e26 := congrArg Tile.dlg hL
  have e27 := congrArg Tile.dlb hL
  isplitl [H16]
  · iexists _; isplitr; swap
    · iexact H16
    · ipureintro; refine read_piece _ _ _ (by decide) (Eq.trans ?_ e16); sl_kernel_rfl
  isplitl [H17]
  · iexists _; isplitr; swap
    · iexact H17
    · ipureintro; refine read_piece _ _ _ (by decide) (Eq.trans ?_ e17); sl_kernel_rfl
  isplitl [H18]
  · iexists _; isplitr; swap
    · iexact H18
    · ipureintro; refine read_piece _ _ _ (by decide) (Eq.trans ?_ e18); sl_kernel_rfl
  isplitl [H19]
  · iexists _; isplitr; swap
    · iexact H19
    · ipureintro; refine read_piece _ _ _ (by decide) (Eq.trans ?_ e19); sl_kernel_rfl
  isplitl [H20]
  · iexists _; isplitr; swap
    · iexact H20
    · ipureintro; refine read_piece _ _ _ (by decide) (Eq.trans ?_ e20); sl_kernel_rfl
  isplitl [H21]
  · iexists _; isplitr; swap
    · iexact H21
    · ipureintro; refine read_piece _ _ _ (by decide) (Eq.trans ?_ e21); sl_kernel_rfl
  isplitl [H22]
  · iexists _; isplitr; swap
    · iexact H22
    · ipureintro; refine read_piece _ _ _ (by decide) (Eq.trans ?_ e22); sl_kernel_rfl
  isplitl [H23]
  · iexists _; isplitr; swap
    · iexact H23
    · ipureintro; refine read_piece _ _ _ (by decide) (Eq.trans ?_ e23); sl_kernel_rfl
  isplitl [H24]
  · iexists _; isplitr; swap
    · iexact H24
    · ipureintro; refine read_piece _ _ _ (by decide) (Eq.trans ?_ e24); sl_kernel_rfl
  isplitl [H25]
  · iexists _; isplitr; swap
    · iexact H25
    · ipureintro; refine read_piece _ _ _ (by decide) (Eq.trans ?_ e25); sl_kernel_rfl
  isplitl [H26]
  · iexists _; isplitr; swap
    · iexact H26
    · ipureintro; refine read_piece _ _ _ (by decide) (Eq.trans ?_ e26); sl_kernel_rfl
  iexists _; isplitr; swap
  · iexact H27
  · ipureintro; refine read_piece _ _ _ (by decide) (Eq.trans ?_ e27); sl_kernel_rfl

set_option maxHeartbeats 4000000 in
/-- The body's run at a later point, which adds to the six sums: each output's window ends at its value. -/
theorem run_next (c : Dev nD) (i : grid0.Coords) (a0 : Memref sig .tc .vmem S192x1024 .f32) (h0 : a0.IsWhole) (a1 : Memref sig .tc .vmem S4x192x1024 .f32) (h1 : a1.IsWhole) (a2 : Memref sig .tc .vmem S192x1024 .f32) (h2 : a2.IsWhole) (a3 : Memref sig .tc .vmem S192x1024 .f32) (h3 : a3.IsWhole) (a4 : Memref sig .tc .vmem S192x1024 .f32) (h4 : a4.IsWhole) (a5 : Memref sig .tc .vmem S192x1024 .f32) (h5 : a5.IsWhole) (a6 : Memref sig .tc .vmem S192x1024 .f32) (h6 : a6.IsWhole) (a7 : Memref sig .tc .vmem S192x1024 .f32) (h7 : a7.IsWhole) (a8 : Memref sig .tc .vmem S1024x16 .bf16) (h8 : a8.IsWhole) (a9 : Memref sig .tc .vmem S16x1024 .bf16) (h9 : a9.IsWhole) (a10 : Memref sig .tc .vmem S1024x1024 .bf16) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (a14 : Memref sig .tc .vmem S1x1024 .f32) (h14 : a14.IsWhole) (a15 : Memref sig .tc .vmem S1x1024 .f32) (h15 : a15.IsWhole) (a16 : Memref sig .tc .vmem S192x1024 .f32) (h16 : a16.IsWhole) (a17 : Memref sig .tc .vmem S192x1024 .f32) (h17 : a17.IsWhole) (a18 : Memref sig .tc .vmem S192x1024 .f32) (h18 : a18.IsWhole) (a19 : Memref sig .tc .vmem S192x1024 .f32) (h19 : a19.IsWhole) (a20 : Memref sig .tc .vmem S192x1024 .f32) (h20 : a20.IsWhole) (a21 : Memref sig .tc .vmem S192x1024 .f32) (h21 : a21.IsWhole) (a22 : Memref sig .tc .vmem S1024x1024 .f32) (h22 : a22.IsWhole) (a23 : Memref sig .tc .vmem S1x1024 .f32) (h23 : a23.IsWhole) (a24 : Memref sig .tc .vmem S1x1024 .f32) (h24 : a24.IsWhole) (a25 : Memref sig .tc .vmem S1x1024 .f32) (h25 : a25.IsWhole) (a26 : Memref sig .tc .vmem S1x1024 .f32) (h26 : a26.IsWhole) (a27 : Memref sig .tc .vmem S1x1024 .f32) (h27 : a27.IsWhole)
    (hc1 : ¬k0_cond1 i = 1#1) (hc2 : k0_cond2 i = 1#1) (hc3 : ¬k0_cond3 i = 1#1) (hc4 : k0_cond4 i = 1#1) (hc5 : ¬k0_cond5 i = 1#1) (hc6 : k0_cond6 i = 1#1) (hc7 : ¬k0_cond7 i = 1#1) (hc8 : k0_cond8 i = 1#1) (hc9 : ¬k0_cond9 i = 1#1) (hc10 : k0_cond10 i = 1#1) (hc11 : ¬k0_cond11 i = 1#1) (hc12 : k0_cond12 i = 1#1) (T : Tile F) (y22 : Vec F S1024x1024 .f32) (y23 : Vec F S1x1024 .f32) (y24 : Vec F S1x1024 .f32) (y25 : Vec F S1x1024 .f32) (y26 : Vec F S1x1024 .f32) (y27 : Vec F S1x1024 .f32) (E : Set ℕ) (K : PUnit → sProp 𝕄) :
    iprop(owns (c : Thread nD τ) a0 fullShare T.x0
      ∗ owns (c : Thread nD τ) a1 fullShare T.x1
      ∗ owns (c : Thread nD τ) a2 fullShare T.x2
      ∗ owns (c : Thread nD τ) a3 fullShare T.x3
      ∗ owns (c : Thread nD τ) a4 fullShare T.x4
      ∗ owns (c : Thread nD τ) a5 fullShare T.x5
      ∗ owns (c : Thread nD τ) a6 fullShare T.x6
      ∗ owns (c : Thread nD τ) a7 fullShare T.x7
      ∗ owns (c : Thread nD τ) a8 fullShare T.x8
      ∗ owns (c : Thread nD τ) a9 fullShare T.x9
      ∗ owns (c : Thread nD τ) a10 fullShare T.x10
      ∗ owns (c : Thread nD τ) a11 fullShare T.x11
      ∗ owns (c : Thread nD τ) a12 fullShare T.x12
      ∗ owns (c : Thread nD τ) a13 fullShare T.x13
      ∗ owns (c : Thread nD τ) a14 fullShare T.x14
      ∗ owns (c : Thread nD τ) a15 fullShare T.x15
      ∗ (∃ d, owns (c : Thread nD τ) a16 fullShare d)
      ∗ (∃ d, owns (c : Thread nD τ) a17 fullShare d)
      ∗ (∃ d, owns (c : Thread nD τ) a18 fullShare d)
      ∗ (∃ d, owns (c : Thread nD τ) a19 fullShare d)
      ∗ (∃ d, owns (c : Thread nD τ) a20 fullShare d)
      ∗ (∃ d, owns (c : Thread nD τ) a21 fullShare d)
      ∗ owns (c : Thread nD τ) a22 fullShare y22
      ∗ owns (c : Thread nD τ) a23 fullShare y23
      ∗ owns (c : Thread nD τ) a24 fullShare y24
      ∗ owns (c : Thread nD τ) a25 fullShare y25
      ∗ owns (c : Thread nD τ) a26 fullShare y26
      ∗ owns (c : Thread nD τ) a27 fullShare y27
      ∗ (iprop(owns (c : Thread nD τ) a0 fullShare T.x0
        ∗ owns (c : Thread nD τ) a1 fullShare T.x1
        ∗ owns (c : Thread nD τ) a2 fullShare T.x2
        ∗ owns (c : Thread nD τ) a3 fullShare T.x3
        ∗ owns (c : Thread nD τ) a4 fullShare T.x4
        ∗ owns (c : Thread nD τ) a5 fullShare T.x5
        ∗ owns (c : Thread nD τ) a6 fullShare T.x6
        ∗ owns (c : Thread nD τ) a7 fullShare T.x7
        ∗ owns (c : Thread nD τ) a8 fullShare T.x8
        ∗ owns (c : Thread nD τ) a9 fullShare T.x9
        ∗ owns (c : Thread nD τ) a10 fullShare T.x10
        ∗ owns (c : Thread nD τ) a11 fullShare T.x11
        ∗ owns (c : Thread nD τ) a12 fullShare T.x12
        ∗ owns (c : Thread nD τ) a13 fullShare T.x13
        ∗ owns (c : Thread nD τ) a14 fullShare T.x14
        ∗ owns (c : Thread nD τ) a15 fullShare T.x15
        ∗ owns (c : Thread nD τ) a16 fullShare T.dy
        ∗ owns (c : Thread nD τ) a17 fullShare T.dr
        ∗ owns (c : Thread nD τ) a18 fullShare T.dk
        ∗ owns (c : Thread nD τ) a19 fullShare T.dv
        ∗ owns (c : Thread nD τ) a20 fullShare T.dg
        ∗ owns (c : Thread nD τ) a21 fullShare T.dh
        ∗ owns (c : Thread nD τ) a22 fullShare (k0_pay47 T.dwo y22)
        ∗ owns (c : Thread nD τ) a23 fullShare (k0_pay48 T.dgw y23)
        ∗ owns (c : Thread nD τ) a24 fullShare (k0_pay49 T.dgb y24)
        ∗ owns (c : Thread nD τ) a25 fullShare (k0_pay50 T.drk y25)
        ∗ owns (c : Thread nD τ) a26 fullShare (k0_pay1 T.dlg y26)
        ∗ owns (c : Thread nD τ) a27 fullShare (k0_pay2 T.dlb y27)) -∗ K ⟨⟩))
    ⊢ wp frame (wpE (defs₀ (F := F)) Variants.none c none) E (cc0_rwkv_post_bwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27) K := by
  simp only [cc0_rwkv_post_bwd_eq_skeleton]; unfold cc0_rwkv_post_bwd_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h22.eq_unread hf22; obtain rfl := h23.eq_unread hf23; obtain rfl := h24.eq_unread hf24; obtain rfl := h25.eq_unread hf25; obtain rfl := h26.eq_unread hf26; obtain rfl := h27.eq_unread hf27
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12)
  sl_step
  have hL : (⟨View.readAt (Elt F) a0.view (Rect.unit (s := S192x1024) ![0, 0] S192x1024.size inb_S192x1024_S192x1024_0_0).toLoadRect (h0.unread T.x0),
      View.readAt (Elt F) a1.view (Rect.unit (s := S4x192x1024) ![0, 0, 0] S4x192x1024.size inb_S4x192x1024_S4x192x1024_0_0_0).toLoadRect (h1.unread T.x1),
      View.readAt (Elt F) a2.view (Rect.unit (s := S192x1024) ![0, 0] S192x1024.size inb_S192x1024_S192x1024_0_0).toLoadRect (h2.unread T.x2),
      View.readAt (Elt F) a3.view (Rect.unit (s := S192x1024) ![0, 0] S192x1024.size inb_S192x1024_S192x1024_0_0).toLoadRect (h3.unread T.x3),
      View.readAt (Elt F) a4.view (Rect.unit (s := S192x1024) ![0, 0] S192x1024.size inb_S192x1024_S192x1024_0_0).toLoadRect (h4.unread T.x4),
      View.readAt (Elt F) a5.view (Rect.unit (s := S192x1024) ![0, 0] S192x1024.size inb_S192x1024_S192x1024_0_0).toLoadRect (h5.unread T.x5),
      View.readAt (Elt F) a6.view (Rect.unit (s := S192x1024) ![0, 0] S192x1024.size inb_S192x1024_S192x1024_0_0).toLoadRect (h6.unread T.x6),
      View.readAt (Elt F) a7.view (Rect.unit (s := S192x1024) ![0, 0] S192x1024.size inb_S192x1024_S192x1024_0_0).toLoadRect (h7.unread T.x7),
      View.readAt (Elt F) a8.view (Rect.unit (s := S1024x16) ![0, 0] S1024x16.size inb_S1024x16_S1024x16_0_0).toLoadRect (h8.unread T.x8),
      View.readAt (Elt F) a9.view (Rect.unit (s := S16x1024) ![0, 0] S16x1024.size inb_S16x1024_S16x1024_0_0).toLoadRect (h9.unread T.x9),
      View.readAt (Elt F) a10.view (Rect.unit (s := S1024x1024) ![0, 0] S1024x1024.size inb_S1024x1024_S1024x1024_0_0).toLoadRect (h10.unread T.x10),
      View.readAt (Elt F) a11.view (Rect.unit (s := S1x1024) ![0, 0] S1x1024.size inb_S1x1024_S1x1024_0_0).toLoadRect (h11.unread T.x11),
      View.readAt (Elt F) a12.view (Rect.unit (s := S1x1024) ![0, 0] S1x1024.size inb_S1x1024_S1x1024_0_0).toLoadRect (h12.unread T.x12),
      View.readAt (Elt F) a13.view (Rect.unit (s := S1x1024) ![0, 0] S1x1024.size inb_S1x1024_S1x1024_0_0).toLoadRect (h13.unread T.x13),
      View.readAt (Elt F) a14.view (Rect.unit (s := S1x1024) ![0, 0] S1x1024.size inb_S1x1024_S1x1024_0_0).toLoadRect (h14.unread T.x14),
      View.readAt (Elt F) a15.view (Rect.unit (s := S1x1024) ![0, 0] S1x1024.size inb_S1x1024_S1x1024_0_0).toLoadRect (h15.unread T.x15)⟩ : Tile F) = T := by
    cases T; congr 1 <;> exact read_whole _ _ _ (by decide) _
  iapply Hk
  isplitl [H0]
  · iexists _; isplitr
    · ipureintro; exact h0.read_unread _
    · iexact H0
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists _; isplitr
    · ipureintro; exact h7.read_unread _
    · iexact H7
  isplitl [H8]
  · iexists _; isplitr
    · ipureintro; exact h8.read_unread _
    · iexact H8
  isplitl [H9]
  · iexists _; isplitr
    · ipureintro; exact h9.read_unread _
    · iexact H9
  isplitl [H10]
  · iexists _; isplitr
    · ipureintro; exact h10.read_unread _
    · iexact H10
  isplitl [H11]
  · iexists _; isplitr
    · ipureintro; exact h11.read_unread _
    · iexact H11
  isplitl [H12]
  · iexists _; isplitr
    · ipureintro; exact h12.read_unread _
    · iexact H12
  isplitl [H13]
  · iexists _; isplitr
    · ipureintro; exact h13.read_unread _
    · iexact H13
  isplitl [H14]
  · iexists _; isplitr
    · ipureintro; exact h14.read_unread _
    · iexact H14
  isplitl [H15]
  · iexists _; isplitr
    · ipureintro; exact h15.read_unread _
    · iexact H15
  have e16 := congrArg Tile.dy hL
  have e17 := congrArg Tile.dr hL
  have e18 := congrArg Tile.dk hL
  have e19 := congrArg Tile.dv hL
  have e20 := congrArg Tile.dg hL
  have e21 := congrArg Tile.dh hL
  have e22 := congrArg₂ k0_pay47 (congrArg Tile.dwo hL) (read_whole a22 h22 (off := ![0, 0]) inb_S1024x1024_S1024x1024_0_0 (by decide) y22)
  have e23 := congrArg₂ k0_pay48 (congrArg Tile.dgw hL) (read_whole a23 h23 (off := ![0, 0]) inb_S1x1024_S1x1024_0_0 (by decide) y23)
  have e24 := congrArg₂ k0_pay49 (congrArg Tile.dgb hL) (read_whole a24 h24 (off := ![0, 0]) inb_S1x1024_S1x1024_0_0 (by decide) y24)
  have e25 := congrArg₂ k0_pay50 (congrArg Tile.drk hL) (read_whole a25 h25 (off := ![0, 0]) inb_S1x1024_S1x1024_0_0 (by decide) y25)
  have e26 := congrArg₂ k0_pay1 (congrArg Tile.dlg hL) (read_whole a26 h26 (off := ![0, 0]) inb_S1x1024_S1x1024_0_0 (by decide) y26)
  have e27 := congrArg₂ k0_pay2 (congrArg Tile.dlb hL) (read_whole a27 h27 (off := ![0, 0]) inb_S1x1024_S1x1024_0_0 (by decide) y27)
  isplitl [H16]
  · iexists _; isplitr; swap
    · iexact H16
    · ipureintro; refine read_piece _ _ _ (by decide) (Eq.trans ?_ e16); sl_kernel_rfl
  isplitl [H17]
  · iexists _; isplitr; swap
    · iexact H17
    · ipureintro; refine read_piece _ _ _ (by decide) (Eq.trans ?_ e17); sl_kernel_rfl
  isplitl [H18]
  · iexists _; isplitr; swap
    · iexact H18
    · ipureintro; refine read_piece _ _ _ (by decide) (Eq.trans ?_ e18); sl_kernel_rfl
  isplitl [H19]
  · iexists _; isplitr; swap
    · iexact H19
    · ipureintro; refine read_piece _ _ _ (by decide) (Eq.trans ?_ e19); sl_kernel_rfl
  isplitl [H20]
  · iexists _; isplitr; swap
    · iexact H20
    · ipureintro; refine read_piece _ _ _ (by decide) (Eq.trans ?_ e20); sl_kernel_rfl
  isplitl [H21]
  · iexists _; isplitr; swap
    · iexact H21
    · ipureintro; refine read_piece _ _ _ (by decide) (Eq.trans ?_ e21); sl_kernel_rfl
  isplitl [H22]
  · iexists _; isplitr; swap
    · iexact H22
    · ipureintro; refine read_piece _ _ _ (by decide) (Eq.trans ?_ e22); sl_kernel_rfl
  isplitl [H23]
  · iexists _; isplitr; swap
    · iexact H23
    · ipureintro; refine read_piece _ _ _ (by decide) (Eq.trans ?_ e23); sl_kernel_rfl
  isplitl [H24]
  · iexists _; isplitr; swap
    · iexact H24
    · ipureintro; refine read_piece _ _ _ (by decide) (Eq.trans ?_ e24); sl_kernel_rfl
  isplitl [H25]
  · iexists _; isplitr; swap
    · iexact H25
    · ipureintro; refine read_piece _ _ _ (by decide) (Eq.trans ?_ e25); sl_kernel_rfl
  isplitl [H26]
  · iexists _; isplitr; swap
    · iexact H26
    · ipureintro; refine read_piece _ _ _ (by decide) (Eq.trans ?_ e26); sl_kernel_rfl
  iexists _; isplitr; swap
  · iexact H27
  · ipureintro; refine read_piece _ _ _ (by decide) (Eq.trans ?_ e27); sl_kernel_rfl

end Cert.Proof.Post
end
-- ==== Proof.PostPoint.lean ====
module

public import proofs.«01_k».proof.Proof.PostTile
public import proofs.«01_k».proof.Proof.PostBody

@[expose] public section
set_option maxRecDepth 16384
noncomputable section
namespace Cert.Proof.Post
open Cert.PostIdeal Cert.PostIdeal.Gen Cert.Proof.Norm Idealize.ShloMosaic Idealize.ShloMosaic.TcCoe

/-! What the body computes of one tile's rows. -/

/-- The windows hold the rows `X`, the heads' marks and the weights. -/
structure Reads (T : Tile Ideal) (X : Fin 192 → Row) : Prop where
  real : ∀ r, (X r).Real
  e : Marks T.e
  et : MarksT T.et
  w : ∀ r k l, T.w (ix2 k l) = (X r).wo k l
  z : ∀ r l, T.z (ix2 r l) = (X r).d l
  y : ∀ r l, T.x2 (ix2 r l) = (X r).y l
  r : ∀ r l, T.x3 (ix2 r l) = (X r).r l
  k : ∀ r l, T.x4 (ix2 r l) = (X r).k l
  v : ∀ r l, T.x5 (ix2 r l) = (X r).v l
  g : ∀ r l, T.x6 (ix2 r l) = (X r).g l
  h : ∀ r l, T.x7 (ix2 r l) = (X r).h l
  gw : ∀ r l, T.x11 (ix2 0 l) = (X r).gw l
  gb : ∀ r l, T.x12 (ix2 0 l) = (X r).gb l
  rk : ∀ r l, T.x13 (ix2 0 l) = (X r).rk l
  lg : ∀ r l, T.x14 (ix2 0 l) = (X r).lg l

namespace Reads
variable {T : Tile Ideal} {X : Fin 192 → Row} (H : Reads T X) (r : Fin 192) (l k : Fin 1024) (h : Fin 16)
include H

theorem cy : T.cy (ix2 r l) = (X r).cy l := cy_at H.real H.e H.et r l H.y
theorem gv : T.gv (ix2 r h) = minusHalf * Ideal.div ((X r).ry h) ((X r).vy h) := factor_at H.real H.e H.et r h H.y
theorem gs : T.gs (ix2 r l) = (X r).ry (headOf l) := over_at H.real H.e H.et r l H.y
theorem n : T.n (ix2 r l) = (X r).hat l := hat_at H.real H.e H.et r l H.y
theorem ng : T.ng (ix2 r l) = (X r).gw l := (gainRows_at r l T.x11).trans (H.gw r l)
theorem pair : T.rk (ix2 r l) = (X r).r l * (X r).k l := by
  rw [← H.r, ← H.k]
  unfold Tile.rk
  pointwise [k0_pay15]
theorem bon : T.bon (ix2 r l) = (X r).bon l := bon_at H.real H.e H.et r l H.r H.k H.rk
theorem mix : T.yb (ix2 r l) = (X r).mix l := mix_at H.real H.e H.et r l H.r H.k H.rk H.v H.n H.ng H.gb
theorem out : T.yg (ix2 r l) = (X r).out l := out_at H.real H.e H.et r l H.r H.k H.rk H.v H.g H.n H.ng H.gb
theorem hc : T.hc (ix2 r l) = cen (X r).pre l := cen_at H.real H.e H.et r l H.r H.k H.rk H.v H.g H.h H.n H.ng H.gb H.w
theorem hv : T.hv (ix2 r 0) = scale (X r).pre := scale_at H.real H.e H.et r H.r H.k H.rk H.v H.g H.h H.n H.ng H.gb H.w
theorem hs : T.hs (ix2 r 0) = minusHalf * Ideal.div (scale (X r).pre) (spread (X r).pre) := turn_at H.real H.e H.et r H.r H.k H.rk H.v H.g H.h H.n H.ng H.gb H.w
theorem hn : T.hn (ix2 r l) = cen (X r).pre l * scale (X r).pre := normed_at H.real H.e H.et r l H.r H.k H.rk H.v H.g H.h H.n H.ng H.gb H.w
theorem dz : T.dm (ix2 r l) = (X r).dz l := dz_at r l H.lg H.z H.hc H.hv H.hs
theorem dh : T.dh (ix2 r l) = alpha * (X r).dz l := resid_at r l H.lg H.z H.hc H.hv H.hs
theorem dg : T.dg (ix2 r l) = (X r).mix l * (X r).dm l := dgate_at r l H.lg H.z H.hc H.hv H.hs H.w H.mix
theorem db : T.db (ix2 r l) = (X r).dmix l := dmix_at r l H.lg H.z H.hc H.hv H.hs H.w H.g
theorem dv : T.dv (ix2 r l) = (X r).bon l * (X r).dmix l := dv_at r l H.lg H.z H.hc H.hv H.hs H.w H.g H.bon
theorem tb : k0_pay34 T.et T.sb T.sc (ix2 r l) = (X r).tb l := tb_at H.real H.e H.et r l H.lg H.z H.hc H.hv H.hs H.w H.g H.v
theorem dk : T.dk (ix2 r l) = (X r).r l * ((X r).tb l * (X r).rk l) := dk_at r l H.tb H.rk H.r
theorem dr : T.dr (ix2 r l) = (X r).tb l * (X r).rk l * (X r).k l := dr_at r l H.tb H.rk H.k
theorem dy : T.dy (ix2 r l) = (X r).dy l := dy_at H.real H.e H.et r l H.gw H.cy H.gv H.gs H.db

theorem dwo : T.dwo (ix2 k l) = ∑ r : Fin 192, (X r).out k * (X r).dz l :=
  (weight_at l T.yg T.dm k).trans (Finset.sum_congr rfl fun r _ => by rw [H.out, H.dz])
theorem dgw : T.dgw (ix2 0 l) = ∑ r : Fin 192, (X r).hat l * (X r).dmix l :=
  (ggain_at l T.n T.db).trans (Finset.sum_congr rfl fun r _ => by rw [H.n, H.db])
theorem dgb : T.dgb (ix2 0 l) = ∑ r : Fin 192, (X r).dmix l :=
  (gbias_at l T.db).trans (Finset.sum_congr rfl fun r _ => H.db r l)
theorem drk : T.drk (ix2 0 l) = ∑ r : Fin 192, (X r).r l * (X r).k l * (X r).tb l :=
  (rkey_at l H.tb T.rk).trans (Finset.sum_congr rfl fun r _ => by rw [H.pair])
theorem dlg : T.dlg (ix2 0 l) = ∑ r : Fin 192, gainTerm (X r).pre (X r).d l :=
  (gain_at l T.z T.hn).trans (Finset.sum_congr rfl fun r _ => by rw [H.hn, H.z]; rfl)
theorem dlb : T.dlb (ix2 0 l) = ∑ r : Fin 192, (X r).d l :=
  (bias_at l T.z).trans (Finset.sum_congr rfl fun r _ => H.z r l)
end Reads

end Cert.Proof.Post
end
-- ==== Proof.PostArgs.lean ====
module

public import proofs.«01_k».proof.Proof.PostRow
public import proofs.«01_k».proof.PostIdeal
public import proofs.«01_k».proof.Proof.NormRow
public import Idealize.ShloMosaic.Lib.Claim
public import Idealize.ShloMosaic.Lib.Tactic
public import Idealize.ShloMosaic.Lib.Pointwise

@[expose] public section
noncomputable section
namespace Cert.Proof.Post
open Cert.PostIdeal Cert.Proof.Norm Idealize.ShloMosaic Idealize.ShloMosaic.TcCoe

/-! The argument arrays, and what they say of one row. -/

structure Args where
  z : Vec Ideal S4224x1024 .f32
  p : Vec Ideal S4x4224x1024 .f32
  y : Vec Ideal S4224x1024 .f32
  r : Vec Ideal S4224x1024 .f32
  k : Vec Ideal S4224x1024 .f32
  v : Vec Ideal S4224x1024 .f32
  g : Vec Ideal S4224x1024 .f32
  h : Vec Ideal S4224x1024 .f32
  wo : Vec Ideal S1024x1024 .f32
  gw : Vec Ideal S1x1024 .f32
  gb : Vec Ideal S1x1024 .f32
  rk : Vec Ideal S1x1024 .f32
  lg : Vec Ideal S1x1024 .f32

/-- Row `R` of the arguments. -/
def Args.row (A : Args) (R : Fin 4224) : Row where
  y l := A.y (ix2 R l)
  r l := A.r (ix2 R l)
  k l := A.k (ix2 R l)
  v l := A.v (ix2 R l)
  g l := A.g (ix2 R l)
  h l := A.h (ix2 R l)
  d l := alpha * A.z (ix2 R l) + ∑ q : Fin 4, A.p (ix3 q R l)
  wo k l := A.wo (ix2 k l)
  gw l := A.gw (ix2 0 l)
  gb l := A.gb (ix2 0 l)
  rk l := A.rk (ix2 0 l)
  lg l := A.lg (ix2 0 l)

variable (A : Args)

/-- The twelve gradients, as arrays. -/
def gradY : Vec Ideal S4224x1024 .f32 := fun i => (A.row (i 0)).dy (i 1)
def gradR : Vec Ideal S4224x1024 .f32 := fun i => (A.row (i 0)).tb (i 1) * (A.row (i 0)).rk (i 1) * (A.row (i 0)).k (i 1)
def gradK : Vec Ideal S4224x1024 .f32 := fun i => (A.row (i 0)).r (i 1) * ((A.row (i 0)).tb (i 1) * (A.row (i 0)).rk (i 1))
def gradV : Vec Ideal S4224x1024 .f32 := fun i => (A.row (i 0)).bon (i 1) * (A.row (i 0)).dmix (i 1)
def gradG : Vec Ideal S4224x1024 .f32 := fun i => (A.row (i 0)).mix (i 1) * (A.row (i 0)).dm (i 1)
def gradH : Vec Ideal S4224x1024 .f32 := fun i => alpha * (A.row (i 0)).dz (i 1)
def gradM : Vec Ideal S1024x1024 .f32 := fun i => ∑ R : Fin 4224, (A.row R).out (i 0) * (A.row R).dz (i 1)
def gradGW : Vec Ideal S1x1024 .f32 := fun i => ∑ R : Fin 4224, (A.row R).hat (i 1) * (A.row R).dmix (i 1)
def gradGB : Vec Ideal S1x1024 .f32 := fun i => ∑ R : Fin 4224, (A.row R).dmix (i 1)
def gradRK : Vec Ideal S1x1024 .f32 := fun i => ∑ R : Fin 4224, (A.row R).r (i 1) * (A.row R).k (i 1) * (A.row R).tb (i 1)
def gradLG : Vec Ideal S1x1024 .f32 := fun i => ∑ R : Fin 4224, Norm.gainTerm (A.row R).pre (A.row R).d (i 1)
def gradLB : Vec Ideal S1x1024 .f32 := fun i => ∑ R : Fin 4224, (A.row R).d (i 1)

end Cert.Proof.Post
end
-- ==== Proof.PostHost.lean ====
module

public import proofs.«01_k».proof.Proof.PostTile
public import proofs.«01_k».proof.Proof.PostArgs
public import proofs.«01_k».proof.Proof.Gen.PostIdeal.Frame

@[expose] public section
set_option maxRecDepth 16384
noncomputable section
namespace Cert.Proof.Post
open Cert.PostIdeal Cert.PostIdeal.Gen Cert.Proof.Norm Idealize.ShloMosaic Idealize.ShloMosaic.TcCoe Idealize.SL.Sem Pipeline

/-! What the host lines leave: the 0/1 matrices of the heads, and the weights. -/

variable (m : (ℓ : Loc nD τ sig) → Buf (Elt Ideal) ℓ) (c : Dev nD)

/-- The arguments of device `c`. -/
def args : Args where
  z := m ((c : Thread nD τ).loc main_arg0)
  p := m ((c : Thread nD τ).loc main_arg1)
  y := m ((c : Thread nD τ).loc main_arg2)
  r := m ((c : Thread nD τ).loc main_arg3)
  k := m ((c : Thread nD τ).loc main_arg4)
  v := m ((c : Thread nD τ).loc main_arg5)
  g := m ((c : Thread nD τ).loc main_arg6)
  h := m ((c : Thread nD τ).loc main_arg7)
  wo := m ((c : Thread nD τ).loc main_arg8)
  gw := m ((c : Thread nD τ).loc main_arg9)
  gb := m ((c : Thread nD τ).loc main_arg10)
  rk := m ((c : Thread nD τ).loc main_arg11)
  lg := m ((c : Thread nD τ).loc main_arg12)

theorem V_split (r : Ref sig .tc) : V m c r = StableHlo.after hostOps0_2 (StableHlo.after hostOps0_1 (StableHlo.after hostOps0 (fun b => m (c, b)))) (Proc.devRef .tc r) := by
  show StableHlo.after (List.flatten [hostOps0, hostOps0_1, hostOps0_2]) (fun b => m (c, b)) (Proc.devRef .tc r) = _
  rw [List.flatten_cons, List.flatten_cons, List.flatten_cons, List.flatten_nil, List.append_nil, StableHlo.after_append, StableHlo.after_append]

/-- The column's head, as the host computes it: a quotient rounded down. -/
def headW : IVec S1024x16 32 :=
  let a := iotaInDim S1024x16 32 0
  let b := broadcastInDim S1024x16 ![] bcast_S_S1024x16 (constantI S_ 32 64#32)
  select (andi (cmpi .ne (signi a) (broadcastInDim S1024x16 ![] bcast_S_S1024x16 (signi (constantI S_ 32 64#32))))
      (cmpi .ne (Host.remsi a b) (broadcastInDim S1024x16 ![] bcast_S_S1024x16 (constantI S_ 32 0#32))))
    (subi (Host.divsi a b) (broadcastInDim S1024x16 ![] bcast_S_S1024x16 (constantI S_ 32 1#32))) (Host.divsi a b)

theorem head_entry : StableHlo.after hostOps0_1 (StableHlo.after hostOps0 (fun b => m (c, b))) (Proc.devRef .tc main_v1) = headW := by
  simp only [hostOps0, hostOps0_1]
  after_results_simp
  rfl

theorem V_E : (V m c main_v5 : Vec Ideal S1024x16 .bf16) = truncf (F := Ideal) .bf16 (uitofp .f32 (cmpi .eq headW (iotaInDim S1024x16 32 1))) bitsLt_bf16_f32 := by
  rw [← head_entry m c]
  refine (V_split m c main_v5).trans ?_
  generalize StableHlo.after hostOps0_1 (StableHlo.after hostOps0 (fun b => m (c, b))) = W
  simp only [hostOps0_2]
  after_results_simp
theorem V_T : (V m c main_v7 : Vec Ideal S16x1024 .bf16) = truncf (F := Ideal) .bf16 (transpose S16x1024 [1, 0] (uitofp .f32 (cmpi .eq headW (iotaInDim S1024x16 32 1))) transposes_S1024x16_S16x1024_1_0) bitsLt_bf16_f32 := by
  rw [← head_entry m c]
  refine (V_split m c main_v7).trans ?_
  generalize StableHlo.after hostOps0_1 (StableHlo.after hostOps0 (fun b => m (c, b))) = W
  simp only [hostOps0_2]
  after_results_simp
theorem V_W : (V m c main_v8 : Vec Ideal S1024x1024 .bf16) = truncf (F := Ideal) .bf16 (args m c).wo bitsLt_bf16_f32 := by
  refine (V_split m c main_v8).trans ?_
  simp only [hostOps0, hostOps0_1, hostOps0_2]
  after_results_simp
  rfl

theorem head_word (l : Fin 1024) (h : Fin 16) : headW (ix2 l h) = BitVec.ofNat 32 (l.val / 64) := by
  pointwise [headW]
  have hk : ∀ a : Fin 1024, Scalar.select (IntOp.andi (IntOp.cmpi CmpIPredicate.ne (if BitVec.ofNat 32 a.val = 0 then (0 : BitVec 32) else if (BitVec.ofNat 32 a.val).msb = true then -1 else 1) (if (64#32) = 0 then 0 else if (64#32).msb = true then -1 else 1)) (IntOp.cmpi CmpIPredicate.ne (IntOp.remsi ArithUnit.host (BitVec.ofNat 32 a.val) 64#32) 0#32)) (IntOp.subi (IntOp.divsi ArithUnit.host (BitVec.ofNat 32 a.val) 64#32) 1#32) (IntOp.divsi ArithUnit.host (BitVec.ofNat 32 a.val) 64#32) = BitVec.ofNat 32 (a.val / 64) := by decide +kernel
  exact hk l
theorem mark_word (l : Fin 1024) (h : Fin 16) : (uitofp (F := Ideal) .f32 (cmpi .eq headW (iotaInDim S1024x16 32 1))) (ix2 l h) = if headOf l = h then 1 else 0 := by
  have e := head_word l h
  generalize headW = B at *
  pointwise []
  rw [e]
  have hc : IntOp.cmpi CmpIPredicate.eq (BitVec.ofNat 32 (l.val / 64)) (BitVec.ofNat 32 h.val) = if headOf l = h then 1#1 else 0#1 := by
    have hk : ∀ a b : Fin 16, IntOp.cmpi CmpIPredicate.eq (BitVec.ofNat 32 a.val) (BitVec.ofNat 32 b.val) = if a = b then 1#1 else 0#1 := by decide +kernel
    exact hk (headOf l) h
  rw [hc]
  split
  · show ((((1#1 : BitVec 1).toNat : ℝ)) : EReal) = 1; simp
  · show ((((0#1 : BitVec 1).toNat : ℝ)) : EReal) = 0; simp
theorem marks : Marks (V m c main_v5) := fun l h => by
  rw [V_E]
  exact mark_word l h
theorem marksT : MarksT (V m c main_v7) := fun h l => by
  rw [V_T]
  exact mark_word l h
end Cert.Proof.Post
end
-- ==== Proof.PostFrame.lean ====
module

public import proofs.«01_k».proof.Proof.PostBody
public import proofs.«01_k».proof.Proof.Gen.PostIdeal.Launch
public import proofs.«01_k».proof.Proof.Gen.PostIdeal.Points
public import Idealize.ShloMosaic.Lib.Pipeline.FrameBody
public import Idealize.ShloMosaic.Lib.Pipeline.TableIdle
public import Idealize.ShloMosaic.Lib.Claim
public import Idealize.ShloMosaic.Lib.Tactic

@[expose] public section
set_option maxRecDepth 16384
noncomputable section
namespace Cert.Proof.Post
open Cert.PostIdeal Cert.PostIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The call's run over any float values, and its frame. -/

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The input windows' blocks at a point. -/
def tile (t : Fin cfg0.N) : Tile F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-- A running sum: set at the first point, added to at each later one. -/
def acc {α : Type} (g : (n : ℕ) → n < cfg0.N → α) (up : α → α → α) : (n : ℕ) → n < cfg0.N → α
  | 0, h => g 0 h
  | n + 1, h => up (g (n + 1) h) (acc g up n (Nat.lt_of_succ_lt h))

theorem acc_first {α : Type} (g : (n : ℕ) → n < cfg0.N → α) (up : α → α → α) (t : Fin cfg0.N) (h : t.val = 0) : acc g up t.val t.isLt = g t.val t.isLt := by
  obtain ⟨n, hn⟩ := t
  obtain rfl : n = 0 := h
  rfl
theorem acc_next {α : Type} (g : (n : ℕ) → n < cfg0.N → α) (up : α → α → α) (t : Fin cfg0.N) (h : ¬t.val = 0) :
    acc g up t.val t.isLt = up (g t.val t.isLt) (acc g up (t.val - 1) (Nat.lt_of_le_of_lt (Nat.sub_le _ _) t.isLt)) := by
  obtain ⟨n, hn⟩ := t
  cases n with
  | zero => exact absurd rfl h
  | succ n => rfl

def sumM : (n : ℕ) → n < cfg0.N → Vec F S1024x1024 .f32 := acc (fun n h => (tile m c ⟨n, h⟩).dwo) k0_pay47
def sumGW : (n : ℕ) → n < cfg0.N → Vec F S1x1024 .f32 := acc (fun n h => (tile m c ⟨n, h⟩).dgw) k0_pay48
def sumGB : (n : ℕ) → n < cfg0.N → Vec F S1x1024 .f32 := acc (fun n h => (tile m c ⟨n, h⟩).dgb) k0_pay49
def sumRK : (n : ℕ) → n < cfg0.N → Vec F S1x1024 .f32 := acc (fun n h => (tile m c ⟨n, h⟩).drk) k0_pay50
def sumLG : (n : ℕ) → n < cfg0.N → Vec F S1x1024 .f32 := acc (fun n h => (tile m c ⟨n, h⟩).dlg) k0_pay1
def sumLB : (n : ℕ) → n < cfg0.N → Vec F S1x1024 .f32 := acc (fun n h => (tile m c ⟨n, h⟩).dlb) k0_pay2

/-- The run's data: each input's block stays, each gradient's block and each running sum is what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (tile m c t).dy
    | ⟨17, _⟩ => (tile m c t).dr
    | ⟨18, _⟩ => (tile m c t).dk
    | ⟨19, _⟩ => (tile m c t).dv
    | ⟨20, _⟩ => (tile m c t).dg
    | ⟨21, _⟩ => (tile m c t).dh
    | ⟨22, _⟩ => sumM m c t.val t.isLt
    | ⟨23, _⟩ => sumGW m c t.val t.isLt
    | ⟨24, _⟩ => sumGB m c t.val t.isLt
    | ⟨25, _⟩ => sumRK m c t.val t.isLt
    | ⟨26, _⟩ => sumLG m c t.val t.isLt
    | ⟨27, _⟩ => sumLB m c t.val t.isLt
    | ⟨_ + 28, h⟩ => absurd h (Nat.not_lt.2 (Nat.le_add_left 28 _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = iblk m c 11 t := by dsimp only [dats]
theorem after_12 (t : Fin cfg0.N) : (dats m 0 c).after 12 t = iblk m c 12 t := by dsimp only [dats]
theorem after_13 (t : Fin cfg0.N) : (dats m 0 c).after 13 t = iblk m c 13 t := by dsimp only [dats]
theorem after_14 (t : Fin cfg0.N) : (dats m 0 c).after 14 t = iblk m c 14 t := by dsimp only [dats]
theorem after_15 (t : Fin cfg0.N) : (dats m 0 c).after 15 t = iblk m c 15 t := by dsimp only [dats]
theorem after_16 (t : Fin cfg0.N) : (dats m 0 c).after 16 t = (tile m c t).dy := by dsimp only [dats]
theorem after_17 (t : Fin cfg0.N) : (dats m 0 c).after 17 t = (tile m c t).dr := by dsimp only [dats]
theorem after_18 (t : Fin cfg0.N) : (dats m 0 c).after 18 t = (tile m c t).dk := by dsimp only [dats]
theorem after_19 (t : Fin cfg0.N) : (dats m 0 c).after 19 t = (tile m c t).dv := by dsimp only [dats]
theorem after_20 (t : Fin cfg0.N) : (dats m 0 c).after 20 t = (tile m c t).dg := by dsimp only [dats]
theorem after_21 (t : Fin cfg0.N) : (dats m 0 c).after 21 t = (tile m c t).dh := by dsimp only [dats]
theorem after_22 (t : Fin cfg0.N) : (dats m 0 c).after 22 t = sumM m c t.val t.isLt := by dsimp only [dats]
theorem after_23 (t : Fin cfg0.N) : (dats m 0 c).after 23 t = sumGW m c t.val t.isLt := by dsimp only [dats]
theorem after_24 (t : Fin cfg0.N) : (dats m 0 c).after 24 t = sumGB m c t.val t.isLt := by dsimp only [dats]
theorem after_25 (t : Fin cfg0.N) : (dats m 0 c).after 25 t = sumRK m c t.val t.isLt := by dsimp only [dats]
theorem after_26 (t : Fin cfg0.N) : (dats m 0 c).after 26 t = sumLG m c t.val t.isLt := by dsimp only [dats]
theorem after_27 (t : Fin cfg0.N) : (dats m 0 c).after 27 t = sumLB m c t.val t.isLt := by dsimp only [dats]

/-! Each input's buffer holds its block at every point. -/
theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d
theorem before_5 (t : Fin cfg0.N) (d) : (dats m 0 c).before 5 t d = iblk m c 5 t := before0_5_of m (dats m 0 c) (A_eq m c 5) (after_5 m c) t d
theorem before_6 (t : Fin cfg0.N) (d) : (dats m 0 c).before 6 t d = iblk m c 6 t := before0_6_of m (dats m 0 c) (A_eq m c 6) (after_6 m c) t d
theorem before_7 (t : Fin cfg0.N) (d) : (dats m 0 c).before 7 t d = iblk m c 7 t := before0_7_of m (dats m 0 c) (A_eq m c 7) (after_7 m c) t d
theorem before_8 (t : Fin cfg0.N) (d) : (dats m 0 c).before 8 t d = iblk m c 8 t := before0_8_of m (dats m 0 c) (A_eq m c 8) (after_8 m c) t d
theorem before_9 (t : Fin cfg0.N) (d) : (dats m 0 c).before 9 t d = iblk m c 9 t := before0_9_of m (dats m 0 c) (A_eq m c 9) (after_9 m c) t d
theorem before_10 (t : Fin cfg0.N) (d) : (dats m 0 c).before 10 t d = iblk m c 10 t := before0_10_of m (dats m 0 c) (A_eq m c 10) (after_10 m c) t d
theorem before_11 (t : Fin cfg0.N) (d) : (dats m 0 c).before 11 t d = iblk m c 11 t := before0_11_of m (dats m 0 c) (A_eq m c 11) (after_11 m c) t d
theorem before_12 (t : Fin cfg0.N) (d) : (dats m 0 c).before 12 t d = iblk m c 12 t := before0_12_of m (dats m 0 c) (A_eq m c 12) (after_12 m c) t d
theorem before_13 (t : Fin cfg0.N) (d) : (dats m 0 c).before 13 t d = iblk m c 13 t := before0_13_of m (dats m 0 c) (A_eq m c 13) (after_13 m c) t d
theorem before_14 (t : Fin cfg0.N) (d) : (dats m 0 c).before 14 t d = iblk m c 14 t := before0_14_of m (dats m 0 c) (A_eq m c 14) (after_14 m c) t d
theorem before_15 (t : Fin cfg0.N) (d) : (dats m 0 c).before 15 t d = iblk m c 15 t := before0_15_of m (dats m 0 c) (A_eq m c 15) (after_15 m c) t d

/-! The conditions: each odd one holds at the first point alone, each even one at every later point. -/
theorem cond_1 : ∀ t : Fin cfg0.N, k0_cond1 (grid0.coords t) = 1#1 ↔ t.val = 0 := (by decide +kernel : ∀ t : Fin grid0.N, _)
theorem cond_3 : ∀ t : Fin cfg0.N, k0_cond3 (grid0.coords t) = 1#1 ↔ t.val = 0 := (by decide +kernel : ∀ t : Fin grid0.N, _)
theorem cond_5 : ∀ t : Fin cfg0.N, k0_cond5 (grid0.coords t) = 1#1 ↔ t.val = 0 := (by decide +kernel : ∀ t : Fin grid0.N, _)
theorem cond_7 : ∀ t : Fin cfg0.N, k0_cond7 (grid0.coords t) = 1#1 ↔ t.val = 0 := (by decide +kernel : ∀ t : Fin grid0.N, _)
theorem cond_9 : ∀ t : Fin cfg0.N, k0_cond9 (grid0.coords t) = 1#1 ↔ t.val = 0 := (by decide +kernel : ∀ t : Fin grid0.N, _)
theorem cond_11 : ∀ t : Fin cfg0.N, k0_cond11 (grid0.coords t) = 1#1 ↔ t.val = 0 := (by decide +kernel : ∀ t : Fin grid0.N, _)
theorem cond_2 : ∀ t : Fin cfg0.N, k0_cond2 (grid0.coords t) = 1#1 ↔ ¬t.val = 0 := (by decide +kernel : ∀ t : Fin grid0.N, _)
theorem cond_4 : ∀ t : Fin cfg0.N, k0_cond4 (grid0.coords t) = 1#1 ↔ ¬t.val = 0 := (by decide +kernel : ∀ t : Fin grid0.N, _)
theorem cond_6 : ∀ t : Fin cfg0.N, k0_cond6 (grid0.coords t) = 1#1 ↔ ¬t.val = 0 := (by decide +kernel : ∀ t : Fin grid0.N, _)
theorem cond_8 : ∀ t : Fin cfg0.N, k0_cond8 (grid0.coords t) = 1#1 ↔ ¬t.val = 0 := (by decide +kernel : ∀ t : Fin grid0.N, _)
theorem cond_10 : ∀ t : Fin cfg0.N, k0_cond10 (grid0.coords t) = 1#1 ↔ ¬t.val = 0 := (by decide +kernel : ∀ t : Fin grid0.N, _)
theorem cond_12 : ∀ t : Fin cfg0.N, k0_cond12 (grid0.coords t) = 1#1 ↔ ¬t.val = 0 := (by decide +kernel : ∀ t : Fin grid0.N, _)
theorem live_0 : ∀ t : Fin cfg0.N, idle0 0 (grid0.coords t) = false := fun _ => rfl
theorem live_1 : ∀ t : Fin cfg0.N, idle0 1 (grid0.coords t) = false := fun _ => rfl
theorem live_2 : ∀ t : Fin cfg0.N, idle0 2 (grid0.coords t) = false := fun _ => rfl
theorem live_3 : ∀ t : Fin cfg0.N, idle0 3 (grid0.coords t) = false := fun _ => rfl
theorem live_4 : ∀ t : Fin cfg0.N, idle0 4 (grid0.coords t) = false := fun _ => rfl
theorem live_5 : ∀ t : Fin cfg0.N, idle0 5 (grid0.coords t) = false := fun _ => rfl
theorem live_6 : ∀ t : Fin cfg0.N, idle0 6 (grid0.coords t) = false := fun _ => rfl
theorem live_7 : ∀ t : Fin cfg0.N, idle0 7 (grid0.coords t) = false := fun _ => rfl
theorem live_8 : ∀ t : Fin cfg0.N, idle0 8 (grid0.coords t) = false := fun _ => rfl
theorem live_9 : ∀ t : Fin cfg0.N, idle0 9 (grid0.coords t) = false := fun _ => rfl
theorem live_10 : ∀ t : Fin cfg0.N, idle0 10 (grid0.coords t) = false := fun _ => rfl
theorem live_11 : ∀ t : Fin cfg0.N, idle0 11 (grid0.coords t) = false := fun _ => rfl
theorem live_12 : ∀ t : Fin cfg0.N, idle0 12 (grid0.coords t) = false := fun _ => rfl
theorem live_13 : ∀ t : Fin cfg0.N, idle0 13 (grid0.coords t) = false := fun _ => rfl
theorem live_14 : ∀ t : Fin cfg0.N, idle0 14 (grid0.coords t) = false := fun _ => rfl
theorem live_15 : ∀ t : Fin cfg0.N, idle0 15 (grid0.coords t) = false := fun _ => rfl
theorem live_16 : ∀ t : Fin cfg0.N, idle0 16 (grid0.coords t) = false := fun _ => rfl
theorem live_17 : ∀ t : Fin cfg0.N, idle0 17 (grid0.coords t) = false := fun _ => rfl
theorem live_18 : ∀ t : Fin cfg0.N, idle0 18 (grid0.coords t) = false := fun _ => rfl
theorem live_19 : ∀ t : Fin cfg0.N, idle0 19 (grid0.coords t) = false := fun _ => rfl
theorem live_20 : ∀ t : Fin cfg0.N, idle0 20 (grid0.coords t) = false := fun _ => rfl
theorem live_21 : ∀ t : Fin cfg0.N, idle0 21 (grid0.coords t) = false := fun _ => rfl
theorem live_22 : ∀ t : Fin cfg0.N, idle0 22 (grid0.coords t) = false := (by decide +kernel : ∀ t : Fin grid0.N, _)
theorem live_23 : ∀ t : Fin cfg0.N, idle0 23 (grid0.coords t) = false := (by decide +kernel : ∀ t : Fin grid0.N, _)
theorem live_24 : ∀ t : Fin cfg0.N, idle0 24 (grid0.coords t) = false := (by decide +kernel : ∀ t : Fin grid0.N, _)
theorem live_25 : ∀ t : Fin cfg0.N, idle0 25 (grid0.coords t) = false := (by decide +kernel : ∀ t : Fin grid0.N, _)
theorem live_26 : ∀ t : Fin cfg0.N, idle0 26 (grid0.coords t) = false := (by decide +kernel : ∀ t : Fin grid0.N, _)
theorem live_27 : ∀ t : Fin cfg0.N, idle0 27 (grid0.coords t) = false := (by decide +kernel : ∀ t : Fin grid0.N, _)

/-! A running sum's buffer holds at a later point what the point before left. -/
theorem busy_22 (t : Fin cfg0.N) : cfg0.idle 22 (cfg0.grid.coords t) = false := live_22 t
theorem fresh_22 : ∀ t : Fin cfg0.N, ¬t.val = 0 → cfg0.fresh 22 t.val = false := (by decide +kernel : ∀ t : Fin grid0.N, _)
theorem before_22 (t : Fin cfg0.N) (h : ¬t.val = 0) (d) : (dats m 0 c).before 22 t d = sumM m c (t.val - 1) (Nat.lt_of_le_of_lt (Nat.sub_le _ _) t.isLt) := by
  rw [Dat.before_out_traj _ 22 rfl (fun _ _ => rfl) (fun t _ hi _ => absurd ((busy_22 t).symm.trans hi) Bool.false_ne_true) t.val t rfl d,
    if_neg (by rw [fresh_22 t h]; exact Bool.false_ne_true)]
  dsimp only [dats]
theorem busy_23 (t : Fin cfg0.N) : cfg0.idle 23 (cfg0.grid.coords t) = false := live_23 t
theorem fresh_23 : ∀ t : Fin cfg0.N, ¬t.val = 0 → cfg0.fresh 23 t.val = false := (by decide +kernel : ∀ t : Fin grid0.N, _)
theorem before_23 (t : Fin cfg0.N) (h : ¬t.val = 0) (d) : (dats m 0 c).before 23 t d = sumGW m c (t.val - 1) (Nat.lt_of_le_of_lt (Nat.sub_le _ _) t.isLt) := by
  rw [Dat.before_out_traj _ 23 rfl (fun _ _ => rfl) (fun t _ hi _ => absurd ((busy_23 t).symm.trans hi) Bool.false_ne_true) t.val t rfl d,
    if_neg (by rw [fresh_23 t h]; exact Bool.false_ne_true)]
  dsimp only [dats]
theorem busy_24 (t : Fin cfg0.N) : cfg0.idle 24 (cfg0.grid.coords t) = false := live_24 t
theorem fresh_24 : ∀ t : Fin cfg0.N, ¬t.val = 0 → cfg0.fresh 24 t.val = false := (by decide +kernel : ∀ t : Fin grid0.N, _)
theorem before_24 (t : Fin cfg0.N) (h : ¬t.val = 0) (d) : (dats m 0 c).before 24 t d = sumGB m c (t.val - 1) (Nat.lt_of_le_of_lt (Nat.sub_le _ _) t.isLt) := by
  rw [Dat.before_out_traj _ 24 rfl (fun _ _ => rfl) (fun t _ hi _ => absurd ((busy_24 t).symm.trans hi) Bool.false_ne_true) t.val t rfl d,
    if_neg (by rw [fresh_24 t h]; exact Bool.false_ne_true)]
  dsimp only [dats]
theorem busy_25 (t : Fin cfg0.N) : cfg0.idle 25 (cfg0.grid.coords t) = false := live_25 t
theorem fresh_25 : ∀ t : Fin cfg0.N, ¬t.val = 0 → cfg0.fresh 25 t.val = false := (by decide +kernel : ∀ t : Fin grid0.N, _)
theorem before_25 (t : Fin cfg0.N) (h : ¬t.val = 0) (d) : (dats m 0 c).before 25 t d = sumRK m c (t.val - 1) (Nat.lt_of_le_of_lt (Nat.sub_le _ _) t.isLt) := by
  rw [Dat.before_out_traj _ 25 rfl (fun _ _ => rfl) (fun t _ hi _ => absurd ((busy_25 t).symm.trans hi) Bool.false_ne_true) t.val t rfl d,
    if_neg (by rw [fresh_25 t h]; exact Bool.false_ne_true)]
  dsimp only [dats]
theorem busy_26 (t : Fin cfg0.N) : cfg0.idle 26 (cfg0.grid.coords t) = false := live_26 t
theorem fresh_26 : ∀ t : Fin cfg0.N, ¬t.val = 0 → cfg0.fresh 26 t.val = false := (by decide +kernel : ∀ t : Fin grid0.N, _)
theorem before_26 (t : Fin cfg0.N) (h : ¬t.val = 0) (d) : (dats m 0 c).before 26 t d = sumLG m c (t.val - 1) (Nat.lt_of_le_of_lt (Nat.sub_le _ _) t.isLt) := by
  rw [Dat.before_out_traj _ 26 rfl (fun _ _ => rfl) (fun t _ hi _ => absurd ((busy_26 t).symm.trans hi) Bool.false_ne_true) t.val t rfl d,
    if_neg (by rw [fresh_26 t h]; exact Bool.false_ne_true)]
  dsimp only [dats]
theorem busy_27 (t : Fin cfg0.N) : cfg0.idle 27 (cfg0.grid.coords t) = false := live_27 t
theorem fresh_27 : ∀ t : Fin cfg0.N, ¬t.val = 0 → cfg0.fresh 27 t.val = false := (by decide +kernel : ∀ t : Fin grid0.N, _)
theorem before_27 (t : Fin cfg0.N) (h : ¬t.val = 0) (d) : (dats m 0 c).before 27 t d = sumLB m c (t.val - 1) (Nat.lt_of_le_of_lt (Nat.sub_le _ _) t.isLt) := by
  rw [Dat.before_out_traj _ 27 rfl (fun _ _ => rfl) (fun t _ hi _ => absurd ((busy_27 t).symm.trans hi) Bool.false_ne_true) t.val t rfl d,
    if_neg (by rw [fresh_27 t h]; exact Bool.false_ne_true)]
  dsimp only [dats]

/-- A window that the point stores into is left at the value after it. -/
theorem leaves_0 (t : Fin cfg0.N) : (dats m 0 c).leavesExact 0 t = owns (c : Thread nD τ) (st0_0 t) fullShare ((dats m 0 c).after 0 t) := by
  unfold Dat.leavesExact; rw [show cfg0.idle 0 (grid0.coords t) = false from live_0 t]
theorem leaves_1 (t : Fin cfg0.N) : (dats m 0 c).leavesExact 1 t = owns (c : Thread nD τ) (st0_1 t) fullShare ((dats m 0 c).after 1 t) := by
  unfold Dat.leavesExact; rw [show cfg0.idle 1 (grid0.coords t) = false from live_1 t]
theorem leaves_2 (t : Fin cfg0.N) : (dats m 0 c).leavesExact 2 t = owns (c : Thread nD τ) (st0_2 t) fullShare ((dats m 0 c).after 2 t) := by
  unfold Dat.leavesExact; rw [show cfg0.idle 2 (grid0.coords t) = false from live_2 t]
theorem leaves_3 (t : Fin cfg0.N) : (dats m 0 c).leavesExact 3 t = owns (c : Thread nD τ) (st0_3 t) fullShare ((dats m 0 c).after 3 t) := by
  unfold Dat.leavesExact; rw [show cfg0.idle 3 (grid0.coords t) = false from live_3 t]
theorem leaves_4 (t : Fin cfg0.N) : (dats m 0 c).leavesExact 4 t = owns (c : Thread nD τ) (st0_4 t) fullShare ((dats m 0 c).after 4 t) := by
  unfold Dat.leavesExact; rw [show cfg0.idle 4 (grid0.coords t) = false from live_4 t]
theorem leaves_5 (t : Fin cfg0.N) : (dats m 0 c).leavesExact 5 t = owns (c : Thread nD τ) (st0_5 t) fullShare ((dats m 0 c).after 5 t) := by
  unfold Dat.leavesExact; rw [show cfg0.idle 5 (grid0.coords t) = false from live_5 t]
theorem leaves_6 (t : Fin cfg0.N) : (dats m 0 c).leavesExact 6 t = owns (c : Thread nD τ) (st0_6 t) fullShare ((dats m 0 c).after 6 t) := by
  unfold Dat.leavesExact; rw [show cfg0.idle 6 (grid0.coords t) = false from live_6 t]
theorem leaves_7 (t : Fin cfg0.N) : (dats m 0 c).leavesExact 7 t = owns (c : Thread nD τ) (st0_7 t) fullShare ((dats m 0 c).after 7 t) := by
  unfold Dat.leavesExact; rw [show cfg0.idle 7 (grid0.coords t) = false from live_7 t]
theorem leaves_8 (t : Fin cfg0.N) : (dats m 0 c).leavesExact 8 t = owns (c : Thread nD τ) (st0_8 t) fullShare ((dats m 0 c).after 8 t) := by
  unfold Dat.leavesExact; rw [show cfg0.idle 8 (grid0.coords t) = false from live_8 t]
theorem leaves_9 (t : Fin cfg0.N) : (dats m 0 c).leavesExact 9 t = owns (c : Thread nD τ) (st0_9 t) fullShare ((dats m 0 c).after 9 t) := by
  unfold Dat.leavesExact; rw [show cfg0.idle 9 (grid0.coords t) = false from live_9 t]
theorem leaves_10 (t : Fin cfg0.N) : (dats m 0 c).leavesExact 10 t = owns (c : Thread nD τ) (st0_10 t) fullShare ((dats m 0 c).after 10 t) := by
  unfold Dat.leavesExact; rw [show cfg0.idle 10 (grid0.coords t) = false from live_10 t]
theorem leaves_11 (t : Fin cfg0.N) : (dats m 0 c).leavesExact 11 t = owns (c : Thread nD τ) (st0_11 t) fullShare ((dats m 0 c).after 11 t) := by
  unfold Dat.leavesExact; rw [show cfg0.idle 11 (grid0.coords t) = false from live_11 t]
theorem leaves_12 (t : Fin cfg0.N) : (dats m 0 c).leavesExact 12 t = owns (c : Thread nD τ) (st0_12 t) fullShare ((dats m 0 c).after 12 t) := by
  unfold Dat.leavesExact; rw [show cfg0.idle 12 (grid0.coords t) = false from live_12 t]
theorem leaves_13 (t : Fin cfg0.N) : (dats m 0 c).leavesExact 13 t = owns (c : Thread nD τ) (st0_13 t) fullShare ((dats m 0 c).after 13 t) := by
  unfold Dat.leavesExact; rw [show cfg0.idle 13 (grid0.coords t) = false from live_13 t]
theorem leaves_14 (t : Fin cfg0.N) : (dats m 0 c).leavesExact 14 t = owns (c : Thread nD τ) (st0_14 t) fullShare ((dats m 0 c).after 14 t) := by
  unfold Dat.leavesExact; rw [show cfg0.idle 14 (grid0.coords t) = false from live_14 t]
theorem leaves_15 (t : Fin cfg0.N) : (dats m 0 c).leavesExact 15 t = owns (c : Thread nD τ) (st0_15 t) fullShare ((dats m 0 c).after 15 t) := by
  unfold Dat.leavesExact; rw [show cfg0.idle 15 (grid0.coords t) = false from live_15 t]
theorem leaves_16 (t : Fin cfg0.N) : (dats m 0 c).leavesExact 16 t = owns (c : Thread nD τ) (st0_16 t) fullShare ((dats m 0 c).after 16 t) := by
  unfold Dat.leavesExact; rw [show cfg0.idle 16 (grid0.coords t) = false from live_16 t]
theorem leaves_17 (t : Fin cfg0.N) : (dats m 0 c).leavesExact 17 t = owns (c : Thread nD τ) (st0_17 t) fullShare ((dats m 0 c).after 17 t) := by
  unfold Dat.leavesExact; rw [show cfg0.idle 17 (grid0.coords t) = false from live_17 t]
theorem leaves_18 (t : Fin cfg0.N) : (dats m 0 c).leavesExact 18 t = owns (c : Thread nD τ) (st0_18 t) fullShare ((dats m 0 c).after 18 t) := by
  unfold Dat.leavesExact; rw [show cfg0.idle 18 (grid0.coords t) = false from live_18 t]
theorem leaves_19 (t : Fin cfg0.N) : (dats m 0 c).leavesExact 19 t = owns (c : Thread nD τ) (st0_19 t) fullShare ((dats m 0 c).after 19 t) := by
  unfold Dat.leavesExact; rw [show cfg0.idle 19 (grid0.coords t) = false from live_19 t]
theorem leaves_20 (t : Fin cfg0.N) : (dats m 0 c).leavesExact 20 t = owns (c : Thread nD τ) (st0_20 t) fullShare ((dats m 0 c).after 20 t) := by
  unfold Dat.leavesExact; rw [show cfg0.idle 20 (grid0.coords t) = false from live_20 t]
theorem leaves_21 (t : Fin cfg0.N) : (dats m 0 c).leavesExact 21 t = owns (c : Thread nD τ) (st0_21 t) fullShare ((dats m 0 c).after 21 t) := by
  unfold Dat.leavesExact; rw [show cfg0.idle 21 (grid0.coords t) = false from live_21 t]
theorem leaves_22 (t : Fin cfg0.N) : (dats m 0 c).leavesExact 22 t = owns (c : Thread nD τ) (st0_22 t) fullShare ((dats m 0 c).after 22 t) := by
  unfold Dat.leavesExact; rw [show cfg0.idle 22 (grid0.coords t) = false from live_22 t]
theorem leaves_23 (t : Fin cfg0.N) : (dats m 0 c).leavesExact 23 t = owns (c : Thread nD τ) (st0_23 t) fullShare ((dats m 0 c).after 23 t) := by
  unfold Dat.leavesExact; rw [show cfg0.idle 23 (grid0.coords t) = false from live_23 t]
theorem leaves_24 (t : Fin cfg0.N) : (dats m 0 c).leavesExact 24 t = owns (c : Thread nD τ) (st0_24 t) fullShare ((dats m 0 c).after 24 t) := by
  unfold Dat.leavesExact; rw [show cfg0.idle 24 (grid0.coords t) = false from live_24 t]
theorem leaves_25 (t : Fin cfg0.N) : (dats m 0 c).leavesExact 25 t = owns (c : Thread nD τ) (st0_25 t) fullShare ((dats m 0 c).after 25 t) := by
  unfold Dat.leavesExact; rw [show cfg0.idle 25 (grid0.coords t) = false from live_25 t]
theorem leaves_26 (t : Fin cfg0.N) : (dats m 0 c).leavesExact 26 t = owns (c : Thread nD τ) (st0_26 t) fullShare ((dats m 0 c).after 26 t) := by
  unfold Dat.leavesExact; rw [show cfg0.idle 26 (grid0.coords t) = false from live_26 t]
theorem leaves_27 (t : Fin cfg0.N) : (dats m 0 c).leavesExact 27 t = owns (c : Thread nD τ) (st0_27 t) fullShare ((dats m 0 c).after 27 t) := by
  unfold Dat.leavesExact; rw [show cfg0.idle 27 (grid0.coords t) = false from live_27 t]

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t)

set_option maxHeartbeats 2000000 in
theorem sound_first (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24, leaves_25, leaves_26, leaves_27,
    after_0, after_1, after_2, after_3, after_4, after_5, after_6, after_7, after_8, after_9, after_10, after_11, after_12, after_13, after_14, after_15, after_16, after_17, after_18, after_19, after_20, after_21, after_22, after_23, after_24, after_25, after_26, after_27]
  simp only [sumM, sumGW, sumGB, sumRK, sumLG, sumLB, acc_first _ _ t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run_first c (grid0.coords t) _ _ _ _ _ _ _ _ _ _ _ _ _ _ _ _ _ _ _ _ _ _ _ _ _ _ _ _ _ _ _ _ _ _ _ _ _ _ _ _ _ _ _ _ _ _ _ _ _ _ _ _ _ _ _ _ ((cond_1 t).mpr h) (fun e => (cond_2 t).mp e h) ((cond_3 t).mpr h) (fun e => (cond_4 t).mp e h) ((cond_5 t).mpr h) (fun e => (cond_6 t).mp e h) ((cond_7 t).mpr h) (fun e => (cond_8 t).mp e h) ((cond_9 t).mpr h) (fun e => (cond_10 t).mp e h) ((cond_11 t).mpr h) (fun e => (cond_12 t).mp e h) (tile m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

set_option maxHeartbeats 2000000 in
theorem sound_next (t : Fin cfg0.N) (h : ¬t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_22 m c t h, before_23 m c t h, before_24 m c t h, before_25 m c t h, before_26 m c t h, before_27 m c t h]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24, leaves_25, leaves_26, leaves_27,
    after_0, after_1, after_2, after_3, after_4, after_5, after_6, after_7, after_8, after_9, after_10, after_11, after_12, after_13, after_14, after_15, after_16, after_17, after_18, after_19, after_20, after_21, after_22, after_23, after_24, after_25, after_26, after_27]
  simp only [sumM, sumGW, sumGB, sumRK, sumLG, sumLB, acc_next _ _ t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run_next c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun e => h ((cond_1 t).mp e)) ((cond_2 t).mpr h) (fun e => h ((cond_3 t).mp e)) ((cond_4 t).mpr h) (fun e => h ((cond_5 t).mp e)) ((cond_6 t).mpr h) (fun e => h ((cond_7 t).mp e)) ((cond_8 t).mpr h) (fun e => h ((cond_9 t).mp e)) ((cond_10 t).mpr h) (fun e => h ((cond_11 t).mp e)) ((cond_12 t).mpr h) (tile m c t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [H24]; · iexact H24
  isplitl [H25]; · iexact H25
  isplitl [H26]; · iexact H26
  isplitl [H27]; · iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body at any point. -/
theorem sound (t : Fin cfg0.N) : bodyPre m c t ⊢ wp frame (wpE (defs₀ (F := F)) Variants.none c none) Set.univ (bodyAt0 t) (fun _ => bodyPost m c t) := by
  by_cases h : t.val = 0
  · exact sound_first m c t h
  · exact sound_next m c t h

theorem row (t : Fin cfg0.N) : defs₀ (F := F) .tc cfg0.body (cfg0.bodyArgs t (cfg0.slots t)) = bodyAt0 t := by
  unfold defs₀; rw [Defs.onTc_tc]

set_option maxHeartbeats 1600000 in
theorem obligation : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
set_option maxHeartbeats 800000 in
/-- The call ends with its arrays at what the points leave, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_quiescent m ρ)

/-- A memory whose argument arrays are those of `m`. -/
abbrev Kept (mem : (ℓ : Loc nD τ sig) → Buf (Elt F) ℓ) : Prop := ∀ c : Dev nD,
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)

/-- The call leaves its arguments as they were. -/
theorem unchanged : θ_run defs (onTc (τ := τ) (main (F := F))) ⟨m, fun _ => 0, ρ⟩ (fun r => Kept m r.2.mem) :=
  frame_of m ρ (dats m) (A_eq m) (run_arrays m ρ)
/-- The same, with every counter at zero. -/
theorem frame_any : θ_run defs (onTc (τ := τ) (main (F := F))) ⟨m, fun _ => 0, ρ⟩ (fun r => Kept m r.2.mem ∧ r.2.sem = fun _ => 0) :=
  θ_run_and (unchanged m ρ) ((θ_run defs _ _).mono (fun _ h => h.2) (run_quiescent m ρ))

end Cert.Proof.Post
end
-- ==== Proof.PostArrays.lean ====
module

public import proofs.«01_k».proof.Proof.PostPoint
public import proofs.«01_k».proof.Proof.PostHost
public import proofs.«01_k».proof.Proof.PostFrame
public import proofs.«01_k».proof.Proof.Sums
public import Idealize.ShloMosaic.Lib.Pipeline.Value
public import Idealize.ShloMosaic.Lib.Pipeline.ValueKit

@[expose] public section
set_option maxRecDepth 16384
noncomputable section
namespace Cert.Proof.Post
open Cert.PostIdeal Cert.PostIdeal.Gen Cert.Proof.Norm Idealize.ShloMosaic Idealize.ShloMosaic.TcCoe Idealize.SL.Sem Pipeline

/-! What the twelve arrays hold after the call. -/

variable (m : (ℓ : Loc nD τ sig) → Buf (Elt Ideal) ℓ) (c : Dev nD)

theorem idx_0 : ∀ t : Fin cfg0.N, win0_0.index t = ![t.val, 0] := (by decide +kernel : ∀ t : Fin grid0.N, _)
theorem idx_1 : ∀ t : Fin cfg0.N, win0_1.index t = ![0, t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)
theorem idx_16 : ∀ t : Fin cfg0.N, win0_16.index t = ![t.val, 0] := (by decide +kernel : ∀ t : Fin grid0.N, _)
theorem idx_17 : ∀ t : Fin cfg0.N, win0_17.index t = ![t.val, 0] := (by decide +kernel : ∀ t : Fin grid0.N, _)
theorem idx_18 : ∀ t : Fin cfg0.N, win0_18.index t = ![t.val, 0] := (by decide +kernel : ∀ t : Fin grid0.N, _)
theorem idx_19 : ∀ t : Fin cfg0.N, win0_19.index t = ![t.val, 0] := (by decide +kernel : ∀ t : Fin grid0.N, _)
theorem idx_20 : ∀ t : Fin cfg0.N, win0_20.index t = ![t.val, 0] := (by decide +kernel : ∀ t : Fin grid0.N, _)
theorem idx_21 : ∀ t : Fin cfg0.N, win0_21.index t = ![t.val, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)

theorem lt22 (t : Fin cfg0.N) : t.val < 22 := lt_of_lt_of_eq t.isLt (show cfg0.N = 22 from N_0)
variable (t : Fin cfg0.N)

/-- Row `r` of tile `t`. -/
abbrev rowIx (t : Fin cfg0.N) (r : Fin 192) : Fin 4224 := ⟨192 * t.val + r.val, by have := lt22 t; omega⟩

theorem read_z (r : Fin 192) (l : Fin 1024) : iblk m c 0 t (ix2 r l) = (args m c).z (ix2 (rowIx t r) l) := by
  rw [show (args m c).z = V m c main_arg0 from (V_main_arg0 m c).symm]
  unfold iblk
  show V m c main_arg0 _ = _
  generalize V m c main_arg0 = A
  blk_ext [idx_0 t]
theorem read_y (r : Fin 192) (l : Fin 1024) : iblk m c 2 t (ix2 r l) = (args m c).y (ix2 (rowIx t r) l) := by
  rw [show (args m c).y = V m c main_arg2 from (V_main_arg2 m c).symm]
  unfold iblk
  show V m c main_arg2 _ = _
  generalize V m c main_arg2 = A
  blk_ext [idx_2 t]
theorem read_r (r : Fin 192) (l : Fin 1024) : iblk m c 3 t (ix2 r l) = (args m c).r (ix2 (rowIx t r) l) := by
  rw [show (args m c).r = V m c main_arg3 from (V_main_arg3 m c).symm]
  unfold iblk
  show V m c main_arg3 _ = _
  generalize V m c main_arg3 = A
  blk_ext [idx_3 t]
theorem read_k (r : Fin 192) (l : Fin 1024) : iblk m c 4 t (ix2 r l) = (args m c).k (ix2 (rowIx t r) l) := by
  rw [show (args m c).k = V m c main_arg4 from (V_main_arg4 m c).symm]
  unfold iblk
  show V m c main_arg4 _ = _
  generalize V m c main_arg4 = A
  blk_ext [idx_4 t]
theorem read_v (r : Fin 192) (l : Fin 1024) : iblk m c 5 t (ix2 r l) = (args m c).v (ix2 (rowIx t r) l) := by
  rw [show (args m c).v = V m c main_arg5 from (V_main_arg5 m c).symm]
  unfold iblk
  show V m c main_arg5 _ = _
  generalize V m c main_arg5 = A
  blk_ext [idx_5 t]
theorem read_g (r : Fin 192) (l : Fin 1024) : iblk m c 6 t (ix2 r l) = (args m c).g (ix2 (rowIx t r) l) := by
  rw [show (args m c).g = V m c main_arg6 from (V_main_arg6 m c).symm]
  unfold iblk
  show V m c main_arg6 _ = _
  generalize V m c main_arg6 = A
  blk_ext [idx_6 t]
theorem read_h (r : Fin 192) (l : Fin 1024) : iblk m c 7 t (ix2 r l) = (args m c).h (ix2 (rowIx t r) l) := by
  rw [show (args m c).h = V m c main_arg7 from (V_main_arg7 m c).symm]
  unfold iblk
  show V m c main_arg7 _ = _
  generalize V m c main_arg7 = A
  blk_ext [idx_7 t]
theorem read_p (q : Fin 4) (r : Fin 192) (l : Fin 1024) : iblk m c 1 t (ix3 q r l) = (args m c).p (ix3 q (rowIx t r) l) := by
  rw [show (args m c).p = V m c main_arg1 from (V_main_arg1 m c).symm]
  unfold iblk
  show V m c main_arg1 _ = _
  generalize V m c main_arg1 = A
  blk_ext [idx_1 t]
theorem read_gw (l : Fin 1024) : iblk m c 11 t (ix2 0 l) = (args m c).gw (ix2 0 l) := by
  rw [show (args m c).gw = V m c main_arg9 from (V_main_arg9 m c).symm]
  unfold iblk
  show V m c main_arg9 _ = _
  generalize V m c main_arg9 = A
  blk_ext [idx_11 t]
theorem read_gb (l : Fin 1024) : iblk m c 12 t (ix2 0 l) = (args m c).gb (ix2 0 l) := by
  rw [show (args m c).gb = V m c main_arg10 from (V_main_arg10 m c).symm]
  unfold iblk
  show V m c main_arg10 _ = _
  generalize V m c main_arg10 = A
  blk_ext [idx_12 t]
theorem read_rk (l : Fin 1024) : iblk m c 13 t (ix2 0 l) = (args m c).rk (ix2 0 l) := by
  rw [show (args m c).rk = V m c main_arg11 from (V_main_arg11 m c).symm]
  unfold iblk
  show V m c main_arg11 _ = _
  generalize V m c main_arg11 = A
  blk_ext [idx_13 t]
theorem read_lg (l : Fin 1024) : iblk m c 14 t (ix2 0 l) = (args m c).lg (ix2 0 l) := by
  rw [show (args m c).lg = V m c main_arg12 from (V_main_arg12 m c).symm]
  unfold iblk
  show V m c main_arg12 _ = _
  generalize V m c main_arg12 = A
  blk_ext [idx_14 t]
theorem read_e (l : Fin 1024) (h : Fin 16) : iblk m c 8 t (ix2 l h) = V m c main_v5 (ix2 l h) := by
  unfold iblk
  show V m c main_v5 _ = _
  generalize V m c main_v5 = A
  blk_ext [idx_8 t]
theorem read_et (h : Fin 16) (l : Fin 1024) : iblk m c 9 t (ix2 h l) = V m c main_v7 (ix2 h l) := by
  unfold iblk
  show V m c main_v7 _ = _
  generalize V m c main_v7 = A
  blk_ext [idx_9 t]
theorem read_w (k l : Fin 1024) : iblk m c 10 t (ix2 k l) = V m c main_v8 (ix2 k l) := by
  unfold iblk
  show V m c main_v8 _ = _
  generalize V m c main_v8 = A
  blk_ext [idx_10 t]

theorem e_eq (x : Vec Ideal S1024x16 .bf16) : k0_pay3 x = x := shapeCast_self _ _
theorem et_eq (x : Vec Ideal S16x1024 .bf16) : k0_pay4 x = x := shapeCast_self _ _
theorem w_eq (x : Vec Ideal S1024x1024 .bf16) : k0_pay5 x = x := shapeCast_self _ _

abbrev rows (r : Fin 192) : Row := (args m c).row (rowIx t r)

/-- A tile whose windows hold rows of the arguments, the heads' matrices and the weights. -/
theorem reads_of (T : Tile Ideal) (A : Args) (R : Fin 192 → Fin 4224) (H : ∀ r, (A.row r).Real) (h8 : Marks T.x8) (h9 : MarksT T.x9)
    (h10 : ∀ k l, T.x10 (ix2 k l) = A.wo (ix2 k l)) (h0 : ∀ r l, T.x0 (ix2 r l) = A.z (ix2 (R r) l)) (h1 : ∀ q r l, T.x1 (ix3 q r l) = A.p (ix3 q (R r) l))
    (h2 : ∀ r l, T.x2 (ix2 r l) = A.y (ix2 (R r) l))
    (h3 : ∀ r l, T.x3 (ix2 r l) = A.r (ix2 (R r) l))
    (h4 : ∀ r l, T.x4 (ix2 r l) = A.k (ix2 (R r) l))
    (h5 : ∀ r l, T.x5 (ix2 r l) = A.v (ix2 (R r) l))
    (h6 : ∀ r l, T.x6 (ix2 r l) = A.g (ix2 (R r) l))
    (h7 : ∀ r l, T.x7 (ix2 r l) = A.h (ix2 (R r) l))
    (h11 : ∀ l, T.x11 (ix2 0 l) = A.gw (ix2 0 l))
    (h12 : ∀ l, T.x12 (ix2 0 l) = A.gb (ix2 0 l))
    (h13 : ∀ l, T.x13 (ix2 0 l) = A.rk (ix2 0 l))
    (h14 : ∀ l, T.x14 (ix2 0 l) = A.lg (ix2 0 l)) : Reads T (fun r => A.row (R r)) where
  real r := H _
  e l h := (congrFun (e_eq T.x8) _).trans (h8 l h)
  et h l := (congrFun (et_eq T.x9) _).trans (h9 h l)
  w r k l := (congrFun (w_eq T.x10) _).trans (h10 k l)
  z r l := (arrive_at r l T.x0 T.x1).trans (by rw [h0]; exact congrArg _ (Finset.sum_congr rfl fun q _ => h1 q r l))
  y := h2
  r := h3
  k := h4
  v := h5
  g := h6
  h := h7
  gw _ := h11
  gb _ := h12
  rk _ := h13
  lg _ := h14

/-! The windows of a point's tile. -/
theorem tile_8 : Marks (tile m c t).x8 := fun l h => (read_e m c t l h).trans (marks m c l h)
theorem tile_9 : MarksT (tile m c t).x9 := fun h l => (read_et m c t h l).trans (marksT m c h l)
theorem tile_10 : ∀ k l, (tile m c t).x10 (ix2 k l) = (args m c).wo (ix2 k l) := fun k l => (read_w m c t k l).trans (by rw [V_W]; rfl)
theorem tile_0 : ∀ r l, (tile m c t).x0 (ix2 r l) = (args m c).z (ix2 (rowIx t r) l) := read_z m c t
theorem tile_1 : ∀ q r l, (tile m c t).x1 (ix3 q r l) = (args m c).p (ix3 q (rowIx t r) l) := read_p m c t
theorem tile_2 : ∀ r l, (tile m c t).x2 (ix2 r l) = (args m c).y (ix2 (rowIx t r) l) := read_y m c t
theorem tile_3 : ∀ r l, (tile m c t).x3 (ix2 r l) = (args m c).r (ix2 (rowIx t r) l) := read_r m c t
theorem tile_4 : ∀ r l, (tile m c t).x4 (ix2 r l) = (args m c).k (ix2 (rowIx t r) l) := read_k m c t
theorem tile_5 : ∀ r l, (tile m c t).x5 (ix2 r l) = (args m c).v (ix2 (rowIx t r) l) := read_v m c t
theorem tile_6 : ∀ r l, (tile m c t).x6 (ix2 r l) = (args m c).g (ix2 (rowIx t r) l) := read_g m c t
theorem tile_7 : ∀ r l, (tile m c t).x7 (ix2 r l) = (args m c).h (ix2 (rowIx t r) l) := read_h m c t
theorem tile_11 : ∀ l, (tile m c t).x11 (ix2 0 l) = (args m c).gw (ix2 0 l) := read_gw m c t
theorem tile_12 : ∀ l, (tile m c t).x12 (ix2 0 l) = (args m c).gb (ix2 0 l) := read_gb m c t
theorem tile_13 : ∀ l, (tile m c t).x13 (ix2 0 l) = (args m c).rk (ix2 0 l) := read_rk m c t
theorem tile_14 : ∀ l, (tile m c t).x14 (ix2 0 l) = (args m c).lg (ix2 0 l) := read_lg m c t

/-- The windows at a point hold the rows of its tile. -/
theorem tile_reads (H : ∀ R, ((args m c).row R).Real) : Reads (tile m c t) (rows m c t) := by
  have e0 := tile_0 m c t
  have e1 := tile_1 m c t
  have e2 := tile_2 m c t
  have e3 := tile_3 m c t
  have e4 := tile_4 m c t
  have e5 := tile_5 m c t
  have e6 := tile_6 m c t
  have e7 := tile_7 m c t
  have e8 := tile_8 m c t
  have e9 := tile_9 m c t
  have e10 := tile_10 m c t
  have e11 := tile_11 m c t
  have e12 := tile_12 m c t
  have e13 := tile_13 m c t
  have e14 := tile_14 m c t
  generalize (tile m c t) = T at *
  exact reads_of T (args m c) (rowIx t) H e8 e9 e10 e0 e1 e2 e3 e4 e5 e6 e7 e11 e12 e13 e14

/-- What adds one tile's sum at each point holds the sum over all rows at the last. -/
theorem total (g : (n : ℕ) → n < cfg0.N → EReal) (f : Fin 4224 → EReal)
    (h0 : ∀ t : Fin cfg0.N, t.val % 22 = 0 → g t.val t.isLt = ∑ r : Fin 192, ext f (192 * t.val + r.val))
    (hs : ∀ t : Fin cfg0.N, ¬t.val % 22 = 0 → g t.val t.isLt = g (t.val - 1) (Nat.lt_of_le_of_lt (Nat.sub_le _ _) t.isLt) + ∑ r : Fin 192, ext f (192 * t.val + r.val))
    (t : Fin cfg0.N) (h : t.val = 21) : g t.val t.isLt = ∑ R : Fin 4224, f R := by
  have e := Pipeline.eq_sum_of_reset_step_divmod g 22 0 (fun a i => ∑ r : Fin 192, ext f (192 * (22 * a + i) + r.val))
    (fun t h => by rw [h0 t h, zero_add, show 22 * (t.val / 22) + t.val % 22 = t.val by omega])
    (fun t h => by rw [hs t h, show 22 * (t.val / 22) + t.val % 22 = t.val by omega]) t
  refine e.trans ?_
  rw [zero_add, h]
  exact Eq.trans (by norm_num) (sum_tiles 22 192 rfl _)

/-- A running sum of the tiles' sums, read at one entry at the last point. -/
theorem acc_total {S : Shape} (g : (n : ℕ) → n < cfg0.N → (S.Idx → EReal)) (up : (S.Idx → EReal) → (S.Idx → EReal) → (S.Idx → EReal)) (i : S.Idx) (f : Fin 4224 → EReal)
    (hup : ∀ a b, up a b i = b i + a i) (hg : ∀ t : Fin cfg0.N, g t.val t.isLt i = ∑ r : Fin 192, f (rowIx t r)) (t : Fin cfg0.N) (h : t.val = 21) :
    acc g up t.val t.isLt i = ∑ R : Fin 4224, f R := by
  have hg' : ∀ t : Fin cfg0.N, g t.val t.isLt i = ∑ r : Fin 192, ext f (192 * t.val + r.val) := fun t =>
    (hg t).trans (Finset.sum_congr rfl fun r _ => by rw [ext_lt _ _ (by have := lt22 t; omega)])
  refine total (fun n h => acc g up n h i) f (fun t h => ?_) (fun t h => ?_) t h
  · exact (congrFun (acc_first g up t (by have := lt22 t; omega)) i).trans (hg' t)
  · exact (congrFun (acc_next g up t (by omega)) i).trans ((hup _ _).trans (congrArg _ (hg' t)))

theorem add_47 (a b : Vec Ideal S1024x1024 .f32) (i) : k0_pay47 (F := Ideal) a b i = b i + a i := congrArg (· + a i) (congrFun (shapeCast_self b _) i)
theorem add_48 (a b : Vec Ideal S1x1024 .f32) (i) : k0_pay48 (F := Ideal) a b i = b i + a i := congrArg (· + a i) (congrFun (shapeCast_self b _) i)
theorem add_49 (a b : Vec Ideal S1x1024 .f32) (i) : k0_pay49 (F := Ideal) a b i = b i + a i := congrArg (· + a i) (congrFun (shapeCast_self b _) i)
theorem add_50 (a b : Vec Ideal S1x1024 .f32) (i) : k0_pay50 (F := Ideal) a b i = b i + a i := congrArg (· + a i) (congrFun (shapeCast_self b _) i)
theorem add_1 (a b : Vec Ideal S1x1024 .f32) (i) : k0_pay1 (F := Ideal) a b i = b i + a i := congrArg (· + a i) (congrFun (shapeCast_self b _) i)
theorem add_2 (a b : Vec Ideal S1x1024 .f32) (i) : k0_pay2 (F := Ideal) a b i = b i + a i := congrArg (· + a i) (congrFun (shapeCast_self b _) i)

variable (H : ∀ R, ((args m c).row R).Real)
include H

theorem final_16 : (dats m 0 c).arrAt 16 cfg0.N = gradY (args m c) := by
  refine (dats m 0 c).arrAt_eq_of_covers 16 _ (by decide +kernel) fun t hf y => ?_
  blk_simp
  have key : (tile m c t).dy y = gradY (args m c) (((View.whole main_v9_0).slice (win0_16.rect t)).emb y) := by
    obtain ⟨r, l, rfl⟩ : ∃ (r : Fin 192) (l : Fin 1024), y = ix2 r l := ⟨_, _, eq_ix2 y⟩
    have ee : (((View.whole main_v9_0).slice (win0_16.rect t)).emb (ix2 r l)) = ix2 (rowIx t r) l := by blk_ext [idx_16 t]
    rw [(tile_reads m c t H).dy r l, ee]
    rfl
  rw [after_16]
  exact key
theorem final_17 : (dats m 0 c).arrAt 17 cfg0.N = gradR (args m c) := by
  refine (dats m 0 c).arrAt_eq_of_covers 17 _ (by decide +kernel) fun t hf y => ?_
  blk_simp
  have key : (tile m c t).dr y = gradR (args m c) (((View.whole main_v9_1).slice (win0_17.rect t)).emb y) := by
    obtain ⟨r, l, rfl⟩ : ∃ (r : Fin 192) (l : Fin 1024), y = ix2 r l := ⟨_, _, eq_ix2 y⟩
    have ee : (((View.whole main_v9_1).slice (win0_17.rect t)).emb (ix2 r l)) = ix2 (rowIx t r) l := by blk_ext [idx_17 t]
    rw [(tile_reads m c t H).dr r l, ee]
    rfl
  rw [after_17]
  exact key
theorem final_18 : (dats m 0 c).arrAt 18 cfg0.N = gradK (args m c) := by
  refine (dats m 0 c).arrAt_eq_of_covers 18 _ (by decide +kernel) fun t hf y => ?_
  blk_simp
  have key : (tile m c t).dk y = gradK (args m c) (((View.whole main_v9_2).slice (win0_18.rect t)).emb y) := by
    obtain ⟨r, l, rfl⟩ : ∃ (r : Fin 192) (l : Fin 1024), y = ix2 r l := ⟨_, _, eq_ix2 y⟩
    have ee : (((View.whole main_v9_2).slice (win0_18.rect t)).emb (ix2 r l)) = ix2 (rowIx t r) l := by blk_ext [idx_18 t]
    rw [(tile_reads m c t H).dk r l, ee]
    rfl
  rw [after_18]
  exact key
theorem final_19 : (dats m 0 c).arrAt 19 cfg0.N = gradV (args m c) := by
  refine (dats m 0 c).arrAt_eq_of_covers 19 _ (by decide +kernel) fun t hf y => ?_
  blk_simp
  have key : (tile m c t).dv y = gradV (args m c) (((View.whole main_v9_3).slice (win0_19.rect t)).emb y) := by
    obtain ⟨r, l, rfl⟩ : ∃ (r : Fin 192) (l : Fin 1024), y = ix2 r l := ⟨_, _, eq_ix2 y⟩
    have ee : (((View.whole main_v9_3).slice (win0_19.rect t)).emb (ix2 r l)) = ix2 (rowIx t r) l := by blk_ext [idx_19 t]
    rw [(tile_reads m c t H).dv r l, ee]
    rfl
  rw [after_19]
  exact key
theorem final_20 : (dats m 0 c).arrAt 20 cfg0.N = gradG (args m c) := by
  refine (dats m 0 c).arrAt_eq_of_covers 20 _ (by decide +kernel) fun t hf y => ?_
  blk_simp
  have key : (tile m c t).dg y = gradG (args m c) (((View.whole main_v9_4).slice (win0_20.rect t)).emb y) := by
    obtain ⟨r, l, rfl⟩ : ∃ (r : Fin 192) (l : Fin 1024), y = ix2 r l := ⟨_, _, eq_ix2 y⟩
    have ee : (((View.whole main_v9_4).slice (win0_20.rect t)).emb (ix2 r l)) = ix2 (rowIx t r) l := by blk_ext [idx_20 t]
    rw [(tile_reads m c t H).dg r l, ee]
    rfl
  rw [after_20]
  exact key
theorem final_21 : (dats m 0 c).arrAt 21 cfg0.N = gradH (args m c) := by
  refine (dats m 0 c).arrAt_eq_of_covers 21 _ (by decide +kernel) fun t hf y => ?_
  blk_simp
  have key : (tile m c t).dh y = gradH (args m c) (((View.whole main_v9_5).slice (win0_21.rect t)).emb y) := by
    obtain ⟨r, l, rfl⟩ : ∃ (r : Fin 192) (l : Fin 1024), y = ix2 r l := ⟨_, _, eq_ix2 y⟩
    have ee : (((View.whole main_v9_5).slice (win0_21.rect t)).emb (ix2 r l)) = ix2 (rowIx t r) l := by blk_ext [idx_21 t]
    rw [(tile_reads m c t H).dh r l, ee]
    rfl
  rw [after_21]
  exact key

/-- The last point. -/
def lastPt : Fin cfg0.N := ⟨21, by rw [show cfg0.N = 22 from N_0]; omega⟩
omit H in
theorem whole_22 : (cfg0.win 22).WholeAt lastPt := by decide +kernel
omit H in
theorem whole_23 : (cfg0.win 23).WholeAt lastPt := by decide +kernel
omit H in
theorem whole_24 : (cfg0.win 24).WholeAt lastPt := by decide +kernel
omit H in
theorem whole_25 : (cfg0.win 25).WholeAt lastPt := by decide +kernel
omit H in
theorem whole_26 : (cfg0.win 26).WholeAt lastPt := by decide +kernel
omit H in
theorem whole_27 : (cfg0.win 27).WholeAt lastPt := by decide +kernel
theorem final_22 : (dats m 0 c).arrAt 22 cfg0.N = gradM (args m c) := by
  refine (dats m 0 c).arrAt_eq_of_after_last 22 lastPt whole_22 _ fun j => ?_
  rw [after_22]
  blk_simp
  obtain ⟨k, l, rfl⟩ : ∃ (k : Fin 1024) (l : Fin 1024), j = ix2 k l := ⟨_, _, eq_ix2 j⟩
  exact acc_total (S := S1024x1024) (fun n h => (tile m c ⟨n, h⟩).dwo) (k0_pay47 (F := Ideal)) (ix2 k l) (fun R => ((args m c).row R).out k * ((args m c).row R).dz l) (fun a b => add_47 a b _) (fun t => (tile_reads m c t H).dwo l k) lastPt rfl
theorem final_23 : (dats m 0 c).arrAt 23 cfg0.N = gradGW (args m c) := by
  refine (dats m 0 c).arrAt_eq_of_after_last 23 lastPt whole_23 _ fun j => ?_
  rw [after_23]
  blk_simp
  obtain ⟨q, l, rfl⟩ : ∃ (q : Fin 1) (l : Fin 1024), j = ix2 q l := ⟨_, _, eq_ix2 j⟩
  rw [Fin.fin_one_eq_zero q]
  exact acc_total (S := S1x1024) (fun n h => (tile m c ⟨n, h⟩).dgw) (k0_pay48 (F := Ideal)) (ix2 0 l) (fun R => ((args m c).row R).hat l * ((args m c).row R).dmix l) (fun a b => add_48 a b _) (fun t => (tile_reads m c t H).dgw l) lastPt rfl
theorem final_24 : (dats m 0 c).arrAt 24 cfg0.N = gradGB (args m c) := by
  refine (dats m 0 c).arrAt_eq_of_after_last 24 lastPt whole_24 _ fun j => ?_
  rw [after_24]
  blk_simp
  obtain ⟨q, l, rfl⟩ : ∃ (q : Fin 1) (l : Fin 1024), j = ix2 q l := ⟨_, _, eq_ix2 j⟩
  rw [Fin.fin_one_eq_zero q]
  exact acc_total (S := S1x1024) (fun n h => (tile m c ⟨n, h⟩).dgb) (k0_pay49 (F := Ideal)) (ix2 0 l) (fun R => ((args m c).row R).dmix l) (fun a b => add_49 a b _) (fun t => (tile_reads m c t H).dgb l) lastPt rfl
theorem final_25 : (dats m 0 c).arrAt 25 cfg0.N = gradRK (args m c) := by
  refine (dats m 0 c).arrAt_eq_of_after_last 25 lastPt whole_25 _ fun j => ?_
  rw [after_25]
  blk_simp
  obtain ⟨q, l, rfl⟩ : ∃ (q : Fin 1) (l : Fin 1024), j = ix2 q l := ⟨_, _, eq_ix2 j⟩
  rw [Fin.fin_one_eq_zero q]
  exact acc_total (S := S1x1024) (fun n h => (tile m c ⟨n, h⟩).drk) (k0_pay50 (F := Ideal)) (ix2 0 l) (fun R => ((args m c).row R).r l * ((args m c).row R).k l * ((args m c).row R).tb l) (fun a b => add_50 a b _) (fun t => (tile_reads m c t H).drk l) lastPt rfl
theorem final_26 : (dats m 0 c).arrAt 26 cfg0.N = gradLG (args m c) := by
  refine (dats m 0 c).arrAt_eq_of_after_last 26 lastPt whole_26 _ fun j => ?_
  rw [after_26]
  blk_simp
  obtain ⟨q, l, rfl⟩ : ∃ (q : Fin 1) (l : Fin 1024), j = ix2 q l := ⟨_, _, eq_ix2 j⟩
  rw [Fin.fin_one_eq_zero q]
  exact acc_total (S := S1x1024) (fun n h => (tile m c ⟨n, h⟩).dlg) (k0_pay1 (F := Ideal)) (ix2 0 l) (fun R => gainTerm ((args m c).row R).pre ((args m c).row R).d l) (fun a b => add_1 a b _) (fun t => (tile_reads m c t H).dlg l) lastPt rfl
theorem final_27 : (dats m 0 c).arrAt 27 cfg0.N = gradLB (args m c) := by
  refine (dats m 0 c).arrAt_eq_of_after_last 27 lastPt whole_27 _ fun j => ?_
  rw [after_27]
  blk_simp
  obtain ⟨q, l, rfl⟩ : ∃ (q : Fin 1) (l : Fin 1024), j = ix2 q l := ⟨_, _, eq_ix2 j⟩
  rw [Fin.fin_one_eq_zero q]
  exact acc_total (S := S1x1024) (fun n h => (tile m c ⟨n, h⟩).dlb) (k0_pay2 (F := Ideal)) (ix2 0 l) (fun R => ((args m c).row R).d l) (fun a b => add_2 a b _) (fun t => (tile_reads m c t H).dlb l) lastPt rfl

end Cert.Proof.Post
end
-- ==== Proof.PostRefSide.lean ====
module

public import proofs.«01_k».proof.Proof.PostArgs
public import proofs.«01_k».proof.Proof.Gen.PostRefIdeal.Read

@[expose] public section
set_option maxRecDepth 16384
noncomputable section
namespace Cert.Proof.Post
open Cert.PostRefIdeal Cert.PostRefIdeal.Gen Cert.Proof.Norm Idealize.ShloMosaic Idealize.ShloMosaic.TcCoe Idealize.SL.Sem

/-! The reference's operations of a row are the row functions. -/

/-- The place of a column in its head. -/
abbrev laneOf (l : Fin 1024) : Fin 64 := ⟨l.val % 64, by omega⟩
theorem colOf_laneOf (l : Fin 1024) : colOf (headOf l) (laneOf l) = l := Fin.ext (by show 64 * (l.val / 64) + l.val % 64 = l.val; omega)
theorem col_eq (h : Fin 16) (j : Fin 64) (q : h.val * 64 + j.val < 1024) : (⟨h.val * 64 + j.val, q⟩ : Fin 1024) = colOf h j := Fin.ext (by show h.val * 64 + j.val = 64 * h.val + j.val; omega)

variable (A : Args) (R : Fin 4224) (h : Fin 16) (j : Fin 64) (l : Fin 1024)

theorem ref_y : Read.val_main_v0 (F := Ideal) A.y (ix3 R h j) = (A.row R).y (colOf h j) := by
  pointwise [Read.val_main_v0]
  rw [col_eq]; rfl
theorem ref_r : Read.val_main_v1 (F := Ideal) A.r (ix3 R h j) = (A.row R).r (colOf h j) := by
  pointwise [Read.val_main_v1]
  rw [col_eq]; rfl
theorem ref_k : Read.val_main_v2 (F := Ideal) A.k (ix3 R h j) = (A.row R).k (colOf h j) := by
  pointwise [Read.val_main_v2]
  rw [col_eq]; rfl
theorem ref_v : Read.val_main_v3 (F := Ideal) A.v (ix3 R h j) = (A.row R).v (colOf h j) := by
  pointwise [Read.val_main_v3]
  rw [col_eq]; rfl
theorem ref_gw : Read.val_main_v23 (F := Ideal) A.gw (ix3 0 h j) = (A.row R).gw (colOf h j) := by
  pointwise [Read.val_main_v23]
  rw [col_eq]; rfl
theorem ref_gb : Read.val_main_v26 (F := Ideal) A.gb (ix3 0 h j) = (A.row R).gb (colOf h j) := by
  pointwise [Read.val_main_v26]
  rw [col_eq]; rfl
theorem ref_rk : Read.val_main_v30 (F := Ideal) A.rk (ix3 0 h j) = (A.row R).rk (colOf h j) := by
  pointwise [Read.val_main_v30]
  rw [col_eq]; rfl
theorem ref_cy : Read.val_main_v9 (F := Ideal) A.y (ix3 R h j) = (A.row R).cy (colOf h j) := by
  have e0 := ref_y A R
  unfold Read.val_main_v9 Read.val_main_v8 Read.val_main_v7 Read.val_main_v5 Read.val_main_v4
  generalize Read.val_main_v0 (F := Ideal) A.y = B0 at *
  pointwise [Read.val_main_v6, Read.val_main_cst, Read.val_main_cst_0]
  simp only [e0, div64]
  unfold Row.cy
  rw [headOf_colOf]
  rfl
theorem ref_vy : Read.val_main_v16 (F := Ideal) A.y (ix3 R h 0) = (A.row R).vy h := by
  have e0 := ref_cy A R
  unfold Read.val_main_v16 Read.val_main_v14 Read.val_main_v12 Read.val_main_v11 Read.val_main_v10
  generalize Read.val_main_v9 (F := Ideal) A.y = B0 at *
  pointwise [Read.val_main_v13, Read.val_main_v15, Read.val_main_cst_1, Read.val_main_cst_2, Read.val_main_cst_3]
  simp only [e0, div64]
  rfl
theorem ref_ry : Read.val_main_v17 (F := Ideal) A.y (ix3 R h 0) = (A.row R).ry h := by
  have e0 := ref_vy A R h
  unfold Read.val_main_v17
  generalize Read.val_main_v16 (F := Ideal) A.y = B0 at *
  pointwise []
  rw [e0]
  rfl
theorem ref_factor : Read.val_main_v20 (F := Ideal) A.y (ix3 R h 0) = minusHalf * Ideal.div ((A.row R).ry h) ((A.row R).vy h) := by
  have e0 := ref_vy A R h
  have e1 := ref_ry A R h
  unfold Read.val_main_v20 Read.val_main_v18
  generalize Read.val_main_v16 (F := Ideal) A.y = B0 at *
  generalize Read.val_main_v17 (F := Ideal) A.y = B1 at *
  pointwise [Read.val_main_v19, Read.val_main_cst_4]
  rw [e0, e1]
theorem ref_hat : Read.val_main_v22 (F := Ideal) A.y (ix3 R h j) = (A.row R).hat (colOf h j) := by
  have e0 := ref_cy A R h j
  have e1 := ref_ry A R h
  unfold Read.val_main_v22 Read.val_main_v21
  generalize Read.val_main_v9 (F := Ideal) A.y = B0 at *
  generalize Read.val_main_v17 (F := Ideal) A.y = B1 at *
  pointwise []
  rw [e0, e1]
  unfold Row.hat
  rw [headOf_colOf]
theorem ref_rk_sum : Read.val_main_v33 (F := Ideal) A.r A.k A.rk (ix2 R h) = headSum (fun l => (A.row R).r l * (A.row R).k l * (A.row R).rk l) h := by
  have e0 := ref_r A R
  have e1 := ref_k A R
  have e2 := ref_rk A R
  unfold Read.val_main_v33 Read.val_main_v32 Read.val_main_v31 Read.val_main_v29
  generalize Read.val_main_v1 (F := Ideal) A.r = B0 at *
  generalize Read.val_main_v2 (F := Ideal) A.k = B1 at *
  generalize Read.val_main_v30 (F := Ideal) A.rk = B2 at *
  pointwise [Read.val_main_cst_5]
  simp only [e0, e1, e2]
  rfl
theorem ref_mix3 : Read.val_main_v37 (F := Ideal) A.y A.r A.k A.v A.gw A.gb A.rk (ix3 R h j) = (A.row R).mix (colOf h j) := by
  have e0 := ref_hat A R h j
  have e1 := ref_gw A R h j
  have e2 := ref_gb A R h j
  have e3 := ref_rk_sum A R h
  have e4 := ref_v A R h j
  unfold Read.val_main_v37 Read.val_main_v36 Read.val_main_v35 Read.val_main_v34 Read.val_main_v28 Read.val_main_v27 Read.val_main_v25 Read.val_main_v24
  generalize Read.val_main_v22 (F := Ideal) A.y = B0 at *
  generalize Read.val_main_v23 (F := Ideal) A.gw = B1 at *
  generalize Read.val_main_v26 (F := Ideal) A.gb = B2 at *
  generalize Read.val_main_v33 (F := Ideal) A.r A.k A.rk = B3 at *
  generalize Read.val_main_v3 (F := Ideal) A.v = B4 at *
  pointwise []
  rw [e0, e1, e2, e3, e4]
  unfold Row.mix Row.bon
  rw [headOf_colOf]
theorem ref_mix : Read.val_main_v38 (F := Ideal) A.y A.r A.k A.v A.gw A.gb A.rk (ix2 R l) = (A.row R).mix l := by
  have e0 := ref_mix3 A R (headOf l) (laneOf l)
  unfold Read.val_main_v38
  generalize Read.val_main_v37 (F := Ideal) A.y A.r A.k A.v A.gw A.gb A.rk = B0 at *
  pointwise []
  exact e0.trans (by rw [colOf_laneOf])
theorem ref_out : Read.val_main_v39 (F := Ideal) A.y A.r A.k A.v A.g A.gw A.gb A.rk (ix2 R l) = (A.row R).out l := by
  have e0 := ref_mix A R l
  unfold Read.val_main_v39
  generalize Read.val_main_v38 (F := Ideal) A.y A.r A.k A.v A.gw A.gb A.rk = B0 at *
  pointwise []
  rw [e0]
  rfl
theorem ref_pre : Read.val_main_v43 (F := Ideal) A.y A.r A.k A.v A.g A.h A.wo A.gw A.gb A.rk (ix2 R l) = (A.row R).pre l := by
  have e0 := ref_out A R
  unfold Read.val_main_v43 Read.val_main_v42
  generalize Read.val_main_v39 (F := Ideal) A.y A.r A.k A.v A.g A.gw A.gb A.rk = B0 at *
  pointwise [Read.val_main_v41, Read.val_main_v40, Read.val_main_cst_6]
  simp only [e0]
  rfl
theorem ref_cot : Read.val_main_v70 (F := Ideal) A.z A.p (ix2 R l) = (A.row R).d l := by
  pointwise [Read.val_main_v70, Read.val_main_v69, Read.val_main_v68, Read.val_main_v67, Read.val_main_cst_13, Read.val_main_cst_14]
  rfl
theorem ref_cen : Read.val_main_v49 (F := Ideal) A.y A.r A.k A.v A.g A.h A.wo A.gw A.gb A.rk (ix2 R l) = cen (A.row R).pre l := by
  have e0 := ref_pre A R
  unfold Read.val_main_v49 Read.val_main_v48 Read.val_main_v47 Read.val_main_v45 Read.val_main_v44
  generalize Read.val_main_v43 (F := Ideal) A.y A.r A.k A.v A.g A.h A.wo A.gw A.gb A.rk = B0 at *
  pointwise [Read.val_main_v46, Read.val_main_cst_7, Read.val_main_cst_8]
  simp only [e0]
  rfl
theorem ref_spread : Read.val_main_v56 (F := Ideal) A.y A.r A.k A.v A.g A.h A.wo A.gw A.gb A.rk (ix2 R 0) = spread (A.row R).pre := by
  have e0 := ref_cen A R
  unfold Read.val_main_v56 Read.val_main_v54 Read.val_main_v52 Read.val_main_v51 Read.val_main_v50
  generalize Read.val_main_v49 (F := Ideal) A.y A.r A.k A.v A.g A.h A.wo A.gw A.gb A.rk = B0 at *
  pointwise [Read.val_main_v53, Read.val_main_v55, Read.val_main_cst_9, Read.val_main_cst_10, Read.val_main_cst_11]
  simp only [e0]
  rfl
theorem ref_scale : Read.val_main_v57 (F := Ideal) A.y A.r A.k A.v A.g A.h A.wo A.gw A.gb A.rk (ix2 R 0) = scale (A.row R).pre := by
  have e0 := ref_spread A R
  unfold Read.val_main_v57
  generalize Read.val_main_v56 (F := Ideal) A.y A.r A.k A.v A.g A.h A.wo A.gw A.gb A.rk = B0 at *
  pointwise []
  rw [e0]
  rfl
theorem ref_turn : Read.val_main_v60 (F := Ideal) A.y A.r A.k A.v A.g A.h A.wo A.gw A.gb A.rk (ix2 R 0) = minusHalf * Ideal.div (scale (A.row R).pre) (spread (A.row R).pre) := by
  have e0 := ref_spread A R
  have e1 := ref_scale A R
  unfold Read.val_main_v60 Read.val_main_v58
  generalize Read.val_main_v56 (F := Ideal) A.y A.r A.k A.v A.g A.h A.wo A.gw A.gb A.rk = B0 at *
  generalize Read.val_main_v57 (F := Ideal) A.y A.r A.k A.v A.g A.h A.wo A.gw A.gb A.rk = B1 at *
  pointwise [Read.val_main_v59, Read.val_main_cst_12]
  rw [e0, e1]
theorem ref_up : Read.val_main_v77 (F := Ideal) A.z A.p A.lg (ix2 R l) = (A.row R).d l * (A.row R).lg l := by
  have e0 := ref_cot A R l
  unfold Read.val_main_v77
  generalize Read.val_main_v70 (F := Ideal) A.z A.p = B0 at *
  pointwise [Read.val_main_v76]
  rw [e0]
  rfl
theorem ref_spreadGrad : Read.val_main_v87 (F := Ideal) A.z A.p A.y A.r A.k A.v A.g A.h A.wo A.gw A.gb A.rk A.lg (ix2 R l) = spreadGrad (A.row R).pre (A.row R).d (A.row R).lg := by
  have e0 := ref_cen A R
  have e1 := ref_up A R
  have e2 := ref_turn A R
  unfold Read.val_main_v87 Read.val_main_v86 Read.val_main_v85 Read.val_main_v83 Read.val_main_v80 Read.val_main_v79 Read.val_main_v78
  generalize Read.val_main_v49 (F := Ideal) A.y A.r A.k A.v A.g A.h A.wo A.gw A.gb A.rk = B0 at *
  generalize Read.val_main_v77 (F := Ideal) A.z A.p A.lg = B1 at *
  generalize Read.val_main_v60 (F := Ideal) A.y A.r A.k A.v A.g A.h A.wo A.gw A.gb A.rk = B2 at *
  pointwise [Read.val_main_v84, Read.val_main_cst_17, Read.val_main_cst_18, Read.val_main_cst_19]
  rw [Fin.sum_univ_one]
  simp only [e0, e1]
  rw [e2]
  rfl
theorem ref_cenGrad : Read.val_main_v91 (F := Ideal) A.z A.p A.y A.r A.k A.v A.g A.h A.wo A.gw A.gb A.rk A.lg (ix2 R l) = cenGrad (A.row R).pre (A.row R).d (A.row R).lg l := by
  have e0 := ref_cen A R l
  have e1 := ref_up A R l
  have e2 := ref_spreadGrad A R l
  have e3 := ref_scale A R
  unfold Read.val_main_v91 Read.val_main_v90 Read.val_main_v89 Read.val_main_v88 Read.val_main_v82 Read.val_main_v81
  generalize Read.val_main_v49 (F := Ideal) A.y A.r A.k A.v A.g A.h A.wo A.gw A.gb A.rk = B0 at *
  generalize Read.val_main_v77 (F := Ideal) A.z A.p A.lg = B1 at *
  generalize Read.val_main_v87 (F := Ideal) A.z A.p A.y A.r A.k A.v A.g A.h A.wo A.gw A.gb A.rk A.lg = B2 at *
  generalize Read.val_main_v57 (F := Ideal) A.y A.r A.k A.v A.g A.h A.wo A.gw A.gb A.rk = B3 at *
  pointwise []
  rw [e0, e1, e2, e3]
  rfl
theorem ref_dz : Read.val_main_v99 (F := Ideal) A.z A.p A.y A.r A.k A.v A.g A.h A.wo A.gw A.gb A.rk A.lg (ix2 R l) = (A.row R).dz l := by
  have e0 := ref_cenGrad A R
  unfold Read.val_main_v99 Read.val_main_v98 Read.val_main_v97 Read.val_main_v96 Read.val_main_v94 Read.val_main_v93 Read.val_main_v92
  generalize Read.val_main_v91 (F := Ideal) A.z A.p A.y A.r A.k A.v A.g A.h A.wo A.gw A.gb A.rk A.lg = B0 at *
  pointwise [Read.val_main_v95, Read.val_main_cst_20, Read.val_main_cst_21, Read.val_main_cst_22]
  rw [Fin.sum_univ_one]
  simp only [e0]
  rfl
theorem ref_dm : Read.val_main_v102 (F := Ideal) A.z A.p A.y A.r A.k A.v A.g A.h A.wo A.gw A.gb A.rk A.lg (ix2 R l) = (A.row R).dm l := by
  have e0 := ref_dz A R
  unfold Read.val_main_v102
  generalize Read.val_main_v99 (F := Ideal) A.z A.p A.y A.r A.k A.v A.g A.h A.wo A.gw A.gb A.rk A.lg = B0 at *
  pointwise []
  simp only [e0]
  rfl
theorem ref_dmix : Read.val_main_v107 (F := Ideal) A.z A.p A.y A.r A.k A.v A.g A.h A.wo A.gw A.gb A.rk A.lg (ix3 R h j) = (A.row R).dmix (colOf h j) := by
  have e0 := ref_dm A R
  unfold Read.val_main_v107 Read.val_main_v106
  generalize Read.val_main_v102 (F := Ideal) A.z A.p A.y A.r A.k A.v A.g A.h A.wo A.gw A.gb A.rk A.lg = B0 at *
  pointwise []
  rw [col_eq, e0]
  rfl
theorem ref_tb : Read.val_main_v114 (F := Ideal) A.z A.p A.y A.r A.k A.v A.g A.h A.wo A.gw A.gb A.rk A.lg (ix3 R h j) = (A.row R).tb (colOf h j) := by
  have e0 := ref_dmix A R
  have e1 := ref_v A R
  unfold Read.val_main_v114 Read.val_main_v113 Read.val_main_v112 Read.val_main_v111 Read.val_main_v110
  generalize Read.val_main_v107 (F := Ideal) A.z A.p A.y A.r A.k A.v A.g A.h A.wo A.gw A.gb A.rk A.lg = B0 at *
  generalize Read.val_main_v3 (F := Ideal) A.v = B1 at *
  pointwise [Read.val_main_cst_24, Read.val_main_cst_25]
  rw [Fin.sum_univ_one]
  simp only [e0, e1]
  unfold Row.tb
  rw [headOf_colOf]
  rfl
theorem ref_dn : Read.val_main_v130 (F := Ideal) A.z A.p A.y A.r A.k A.v A.g A.h A.wo A.gw A.gb A.rk A.lg (ix3 R h j) = (A.row R).dn (colOf h j) := by
  have e0 := ref_dmix A R h j
  have e1 := ref_gw A R h j
  unfold Read.val_main_v130 Read.val_main_v129
  generalize Read.val_main_v107 (F := Ideal) A.z A.p A.y A.r A.k A.v A.g A.h A.wo A.gw A.gb A.rk A.lg = B0 at *
  generalize Read.val_main_v23 (F := Ideal) A.gw = B1 at *
  pointwise []
  rw [e0, e1]
  rfl
theorem ref_q : Read.val_main_v141 (F := Ideal) A.z A.p A.y A.r A.k A.v A.g A.h A.wo A.gw A.gb A.rk A.lg (ix3 R h j) = (A.row R).q h := by
  have e0 := ref_cy A R
  have e1 := ref_dn A R
  have e2 := ref_factor A R h
  unfold Read.val_main_v141 Read.val_main_v140 Read.val_main_v139 Read.val_main_v137 Read.val_main_v134 Read.val_main_v133 Read.val_main_v132
  generalize Read.val_main_v9 (F := Ideal) A.y = B0 at *
  generalize Read.val_main_v130 (F := Ideal) A.z A.p A.y A.r A.k A.v A.g A.h A.wo A.gw A.gb A.rk A.lg = B1 at *
  generalize Read.val_main_v20 (F := Ideal) A.y = B2 at *
  pointwise [Read.val_main_v138, Read.val_main_cst_29, Read.val_main_cst_30, Read.val_main_cst_31]
  rw [Fin.sum_univ_one]
  simp only [e0, e1, div64]
  rw [e2]
  rfl
theorem ref_u : Read.val_main_v145 (F := Ideal) A.z A.p A.y A.r A.k A.v A.g A.h A.wo A.gw A.gb A.rk A.lg (ix3 R h j) = (A.row R).u (colOf h j) := by
  have e0 := ref_cy A R h j
  have e1 := ref_dn A R h j
  have e2 := ref_q A R h j
  have e3 := ref_ry A R h
  unfold Read.val_main_v145 Read.val_main_v144 Read.val_main_v143 Read.val_main_v142 Read.val_main_v136 Read.val_main_v135
  generalize Read.val_main_v9 (F := Ideal) A.y = B0 at *
  generalize Read.val_main_v130 (F := Ideal) A.z A.p A.y A.r A.k A.v A.g A.h A.wo A.gw A.gb A.rk A.lg = B1 at *
  generalize Read.val_main_v141 (F := Ideal) A.z A.p A.y A.r A.k A.v A.g A.h A.wo A.gw A.gb A.rk A.lg = B2 at *
  generalize Read.val_main_v17 (F := Ideal) A.y = B3 at *
  pointwise []
  rw [e0, e1, e2, e3]
  unfold Row.u
  rw [headOf_colOf]
theorem ref_dy3 : Read.val_main_v153 (F := Ideal) A.z A.p A.y A.r A.k A.v A.g A.h A.wo A.gw A.gb A.rk A.lg (ix3 R h j) = (A.row R).dy (colOf h j) := by
  have e0 := ref_u A R
  unfold Read.val_main_v153 Read.val_main_v152 Read.val_main_v151 Read.val_main_v150 Read.val_main_v148 Read.val_main_v147 Read.val_main_v146
  generalize Read.val_main_v145 (F := Ideal) A.z A.p A.y A.r A.k A.v A.g A.h A.wo A.gw A.gb A.rk A.lg = B0 at *
  pointwise [Read.val_main_v149, Read.val_main_cst_32, Read.val_main_cst_33, Read.val_main_cst_34]
  rw [Fin.sum_univ_one]
  simp only [e0, div64]
  unfold Row.dy
  rw [headOf_colOf]
  rfl
theorem ref_dy : Read.val_main_v157 (F := Ideal) A.z A.p A.y A.r A.k A.v A.g A.h A.wo A.gw A.gb A.rk A.lg (ix2 R l) = (A.row R).dy l := by
  have e0 := ref_dy3 A R (headOf l) (laneOf l)
  unfold Read.val_main_v157
  generalize Read.val_main_v153 (F := Ideal) A.z A.p A.y A.r A.k A.v A.g A.h A.wo A.gw A.gb A.rk A.lg = B0 at *
  pointwise []
  exact e0.trans (by rw [colOf_laneOf])
theorem ref_dr : Read.val_main_v156 (F := Ideal) A.z A.p A.y A.r A.k A.v A.g A.h A.wo A.gw A.gb A.rk A.lg (ix2 R l) = (A.row R).tb l * (A.row R).rk l * (A.row R).k l := by
  have e0 := ref_tb A R (headOf l) (laneOf l)
  have e1 := ref_rk A R (headOf l) (laneOf l)
  have e2 := ref_k A R (headOf l) (laneOf l)
  unfold Read.val_main_v156 Read.val_main_v122 Read.val_main_v119 Read.val_main_v118
  generalize Read.val_main_v114 (F := Ideal) A.z A.p A.y A.r A.k A.v A.g A.h A.wo A.gw A.gb A.rk A.lg = B0 at *
  generalize Read.val_main_v30 (F := Ideal) A.rk = B1 at *
  generalize Read.val_main_v2 (F := Ideal) A.k = B2 at *
  pointwise []
  rw [e0, e1, e2, colOf_laneOf]
theorem ref_dk : Read.val_main_v155 (F := Ideal) A.z A.p A.y A.r A.k A.v A.g A.h A.wo A.gw A.gb A.rk A.lg (ix2 R l) = (A.row R).r l * ((A.row R).tb l * (A.row R).rk l) := by
  have e0 := ref_tb A R (headOf l) (laneOf l)
  have e1 := ref_rk A R (headOf l) (laneOf l)
  have e2 := ref_r A R (headOf l) (laneOf l)
  unfold Read.val_main_v155 Read.val_main_v121 Read.val_main_v119 Read.val_main_v118
  generalize Read.val_main_v114 (F := Ideal) A.z A.p A.y A.r A.k A.v A.g A.h A.wo A.gw A.gb A.rk A.lg = B0 at *
  generalize Read.val_main_v30 (F := Ideal) A.rk = B1 at *
  generalize Read.val_main_v1 (F := Ideal) A.r = B2 at *
  pointwise []
  rw [e0, e1, e2, colOf_laneOf]
theorem ref_dv : Read.val_main_v154 (F := Ideal) A.z A.p A.y A.r A.k A.v A.g A.h A.wo A.gw A.gb A.rk A.lg (ix2 R l) = (A.row R).bon l * (A.row R).dmix l := by
  have e0 := ref_dmix A R (headOf l) (laneOf l)
  have e1 := ref_rk_sum A R (headOf l)
  unfold Read.val_main_v154 Read.val_main_v109 Read.val_main_v108 Read.val_main_v34
  generalize Read.val_main_v107 (F := Ideal) A.z A.p A.y A.r A.k A.v A.g A.h A.wo A.gw A.gb A.rk A.lg = B0 at *
  generalize Read.val_main_v33 (F := Ideal) A.r A.k A.rk = B1 at *
  pointwise []
  rw [e0, e1, colOf_laneOf]
  rfl
theorem ref_dg : Read.val_main_v105 (F := Ideal) A.z A.p A.y A.r A.k A.v A.g A.h A.wo A.gw A.gb A.rk A.lg (ix2 R l) = (A.row R).mix l * (A.row R).dm l := by
  have e0 := ref_mix A R l
  have e1 := ref_dm A R l
  unfold Read.val_main_v105
  generalize Read.val_main_v38 (F := Ideal) A.y A.r A.k A.v A.gw A.gb A.rk = B0 at *
  generalize Read.val_main_v102 (F := Ideal) A.z A.p A.y A.r A.k A.v A.g A.h A.wo A.gw A.gb A.rk A.lg = B1 at *
  pointwise []
  rw [e0, e1]
theorem ref_dh : Read.val_main_v104 (F := Ideal) A.z A.p A.y A.r A.k A.v A.g A.h A.wo A.gw A.gb A.rk A.lg (ix2 R l) = alpha * (A.row R).dz l := by
  have e0 := ref_dz A R l
  unfold Read.val_main_v104
  generalize Read.val_main_v99 (F := Ideal) A.z A.p A.y A.r A.k A.v A.g A.h A.wo A.gw A.gb A.rk A.lg = B0 at *
  pointwise [Read.val_main_v103, Read.val_main_cst_23]
  rw [e0]
theorem ref_wo (k : Fin 1024) : Read.val_main_v101 (F := Ideal) A.z A.p A.y A.r A.k A.v A.g A.h A.wo A.gw A.gb A.rk A.lg (ix2 k l) = ∑ R : Fin 4224, (A.row R).out k * (A.row R).dz l := by
  have e0 := fun R => ref_dz A R l
  have e1 := fun R => ref_out A R k
  unfold Read.val_main_v101 Read.val_main_v100
  generalize Read.val_main_v99 (F := Ideal) A.z A.p A.y A.r A.k A.v A.g A.h A.wo A.gw A.gb A.rk A.lg = B0 at *
  generalize Read.val_main_v39 (F := Ideal) A.y A.r A.k A.v A.g A.gw A.gb A.rk = B1 at *
  pointwise []
  simp only [e0, e1]
  exact Finset.sum_congr rfl fun R _ => mul_comm _ _
theorem ref_dgw : Read.val_main_v131 (F := Ideal) A.z A.p A.y A.r A.k A.v A.g A.h A.wo A.gw A.gb A.rk A.lg (ix2 0 l) = ∑ R : Fin 4224, (A.row R).hat l * (A.row R).dmix l := by
  have e0 := fun R => ref_hat A R (headOf l) (laneOf l)
  have e1 := fun R => ref_dmix A R (headOf l) (laneOf l)
  unfold Read.val_main_v131 Read.val_main_v128 Read.val_main_v127 Read.val_main_v126
  generalize Read.val_main_v22 (F := Ideal) A.y = B0 at *
  generalize Read.val_main_v107 (F := Ideal) A.z A.p A.y A.r A.k A.v A.g A.h A.wo A.gw A.gb A.rk A.lg = B1 at *
  pointwise [Read.val_main_cst_28]
  simp only [colOf_laneOf] at e0 e1
  exact Finset.sum_congr rfl fun R _ => by rw [← e0, ← e1]
theorem ref_dgb : Read.val_main_v125 (F := Ideal) A.z A.p A.y A.r A.k A.v A.g A.h A.wo A.gw A.gb A.rk A.lg (ix2 0 l) = ∑ R : Fin 4224, (A.row R).dmix l := by
  have e0 := fun R => ref_dmix A R (headOf l) (laneOf l)
  unfold Read.val_main_v125 Read.val_main_v124 Read.val_main_v123
  generalize Read.val_main_v107 (F := Ideal) A.z A.p A.y A.r A.k A.v A.g A.h A.wo A.gw A.gb A.rk A.lg = B0 at *
  pointwise [Read.val_main_cst_27]
  simp only [colOf_laneOf] at e0
  exact Finset.sum_congr rfl fun R _ => by rw [← e0]
theorem ref_drk : Read.val_main_v120 (F := Ideal) A.z A.p A.y A.r A.k A.v A.g A.h A.wo A.gw A.gb A.rk A.lg (ix2 0 l) = ∑ R : Fin 4224, (A.row R).r l * (A.row R).k l * (A.row R).tb l := by
  have e0 := fun R => ref_r A R (headOf l) (laneOf l)
  have e1 := fun R => ref_k A R (headOf l) (laneOf l)
  have e2 := fun R => ref_tb A R (headOf l) (laneOf l)
  unfold Read.val_main_v120 Read.val_main_v117 Read.val_main_v116 Read.val_main_v115 Read.val_main_v29
  generalize Read.val_main_v1 (F := Ideal) A.r = B0 at *
  generalize Read.val_main_v2 (F := Ideal) A.k = B1 at *
  generalize Read.val_main_v114 (F := Ideal) A.z A.p A.y A.r A.k A.v A.g A.h A.wo A.gw A.gb A.rk A.lg = B2 at *
  pointwise [Read.val_main_cst_26]
  simp only [colOf_laneOf] at e0 e1 e2
  exact Finset.sum_congr rfl fun R _ => by rw [← e0, ← e1, ← e2]
theorem ref_gain : Read.val_main_v75 (F := Ideal) A.z A.p A.y A.r A.k A.v A.g A.h A.wo A.gw A.gb A.rk (ix2 0 l) = ∑ R : Fin 4224, gainTerm (A.row R).pre (A.row R).d l := by
  have e0 := fun R => ref_cen A R l
  have e1 := fun R => ref_scale A R
  have e2 := fun R => ref_cot A R l
  unfold Read.val_main_v75 Read.val_main_v74 Read.val_main_v73 Read.val_main_v62 Read.val_main_v61
  generalize Read.val_main_v49 (F := Ideal) A.y A.r A.k A.v A.g A.h A.wo A.gw A.gb A.rk = B0 at *
  generalize Read.val_main_v57 (F := Ideal) A.y A.r A.k A.v A.g A.h A.wo A.gw A.gb A.rk = B1 at *
  generalize Read.val_main_v70 (F := Ideal) A.z A.p = B2 at *
  pointwise [Read.val_main_cst_16]
  simp only [e0, e1, e2]
  rfl
theorem ref_bias : Read.val_main_v72 (F := Ideal) A.z A.p (ix2 0 l) = ∑ R : Fin 4224, (A.row R).d l := by
  have e0 := fun R => ref_cot A R l
  unfold Read.val_main_v72 Read.val_main_v71
  generalize Read.val_main_v70 (F := Ideal) A.z A.p = B0 at *
  pointwise [Read.val_main_cst_15]
  simp only [e0]

end Cert.Proof.Post
end
-- ==== Proof.PostClaims.lean ====
module

public import proofs.«01_k».proof.Defs
public import proofs.«01_k».proof.Proof.PostArrays
public import proofs.«01_k».proof.Proof.PostRefSide
public import proofs.«01_k».proof.Proof.SwaTail
public import proofs.«01_k».proof.Proof.Gen.Post.Launch
public import proofs.«01_k».proof.Proof.Gen.PostRefIdeal.Run

@[expose] public section

set_option maxRecDepth 16384

noncomputable section

namespace Cert.Proof.Post

open Cert.PostIdeal Cert.PostIdeal.Gen Idealize.ShloMosaic Idealize.ShloMosaic.TcCoe Idealize.SL.Sem

/-- The printed precondition's side conditions. -/
theorem pre_facts : Cert.Pre_finite_post.Facts where
  bcast_S_S4224x1024 := by decide
  reducesTo_S4224x1024_S_d0_1 := by decide
  h_S_ := by decide
  bcast_S_S4x4224x1024 := by decide
  reducesTo_S4x4224x1024_S_d0_1_2 := by decide
  bcast_S_S1024x1024 := by decide
  reducesTo_S1024x1024_S_d0_1 := by decide
  bcast_S_S1x1024 := by decide
  reducesTo_S1x1024_S_d0_1 := by decide

theorem real_of_all {S : Shape} (x : FVec Ideal S .f32) {axes : List (Fin S.rank)} (hb : Cert.Pre_finite_post.S_.BroadcastsInDim S (![] : Fin 0 → Fin S.rank))
    (hr : S.ReducesTo axes Cert.Pre_finite_post.S_) (hu : 0 < Cert.Pre_finite_post.S_.numel) (j : Cert.Pre_finite_post.S_.Idx)
    (h : Host.reduce IntOp.andi (cmpf .olt (Host.absf x) (broadcastInDim S ![] hb (constant (F := Ideal) Cert.Pre_finite_post.S_ .f32 0x7F800000#32))) (constantI Cert.Pre_finite_post.S_ 1 1#1) hr hu j = 1#1) (i : S.Idx) : Re (x i) :=
  Swa.real_of_abs (x i) (Host.reduce_andi_all _ _ hr hu j h i)

/-- The precondition says that every row of the arguments is made of real numbers. -/
theorem rows_real (A : Args) (b : Vec Ideal S1x1024 .f32)
    (h : @Cert.Pre_finite_post.fn pre_facts Ideal _ A.z A.p A.y A.r A.k A.v A.g A.h A.wo A.gw A.gb A.rk A.lg b = fun _ => 1#1) (R : Fin 4224) : (A.row R).Real := by
  have h0 := congrFun h (Shape.Idx.first pre_facts.h_S_)
  dsimp only [Cert.Pre_finite_post.fn, Cert.Pre_finite_post.fn_part1, Cert.Pre_finite_post.fn_part2, Cert.Pre_finite_post.fn_part3] at h0
  obtain ⟨h0, h_lg⟩ := Swa.and_one _ _ h0
  obtain ⟨h0, h_rk⟩ := Swa.and_one _ _ h0
  obtain ⟨h0, h_gb⟩ := Swa.and_one _ _ h0
  obtain ⟨h0, h_gw⟩ := Swa.and_one _ _ h0
  obtain ⟨h0, h_wo⟩ := Swa.and_one _ _ h0
  obtain ⟨h0, h_h⟩ := Swa.and_one _ _ h0
  obtain ⟨h0, h_g⟩ := Swa.and_one _ _ h0
  obtain ⟨h0, h_v⟩ := Swa.and_one _ _ h0
  obtain ⟨h0, h_k⟩ := Swa.and_one _ _ h0
  obtain ⟨h0, h_r⟩ := Swa.and_one _ _ h0
  obtain ⟨h0, h_y⟩ := Swa.and_one _ _ h0
  obtain ⟨h_z, h_p⟩ := Swa.and_one _ _ h0
  exact {
    y := fun l => real_of_all _ _ _ _ _ h_y _
    r := fun l => real_of_all _ _ _ _ _ h_r _
    k := fun l => real_of_all _ _ _ _ _ h_k _
    v := fun l => real_of_all _ _ _ _ _ h_v _
    g := fun l => real_of_all _ _ _ _ _ h_g _
    h := fun l => real_of_all _ _ _ _ _ h_h _
    d := fun l => (alpha_re.mul (real_of_all _ _ _ _ _ h_z _)).add (Re.sum fun q => real_of_all _ _ _ _ _ h_p _)
    wo := fun k l => real_of_all _ _ _ _ _ h_wo _
    gw := fun l => real_of_all _ _ _ _ _ h_gw _
    gb := fun l => real_of_all _ _ _ _ _ h_gb _
    rk := fun l => real_of_all _ _ _ _ _ h_rk _
    lg := fun l => real_of_all _ _ _ _ _ h_lg _ }

/-! The reference's twelve results, as arrays. -/

/-- Arrays of two axes that agree at every place are equal; so are rows. -/
theorem arr_ext {n k : ℕ} {f g : Vec Ideal (⟨2, ![n, k]⟩ : Shape) .f32} (h : ∀ a b, f (ix2 a b) = g (ix2 a b)) : f = g := funext fun i => by
  have e := h (i 0) (i 1)
  rwa [ix2_eta] at e
theorem row_ext {k : ℕ} {f g : Vec Ideal (⟨2, ![1, k]⟩ : Shape) .f32} (h : ∀ b, f (ix2 0 b) = g (ix2 0 b)) : f = g :=
  arr_ext fun a b => by rw [Subsingleton.elim a 0]; exact h b

section Arrays
variable (A : Args)
open Cert.PostRefIdeal.Read
theorem arr_dy : val_main_v157 (F := Ideal) A.z A.p A.y A.r A.k A.v A.g A.h A.wo A.gw A.gb A.rk A.lg = gradY A := arr_ext fun R l => ref_dy A R l
theorem arr_dr : val_main_v156 (F := Ideal) A.z A.p A.y A.r A.k A.v A.g A.h A.wo A.gw A.gb A.rk A.lg = gradR A := arr_ext fun R l => ref_dr A R l
theorem arr_dk : val_main_v155 (F := Ideal) A.z A.p A.y A.r A.k A.v A.g A.h A.wo A.gw A.gb A.rk A.lg = gradK A := arr_ext fun R l => ref_dk A R l
theorem arr_dv : val_main_v154 (F := Ideal) A.z A.p A.y A.r A.k A.v A.g A.h A.wo A.gw A.gb A.rk A.lg = gradV A := arr_ext fun R l => ref_dv A R l
theorem arr_dg : val_main_v105 (F := Ideal) A.z A.p A.y A.r A.k A.v A.g A.h A.wo A.gw A.gb A.rk A.lg = gradG A := arr_ext fun R l => ref_dg A R l
theorem arr_dh : val_main_v104 (F := Ideal) A.z A.p A.y A.r A.k A.v A.g A.h A.wo A.gw A.gb A.rk A.lg = gradH A := arr_ext fun R l => ref_dh A R l
theorem arr_wo : val_main_v101 (F := Ideal) A.z A.p A.y A.r A.k A.v A.g A.h A.wo A.gw A.gb A.rk A.lg = gradM A := arr_ext fun k l => ref_wo A l k
theorem arr_dgw : val_main_v131 (F := Ideal) A.z A.p A.y A.r A.k A.v A.g A.h A.wo A.gw A.gb A.rk A.lg = gradGW A := row_ext fun l => ref_dgw A l
theorem arr_dgb : val_main_v125 (F := Ideal) A.z A.p A.y A.r A.k A.v A.g A.h A.wo A.gw A.gb A.rk A.lg = gradGB A := row_ext fun l => ref_dgb A l
theorem arr_drk : val_main_v120 (F := Ideal) A.z A.p A.y A.r A.k A.v A.g A.h A.wo A.gw A.gb A.rk A.lg = gradRK A := row_ext fun l => ref_drk A l
theorem arr_gain : val_main_v75 (F := Ideal) A.z A.p A.y A.r A.k A.v A.g A.h A.wo A.gw A.gb A.rk = gradLG A := row_ext fun l => ref_gain A l
theorem arr_bias : val_main_v72 (F := Ideal) A.z A.p = gradLB A := row_ext fun l => ref_bias A l
end Arrays

/-- The call with its host lines: it ends without fault, its argument arrays and its counters as they were. -/
theorem frame_ideal : Cert.quiescent_PostIdeal := fun m ρ _ =>
  (θ_run Cert.PostIdeal.defs _ _).mono (fun _ h => h) (frame_any (F := Ideal) m ρ)

/-- The same over the machine's floats. -/
def FrameBits : Prop := ∀ (m : (ℓ : Loc nD τ sig) → Buf (Elt Bits) ℓ) (ρ : Dev nD → PrngReg), True →
  θ_run (defs (F := Bits)) (onTc (τ := τ) (main (F := Bits))) ⟨m, fun _ => 0, ρ⟩ (fun r => Kept m r.2.mem ∧ r.2.sem = fun _ => 0)

/-- The printed kernel and the printed ideal kernel are one text, so the claims on them are one. -/
theorem same_text : Cert.quiescent_Post = FrameBits := by sl_kernel_rfl

theorem frame_kernel : Cert.quiescent_Post := by
  rw [same_text]; exact fun m ρ _ => frame_any (F := Bits) m ρ

/-- The reference ends without fault, its argument arrays and its counters as they were. -/
theorem frame_reference : Cert.quiescent_PostRefIdeal := fun m ρ _ =>
  (θ_run _ _ _).mono (fun r h => ⟨fun c => (h c).2.2.2.2.2.2.2.2.2.2.2.2, sem_eq_zero_of_no_sems (by decide) r.2⟩) (Cert.PostRefIdeal.Value.run m ρ)

/-- The two frames again, from memories whose arguments are finite. -/
theorem frame_ideal_pre : @Cert.quiescent_PostIdeal_pre_finite_post Cert.PostIdeal.Gen.facts pre_facts := fun m ρ _ => frame_ideal m ρ trivial

theorem frame_reference_pre : @Cert.quiescent_PostRefIdeal_pre_finite_post Cert.PostRefIdeal.Gen.facts pre_facts := fun m ρ _ => frame_reference m ρ trivial

/-! What the run leaves in each of the twelve results. -/
section Results
variable {m : (ℓ : Loc nD τ sig) → Buf (Elt Ideal) ℓ} {r : PUnit × MemSt nD τ sig (Elt Ideal)} (h : Pipeline.FramePost cfgs (dats m) 0 (V m) r) (c : Dev nD) (H : ∀ R, ((args m c).row R).Real)
include h H
theorem result_0 : r.2.mem ((c.tc : Thread nD τ).loc main_v9_0) = gradY (args m c) := ((h c).1 16).trans (final_16 m c H)
theorem result_1 : r.2.mem ((c.tc : Thread nD τ).loc main_v9_1) = gradR (args m c) := ((h c).1 17).trans (final_17 m c H)
theorem result_2 : r.2.mem ((c.tc : Thread nD τ).loc main_v9_2) = gradK (args m c) := ((h c).1 18).trans (final_18 m c H)
theorem result_3 : r.2.mem ((c.tc : Thread nD τ).loc main_v9_3) = gradV (args m c) := ((h c).1 19).trans (final_19 m c H)
theorem result_4 : r.2.mem ((c.tc : Thread nD τ).loc main_v9_4) = gradG (args m c) := ((h c).1 20).trans (final_20 m c H)
theorem result_5 : r.2.mem ((c.tc : Thread nD τ).loc main_v9_5) = gradH (args m c) := ((h c).1 21).trans (final_21 m c H)
theorem result_6 : r.2.mem ((c.tc : Thread nD τ).loc main_v9_6) = gradM (args m c) := ((h c).1 22).trans (final_22 m c H)
theorem result_7 : r.2.mem ((c.tc : Thread nD τ).loc main_v9_7) = gradGW (args m c) := ((h c).1 23).trans (final_23 m c H)
theorem result_8 : r.2.mem ((c.tc : Thread nD τ).loc main_v9_8) = gradGB (args m c) := ((h c).1 24).trans (final_24 m c H)
theorem result_9 : r.2.mem ((c.tc : Thread nD τ).loc main_v9_9) = gradRK (args m c) := ((h c).1 25).trans (final_25 m c H)
theorem result_10 : r.2.mem ((c.tc : Thread nD τ).loc main_v9_10) = gradLG (args m c) := ((h c).1 26).trans (final_26 m c H)
theorem result_11 : r.2.mem ((c.tc : Thread nD τ).loc main_v9_11) = gradLB (args m c) := ((h c).1 27).trans (final_27 m c H)
end Results

/-- Finite arguments: the call's twelve gradients are the reference's. -/
theorem values : @Cert.algebraic_PostIdeal_PostRefIdeal_pre_finite_post Cert.PostIdeal.Gen.facts Cert.PostRefIdeal.Gen.facts pre_facts := fun m ρ m' ρ' hpre hag => by
  have H := fun c => rows_real (args m c) _ (hpre c)
  refine ⟨fun c => gradY (args m c), fun c => gradR (args m c), fun c => gradK (args m c), fun c => gradV (args m c), fun c => gradG (args m c), fun c => gradH (args m c), fun c => gradM (args m c), fun c => gradGW (args m c), fun c => gradGB (args m c), fun c => gradRK (args m c), fun c => gradLG (args m c), fun c => gradLB (args m c), ?_, ?_⟩
  · refine (θ_run _ _ _).mono (fun r h c => ?_) (θ_run_and (run_arrays m ρ) (unchanged m ρ))
    exact ⟨result_0 h.1 c (H c), result_1 h.1 c (H c), result_2 h.1 c (H c), result_3 h.1 c (H c), result_4 h.1 c (H c), result_5 h.1 c (H c), result_6 h.1 c (H c), result_7 h.1 c (H c), result_8 h.1 c (H c), result_9 h.1 c (H c), result_10 h.1 c (H c), result_11 h.1 c (H c), h.2 c⟩
  · refine (θ_run _ _ _).mono (fun r h c => ?_) (Cert.PostRefIdeal.Value.run m' ρ')
    obtain ⟨e0, e1, e2, e3, e4, e5, e6, e7, e8, e9, e10, e11, e12, e13⟩ := hag c
    obtain ⟨h0, h1, h2, h3, h4, h5, h6, h7, h8, h9, h10, h11, kept⟩ := h c
    refine ⟨h0.trans ?_, h1.trans ?_, h2.trans ?_, h3.trans ?_, h4.trans ?_, h5.trans ?_, h6.trans ?_, h7.trans ?_, h8.trans ?_, h9.trans ?_, h10.trans ?_, h11.trans ?_, kept⟩
    · refine (Cert.PostRefIdeal.Read.val_main_v157_eq _).trans (Eq.trans ?_ (arr_dy (args m c))); exact congr (congr (congr (congr (congr (congr (congr (congr (congr (congr (congr (congr (congrArg _ e0) e1) e2) e3) e4) e5) e6) e7) e8) e9) e10) e11) e12
    · refine (Cert.PostRefIdeal.Read.val_main_v156_eq _).trans (Eq.trans ?_ (arr_dr (args m c))); exact congr (congr (congr (congr (congr (congr (congr (congr (congr (congr (congr (congr (congrArg _ e0) e1) e2) e3) e4) e5) e6) e7) e8) e9) e10) e11) e12
    · refine (Cert.PostRefIdeal.Read.val_main_v155_eq _).trans (Eq.trans ?_ (arr_dk (args m c))); exact congr (congr (congr (congr (congr (congr (congr (congr (congr (congr (congr (congr (congrArg _ e0) e1) e2) e3) e4) e5) e6) e7) e8) e9) e10) e11) e12
    · refine (Cert.PostRefIdeal.Read.val_main_v154_eq _).trans (Eq.trans ?_ (arr_dv (args m c))); exact congr (congr (congr (congr (congr (congr (congr (congr (congr (congr (congr (congr (congrArg _ e0) e1) e2) e3) e4) e5) e6) e7) e8) e9) e10) e11) e12
    · refine (Cert.PostRefIdeal.Read.val_main_v105_eq _).trans (Eq.trans ?_ (arr_dg (args m c))); exact congr (congr (congr (congr (congr (congr (congr (congr (congr (congr (congr (congr (congrArg _ e0) e1) e2) e3) e4) e5) e6) e7) e8) e9) e10) e11) e12
    · refine (Cert.PostRefIdeal.Read.val_main_v104_eq _).trans (Eq.trans ?_ (arr_dh (args m c))); exact congr (congr (congr (congr (congr (congr (congr (congr (congr (congr (congr (congr (congrArg _ e0) e1) e2) e3) e4) e5) e6) e7) e8) e9) e10) e11) e12
    · refine (Cert.PostRefIdeal.Read.val_main_v101_eq _).trans (Eq.trans ?_ (arr_wo (args m c))); exact congr (congr (congr (congr (congr (congr (congr (congr (congr (congr (congr (congr (congrArg _ e0) e1) e2) e3) e4) e5) e6) e7) e8) e9) e10) e11) e12
    · refine (Cert.PostRefIdeal.Read.val_main_v131_eq _).trans (Eq.trans ?_ (arr_dgw (args m c))); exact congr (congr (congr (congr (congr (congr (congr (congr (congr (congr (congr (congr (congrArg _ e0) e1) e2) e3) e4) e5) e6) e7) e8) e9) e10) e11) e12
    · refine (Cert.PostRefIdeal.Read.val_main_v125_eq _).trans (Eq.trans ?_ (arr_dgb (args m c))); exact congr (congr (congr (congr (congr (congr (congr (congr (congr (congr (congr (congr (congrArg _ e0) e1) e2) e3) e4) e5) e6) e7) e8) e9) e10) e11) e12
    · refine (Cert.PostRefIdeal.Read.val_main_v120_eq _).trans (Eq.trans ?_ (arr_drk (args m c))); exact congr (congr (congr (congr (congr (congr (congr (congr (congr (congr (congr (congr (congrArg _ e0) e1) e2) e3) e4) e5) e6) e7) e8) e9) e10) e11) e12
    · refine (Cert.PostRefIdeal.Read.val_main_v75_eq _).trans (Eq.trans ?_ (arr_gain (args m c))); exact congr (congr (congr (congr (congr (congr (congr (congr (congr (congr (congr (congrArg _ e0) e1) e2) e3) e4) e5) e6) e7) e8) e9) e10) e11
    · refine (Cert.PostRefIdeal.Read.val_main_v72_eq _).trans (Eq.trans ?_ (arr_bias (args m c))); exact congr (congrArg _ e0) e1

end Cert.Proof.Post
end
-- ==== Proof.H0Tile.lean ====
module

public import proofs.«01_k».proof.Proof.Gen.H0Ideal.Value
public import Idealize.ShloMosaic.Lib.Claim
public import Idealize.ShloMosaic.Lib.Tactic
public import Idealize.ShloMosaic.Lib.Pointwise
public import Idealize.ShloMosaic.Lib.KernelVsHost

@[expose] public section
set_option maxRecDepth 16384
noncomputable section
namespace Cert.Proof.H0
open Cert.H0Ideal Cert.H0Ideal.Gen Idealize.ShloMosaic Idealize.ShloMosaic.TcCoe

/-! One tile of the sum: the two gradients that arrive at a row, and the shifted gradient of the row after it. -/

variable (i : grid0.Coords) (a b d : Vec Ideal S384x1024 .f32) (e : Vec Ideal S8x1024 .f32)

/-- The tile moved up by one row. -/
abbrev turned (d : Vec Ideal S384x1024 .f32) : FVec Ideal S384x1024 .f32 := dynamicRotate 0 383#32 none d rotates_S384x1024_d0

theorem turned_at (r s : Fin 384) (l : Fin 1024) (h : s.val = r.val + 1) : turned d (ix2 r l) = d (ix2 s l) := by
  refine dynamicRotate_apply _ _ d _ _ _ fun x => ?_
  match x with
  | ⟨0, _⟩ =>
    have := s.isLt
    show s.val = (r.val + 384 - 383 % 384) % 384
    omega
  | ⟨1, _⟩ => rfl

/-- The first row of the tile after this one, or nothing at the last tile. -/
def after (i : grid0.Coords) (e : Vec Ideal S8x1024 .f32) (l : Fin 1024) : EReal :=
  e (ix2 0 l) * Scalar.sitofp (F := Ideal) .f32 (Scalar.extui (Scalar.cmpi .slt (BitVec.ofNat 32 (i 1).val) 10#32))

theorem top_row (q : Fin 8) : IntOp.cmpi .eq (BitVec.ofNat 32 q.val) 0#32 = if q = 0 then 1#1 else 0#1 := by
  revert q; decide
theorem last_row (r : Fin 384) : IntOp.cmpi .eq (BitVec.ofNat 32 r.val) 383#32 = if r.val = 383 then 1#1 else 0#1 := by
  revert r; decide +kernel

theorem pick_first (f : Fin 8 → EReal) : ∑ q : Fin 8, Scalar.select (IntOp.cmpi .eq (BitVec.ofNat 32 q.val) 0#32) (f q) (0 : EReal) = f 0 := by
  rw [Finset.sum_eq_single 0 (fun q _ hq => by rw [top_row, if_neg hq]; rfl) (fun h => absurd (Finset.mem_univ _) h)]
  rfl

theorem tile_at (r : Fin 384) (l : Fin 1024) : k0_pay1 i a b d e (ix2 r l) = a (ix2 r l) + b (ix2 r l) + (if r.val = 383 then after i e l else turned d (ix2 r l)) := by
  pointwise [k0_pay1]
  rw [pick_first fun x => e (ix2 x l), last_row]
  by_cases h : r.val = 383
  · rw [if_pos h, if_pos h]; rfl
  · rw [if_neg h, if_neg h]; rfl

end Cert.Proof.H0
end
-- ==== Proof.H0RefSide.lean ====
module

public import proofs.«01_k».proof.Proof.Gen.H0RefIdeal.Read
public import Idealize.ShloMosaic.Lib.Claim
public import Idealize.ShloMosaic.Lib.Tactic
public import Idealize.ShloMosaic.Lib.Pointwise
public import Idealize.ShloMosaic.Lib.KernelVsHost

@[expose] public section
set_option maxRecDepth 16384
noncomputable section
namespace Cert.Proof.H0
open Cert.H0RefIdeal Cert.H0RefIdeal.Gen Idealize.ShloMosaic Idealize.ShloMosaic.TcCoe

/-! The reference's sum, row by row. -/

variable (a b d : Vec Ideal S4224x1024 .f32)

/-- The sum that reaches a row of the block's input: both direct gradients, and the shifted one of the row after it. -/
def grad : Vec Ideal S4224x1024 .f32 := fun i => a i + b i + if h : (i 0).val + 1 < 4224 then d (ix2 ⟨(i 0).val + 1, h⟩ (i 1)) else 0

theorem shifted_inside (R : Fin 4224) (l : Fin 1024) (h : R.val + 1 < 4224) : Read.val_main_v9 (F := Ideal) d (ix2 R l) = d (ix2 ⟨R.val + 1, h⟩ l) := by
  unfold Read.val_main_v9
  refine (pad_apply_of_inside _ _ _ _ _ _ _ _ (ix2 (⟨R.val, by omega⟩ : Fin 4223) l) fun x => ?_).trans ?_
  · match x with
    | ⟨0, _⟩ => show R.val = 0 + R.val * (0 + 1); omega
    | ⟨1, _⟩ => show l.val = 0 + l.val * (0 + 1); omega
  · rw [Read.val_main_v8_apply]
    refine congrArg d (funext fun x => ?_)
    match x with
    | ⟨0, _⟩ => exact Fin.ext (Nat.add_comm 1 R.val)
    | ⟨1, _⟩ => rfl

theorem shifted_outside (R : Fin 4224) (l : Fin 1024) (h : ¬R.val + 1 < 4224) : Read.val_main_v9 (F := Ideal) d (ix2 R l) = 0 := by
  unfold Read.val_main_v9
  refine (pad_apply_of_not_inside _ _ _ _ _ _ _ _ 0 fun hx => ?_).trans ?_
  · have h2 : (R.val - 0) / (0 + 1) < 4223 := hx.2.2
    omega
  · show Ideal.ofBits .f32 0x00000000#32 = 0
    simp [Ideal.ofBits, Ideal.ieee]

theorem ref_grad : Read.val_main_v10 (F := Ideal) a b d = grad a b d := by
  funext i
  obtain ⟨R, l, rfl⟩ : ∃ (R : Fin 4224) (l : Fin 1024), i = ix2 R l := ⟨_, _, eq_ix2 i⟩
  rw [Read.val_main_v10_apply]
  by_cases h : R.val + 1 < 4224
  · rw [shifted_inside d R l h]
    show _ = a (ix2 R l) + b (ix2 R l) + dite _ _ _
    rw [dif_pos (show ((ix2 R l : S4224x1024.Idx) 0).val + 1 < 4224 from h)]; rfl
  · rw [shifted_outside d R l h]
    show _ = a (ix2 R l) + b (ix2 R l) + dite _ _ _
    rw [dif_neg (show ¬((ix2 R l : S4224x1024.Idx) 0).val + 1 < 4224 from h)]; rfl

end Cert.Proof.H0
end
-- ==== Proof.H0Arrays.lean ====
module

public import proofs.«01_k».proof.Proof.H0Tile
public import proofs.«01_k».proof.Proof.H0RefSide
public import Idealize.ShloMosaic.Lib.Pipeline.Value
public import Idealize.ShloMosaic.Lib.Pipeline.ValueKit

@[expose] public section
set_option maxRecDepth 16384
noncomputable section
namespace Cert.Proof.H0
open Cert.H0Ideal Cert.H0Ideal.Gen Idealize.ShloMosaic Idealize.ShloMosaic.TcCoe Idealize.SL.Sem Pipeline

/-! The array that the tiles leave. -/

variable (m : (ℓ : Loc nD τ sig) → Buf (Elt Ideal) ℓ) (c : Dev nD)

/-- The arguments of device `c`. -/
abbrev argA : Vec Ideal S4224x1024 .f32 := m ((c : Thread nD τ).loc main_arg0)
abbrev argB : Vec Ideal S4224x1024 .f32 := m ((c : Thread nD τ).loc main_arg1)
abbrev argD : Vec Ideal S4224x1024 .f32 := m ((c : Thread nD τ).loc main_arg2)

theorem idxW0 : ∀ t : Fin cfg0.N, win0_0.index t = ![t.val, 0] := (by decide +kernel : ∀ t : Fin grid0.N, _)
theorem idxW1 : ∀ t : Fin cfg0.N, win0_1.index t = ![t.val, 0] := (by decide +kernel : ∀ t : Fin grid0.N, _)
theorem idxW2 : ∀ t : Fin cfg0.N, win0_2.index t = ![t.val, 0] := (by decide +kernel : ∀ t : Fin grid0.N, _)
theorem idxW4 : ∀ t : Fin cfg0.N, win0_4.index t = ![t.val, 0] := (by decide +kernel : ∀ t : Fin grid0.N, _)
theorem idxW3 : ∀ t : Fin cfg0.N, t.val < 10 → win0_3.index t = ![(t.val + 1) * 48, 0] := (by decide +kernel : ∀ t : Fin grid0.N, _)
theorem flag : ∀ t : Fin cfg0.N, Scalar.extui (Scalar.cmpi .slt (BitVec.ofNat 32 ((grid0.coords t) 1).val) 10#32) = if t.val < 10 then 1#32 else 0#32 :=
  (by decide +kernel : ∀ t : Fin grid0.N, _)

variable (t : Fin cfg0.N)
theorem tile_lt : t.val < 11 := t.isLt.trans_eq N_0

/-- Row `r` of tile `t`. -/
abbrev rowIx (t : Fin cfg0.N) (r : Fin 384) : Fin 4224 := ⟨384 * t.val + r.val, by have := tile_lt t; omega⟩

theorem read_a (r : Fin 384) (l : Fin 1024) : iblk m c 0 t (ix2 r l) = argA m c (ix2 (rowIx t r) l) := by
  rw [show argA m c = V m c main_arg0 from (V_main_arg0 m c).symm]
  unfold iblk
  show V m c main_arg0 _ = _
  generalize V m c main_arg0 = A
  blk_ext [idxW0 t]
theorem read_b (r : Fin 384) (l : Fin 1024) : iblk m c 1 t (ix2 r l) = argB m c (ix2 (rowIx t r) l) := by
  rw [show argB m c = V m c main_arg1 from (V_main_arg1 m c).symm]
  unfold iblk
  show V m c main_arg1 _ = _
  generalize V m c main_arg1 = A
  blk_ext [idxW1 t]
theorem read_d (r : Fin 384) (l : Fin 1024) : iblk m c 2 t (ix2 r l) = argD m c (ix2 (rowIx t r) l) := by
  rw [show argD m c = V m c main_arg2 from (V_main_arg2 m c).symm]
  unfold iblk
  show V m c main_arg2 _ = _
  generalize V m c main_arg2 = A
  blk_ext [idxW2 t]
theorem read_next (h : t.val < 10) (l : Fin 1024) : iblk m c 3 t (ix2 0 l) = argD m c (ix2 ⟨384 * t.val + 384, by omega⟩ l) := by
  rw [show argD m c = V m c main_arg2 from (V_main_arg2 m c).symm]
  unfold iblk
  show V m c main_arg2 _ = _
  generalize V m c main_arg2 = A
  blk_ext [idxW3 t h]

theorem after_at (l : Fin 1024) : after (grid0.coords t) (iblk m c 3 t) l
    = if h : t.val < 10 then argD m c (ix2 ⟨384 * t.val + 384, by omega⟩ l) else 0 := by
  unfold after
  rw [flag t]
  by_cases h : t.val < 10
  · rw [if_pos h, dif_pos h, read_next m c t h]
    show _ * (((1#32).toInt : ℝ) : EReal) = _
    simp
  · rw [if_neg h, dif_neg h]
    show _ * (((0#32).toInt : ℝ) : EReal) = _
    simp

/-- What a point leaves at a row of its tile. -/
theorem point (r : Fin 384) (l : Fin 1024) : (out0_4 (grid0.coords t) (iblk m c 0 t) (iblk m c 1 t) (iblk m c 2 t) (iblk m c 3 t) : Vec Ideal S384x1024 .f32) (ix2 r l)
    = grad (argA m c) (argB m c) (argD m c) (ix2 (rowIx t r) l) := by
  have e : (out0_4 (grid0.coords t) (iblk m c 0 t) (iblk m c 1 t) (iblk m c 2 t) (iblk m c 3 t) : Vec Ideal S384x1024 .f32)
      = k0_pay1 (grid0.coords t) (iblk m c 0 t) (iblk m c 1 t) (iblk m c 2 t) (iblk m c 3 t) := by
    unfold out0_4; frame_out
  have := tile_lt t
  have := r.isLt
  rw [e, tile_at, read_a, read_b]
  show _ = argA m c (ix2 (rowIx t r) l) + argB m c (ix2 (rowIx t r) l) + dite (384 * t.val + r.val + 1 < 4224) (fun h => argD m c (ix2 ⟨384 * t.val + r.val + 1, h⟩ l)) fun _ => 0
  refine congrArg (fun s : EReal => argA m c (ix2 (rowIx t r) l) + argB m c (ix2 (rowIx t r) l) + s) ?_
  by_cases h : r.val = 383
  · rw [if_pos h, after_at]
    by_cases h' : t.val < 10
    · rw [dif_pos h', dif_pos (by omega)]
      exact congrArg (fun R => argD m c (ix2 R l)) (Fin.ext (by show 384 * t.val + 384 = 384 * t.val + r.val + 1; omega))
    · rw [dif_neg h', dif_neg (by omega)]
  · rw [if_neg h, dif_pos (by omega), turned_at (iblk m c 2 t) r ⟨r.val + 1, by omega⟩ l rfl, read_d]
    exact congrArg (fun R => argD m c (ix2 R l)) (Fin.ext (Nat.add_assoc _ _ _).symm)

/-- The array that the call leaves. -/
theorem final : (dats m 0 c).arrAt 4 cfg0.N = grad (argA m c) (argB m c) (argD m c) := by
  refine (dats m 0 c).arrAt_eq_of_covers 4 _ (by decide +kernel) fun t hf y => ?_
  blk_simp
  have key : (out0_4 (grid0.coords t) (iblk m c 0 t) (iblk m c 1 t) (iblk m c 2 t) (iblk m c 3 t) : Vec Ideal S384x1024 .f32) y
      = grad (argA m c) (argB m c) (argD m c) (((View.whole main_v0).slice (win0_4.rect t)).emb y) := by
    obtain ⟨r, l, rfl⟩ : ∃ (r : Fin 384) (l : Fin 1024), y = ix2 r l := ⟨_, _, eq_ix2 y⟩
    have ee : (((View.whole main_v0).slice (win0_4.rect t)).emb (ix2 r l)) = ix2 (rowIx t r) l := by blk_ext [idxW4 t]
    rw [point, ee]
  rw [after0_4]
  exact key

end Cert.Proof.H0
end
-- ==== Proof.H0Claims.lean ====
module

public import proofs.«01_k».proof.Defs
public import proofs.«01_k».proof.Proof.H0Arrays
public import proofs.«01_k».proof.Proof.Gen.H0.Frame
public import proofs.«01_k».proof.Proof.Gen.H0RefIdeal.Run

@[expose] public section

set_option maxRecDepth 16384

noncomputable section

namespace Cert.Proof.H0

open Idealize.ShloMosaic Idealize.SL.Sem

/-- The call ends without fault, its argument arrays and its counters as they were. -/
theorem frame_kernel : Cert.quiescent_H0 := fun m ρ _ => Cert.H0.Gen.frame m ρ

theorem frame_ideal : Cert.quiescent_H0Ideal := fun m ρ _ => Cert.H0Ideal.Gen.frame m ρ

/-- The reference ends without fault, its argument arrays and its counters as they were. -/
theorem frame_reference : Cert.quiescent_H0RefIdeal := fun m ρ _ =>
  (θ_run _ _ _).mono (fun r h => ⟨fun c => (h c).2, sem_eq_zero_of_no_sems (by decide) r.2⟩) (Cert.H0RefIdeal.Value.run m ρ)

/-- Call and reference leave the same gradient of the block's input. -/
theorem values : Cert.algebraic_H0Ideal_H0RefIdeal := fun m ρ m' ρ' _ hag =>
  ⟨fun c => grad (argA m c) (argB m c) (argD m c),
    (θ_run _ _ _).mono (fun _ h c => ⟨(h c).1.trans (final m c), (h c).2⟩) (Cert.H0Ideal.Value.run_blocks m ρ),
    (θ_run _ _ _).mono (fun _ h c => by
      obtain ⟨e0, e1, e2⟩ := hag c
      obtain ⟨h0, kept⟩ := h c
      refine ⟨h0.trans ((Cert.H0RefIdeal.Read.val_main_v10_eq _ _ _).trans (Eq.trans ?_ (ref_grad (argA m c) (argB m c) (argD m c)))), kept⟩
      exact congr (congr (congrArg _ e0) e1) e2) (Cert.H0RefIdeal.Value.run m' ρ')⟩

end Cert.Proof.H0
end
-- ==== Proof.AoTile.lean ====
module

public import proofs.«01_k».proof.Proof.NormRow
public import proofs.«01_k».proof.Proof.Gen.AoIdeal.Value
public import proofs.«01_k».proof.Proof.Gen.AoRefIdeal.Read
public import Idealize.ShloMosaic.Lib.Claim
public import Idealize.ShloMosaic.Lib.Tactic
public import Idealize.ShloMosaic.Lib.Pointwise
public import Idealize.ShloMosaic.Lib.Pipeline.ValueKit
public import Idealize.ShloMosaic.Lib.Pipeline.ValueKit.Point
public import Idealize.ShloMosaic.Lib.Pipeline.Value
public import Idealize.ShloMosaic.Lib.Pipeline.ReadBack

@[expose] public section
set_option maxRecDepth 16384
noncomputable section
namespace Cert.Proof.Ao
open Cert.Proof.Norm Idealize.ShloMosaic Idealize.ShloMosaic.TcCoe Idealize.SL.Sem Pipeline

/-! The attention's output: the residual plus the product, normed row by row. -/

/-- The row `z` normed, with gain `w` and bias `b`. -/
def normed (z w b : Fin 1024 → EReal) (l : Fin 1024) : EReal := cen z l * scale z * w l + b l
/-- A row before the norm: of the residual `h`, the attention's output `o` and the weights `wo`. -/
def pre (o h : Fin 1024 → EReal) (wo : Fin 1024 → Fin 1024 → EReal) (l : Fin 1024) : EReal :=
  Ideal.ofBits .f32 0x3FB504F3#32 * h l + ∑ k : Fin 1024, o k * wo k l
/-- The array of normed rows. -/
def rows (o h : Vec Ideal Cert.AoIdeal.S4224x1024 .f32) (wo : Vec Ideal Cert.AoIdeal.S1024x1024 .f32) (w b : Vec Ideal Cert.AoIdeal.S1x1024 .f32) :
    Vec Ideal Cert.AoIdeal.S4224x1024 .f32 := fun i =>
  normed (pre (fun k => o (ix2 (i 0) k)) (fun k => h (ix2 (i 0) k)) fun k l => wo (ix2 k l)) (fun l => w (ix2 0 l)) (fun l => b (ix2 0 l)) (i 1)

section
open Cert.AoIdeal Cert.AoIdeal.Gen
variable (o h : Vec Ideal S384x1024 .f32) (wo : Vec Ideal S1024x1024 .bf16) (w b : Vec Ideal S1x1024 .f32) (r : Fin 384) (l : Fin 1024)

/-- One tile's result. -/
theorem tile_at : k0_pay1 o h wo w b (ix2 r l) = normed (pre (fun k => o (ix2 r k)) (fun k => h (ix2 r k)) fun k l => wo (ix2 k l)) (fun l => w (ix2 0 l)) (fun l => b (ix2 0 l)) l := by
  pointwise [k0_pay1]
  rfl
end

section
open Cert.AoRefIdeal Cert.AoRefIdeal.Gen
variable (o h : Vec Ideal S4224x1024 .f32) (wo : Vec Ideal S1024x1024 .f32) (w b : Vec Ideal S1x1024 .f32) (r : Fin 4224) (l : Fin 1024)

abbrev refPre (r : Fin 4224) : Fin 1024 → EReal := pre (fun k => o (ix2 r k)) (fun k => h (ix2 r k)) fun k l => wo (ix2 k l)

theorem ref_pre : Read.val_main_v3 (F := Ideal) o h wo (ix2 r l) = refPre o h wo r l := by
  pointwise [Read.val_main_v3, Read.val_main_v2, Read.val_main_v1, Read.val_main_v0, Read.val_main_cst]
  rfl
theorem ref_cen : Read.val_main_v9 (F := Ideal) o h wo (ix2 r l) = cen (refPre o h wo r) l := by
  have e := ref_pre o h wo r
  unfold Read.val_main_v9 Read.val_main_v8 Read.val_main_v7 Read.val_main_v5 Read.val_main_v4
  generalize Read.val_main_v3 (F := Ideal) o h wo = A at *
  pointwise [Read.val_main_v6, Read.val_main_cst_0, Read.val_main_cst_1]
  simp only [e]
  rfl
theorem ref_scale : Read.val_main_v17 (F := Ideal) o h wo (ix2 r 0) = scale (refPre o h wo r) := by
  have e := ref_cen o h wo r
  unfold Read.val_main_v17 Read.val_main_v16 Read.val_main_v14 Read.val_main_v12 Read.val_main_v11 Read.val_main_v10
  generalize Read.val_main_v9 (F := Ideal) o h wo = A at *
  pointwise [Read.val_main_v13, Read.val_main_v15, Read.val_main_cst_2, Read.val_main_cst_3, Read.val_main_cst_4]
  simp only [e]
  rfl
/-- The reference's array. -/
theorem ref_rows : Read.val_main_v23 (F := Ideal) o h wo w b = rows o h wo w b := by
  funext i
  obtain ⟨r, l, rfl⟩ : ∃ (r : Fin 4224) (l : Fin 1024), i = ix2 r l := ⟨_, _, eq_ix2 i⟩
  have e1 := ref_cen o h wo r l
  have e2 := ref_scale o h wo r
  unfold Read.val_main_v23 Read.val_main_v21 Read.val_main_v19 Read.val_main_v18
  generalize Read.val_main_v9 (F := Ideal) o h wo = A at *
  generalize Read.val_main_v17 (F := Ideal) o h wo = B at *
  pointwise [Read.val_main_v20, Read.val_main_v22]
  rw [e1, e2]
  rfl
end

open Cert.AoIdeal Cert.AoIdeal.Gen
variable (m : (ℓ : Loc nD τ sig) → Buf (Elt Ideal) ℓ) (c : Dev nD)

/-- The arguments of device `c`. -/
abbrev argO : Vec Ideal S4224x1024 .f32 := m ((c : Thread nD τ).loc main_arg0)
abbrev argH : Vec Ideal S4224x1024 .f32 := m ((c : Thread nD τ).loc main_arg1)
abbrev argM : Vec Ideal S1024x1024 .f32 := m ((c : Thread nD τ).loc main_arg2)
abbrev argW : Vec Ideal S1x1024 .f32 := m ((c : Thread nD τ).loc main_arg3)
abbrev argB : Vec Ideal S1x1024 .f32 := m ((c : Thread nD τ).loc main_arg4)
abbrev result : Vec Ideal S4224x1024 .f32 := rows (argO m c) (argH m c) (argM m c) (argW m c) (argB m c)

theorem V_m : (V m c main_v0 : Vec Ideal S1024x1024 .bf16) = truncf (F := Ideal) .bf16 (argM m c) bitsLt_bf16_f32 := by
  show StableHlo.after hostOps0 (fun b => m (c, b)) (Proc.devRef .tc main_v0) = _
  simp only [hostOps0]
  after_results_simp

theorem idxW0 : ∀ t : Fin cfg0.N, win0_0.index t = ![t.val, 0] := (by decide +kernel : ∀ t : Fin grid0.N, _)
theorem idxW1 : ∀ t : Fin cfg0.N, win0_1.index t = ![t.val, 0] := (by decide +kernel : ∀ t : Fin grid0.N, _)
theorem idxW2 : ∀ t : Fin cfg0.N, win0_2.index t = ![0, 0] := (by decide +kernel : ∀ t : Fin grid0.N, _)
theorem idxW3 : ∀ t : Fin cfg0.N, win0_3.index t = ![0, 0] := (by decide +kernel : ∀ t : Fin grid0.N, _)
theorem idxW4 : ∀ t : Fin cfg0.N, win0_4.index t = ![0, 0] := (by decide +kernel : ∀ t : Fin grid0.N, _)
theorem idxW5 : ∀ t : Fin cfg0.N, win0_5.index t = ![t.val, 0] := (by decide +kernel : ∀ t : Fin grid0.N, _)

variable (t : Fin cfg0.N)
theorem tile_lt : t.val < 11 := t.isLt.trans_eq N_0
/-- Row `r` of tile `t`. -/
abbrev rowIx (t : Fin cfg0.N) (r : Fin 384) : Fin 4224 := ⟨384 * t.val + r.val, by have := tile_lt t; omega⟩

theorem read_o (r : Fin 384) (k : Fin 1024) : iblk m c 0 t (ix2 r k) = argO m c (ix2 (rowIx t r) k) := by
  rw [show argO m c = V m c main_arg0 from (V_main_arg0 m c).symm]
  unfold iblk
  show V m c main_arg0 _ = _
  generalize V m c main_arg0 = A
  blk_ext [idxW0 t]
theorem read_h (r : Fin 384) (k : Fin 1024) : iblk m c 1 t (ix2 r k) = argH m c (ix2 (rowIx t r) k) := by
  rw [show argH m c = V m c main_arg1 from (V_main_arg1 m c).symm]
  unfold iblk
  show V m c main_arg1 _ = _
  generalize V m c main_arg1 = A
  blk_ext [idxW1 t]
theorem read_m (k l : Fin 1024) : iblk m c 2 t (ix2 k l) = argM m c (ix2 k l) := by
  rw [show argM m c (ix2 k l) = (V m c main_v0 : Vec Ideal S1024x1024 .bf16) (ix2 k l) by rw [V_m]; rfl]
  unfold iblk
  show V m c main_v0 _ = _
  generalize V m c main_v0 = A
  blk_ext [idxW2 t]
theorem read_w (l : Fin 1024) : iblk m c 3 t (ix2 0 l) = argW m c (ix2 0 l) := by
  rw [show argW m c = V m c main_arg3 from (V_main_arg3 m c).symm]
  unfold iblk
  show V m c main_arg3 _ = _
  generalize V m c main_arg3 = A
  blk_ext [idxW3 t]
theorem read_b (l : Fin 1024) : iblk m c 4 t (ix2 0 l) = argB m c (ix2 0 l) := by
  rw [show argB m c = V m c main_arg4 from (V_main_arg4 m c).symm]
  unfold iblk
  show V m c main_arg4 _ = _
  generalize V m c main_arg4 = A
  blk_ext [idxW4 t]

/-- What a point leaves at a row of its tile. -/
theorem point (r : Fin 384) (l : Fin 1024) : (out0_5 (iblk m c 0 t) (iblk m c 1 t) (iblk m c 2 t) (iblk m c 3 t) (iblk m c 4 t) : Vec Ideal S384x1024 .f32) (ix2 r l)
    = result m c (ix2 (rowIx t r) l) := by
  have e : (out0_5 (iblk m c 0 t) (iblk m c 1 t) (iblk m c 2 t) (iblk m c 3 t) (iblk m c 4 t) : Vec Ideal S384x1024 .f32)
      = k0_pay1 (iblk m c 0 t) (iblk m c 1 t) (iblk m c 2 t) (iblk m c 3 t) (iblk m c 4 t) := by
    unfold out0_5; frame_out
  rw [e, tile_at]
  simp only [read_o, read_h, read_m, read_w, read_b]
  rfl

/-- The array that the call leaves. -/
theorem final : (dats m 0 c).arrAt 5 cfg0.N = result m c := by
  refine (dats m 0 c).arrAt_eq_of_covers 5 _ (by decide +kernel) fun t hf y => ?_
  blk_simp
  have key : (out0_5 (iblk m c 0 t) (iblk m c 1 t) (iblk m c 2 t) (iblk m c 3 t) (iblk m c 4 t) : Vec Ideal S384x1024 .f32) y
      = result m c (((View.whole main_v1).slice (win0_5.rect t)).emb y) := by
    obtain ⟨r, l, rfl⟩ : ∃ (r : Fin 384) (l : Fin 1024), y = ix2 r l := ⟨_, _, eq_ix2 y⟩
    have ee : (((View.whole main_v1).slice (win0_5.rect t)).emb (ix2 r l)) = ix2 (rowIx t r) l := by blk_ext [idxW5 t]
    rw [point, ee]
  rw [after0_5]
  exact key

end Cert.Proof.Ao
end
-- ==== Proof.AoClaims.lean ====
module

public import proofs.«01_k».proof.Defs
public import proofs.«01_k».proof.Proof.AoTile
public import proofs.«01_k».proof.Proof.Gen.Ao.Frame
public import proofs.«01_k».proof.Proof.Gen.AoRefIdeal.Run

@[expose] public section

set_option maxRecDepth 16384

noncomputable section

namespace Cert.Proof.Ao

open Idealize.ShloMosaic Idealize.SL.Sem

/-- The call ends without fault, its argument arrays and its counters as they were. -/
theorem frame_kernel : Cert.quiescent_Ao := fun m ρ _ => Cert.Ao.Gen.frame m ρ

theorem frame_ideal : Cert.quiescent_AoIdeal := fun m ρ _ => Cert.AoIdeal.Gen.frame m ρ

/-- The reference ends without fault, its argument arrays and its counters as they were. -/
theorem frame_reference : Cert.quiescent_AoRefIdeal := fun m ρ _ =>
  (θ_run _ _ _).mono (fun r h => ⟨fun c => (h c).2, sem_eq_zero_of_no_sems (by decide) r.2⟩) (Cert.AoRefIdeal.Value.run m ρ)

/-- Call and reference leave the same normed rows. -/
theorem values : Cert.algebraic_AoIdeal_AoRefIdeal := fun m ρ m' ρ' _ hag =>
  ⟨fun c => result m c,
    (θ_run _ _ _).mono (fun _ h c => ⟨(h c).1.trans (final m c), (h c).2⟩) (Cert.AoIdeal.Value.run_blocks m ρ),
    (θ_run _ _ _).mono (fun _ h c => by
      obtain ⟨e0, e1, e2, e3, e4⟩ := hag c
      obtain ⟨h0, kept⟩ := h c
      refine ⟨h0.trans ((Cert.AoRefIdeal.Read.val_main_v23_eq _ _ _ _ _).trans (Eq.trans ?_ (ref_rows (argO m c) (argH m c) (argM m c) (argW m c) (argB m c)))), kept⟩
      exact congr (congr (congr (congr (congrArg _ e0) e1) e2) e3) e4) (Cert.AoRefIdeal.Value.run m' ρ')⟩

end Cert.Proof.Ao
end
-- ==== Proof.FwdTile.lean ====
module

public import proofs.«01_k».proof.Proof.AoTile
public import proofs.«01_k».proof.Proof.PostTile
public import proofs.«01_k».proof.Proof.PostRefSide
public import proofs.«01_k».proof.Proof.Gen.FwdIdeal.Value
public import proofs.«01_k».proof.Proof.Gen.FwdRefIdeal.Read

@[expose] public section
set_option maxRecDepth 16384
noncomputable section
namespace Cert.Proof.Fwd
open Cert.Proof.Norm Cert.Proof.Ao Cert.Proof.Post Idealize.ShloMosaic Idealize.ShloMosaic.TcCoe

/-! The recurrence's output, forward: one tile of the call, and the reference's rows. -/

/-- What is summed by products with 0/1 matrices is a real number. -/
structure Summed (X : Row) : Prop where
  y : ∀ l, Re (X.y l)
  r : ∀ l, Re (X.r l)
  k : ∀ l, Re (X.k l)
  rk : ∀ l, Re (X.rk l)

theorem zero_re : Re 0 := ⟨0, EReal.coe_zero.symm⟩
/-- The row with zeros in place of what is not summed: its group norm and its bonus' weight are the row's. -/
def bare (X : Row) : Row := { X with v := 0, g := 0, h := 0, d := 0, wo := 0, gw := 0, gb := 0, lg := 0 }
theorem Summed.real {X : Row} (H : Summed X) : (bare X).Real where
  y := H.y
  r := H.r
  k := H.k
  v _ := zero_re
  g _ := zero_re
  h _ := zero_re
  d _ := zero_re
  wo _ _ := zero_re
  gw _ := zero_re
  gb _ := zero_re
  rk := H.rk
  lg _ := zero_re

section
open Cert.FwdIdeal Cert.FwdIdeal.Gen
variable (E : FVec Ideal S1024x16 .bf16) (Et : FVec Ideal S16x1024 .bf16)

/-- A tile times a 0/1 matrix, in two parts: the tile's bfloat16 part and the rest. -/
def sumT (x : FVec Ideal S384x1024 .f32) : FVec Ideal S384x16 .f32 :=
  addf (matmul dot_S384x1024_S1024x16_S384x16_1_0_0_1_n_n none (truncf .bf16 x bitsLt_bf16_f32) E (constant S384x16 .f32 0x00000000#32))
    (matmul dot_S384x1024_S1024x16_S384x16_1_0_0_1_n_n none
      (truncf .bf16 (subf x (extf .f32 (truncf .bf16 x bitsLt_bf16_f32) bitsLt_bf16_f32)) bitsLt_bf16_f32) E (constant S384x16 .f32 0x00000000#32))
def overT (x : FVec Ideal S384x16 .f32) : FVec Ideal S384x1024 .f32 :=
  addf (matmul dot_S384x16_S16x1024_S384x1024_1_0_0_1_n_n none (truncf .bf16 x bitsLt_bf16_f32) Et (constant S384x1024 .f32 0x00000000#32))
    (matmul dot_S384x16_S16x1024_S384x1024_1_0_0_1_n_n none
      (truncf .bf16 (subf x (extf .f32 (truncf .bf16 x bitsLt_bf16_f32) bitsLt_bf16_f32)) bitsLt_bf16_f32) Et (constant S384x1024 .f32 0x00000000#32))

theorem sumT_at (hE : Marks E) (x : FVec Ideal S384x1024 .f32) (r : Fin 384) {f : Fin 1024 → EReal} (hx : ∀ l, x (ix2 r l) = f l) (hf : ∀ l, Re (f l)) (h : Fin 16) :
    sumT E x (ix2 r h) = headSum f h := by
  have e : sumT E x (ix2 r h) = (∑ l, f l * E (ix2 l h)) + ∑ l, (f l - f l) * E (ix2 l h) := by
    pointwise [sumT]
    simp only [hx]
  rw [e]
  refine (congrArg₂ _ (sum_marks E hE f h) (sum_marks E hE (fun l => f l - f l) h)).trans ?_
  simp only [headSum, (hf _).self]
  simp
theorem overT_at (hE : MarksT Et) (x : FVec Ideal S384x16 .f32) (r : Fin 384) {f : Fin 16 → EReal} (hx : ∀ h, x (ix2 r h) = f h) (hf : ∀ h, Re (f h)) (l : Fin 1024) :
    overT Et x (ix2 r l) = f (headOf l) := by
  have e : overT Et x (ix2 r l) = (∑ h, f h * Et (ix2 h l)) + ∑ h, (f h - f h) * Et (ix2 h l) := by
    pointwise [overT]
    simp only [hx]
  rw [e]
  refine (congrArg₂ _ (sum_marksT Et hE f l) (sum_marksT Et hE (fun h => f h - f h) l)).trans ?_
  rw [(hf _).self, add_zero]

theorem whole_E : k0_pay2 E = E := by
  funext i
  obtain ⟨l, h, rfl⟩ : ∃ (l : Fin 1024) (h : Fin 16), i = ix2 l h := ⟨_, _, eq_ix2 i⟩
  pointwise [k0_pay2]
theorem whole_T : k0_pay3 Et = Et := by
  funext i
  obtain ⟨h, l, rfl⟩ : ∃ (h : Fin 16) (l : Fin 1024), i = ix2 h l := ⟨_, _, eq_ix2 i⟩
  pointwise [k0_pay3]

/-- The tile less its heads' means, and the inverse roots of the mean squares. -/
def cyT (y : FVec Ideal S384x1024 .f32) : FVec Ideal S384x1024 .f32 := subf y (overT Et (mulf (sumT E y) (broadcast S384x16 part)))
def ryT (y : FVec Ideal S384x1024 .f32) : FVec Ideal S384x16 .f32 :=
  rsqrt (addf (mulf (sumT E (mulf (cyT E Et y) (cyT E Et y))) (broadcast S384x16 part)) (broadcast S384x16 groupEps))

variable {E Et} {X : Fin 384 → Row} (H : ∀ r, Summed (X r)) (hE : Marks E) (hEt : MarksT Et) (r : Fin 384) (l : Fin 1024) (h : Fin 16)

section
variable {y : Vec Ideal S384x1024 .f32} {gw gb : Vec Ideal S1x1024 .f32} (hy : ∀ r l, y (ix2 r l) = (X r).y l)
include H hE hEt hy
theorem cy_at : cyT E Et y (ix2 r l) = (X r).cy l := by
  show y (ix2 r l) - overT Et (mulf (sumT E y) (broadcast S384x16 part)) (ix2 r l) = _
  rw [overT_at Et hEt _ r (f := fun h => headSum (X r).y h * part) (fun h => ?_) (fun h => (headSum_re (H r).y h).mul part_re), hy]
  · rfl
  · show sumT E y (ix2 r h) * part = _
    rw [sumT_at E hE y r (hy r) (H r).y]
theorem ry_at : ryT E Et y (ix2 r h) = (X r).ry h := by
  show Ideal.rsqrt (sumT E (mulf (cyT E Et y) (cyT E Et y)) (ix2 r h) * part + groupEps) = _
  rw [sumT_at E hE _ r (f := fun l => (X r).cy l * (X r).cy l) (fun l => ?_) (fun l => ((H r).real.cy_re l).mul ((H r).real.cy_re l))]
  · rfl
  · show cyT E Et y (ix2 r l) * cyT E Et y (ix2 r l) = _
    rw [cy_at H hE hEt r l hy]
theorem hat_at : (mulf (cyT E Et y) (overT Et (ryT E Et y))) (ix2 r l) = (X r).hat l := by
  show cyT E Et y (ix2 r l) * overT Et (ryT E Et y) (ix2 r l) = _
  rw [cy_at H hE hEt r l hy, overT_at Et hEt _ r (fun h => ry_at H hE hEt r h hy) (fun h => (H r).real.ry_re h)]; rfl
/-- The group norm with its gain and bias. -/
theorem norm_at (hgw : ∀ r l, gw (ix2 0 l) = (X r).gw l) (hgb : ∀ r l, gb (ix2 0 l) = (X r).gb l) :
    k0_pay7 y (k0_pay2 E) (k0_pay3 Et) gw gb (k0_pay5 y E) (k0_pay6 y E) (ix2 r l) = (X r).hat l * (X r).gw l + (X r).gb l := by
  have e0 := hat_at H hE hEt r l hy
  have e : k0_pay7 y (k0_pay2 E) (k0_pay3 Et) gw gb (k0_pay5 y E) (k0_pay6 y E)
      = addf (mulf (mulf (cyT E Et y) (overT Et (ryT E Et y))) (broadcastTo S384x1024 gw broadcasts_S1x1024_S384x1024)) (broadcastTo S384x1024 gb broadcasts_S1x1024_S384x1024) := by
    unfold k0_pay6 k0_pay5
    rw [whole_E, whole_T]
    rfl
  rw [e]
  generalize mulf (cyT E Et y) (overT Et (ryT E Et y)) = A at *
  pointwise []
  rw [e0, hgw r, hgb r]
end

include H hE hEt in
/-- The bonus' weight, in two parts. -/
theorem bon_at {a b : Vec Ideal S384x1024 .f32} {u : Vec Ideal S1x1024 .f32} (ha : ∀ r l, a (ix2 r l) = (X r).r l) (hb : ∀ r l, b (ix2 r l) = (X r).k l)
    (hu : ∀ r l, u (ix2 0 l) = (X r).rk l) : k0_pay10 a b (k0_pay2 E) (k0_pay3 Et) u (ix2 r l) + k0_pay11 a b (k0_pay2 E) (k0_pay3 Et) u (ix2 r l) = (X r).bon l := by
  have e : addf (k0_pay10 a b (k0_pay2 E) (k0_pay3 Et) u) (k0_pay11 a b (k0_pay2 E) (k0_pay3 Et) u)
      = overT Et (sumT E (mulf (mulf a b) (broadcastTo S384x1024 u broadcasts_S1x1024_S384x1024))) := by
    rw [whole_E, whole_T]
    rfl
  refine (congrFun e (ix2 r l)).trans ?_
  refine overT_at Et hEt _ r (f := headSum fun l => (X r).r l * (X r).k l * (X r).rk l) (fun h => ?_) (fun h => headSum_re (H r).real.weight_re h) l
  refine sumT_at E hE _ r (fun l => ?_) (H r).real.weight_re h
  show _ = (X r).r l * (X r).k l * (X r).rk l
  rw [← ha, ← hb, ← hu]
  pointwise []

/-- One tile's result. -/
theorem tile_at {v g hh n b1 b2 : FVec Ideal S384x1024 .f32} {wo : Vec Ideal S1024x1024 .bf16} {lg lb : Vec Ideal S1x1024 .f32}
    (hv : ∀ r l, v (ix2 r l) = (X r).v l) (hg : ∀ r l, g (ix2 r l) = (X r).g l) (hr : ∀ r l, hh (ix2 r l) = (X r).h l)
    (hwo : ∀ r k l, wo (ix2 k l) = (X r).wo k l) (hlg : ∀ r l, lg (ix2 0 l) = (X r).lg l)
    (hn : ∀ r l, n (ix2 r l) = (X r).hat l * (X r).gw l + (X r).gb l) (hb : ∀ r l, b1 (ix2 r l) + b2 (ix2 r l) = (X r).bon l) :
    k0_pay1 v g hh (k0_pay4 wo) lg lb n b1 b2 (ix2 r l) = normed (X r).pre (X r).lg (fun l => lb (ix2 0 l)) l := by
  pointwise [k0_pay1, k0_pay4]
  simp only [hb, hn, hv, hg, hr, hwo r, hlg r]
  rfl
end

section
open Cert.FwdRefIdeal Cert.FwdRefIdeal.Gen
variable (A : Args) (b : Vec Ideal S1x1024 .f32) (R : Fin 4224) (l : Fin 1024)

/-- The array of normed rows. -/
def rows : Vec Ideal S4224x1024 .f32 := fun i => normed (A.row (i 0)).pre (A.row (i 0)).lg (fun l => b (ix2 0 l)) (i 1)

theorem ref_cen : Read.val_main_v46 (F := Ideal) A.y A.r A.k A.v A.g A.h A.wo A.gw A.gb A.rk (ix2 R l) = cen (A.row R).pre l := Post.ref_cen A R l
theorem ref_scale : Read.val_main_v54 (F := Ideal) A.y A.r A.k A.v A.g A.h A.wo A.gw A.gb A.rk (ix2 R 0) = scale (A.row R).pre := Post.ref_scale A R
/-- The reference's array. -/
theorem ref_rows : Read.val_main_v60 (F := Ideal) A.y A.r A.k A.v A.g A.h A.wo A.gw A.gb A.rk A.lg b = rows A b := by
  funext i
  obtain ⟨R, l, rfl⟩ : ∃ (R : Fin 4224) (l : Fin 1024), i = ix2 R l := ⟨_, _, eq_ix2 i⟩
  have e1 := ref_cen A R l
  have e2 := ref_scale A R
  unfold Read.val_main_v60 Read.val_main_v58 Read.val_main_v56 Read.val_main_v55
  generalize Read.val_main_v46 (F := Ideal) A.y A.r A.k A.v A.g A.h A.wo A.gw A.gb A.rk = B at *
  generalize Read.val_main_v54 (F := Ideal) A.y A.r A.k A.v A.g A.h A.wo A.gw A.gb A.rk = C at *
  pointwise [Read.val_main_v57, Read.val_main_v59]
  rw [e1, e2]
  rfl
end

end Cert.Proof.Fwd
end
-- ==== Proof.FwdArrays.lean ====
module

public import proofs.«01_k».proof.Proof.FwdTile
public import proofs.«01_k».proof.Proof.PostHost

@[expose] public section
set_option maxRecDepth 16384
noncomputable section
namespace Cert.Proof.Fwd
open Cert.FwdIdeal Cert.FwdIdeal.Gen Cert.Proof.Norm Cert.Proof.Ao Cert.Proof.Post Idealize.ShloMosaic Idealize.ShloMosaic.TcCoe Idealize.SL.Sem Pipeline

/-! The array that the tiles leave. -/

variable (m : (ℓ : Loc nD τ sig) → Buf (Elt Ideal) ℓ) (c : Dev nD)

/-- The arguments of device `c`; there is no gradient that arrives. -/
def argsF : Args where
  z := fun _ => 0
  p := fun _ => 0
  y := m ((c : Thread nD τ).loc main_arg0)
  r := m ((c : Thread nD τ).loc main_arg1)
  k := m ((c : Thread nD τ).loc main_arg2)
  v := m ((c : Thread nD τ).loc main_arg3)
  g := m ((c : Thread nD τ).loc main_arg4)
  h := m ((c : Thread nD τ).loc main_arg5)
  wo := m ((c : Thread nD τ).loc main_arg6)
  gw := m ((c : Thread nD τ).loc main_arg7)
  gb := m ((c : Thread nD τ).loc main_arg8)
  rk := m ((c : Thread nD τ).loc main_arg9)
  lg := m ((c : Thread nD τ).loc main_arg10)
def biasF : Vec Ideal S1x1024 .f32 := m ((c : Thread nD τ).loc main_arg11)

theorem V_parts (r : Ref sig .tc) : V m c r = StableHlo.after hostOps0_2 (StableHlo.after hostOps0_1 (StableHlo.after hostOps0 (fun b => m (c, b)))) (Proc.devRef .tc r) := by
  show StableHlo.after (List.flatten [hostOps0, hostOps0_1, hostOps0_2]) (fun b => m (c, b)) (Proc.devRef .tc r) = _
  rw [List.flatten_cons, List.flatten_cons, List.flatten_cons, List.flatten_nil, List.append_nil, StableHlo.after_append, StableHlo.after_append]
theorem heads : StableHlo.after hostOps0_1 (StableHlo.after hostOps0 (fun b => m (c, b))) (Proc.devRef .tc main_v1) = headW := by
  simp only [hostOps0, hostOps0_1]
  after_results_simp
  rfl
theorem V_mark : (V m c main_v5 : Vec Ideal S1024x16 .bf16) = truncf (F := Ideal) .bf16 (uitofp .f32 (cmpi .eq headW (iotaInDim S1024x16 32 1))) bitsLt_bf16_f32 := by
  rw [← heads m c]
  refine (V_parts m c main_v5).trans ?_
  generalize StableHlo.after hostOps0_1 (StableHlo.after hostOps0 (fun b => m (c, b))) = W
  simp only [hostOps0_2]
  after_results_simp
theorem V_markT : (V m c main_v7 : Vec Ideal S16x1024 .bf16) = truncf (F := Ideal) .bf16 (transpose S16x1024 [1, 0] (uitofp .f32 (cmpi .eq headW (iotaInDim S1024x16 32 1))) transposes_S1024x16_S16x1024_1_0) bitsLt_bf16_f32 := by
  rw [← heads m c]
  refine (V_parts m c main_v7).trans ?_
  generalize StableHlo.after hostOps0_1 (StableHlo.after hostOps0 (fun b => m (c, b))) = W
  simp only [hostOps0_2]
  after_results_simp
theorem V_wo : (V m c main_v8 : Vec Ideal S1024x1024 .bf16) = truncf (F := Ideal) .bf16 (argsF m c).wo bitsLt_bf16_f32 := by
  refine (V_parts m c main_v8).trans ?_
  simp only [hostOps0, hostOps0_1, hostOps0_2]
  after_results_simp
  rfl

theorem idxW0 : ∀ t : Fin cfg0.N, win0_0.index t = ![t.val, 0] := (by decide +kernel : ∀ t : Fin grid0.N, _)
theorem idxW1 : ∀ t : Fin cfg0.N, win0_1.index t = ![t.val, 0] := (by decide +kernel : ∀ t : Fin grid0.N, _)
theorem idxW2 : ∀ t : Fin cfg0.N, win0_2.index t = ![t.val, 0] := (by decide +kernel : ∀ t : Fin grid0.N, _)
theorem idxW3 : ∀ t : Fin cfg0.N, win0_3.index t = ![t.val, 0] := (by decide +kernel : ∀ t : Fin grid0.N, _)
theorem idxW4 : ∀ t : Fin cfg0.N, win0_4.index t = ![t.val, 0] := (by decide +kernel : ∀ t : Fin grid0.N, _)
theorem idxW5 : ∀ t : Fin cfg0.N, win0_5.index t = ![t.val, 0] := (by decide +kernel : ∀ t : Fin grid0.N, _)
theorem idxW6 : ∀ t : Fin cfg0.N, win0_6.index t = ![0, 0] := (by decide +kernel : ∀ t : Fin grid0.N, _)
theorem idxW7 : ∀ t : Fin cfg0.N, win0_7.index t = ![0, 0] := (by decide +kernel : ∀ t : Fin grid0.N, _)
theorem idxW8 : ∀ t : Fin cfg0.N, win0_8.index t = ![0, 0] := (by decide +kernel : ∀ t : Fin grid0.N, _)
theorem idxW9 : ∀ t : Fin cfg0.N, win0_9.index t = ![0, 0] := (by decide +kernel : ∀ t : Fin grid0.N, _)
theorem idxW10 : ∀ t : Fin cfg0.N, win0_10.index t = ![0, 0] := (by decide +kernel : ∀ t : Fin grid0.N, _)
theorem idxW11 : ∀ t : Fin cfg0.N, win0_11.index t = ![0, 0] := (by decide +kernel : ∀ t : Fin grid0.N, _)
theorem idxW12 : ∀ t : Fin cfg0.N, win0_12.index t = ![0, 0] := (by decide +kernel : ∀ t : Fin grid0.N, _)
theorem idxW13 : ∀ t : Fin cfg0.N, win0_13.index t = ![0, 0] := (by decide +kernel : ∀ t : Fin grid0.N, _)
theorem idxW14 : ∀ t : Fin cfg0.N, win0_14.index t = ![t.val, 0] := (by decide +kernel : ∀ t : Fin grid0.N, _)

variable (t : Fin cfg0.N)
theorem tile_lt : t.val < 11 := t.isLt.trans_eq N_0
/-- Row `r` of tile `t`. -/
abbrev rowIx (t : Fin cfg0.N) (r : Fin 384) : Fin 4224 := ⟨384 * t.val + r.val, by have := tile_lt t; omega⟩
/-- The row that is read there. -/
abbrev rowT (r : Fin 384) : Row := (argsF m c).row (rowIx t r)

theorem read_y (r : Fin 384) (l : Fin 1024) : iblk m c 0 t (ix2 r l) = (rowT m c t r).y l := by
  show _ = (m ((c : Thread nD τ).loc main_arg0) : Vec Ideal S4224x1024 .f32) (ix2 (rowIx t r) l)
  rw [← V_main_arg0 m c]
  unfold iblk
  show V m c main_arg0 _ = _
  generalize V m c main_arg0 = A
  blk_ext [idxW0 t]
theorem read_r (r : Fin 384) (l : Fin 1024) : iblk m c 1 t (ix2 r l) = (rowT m c t r).r l := by
  show _ = (m ((c : Thread nD τ).loc main_arg1) : Vec Ideal S4224x1024 .f32) (ix2 (rowIx t r) l)
  rw [← V_main_arg1 m c]
  unfold iblk
  show V m c main_arg1 _ = _
  generalize V m c main_arg1 = A
  blk_ext [idxW1 t]
theorem read_k (r : Fin 384) (l : Fin 1024) : iblk m c 2 t (ix2 r l) = (rowT m c t r).k l := by
  show _ = (m ((c : Thread nD τ).loc main_arg2) : Vec Ideal S4224x1024 .f32) (ix2 (rowIx t r) l)
  rw [← V_main_arg2 m c]
  unfold iblk
  show V m c main_arg2 _ = _
  generalize V m c main_arg2 = A
  blk_ext [idxW2 t]
theorem read_v (r : Fin 384) (l : Fin 1024) : iblk m c 3 t (ix2 r l) = (rowT m c t r).v l := by
  show _ = (m ((c : Thread nD τ).loc main_arg3) : Vec Ideal S4224x1024 .f32) (ix2 (rowIx t r) l)
  rw [← V_main_arg3 m c]
  unfold iblk
  show V m c main_arg3 _ = _
  generalize V m c main_arg3 = A
  blk_ext [idxW3 t]
theorem read_g (r : Fin 384) (l : Fin 1024) : iblk m c 4 t (ix2 r l) = (rowT m c t r).g l := by
  show _ = (m ((c : Thread nD τ).loc main_arg4) : Vec Ideal S4224x1024 .f32) (ix2 (rowIx t r) l)
  rw [← V_main_arg4 m c]
  unfold iblk
  show V m c main_arg4 _ = _
  generalize V m c main_arg4 = A
  blk_ext [idxW4 t]
theorem read_h (r : Fin 384) (l : Fin 1024) : iblk m c 5 t (ix2 r l) = (rowT m c t r).h l := by
  show _ = (m ((c : Thread nD τ).loc main_arg5) : Vec Ideal S4224x1024 .f32) (ix2 (rowIx t r) l)
  rw [← V_main_arg5 m c]
  unfold iblk
  show V m c main_arg5 _ = _
  generalize V m c main_arg5 = A
  blk_ext [idxW5 t]
theorem read_gw (r : Fin 384) (l : Fin 1024) : iblk m c 9 t (ix2 0 l) = (rowT m c t r).gw l := by
  show _ = (m ((c : Thread nD τ).loc main_arg7) : Vec Ideal S1x1024 .f32) (ix2 0 l)
  rw [← V_main_arg7 m c]
  unfold iblk
  show V m c main_arg7 _ = _
  generalize V m c main_arg7 = A
  blk_ext [idxW9 t]
theorem read_gb (r : Fin 384) (l : Fin 1024) : iblk m c 10 t (ix2 0 l) = (rowT m c t r).gb l := by
  show _ = (m ((c : Thread nD τ).loc main_arg8) : Vec Ideal S1x1024 .f32) (ix2 0 l)
  rw [← V_main_arg8 m c]
  unfold iblk
  show V m c main_arg8 _ = _
  generalize V m c main_arg8 = A
  blk_ext [idxW10 t]
theorem read_rk (r : Fin 384) (l : Fin 1024) : iblk m c 11 t (ix2 0 l) = (rowT m c t r).rk l := by
  show _ = (m ((c : Thread nD τ).loc main_arg9) : Vec Ideal S1x1024 .f32) (ix2 0 l)
  rw [← V_main_arg9 m c]
  unfold iblk
  show V m c main_arg9 _ = _
  generalize V m c main_arg9 = A
  blk_ext [idxW11 t]
theorem read_lg (r : Fin 384) (l : Fin 1024) : iblk m c 12 t (ix2 0 l) = (rowT m c t r).lg l := by
  show _ = (m ((c : Thread nD τ).loc main_arg10) : Vec Ideal S1x1024 .f32) (ix2 0 l)
  rw [← V_main_arg10 m c]
  unfold iblk
  show V m c main_arg10 _ = _
  generalize V m c main_arg10 = A
  blk_ext [idxW12 t]
theorem read_lb (l : Fin 1024) : iblk m c 13 t (ix2 0 l) = biasF m c (ix2 0 l) := by
  show _ = (m ((c : Thread nD τ).loc main_arg11) : Vec Ideal S1x1024 .f32) (ix2 0 l)
  rw [← V_main_arg11 m c]
  unfold iblk
  show V m c main_arg11 _ = _
  generalize V m c main_arg11 = A
  blk_ext [idxW13 t]
theorem read_wo (r : Fin 384) (k l : Fin 1024) : iblk m c 8 t (ix2 k l) = (rowT m c t r).wo k l := by
  rw [show (rowT m c t r).wo k l = (V m c main_v8 : Vec Ideal S1024x1024 .bf16) (ix2 k l) by rw [V_wo]; rfl]
  unfold iblk
  show V m c main_v8 _ = _
  generalize V m c main_v8 = A
  blk_ext [idxW8 t]
theorem read_mark (l : Fin 1024) (h : Fin 16) : iblk m c 6 t (ix2 l h) = if headOf l = h then (1 : EReal) else 0 := by
  rw [← show (V m c main_v5 : Vec Ideal S1024x16 .bf16) (ix2 l h) = (if headOf l = h then (1 : EReal) else 0) by rw [V_mark]; exact mark_word l h]
  unfold iblk
  show V m c main_v5 _ = _
  generalize V m c main_v5 = A
  blk_ext [idxW6 t]
theorem read_markT (h : Fin 16) (l : Fin 1024) : iblk m c 7 t (ix2 h l) = if headOf l = h then (1 : EReal) else 0 := by
  rw [← show (V m c main_v7 : Vec Ideal S16x1024 .bf16) (ix2 h l) = (if headOf l = h then (1 : EReal) else 0) by rw [V_markT]; exact mark_word l h]
  unfold iblk
  show V m c main_v7 _ = _
  generalize V m c main_v7 = A
  blk_ext [idxW7 t]

abbrev outT : Vec Ideal S384x1024 .f32 := out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The tile's result, by the call's values. -/
theorem out_eq : outT m c t = k0_pay1 (iblk m c 3 t) (iblk m c 4 t) (iblk m c 5 t) (k0_pay4 (iblk m c 8 t)) (iblk m c 12 t) (iblk m c 13 t)
    (k0_pay7 (iblk m c 0 t) (k0_pay2 (iblk m c 6 t)) (k0_pay3 (iblk m c 7 t)) (iblk m c 9 t) (iblk m c 10 t) (k0_pay5 (iblk m c 0 t) (iblk m c 6 t)) (k0_pay6 (iblk m c 0 t) (iblk m c 6 t)))
    (k0_pay10 (iblk m c 1 t) (iblk m c 2 t) (k0_pay2 (iblk m c 6 t)) (k0_pay3 (iblk m c 7 t)) (iblk m c 11 t))
    (k0_pay11 (iblk m c 1 t) (iblk m c 2 t) (k0_pay2 (iblk m c 6 t)) (k0_pay3 (iblk m c 7 t)) (iblk m c 11 t)) := by
  unfold outT
  unfold_out out0_14
  frame_out

variable (H : ∀ R, Summed ((argsF m c).row R))
include H
/-- What a point leaves at a row of its tile. -/
theorem point (r : Fin 384) (l : Fin 1024) : outT m c t (ix2 r l) = rows (argsF m c) (biasF m c) (ix2 (rowIx t r) l) := by
  rw [out_eq]
  refine (tile_at (X := rowT m c t) r l (read_v m c t) (read_g m c t) (read_h m c t) (read_wo m c t) (read_lg m c t)
    (fun r l => norm_at (X := rowT m c t) (fun r => H _) (read_mark m c t) (read_markT m c t) r l (read_y m c t) (read_gw m c t) (read_gb m c t))
    (fun r l => bon_at (X := rowT m c t) (fun r => H _) (read_mark m c t) (read_markT m c t) r l (read_r m c t) (read_k m c t) (read_rk m c t))).trans ?_
  simp only [read_lb]
  rfl

/-- The array that the call leaves. -/
theorem final : (dats m 0 c).arrAt 14 cfg0.N = rows (argsF m c) (biasF m c) := by
  refine (dats m 0 c).arrAt_eq_of_covers 14 _ (by decide +kernel) fun t hf y => ?_
  blk_simp
  have key : outT m c t y = rows (argsF m c) (biasF m c) (((View.whole main_v9).slice (win0_14.rect t)).emb y) := by
    obtain ⟨r, l, rfl⟩ : ∃ (r : Fin 384) (l : Fin 1024), y = ix2 r l := ⟨_, _, eq_ix2 y⟩
    have ee : (((View.whole main_v9).slice (win0_14.rect t)).emb (ix2 r l)) = ix2 (rowIx t r) l := by blk_ext [idxW14 t]
    rw [point m c t H, ee]
  rw [after0_14]
  exact key

end Cert.Proof.Fwd
end
-- ==== Proof.FwdClaims.lean ====
module

public import proofs.«01_k».proof.Defs
public import proofs.«01_k».proof.Proof.FwdArrays
public import proofs.«01_k».proof.Proof.SwaTail
public import proofs.«01_k».proof.Proof.Gen.Fwd.Frame
public import proofs.«01_k».proof.Proof.Gen.FwdRefIdeal.Run

@[expose] public section

set_option maxRecDepth 16384

noncomputable section

namespace Cert.Proof.Fwd

open Cert.Proof.Post Idealize.ShloMosaic Idealize.ShloMosaic.TcCoe Idealize.SL.Sem

/-- The printed precondition's side conditions. -/
theorem pre_facts : Cert.Pre_finite_fwd.Facts where
  bcast_S_S4224x1024 := by decide
  reducesTo_S4224x1024_S_d0_1 := by decide
  h_S_ := by decide
  bcast_S_S1x1024 := by decide
  reducesTo_S1x1024_S_d0_1 := by decide

theorem real_at {S : Shape} (x : FVec Ideal S .f32) {axes : List (Fin S.rank)} (hb : Cert.Pre_finite_fwd.S_.BroadcastsInDim S (![] : Fin 0 → Fin S.rank))
    (hr : S.ReducesTo axes Cert.Pre_finite_fwd.S_) (hu : 0 < Cert.Pre_finite_fwd.S_.numel) (j : Cert.Pre_finite_fwd.S_.Idx)
    (h : Host.reduce IntOp.andi (cmpf .olt (Host.absf x) (broadcastInDim S ![] hb (constant (F := Ideal) Cert.Pre_finite_fwd.S_ .f32 0x7F800000#32))) (constantI Cert.Pre_finite_fwd.S_ 1 1#1) hr hu j = 1#1) (i : S.Idx) : Re (x i) :=
  Swa.real_of_abs (x i) (Host.reduce_andi_all _ _ hr hu j h i)

/-- The precondition says that what is summed over the heads is real. -/
theorem rows_real (A : Args) (b : Vec Ideal Cert.FwdIdeal.S1x1024 .f32)
    (h : @Cert.Pre_finite_fwd.fn pre_facts Ideal _ A.y A.r A.k A.v A.g A.h A.wo A.gw A.gb A.rk A.lg b = fun _ => 1#1) (R : Fin 4224) : Summed (A.row R) := by
  have h0 := congrFun h (Shape.Idx.first pre_facts.h_S_)
  dsimp only [Cert.Pre_finite_fwd.fn, Cert.Pre_finite_fwd.fn_part1] at h0
  obtain ⟨h0, h_rk⟩ := Swa.and_one _ _ h0
  obtain ⟨h0, h_k⟩ := Swa.and_one _ _ h0
  obtain ⟨h_y, h_r⟩ := Swa.and_one _ _ h0
  exact {
    y := fun l => real_at _ _ _ _ _ h_y _
    r := fun l => real_at _ _ _ _ _ h_r _
    k := fun l => real_at _ _ _ _ _ h_k _
    rk := fun l => real_at _ _ _ _ _ h_rk _ }

/-- The call ends without fault, its argument arrays and its counters as they were. -/
theorem frame_kernel : Cert.quiescent_Fwd := fun m ρ _ => Cert.Fwd.Gen.frame m ρ

theorem frame_ideal : Cert.quiescent_FwdIdeal := fun m ρ _ => Cert.FwdIdeal.Gen.frame m ρ

/-- The reference ends without fault, its argument arrays and its counters as they were. -/
theorem frame_reference : Cert.quiescent_FwdRefIdeal := fun m ρ _ =>
  (θ_run _ _ _).mono (fun r h => ⟨fun c => (h c).2, sem_eq_zero_of_no_sems (by decide) r.2⟩) (Cert.FwdRefIdeal.Value.run m ρ)

/-- The two frames again, from memories whose summed arguments are finite. -/
theorem frame_ideal_pre : @Cert.quiescent_FwdIdeal_pre_finite_fwd Cert.FwdIdeal.Gen.facts pre_facts := fun m ρ _ => frame_ideal m ρ trivial

theorem frame_reference_pre : @Cert.quiescent_FwdRefIdeal_pre_finite_fwd Cert.FwdRefIdeal.Gen.facts pre_facts := fun m ρ _ => frame_reference m ρ trivial

/-- Call and reference leave the same rows of the recurrence's output. -/
theorem values : @Cert.algebraic_FwdIdeal_FwdRefIdeal_pre_finite_fwd Cert.FwdIdeal.Gen.facts Cert.FwdRefIdeal.Gen.facts pre_facts := fun m ρ m' ρ' hpre hag => by
  have H := fun c => rows_real (argsF m c) _ (hpre c)
  refine ⟨fun c => rows (argsF m c) (biasF m c), (θ_run _ _ _).mono (fun _ h c => ⟨(h c).1.trans (final m c (H c)), (h c).2⟩) (Cert.FwdIdeal.Value.run_blocks m ρ),
    (θ_run _ _ _).mono (fun _ h c => ?_) (Cert.FwdRefIdeal.Value.run m' ρ')⟩
  obtain ⟨e0, e1, e2, e3, e4, e5, e6, e7, e8, e9, e10, e11⟩ := hag c
  obtain ⟨h0, kept⟩ := h c
  refine ⟨h0.trans ((Cert.FwdRefIdeal.Read.val_main_v60_eq _ _).trans (Eq.trans ?_ (ref_rows (argsF m c) (biasF m c)))), kept⟩
  exact congr (congr (congr (congr (congr (congr (congr (congr (congr (congr (congr (congrArg _ e0) e1) e2) e3) e4) e5) e6) e7) e8) e9) e10) e11

end Cert.Proof.Fwd
end
-- ==== Proof.MlfTile.lean ====
module

public import proofs.«01_k».proof.Proof.AoTile
public import proofs.«01_k».proof.Proof.MlpTail
public import proofs.«01_k».proof.Proof.Gen.MlfIdeal.Value
public import proofs.«01_k».proof.Proof.Gen.MlfRefIdeal.Read

@[expose] public section
set_option maxRecDepth 16384
noncomputable section
namespace Cert.Proof.Mlf
open Cert.Proof.Ao (normed)
open Cert.Proof.Mlp (colIx col_surj sum_cols)
open Cert.Proof.Norm Idealize.ShloMosaic Idealize.ShloMosaic.TcCoe Idealize.SL.Sem Pipeline

/-! The hidden layer with squared relu, forward: one tile of rows, and the reference. -/

section
open Cert.MlfIdeal Cert.MlfIdeal.Gen
variable (h : Vec Ideal S384x1024 .f32) (u d : Vec Ideal S4x1024x1024 .bf16) (w b : Vec Ideal S1x1024 .f32) (r : Fin 384)

/-- One hidden column of chunk `a`, before the relu. -/
def hidTile (a : Fin 4) (x : Fin 1024) : EReal := ∑ k : Fin 1024, h (ix2 r k) * u (ix3 a k x)
/-- What chunk `a` gives to the result. -/
def part (a : Fin 4) (l : Fin 1024) : EReal := ∑ x : Fin 1024, (max (hidTile h u r a x) 0 * max (hidTile h u r a x) 0) * d (ix3 a x l)
/-- A row before the norm. -/
def sumTile (l : Fin 1024) : EReal :=
  Ideal.ofBits .f32 0x3FB504F3#32 * h (ix2 r l) + (part h u d r 0 l + part h u d r 1 l + part h u d r 2 l + part h u d r 3 l)

theorem hid_0 (x : Fin 1024) : k0_pay3 h u (ix2 r x) = hidTile h u r 0 x := by
  pointwise [k0_pay3, k0_pay1]
  rfl
theorem hid_1 (x : Fin 1024) : k0_pay5 h u (ix2 r x) = hidTile h u r 1 x := by
  pointwise [k0_pay5, k0_pay1]
  rfl
theorem hid_2 (x : Fin 1024) : k0_pay8 h u (ix2 r x) = hidTile h u r 2 x := by
  pointwise [k0_pay8, k0_pay1]
  rfl
theorem hid_3 (x : Fin 1024) : k0_pay11 h (k0_pay1 u) (ix2 r x) = hidTile h u r 3 x := by
  pointwise [k0_pay11, k0_pay1]
  rfl

/-- The first two chunks. -/
theorem first_two (l : Fin 1024) : k0_pay7 h u d (ix2 r l) = part h u d r 0 l + part h u d r 1 l := by
  have e0 := hid_0 h u r
  have e1 := hid_1 h u r
  unfold k0_pay7 part
  generalize k0_pay3 h u = A at *
  generalize k0_pay5 h u = B at *
  pointwise [k0_pay2]
  simp only [e0, e1]

abbrev zTile : FVec Ideal S384x1024 .f32 := k0_pay12 h (k0_pay1 u) (k0_pay2 d) (k0_pay7 h u d) (k0_pay8 h u) (k0_pay10 (F := Ideal))

theorem sum_at (l : Fin 1024) : zTile h u d (ix2 r l) = sumTile h u d r l := by
  have e01 := first_two h u d r l
  have e2 := hid_2 h u r
  have e3 := hid_3 h u r
  unfold zTile k0_pay12 sumTile
  generalize k0_pay7 h u d = S at *
  generalize k0_pay8 h u = A at *
  generalize k0_pay11 h (k0_pay1 u) = B at *
  unfold part
  pointwise [k0_pay2, k0_pay10]
  simp only [e01, e2, e3]
  rfl

theorem normed_at (l : Fin 1024) : k0_pay13 h (k0_pay1 u) (k0_pay2 d) w b (k0_pay7 h u d) (k0_pay8 h u) (k0_pay10 (F := Ideal)) (ix2 r l)
    = normed (sumTile h u d r) (fun l => w (ix2 0 l)) (fun l => b (ix2 0 l)) l := by
  have e := sum_at h u d r
  unfold k0_pay13
  unfold zTile at e
  generalize k0_pay12 h (k0_pay1 u) (k0_pay2 d) (k0_pay7 h u d) (k0_pay8 h u) (k0_pay10 (F := Ideal)) = A at *
  pointwise []
  simp only [e]
  rfl

theorem stack_at (a : Fin 4) (x : Fin 1024) : k0_pay14 h (k0_pay1 u) (k0_pay4 h u) (k0_pay6 h u) (k0_pay9 h u) (ix3 a r x) = hidTile h u r a x := by
  have e0 := hid_0 h u r x
  have e1 := hid_1 h u r x
  have e2 := hid_2 h u r x
  have e3 := hid_3 h u r x
  unfold k0_pay14 k0_pay4 k0_pay6 k0_pay9
  generalize k0_pay3 h u = A at *
  generalize k0_pay5 h u = B at *
  generalize k0_pay8 h u = C at *
  generalize k0_pay11 h (k0_pay1 u) = D at *
  obtain rfl | rfl | rfl | rfl : a = 0 ∨ a = 1 ∨ a = 2 ∨ a = 3 := by fin_cases a <;> simp
  · pointwise []; exact e0
  · pointwise []; exact e1
  · pointwise []; exact e2
  · pointwise []; exact e3
end

section
open Cert.MlfRefIdeal Cert.MlfRefIdeal.Gen
variable (h : Vec Ideal S4224x1024 .f32) (u : Vec Ideal S1024x4096 .f32) (d : Vec Ideal S4096x1024 .f32) (w b : Vec Ideal S1x1024 .f32)

/-- The hidden layer before its relu. -/
def hid (R : Fin 4224) (C : Fin 4096) : EReal := ∑ k : Fin 1024, h (ix2 R k) * u (ix2 k C)
/-- A row before the norm. -/
def pre (R : Fin 4224) (l : Fin 1024) : EReal :=
  Ideal.ofBits .f32 0x3FB504F3#32 * h (ix2 R l) + ∑ C : Fin 4096, (max (hid h u R C) 0 * max (hid h u R C) 0) * d (ix2 C l)

/-- The three arrays: the normed rows, the rows before the norm, the hidden layer in four chunks. -/
def rows : Vec Ideal S4224x1024 .f32 := fun i => normed (pre h u d (i 0)) (fun l => w (ix2 0 l)) (fun l => b (ix2 0 l)) (i 1)
def sums : Vec Ideal S4224x1024 .f32 := fun i => pre h u d (i 0) (i 1)
def chunks : Vec Ideal S4x4224x1024 .bf16 := fun i => hid h u (i 1) (colIx (i 0) (i 2))

theorem ref_hid (R : Fin 4224) (C : Fin 4096) : Read.val_main_v2 (F := Ideal) h u (ix2 R C) = hid h u R C := by
  pointwise [Read.val_main_v2]
  rfl
theorem ref_hid' (R : Fin 4224) (C : Fin 4096) : Read.val_main_v7 (F := Ideal) h u (ix2 R C) = hid h u R C := by
  pointwise [Read.val_main_v7]
  rfl
theorem ref_pre (R : Fin 4224) (l : Fin 1024) : Read.val_main_v6 (F := Ideal) h u d (ix2 R l) = pre h u d R l := by
  have e := ref_hid h u R
  unfold Read.val_main_v6 Read.val_main_v5 Read.val_main_v4 Read.val_main_v3
  generalize Read.val_main_v2 (F := Ideal) h u = A at *
  pointwise [Read.val_main_v1, Read.val_main_v0, Read.val_main_cst, Read.val_main_call0_v0, Read.val_main_call0_cst]
  simp only [e]
  rfl
theorem ref_cen (R : Fin 4224) (l : Fin 1024) : Read.val_main_v16 (F := Ideal) h u d (ix2 R l) = cen (pre h u d R) l := by
  have e := ref_pre h u d R
  unfold Read.val_main_v16 Read.val_main_v15 Read.val_main_v14 Read.val_main_v12 Read.val_main_v11
  generalize Read.val_main_v6 (F := Ideal) h u d = A at *
  pointwise [Read.val_main_v13, Read.val_main_cst_0, Read.val_main_cst_1]
  simp only [e]
  rfl
theorem ref_scale (R : Fin 4224) : Read.val_main_v24 (F := Ideal) h u d (ix2 R 0) = scale (pre h u d R) := by
  have e := ref_cen h u d R
  unfold Read.val_main_v24 Read.val_main_v23 Read.val_main_v21 Read.val_main_v19 Read.val_main_v18 Read.val_main_v17
  generalize Read.val_main_v16 (F := Ideal) h u d = A at *
  pointwise [Read.val_main_v20, Read.val_main_v22, Read.val_main_cst_2, Read.val_main_cst_3, Read.val_main_cst_4]
  simp only [e]
  rfl
/-- The reference's three arrays. -/
theorem ref_rows : Read.val_main_v30 (F := Ideal) h u d w b = rows h u d w b := by
  funext i
  obtain ⟨R, l, rfl⟩ : ∃ (R : Fin 4224) (l : Fin 1024), i = ix2 R l := ⟨_, _, eq_ix2 i⟩
  have e1 := ref_cen h u d R l
  have e2 := ref_scale h u d R
  unfold Read.val_main_v30 Read.val_main_v28 Read.val_main_v26 Read.val_main_v25
  generalize Read.val_main_v16 (F := Ideal) h u d = A at *
  generalize Read.val_main_v24 (F := Ideal) h u d = B at *
  pointwise [Read.val_main_v27, Read.val_main_v29]
  rw [e1, e2]
  rfl
theorem ref_sums : Read.val_main_v6 (F := Ideal) h u d = sums h u d := by
  funext i
  obtain ⟨R, l, rfl⟩ : ∃ (R : Fin 4224) (l : Fin 1024), i = ix2 R l := ⟨_, _, eq_ix2 i⟩
  exact ref_pre h u d R l
theorem ref_chunks : Read.val_main_v10 (F := Ideal) h u = chunks h u := by
  funext i
  obtain ⟨a, R, x, rfl⟩ : ∃ (a : Fin 4) (R : Fin 4224) (x : Fin 1024), i = ix3 a R x := ⟨_, _, _, eq_ix3 i⟩
  have e := ref_hid' h u R (colIx a x)
  unfold Read.val_main_v10 Read.val_main_v9 Read.val_main_v8
  generalize Read.val_main_v7 (F := Ideal) h u = A at *
  refine Eq.trans ?_ e
  pointwise []
end

end Cert.Proof.Mlf
end
-- ==== Proof.MlfArrays.lean ====
module

public import proofs.«01_k».proof.Proof.MlfTile

@[expose] public section
set_option maxRecDepth 16384
noncomputable section
namespace Cert.Proof.Mlf
open Cert.Proof.Ao (normed)
open Cert.Proof.Mlp (colIx sum_cols)
open Cert.MlfIdeal Cert.MlfIdeal.Gen Idealize.ShloMosaic Idealize.ShloMosaic.TcCoe Idealize.SL.Sem Pipeline

/-! The three arrays that the forward call of the hidden layer leaves. -/

variable (m : (ℓ : Loc nD τ sig) → Buf (Elt Ideal) ℓ) (c : Dev nD)

/-- The arguments of device `c`. -/
abbrev argH : Vec Ideal S4224x1024 .f32 := m ((c : Thread nD τ).loc main_arg0)
abbrev argU : Vec Ideal S1024x4096 .f32 := m ((c : Thread nD τ).loc main_arg1)
abbrev argD : Vec Ideal S4096x1024 .f32 := m ((c : Thread nD τ).loc main_arg2)
abbrev argW : Vec Ideal S1x1024 .f32 := m ((c : Thread nD τ).loc main_arg3)
abbrev argB : Vec Ideal S1x1024 .f32 := m ((c : Thread nD τ).loc main_arg4)

theorem V_up : (V m c main_v2 : Vec Ideal S4x1024x1024 .bf16) = truncf (F := Ideal) .bf16 (transpose S4x1024x1024 [1, 0, 2] (shapeCast S1024x4x1024 (argU m c) shapeCasts_S1024x4096_S1024x4x1024) transposes_S1024x4x1024_S4x1024x1024_1_0_2) bitsLt_bf16_f32 := by
  show StableHlo.after hostOps0 (fun b => m (c, b)) (Proc.devRef .tc main_v2) = _
  simp only [hostOps0]
  after_results_simp
  rfl
theorem V_down : (V m c main_v4 : Vec Ideal S4x1024x1024 .bf16) = truncf (F := Ideal) .bf16 (shapeCast S4x1024x1024 (argD m c) shapeCasts_S4096x1024_S4x1024x1024) bitsLt_bf16_f32 := by
  show StableHlo.after hostOps0 (fun b => m (c, b)) (Proc.devRef .tc main_v4) = _
  simp only [hostOps0]
  after_results_simp
  rfl

theorem idxW0 : ∀ t : Fin cfg0.N, win0_0.index t = ![t.val, 0] := (by decide +kernel : ∀ t : Fin grid0.N, _)
theorem idxW1 : ∀ t : Fin cfg0.N, win0_1.index t = ![0, 0, 0] := (by decide +kernel : ∀ t : Fin grid0.N, _)
theorem idxW2 : ∀ t : Fin cfg0.N, win0_2.index t = ![0, 0, 0] := (by decide +kernel : ∀ t : Fin grid0.N, _)
theorem idxW3 : ∀ t : Fin cfg0.N, win0_3.index t = ![0, 0] := (by decide +kernel : ∀ t : Fin grid0.N, _)
theorem idxW4 : ∀ t : Fin cfg0.N, win0_4.index t = ![0, 0] := (by decide +kernel : ∀ t : Fin grid0.N, _)
theorem idxW5 : ∀ t : Fin cfg0.N, win0_5.index t = ![t.val, 0] := (by decide +kernel : ∀ t : Fin grid0.N, _)
theorem idxW6 : ∀ t : Fin cfg0.N, win0_6.index t = ![t.val, 0] := (by decide +kernel : ∀ t : Fin grid0.N, _)
theorem idxW7 : ∀ t : Fin cfg0.N, win0_7.index t = ![0, t.val, 0] := (by decide +kernel : ∀ t : Fin grid0.N, _)

variable (t : Fin cfg0.N)
theorem tile_lt : t.val < 11 := t.isLt.trans_eq N_0
/-- Row `r` of tile `t`. -/
abbrev rowIx (t : Fin cfg0.N) (r : Fin 384) : Fin 4224 := ⟨384 * t.val + r.val, by have := tile_lt t; omega⟩

theorem read_h (r : Fin 384) (k : Fin 1024) : iblk m c 0 t (ix2 r k) = argH m c (ix2 (rowIx t r) k) := by
  rw [show argH m c = V m c main_arg0 from (V_main_arg0 m c).symm]
  unfold iblk
  show V m c main_arg0 _ = _
  generalize V m c main_arg0 = A
  blk_ext [idxW0 t]
theorem read_up (a : Fin 4) (k x : Fin 1024) : iblk m c 1 t (ix3 a k x) = argU m c (ix2 k (colIx a x)) := by
  have e : (V m c main_v2 : Vec Ideal S4x1024x1024 .bf16) (ix3 a k x) = argU m c (ix2 k (colIx a x)) := by
    rw [V_up]
    generalize argU m c = A
    pointwise []
  rw [← e]
  unfold iblk
  show V m c main_v2 _ = _
  generalize V m c main_v2 = A
  blk_ext [idxW1 t]
theorem read_down (a : Fin 4) (x l : Fin 1024) : iblk m c 2 t (ix3 a x l) = argD m c (ix2 (colIx a x) l) := by
  have e : (V m c main_v4 : Vec Ideal S4x1024x1024 .bf16) (ix3 a x l) = argD m c (ix2 (colIx a x) l) := by
    rw [V_down]
    generalize argD m c = A
    pointwise []
  rw [← e]
  unfold iblk
  show V m c main_v4 _ = _
  generalize V m c main_v4 = A
  blk_ext [idxW2 t]
theorem read_w (l : Fin 1024) : iblk m c 3 t (ix2 0 l) = argW m c (ix2 0 l) := by
  rw [show argW m c = V m c main_arg3 from (V_main_arg3 m c).symm]
  unfold iblk
  show V m c main_arg3 _ = _
  generalize V m c main_arg3 = A
  blk_ext [idxW3 t]
theorem read_b (l : Fin 1024) : iblk m c 4 t (ix2 0 l) = argB m c (ix2 0 l) := by
  rw [show argB m c = V m c main_arg4 from (V_main_arg4 m c).symm]
  unfold iblk
  show V m c main_arg4 _ = _
  generalize V m c main_arg4 = A
  blk_ext [idxW4 t]

/-- A tile's hidden columns and sums are those of its rows. -/
theorem hid_point (r : Fin 384) (a : Fin 4) (x : Fin 1024) : hidTile (iblk m c 0 t) (iblk m c 1 t) r a x = hid (argH m c) (argU m c) (rowIx t r) (colIx a x) :=
  Finset.sum_congr rfl fun k _ => by rw [read_h, read_up]
theorem part_point (r : Fin 384) (a : Fin 4) (l : Fin 1024) : part (iblk m c 0 t) (iblk m c 1 t) (iblk m c 2 t) r a l
    = ∑ x : Fin 1024, (max (hid (argH m c) (argU m c) (rowIx t r) (colIx a x)) 0 * max (hid (argH m c) (argU m c) (rowIx t r) (colIx a x)) 0) * argD m c (ix2 (colIx a x) l) :=
  Finset.sum_congr rfl fun x _ => by rw [hid_point, read_down]
theorem sum_point (r : Fin 384) : sumTile (iblk m c 0 t) (iblk m c 1 t) (iblk m c 2 t) r = pre (argH m c) (argU m c) (argD m c) (rowIx t r) := by
  funext l
  unfold sumTile pre
  rw [sum_cols, read_h, part_point, part_point, part_point, part_point]

theorem out_rows (r : Fin 384) (l : Fin 1024) : (out0_5 (iblk m c 0 t) (iblk m c 1 t) (iblk m c 2 t) (iblk m c 3 t) (iblk m c 4 t) : Vec Ideal S384x1024 .f32) (ix2 r l)
    = rows (argH m c) (argU m c) (argD m c) (argW m c) (argB m c) (ix2 (rowIx t r) l) := by
  have e : (out0_5 (iblk m c 0 t) (iblk m c 1 t) (iblk m c 2 t) (iblk m c 3 t) (iblk m c 4 t) : Vec Ideal S384x1024 .f32)
      = k0_pay13 (iblk m c 0 t) (k0_pay1 (iblk m c 1 t)) (k0_pay2 (iblk m c 2 t)) (iblk m c 3 t) (iblk m c 4 t)
        (k0_pay7 (iblk m c 0 t) (iblk m c 1 t) (iblk m c 2 t)) (k0_pay8 (iblk m c 0 t) (iblk m c 1 t)) (k0_pay10 (F := Ideal)) := by
    unfold_out out0_5; frame_out
  rw [e, normed_at, sum_point]
  simp only [read_w, read_b]
  rfl
theorem out_sums (r : Fin 384) (l : Fin 1024) : (out0_6 (iblk m c 0 t) (iblk m c 1 t) (iblk m c 2 t) (iblk m c 3 t) (iblk m c 4 t) : Vec Ideal S384x1024 .f32) (ix2 r l)
    = sums (argH m c) (argU m c) (argD m c) (ix2 (rowIx t r) l) := by
  have e : (out0_6 (iblk m c 0 t) (iblk m c 1 t) (iblk m c 2 t) (iblk m c 3 t) (iblk m c 4 t) : Vec Ideal S384x1024 .f32)
      = zTile (iblk m c 0 t) (iblk m c 1 t) (iblk m c 2 t) := by
    unfold_out out0_6; frame_out
  rw [e, sum_at, sum_point]
  rfl
theorem out_chunks (a : Fin 4) (r : Fin 384) (x : Fin 1024) : (out0_7 (iblk m c 0 t) (iblk m c 1 t) (iblk m c 2 t) (iblk m c 3 t) (iblk m c 4 t) : Vec Ideal S4x384x1024 .bf16) (ix3 a r x)
    = chunks (argH m c) (argU m c) (ix3 a (rowIx t r) x) := by
  have e : (out0_7 (iblk m c 0 t) (iblk m c 1 t) (iblk m c 2 t) (iblk m c 3 t) (iblk m c 4 t) : Vec Ideal S4x384x1024 .bf16)
      = k0_pay14 (iblk m c 0 t) (k0_pay1 (iblk m c 1 t)) (k0_pay4 (iblk m c 0 t) (iblk m c 1 t)) (k0_pay6 (iblk m c 0 t) (iblk m c 1 t)) (k0_pay9 (iblk m c 0 t) (iblk m c 1 t)) := by
    unfold_out out0_7; frame_out
  rw [e, stack_at, hid_point]
  rfl

/-- The arrays that the call leaves. -/
theorem final_rows : (dats m 0 c).arrAt 5 cfg0.N = rows (argH m c) (argU m c) (argD m c) (argW m c) (argB m c) := by
  refine (dats m 0 c).arrAt_eq_of_covers 5 _ (by decide +kernel) fun t hf y => ?_
  blk_simp
  have key : (out0_5 (iblk m c 0 t) (iblk m c 1 t) (iblk m c 2 t) (iblk m c 3 t) (iblk m c 4 t) : Vec Ideal S384x1024 .f32) y
      = rows (argH m c) (argU m c) (argD m c) (argW m c) (argB m c) (((View.whole main_v5_0).slice (win0_5.rect t)).emb y) := by
    obtain ⟨r, l, rfl⟩ : ∃ (r : Fin 384) (l : Fin 1024), y = ix2 r l := ⟨_, _, eq_ix2 y⟩
    have ee : (((View.whole main_v5_0).slice (win0_5.rect t)).emb (ix2 r l)) = ix2 (rowIx t r) l := by blk_ext [idxW5 t]
    rw [out_rows, ee]
  rw [after0_5]
  exact key
theorem final_sums : (dats m 0 c).arrAt 6 cfg0.N = sums (argH m c) (argU m c) (argD m c) := by
  refine (dats m 0 c).arrAt_eq_of_covers 6 _ (by decide +kernel) fun t hf y => ?_
  blk_simp
  have key : (out0_6 (iblk m c 0 t) (iblk m c 1 t) (iblk m c 2 t) (iblk m c 3 t) (iblk m c 4 t) : Vec Ideal S384x1024 .f32) y
      = sums (argH m c) (argU m c) (argD m c) (((View.whole main_v5_1).slice (win0_6.rect t)).emb y) := by
    obtain ⟨r, l, rfl⟩ : ∃ (r : Fin 384) (l : Fin 1024), y = ix2 r l := ⟨_, _, eq_ix2 y⟩
    have ee : (((View.whole main_v5_1).slice (win0_6.rect t)).emb (ix2 r l)) = ix2 (rowIx t r) l := by blk_ext [idxW6 t]
    rw [out_sums, ee]
  rw [after0_6]
  exact key
theorem final_chunks : (dats m 0 c).arrAt 7 cfg0.N = chunks (argH m c) (argU m c) := by
  refine (dats m 0 c).arrAt_eq_of_covers 7 _ (by decide +kernel) fun t hf y => ?_
  blk_simp
  have key : (out0_7 (iblk m c 0 t) (iblk m c 1 t) (iblk m c 2 t) (iblk m c 3 t) (iblk m c 4 t) : Vec Ideal S4x384x1024 .bf16) y
      = chunks (argH m c) (argU m c) (((View.whole main_v5_2).slice (win0_7.rect t)).emb y) := by
    obtain ⟨a, r, x, rfl⟩ : ∃ (a : Fin 4) (r : Fin 384) (x : Fin 1024), y = ix3 a r x := ⟨_, _, _, eq_ix3 y⟩
    have ee : (((View.whole main_v5_2).slice (win0_7.rect t)).emb (ix3 a r x)) = ix3 a (rowIx t r) x := by blk_ext [idxW7 t]
    rw [out_chunks, ee]
  rw [after0_7]
  exact key

end Cert.Proof.Mlf
end
-- ==== Proof.MlfClaims.lean ====
module

public import proofs.«01_k».proof.Defs
public import proofs.«01_k».proof.Proof.MlfArrays
public import proofs.«01_k».proof.Proof.Gen.Mlf.Frame
public import proofs.«01_k».proof.Proof.Gen.MlfRefIdeal.Run

@[expose] public section

set_option maxRecDepth 16384

noncomputable section

namespace Cert.Proof.Mlf

open Idealize.ShloMosaic Idealize.SL.Sem

/-- The call ends without fault, its argument arrays and its counters as they were. -/
theorem frame_kernel : Cert.quiescent_Mlf := fun m ρ _ => Cert.Mlf.Gen.frame m ρ

theorem frame_ideal : Cert.quiescent_MlfIdeal := fun m ρ _ => Cert.MlfIdeal.Gen.frame m ρ

/-- The reference ends without fault, its argument arrays and its counters as they were. -/
theorem frame_reference : Cert.quiescent_MlfRefIdeal := fun m ρ _ =>
  (θ_run _ _ _).mono (fun r h => ⟨fun c => (h c).2.2.2, sem_eq_zero_of_no_sems (by decide) r.2⟩) (Cert.MlfRefIdeal.Value.run m ρ)

/-- Call and reference leave the same normed rows, the same rows before the norm and the same hidden layer. -/
theorem values : Cert.algebraic_MlfIdeal_MlfRefIdeal := fun m ρ m' ρ' _ hag =>
  ⟨fun c => rows (argH m c) (argU m c) (argD m c) (argW m c) (argB m c), fun c => sums (argH m c) (argU m c) (argD m c), fun c => chunks (argH m c) (argU m c),
    (θ_run _ _ _).mono (fun _ h c => ⟨(h c).1.trans (final_rows m c), (h c).2.1.trans (final_sums m c), (h c).2.2.1.trans (final_chunks m c), (h c).2.2.2⟩)
      (Cert.MlfIdeal.Value.run_blocks m ρ),
    (θ_run _ _ _).mono (fun _ h c => by
      obtain ⟨e0, e1, e2, e3, e4⟩ := hag c
      obtain ⟨h0, h1, h2, kept⟩ := h c
      refine ⟨h0.trans ((Cert.MlfRefIdeal.Read.val_main_v30_eq _ _).trans (Eq.trans ?_ (ref_rows (argH m c) (argU m c) (argD m c) (argW m c) (argB m c)))),
        h1.trans ((Cert.MlfRefIdeal.Read.val_main_v6_eq _ _ _).trans (Eq.trans ?_ (ref_sums (argH m c) (argU m c) (argD m c)))),
        h2.trans ((Cert.MlfRefIdeal.Read.val_main_v10_eq _ _).trans (Eq.trans ?_ (ref_chunks (argH m c) (argU m c)))), kept⟩
      · exact congr (congr (congr (congr (congrArg (Cert.MlfRefIdeal.Read.val_main_v30 (F := Ideal)) e0) e1) e2) e3) e4
      · exact congr (congr (congrArg (Cert.MlfRefIdeal.Read.val_main_v6 (F := Ideal)) e0) e1) e2
      · exact congr (congrArg (Cert.MlfRefIdeal.Read.val_main_v10 (F := Ideal)) e0) e1) (Cert.MlfRefIdeal.Value.run m' ρ')⟩

end Cert.Proof.Mlf
end
-- ==== Proof.PrjTile.lean ====
module

public import proofs.«01_k».proof.Proof.QkvArrays
public import proofs.«01_k».proof.Proof.Gen.PrjIdeal.Value
public import proofs.«01_k».proof.Proof.Gen.PrjRefIdeal.Read

@[expose] public section
set_option maxRecDepth 16384
noncomputable section
namespace Cert.Proof.Prj
open Cert.Proof.Qkv (col places angles cosTab sinTab four position)
open Idealize.ShloMosaic Idealize.ShloMosaic.TcCoe Idealize.SL.Sem Pipeline

/-! The projections to queries, keys and values with the rotary embedding, forward. -/

/-- A row turned by the angles: the halves of each head of 64 columns. -/
def turned {n : ℕ} (g : Fin n → EReal) (cs sn : Fin 32 → EReal) (C : Fin n) : EReal :=
  if C.val % 64 < 32 then g C * cs (col C.val) - ext g (C.val + 32) * sn (col C.val)
  else g C * cs (col C.val) + ext g (C.val - 32) * sn (col C.val)

section
open Cert.PrjIdeal Cert.PrjIdeal.Gen
variable (t : Vec Ideal S384x128 .f32) (r : Fin 384)

/-- The half of its head that a lane lies in. -/
def maskQ : IVec S384x1024 1 := cmpi .slt (select k0_pay11 (addi k0_pay10 k0_pay12) k0_pay10) (broadcast S384x1024 32#32)
theorem maskQ_at (l : Fin 1024) : maskQ (ix2 r l) = if l.val % 64 < 32 then 1#1 else 0#1 := by
  pointwise [maskQ, k0_pay10, k0_pay11, k0_pay12]
  revert l
  decide +kernel
def remK : IVec S384x256 32 := remsi (iota .tc S384x256 32 [1] iota_S384x256_d1_w32) (broadcast S384x256 (Scalar.select (Scalar.cmpi .eq 64#32 0#32) 1#32 64#32))
def negK : IVec S384x256 1 :=
  andi (xori (cmpi .slt remK (broadcast S384x256 0#32)) (broadcastTo S384x256 (broadcast S384x256 (Scalar.cmpi .slt (Scalar.select (Scalar.cmpi .eq 64#32 0#32) 1#32 64#32) 0#32)) broadcasts_S384x256_S384x256))
    (cmpi .ne remK (broadcast S384x256 0#32))
def maskK : IVec S384x256 1 := cmpi .slt (select negK (addi remK (broadcast S384x256 (Scalar.select (Scalar.cmpi .eq 64#32 0#32) 1#32 64#32))) remK) (broadcast S384x256 32#32)
theorem maskK_at (l : Fin 256) : maskK (ix2 r l) = if l.val % 64 < 32 then 1#1 else 0#1 := by
  pointwise [maskK, negK, remK]
  revert l
  decide +kernel

theorem wideSin (l : Fin 1024) : k0_pay6 t (ix2 r l) = t (ix2 r ⟨l.val % 128, by omega⟩) := by
  have e : ∀ (i j : Fin 128), i = j → t (ix2 r i) = t (ix2 r j) := fun i j h => by rw [h]
  pointwise [k0_pay6, k0_pay2]
  split_ifs <;> exact e _ _ (Fin.ext (by dsimp only; omega))
theorem wideCos (h : Vec Ideal S384x1024 .f32) (w : Vec Ideal S1024x1024 .bf16) (l : Fin 1024) :
    k0_pay9 h t w (ix2 r l) = k0_pay3 h w (ix2 r l) * t (ix2 r ⟨l.val % 128, by omega⟩) := by
  unfold k0_pay9
  generalize k0_pay3 h w = A
  have e : ∀ (i j : Fin 128), i = j → A (ix2 r l) * t (ix2 r i) = A (ix2 r l) * t (ix2 r j) := fun i j h => by rw [h]
  pointwise [k0_pay1]
  split_ifs <;> exact e _ _ (Fin.ext (by dsimp only; omega))
theorem narrowCos (l : Fin 256) : k0_pay7 t (ix2 r l) = t (ix2 r ⟨l.val % 128, by omega⟩) := by
  have e : ∀ (i j : Fin 128), i = j → t (ix2 r i) = t (ix2 r j) := fun i j h => by rw [h]
  pointwise [k0_pay7, k0_pay1]
  split_ifs <;> exact e _ _ (Fin.ext (by dsimp only; omega))
theorem narrowSin (l : Fin 256) : k0_pay8 t (ix2 r l) = t (ix2 r ⟨l.val % 128, by omega⟩) := by
  have e : ∀ (i j : Fin 128), i = j → t (ix2 r i) = t (ix2 r j) := fun i j h => by rw [h]
  pointwise [k0_pay8, k0_pay2]
  split_ifs <;> exact e _ _ (Fin.ext (by dsimp only; omega))

variable (h : Vec Ideal S384x1024 .f32) (wq : Vec Ideal S1024x1024 .bf16) (wk wv : Vec Ideal S1024x256 .bf16)
theorem prodQ (l : Fin 1024) : k0_pay3 h wq (ix2 r l) = ∑ k : Fin 1024, h (ix2 r k) * wq (ix2 k l) := by
  pointwise [k0_pay3]
theorem prodK (l : Fin 256) : k0_pay4 h wk (ix2 r l) = ∑ k : Fin 1024, h (ix2 r k) * wk (ix2 k l) := by
  pointwise [k0_pay4]
theorem prodV (l : Fin 256) : k0_pay5 h wv (ix2 r l) = ∑ k : Fin 1024, h (ix2 r k) * wv (ix2 k l) := by
  pointwise [k0_pay5]

theorem pay13_eq (a s e : FVec Ideal S384x1024 .f32) : k0_pay13 a s e k0_pay10 k0_pay11 k0_pay12
    = addf e (mulf (select maskQ (subf (broadcast S384x1024 (Scalar.ofBits (F := Ideal) .f32 0x00000000#32)) (dynamicRotate 1 992#32 none a rotates_S384x1024_d1))
      (dynamicRotate 1 32#32 none a rotates_S384x1024_d1)) s) := rfl
theorem pay14_eq (a b s : FVec Ideal S384x256 .f32) : k0_pay14 a b s
    = addf (mulf a b) (mulf (select maskK (subf (broadcast S384x256 (Scalar.ofBits (F := Ideal) .f32 0x00000000#32)) (dynamicRotate 1 224#32 none a rotates_S384x256_d1))
      (dynamicRotate 1 32#32 none a rotates_S384x256_d1)) s) := rfl

variable (cs sn : Fin 32 → EReal) (tc ts : Vec Ideal S384x128 .f32) (hc : ∀ l : Fin 128, tc (ix2 r l) = cs (col l.val))
  (hs : ∀ l : Fin 128, ts (ix2 r l) = sn (col l.val))
include hc hs

theorem turnQ (l : Fin 1024) : k0_pay13 (k0_pay3 h wq) (k0_pay6 ts) (k0_pay9 h tc wq) k0_pay10 k0_pay11 k0_pay12 (ix2 r l)
    = turned (fun l => k0_pay3 h wq (ix2 r l)) cs sn l := by
  have e0 := maskQ_at r l
  have ec : k0_pay9 h tc wq (ix2 r l) = k0_pay3 h wq (ix2 r l) * cs (col l.val) := by
    rw [wideCos, hc]; exact congrArg (fun i => _ * cs i) (Fin.ext (by dsimp only; omega))
  have es : k0_pay6 ts (ix2 r l) = sn (col l.val) := by
    rw [wideSin, hs]; exact congrArg sn (Fin.ext (by dsimp only; omega))
  rw [pay13_eq]
  generalize maskQ = M at *
  generalize k0_pay9 h tc wq = E at *
  generalize k0_pay6 ts = S at *
  generalize k0_pay3 h wq = A at *
  pointwise []
  rw [e0, ec, es]
  unfold turned
  have ee : ∀ i j : Fin 1024, i = j → A (ix2 r i) = A (ix2 r j) := fun _ _ h => by rw [h]
  by_cases h : l.val % 64 < 32
  · rw [if_pos h, if_pos h, ext_lt _ _ (by omega)]
    show _ + (0 - _) * _ = _
    rw [zero_sub, neg_mul, ← sub_eq_add_neg]
    exact congrArg (fun x => _ - x * _) (ee _ _ (Fin.ext (by dsimp only; omega)))
  · rw [if_neg h, if_neg h, ext_lt _ _ (by omega)]
    exact congrArg (fun x => _ + x * _) (ee _ _ (Fin.ext (by dsimp only; omega)))
theorem turnK (l : Fin 256) : k0_pay14 (k0_pay4 h wk) (k0_pay7 tc) (k0_pay8 ts) (ix2 r l) = turned (fun l => k0_pay4 h wk (ix2 r l)) cs sn l := by
  have e0 := maskK_at r l
  have ec : k0_pay7 tc (ix2 r l) = cs (col l.val) := by
    rw [narrowCos, hc]; exact congrArg cs (Fin.ext (by dsimp only; omega))
  have es : k0_pay8 ts (ix2 r l) = sn (col l.val) := by
    rw [narrowSin, hs]; exact congrArg sn (Fin.ext (by dsimp only; omega))
  rw [pay14_eq]
  generalize maskK = M at *
  generalize k0_pay7 tc = E at *
  generalize k0_pay8 ts = S at *
  generalize k0_pay4 h wk = A at *
  pointwise []
  rw [e0, ec, es]
  unfold turned
  have ee : ∀ i j : Fin 256, i = j → A (ix2 r i) = A (ix2 r j) := fun _ _ h => by rw [h]
  by_cases h : l.val % 64 < 32
  · rw [if_pos h, if_pos h, ext_lt _ _ (by omega)]
    show _ + (0 - _) * _ = _
    rw [zero_sub, neg_mul, ← sub_eq_add_neg]
    exact congrArg (fun x => _ - x * _) (ee _ _ (Fin.ext (by dsimp only; omega)))
  · rw [if_neg h, if_neg h, ext_lt _ _ (by omega)]
    exact congrArg (fun x => _ + x * _) (ee _ _ (Fin.ext (by dsimp only; omega)))
end

section
open Cert.PrjRefIdeal Cert.PrjRefIdeal.Gen
variable (h : Vec Ideal S4224x1024 .f32) (wq : Vec Ideal S1024x1024 .f32) (wk wv : Vec Ideal S1024x256 .f32)

/-- The positions, and so the tables, of call and reference are the same. -/
theorem ref_places : Read.val_main_v13 (F := Ideal) = places := by
  funext i
  obtain ⟨R, rfl⟩ : ∃ R : Fin 4224, i = ix1 R := ⟨_, eq_ix1 i⟩
  pointwise [places, Read.val_main_v13, Read.val_main_v12, Read.val_main_v11, Read.val_main_cst_4]
  rw [position _ R.isLt, show Ideal.ofBits FTy.f32 1121976320#32 = ((112 : ℝ) : EReal) by simp [Ideal.ofBits, Ideal.ieee, -EReal.coe_mul]; norm_num, ← EReal.coe_sub]
  by_cases hR : R.val < 112
  · rw [dif_pos hR]
    have : (R.val : ℝ) ≤ 112 := by exact_mod_cast hR.le
    exact (max_eq_right (EReal.coe_nonpos.2 (by linarith))).symm
  · rw [dif_neg hR, position _ (by omega), Nat.cast_sub (by omega)]
    have : (112 : ℝ) ≤ R.val := by exact_mod_cast not_lt.1 hR
    exact (max_eq_left (EReal.coe_nonneg.2 (by push_cast; linarith))).symm
theorem ref_freq : Read.val_main_v10 (F := Ideal) = Cert.QkvRefIdeal.Read.val_main_v11 (F := Ideal) := rfl
theorem ref_angles : Read.val_main_v18 (F := Ideal) = angles := by
  unfold Read.val_main_v18 Read.val_main_v17 Read.val_main_v16 Read.val_main_v15 Read.val_main_v14 angles
  rw [ref_places, ref_freq]
theorem ref_cos : Read.val_main_v19 (F := Ideal) = cosTab := by
  unfold Read.val_main_v19 cosTab
  rw [ref_angles]
theorem ref_sin : Read.val_main_v20 (F := Ideal) = sinTab := by
  unfold Read.val_main_v20 sinTab
  rw [ref_angles]

/-- A row of a projection. -/
def prod {n : ℕ} (w : Fin 1024 → Fin n → EReal) (R : Fin 4224) (C : Fin n) : EReal := ∑ k : Fin 1024, h (ix2 R k) * w k C
/-- The three arrays: queries and keys turned, values. -/
def queries : Vec Ideal S4224x1024 .f32 := fun i => turned (prod h (fun k l => wq (ix2 k l)) (i 0)) (fun j => cosTab (ix2 (i 0) j)) (fun j => sinTab (ix2 (i 0) j)) (i 1)
def keys : Vec Ideal S4224x256 .f32 := fun i => turned (prod h (fun k l => wk (ix2 k l)) (i 0)) (fun j => cosTab (ix2 (i 0) j)) (fun j => sinTab (ix2 (i 0) j)) (i 1)
def vals : Vec Ideal S4224x256 .f32 := fun i => prod h (fun k l => wv (ix2 k l)) (i 0) (i 1)

theorem ref_q (R : Fin 4224) (C : Fin 1024) : Read.val_main_v21 (F := Ideal) h wq (ix2 R C) = prod h (fun k l => wq (ix2 k l)) R C := by
  pointwise [Read.val_main_v21]
  rfl
theorem ref_k (R : Fin 4224) (C : Fin 256) : Read.val_main_v38 (F := Ideal) h wk (ix2 R C) = prod h (fun k l => wk (ix2 k l)) R C := by
  pointwise [Read.val_main_v38]
  rfl
/-- The reference's three arrays. -/
theorem ref_vals : Read.val_main_v57 (F := Ideal) h wv = vals h wv := by
  funext i
  obtain ⟨R, C, rfl⟩ : ∃ (R : Fin 4224) (C : Fin 256), i = ix2 R C := ⟨_, _, eq_ix2 i⟩
  pointwise [Read.val_main_v57]
  rfl
set_option maxHeartbeats 2000000 in
theorem ref_queries : Read.val_main_v55 (F := Ideal) h wq = queries h wq := by
  funext i
  obtain ⟨R, C, rfl⟩ : ∃ (R : Fin 4224) (C : Fin 1024), i = ix2 R C := ⟨_, _, eq_ix2 i⟩
  show _ = turned (prod h (fun k l => wq (ix2 k l)) R) (fun j => cosTab (ix2 R j)) (fun j => sinTab (ix2 R j)) C
  rw [← ref_cos, ← ref_sin, ← show (fun C => Read.val_main_v21 (F := Ideal) h wq (ix2 R C)) = prod h (fun k l => wq (ix2 k l)) R from funext (ref_q h wq R)]
  unfold Read.val_main_v55 Read.val_main_v37 Read.val_main_v36 Read.val_main_v35 Read.val_main_v33 Read.val_main_v31 Read.val_main_v30 Read.val_main_v28 Read.val_main_v24 Read.val_main_v23 Read.val_main_v22
  generalize Read.val_main_v21 (F := Ideal) h wq = A
  pointwise [Read.val_main_v34, Read.val_main_v32, Read.val_main_v29, Read.val_main_v27, Read.val_main_v26, Read.val_main_v25]
  generalize Read.val_main_v19 (F := Ideal) = cT
  generalize Read.val_main_v20 (F := Ideal) = sT
  unfold turned
  have ee : ∀ (T : Vec Ideal S4224x32 .f32) (i j : Fin 1024) (p q : Fin 32), i = j → p = q → A (ix2 R i) * T (ix2 R p) = A (ix2 R j) * T (ix2 R q) := fun _ _ _ _ _ h h' => by rw [h, h']
  by_cases hC : C.val % 64 < 32
  · rw [dif_pos hC, if_pos hC, ext_lt _ _ (by omega)]
    exact congrArg₂ (· - ·) (ee cT _ _ _ _ (Fin.ext (by first | rfl | (dsimp only; omega))) (Fin.ext (by first | rfl | (dsimp only; omega)))) (ee sT _ _ _ _ (Fin.ext (by first | rfl | (dsimp only; omega))) (Fin.ext (by first | rfl | (dsimp only; omega))))
  · refine Eq.trans ?_ (if_neg hC).symm
    rw [dif_neg hC, ext_lt _ _ (by omega)]
    exact congrArg₂ (· + ·) (ee cT _ _ _ _ (Fin.ext (by first | rfl | (dsimp only; omega))) (Fin.ext (by first | rfl | (dsimp only; omega)))) (ee sT _ _ _ _ (Fin.ext (by first | rfl | (dsimp only; omega))) (Fin.ext (by first | rfl | (dsimp only; omega))))
set_option maxHeartbeats 2000000 in
theorem ref_keys : Read.val_main_v56 (F := Ideal) h wk = keys h wk := by
  funext i
  obtain ⟨R, C, rfl⟩ : ∃ (R : Fin 4224) (C : Fin 256), i = ix2 R C := ⟨_, _, eq_ix2 i⟩
  show _ = turned (prod h (fun k l => wk (ix2 k l)) R) (fun j => cosTab (ix2 R j)) (fun j => sinTab (ix2 R j)) C
  rw [← ref_cos, ← ref_sin, ← show (fun C => Read.val_main_v38 (F := Ideal) h wk (ix2 R C)) = prod h (fun k l => wk (ix2 k l)) R from funext (ref_k h wk R)]
  unfold Read.val_main_v56 Read.val_main_v54 Read.val_main_v53 Read.val_main_v52 Read.val_main_v50 Read.val_main_v48 Read.val_main_v47 Read.val_main_v45 Read.val_main_v41 Read.val_main_v40 Read.val_main_v39
  generalize Read.val_main_v38 (F := Ideal) h wk = A
  pointwise [Read.val_main_v51, Read.val_main_v49, Read.val_main_v46, Read.val_main_v44, Read.val_main_v43, Read.val_main_v42]
  generalize Read.val_main_v19 (F := Ideal) = cT
  generalize Read.val_main_v20 (F := Ideal) = sT
  unfold turned
  have ee : ∀ (T : Vec Ideal S4224x32 .f32) (i j : Fin 256) (p q : Fin 32), i = j → p = q → A (ix2 R i) * T (ix2 R p) = A (ix2 R j) * T (ix2 R q) := fun _ _ _ _ _ h h' => by rw [h, h']
  by_cases hC : C.val % 64 < 32
  · rw [dif_pos hC, if_pos hC, ext_lt _ _ (by omega)]
    exact congrArg₂ (· - ·) (ee cT _ _ _ _ (Fin.ext (by first | rfl | (dsimp only; omega))) (Fin.ext (by first | rfl | (dsimp only; omega)))) (ee sT _ _ _ _ (Fin.ext (by first | rfl | (dsimp only; omega))) (Fin.ext (by first | rfl | (dsimp only; omega))))
  · refine Eq.trans ?_ (if_neg hC).symm
    rw [dif_neg hC, ext_lt _ _ (by omega)]
    exact congrArg₂ (· + ·) (ee cT _ _ _ _ (Fin.ext (by first | rfl | (dsimp only; omega))) (Fin.ext (by first | rfl | (dsimp only; omega)))) (ee sT _ _ _ _ (Fin.ext (by first | rfl | (dsimp only; omega))) (Fin.ext (by first | rfl | (dsimp only; omega))))
end

end Cert.Proof.Prj
end
-- ==== Proof.PrjArrays.lean ====
module

public import proofs.«01_k».proof.Proof.PrjTile

@[expose] public section
set_option maxRecDepth 16384
noncomputable section
namespace Cert.Proof.Prj
open Cert.Proof.Qkv (col places angles cosTab sinTab four four_at freq)
open Cert.PrjIdeal Cert.PrjIdeal.Gen Idealize.ShloMosaic Idealize.ShloMosaic.TcCoe Idealize.SL.Sem Pipeline

/-! The three arrays that the forward call of the projections leaves. -/

variable (m : (ℓ : Loc nD τ sig) → Buf (Elt Ideal) ℓ) (c : Dev nD)

/-- The arguments of device `c`. -/
abbrev argH : Vec Ideal S4224x1024 .f32 := m ((c : Thread nD τ).loc main_arg0)
abbrev argQ : Vec Ideal S1024x1024 .f32 := m ((c : Thread nD τ).loc main_arg1)
abbrev argK : Vec Ideal S1024x256 .f32 := m ((c : Thread nD τ).loc main_arg2)
abbrev argV : Vec Ideal S1024x256 .f32 := m ((c : Thread nD τ).loc main_arg3)

/-! What the host leaves for the call. -/

theorem V_cos : (V m c main_v24 : Vec Ideal S4224x128 .f32) = four cosTab := by
  show StableHlo.after hostOps0 (fun b => m (c, b)) (Proc.devRef .tc main_v24) = _
  simp only [hostOps0]
  after_results_simp
  unfold four cosTab angles places
  rw [freq]
  rfl
theorem V_sin : (V m c main_v28 : Vec Ideal S4224x128 .f32) = four sinTab := by
  show StableHlo.after hostOps0 (fun b => m (c, b)) (Proc.devRef .tc main_v28) = _
  simp only [hostOps0]
  after_results_simp
  unfold four sinTab angles places
  rw [freq]
  rfl
theorem V_wq : (V m c main_v29 : Vec Ideal S1024x1024 .bf16) = truncf (F := Ideal) .bf16 (argQ m c) bitsLt_bf16_f32 := by
  show StableHlo.after hostOps0 (fun b => m (c, b)) (Proc.devRef .tc main_v29) = _
  simp only [hostOps0]
  after_results_simp
theorem V_wk : (V m c main_v30 : Vec Ideal S1024x256 .bf16) = truncf (F := Ideal) .bf16 (argK m c) bitsLt_bf16_f32 := by
  show StableHlo.after hostOps0 (fun b => m (c, b)) (Proc.devRef .tc main_v30) = _
  simp only [hostOps0]
  after_results_simp
theorem V_wv : (V m c main_v31 : Vec Ideal S1024x256 .bf16) = truncf (F := Ideal) .bf16 (argV m c) bitsLt_bf16_f32 := by
  show StableHlo.after hostOps0 (fun b => m (c, b)) (Proc.devRef .tc main_v31) = _
  simp only [hostOps0]
  after_results_simp

theorem idxW0 : ∀ t : Fin cfg0.N, win0_0.index t = ![t.val, 0] := (by decide +kernel : ∀ t : Fin grid0.N, _)
theorem idxW1 : ∀ t : Fin cfg0.N, win0_1.index t = ![t.val, 0] := (by decide +kernel : ∀ t : Fin grid0.N, _)
theorem idxW2 : ∀ t : Fin cfg0.N, win0_2.index t = ![t.val, 0] := (by decide +kernel : ∀ t : Fin grid0.N, _)
theorem idxW3 : ∀ t : Fin cfg0.N, win0_3.index t = ![0, 0] := (by decide +kernel : ∀ t : Fin grid0.N, _)
theorem idxW4 : ∀ t : Fin cfg0.N, win0_4.index t = ![0, 0] := (by decide +kernel : ∀ t : Fin grid0.N, _)
theorem idxW5 : ∀ t : Fin cfg0.N, win0_5.index t = ![0, 0] := (by decide +kernel : ∀ t : Fin grid0.N, _)
theorem idxW6 : ∀ t : Fin cfg0.N, win0_6.index t = ![t.val, 0] := (by decide +kernel : ∀ t : Fin grid0.N, _)
theorem idxW7 : ∀ t : Fin cfg0.N, win0_7.index t = ![t.val, 0] := (by decide +kernel : ∀ t : Fin grid0.N, _)
theorem idxW8 : ∀ t : Fin cfg0.N, win0_8.index t = ![t.val, 0] := (by decide +kernel : ∀ t : Fin grid0.N, _)

variable (t : Fin cfg0.N)
theorem tile_lt : t.val < 11 := t.isLt.trans_eq N_0
/-- Row `r` of tile `t`. -/
abbrev rowIx (t : Fin cfg0.N) (r : Fin 384) : Fin 4224 := ⟨384 * t.val + r.val, by have := tile_lt t; omega⟩

theorem read_h (r : Fin 384) (k : Fin 1024) : iblk m c 0 t (ix2 r k) = argH m c (ix2 (rowIx t r) k) := by
  rw [show argH m c = V m c main_arg0 from (V_main_arg0 m c).symm]
  unfold iblk
  show V m c main_arg0 _ = _
  generalize V m c main_arg0 = A
  blk_ext [idxW0 t]
theorem read_cos (r : Fin 384) (l : Fin 128) : iblk m c 1 t (ix2 r l) = cosTab (ix2 (rowIx t r) (col l.val)) := by
  rw [← four_at cosTab (rowIx t r) l, ← V_cos m c]
  unfold iblk
  show V m c main_v24 _ = _
  generalize V m c main_v24 = A
  blk_ext [idxW1 t]
theorem read_sin (r : Fin 384) (l : Fin 128) : iblk m c 2 t (ix2 r l) = sinTab (ix2 (rowIx t r) (col l.val)) := by
  rw [← four_at sinTab (rowIx t r) l, ← V_sin m c]
  unfold iblk
  show V m c main_v28 _ = _
  generalize V m c main_v28 = A
  blk_ext [idxW2 t]
theorem read_wq (k : Fin 1024) (l : Fin 1024) : iblk m c 3 t (ix2 k l) = argQ m c (ix2 k l) := by
  have e : (V m c main_v29 : Vec Ideal S1024x1024 .bf16) (ix2 k l) = argQ m c (ix2 k l) := by rw [V_wq]; rfl
  rw [← e]
  unfold iblk
  show V m c main_v29 _ = _
  generalize V m c main_v29 = A
  blk_ext [idxW3 t]
theorem read_wk (k : Fin 1024) (l : Fin 256) : iblk m c 4 t (ix2 k l) = argK m c (ix2 k l) := by
  have e : (V m c main_v30 : Vec Ideal S1024x256 .bf16) (ix2 k l) = argK m c (ix2 k l) := by rw [V_wk]; rfl
  rw [← e]
  unfold iblk
  show V m c main_v30 _ = _
  generalize V m c main_v30 = A
  blk_ext [idxW4 t]
theorem read_wv (k : Fin 1024) (l : Fin 256) : iblk m c 5 t (ix2 k l) = argV m c (ix2 k l) := by
  have e : (V m c main_v31 : Vec Ideal S1024x256 .bf16) (ix2 k l) = argV m c (ix2 k l) := by rw [V_wv]; rfl
  rw [← e]
  unfold iblk
  show V m c main_v31 _ = _
  generalize V m c main_v31 = A
  blk_ext [idxW5 t]

/-- A tile's products are those of its rows. -/
theorem row_q (r : Fin 384) (l : Fin 1024) : k0_pay3 (iblk m c 0 t) (iblk m c 3 t) (ix2 r l) = prod (argH m c) (fun k l => argQ m c (ix2 k l)) (rowIx t r) l :=
  (prodQ r (iblk m c 0 t) (iblk m c 3 t) l).trans (Finset.sum_congr rfl fun k _ => by rw [read_h, read_wq])
theorem row_k (r : Fin 384) (l : Fin 256) : k0_pay4 (iblk m c 0 t) (iblk m c 4 t) (ix2 r l) = prod (argH m c) (fun k l => argK m c (ix2 k l)) (rowIx t r) l :=
  (prodK r (iblk m c 0 t) (iblk m c 4 t) l).trans (Finset.sum_congr rfl fun k _ => by rw [read_h, read_wk])
theorem row_v (r : Fin 384) (l : Fin 256) : k0_pay5 (iblk m c 0 t) (iblk m c 5 t) (ix2 r l) = prod (argH m c) (fun k l => argV m c (ix2 k l)) (rowIx t r) l :=
  (prodV r (iblk m c 0 t) (iblk m c 5 t) l).trans (Finset.sum_congr rfl fun k _ => by rw [read_h, read_wv])

theorem out_queries (r : Fin 384) (l : Fin 1024) : (out0_6 (iblk m c 0 t) (iblk m c 1 t) (iblk m c 2 t) (iblk m c 3 t) (iblk m c 4 t) (iblk m c 5 t) : Vec Ideal S384x1024 .f32) (ix2 r l) = queries (argH m c) (argQ m c) (ix2 (rowIx t r) l) := by
  have e : (out0_6 (iblk m c 0 t) (iblk m c 1 t) (iblk m c 2 t) (iblk m c 3 t) (iblk m c 4 t) (iblk m c 5 t) : Vec Ideal S384x1024 .f32) = k0_pay13 (k0_pay3 (iblk m c 0 t) (iblk m c 3 t)) (k0_pay6 (iblk m c 2 t)) (k0_pay9 (iblk m c 0 t) (iblk m c 1 t) (iblk m c 3 t)) k0_pay10 k0_pay11 k0_pay12 := by
    unfold out0_6; frame_out
  rw [e, turnQ r (iblk m c 0 t) (iblk m c 3 t) (fun j => cosTab (ix2 (rowIx t r) j)) (fun j => sinTab (ix2 (rowIx t r) j)) (iblk m c 1 t) (iblk m c 2 t) (read_cos m c t r) (read_sin m c t r),
    show (fun l => k0_pay3 (iblk m c 0 t) (iblk m c 3 t) (ix2 r l)) = prod (argH m c) (fun k l => argQ m c (ix2 k l)) (rowIx t r) from funext (row_q m c t r)]
  rfl
theorem out_keys (r : Fin 384) (l : Fin 256) : (out0_7 (iblk m c 0 t) (iblk m c 1 t) (iblk m c 2 t) (iblk m c 3 t) (iblk m c 4 t) (iblk m c 5 t) : Vec Ideal S384x256 .f32) (ix2 r l) = keys (argH m c) (argK m c) (ix2 (rowIx t r) l) := by
  have e : (out0_7 (iblk m c 0 t) (iblk m c 1 t) (iblk m c 2 t) (iblk m c 3 t) (iblk m c 4 t) (iblk m c 5 t) : Vec Ideal S384x256 .f32) = k0_pay14 (k0_pay4 (iblk m c 0 t) (iblk m c 4 t)) (k0_pay7 (iblk m c 1 t)) (k0_pay8 (iblk m c 2 t)) := by
    unfold out0_7; frame_out
  rw [e, turnK r (iblk m c 0 t) (iblk m c 4 t) (fun j => cosTab (ix2 (rowIx t r) j)) (fun j => sinTab (ix2 (rowIx t r) j)) (iblk m c 1 t) (iblk m c 2 t) (read_cos m c t r) (read_sin m c t r),
    show (fun l => k0_pay4 (iblk m c 0 t) (iblk m c 4 t) (ix2 r l)) = prod (argH m c) (fun k l => argK m c (ix2 k l)) (rowIx t r) from funext (row_k m c t r)]
  rfl
theorem out_vals (r : Fin 384) (l : Fin 256) : (out0_8 (iblk m c 0 t) (iblk m c 1 t) (iblk m c 2 t) (iblk m c 3 t) (iblk m c 4 t) (iblk m c 5 t) : Vec Ideal S384x256 .f32) (ix2 r l) = vals (argH m c) (argV m c) (ix2 (rowIx t r) l) := by
  have e : (out0_8 (iblk m c 0 t) (iblk m c 1 t) (iblk m c 2 t) (iblk m c 3 t) (iblk m c 4 t) (iblk m c 5 t) : Vec Ideal S384x256 .f32) = k0_pay5 (iblk m c 0 t) (iblk m c 5 t) := by
    unfold out0_8; frame_out
  rw [e]
  exact row_v m c t r l

/-! The arrays that the call leaves. -/

theorem final_queries : (dats m 0 c).arrAt 6 cfg0.N = queries (argH m c) (argQ m c) := by
  refine (dats m 0 c).arrAt_eq_of_covers 6 _ (by decide +kernel) fun t hf y => ?_
  blk_simp
  have key : (out0_6 (iblk m c 0 t) (iblk m c 1 t) (iblk m c 2 t) (iblk m c 3 t) (iblk m c 4 t) (iblk m c 5 t) : Vec Ideal S384x1024 .f32) y = queries (argH m c) (argQ m c) (((View.whole main_v32_0).slice (win0_6.rect t)).emb y) := by
    obtain ⟨r, l, rfl⟩ : ∃ (r : Fin 384) (l : Fin 1024), y = ix2 r l := ⟨_, _, eq_ix2 y⟩
    have ee : (((View.whole main_v32_0).slice (win0_6.rect t)).emb (ix2 r l)) = ix2 (rowIx t r) l := by blk_ext [idxW6 t]
    rw [out_queries, ee]
  rw [after0_6]
  exact key
theorem final_keys : (dats m 0 c).arrAt 7 cfg0.N = keys (argH m c) (argK m c) := by
  refine (dats m 0 c).arrAt_eq_of_covers 7 _ (by decide +kernel) fun t hf y => ?_
  blk_simp
  have key : (out0_7 (iblk m c 0 t) (iblk m c 1 t) (iblk m c 2 t) (iblk m c 3 t) (iblk m c 4 t) (iblk m c 5 t) : Vec Ideal S384x256 .f32) y = keys (argH m c) (argK m c) (((View.whole main_v32_1).slice (win0_7.rect t)).emb y) := by
    obtain ⟨r, l, rfl⟩ : ∃ (r : Fin 384) (l : Fin 256), y = ix2 r l := ⟨_, _, eq_ix2 y⟩
    have ee : (((View.whole main_v32_1).slice (win0_7.rect t)).emb (ix2 r l)) = ix2 (rowIx t r) l := by blk_ext [idxW7 t]
    rw [out_keys, ee]
  rw [after0_7]
  exact key
theorem final_vals : (dats m 0 c).arrAt 8 cfg0.N = vals (argH m c) (argV m c) := by
  refine (dats m 0 c).arrAt_eq_of_covers 8 _ (by decide +kernel) fun t hf y => ?_
  blk_simp
  have key : (out0_8 (iblk m c 0 t) (iblk m c 1 t) (iblk m c 2 t) (iblk m c 3 t) (iblk m c 4 t) (iblk m c 5 t) : Vec Ideal S384x256 .f32) y = vals (argH m c) (argV m c) (((View.whole main_v32_2).slice (win0_8.rect t)).emb y) := by
    obtain ⟨r, l, rfl⟩ : ∃ (r : Fin 384) (l : Fin 256), y = ix2 r l := ⟨_, _, eq_ix2 y⟩
    have ee : (((View.whole main_v32_2).slice (win0_8.rect t)).emb (ix2 r l)) = ix2 (rowIx t r) l := by blk_ext [idxW8 t]
    rw [out_vals, ee]
  rw [after0_8]
  exact key

end Cert.Proof.Prj
end
-- ==== Proof.PrjClaims.lean ====
module

public import proofs.«01_k».proof.Defs
public import proofs.«01_k».proof.Proof.PrjArrays
public import proofs.«01_k».proof.Proof.Gen.Prj.Frame
public import proofs.«01_k».proof.Proof.Gen.PrjRefIdeal.Run

@[expose] public section

set_option maxRecDepth 16384

noncomputable section

namespace Cert.Proof.Prj

open Idealize.ShloMosaic Idealize.SL.Sem

/-- The call ends without fault, its argument arrays and its counters as they were. -/
theorem frame_kernel : Cert.quiescent_Prj := fun m ρ _ => Cert.Prj.Gen.frame m ρ

theorem frame_ideal : Cert.quiescent_PrjIdeal := fun m ρ _ => Cert.PrjIdeal.Gen.frame m ρ

/-- The reference ends without fault, its argument arrays and its counters as they were. -/
theorem frame_reference : Cert.quiescent_PrjRefIdeal := fun m ρ _ =>
  (θ_run _ _ _).mono (fun r h => ⟨fun c => (h c).2.2.2, sem_eq_zero_of_no_sems (by decide) r.2⟩) (Cert.PrjRefIdeal.Value.run m ρ)

/-- Call and reference leave the same queries, the same keys and the same values. -/
theorem values : Cert.algebraic_PrjIdeal_PrjRefIdeal := fun m ρ m' ρ' _ hag =>
  ⟨fun c => queries (argH m c) (argQ m c), fun c => keys (argH m c) (argK m c), fun c => vals (argH m c) (argV m c),
    (θ_run _ _ _).mono (fun _ h c => ⟨(h c).1.trans (final_queries m c), (h c).2.1.trans (final_keys m c), (h c).2.2.1.trans (final_vals m c), (h c).2.2.2⟩)
      (Cert.PrjIdeal.Value.run_blocks m ρ),
    (θ_run _ _ _).mono (fun _ h c => by
      obtain ⟨e0, e1, e2, e3⟩ := hag c
      obtain ⟨h0, h1, h2, kept⟩ := h c
      refine ⟨h0.trans ((Cert.PrjRefIdeal.Read.val_main_v55_eq _ _).trans (Eq.trans ?_ (ref_queries (argH m c) (argQ m c)))),
        h1.trans ((Cert.PrjRefIdeal.Read.val_main_v56_eq _ _).trans (Eq.trans ?_ (ref_keys (argH m c) (argK m c)))),
        h2.trans ((Cert.PrjRefIdeal.Read.val_main_v57_eq _ _).trans (Eq.trans ?_ (ref_vals (argH m c) (argV m c)))), kept⟩
      · exact congr (congrArg (Cert.PrjRefIdeal.Read.val_main_v55 (F := Ideal)) e0) e1
      · exact congr (congrArg (Cert.PrjRefIdeal.Read.val_main_v56 (F := Ideal)) e0) e2
      · exact congr (congrArg (Cert.PrjRefIdeal.Read.val_main_v57 (F := Ideal)) e0) e3) (Cert.PrjRefIdeal.Value.run m' ρ')⟩

end Cert.Proof.Prj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossIdeal.Value
public import proofs.«01_k».proof.Proof.Gen.LossRefIdeal.Run
public import proofs.«01_k».proof.Proof.Gen.LossRefIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.LossClaims
public import proofs.«01_k».proof.Proof.SwaClaims
public import proofs.«01_k».proof.Proof.MlpClaims
public import proofs.«01_k».proof.Proof.NormClaims
public import proofs.«01_k».proof.Proof.OutClaims
public import proofs.«01_k».proof.Proof.QkvClaims
public import proofs.«01_k».proof.Proof.PostClaims
public import proofs.«01_k».proof.Proof.H0Claims
public import proofs.«01_k».proof.Proof.AoClaims
public import proofs.«01_k».proof.Proof.FwdClaims
public import proofs.«01_k».proof.Proof.MlfClaims
public import proofs.«01_k».proof.Proof.PrjClaims
public import proofs.«01_k».proof.Proof.Gen.Ao
public import proofs.«01_k».proof.Proof.Gen.Ao.Frame
public import proofs.«01_k».proof.Proof.Gen.AoIdeal
public import proofs.«01_k».proof.Proof.Gen.AoIdeal.Value
public import proofs.«01_k».proof.Proof.Gen.AoRefIdeal
public import proofs.«01_k».proof.Proof.Gen.AoRefIdeal.Read
public import proofs.«01_k».proof.Proof.Gen.Fwd
public import proofs.«01_k».proof.Proof.Gen.Fwd.Frame
public import proofs.«01_k».proof.Proof.Gen.FwdIdeal
public import proofs.«01_k».proof.Proof.Gen.FwdIdeal.Value
public import proofs.«01_k».proof.Proof.Gen.FwdRefIdeal
public import proofs.«01_k».proof.Proof.Gen.FwdRefIdeal.Read
public import proofs.«01_k».proof.Proof.Gen.Mlf
public import proofs.«01_k».proof.Proof.Gen.Mlf.Frame
public import proofs.«01_k».proof.Proof.Gen.MlfIdeal
public import proofs.«01_k».proof.Proof.Gen.MlfIdeal.Value
public import proofs.«01_k».proof.Proof.Gen.MlfRefIdeal
public import proofs.«01_k».proof.Proof.Gen.MlfRefIdeal.Read
public import proofs.«01_k».proof.Proof.Gen.Prj
public import proofs.«01_k».proof.Proof.Gen.Prj.Frame
public import proofs.«01_k».proof.Proof.Gen.PrjIdeal
public import proofs.«01_k».proof.Proof.Gen.PrjIdeal.Value
public import proofs.«01_k».proof.Proof.Gen.PrjRefIdeal
public import proofs.«01_k».proof.Proof.Gen.PrjRefIdeal.Read
public import Idealize.ShloMosaic.Adequacy
public import Idealize.ShloMosaic.Init
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.H0
public import proofs.«01_k».proof.Proof.Gen.H0.Skeleton
public import proofs.«01_k».proof.Proof.Gen.H0.Launch
public import proofs.«01_k».proof.Proof.Gen.H0.Points
public import proofs.«01_k».proof.Proof.Gen.H0.Frame
public import proofs.«01_k».proof.Proof.Gen.H0Ideal
public import proofs.«01_k».proof.Proof.Gen.H0Ideal.Skeleton
public import proofs.«01_k».proof.Proof.Gen.H0Ideal.Launch
public import proofs.«01_k».proof.Proof.Gen.H0Ideal.Points
public import proofs.«01_k».proof.Proof.Gen.H0Ideal.Frame
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.H0Ideal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.H0RefIdeal
public import proofs.«01_k».proof.Proof.Gen.H0RefIdeal.Run
public import proofs.«01_k».proof.Proof.Gen.H0RefIdeal.Read

@[expose] public section

noncomputable section

namespace Cert.Proof

open Idealize.ShloMosaic Idealize.SL.Sem Cert.Loss

theorem claim : Cert.Claim :=
  ⟨Cert.Kernel.Gen.facts, Cert.KernelIdeal.Gen.facts, Cert.ReferenceIdeal.Gen.facts, Cert.Loss.Gen.facts, Cert.LossIdeal.Gen.facts, Cert.LossRefIdeal.Gen.facts,
    Cert.Mlp.Gen.facts, Cert.MlpIdeal.Gen.facts, Cert.MlpRefIdeal.Gen.facts, Cert.Norm.Gen.facts, Cert.NormIdeal.Gen.facts, Cert.NormRefIdeal.Gen.facts, Cert.Out.Gen.facts, Cert.OutIdeal.Gen.facts, Cert.OutRefIdeal.Gen.facts, Cert.Qkv.Gen.facts, Cert.QkvIdeal.Gen.facts, Cert.QkvRefIdeal.Gen.facts,
    Cert.Post.Gen.facts, Cert.PostIdeal.Gen.facts, Cert.PostRefIdeal.Gen.facts, Cert.H0.Gen.facts, Cert.H0Ideal.Gen.facts, Cert.H0RefIdeal.Gen.facts,
    Cert.Ao.Gen.facts, Cert.AoIdeal.Gen.facts, Cert.AoRefIdeal.Gen.facts, Cert.Fwd.Gen.facts, Cert.FwdIdeal.Gen.facts, Cert.FwdRefIdeal.Gen.facts, Cert.Mlf.Gen.facts, Cert.MlfIdeal.Gen.facts, Cert.MlfRefIdeal.Gen.facts, Cert.Prj.Gen.facts, Cert.PrjIdeal.Gen.facts, Cert.PrjRefIdeal.Gen.facts,
    Cert.Scan.Gen.facts, Swa.pre_facts, Post.pre_facts, Fwd.pre_facts,
    Swa.frame_kernel, Swa.frame_ideal, Swa.frame_ideal_pre, Swa.frame_reference, Swa.frame_reference_pre, Loss.frame_kernel, Loss.frame_ideal, Loss.frame_reference,
    Mlp.frame_kernel, Mlp.frame_ideal, Mlp.frame_reference, Norm.frame_kernel, Norm.frame_ideal, Norm.frame_reference, Out.frame_kernel, Out.frame_ideal, Out.frame_reference, Qkv.frame_kernel, Qkv.frame_ideal, Qkv.frame_reference,
    Post.frame_kernel, Post.frame_ideal, Post.frame_ideal_pre, Post.frame_reference, Post.frame_reference_pre, H0.frame_kernel, H0.frame_ideal, H0.frame_reference,
    Ao.frame_kernel, Ao.frame_ideal, Ao.frame_reference, Fwd.frame_kernel, Fwd.frame_ideal, Fwd.frame_ideal_pre, Fwd.frame_reference, Fwd.frame_reference_pre, Mlf.frame_kernel, Mlf.frame_ideal, Mlf.frame_reference,
    Prj.frame_kernel, Prj.frame_ideal, Prj.frame_reference, fun m ρ _ => Cert.Scan.Gen.frame m ρ,
    trivial, Swa.values, trivial, Loss.values, trivial, Mlp.values, trivial, Norm.values, trivial, Out.values, trivial, Qkv.values,
    trivial, Post.values, trivial, H0.values, trivial, Ao.values, trivial, Fwd.values, trivial, Mlf.values, trivial, Prj.values⟩

end Cert.Proof

end
